-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Attnf (m : (ℓ : Loc Cert.Attnf.nD Cert.Attnf.τ Cert.Attnf.sig) → Buf (Elt Bits) ℓ) : Prop :=
  True

def Pre_AttnfIdeal (m : (ℓ : Loc Cert.AttnfIdeal.nD Cert.AttnfIdeal.τ Cert.AttnfIdeal.sig) → Buf (Elt Ideal) ℓ) : Prop :=
  True

def Pre_AttnfIdeal_attnf_finite [hPre_attnf_finite : Cert.Pre_attnf_finite.Facts] (m : (ℓ : Loc Cert.AttnfIdeal.nD Cert.AttnfIdeal.τ Cert.AttnfIdeal.sig) → Buf (Elt Ideal) ℓ) : Prop :=
  ∀ c : Dev Cert.AttnfIdeal.nD,
    (Cert.Pre_attnf_finite.fn (F := Ideal) (m ((c.tc : Thread Cert.AttnfIdeal.nD Cert.AttnfIdeal.τ).loc Cert.AttnfIdeal.main_arg0)) (m ((c.tc : Thread Cert.AttnfIdeal.nD Cert.AttnfIdeal.τ).loc Cert.AttnfIdeal.main_arg1))) = (fun _ => 1#1)

def Pre_AttnfRefIdeal (m : (ℓ : Loc Cert.AttnfRefIdeal.nD Cert.AttnfRefIdeal.τ Cert.AttnfRefIdeal.sig) → Buf (Elt Ideal) ℓ) : Prop :=
  True

def Pre_AttnfRefIdeal_attnf_finite [hPre_attnf_finite : Cert.Pre_attnf_finite.Facts] (m : (ℓ : Loc Cert.AttnfRefIdeal.nD Cert.AttnfRefIdeal.τ Cert.AttnfRefIdeal.sig) → Buf (Elt Ideal) ℓ) : Prop :=
  ∀ c : Dev Cert.AttnfRefIdeal.nD,
    (Cert.Pre_attnf_finite.fn (F := Ideal) (m ((c.tc : Thread Cert.AttnfRefIdeal.nD Cert.AttnfRefIdeal.τ).loc Cert.AttnfRefIdeal.main_arg0)) (m ((c.tc : Thread Cert.AttnfRefIdeal.nD Cert.AttnfRefIdeal.τ).loc Cert.AttnfRefIdeal.main_arg1))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Mixo (m : (ℓ : Loc Cert.Mixo.nD Cert.Mixo.τ Cert.Mixo.sig) → Buf (Elt Bits) ℓ) : Prop :=
  True

def Pre_MixoIdeal (m : (ℓ : Loc Cert.MixoIdeal.nD Cert.MixoIdeal.τ Cert.MixoIdeal.sig) → Buf (Elt Ideal) ℓ) : Prop :=
  True

def Pre_MixoRefIdeal (m : (ℓ : Loc Cert.MixoRefIdeal.nD Cert.MixoRefIdeal.τ Cert.MixoRefIdeal.sig) → Buf (Elt Ideal) ℓ) : Prop :=
  True

def Pre_Mixb (m : (ℓ : Loc Cert.Mixb.nD Cert.Mixb.τ Cert.Mixb.sig) → Buf (Elt Bits) ℓ) : Prop :=
  True

def Pre_MixbIdeal (m : (ℓ : Loc Cert.MixbIdeal.nD Cert.MixbIdeal.τ Cert.MixbIdeal.sig) → Buf (Elt Ideal) ℓ) : Prop :=
  True

def Pre_MixbRefIdeal (m : (ℓ : Loc Cert.MixbRefIdeal.nD Cert.MixbRefIdeal.τ Cert.MixbRefIdeal.sig) → Buf (Elt Ideal) ℓ) : Prop :=
  True

def Pre_Wcat (m : (ℓ : Loc Cert.Wcat.nD Cert.Wcat.τ Cert.Wcat.sig) → Buf (Elt Bits) ℓ) : Prop :=
  True

def Pre_WcatIdeal (m : (ℓ : Loc Cert.WcatIdeal.nD Cert.WcatIdeal.τ Cert.WcatIdeal.sig) → Buf (Elt Ideal) ℓ) : Prop :=
  True

def Pre_WcatRefIdeal (m : (ℓ : Loc Cert.WcatRefIdeal.nD Cert.WcatRefIdeal.τ Cert.WcatRefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Wtok (m : (ℓ : Loc Cert.Wtok.nD Cert.Wtok.τ Cert.Wtok.sig) → Buf (Elt Bits) ℓ) : Prop :=
  True

def Pre_WtokIdeal (m : (ℓ : Loc Cert.WtokIdeal.nD Cert.WtokIdeal.τ Cert.WtokIdeal.sig) → Buf (Elt Ideal) ℓ) : Prop :=
  True

def Pre_WtokRefIdeal (m : (ℓ : Loc Cert.WtokRefIdeal.nD Cert.WtokRefIdeal.τ Cert.WtokRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Attnf [hAttnf : Cert.Attnf.Facts] : Prop :=
  ∀ (m : (ℓ : Loc Cert.Attnf.nD Cert.Attnf.τ Cert.Attnf.sig) → Buf (Elt Bits) ℓ) (g : Dev Cert.Attnf.nD → PrngReg), Pre_Attnf m →
    θ_run (Cert.Attnf.defs (F := Bits)) (onTc (τ := Cert.Attnf.τ) (Cert.Attnf.main (F := Bits))) ⟨m, fun _ => 0, g⟩ (fun r => (∀ c : Dev Cert.Attnf.nD,
      r.2.mem ((c.tc : Thread Cert.Attnf.nD Cert.Attnf.τ).loc Cert.Attnf.main_arg0) = m ((c.tc : Thread Cert.Attnf.nD Cert.Attnf.τ).loc Cert.Attnf.main_arg0)
      ∧ r.2.mem ((c.tc : Thread Cert.Attnf.nD Cert.Attnf.τ).loc Cert.Attnf.main_arg1) = m ((c.tc : Thread Cert.Attnf.nD Cert.Attnf.τ).loc Cert.Attnf.main_arg1))
      ∧ r.2.sem = fun _ => 0)

def quiescent_AttnfIdeal [hAttnfIdeal : Cert.AttnfIdeal.Facts] : Prop :=
  ∀ (m : (ℓ : Loc Cert.AttnfIdeal.nD Cert.AttnfIdeal.τ Cert.AttnfIdeal.sig) → Buf (Elt Ideal) ℓ) (g : Dev Cert.AttnfIdeal.nD → PrngReg), Pre_AttnfIdeal m →
    θ_run (Cert.AttnfIdeal.defs (F := Ideal)) (onTc (τ := Cert.AttnfIdeal.τ) (Cert.AttnfIdeal.main (F := Ideal))) ⟨m, fun _ => 0, g⟩ (fun r => (∀ c : Dev Cert.AttnfIdeal.nD,
      r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
      ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1))
      ∧ r.2.sem = fun _ => 0)

def quiescent_AttnfIdeal_pre_attnf_finite [hAttnfIdeal : Cert.AttnfIdeal.Facts] [hPre_attnf_finite : Cert.Pre_attnf_finite.Facts] : Prop :=
  ∀ (m : (ℓ : Loc Cert.AttnfIdeal.nD Cert.AttnfIdeal.τ Cert.AttnfIdeal.sig) → Buf (Elt Ideal) ℓ) (g : Dev Cert.AttnfIdeal.nD → PrngReg), Pre_AttnfIdeal_attnf_finite m →
    θ_run (Cert.AttnfIdeal.defs (F := Ideal)) (onTc (τ := Cert.AttnfIdeal.τ) (Cert.AttnfIdeal.main (F := Ideal))) ⟨m, fun _ => 0, g⟩ (fun r => (∀ c : Dev Cert.AttnfIdeal.nD,
      r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
      ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1))
      ∧ r.2.sem = fun _ => 0)

def quiescent_AttnfRefIdeal [hAttnfRefIdeal : Cert.AttnfRefIdeal.Facts] : Prop :=
  ∀ (m : (ℓ : Loc Cert.AttnfRefIdeal.nD Cert.AttnfRefIdeal.τ Cert.AttnfRefIdeal.sig) → Buf (Elt Ideal) ℓ) (g : Dev Cert.AttnfRefIdeal.nD → PrngReg), Pre_AttnfRefIdeal m →
    θ_run (Cert.AttnfRefIdeal.defs (F := Ideal)) (onTc (τ := Cert.AttnfRefIdeal.τ) (Cert.AttnfRefIdeal.main (F := Ideal))) ⟨m, fun _ => 0, g⟩ (fun r => (∀ c : Dev Cert.AttnfRefIdeal.nD,
      r.2.mem ((c.tc : Thread Cert.AttnfRefIdeal.nD Cert.AttnfRefIdeal.τ).loc Cert.AttnfRefIdeal.main_arg0) = m ((c.tc : Thread Cert.AttnfRefIdeal.nD Cert.AttnfRefIdeal.τ).loc Cert.AttnfRefIdeal.main_arg0)
      ∧ r.2.mem ((c.tc : Thread Cert.AttnfRefIdeal.nD Cert.AttnfRefIdeal.τ).loc Cert.AttnfRefIdeal.main_arg1) = m ((c.tc : Thread Cert.AttnfRefIdeal.nD Cert.AttnfRefIdeal.τ).loc Cert.AttnfRefIdeal.main_arg1))
      ∧ r.2.sem = fun _ => 0)

def quiescent_AttnfRefIdeal_pre_attnf_finite [hAttnfRefIdeal : Cert.AttnfRefIdeal.Facts] [hPre_attnf_finite : Cert.Pre_attnf_finite.Facts] : Prop :=
  ∀ (m : (ℓ : Loc Cert.AttnfRefIdeal.nD Cert.AttnfRefIdeal.τ Cert.AttnfRefIdeal.sig) → Buf (Elt Ideal) ℓ) (g : Dev Cert.AttnfRefIdeal.nD → PrngReg), Pre_AttnfRefIdeal_attnf_finite m →
    θ_run (Cert.AttnfRefIdeal.defs (F := Ideal)) (onTc (τ := Cert.AttnfRefIdeal.τ) (Cert.AttnfRefIdeal.main (F := Ideal))) ⟨m, fun _ => 0, g⟩ (fun r => (∀ c : Dev Cert.AttnfRefIdeal.nD,
      r.2.mem ((c.tc : Thread Cert.AttnfRefIdeal.nD Cert.AttnfRefIdeal.τ).loc Cert.AttnfRefIdeal.main_arg0) = m ((c.tc : Thread Cert.AttnfRefIdeal.nD Cert.AttnfRefIdeal.τ).loc Cert.AttnfRefIdeal.main_arg0)
      ∧ r.2.mem ((c.tc : Thread Cert.AttnfRefIdeal.nD Cert.AttnfRefIdeal.τ).loc Cert.AttnfRefIdeal.main_arg1) = m ((c.tc : Thread Cert.AttnfRefIdeal.nD Cert.AttnfRefIdeal.τ).loc Cert.AttnfRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Mixo [hMixo : Cert.Mixo.Facts] : Prop :=
  ∀ (m : (ℓ : Loc Cert.Mixo.nD Cert.Mixo.τ Cert.Mixo.sig) → Buf (Elt Bits) ℓ) (g : Dev Cert.Mixo.nD → PrngReg), Pre_Mixo m →
    θ_run (Cert.Mixo.defs (F := Bits)) (onTc (τ := Cert.Mixo.τ) (Cert.Mixo.main (F := Bits))) ⟨m, fun _ => 0, g⟩ (fun r => (∀ c : Dev Cert.Mixo.nD,
      r.2.mem ((c.tc : Thread Cert.Mixo.nD Cert.Mixo.τ).loc Cert.Mixo.main_arg0) = m ((c.tc : Thread Cert.Mixo.nD Cert.Mixo.τ).loc Cert.Mixo.main_arg0)
      ∧ r.2.mem ((c.tc : Thread Cert.Mixo.nD Cert.Mixo.τ).loc Cert.Mixo.main_arg1) = m ((c.tc : Thread Cert.Mixo.nD Cert.Mixo.τ).loc Cert.Mixo.main_arg1)
      ∧ r.2.mem ((c.tc : Thread Cert.Mixo.nD Cert.Mixo.τ).loc Cert.Mixo.main_arg2) = m ((c.tc : Thread Cert.Mixo.nD Cert.Mixo.τ).loc Cert.Mixo.main_arg2)
      ∧ r.2.mem ((c.tc : Thread Cert.Mixo.nD Cert.Mixo.τ).loc Cert.Mixo.main_arg3) = m ((c.tc : Thread Cert.Mixo.nD Cert.Mixo.τ).loc Cert.Mixo.main_arg3))
      ∧ r.2.sem = fun _ => 0)

def quiescent_MixoIdeal [hMixoIdeal : Cert.MixoIdeal.Facts] : Prop :=
  ∀ (m : (ℓ : Loc Cert.MixoIdeal.nD Cert.MixoIdeal.τ Cert.MixoIdeal.sig) → Buf (Elt Ideal) ℓ) (g : Dev Cert.MixoIdeal.nD → PrngReg), Pre_MixoIdeal m →
    θ_run (Cert.MixoIdeal.defs (F := Ideal)) (onTc (τ := Cert.MixoIdeal.τ) (Cert.MixoIdeal.main (F := Ideal))) ⟨m, fun _ => 0, g⟩ (fun r => (∀ c : Dev Cert.MixoIdeal.nD,
      r.2.mem ((c.tc : Thread Cert.MixoIdeal.nD Cert.MixoIdeal.τ).loc Cert.MixoIdeal.main_arg0) = m ((c.tc : Thread Cert.MixoIdeal.nD Cert.MixoIdeal.τ).loc Cert.MixoIdeal.main_arg0)
      ∧ r.2.mem ((c.tc : Thread Cert.MixoIdeal.nD Cert.MixoIdeal.τ).loc Cert.MixoIdeal.main_arg1) = m ((c.tc : Thread Cert.MixoIdeal.nD Cert.MixoIdeal.τ).loc Cert.MixoIdeal.main_arg1)
      ∧ r.2.mem ((c.tc : Thread Cert.MixoIdeal.nD Cert.MixoIdeal.τ).loc Cert.MixoIdeal.main_arg2) = m ((c.tc : Thread Cert.MixoIdeal.nD Cert.MixoIdeal.τ).loc Cert.MixoIdeal.main_arg2)
      ∧ r.2.mem ((c.tc : Thread Cert.MixoIdeal.nD Cert.MixoIdeal.τ).loc Cert.MixoIdeal.main_arg3) = m ((c.tc : Thread Cert.MixoIdeal.nD Cert.MixoIdeal.τ).loc Cert.MixoIdeal.main_arg3))
      ∧ r.2.sem = fun _ => 0)

def quiescent_MixoRefIdeal [hMixoRefIdeal : Cert.MixoRefIdeal.Facts] : Prop :=
  ∀ (m : (ℓ : Loc Cert.MixoRefIdeal.nD Cert.MixoRefIdeal.τ Cert.MixoRefIdeal.sig) → Buf (Elt Ideal) ℓ) (g : Dev Cert.MixoRefIdeal.nD → PrngReg), Pre_MixoRefIdeal m →
    θ_run (Cert.MixoRefIdeal.defs (F := Ideal)) (onTc (τ := Cert.MixoRefIdeal.τ) (Cert.MixoRefIdeal.main (F := Ideal))) ⟨m, fun _ => 0, g⟩ (fun r => (∀ c : Dev Cert.MixoRefIdeal.nD,
      r.2.mem ((c.tc : Thread Cert.MixoRefIdeal.nD Cert.MixoRefIdeal.τ).loc Cert.MixoRefIdeal.main_arg0) = m ((c.tc : Thread Cert.MixoRefIdeal.nD Cert.MixoRefIdeal.τ).loc Cert.MixoRefIdeal.main_arg0)
      ∧ r.2.mem ((c.tc : Thread Cert.MixoRefIdeal.nD Cert.MixoRefIdeal.τ).loc Cert.MixoRefIdeal.main_arg1) = m ((c.tc : Thread Cert.MixoRefIdeal.nD Cert.MixoRefIdeal.τ).loc Cert.MixoRefIdeal.main_arg1)
      ∧ r.2.mem ((c.tc : Thread Cert.MixoRefIdeal.nD Cert.MixoRefIdeal.τ).loc Cert.MixoRefIdeal.main_arg2) = m ((c.tc : Thread Cert.MixoRefIdeal.nD Cert.MixoRefIdeal.τ).loc Cert.MixoRefIdeal.main_arg2)
      ∧ r.2.mem ((c.tc : Thread Cert.MixoRefIdeal.nD Cert.MixoRefIdeal.τ).loc Cert.MixoRefIdeal.main_arg3) = m ((c.tc : Thread Cert.MixoRefIdeal.nD Cert.MixoRefIdeal.τ).loc Cert.MixoRefIdeal.main_arg3))
      ∧ r.2.sem = fun _ => 0)

def quiescent_Mixb [hMixb : Cert.Mixb.Facts] : Prop :=
  ∀ (m : (ℓ : Loc Cert.Mixb.nD Cert.Mixb.τ Cert.Mixb.sig) → Buf (Elt Bits) ℓ) (g : Dev Cert.Mixb.nD → PrngReg), Pre_Mixb m →
    θ_run (Cert.Mixb.defs (F := Bits)) (onTc (τ := Cert.Mixb.τ) (Cert.Mixb.main (F := Bits))) ⟨m, fun _ => 0, g⟩ (fun r => (∀ c : Dev Cert.Mixb.nD,
      r.2.mem ((c.tc : Thread Cert.Mixb.nD Cert.Mixb.τ).loc Cert.Mixb.main_arg0) = m ((c.tc : Thread Cert.Mixb.nD Cert.Mixb.τ).loc Cert.Mixb.main_arg0)
      ∧ r.2.mem ((c.tc : Thread Cert.Mixb.nD Cert.Mixb.τ).loc Cert.Mixb.main_arg1) = m ((c.tc : Thread Cert.Mixb.nD Cert.Mixb.τ).loc Cert.Mixb.main_arg1))
      ∧ r.2.sem = fun _ => 0)

def quiescent_MixbIdeal [hMixbIdeal : Cert.MixbIdeal.Facts] : Prop :=
  ∀ (m : (ℓ : Loc Cert.MixbIdeal.nD Cert.MixbIdeal.τ Cert.MixbIdeal.sig) → Buf (Elt Ideal) ℓ) (g : Dev Cert.MixbIdeal.nD → PrngReg), Pre_MixbIdeal m →
    θ_run (Cert.MixbIdeal.defs (F := Ideal)) (onTc (τ := Cert.MixbIdeal.τ) (Cert.MixbIdeal.main (F := Ideal))) ⟨m, fun _ => 0, g⟩ (fun r => (∀ c : Dev Cert.MixbIdeal.nD,
      r.2.mem ((c.tc : Thread Cert.MixbIdeal.nD Cert.MixbIdeal.τ).loc Cert.MixbIdeal.main_arg0) = m ((c.tc : Thread Cert.MixbIdeal.nD Cert.MixbIdeal.τ).loc Cert.MixbIdeal.main_arg0)
      ∧ r.2.mem ((c.tc : Thread Cert.MixbIdeal.nD Cert.MixbIdeal.τ).loc Cert.MixbIdeal.main_arg1) = m ((c.tc : Thread Cert.MixbIdeal.nD Cert.MixbIdeal.τ).loc Cert.MixbIdeal.main_arg1))
      ∧ r.2.sem = fun _ => 0)

def quiescent_MixbRefIdeal [hMixbRefIdeal : Cert.MixbRefIdeal.Facts] : Prop :=
  ∀ (m : (ℓ : Loc Cert.MixbRefIdeal.nD Cert.MixbRefIdeal.τ Cert.MixbRefIdeal.sig) → Buf (Elt Ideal) ℓ) (g : Dev Cert.MixbRefIdeal.nD → PrngReg), Pre_MixbRefIdeal m →
    θ_run (Cert.MixbRefIdeal.defs (F := Ideal)) (onTc (τ := Cert.MixbRefIdeal.τ) (Cert.MixbRefIdeal.main (F := Ideal))) ⟨m, fun _ => 0, g⟩ (fun r => (∀ c : Dev Cert.MixbRefIdeal.nD,
      r.2.mem ((c.tc : Thread Cert.MixbRefIdeal.nD Cert.MixbRefIdeal.τ).loc Cert.MixbRefIdeal.main_arg0) = m ((c.tc : Thread Cert.MixbRefIdeal.nD Cert.MixbRefIdeal.τ).loc Cert.MixbRefIdeal.main_arg0)
      ∧ r.2.mem ((c.tc : Thread Cert.MixbRefIdeal.nD Cert.MixbRefIdeal.τ).loc Cert.MixbRefIdeal.main_arg1) = m ((c.tc : Thread Cert.MixbRefIdeal.nD Cert.MixbRefIdeal.τ).loc Cert.MixbRefIdeal.main_arg1))
      ∧ r.2.sem = fun _ => 0)

def quiescent_Wcat [hWcat : Cert.Wcat.Facts] : Prop :=
  ∀ (m : (ℓ : Loc Cert.Wcat.nD Cert.Wcat.τ Cert.Wcat.sig) → Buf (Elt Bits) ℓ) (g : Dev Cert.Wcat.nD → PrngReg), Pre_Wcat m →
    θ_run (Cert.Wcat.defs (F := Bits)) (onTc (τ := Cert.Wcat.τ) (Cert.Wcat.main (F := Bits))) ⟨m, fun _ => 0, g⟩ (fun r => (∀ c : Dev Cert.Wcat.nD,
      r.2.mem ((c.tc : Thread Cert.Wcat.nD Cert.Wcat.τ).loc Cert.Wcat.main_arg0) = m ((c.tc : Thread Cert.Wcat.nD Cert.Wcat.τ).loc Cert.Wcat.main_arg0)
      ∧ r.2.mem ((c.tc : Thread Cert.Wcat.nD Cert.Wcat.τ).loc Cert.Wcat.main_arg1) = m ((c.tc : Thread Cert.Wcat.nD Cert.Wcat.τ).loc Cert.Wcat.main_arg1)
      ∧ r.2.mem ((c.tc : Thread Cert.Wcat.nD Cert.Wcat.τ).loc Cert.Wcat.main_arg2) = m ((c.tc : Thread Cert.Wcat.nD Cert.Wcat.τ).loc Cert.Wcat.main_arg2))
      ∧ r.2.sem = fun _ => 0)

def quiescent_WcatIdeal [hWcatIdeal : Cert.WcatIdeal.Facts] : Prop :=
  ∀ (m : (ℓ : Loc Cert.WcatIdeal.nD Cert.WcatIdeal.τ Cert.WcatIdeal.sig) → Buf (Elt Ideal) ℓ) (g : Dev Cert.WcatIdeal.nD → PrngReg), Pre_WcatIdeal m →
    θ_run (Cert.WcatIdeal.defs (F := Ideal)) (onTc (τ := Cert.WcatIdeal.τ) (Cert.WcatIdeal.main (F := Ideal))) ⟨m, fun _ => 0, g⟩ (fun r => (∀ c : Dev Cert.WcatIdeal.nD,
      r.2.mem ((c.tc : Thread Cert.WcatIdeal.nD Cert.WcatIdeal.τ).loc Cert.WcatIdeal.main_arg0) = m ((c.tc : Thread Cert.WcatIdeal.nD Cert.WcatIdeal.τ).loc Cert.WcatIdeal.main_arg0)
      ∧ r.2.mem ((c.tc : Thread Cert.WcatIdeal.nD Cert.WcatIdeal.τ).loc Cert.WcatIdeal.main_arg1) = m ((c.tc : Thread Cert.WcatIdeal.nD Cert.WcatIdeal.τ).loc Cert.WcatIdeal.main_arg1)
      ∧ r.2.mem ((c.tc : Thread Cert.WcatIdeal.nD Cert.WcatIdeal.τ).loc Cert.WcatIdeal.main_arg2) = m ((c.tc : Thread Cert.WcatIdeal.nD Cert.WcatIdeal.τ).loc Cert.WcatIdeal.main_arg2))
      ∧ r.2.sem = fun _ => 0)

def quiescent_WcatRefIdeal [hWcatRefIdeal : Cert.WcatRefIdeal.Facts] : Prop :=
  ∀ (m : (ℓ : Loc Cert.WcatRefIdeal.nD Cert.WcatRefIdeal.τ Cert.WcatRefIdeal.sig) → Buf (Elt Ideal) ℓ) (g : Dev Cert.WcatRefIdeal.nD → PrngReg), Pre_WcatRefIdeal m →
    θ_run (Cert.WcatRefIdeal.defs (F := Ideal)) (onTc (τ := Cert.WcatRefIdeal.τ) (Cert.WcatRefIdeal.main (F := Ideal))) ⟨m, fun _ => 0, g⟩ (fun r => (∀ c : Dev Cert.WcatRefIdeal.nD,
      r.2.mem ((c.tc : Thread Cert.WcatRefIdeal.nD Cert.WcatRefIdeal.τ).loc Cert.WcatRefIdeal.main_arg0) = m ((c.tc : Thread Cert.WcatRefIdeal.nD Cert.WcatRefIdeal.τ).loc Cert.WcatRefIdeal.main_arg0)
      ∧ r.2.mem ((c.tc : Thread Cert.WcatRefIdeal.nD Cert.WcatRefIdeal.τ).loc Cert.WcatRefIdeal.main_arg1) = m ((c.tc : Thread Cert.WcatRefIdeal.nD Cert.WcatRefIdeal.τ).loc Cert.WcatRefIdeal.main_arg1)
      ∧ r.2.mem ((c.tc : Thread Cert.WcatRefIdeal.nD Cert.WcatRefIdeal.τ).loc Cert.WcatRefIdeal.main_arg2) = m ((c.tc : Thread Cert.WcatRefIdeal.nD Cert.WcatRefIdeal.τ).loc Cert.WcatRefIdeal.main_arg2))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Wtok [hWtok : Cert.Wtok.Facts] : Prop :=
  ∀ (m : (ℓ : Loc Cert.Wtok.nD Cert.Wtok.τ Cert.Wtok.sig) → Buf (Elt Bits) ℓ) (g : Dev Cert.Wtok.nD → PrngReg), Pre_Wtok m →
    θ_run (Cert.Wtok.defs (F := Bits)) (onTc (τ := Cert.Wtok.τ) (Cert.Wtok.main (F := Bits))) ⟨m, fun _ => 0, g⟩ (fun r => (∀ c : Dev Cert.Wtok.nD,
      r.2.mem ((c.tc : Thread Cert.Wtok.nD Cert.Wtok.τ).loc Cert.Wtok.main_arg0) = m ((c.tc : Thread Cert.Wtok.nD Cert.Wtok.τ).loc Cert.Wtok.main_arg0)
      ∧ r.2.mem ((c.tc : Thread Cert.Wtok.nD Cert.Wtok.τ).loc Cert.Wtok.main_arg1) = m ((c.tc : Thread Cert.Wtok.nD Cert.Wtok.τ).loc Cert.Wtok.main_arg1)
      ∧ r.2.mem ((c.tc : Thread Cert.Wtok.nD Cert.Wtok.τ).loc Cert.Wtok.main_arg2) = m ((c.tc : Thread Cert.Wtok.nD Cert.Wtok.τ).loc Cert.Wtok.main_arg2)
      ∧ r.2.mem ((c.tc : Thread Cert.Wtok.nD Cert.Wtok.τ).loc Cert.Wtok.main_arg3) = m ((c.tc : Thread Cert.Wtok.nD Cert.Wtok.τ).loc Cert.Wtok.main_arg3))
      ∧ r.2.sem = fun _ => 0)

def quiescent_WtokIdeal [hWtokIdeal : Cert.WtokIdeal.Facts] : Prop :=
  ∀ (m : (ℓ : Loc Cert.WtokIdeal.nD Cert.WtokIdeal.τ Cert.WtokIdeal.sig) → Buf (Elt Ideal) ℓ) (g : Dev Cert.WtokIdeal.nD → PrngReg), Pre_WtokIdeal m →
    θ_run (Cert.WtokIdeal.defs (F := Ideal)) (onTc (τ := Cert.WtokIdeal.τ) (Cert.WtokIdeal.main (F := Ideal))) ⟨m, fun _ => 0, g⟩ (fun r => (∀ c : Dev Cert.WtokIdeal.nD,
      r.2.mem ((c.tc : Thread Cert.WtokIdeal.nD Cert.WtokIdeal.τ).loc Cert.WtokIdeal.main_arg0) = m ((c.tc : Thread Cert.WtokIdeal.nD Cert.WtokIdeal.τ).loc Cert.WtokIdeal.main_arg0)
      ∧ r.2.mem ((c.tc : Thread Cert.WtokIdeal.nD Cert.WtokIdeal.τ).loc Cert.WtokIdeal.main_arg1) = m ((c.tc : Thread Cert.WtokIdeal.nD Cert.WtokIdeal.τ).loc Cert.WtokIdeal.main_arg1)
      ∧ r.2.mem ((c.tc : Thread Cert.WtokIdeal.nD Cert.WtokIdeal.τ).loc Cert.WtokIdeal.main_arg2) = m ((c.tc : Thread Cert.WtokIdeal.nD Cert.WtokIdeal.τ).loc Cert.WtokIdeal.main_arg2)
      ∧ r.2.mem ((c.tc : Thread Cert.WtokIdeal.nD Cert.WtokIdeal.τ).loc Cert.WtokIdeal.main_arg3) = m ((c.tc : Thread Cert.WtokIdeal.nD Cert.WtokIdeal.τ).loc Cert.WtokIdeal.main_arg3))
      ∧ r.2.sem = fun _ => 0)

def quiescent_WtokRefIdeal [hWtokRefIdeal : Cert.WtokRefIdeal.Facts] : Prop :=
  ∀ (m : (ℓ : Loc Cert.WtokRefIdeal.nD Cert.WtokRefIdeal.τ Cert.WtokRefIdeal.sig) → Buf (Elt Ideal) ℓ) (g : Dev Cert.WtokRefIdeal.nD → PrngReg), Pre_WtokRefIdeal m →
    θ_run (Cert.WtokRefIdeal.defs (F := Ideal)) (onTc (τ := Cert.WtokRefIdeal.τ) (Cert.WtokRefIdeal.main (F := Ideal))) ⟨m, fun _ => 0, g⟩ (fun r => (∀ c : Dev Cert.WtokRefIdeal.nD,
      r.2.mem ((c.tc : Thread Cert.WtokRefIdeal.nD Cert.WtokRefIdeal.τ).loc Cert.WtokRefIdeal.main_arg0) = m ((c.tc : Thread Cert.WtokRefIdeal.nD Cert.WtokRefIdeal.τ).loc Cert.WtokRefIdeal.main_arg0)
      ∧ r.2.mem ((c.tc : Thread Cert.WtokRefIdeal.nD Cert.WtokRefIdeal.τ).loc Cert.WtokRefIdeal.main_arg1) = m ((c.tc : Thread Cert.WtokRefIdeal.nD Cert.WtokRefIdeal.τ).loc Cert.WtokRefIdeal.main_arg1)
      ∧ r.2.mem ((c.tc : Thread Cert.WtokRefIdeal.nD Cert.WtokRefIdeal.τ).loc Cert.WtokRefIdeal.main_arg2) = m ((c.tc : Thread Cert.WtokRefIdeal.nD Cert.WtokRefIdeal.τ).loc Cert.WtokRefIdeal.main_arg2)
      ∧ r.2.mem ((c.tc : Thread Cert.WtokRefIdeal.nD Cert.WtokRefIdeal.τ).loc Cert.WtokRefIdeal.main_arg3) = m ((c.tc : Thread Cert.WtokRefIdeal.nD Cert.WtokRefIdeal.τ).loc Cert.WtokRefIdeal.main_arg3))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)) →
    ∃ (v0 : (c : Dev Cert.MixIdeal.nD) → Buf (Elt Ideal) ((c.tc : Thread Cert.MixIdeal.nD Cert.MixIdeal.τ).loc Cert.MixIdeal.main_v7_0)) (v1 : (c : Dev Cert.MixIdeal.nD) → Buf (Elt Ideal) ((c.tc : Thread Cert.MixIdeal.nD Cert.MixIdeal.τ).loc Cert.MixIdeal.main_v7_1)) (v2 : (c : Dev Cert.MixIdeal.nD) → Buf (Elt Ideal) ((c.tc : Thread Cert.MixIdeal.nD Cert.MixIdeal.τ).loc Cert.MixIdeal.main_v7_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v7_0) = v0 c
          ∧ r.2.mem ((c.tc : Thread Cert.MixIdeal.nD Cert.MixIdeal.τ).loc Cert.MixIdeal.main_v7_1) = v1 c
          ∧ r.2.mem ((c.tc : Thread Cert.MixIdeal.nD Cert.MixIdeal.τ).loc Cert.MixIdeal.main_v7_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v38) = v0 c
          ∧ r.2.mem ((c.tc : Thread Cert.MixRefIdeal.nD Cert.MixRefIdeal.τ).loc Cert.MixRefIdeal.main_v39) = v1 c
          ∧ r.2.mem ((c.tc : Thread Cert.MixRefIdeal.nD Cert.MixRefIdeal.τ).loc Cert.MixRefIdeal.main_v40) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4))

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v32_0)) (v1 : (c : Dev Cert.AttnIdeal.nD) → Buf (Elt Ideal) ((c.tc : Thread Cert.AttnIdeal.nD Cert.AttnIdeal.τ).loc Cert.AttnIdeal.main_v32_1)) (v2 : (c : Dev Cert.AttnIdeal.nD) → Buf (Elt Ideal) ((c.tc : Thread Cert.AttnIdeal.nD Cert.AttnIdeal.τ).loc Cert.AttnIdeal.main_v32_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v32_0) = v0 c
          ∧ r.2.mem ((c.tc : Thread Cert.AttnIdeal.nD Cert.AttnIdeal.τ).loc Cert.AttnIdeal.main_v32_1) = v1 c
          ∧ r.2.mem ((c.tc : Thread Cert.AttnIdeal.nD Cert.AttnIdeal.τ).loc Cert.AttnIdeal.main_v32_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v192) = v0 c
          ∧ r.2.mem ((c.tc : Thread Cert.AttnRefIdeal.nD Cert.AttnRefIdeal.τ).loc Cert.AttnRefIdeal.main_v194) = v1 c
          ∧ r.2.mem ((c.tc : Thread Cert.AttnRefIdeal.nD Cert.AttnRefIdeal.τ).loc Cert.AttnRefIdeal.main_v196) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Attnf_AttnfIdeal : Prop :=
  IdealRules.named_const.Statement Cert.AttnfIdeal.κ "mask" .f32 0xF149F2CA#32 ⊥

def algebraic_AttnfIdeal_AttnfRefIdeal_pre_attnf_finite [hAttnfIdeal : Cert.AttnfIdeal.Facts] [hAttnfRefIdeal : Cert.AttnfRefIdeal.Facts] [hPre_attnf_finite : Cert.Pre_attnf_finite.Facts] : Prop :=
  ∀ (m : (ℓ : Loc Cert.AttnfIdeal.nD Cert.AttnfIdeal.τ Cert.AttnfIdeal.sig) → Buf (Elt Ideal) ℓ) (g : Dev Cert.AttnfIdeal.nD → PrngReg)
    (m' : (ℓ : Loc Cert.AttnfRefIdeal.nD Cert.AttnfRefIdeal.τ Cert.AttnfRefIdeal.sig) → Buf (Elt Ideal) ℓ) (g' : Dev Cert.AttnfRefIdeal.nD → PrngReg), Pre_AttnfIdeal_attnf_finite m →
    (∀ c : Dev Cert.AttnfIdeal.nD,
      m' ((c.tc : Thread Cert.AttnfRefIdeal.nD Cert.AttnfRefIdeal.τ).loc Cert.AttnfRefIdeal.main_arg0) = m ((c.tc : Thread Cert.AttnfIdeal.nD Cert.AttnfIdeal.τ).loc Cert.AttnfIdeal.main_arg0)
      ∧ m' ((c.tc : Thread Cert.AttnfRefIdeal.nD Cert.AttnfRefIdeal.τ).loc Cert.AttnfRefIdeal.main_arg1) = m ((c.tc : Thread Cert.AttnfIdeal.nD Cert.AttnfIdeal.τ).loc Cert.AttnfIdeal.main_arg1)) →
    ∃ (v0 : (c : Dev Cert.AttnfIdeal.nD) → Buf (Elt Ideal) ((c.tc : Thread Cert.AttnfIdeal.nD Cert.AttnfIdeal.τ).loc Cert.AttnfIdeal.main_v31)),
      θ_run (Cert.AttnfIdeal.defs (F := Ideal)) (onTc (τ := Cert.AttnfIdeal.τ) (Cert.AttnfIdeal.main (F := Ideal))) ⟨m, fun _ => 0, g⟩ (fun r => ∀ c : Dev Cert.AttnfIdeal.nD,
          r.2.mem ((c.tc : Thread Cert.AttnfIdeal.nD Cert.AttnfIdeal.τ).loc Cert.AttnfIdeal.main_v31) = v0 c
          ∧ r.2.mem ((c.tc : Thread Cert.AttnfIdeal.nD Cert.AttnfIdeal.τ).loc Cert.AttnfIdeal.main_arg0) = m ((c.tc : Thread Cert.AttnfIdeal.nD Cert.AttnfIdeal.τ).loc Cert.AttnfIdeal.main_arg0)
          ∧ r.2.mem ((c.tc : Thread Cert.AttnfIdeal.nD Cert.AttnfIdeal.τ).loc Cert.AttnfIdeal.main_arg1) = m ((c.tc : Thread Cert.AttnfIdeal.nD Cert.AttnfIdeal.τ).loc Cert.AttnfIdeal.main_arg1))
      ∧ θ_run (Cert.AttnfRefIdeal.defs (F := Ideal)) (onTc (τ := Cert.AttnfRefIdeal.τ) (Cert.AttnfRefIdeal.main (F := Ideal))) ⟨m', fun _ => 0, g'⟩ (fun r => ∀ c : Dev Cert.AttnfRefIdeal.nD,
          r.2.mem ((c.tc : Thread Cert.AttnfRefIdeal.nD Cert.AttnfRefIdeal.τ).loc Cert.AttnfRefIdeal.main_v97) = v0 c
          ∧ r.2.mem ((c.tc : Thread Cert.AttnfRefIdeal.nD Cert.AttnfRefIdeal.τ).loc Cert.AttnfRefIdeal.main_arg0) = m' ((c.tc : Thread Cert.AttnfRefIdeal.nD Cert.AttnfRefIdeal.τ).loc Cert.AttnfRefIdeal.main_arg0)
          ∧ r.2.mem ((c.tc : Thread Cert.AttnfRefIdeal.nD Cert.AttnfRefIdeal.τ).loc Cert.AttnfRefIdeal.main_arg1) = m' ((c.tc : Thread Cert.AttnfRefIdeal.nD Cert.AttnfRefIdeal.τ).loc Cert.AttnfRefIdeal.main_arg1))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v25_0)) (v1 : (c : Dev Cert.FfnIdeal.nD) → Buf (Elt Ideal) ((c.tc : Thread Cert.FfnIdeal.nD Cert.FfnIdeal.τ).loc Cert.FfnIdeal.main_v25_1)) (v2 : (c : Dev Cert.FfnIdeal.nD) → Buf (Elt Ideal) ((c.tc : Thread Cert.FfnIdeal.nD Cert.FfnIdeal.τ).loc Cert.FfnIdeal.main_v25_2)) (v3 : (c : Dev Cert.FfnIdeal.nD) → Buf (Elt Ideal) ((c.tc : Thread Cert.FfnIdeal.nD Cert.FfnIdeal.τ).loc Cert.FfnIdeal.main_v25_3)) (v4 : (c : Dev Cert.FfnIdeal.nD) → Buf (Elt Ideal) ((c.tc : Thread Cert.FfnIdeal.nD Cert.FfnIdeal.τ).loc Cert.FfnIdeal.main_v25_4)) (v5 : (c : Dev Cert.FfnIdeal.nD) → Buf (Elt Ideal) ((c.tc : Thread Cert.FfnIdeal.nD Cert.FfnIdeal.τ).loc Cert.FfnIdeal.main_v25_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v25_0) = v0 c
          ∧ r.2.mem ((c.tc : Thread Cert.FfnIdeal.nD Cert.FfnIdeal.τ).loc Cert.FfnIdeal.main_v25_1) = v1 c
          ∧ r.2.mem ((c.tc : Thread Cert.FfnIdeal.nD Cert.FfnIdeal.τ).loc Cert.FfnIdeal.main_v25_2) = v2 c
          ∧ r.2.mem ((c.tc : Thread Cert.FfnIdeal.nD Cert.FfnIdeal.τ).loc Cert.FfnIdeal.main_v25_3) = v3 c
          ∧ r.2.mem ((c.tc : Thread Cert.FfnIdeal.nD Cert.FfnIdeal.τ).loc Cert.FfnIdeal.main_v25_4) = v4 c
          ∧ r.2.mem ((c.tc : Thread Cert.FfnIdeal.nD Cert.FfnIdeal.τ).loc Cert.FfnIdeal.main_v25_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v54) = v0 c
          ∧ r.2.mem ((c.tc : Thread Cert.FfnRefIdeal.nD Cert.FfnRefIdeal.τ).loc Cert.FfnRefIdeal.main_v55) = v1 c
          ∧ r.2.mem ((c.tc : Thread Cert.FfnRefIdeal.nD Cert.FfnRefIdeal.τ).loc Cert.FfnRefIdeal.main_v56) = v2 c
          ∧ r.2.mem ((c.tc : Thread Cert.FfnRefIdeal.nD Cert.FfnRefIdeal.τ).loc Cert.FfnRefIdeal.main_v59) = v3 c
          ∧ r.2.mem ((c.tc : Thread Cert.FfnRefIdeal.nD Cert.FfnRefIdeal.τ).loc Cert.FfnRefIdeal.main_v60) = v4 c
          ∧ r.2.mem ((c.tc : Thread Cert.FfnRefIdeal.nD Cert.FfnRefIdeal.τ).loc Cert.FfnRefIdeal.main_v63) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Conv_ConvIdeal : Prop :=
  True

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v3_0)) (v1 : (c : Dev Cert.ProjIdeal.nD) → Buf (Elt Ideal) ((c.tc : Thread Cert.ProjIdeal.nD Cert.ProjIdeal.τ).loc Cert.ProjIdeal.main_v3_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3_0) = v0 c
          ∧ r.2.mem ((c.tc : Thread Cert.ProjIdeal.nD Cert.ProjIdeal.τ).loc Cert.ProjIdeal.main_v3_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v16) = v0 c
          ∧ r.2.mem ((c.tc : Thread Cert.ProjRefIdeal.nD Cert.ProjRefIdeal.τ).loc Cert.ProjRefIdeal.main_v15) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Mixo_MixoIdeal : Prop :=
  True

def algebraic_MixoIdeal_MixoRefIdeal [hMixoIdeal : Cert.MixoIdeal.Facts] [hMixoRefIdeal : Cert.MixoRefIdeal.Facts] : Prop :=
  ∀ (m : (ℓ : Loc Cert.MixoIdeal.nD Cert.MixoIdeal.τ Cert.MixoIdeal.sig) → Buf (Elt Ideal) ℓ) (g : Dev Cert.MixoIdeal.nD → PrngReg)
    (m' : (ℓ : Loc Cert.MixoRefIdeal.nD Cert.MixoRefIdeal.τ Cert.MixoRefIdeal.sig) → Buf (Elt Ideal) ℓ) (g' : Dev Cert.MixoRefIdeal.nD → PrngReg), Pre_MixoIdeal m →
    (∀ c : Dev Cert.MixoIdeal.nD,
      m' ((c.tc : Thread Cert.MixoRefIdeal.nD Cert.MixoRefIdeal.τ).loc Cert.MixoRefIdeal.main_arg0) = m ((c.tc : Thread Cert.MixoIdeal.nD Cert.MixoIdeal.τ).loc Cert.MixoIdeal.main_arg0)
      ∧ m' ((c.tc : Thread Cert.MixoRefIdeal.nD Cert.MixoRefIdeal.τ).loc Cert.MixoRefIdeal.main_arg1) = m ((c.tc : Thread Cert.MixoIdeal.nD Cert.MixoIdeal.τ).loc Cert.MixoIdeal.main_arg1)
      ∧ m' ((c.tc : Thread Cert.MixoRefIdeal.nD Cert.MixoRefIdeal.τ).loc Cert.MixoRefIdeal.main_arg2) = m ((c.tc : Thread Cert.MixoIdeal.nD Cert.MixoIdeal.τ).loc Cert.MixoIdeal.main_arg2)
      ∧ m' ((c.tc : Thread Cert.MixoRefIdeal.nD Cert.MixoRefIdeal.τ).loc Cert.MixoRefIdeal.main_arg3) = m ((c.tc : Thread Cert.MixoIdeal.nD Cert.MixoIdeal.τ).loc Cert.MixoIdeal.main_arg3)) →
    ∃ (v0 : (c : Dev Cert.MixoIdeal.nD) → Buf (Elt Ideal) ((c.tc : Thread Cert.MixoIdeal.nD Cert.MixoIdeal.τ).loc Cert.MixoIdeal.main_v3)),
      θ_run (Cert.MixoIdeal.defs (F := Ideal)) (onTc (τ := Cert.MixoIdeal.τ) (Cert.MixoIdeal.main (F := Ideal))) ⟨m, fun _ => 0, g⟩ (fun r => ∀ c : Dev Cert.MixoIdeal.nD,
          r.2.mem ((c.tc : Thread Cert.MixoIdeal.nD Cert.MixoIdeal.τ).loc Cert.MixoIdeal.main_v3) = v0 c
          ∧ r.2.mem ((c.tc : Thread Cert.MixoIdeal.nD Cert.MixoIdeal.τ).loc Cert.MixoIdeal.main_arg0) = m ((c.tc : Thread Cert.MixoIdeal.nD Cert.MixoIdeal.τ).loc Cert.MixoIdeal.main_arg0)
          ∧ r.2.mem ((c.tc : Thread Cert.MixoIdeal.nD Cert.MixoIdeal.τ).loc Cert.MixoIdeal.main_arg1) = m ((c.tc : Thread Cert.MixoIdeal.nD Cert.MixoIdeal.τ).loc Cert.MixoIdeal.main_arg1)
          ∧ r.2.mem ((c.tc : Thread Cert.MixoIdeal.nD Cert.MixoIdeal.τ).loc Cert.MixoIdeal.main_arg2) = m ((c.tc : Thread Cert.MixoIdeal.nD Cert.MixoIdeal.τ).loc Cert.MixoIdeal.main_arg2)
          ∧ r.2.mem ((c.tc : Thread Cert.MixoIdeal.nD Cert.MixoIdeal.τ).loc Cert.MixoIdeal.main_arg3) = m ((c.tc : Thread Cert.MixoIdeal.nD Cert.MixoIdeal.τ).loc Cert.MixoIdeal.main_arg3))
      ∧ θ_run (Cert.MixoRefIdeal.defs (F := Ideal)) (onTc (τ := Cert.MixoRefIdeal.τ) (Cert.MixoRefIdeal.main (F := Ideal))) ⟨m', fun _ => 0, g'⟩ (fun r => ∀ c : Dev Cert.MixoRefIdeal.nD,
          r.2.mem ((c.tc : Thread Cert.MixoRefIdeal.nD Cert.MixoRefIdeal.τ).loc Cert.MixoRefIdeal.main_v2) = v0 c
          ∧ r.2.mem ((c.tc : Thread Cert.MixoRefIdeal.nD Cert.MixoRefIdeal.τ).loc Cert.MixoRefIdeal.main_arg0) = m' ((c.tc : Thread Cert.MixoRefIdeal.nD Cert.MixoRefIdeal.τ).loc Cert.MixoRefIdeal.main_arg0)
          ∧ r.2.mem ((c.tc : Thread Cert.MixoRefIdeal.nD Cert.MixoRefIdeal.τ).loc Cert.MixoRefIdeal.main_arg1) = m' ((c.tc : Thread Cert.MixoRefIdeal.nD Cert.MixoRefIdeal.τ).loc Cert.MixoRefIdeal.main_arg1)
          ∧ r.2.mem ((c.tc : Thread Cert.MixoRefIdeal.nD Cert.MixoRefIdeal.τ).loc Cert.MixoRefIdeal.main_arg2) = m' ((c.tc : Thread Cert.MixoRefIdeal.nD Cert.MixoRefIdeal.τ).loc Cert.MixoRefIdeal.main_arg2)
          ∧ r.2.mem ((c.tc : Thread Cert.MixoRefIdeal.nD Cert.MixoRefIdeal.τ).loc Cert.MixoRefIdeal.main_arg3) = m' ((c.tc : Thread Cert.MixoRefIdeal.nD Cert.MixoRefIdeal.τ).loc Cert.MixoRefIdeal.main_arg3))

def preserves_Mixb_MixbIdeal : Prop :=
  True

def algebraic_MixbIdeal_MixbRefIdeal [hMixbIdeal : Cert.MixbIdeal.Facts] [hMixbRefIdeal : Cert.MixbRefIdeal.Facts] : Prop :=
  ∀ (m : (ℓ : Loc Cert.MixbIdeal.nD Cert.MixbIdeal.τ Cert.MixbIdeal.sig) → Buf (Elt Ideal) ℓ) (g : Dev Cert.MixbIdeal.nD → PrngReg)
    (m' : (ℓ : Loc Cert.MixbRefIdeal.nD Cert.MixbRefIdeal.τ Cert.MixbRefIdeal.sig) → Buf (Elt Ideal) ℓ) (g' : Dev Cert.MixbRefIdeal.nD → PrngReg), Pre_MixbIdeal m →
    (∀ c : Dev Cert.MixbIdeal.nD,
      m' ((c.tc : Thread Cert.MixbRefIdeal.nD Cert.MixbRefIdeal.τ).loc Cert.MixbRefIdeal.main_arg0) = m ((c.tc : Thread Cert.MixbIdeal.nD Cert.MixbIdeal.τ).loc Cert.MixbIdeal.main_arg0)
      ∧ m' ((c.tc : Thread Cert.MixbRefIdeal.nD Cert.MixbRefIdeal.τ).loc Cert.MixbRefIdeal.main_arg1) = m ((c.tc : Thread Cert.MixbIdeal.nD Cert.MixbIdeal.τ).loc Cert.MixbIdeal.main_arg1)) →
    ∃ (v0 : (c : Dev Cert.MixbIdeal.nD) → Buf (Elt Ideal) ((c.tc : Thread Cert.MixbIdeal.nD Cert.MixbIdeal.τ).loc Cert.MixbIdeal.main_v1_0)) (v1 : (c : Dev Cert.MixbIdeal.nD) → Buf (Elt Ideal) ((c.tc : Thread Cert.MixbIdeal.nD Cert.MixbIdeal.τ).loc Cert.MixbIdeal.main_v1_1)) (v2 : (c : Dev Cert.MixbIdeal.nD) → Buf (Elt Ideal) ((c.tc : Thread Cert.MixbIdeal.nD Cert.MixbIdeal.τ).loc Cert.MixbIdeal.main_v1_2)),
      θ_run (Cert.MixbIdeal.defs (F := Ideal)) (onTc (τ := Cert.MixbIdeal.τ) (Cert.MixbIdeal.main (F := Ideal))) ⟨m, fun _ => 0, g⟩ (fun r => ∀ c : Dev Cert.MixbIdeal.nD,
          r.2.mem ((c.tc : Thread Cert.MixbIdeal.nD Cert.MixbIdeal.τ).loc Cert.MixbIdeal.main_v1_0) = v0 c
          ∧ r.2.mem ((c.tc : Thread Cert.MixbIdeal.nD Cert.MixbIdeal.τ).loc Cert.MixbIdeal.main_v1_1) = v1 c
          ∧ r.2.mem ((c.tc : Thread Cert.MixbIdeal.nD Cert.MixbIdeal.τ).loc Cert.MixbIdeal.main_v1_2) = v2 c
          ∧ r.2.mem ((c.tc : Thread Cert.MixbIdeal.nD Cert.MixbIdeal.τ).loc Cert.MixbIdeal.main_arg0) = m ((c.tc : Thread Cert.MixbIdeal.nD Cert.MixbIdeal.τ).loc Cert.MixbIdeal.main_arg0)
          ∧ r.2.mem ((c.tc : Thread Cert.MixbIdeal.nD Cert.MixbIdeal.τ).loc Cert.MixbIdeal.main_arg1) = m ((c.tc : Thread Cert.MixbIdeal.nD Cert.MixbIdeal.τ).loc Cert.MixbIdeal.main_arg1))
      ∧ θ_run (Cert.MixbRefIdeal.defs (F := Ideal)) (onTc (τ := Cert.MixbRefIdeal.τ) (Cert.MixbRefIdeal.main (F := Ideal))) ⟨m', fun _ => 0, g'⟩ (fun r => ∀ c : Dev Cert.MixbRefIdeal.nD,
          r.2.mem ((c.tc : Thread Cert.MixbRefIdeal.nD Cert.MixbRefIdeal.τ).loc Cert.MixbRefIdeal.main_v4) = v0 c
          ∧ r.2.mem ((c.tc : Thread Cert.MixbRefIdeal.nD Cert.MixbRefIdeal.τ).loc Cert.MixbRefIdeal.main_v5) = v1 c
          ∧ r.2.mem ((c.tc : Thread Cert.MixbRefIdeal.nD Cert.MixbRefIdeal.τ).loc Cert.MixbRefIdeal.main_v3) = v2 c
          ∧ r.2.mem ((c.tc : Thread Cert.MixbRefIdeal.nD Cert.MixbRefIdeal.τ).loc Cert.MixbRefIdeal.main_arg0) = m' ((c.tc : Thread Cert.MixbRefIdeal.nD Cert.MixbRefIdeal.τ).loc Cert.MixbRefIdeal.main_arg0)
          ∧ r.2.mem ((c.tc : Thread Cert.MixbRefIdeal.nD Cert.MixbRefIdeal.τ).loc Cert.MixbRefIdeal.main_arg1) = m' ((c.tc : Thread Cert.MixbRefIdeal.nD Cert.MixbRefIdeal.τ).loc Cert.MixbRefIdeal.main_arg1))

def preserves_Wcat_WcatIdeal : Prop :=
  True

def algebraic_WcatIdeal_WcatRefIdeal [hWcatIdeal : Cert.WcatIdeal.Facts] [hWcatRefIdeal : Cert.WcatRefIdeal.Facts] : Prop :=
  ∀ (m : (ℓ : Loc Cert.WcatIdeal.nD Cert.WcatIdeal.τ Cert.WcatIdeal.sig) → Buf (Elt Ideal) ℓ) (g : Dev Cert.WcatIdeal.nD → PrngReg)
    (m' : (ℓ : Loc Cert.WcatRefIdeal.nD Cert.WcatRefIdeal.τ Cert.WcatRefIdeal.sig) → Buf (Elt Ideal) ℓ) (g' : Dev Cert.WcatRefIdeal.nD → PrngReg), Pre_WcatIdeal m →
    (∀ c : Dev Cert.WcatIdeal.nD,
      m' ((c.tc : Thread Cert.WcatRefIdeal.nD Cert.WcatRefIdeal.τ).loc Cert.WcatRefIdeal.main_arg0) = m ((c.tc : Thread Cert.WcatIdeal.nD Cert.WcatIdeal.τ).loc Cert.WcatIdeal.main_arg0)
      ∧ m' ((c.tc : Thread Cert.WcatRefIdeal.nD Cert.WcatRefIdeal.τ).loc Cert.WcatRefIdeal.main_arg1) = m ((c.tc : Thread Cert.WcatIdeal.nD Cert.WcatIdeal.τ).loc Cert.WcatIdeal.main_arg1)
      ∧ m' ((c.tc : Thread Cert.WcatRefIdeal.nD Cert.WcatRefIdeal.τ).loc Cert.WcatRefIdeal.main_arg2) = m ((c.tc : Thread Cert.WcatIdeal.nD Cert.WcatIdeal.τ).loc Cert.WcatIdeal.main_arg2)) →
    ∃ (v0 : (c : Dev Cert.WcatIdeal.nD) → Buf (Elt Ideal) ((c.tc : Thread Cert.WcatIdeal.nD Cert.WcatIdeal.τ).loc Cert.WcatIdeal.main_v3)),
      θ_run (Cert.WcatIdeal.defs (F := Ideal)) (onTc (τ := Cert.WcatIdeal.τ) (Cert.WcatIdeal.main (F := Ideal))) ⟨m, fun _ => 0, g⟩ (fun r => ∀ c : Dev Cert.WcatIdeal.nD,
          r.2.mem ((c.tc : Thread Cert.WcatIdeal.nD Cert.WcatIdeal.τ).loc Cert.WcatIdeal.main_v3) = v0 c
          ∧ r.2.mem ((c.tc : Thread Cert.WcatIdeal.nD Cert.WcatIdeal.τ).loc Cert.WcatIdeal.main_arg0) = m ((c.tc : Thread Cert.WcatIdeal.nD Cert.WcatIdeal.τ).loc Cert.WcatIdeal.main_arg0)
          ∧ r.2.mem ((c.tc : Thread Cert.WcatIdeal.nD Cert.WcatIdeal.τ).loc Cert.WcatIdeal.main_arg1) = m ((c.tc : Thread Cert.WcatIdeal.nD Cert.WcatIdeal.τ).loc Cert.WcatIdeal.main_arg1)
          ∧ r.2.mem ((c.tc : Thread Cert.WcatIdeal.nD Cert.WcatIdeal.τ).loc Cert.WcatIdeal.main_arg2) = m ((c.tc : Thread Cert.WcatIdeal.nD Cert.WcatIdeal.τ).loc Cert.WcatIdeal.main_arg2))
      ∧ θ_run (Cert.WcatRefIdeal.defs (F := Ideal)) (onTc (τ := Cert.WcatRefIdeal.τ) (Cert.WcatRefIdeal.main (F := Ideal))) ⟨m', fun _ => 0, g'⟩ (fun r => ∀ c : Dev Cert.WcatRefIdeal.nD,
          r.2.mem ((c.tc : Thread Cert.WcatRefIdeal.nD Cert.WcatRefIdeal.τ).loc Cert.WcatRefIdeal.main_v3) = v0 c
          ∧ r.2.mem ((c.tc : Thread Cert.WcatRefIdeal.nD Cert.WcatRefIdeal.τ).loc Cert.WcatRefIdeal.main_arg0) = m' ((c.tc : Thread Cert.WcatRefIdeal.nD Cert.WcatRefIdeal.τ).loc Cert.WcatRefIdeal.main_arg0)
          ∧ r.2.mem ((c.tc : Thread Cert.WcatRefIdeal.nD Cert.WcatRefIdeal.τ).loc Cert.WcatRefIdeal.main_arg1) = m' ((c.tc : Thread Cert.WcatRefIdeal.nD Cert.WcatRefIdeal.τ).loc Cert.WcatRefIdeal.main_arg1)
          ∧ r.2.mem ((c.tc : Thread Cert.WcatRefIdeal.nD Cert.WcatRefIdeal.τ).loc Cert.WcatRefIdeal.main_arg2) = m' ((c.tc : Thread Cert.WcatRefIdeal.nD Cert.WcatRefIdeal.τ).loc Cert.WcatRefIdeal.main_arg2))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v3)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v3) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v3) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v5)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v5) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v4) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Wtok_WtokIdeal : Prop :=
  True

def algebraic_WtokIdeal_WtokRefIdeal [hWtokIdeal : Cert.WtokIdeal.Facts] [hWtokRefIdeal : Cert.WtokRefIdeal.Facts] : Prop :=
  ∀ (m : (ℓ : Loc Cert.WtokIdeal.nD Cert.WtokIdeal.τ Cert.WtokIdeal.sig) → Buf (Elt Ideal) ℓ) (g : Dev Cert.WtokIdeal.nD → PrngReg)
    (m' : (ℓ : Loc Cert.WtokRefIdeal.nD Cert.WtokRefIdeal.τ Cert.WtokRefIdeal.sig) → Buf (Elt Ideal) ℓ) (g' : Dev Cert.WtokRefIdeal.nD → PrngReg), Pre_WtokIdeal m →
    (∀ c : Dev Cert.WtokIdeal.nD,
      m' ((c.tc : Thread Cert.WtokRefIdeal.nD Cert.WtokRefIdeal.τ).loc Cert.WtokRefIdeal.main_arg0) = m ((c.tc : Thread Cert.WtokIdeal.nD Cert.WtokIdeal.τ).loc Cert.WtokIdeal.main_arg0)
      ∧ m' ((c.tc : Thread Cert.WtokRefIdeal.nD Cert.WtokRefIdeal.τ).loc Cert.WtokRefIdeal.main_arg1) = m ((c.tc : Thread Cert.WtokIdeal.nD Cert.WtokIdeal.τ).loc Cert.WtokIdeal.main_arg1)
      ∧ m' ((c.tc : Thread Cert.WtokRefIdeal.nD Cert.WtokRefIdeal.τ).loc Cert.WtokRefIdeal.main_arg2) = m ((c.tc : Thread Cert.WtokIdeal.nD Cert.WtokIdeal.τ).loc Cert.WtokIdeal.main_arg2)
      ∧ m' ((c.tc : Thread Cert.WtokRefIdeal.nD Cert.WtokRefIdeal.τ).loc Cert.WtokRefIdeal.main_arg3) = m ((c.tc : Thread Cert.WtokIdeal.nD Cert.WtokIdeal.τ).loc Cert.WtokIdeal.main_arg3)) →
    ∃ (v0 : (c : Dev Cert.WtokIdeal.nD) → Buf (Elt Ideal) ((c.tc : Thread Cert.WtokIdeal.nD Cert.WtokIdeal.τ).loc Cert.WtokIdeal.main_v4)),
      θ_run (Cert.WtokIdeal.defs (F := Ideal)) (onTc (τ := Cert.WtokIdeal.τ) (Cert.WtokIdeal.main (F := Ideal))) ⟨m, fun _ => 0, g⟩ (fun r => ∀ c : Dev Cert.WtokIdeal.nD,
          r.2.mem ((c.tc : Thread Cert.WtokIdeal.nD Cert.WtokIdeal.τ).loc Cert.WtokIdeal.main_v4) = v0 c
          ∧ r.2.mem ((c.tc : Thread Cert.WtokIdeal.nD Cert.WtokIdeal.τ).loc Cert.WtokIdeal.main_arg0) = m ((c.tc : Thread Cert.WtokIdeal.nD Cert.WtokIdeal.τ).loc Cert.WtokIdeal.main_arg0)
          ∧ r.2.mem ((c.tc : Thread Cert.WtokIdeal.nD Cert.WtokIdeal.τ).loc Cert.WtokIdeal.main_arg1) = m ((c.tc : Thread Cert.WtokIdeal.nD Cert.WtokIdeal.τ).loc Cert.WtokIdeal.main_arg1)
          ∧ r.2.mem ((c.tc : Thread Cert.WtokIdeal.nD Cert.WtokIdeal.τ).loc Cert.WtokIdeal.main_arg2) = m ((c.tc : Thread Cert.WtokIdeal.nD Cert.WtokIdeal.τ).loc Cert.WtokIdeal.main_arg2)
          ∧ r.2.mem ((c.tc : Thread Cert.WtokIdeal.nD Cert.WtokIdeal.τ).loc Cert.WtokIdeal.main_arg3) = m ((c.tc : Thread Cert.WtokIdeal.nD Cert.WtokIdeal.τ).loc Cert.WtokIdeal.main_arg3))
      ∧ θ_run (Cert.WtokRefIdeal.defs (F := Ideal)) (onTc (τ := Cert.WtokRefIdeal.τ) (Cert.WtokRefIdeal.main (F := Ideal))) ⟨m', fun _ => 0, g'⟩ (fun r => ∀ c : Dev Cert.WtokRefIdeal.nD,
          r.2.mem ((c.tc : Thread Cert.WtokRefIdeal.nD Cert.WtokRefIdeal.τ).loc Cert.WtokRefIdeal.main_v3) = v0 c
          ∧ r.2.mem ((c.tc : Thread Cert.WtokRefIdeal.nD Cert.WtokRefIdeal.τ).loc Cert.WtokRefIdeal.main_arg0) = m' ((c.tc : Thread Cert.WtokRefIdeal.nD Cert.WtokRefIdeal.τ).loc Cert.WtokRefIdeal.main_arg0)
          ∧ r.2.mem ((c.tc : Thread Cert.WtokRefIdeal.nD Cert.WtokRefIdeal.τ).loc Cert.WtokRefIdeal.main_arg1) = m' ((c.tc : Thread Cert.WtokRefIdeal.nD Cert.WtokRefIdeal.τ).loc Cert.WtokRefIdeal.main_arg1)
          ∧ r.2.mem ((c.tc : Thread Cert.WtokRefIdeal.nD Cert.WtokRefIdeal.τ).loc Cert.WtokRefIdeal.main_arg2) = m' ((c.tc : Thread Cert.WtokRefIdeal.nD Cert.WtokRefIdeal.τ).loc Cert.WtokRefIdeal.main_arg2)
          ∧ r.2.mem ((c.tc : Thread Cert.WtokRefIdeal.nD Cert.WtokRefIdeal.τ).loc Cert.WtokRefIdeal.main_arg3) = m' ((c.tc : Thread Cert.WtokRefIdeal.nD Cert.WtokRefIdeal.τ).loc Cert.WtokRefIdeal.main_arg3))

def Claim : Prop :=
  ∃ (hLoss : Cert.Loss.Facts) (hLossIdeal : Cert.LossIdeal.Facts) (hLossRefIdeal : Cert.LossRefIdeal.Facts) (hMix : Cert.Mix.Facts) (hMixIdeal : Cert.MixIdeal.Facts) (hMixRefIdeal : Cert.MixRefIdeal.Facts) (hAttn : Cert.Attn.Facts) (hAttnIdeal : Cert.AttnIdeal.Facts) (hAttnRefIdeal : Cert.AttnRefIdeal.Facts) (hAttnf : Cert.Attnf.Facts) (hAttnfIdeal : Cert.AttnfIdeal.Facts) (hAttnfRefIdeal : Cert.AttnfRefIdeal.Facts) (hFfn : Cert.Ffn.Facts) (hFfnIdeal : Cert.FfnIdeal.Facts) (hFfnRefIdeal : Cert.FfnRefIdeal.Facts) (hConv : Cert.Conv.Facts) (hConvIdeal : Cert.ConvIdeal.Facts) (hConvRefIdeal : Cert.ConvRefIdeal.Facts) (hProj : Cert.Proj.Facts) (hProjIdeal : Cert.ProjIdeal.Facts) (hProjRefIdeal : Cert.ProjRefIdeal.Facts) (hMixo : Cert.Mixo.Facts) (hMixoIdeal : Cert.MixoIdeal.Facts) (hMixoRefIdeal : Cert.MixoRefIdeal.Facts) (hMixb : Cert.Mixb.Facts) (hMixbIdeal : Cert.MixbIdeal.Facts) (hMixbRefIdeal : Cert.MixbRefIdeal.Facts) (hWcat : Cert.Wcat.Facts) (hWcatIdeal : Cert.WcatIdeal.Facts) (hWcatRefIdeal : Cert.WcatRefIdeal.Facts) (hWout : Cert.Wout.Facts) (hWoutIdeal : Cert.WoutIdeal.Facts) (hWoutRefIdeal : Cert.WoutRefIdeal.Facts) (hWin : Cert.Win.Facts) (hWinIdeal : Cert.WinIdeal.Facts) (hWinRefIdeal : Cert.WinRefIdeal.Facts) (hWtok : Cert.Wtok.Facts) (hWtokIdeal : Cert.WtokIdeal.Facts) (hWtokRefIdeal : Cert.WtokRefIdeal.Facts) (hPre_attn_finite : Cert.Pre_attn_finite.Facts) (hPre_attnf_finite : Cert.Pre_attnf_finite.Facts) (hPre_ffn_finite : Cert.Pre_ffn_finite.Facts),
    quiescent_Loss (hLoss := hLoss)
    ∧ quiescent_LossIdeal (hLossIdeal := hLossIdeal)
    ∧ quiescent_LossRefIdeal (hLossRefIdeal := hLossRefIdeal)
    ∧ quiescent_Mix (hMix := hMix)
    ∧ quiescent_MixIdeal (hMixIdeal := hMixIdeal)
    ∧ quiescent_MixRefIdeal (hMixRefIdeal := hMixRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Attnf (hAttnf := hAttnf)
    ∧ quiescent_AttnfIdeal (hAttnfIdeal := hAttnfIdeal)
    ∧ quiescent_AttnfIdeal_pre_attnf_finite (hAttnfIdeal := hAttnfIdeal) (hPre_attnf_finite := hPre_attnf_finite)
    ∧ quiescent_AttnfRefIdeal (hAttnfRefIdeal := hAttnfRefIdeal)
    ∧ quiescent_AttnfRefIdeal_pre_attnf_finite (hAttnfRefIdeal := hAttnfRefIdeal) (hPre_attnf_finite := hPre_attnf_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Conv (hConv := hConv)
    ∧ quiescent_ConvIdeal (hConvIdeal := hConvIdeal)
    ∧ quiescent_ConvRefIdeal (hConvRefIdeal := hConvRefIdeal)
    ∧ quiescent_Proj (hProj := hProj)
    ∧ quiescent_ProjIdeal (hProjIdeal := hProjIdeal)
    ∧ quiescent_ProjRefIdeal (hProjRefIdeal := hProjRefIdeal)
    ∧ quiescent_Mixo (hMixo := hMixo)
    ∧ quiescent_MixoIdeal (hMixoIdeal := hMixoIdeal)
    ∧ quiescent_MixoRefIdeal (hMixoRefIdeal := hMixoRefIdeal)
    ∧ quiescent_Mixb (hMixb := hMixb)
    ∧ quiescent_MixbIdeal (hMixbIdeal := hMixbIdeal)
    ∧ quiescent_MixbRefIdeal (hMixbRefIdeal := hMixbRefIdeal)
    ∧ quiescent_Wcat (hWcat := hWcat)
    ∧ quiescent_WcatIdeal (hWcatIdeal := hWcatIdeal)
    ∧ quiescent_WcatRefIdeal (hWcatRefIdeal := hWcatRefIdeal)
    ∧ quiescent_Wout (hWout := hWout)
    ∧ quiescent_WoutIdeal (hWoutIdeal := hWoutIdeal)
    ∧ quiescent_WoutRefIdeal (hWoutRefIdeal := hWoutRefIdeal)
    ∧ quiescent_Win (hWin := hWin)
    ∧ quiescent_WinIdeal (hWinIdeal := hWinIdeal)
    ∧ quiescent_WinRefIdeal (hWinRefIdeal := hWinRefIdeal)
    ∧ quiescent_Wtok (hWtok := hWtok)
    ∧ quiescent_WtokIdeal (hWtokIdeal := hWtokIdeal)
    ∧ quiescent_WtokRefIdeal (hWtokRefIdeal := hWtokRefIdeal)
    ∧ preserves_Loss_LossIdeal
    ∧ algebraic_LossIdeal_LossRefIdeal (hLossIdeal := hLossIdeal) (hLossRefIdeal := hLossRefIdeal)
    ∧ preserves_Mix_MixIdeal
    ∧ algebraic_MixIdeal_MixRefIdeal (hMixIdeal := hMixIdeal) (hMixRefIdeal := hMixRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Attnf_AttnfIdeal
    ∧ algebraic_AttnfIdeal_AttnfRefIdeal_pre_attnf_finite (hAttnfIdeal := hAttnfIdeal) (hAttnfRefIdeal := hAttnfRefIdeal) (hPre_attnf_finite := hPre_attnf_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Conv_ConvIdeal
    ∧ preserves_Proj_ProjIdeal
    ∧ algebraic_ProjIdeal_ProjRefIdeal (hProjIdeal := hProjIdeal) (hProjRefIdeal := hProjRefIdeal)
    ∧ preserves_Mixo_MixoIdeal
    ∧ algebraic_MixoIdeal_MixoRefIdeal (hMixoIdeal := hMixoIdeal) (hMixoRefIdeal := hMixoRefIdeal)
    ∧ preserves_Mixb_MixbIdeal
    ∧ algebraic_MixbIdeal_MixbRefIdeal (hMixbIdeal := hMixbIdeal) (hMixbRefIdeal := hMixbRefIdeal)
    ∧ preserves_Wcat_WcatIdeal
    ∧ algebraic_WcatIdeal_WcatRefIdeal (hWcatIdeal := hWcatIdeal) (hWcatRefIdeal := hWcatRefIdeal)
    ∧ preserves_Wout_WoutIdeal
    ∧ algebraic_WoutIdeal_WoutRefIdeal (hWoutIdeal := hWoutIdeal) (hWoutRefIdeal := hWoutRefIdeal)
    ∧ preserves_Win_WinIdeal
    ∧ algebraic_WinIdeal_WinRefIdeal (hWinIdeal := hWinIdeal) (hWinRefIdeal := hWinRefIdeal)
    ∧ preserves_Wtok_WtokIdeal
    ∧ algebraic_WtokIdeal_WtokRefIdeal (hWtokIdeal := hWtokIdeal) (hWtokRefIdeal := hWtokRefIdeal)
-- ==== Pre_attn_finite.lean ====
abbrev S8 : Shape := ⟨1, ![8]⟩
abbrev S4096x768 : Shape := ⟨2, ![4096, 768]⟩
abbrev S4096x512 : Shape := ⟨2, ![4096, 512]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S4096x768 : S_.BroadcastsInDim S4096x768 (![] : Fin 0 → Fin S4096x768.rank)
  reducesTo_S4096x768_S_d0_1 : S4096x768.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S8 .f32) (main_arg1 : FVec F S4096x768 .f32) (main_arg2 : FVec F S4096x512 .f32) : IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  main_v13
-- ==== Pre_attnf_finite.lean ====
abbrev S8 : Shape := ⟨1, ![8]⟩
abbrev S4096x768 : Shape := ⟨2, ![4096, 768]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S4096x768 : S_.BroadcastsInDim S4096x768 (![] : Fin 0 → Fin S4096x768.rank)
  reducesTo_S4096x768_S_d0_1 : S4096x768.ReducesTo [0, 1] S_

variable [Facts]

def fn {F : FTy → Type} [FloatOps F] (main_arg0 : FVec F S8 .f32) (main_arg1 : FVec F S4096x768 .f32) : IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  main_v8
-- ==== Pre_ffn_finite.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1024 .f32) (main_arg2 : FVec F S1024x5632 .f32) (main_arg3 : FVec F S2816x1024 .f32) (main_arg4 : FVec F S4096x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x5632 .f32 := Host.absf main_arg2
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Loss.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x1, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Mix.lean ====
abbrev S4096x1024 : Shape := ⟨2, ![4096, 1024]⟩
abbrev S1024 : Shape := ⟨1, ![1024]⟩
abbrev S4096x1792 : Shape := ⟨2, ![4096, 1792]⟩
abbrev S1024x1792 : Shape := ⟨2, ![1024, 1792]⟩
abbrev S4096x512 : Shape := ⟨2, ![4096, 512]⟩
abbrev S4096x256 : Shape := ⟨2, ![4096, 256]⟩
abbrev S1x1024 : Shape := ⟨2, ![1, 1024]⟩
abbrev S1792x1024 : Shape := ⟨2, ![1792, 1024]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 15
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1792, .f32⟩
  | .hbm, ⟨4, _⟩ => ⟨S1024x1792, .f32⟩
  | .hbm, ⟨5, _⟩ => ⟨S4096x1792, .bf16⟩
  | .hbm, ⟨6, _⟩ => ⟨S4096x512, .bf16⟩
  | .hbm, ⟨7, _⟩ => ⟨S4096x256, .bf16⟩
  | .hbm, ⟨8, _⟩ => ⟨S4096x1024, .bf16⟩
  | .hbm, ⟨9, _⟩ => ⟨S1x1024, .f32⟩
  | .hbm, ⟨10, _⟩ => ⟨S1792x1024, .f32⟩
  | .hbm, ⟨11, _⟩ => ⟨S1792x1024, .bf16⟩
  | .hbm, ⟨12, _⟩ => ⟨S4096x1024, .f32⟩
  | .hbm, ⟨13, _⟩ => ⟨S1x1024, .f32⟩
  | .hbm, ⟨14, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x512, .bf16⟩
  | .local _ .vmem, ⟨6, _⟩ => ⟨S512x512, .bf16⟩
  | .local _ .vmem, ⟨7, _⟩ => ⟨S512x256, .bf16⟩
  | .local _ .vmem, ⟨8, _⟩ => ⟨S512x256, .bf16⟩
  | .local _ .vmem, ⟨9, _⟩ => ⟨S512x1024, .bf16⟩
  | .local _ .vmem, ⟨10, _⟩ => ⟨S512x1024, .bf16⟩
  | .local _ .vmem, ⟨11, _⟩ => ⟨S1792x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1792x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MixRefIdeal.lean ====
abbrev S4096x1024 : Shape := ⟨2, ![4096, 1024]⟩
abbrev S1024 : Shape := ⟨1, ![1024]⟩
abbrev S4096x1792 : Shape := ⟨2, ![4096, 1792]⟩
abbrev S1024x1792 : Shape := ⟨2, ![1024, 1792]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1792, .f32⟩
  | .hbm, ⟨4, _⟩ => ⟨S1024x1792, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1792, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | .hbm, ⟨54, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Attn.lean ====
abbrev S8 : Shape := ⟨1, ![8]⟩
abbrev S4096x768 : Shape := ⟨2, ![4096, 768]⟩
abbrev S4096x512 : Shape := ⟨2, ![4096, 512]⟩
abbrev S1x8 : Shape := ⟨2, ![1, 8]⟩
abbrev S2x512x256 : Shape := ⟨3, ![2, 512, 256]⟩
abbrev S_ : Shape := ⟨0, ![]⟩
abbrev S4096x256 : Shape := ⟨2, ![4096, 256]⟩
abbrev S8x128 : Shape := ⟨2, ![8, 128]⟩
abbrev S128x512 : Shape := ⟨2, ![128, 512]⟩
abbrev S128x256 : Shape := ⟨2, ![128, 256]⟩
abbrev S512x256 : Shape := ⟨2, ![512, 256]⟩
abbrev S128x64 : Shape := ⟨2, ![128, 64]⟩
abbrev S512x64 : Shape := ⟨2, ![512, 64]⟩
abbrev S256x64 : Shape := ⟨2, ![256, 64]⟩
abbrev S1x512x256 : Shape := ⟨3, ![1, 512, 256]⟩
abbrev S512x1 : Shape := ⟨2, ![512, 1]⟩
abbrev S1x1 : Shape := ⟨2, ![1, 1]⟩
abbrev S512 : Shape := ⟨1, ![512]⟩
abbrev S1x128 : Shape := ⟨2, ![1, 128]⟩
abbrev S128x1 : Shape := ⟨2, ![128, 1]⟩
abbrev S1 : Shape := ⟨1, ![1]⟩

abbrev nBuf : Space → Nat
  | .hbm => 49
  | .vmem => 15
  | .smem => 1
  | _ => 0

abbrev bufTy : (tb : Table) → Fin (tcTables nBuf tb) → BufTy
  | .hbm, ⟨0, _⟩ => ⟨S8, .f32⟩
  | .hbm, ⟨1, _⟩ => ⟨S4096x768, .f32⟩
  | .hbm, ⟨2, _⟩ => ⟨S4096x512, .f32⟩
  | .hbm, ⟨3, _⟩ => ⟨S1x8, .f32⟩
  | .hbm, ⟨4, _⟩ => ⟨S2x512x256, .i32⟩
  | .hbm, ⟨5, _⟩ => ⟨S2x512x256, .i32⟩
  | .hbm, ⟨6, _⟩ => ⟨S2x512x256, .i32⟩
  | .hbm, ⟨7, _⟩ => ⟨S_, .i32⟩
  | .hbm, ⟨8, _⟩ => ⟨S2x512x256, .i32⟩
  | .hbm, ⟨9, _⟩ => ⟨S2x512x256, .i32⟩
  | .hbm, ⟨10, _⟩ => ⟨S_, .i32⟩
  | .hbm, ⟨11, _⟩ => ⟨S2x512x256, .i32⟩
  | .hbm, ⟨12, _⟩ => ⟨S2x512x256, .i32⟩
  | .hbm, ⟨13, _⟩ => ⟨S2x512x256, .i32⟩
  | .hbm, ⟨14, _⟩ => ⟨S_, .i32⟩
  | .hbm, ⟨15, _⟩ => ⟨S2x512x256, .i32⟩
  | .hbm, ⟨16, _⟩ => ⟨S2x512x256, .i32⟩
  | .hbm, ⟨17, _⟩ => ⟨S_, .i32⟩
  | .hbm, ⟨18, _⟩ => ⟨S2x512x256, .i32⟩
  | .hbm, ⟨19, _⟩ => ⟨S2x512x256, .i32⟩
  | .hbm, ⟨20, _⟩ => ⟨S2x512x256, .i32⟩
  | .hbm, ⟨21, _⟩ => ⟨S_, .i32⟩
  | .hbm, ⟨22, _⟩ => ⟨S2x512x256, .i32⟩
  | .hbm, ⟨23, _⟩ => ⟨S2x512x256, .i32⟩
  | .hbm, ⟨24, _⟩ => ⟨S2x512x256, .f32⟩
  | .hbm, ⟨25, _⟩ => ⟨S2x512x256, .f32⟩
  | .hbm, ⟨26, _⟩ => ⟨S_, .f32⟩
  | .hbm, ⟨27, _⟩ => ⟨S2x512x256, .f32⟩
  | .hbm, ⟨28, _⟩ => ⟨S2x512x256, .f32⟩
  | .hbm, ⟨29, _⟩ => ⟨S2x512x256, .f32⟩
  | .hbm, ⟨30, _⟩ => ⟨S_, .i32⟩
  | .hbm, ⟨31, _⟩ => ⟨S2x512x256, .i32⟩
  | .hbm, ⟨32, _⟩ => ⟨S2x512x256, .i1⟩
  | .hbm, ⟨33, _⟩ => ⟨S_, .i32⟩
  | .hbm, ⟨34, _⟩ => ⟨S2x512x256, .i32⟩
  | .hbm, ⟨35, _⟩ => ⟨S2x512x256, .i1⟩
  | .hbm, ⟨36, _⟩ => ⟨S2x512x256, .i1⟩
  | .hbm, ⟨37, _⟩ => ⟨S2x512x256, .f32⟩
  | .hbm, ⟨38, _⟩ => ⟨S2x512x256, .f32⟩
  | .hbm, ⟨39, _⟩ => ⟨S2x512x256, .f32⟩
  | .hbm, ⟨40, _⟩ => ⟨S_, .f32⟩
  | .hbm, ⟨41, _⟩ => ⟨S_, .f32⟩
  | .hbm, ⟨42, _⟩ => ⟨S2x512x256, .f32⟩
  | .hbm, ⟨43, _⟩ => ⟨S2x512x256, .f32⟩
  | .hbm, ⟨44, _⟩ => ⟨S4096x768, .bf16⟩
  | .hbm, ⟨45, _⟩ => ⟨S4096x512, .bf16⟩
  | .hbm, ⟨46, _⟩ => ⟨S4096x512, .bf16⟩
  | .hbm, ⟨47, _⟩ => ⟨S4096x256, .bf16⟩
  | .hbm, ⟨48, _⟩ => ⟨S8x128, .f32⟩
  | .local _ .vmem, ⟨0, _⟩ => ⟨S2x512x256, .f32⟩
  | .local _ .vmem, ⟨1, _⟩ => ⟨S128x512, .bf16⟩
  | .local _ .vmem, ⟨2, _⟩ => ⟨S128x512, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .bf16⟩
  | .local _ .vmem, ⟨11, _⟩ => ⟨S128x256, .bf16⟩
  | .local _ .vmem, ⟨12, _⟩ => ⟨S128x256, .bf16⟩
  | .local _ .vmem, ⟨13, _⟩ => ⟨S8x128, .f32⟩
  | .local _ .vmem, ⟨14, _⟩ => ⟨S128x256, .f32⟩
  | .local _ .smem, ⟨0, _⟩ => ⟨S1x8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_c_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_call0_v0 : Ref sig .tc := ⟨.hbm, 41, rfl⟩
abbrev main_call0_v1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32_0 : Ref sig .tc := ⟨.hbm, 46, rfl⟩
abbrev main_v32_1 : Ref sig .tc := ⟨.hbm, 47, rfl⟩
abbrev main_v32_2 : Ref sig .tc := ⟨.hbm, 48, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let c0_i32 : BitVec 32 := 0#32
  ![v0.toNat, c2_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AttnIdeal.lean ====
variable {F : FTy → Type} [FloatOps F] [Named F]
def κ : String → Option EReal := fun
  | "mask" => some ⊥
  | _ => none
-- ==== AttnRefIdeal.lean ====
abbrev S8 : Shape := ⟨1, ![8]⟩
abbrev S4096x768 : Shape := ⟨2, ![4096, 768]⟩
abbrev S4096x512 : Shape := ⟨2, ![4096, 512]⟩
abbrev S4096x128 : Shape := ⟨2, ![4096, 128]⟩
abbrev S1x4096x8x64 : Shape := ⟨4, ![1, 4096, 8, 64]⟩
abbrev S1x4096x2x64 : Shape := ⟨4, ![1, 4096, 2, 64]⟩
abbrev S1x32x128x2x4x64 : Shape := ⟨6, ![1, 32, 128, 2, 4, 64]⟩
abbrev S1x32x128x2x64 : Shape := ⟨5, ![1, 32, 128, 2, 64]⟩
abbrev S1x1x128x2x64 : Shape := ⟨5, ![1, 1, 128, 2, 64]⟩
abbrev S_ : Shape := ⟨0, ![]⟩
abbrev S1x31x128x2x64 : Shape := ⟨5, ![1, 31, 128, 2, 64]⟩
abbrev S1x32x256x2x64 : Shape := ⟨5, ![1, 32, 256, 2, 64]⟩
abbrev S1x2x32x256x128x4 : Shape := ⟨6, ![1, 2, 32, 256, 128, 4]⟩
abbrev S1x2x4x32x128x256 : Shape := ⟨6, ![1, 2, 4, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x1x1x32x128x256 : Shape := ⟨6, ![1, 1, 1, 32, 128, 256]⟩
abbrev S2x4x1x128x256 : Shape := ⟨5, ![2, 4, 1, 128, 256]⟩
abbrev S1x2x4x1x128x256 : Shape := ⟨6, ![1, 2, 4, 1, 128, 256]⟩
abbrev S1x2x4x1x1 : Shape := ⟨5, ![1, 2, 4, 1, 1]⟩
abbrev S1x2x4x32x128 : Shape := ⟨5, ![1, 2, 4, 32, 128]⟩
abbrev S1x2x4x32x128x1 : Shape := ⟨6, ![1, 2, 4, 32, 128, 1]⟩
abbrev S1x32x2x64x4x128 : Shape := ⟨6, ![1, 32, 2, 64, 4, 128]⟩
abbrev S1x4096x512 : Shape := ⟨3, ![1, 4096, 512]⟩
abbrev S1x32x2x4x128x256 : Shape := ⟨6, ![1, 32, 2, 4, 128, 256]⟩
abbrev S1x32x2x64x256 : Shape := ⟨5, ![1, 32, 2, 64, 256]⟩
abbrev S2x4x32x128 : Shape := ⟨4, ![2, 4, 32, 128]⟩
abbrev S1x2x4 : Shape := ⟨3, ![1, 2, 4]⟩
abbrev S1x2x32x128x4x64 : Shape := ⟨6, ![1, 2, 32, 128, 4, 64]⟩
abbrev S1x2x32x256x64 : Shape := ⟨5, ![1, 2, 32, 256, 64]⟩
abbrev S4096x256 : Shape := ⟨2, ![4096, 256]⟩
abbrev S8x1 : Shape := ⟨2, ![8, 1]⟩
abbrev S8x128 : Shape := ⟨2, ![8, 128]⟩

abbrev nBuf : Space → Nat
  | .hbm => 242
  | .vmem => 0
  | .smem => 0
  | _ => 0

abbrev hbmTy0_0 (i : Nat) : BufTy := match i % 128 with
  | 0 => ⟨S8, .f32⟩
  | 1 => ⟨S4096x768, .f32⟩
  | 2 => ⟨S4096x512, .f32⟩
  | 3 => ⟨S4096x512, .f32⟩
  | 4 => ⟨S4096x128, .f32⟩
  | 5 => ⟨S4096x128, .f32⟩
  | 6 => ⟨S1x4096x8x64, .f32⟩
  | 7 => ⟨S1x4096x2x64, .f32⟩
  | 8 => ⟨S1x4096x2x64, .f32⟩
  | 9 => ⟨S1x32x128x2x4x64, .f32⟩
  | 10 => ⟨S1x32x128x2x64, .f32⟩
  | 11 => ⟨S1x1x128x2x64, .f32⟩
  | 12 => ⟨S_, .f32⟩
  | 13 => ⟨S1x1x128x2x64, .f32⟩
  | 14 => ⟨S1x31x128x2x64, .f32⟩
  | 15 => ⟨S1x32x128x2x64, .f32⟩
  | 16 => ⟨S_, .f32⟩
  | 17 => ⟨S1x1x128x2x64, .f32⟩
  | 18 => ⟨S1x32x256x2x64, .f32⟩
  | 19 => ⟨S1x32x128x2x64, .f32⟩
  | 20 => ⟨S1x1x128x2x64, .f32⟩
  | 21 => ⟨S_, .f32⟩
  | 22 => ⟨S1x1x128x2x64, .f32⟩
  | 23 => ⟨S1x31x128x2x64, .f32⟩
  | 24 => ⟨S1x32x128x2x64, .f32⟩
  | 25 => ⟨S_, .f32⟩
  | 26 => ⟨S1x1x128x2x64, .f32⟩
  | 27 => ⟨S1x32x256x2x64, .f32⟩
  | 28 => ⟨S1x2x32x256x128x4, .f32⟩
  | 29 => ⟨S1x2x4x32x128x256, .f32⟩
  | 30 => ⟨S_, .f32⟩
  | 31 => ⟨S1x2x4x32x128x256, .f32⟩
  | 32 => ⟨S1x2x4x32x128x256, .f32⟩
  | 33 => ⟨S128, .i32⟩
  | 34 => ⟨S128x1, .i32⟩
  | 35 => ⟨S256, .i32⟩
  | 36 => ⟨S1x256, .i32⟩
  | 37 => ⟨S_, .i32⟩
  | 38 => ⟨S128x1, .i32⟩
  | 39 => ⟨S128x1, .i32⟩
  | 40 => ⟨S128x256, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S_, .i32⟩
  | 47 => ⟨S128x256, .i32⟩
  | 48 => ⟨S128x256, .i1⟩
  | 49 => ⟨S128x256, .i1⟩
  | 50 => ⟨S32, .i32⟩
  | 51 => ⟨S32x1x1, .i32⟩
  | 52 => ⟨S1x128x256, .i1⟩
  | 53 => ⟨S_, .i32⟩
  | 54 => ⟨S32x1x1, .i32⟩
  | 55 => ⟨S32x1x1, .i1⟩
  | 56 => ⟨S_, .i32⟩
  | 57 => ⟨S1x256, .i32⟩
  | 58 => ⟨S1x256, .i1⟩
  | 59 => ⟨S1x1x256, .i1⟩
  | 60 => ⟨S32x1x256, .i1⟩
  | 61 => ⟨S32x1x256, .i1⟩
  | 62 => ⟨S32x1x256, .i1⟩
  | 63 => ⟨S32x128x256, .i1⟩
  | 64 => ⟨S32x128x256, .i1⟩
  | 65 => ⟨S32x128x256, .i1⟩
  | 66 => ⟨S8, .f32⟩
  | 67 => ⟨S_, .f32⟩
  | 68 => ⟨S8, .f32⟩
  | 69 => ⟨S8, .f32⟩
  | 70 => ⟨S_, .f32⟩
  | 71 => ⟨S8, .f32⟩
  | 72 => ⟨S8, .f32⟩
  | 73 => ⟨S_, .f32⟩
  | 74 => ⟨S8, .f32⟩
  | 75 => ⟨S8, .f32⟩
  | 76 => ⟨S_, .f32⟩
  | 77 => ⟨S8, .f32⟩
  | 78 => ⟨S8, .f32⟩
  | 79 => ⟨S8, .f32⟩
  | 80 => ⟨S2x4, .f32⟩
  | 81 => ⟨S2x4x1x1, .f32⟩
  | 82 => ⟨S2x4x1x1, .f32⟩
  | 83 => ⟨S128x256, .i32⟩
  | 84 => ⟨S128x256, .f32⟩
  | 85 => ⟨S1x1x128x256, .f32⟩
  | 86 => ⟨S2x4x128x256, .f32⟩
  | 87 => ⟨S2x4x128x256, .f32⟩
  | 88 => ⟨S2x4x128x256, .f32⟩
  | 89 => ⟨S1x1x1x32x128x256, .i1⟩
  | 90 => ⟨S2x4x1x128x256, .f32⟩
  | 91 => ⟨S1x2x4x1x128x256, .f32⟩
  | 92 => ⟨S1x2x4x32x128x256, .f32⟩
  | 93 => ⟨S1x2x4x32x128x256, .f32⟩
  | 94 => ⟨S_, .f32⟩
  | 95 => ⟨S_, .f32⟩
  | 96 => ⟨S1x2x4x32x128x256, .i1⟩
  | 97 => ⟨S1x2x4x32x128x256, .f32⟩
  | 98 => ⟨S1x2x4x32x128x256, .f32⟩
  | 99 => ⟨S_, .f32⟩
  | 100 => ⟨S1x2x4x32x128x256, .f32⟩
  | 101 => ⟨S2x4, .f32⟩
  | 102 => ⟨S1x2x4x1x1, .f32⟩
  | 103 => ⟨S_, .f32⟩
  | 104 => ⟨S1x2x4x32x128, .f32⟩
  | 105 => ⟨S1x2x4x32x128x1, .f32⟩
  | 106 => ⟨S1x2x4x32x128x256, .f32⟩
  | 107 => ⟨S1x2x4x32x128x256, .i1⟩
  | 108 => ⟨S1x2x4x32x128x256, .f32⟩
  | 109 => ⟨S_, .f32⟩
  | 110 => ⟨S1x2x4x32x128, .f32⟩
  | 111 => ⟨S1x2x4x32x128, .f32⟩
  | 112 => ⟨S1x2x4x32x128, .f32⟩
  | 113 => ⟨S1x2x4x32x128, .f32⟩
  | 114 => ⟨S1x2x4x32x128, .i1⟩
  | 115 => ⟨S1x2x4x32x128, .f32⟩
  | 116 => ⟨S1x2x4x32x128, .i1⟩
  | 117 => ⟨S_, .f32⟩
  | 118 => ⟨S1x2x4x32x128, .f32⟩
  | 119 => ⟨S_, .f32⟩
  | 120 => ⟨S1x2x4x32x128, .f32⟩
  | 121 => ⟨S_, .f32⟩
  | 122 => ⟨S1x2x4x32x128, .f32⟩
  | 123 => ⟨S1x2x4x32x128, .f32⟩
  | 124 => ⟨S1x2x4x32x128, .f32⟩
  | 125 => ⟨S1x2x4x32x128, .f32⟩
  | 126 => ⟨S1x2x4x32x128, .i1⟩
  | 127 => ⟨S1x2x4x32x128, .f32⟩
  | _ => ⟨S8, .f32⟩

abbrev hbmTy0_1 (i : Nat) : BufTy := match i % 128 with
  | 0 => ⟨S1x2x4x32x128, .i1⟩
  | 1 => ⟨S_, .f32⟩
  | 2 => ⟨S1x2x4x32x128, .f32⟩
  | 3 => ⟨S_, .f32⟩
  | 4 => ⟨S1x2x4x32x128, .f32⟩
  | 5 => ⟨S_, .f32⟩
  | 6 => ⟨S1x2x4x32x128, .f32⟩
  | 7 => ⟨S1x2x4x32x128, .f32⟩
  | 8 => ⟨S1x2x4x32x128, .f32⟩
  | 9 => ⟨S1x2x4x32x128x1, .f32⟩
  | 10 => ⟨S1x2x4x32x128x256, .f32⟩
  | 11 => ⟨S1x2x4x32x128x256, .f32⟩
  | 12 => ⟨S1x2x4x32x128x256, .f32⟩
  | 13 => ⟨S_, .f32⟩
  | 14 => ⟨S1x2x4x32x128, .f32⟩
  | 15 => ⟨S1x2x4x32x128, .f32⟩
  | 16 => ⟨S1x2x4x32x128, .f32⟩
  | 17 => ⟨S1x2x4x32x128, .f32⟩
  | 18 => ⟨S1x2x4x32x128, .f32⟩
  | 19 => ⟨S1x2x4x32x128x1, .f32⟩
  | 20 => ⟨S1x2x4x32x128x256, .f32⟩
  | 21 => ⟨S1x2x4x32x128x256, .f32⟩
  | 22 => ⟨S1x2x4x32x128x1, .f32⟩
  | 23 => ⟨S_, .f32⟩
  | 24 => ⟨S1x2x4x32x128x1, .f32⟩
  | 25 => ⟨S1x2x4x32x128x1, .f32⟩
  | 26 => ⟨S1x32x2x64x4x128, .f32⟩
  | 27 => ⟨S1x32x128x2x4x64, .f32⟩
  | 28 => ⟨S1x4096x512, .f32⟩
  | 29 => ⟨S4096x512, .f32⟩
  | 30 => ⟨S1x4096x512, .f32⟩
  | 31 => ⟨S1x32x128x2x4x64, .f32⟩
  | 32 => ⟨S1x32x2x64x4x128, .f32⟩
  | 33 => ⟨S1x32x2x4x128x256, .f32⟩
  | 34 => ⟨S1x2x4x32x128x256, .f32⟩
  | 35 => ⟨S1x32x2x64x256, .f32⟩
  | 36 => ⟨S1x32x256x2x64, .f32⟩
  | 37 => ⟨S1x2x4x32x128x256, .f32⟩
  | 38 => ⟨S1x2x4x32x128x256, .f32⟩
  | 39 => ⟨S1x2x4x32x128x256, .f32⟩
  | 40 => ⟨S_, .f32⟩
  | 41 => ⟨S1x2x4x32x128, .f32⟩
  | 42 => ⟨S1x2x4x32x128x1, .f32⟩
  | 43 => ⟨S1x2x4x32x128x1, .f32⟩
  | 44 => ⟨S1x2x4x32x128x256, .f32⟩
  | 45 => ⟨S1x2x4x32x128x256, .f32⟩
  | 46 => ⟨S_, .f32⟩
  | 47 => ⟨S2x4x32x128, .f32⟩
  | 48 => ⟨S1x2x4x32x128, .f32⟩
  | 49 => ⟨S1x2x4x32x128, .f32⟩
  | 50 => ⟨S_, .f32⟩
  | 51 => ⟨S1x2x4, .f32⟩
  | 52 => ⟨S1x2x4x1x1, .f32⟩
  | 53 => ⟨S1x2x4x32x128, .f32⟩
  | 54 => ⟨S1x2x4x32x128x256, .f32⟩
  | 55 => ⟨S1x2x4x32x128x256, .f32⟩
  | 56 => ⟨S1x2x4x32x128x256, .f32⟩
  | 57 => ⟨S1x2x4x32x128x256, .f32⟩
  | 58 => ⟨S_, .f32⟩
  | 59 => ⟨S1x2x4x32x128, .f32⟩
  | 60 => ⟨S1x2x4x32x128x1, .f32⟩
  | 61 => ⟨S_, .f32⟩
  | 62 => ⟨S2x4x32x128, .f32⟩
  | 63 => ⟨S1x2x4x32x128, .f32⟩
  | 64 => ⟨S1x2x4x32x128, .f32⟩
  | 65 => ⟨S1x2x4x32x128, .f32⟩
  | 66 => ⟨S_, .f32⟩
  | 67 => ⟨S1x2x4, .f32⟩
  | 68 => ⟨S1x2x4x1x1, .f32⟩
  | 69 => ⟨S1x2x4x1x1, .f32⟩
  | 70 => ⟨S1x2x4x32x128, .f32⟩
  | 71 => ⟨S1x2x4x32x128, .f32⟩
  | 72 => ⟨S1x2x4x32x128x256, .f32⟩
  | 73 => ⟨S1x2x4x32x128x256, .f32⟩
  | 74 => ⟨S1x2x4x32x128x256, .f32⟩
  | 75 => ⟨S_, .f32⟩
  | 76 => ⟨S2x4, .f32⟩
  | 77 => ⟨S8, .f32⟩
  | 78 => ⟨S_, .f32⟩
  | 79 => ⟨S1x2x4x32x128x256, .f32⟩
  | 80 => ⟨S1x2x4x32x128x256, .f32⟩
  | 81 => ⟨S_, .f32⟩
  | 82 => ⟨S1x2x4x32x128x256, .f32⟩
  | 83 => ⟨S1x2x4x32x128x256, .f32⟩
  | 84 => ⟨S1x2x32x256x128x4, .f32⟩
  | 85 => ⟨S1x2x32x128x4x64, .f32⟩
  | 86 => ⟨S1x32x128x2x4x64, .f32⟩
  | 87 => ⟨S1x2x32x256x64, .f32⟩
  | 88 => ⟨S1x32x256x2x64, .f32⟩
  | 89 => ⟨S1x32x128x2x64, .f32⟩
  | 90 => ⟨S1x32x128x2x64, .f32⟩
  | 91 => ⟨S1x1x128x2x64, .f32⟩
  | 92 => ⟨S1x31x128x2x64, .f32⟩
  | 93 => ⟨S_, .f32⟩
  | 94 => ⟨S1x32x128x2x64, .f32⟩
  | 95 => ⟨S1x32x128x2x64, .f32⟩
  | 96 => ⟨S1x4096x2x64, .f32⟩
  | 97 => ⟨S1x32x128x2x64, .f32⟩
  | 98 => ⟨S1x32x128x2x64, .f32⟩
  | 99 => ⟨S1x1x128x2x64, .f32⟩
  | 100 => ⟨S1x31x128x2x64, .f32⟩
  | 101 => ⟨S_, .f32⟩
  | 102 => ⟨S1x32x128x2x64, .f32⟩
  | 103 => ⟨S1x32x128x2x64, .f32⟩
  | 104 => ⟨S1x4096x2x64, .f32⟩
  | 105 => ⟨S1x4096x8x64, .f32⟩
  | 106 => ⟨S4096x128, .f32⟩
  | 107 => ⟨S4096x128, .f32⟩
  | 108 => ⟨S4096x512, .f32⟩
  | 109 => ⟨S4096x512, .bf16⟩
  | 110 => ⟨S4096x256, .f32⟩
  | 111 => ⟨S4096x256, .bf16⟩
  | 112 => ⟨S8x1, .f32⟩
  | 113 => ⟨S8x128, .f32⟩
  | _ => ⟨S8, .f32⟩

abbrev hbmTy (i : Nat) : BufTy := match i / 128 with
  | 0 => hbmTy0_0 i
  | 1 => hbmTy0_1 i
  | _ => ⟨S8, .f32⟩

abbrev bufTy : (tb : Table) → Fin (tcTables nBuf tb) → BufTy
  | .hbm, ⟨i, _⟩ => hbmTy i
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_c_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_c_6 : Ref sig .tc := ⟨.hbm, 53, rfl⟩
abbrev main_v42 : Ref sig .tc := ⟨.hbm, 54, rfl⟩
abbrev main_v43 : Ref sig .tc := ⟨.hbm, 55, rfl⟩
abbrev main_c_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_8 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_12 : Ref sig .tc := ⟨.hbm, 94, rfl⟩
abbrev main_call0_v0 : Ref sig .tc := ⟨.hbm, 95, rfl⟩
abbrev main_v77_1 : Ref sig .tc := ⟨.hbm, 96, rfl⟩
abbrev main_call0_v2 : Ref sig .tc := ⟨.hbm, 97, rfl⟩
abbrev main_v77_0 : Ref sig .tc := ⟨.hbm, 98, rfl⟩
abbrev main_call0_cst : Ref sig .tc := ⟨.hbm, 99, rfl⟩
abbrev main_v77_2 : Ref sig .tc := ⟨.hbm, 100, rfl⟩
abbrev main_v78 : Ref sig .tc := ⟨.hbm, 101, rfl⟩
abbrev main_v79 : Ref sig .tc := ⟨.hbm, 102, rfl⟩
abbrev main_cst_13 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_14 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_15 : Ref sig .tc := ⟨.hbm, 117, rfl⟩
abbrev main_v92 : Ref sig .tc := ⟨.hbm, 118, rfl⟩
abbrev main_cst_16 : Ref sig .tc := ⟨.hbm, 119, rfl⟩
abbrev main_v93 : Ref sig .tc := ⟨.hbm, 120, rfl⟩
abbrev main_cst_17 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_18 : Ref sig .tc := ⟨.hbm, 129, rfl⟩
abbrev main_v101 : Ref sig .tc := ⟨.hbm, 130, rfl⟩
abbrev main_cst_19 : Ref sig .tc := ⟨.hbm, 131, rfl⟩
abbrev main_v102 : Ref sig .tc := ⟨.hbm, 132, rfl⟩
abbrev main_cst_20 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_cst_21 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_22 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_cst_23 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_cst_24 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_cst_25 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_cst_26 : Ref sig .tc := ⟨.hbm, 186, rfl⟩
abbrev main_v150 : Ref sig .tc := ⟨.hbm, 187, rfl⟩
abbrev main_v151 : Ref sig .tc := ⟨.hbm, 188, rfl⟩
abbrev main_cst_27 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_cst_28 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_cst_29 : Ref sig .tc := ⟨.hbm, 203, rfl⟩
abbrev main_v164 : Ref sig .tc := ⟨.hbm, 204, rfl⟩
abbrev main_v165 : Ref sig .tc := ⟨.hbm, 205, rfl⟩
abbrev main_call1_cst : Ref sig .tc := ⟨.hbm, 206, rfl⟩
abbrev main_call1_v0 : Ref sig .tc := ⟨.hbm, 207, rfl⟩
abbrev main_v166 : Ref sig .tc := ⟨.hbm, 208, rfl⟩
abbrev main_cst_30 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_cst_31 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_cst_32 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩

abbrev nD : Nat := 1
abbrev τ : Topo := Topo.v7x

variable {F : FTy → Type} [FloatOps F]

def κ : String → Option EReal := fun
  | "mask" => some ⊥
  | _ => none
-- ==== Attnf.lean ====
abbrev S8 : Shape := ⟨1, ![8]⟩
abbrev S4096x768 : Shape := ⟨2, ![4096, 768]⟩
abbrev S1x8 : Shape := ⟨2, ![1, 8]⟩
abbrev S2x512x256 : Shape := ⟨3, ![2, 512, 256]⟩
abbrev S_ : Shape := ⟨0, ![]⟩
abbrev S4096x512 : Shape := ⟨2, ![4096, 512]⟩
abbrev S128x512 : Shape := ⟨2, ![128, 512]⟩
abbrev S128x256 : Shape := ⟨2, ![128, 256]⟩
abbrev S512x256 : Shape := ⟨2, ![512, 256]⟩
abbrev S128x64 : Shape := ⟨2, ![128, 64]⟩
abbrev S512x64 : Shape := ⟨2, ![512, 64]⟩
abbrev S256x64 : Shape := ⟨2, ![256, 64]⟩
abbrev S1x512x256 : Shape := ⟨3, ![1, 512, 256]⟩
abbrev S512x1 : Shape := ⟨2, ![512, 1]⟩
abbrev S1x1 : Shape := ⟨2, ![1, 1]⟩
abbrev S512 : Shape := ⟨1, ![512]⟩

abbrev nBuf : Space → Nat
  | .hbm => 45
  | .vmem => 9
  | .smem => 1
  | _ => 0

abbrev bufTy : (tb : Table) → Fin (tcTables nBuf tb) → BufTy
  | .hbm, ⟨0, _⟩ => ⟨S8, .f32⟩
  | .hbm, ⟨1, _⟩ => ⟨S4096x768, .f32⟩
  | .hbm, ⟨2, _⟩ => ⟨S1x8, .f32⟩
  | .hbm, ⟨3, _⟩ => ⟨S2x512x256, .i32⟩
  | .hbm, ⟨4, _⟩ => ⟨S2x512x256, .i32⟩
  | .hbm, ⟨5, _⟩ => ⟨S2x512x256, .i32⟩
  | .hbm, ⟨6, _⟩ => ⟨S_, .i32⟩
  | .hbm, ⟨7, _⟩ => ⟨S2x512x256, .i32⟩
  | .hbm, ⟨8, _⟩ => ⟨S2x512x256, .i32⟩
  | .hbm, ⟨9, _⟩ => ⟨S_, .i32⟩
  | .hbm, ⟨10, _⟩ => ⟨S2x512x256, .i32⟩
  | .hbm, ⟨11, _⟩ => ⟨S2x512x256, .i32⟩
  | .hbm, ⟨12, _⟩ => ⟨S2x512x256, .i32⟩
  | .hbm, ⟨13, _⟩ => ⟨S_, .i32⟩
  | .hbm, ⟨14, _⟩ => ⟨S2x512x256, .i32⟩
  | .hbm, ⟨15, _⟩ => ⟨S2x512x256, .i32⟩
  | .hbm, ⟨16, _⟩ => ⟨S_, .i32⟩
  | .hbm, ⟨17, _⟩ => ⟨S2x512x256, .i32⟩
  | .hbm, ⟨18, _⟩ => ⟨S2x512x256, .i32⟩
  | .hbm, ⟨19, _⟩ => ⟨S2x512x256, .i32⟩
  | .hbm, ⟨20, _⟩ => ⟨S_, .i32⟩
  | .hbm, ⟨21, _⟩ => ⟨S2x512x256, .i32⟩
  | .hbm, ⟨22, _⟩ => ⟨S2x512x256, .i32⟩
  | .hbm, ⟨23, _⟩ => ⟨S2x512x256, .f32⟩
  | .hbm, ⟨24, _⟩ => ⟨S2x512x256, .f32⟩
  | .hbm, ⟨25, _⟩ => ⟨S_, .f32⟩
  | .hbm, ⟨26, _⟩ => ⟨S2x512x256, .f32⟩
  | .hbm, ⟨27, _⟩ => ⟨S2x512x256, .f32⟩
  | .hbm, ⟨28, _⟩ => ⟨S2x512x256, .f32⟩
  | .hbm, ⟨29, _⟩ => ⟨S_, .i32⟩
  | .hbm, ⟨30, _⟩ => ⟨S2x512x256, .i32⟩
  | .hbm, ⟨31, _⟩ => ⟨S2x512x256, .i1⟩
  | .hbm, ⟨32, _⟩ => ⟨S_, .i32⟩
  | .hbm, ⟨33, _⟩ => ⟨S2x512x256, .i32⟩
  | .hbm, ⟨34, _⟩ => ⟨S2x512x256, .i1⟩
  | .hbm, ⟨35, _⟩ => ⟨S2x512x256, .i1⟩
  | .hbm, ⟨36, _⟩ => ⟨S2x512x256, .f32⟩
  | .hbm, ⟨37, _⟩ => ⟨S2x512x256, .f32⟩
  | .hbm, ⟨38, _⟩ => ⟨S2x512x256, .f32⟩
  | .hbm, ⟨39, _⟩ => ⟨S_, .f32⟩
  | .hbm, ⟨40, _⟩ => ⟨S_, .f32⟩
  | .hbm, ⟨41, _⟩ => ⟨S2x512x256, .f32⟩
  | .hbm, ⟨42, _⟩ => ⟨S2x512x256, .f32⟩
  | .hbm, ⟨43, _⟩ => ⟨S4096x768, .bf16⟩
  | .hbm, ⟨44, _⟩ => ⟨S4096x512, .bf16⟩
  | .local _ .vmem, ⟨0, _⟩ => ⟨S2x512x256, .f32⟩
  | .local _ .vmem, ⟨1, _⟩ => ⟨S128x512, .bf16⟩
  | .local _ .vmem, ⟨2, _⟩ => ⟨S128x512, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x512, .bf16⟩
  | .local _ .vmem, ⟨8, _⟩ => ⟨S128x512, .bf16⟩
  | .local _ .smem, ⟨0, _⟩ => ⟨S1x8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_4 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_call0_v0 : Ref sig .tc := ⟨.hbm, 40, rfl⟩
abbrev main_call0_v1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2x512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnfIdeal.lean ====
variable {F : FTy → Type} [FloatOps F] [Named F]
def κ : String → Option EReal := fun
  | "mask" => some ⊥
  | _ => none
-- ==== AttnfRefIdeal.lean ====
abbrev S8 : Shape := ⟨1, ![8]⟩
abbrev S4096x768 : Shape := ⟨2, ![4096, 768]⟩
abbrev S4096x512 : Shape := ⟨2, ![4096, 512]⟩
abbrev S4096x128 : Shape := ⟨2, ![4096, 128]⟩
abbrev S1x4096x8x64 : Shape := ⟨4, ![1, 4096, 8, 64]⟩
abbrev S1x4096x2x64 : Shape := ⟨4, ![1, 4096, 2, 64]⟩
abbrev S1x32x128x2x4x64 : Shape := ⟨6, ![1, 32, 128, 2, 4, 64]⟩
abbrev S1x32x128x2x64 : Shape := ⟨5, ![1, 32, 128, 2, 64]⟩
abbrev S1x1x128x2x64 : Shape := ⟨5, ![1, 1, 128, 2, 64]⟩
abbrev S_ : Shape := ⟨0, ![]⟩
abbrev S1x31x128x2x64 : Shape := ⟨5, ![1, 31, 128, 2, 64]⟩
abbrev S1x32x256x2x64 : Shape := ⟨5, ![1, 32, 256, 2, 64]⟩
abbrev S1x2x32x256x128x4 : Shape := ⟨6, ![1, 2, 32, 256, 128, 4]⟩
abbrev S1x2x4x32x128x256 : Shape := ⟨6, ![1, 2, 4, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S2x4 : Shape := ⟨2, ![2, 4]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x1x1x32x128x256 : Shape := ⟨6, ![1, 1, 1, 32, 128, 256]⟩
abbrev S2x4x1x128x256 : Shape := ⟨5, ![2, 4, 1, 128, 256]⟩
abbrev S1x2x4x1x128x256 : Shape := ⟨6, ![1, 2, 4, 1, 128, 256]⟩
abbrev S1x2x4x1x1 : Shape := ⟨5, ![1, 2, 4, 1, 1]⟩
abbrev S1x2x4x32x128 : Shape := ⟨5, ![1, 2, 4, 32, 128]⟩
abbrev S1x2x4x32x128x1 : Shape := ⟨6, ![1, 2, 4, 32, 128, 1]⟩
abbrev S1x32x2x64x4x128 : Shape := ⟨6, ![1, 32, 2, 64, 4, 128]⟩
abbrev S1x4096x512 : Shape := ⟨3, ![1, 4096, 512]⟩

abbrev nBuf : Space → Nat
  | .hbm => 118
  | .vmem => 0
  | .smem => 0
  | _ => 0

abbrev bufTy : (tb : Table) → Fin (tcTables nBuf tb) → BufTy
  | .hbm, ⟨0, _⟩ => ⟨S8, .f32⟩
  | .hbm, ⟨1, _⟩ => ⟨S4096x768, .f32⟩
  | .hbm, ⟨2, _⟩ => ⟨S4096x512, .f32⟩
  | .hbm, ⟨3, _⟩ => ⟨S4096x128, .f32⟩
  | .hbm, ⟨4, _⟩ => ⟨S4096x128, .f32⟩
  | .hbm, ⟨5, _⟩ => ⟨S1x4096x8x64, .f32⟩
  | .hbm, ⟨6, _⟩ => ⟨S1x4096x2x64, .f32⟩
  | .hbm, ⟨7, _⟩ => ⟨S1x4096x2x64, .f32⟩
  | .hbm, ⟨8, _⟩ => ⟨S1x32x128x2x4x64, .f32⟩
  | .hbm, ⟨9, _⟩ => ⟨S1x32x128x2x64, .f32⟩
  | .hbm, ⟨10, _⟩ => ⟨S1x1x128x2x64, .f32⟩
  | .hbm, ⟨11, _⟩ => ⟨S_, .f32⟩
  | .hbm, ⟨12, _⟩ => ⟨S1x1x128x2x64, .f32⟩
  | .hbm, ⟨13, _⟩ => ⟨S1x31x128x2x64, .f32⟩
  | .hbm, ⟨14, _⟩ => ⟨S1x32x128x2x64, .f32⟩
  | .hbm, ⟨15, _⟩ => ⟨S1x32x256x2x64, .f32⟩
  | .hbm, ⟨16, _⟩ => ⟨S1x32x128x2x64, .f32⟩
  | .hbm, ⟨17, _⟩ => ⟨S1x1x128x2x64, .f32⟩
  | .hbm, ⟨18, _⟩ => ⟨S_, .f32⟩
  | .hbm, ⟨19, _⟩ => ⟨S1x1x128x2x64, .f32⟩
  | .hbm, ⟨20, _⟩ => ⟨S1x31x128x2x64, .f32⟩
  | .hbm, ⟨21, _⟩ => ⟨S1x32x128x2x64, .f32⟩
  | .hbm, ⟨22, _⟩ => ⟨S1x32x256x2x64, .f32⟩
  | .hbm, ⟨23, _⟩ => ⟨S1x2x32x256x128x4, .f32⟩
  | .hbm, ⟨24, _⟩ => ⟨S1x2x4x32x128x256, .f32⟩
  | .hbm, ⟨25, _⟩ => ⟨S_, .f32⟩
  | .hbm, ⟨26, _⟩ => ⟨S1x2x4x32x128x256, .f32⟩
  | .hbm, ⟨27, _⟩ => ⟨S1x2x4x32x128x256, .f32⟩
  | .hbm, ⟨28, _⟩ => ⟨S128, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x256, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S128x256, .i1⟩
  | .hbm, ⟨45, _⟩ => ⟨S32, .i32⟩
  | .hbm, ⟨46, _⟩ => ⟨S32x1x1, .i32⟩
  | .hbm, ⟨47, _⟩ => ⟨S1x128x256, .i1⟩
  | .hbm, ⟨48, _⟩ => ⟨S_, .i32⟩
  | .hbm, ⟨49, _⟩ => ⟨S32x1x1, .i32⟩
  | .hbm, ⟨50, _⟩ => ⟨S32x1x1, .i1⟩
  | .hbm, ⟨51, _⟩ => ⟨S_, .i32⟩
  | .hbm, ⟨52, _⟩ => ⟨S1x256, .i32⟩
  | .hbm, ⟨53, _⟩ => ⟨S1x256, .i1⟩
  | .hbm, ⟨54, _⟩ => ⟨S1x1x256, .i1⟩
  | .hbm, ⟨55, _⟩ => ⟨S32x1x256, .i1⟩
  | .hbm, ⟨56, _⟩ => ⟨S32x1x256, .i1⟩
  | .hbm, ⟨57, _⟩ => ⟨S32x1x256, .i1⟩
  | .hbm, ⟨58, _⟩ => ⟨S32x128x256, .i1⟩
  | .hbm, ⟨59, _⟩ => ⟨S32x128x256, .i1⟩
  | .hbm, ⟨60, _⟩ => ⟨S32x128x256, .i1⟩
  | .hbm, ⟨61, _⟩ => ⟨S8, .f32⟩
  | .hbm, ⟨62, _⟩ => ⟨S_, .f32⟩
  | .hbm, ⟨63, _⟩ => ⟨S8, .f32⟩
  | .hbm, ⟨64, _⟩ => ⟨S8, .f32⟩
  | .hbm, ⟨65, _⟩ => ⟨S_, .f32⟩
  | .hbm, ⟨66, _⟩ => ⟨S8, .f32⟩
  | .hbm, ⟨67, _⟩ => ⟨S8, .f32⟩
  | .hbm, ⟨68, _⟩ => ⟨S_, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S8, .f32⟩
  | .hbm, ⟨73, _⟩ => ⟨S8, .f32⟩
  | .hbm, ⟨74, _⟩ => ⟨S8, .f32⟩
  | .hbm, ⟨75, _⟩ => ⟨S2x4, .f32⟩
  | .hbm, ⟨76, _⟩ => ⟨S2x4x1x1, .f32⟩
  | .hbm, ⟨77, _⟩ => ⟨S2x4x1x1, .f32⟩
  | .hbm, ⟨78, _⟩ => ⟨S128x256, .i32⟩
  | .hbm, ⟨79, _⟩ => ⟨S128x256, .f32⟩
  | .hbm, ⟨80, _⟩ => ⟨S1x1x128x256, .f32⟩
  | .hbm, ⟨81, _⟩ => ⟨S2x4x128x256, .f32⟩
  | .hbm, ⟨82, _⟩ => ⟨S2x4x128x256, .f32⟩
  | .hbm, ⟨83, _⟩ => ⟨S2x4x128x256, .f32⟩
  | .hbm, ⟨84, _⟩ => ⟨S1x1x1x32x128x256, .i1⟩
  | .hbm, ⟨85, _⟩ => ⟨S2x4x1x128x256, .f32⟩
  | .hbm, ⟨86, _⟩ => ⟨S1x2x4x1x128x256, .f32⟩
  | .hbm, ⟨87, _⟩ => ⟨S1x2x4x32x128x256, .f32⟩
  | .hbm, ⟨88, _⟩ => ⟨S1x2x4x32x128x256, .f32⟩
  | .hbm, ⟨89, _⟩ => ⟨S_, .f32⟩
  | .hbm, ⟨90, _⟩ => ⟨S_, .f32⟩
  | .hbm, ⟨91, _⟩ => ⟨S1x2x4x32x128x256, .i1⟩
  | .hbm, ⟨92, _⟩ => ⟨S1x2x4x32x128x256, .f32⟩
  | .hbm, ⟨93, _⟩ => ⟨S1x2x4x32x128x256, .f32⟩
  | .hbm, ⟨94, _⟩ => ⟨S2x4, .f32⟩
  | .hbm, ⟨95, _⟩ => ⟨S1x2x4x1x1, .f32⟩
  | .hbm, ⟨96, _⟩ => ⟨S_, .f32⟩
  | .hbm, ⟨97, _⟩ => ⟨S1x2x4x32x128, .f32⟩
  | .hbm, ⟨98, _⟩ => ⟨S1x2x4x32x128, .f32⟩
  | .hbm, ⟨99, _⟩ => ⟨S1x2x4x32x128, .f32⟩
  | .hbm, ⟨100, _⟩ => ⟨S1x2x4x32x128x1, .f32⟩
  | .hbm, ⟨101, _⟩ => ⟨S1x2x4x32x128x256, .f32⟩
  | .hbm, ⟨102, _⟩ => ⟨S1x2x4x32x128x256, .f32⟩
  | .hbm, ⟨103, _⟩ => ⟨S1x2x4x32x128x256, .f32⟩
  | .hbm, ⟨104, _⟩ => ⟨S_, .f32⟩
  | .hbm, ⟨105, _⟩ => ⟨S1x2x4x32x128, .f32⟩
  | .hbm, ⟨106, _⟩ => ⟨S1x2x4x32x128, .f32⟩
  | .hbm, ⟨107, _⟩ => ⟨S1x2x4x32x128, .f32⟩
  | .hbm, ⟨108, _⟩ => ⟨S1x2x4x32x128, .f32⟩
  | .hbm, ⟨109, _⟩ => ⟨S1x2x4x32x128, .f32⟩
  | .hbm, ⟨110, _⟩ => ⟨S1x2x4x32x128x1, .f32⟩
  | .hbm, ⟨111, _⟩ => ⟨S1x2x4x32x128x256, .f32⟩
  | .hbm, ⟨112, _⟩ => ⟨S1x2x4x32x128x256, .f32⟩
  | .hbm, ⟨113, _⟩ => ⟨S1x32x2x64x4x128, .f32⟩
  | .hbm, ⟨114, _⟩ => ⟨S1x32x128x2x4x64, .f32⟩
  | .hbm, ⟨115, _⟩ => ⟨S1x4096x512, .f32⟩
  | .hbm, ⟨116, _⟩ => ⟨S4096x512, .f32⟩
  | .hbm, ⟨117, _⟩ => ⟨S4096x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_c : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c_2 : Ref sig .tc := ⟨.hbm, 38, rfl⟩
abbrev main_v32 : Ref sig .tc := ⟨.hbm, 39, rfl⟩
abbrev main_v33 : Ref sig .tc := ⟨.hbm, 40, rfl⟩
abbrev main_c_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c_4 : Ref sig .tc := ⟨.hbm, 48, rfl⟩
abbrev main_v40 : Ref sig .tc := ⟨.hbm, 49, rfl⟩
abbrev main_v41 : Ref sig .tc := ⟨.hbm, 50, rfl⟩
abbrev main_c_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_6 : Ref sig .tc := ⟨.hbm, 62, rfl⟩
abbrev main_v52 : Ref sig .tc := ⟨.hbm, 63, rfl⟩
abbrev main_v53 : Ref sig .tc := ⟨.hbm, 64, rfl⟩
abbrev main_cst_7 : Ref sig .tc := ⟨.hbm, 65, rfl⟩
abbrev main_v54 : Ref sig .tc := ⟨.hbm, 66, rfl⟩
abbrev main_v55 : Ref sig .tc := ⟨.hbm, 67, rfl⟩
abbrev main_cst_8 : Ref sig .tc := ⟨.hbm, 68, rfl⟩
abbrev main_v56 : Ref sig .tc := ⟨.hbm, 69, rfl⟩
abbrev main_v57 : Ref sig .tc := ⟨.hbm, 70, rfl⟩
abbrev main_cst_9 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_10 : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_11 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_12 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩

abbrev nD : Nat := 1
abbrev τ : Topo := Topo.v7x

variable {F : FTy → Type} [FloatOps F]

def κ : String → Option EReal := fun
  | "mask" => some ⊥
  | _ => none
-- ==== Ffn.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S1024x4x1408 : Shape := ⟨3, ![1024, 4, 1408]⟩
abbrev S4x1024x1408 : Shape := ⟨3, ![4, 1024, 1408]⟩
abbrev S8x128 : Shape := ⟨2, ![8, 128]⟩
abbrev S4096x2816 : Shape := ⟨2, ![4096, 2816]⟩
abbrev S256x1024 : Shape := ⟨2, ![256, 1024]⟩
abbrev S2x256x2816 : Shape := ⟨3, ![2, 256, 2816]⟩
abbrev S256x2816 : Shape := ⟨2, ![256, 2816]⟩
abbrev S6 : Shape := ⟨1, ![6]⟩
abbrev S1 : Shape := ⟨1, ![1]⟩
abbrev S1x1024x1408 : Shape := ⟨3, ![1, 1024, 1408]⟩
abbrev S1024x1408 : Shape := ⟨2, ![1024, 1408]⟩
abbrev S1408x1024 : Shape := ⟨2, ![1408, 1024]⟩
abbrev S256x1408 : Shape := ⟨2, ![256, 1408]⟩
abbrev S1x256x1408 : Shape := ⟨3, ![1, 256, 1408]⟩
abbrev S256 : Shape := ⟨1, ![256]⟩
abbrev S256x1 : Shape := ⟨2, ![256, 1]⟩

abbrev nBuf : Space → Nat
  | .hbm => 40
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1024x5632, .bf16⟩
  | .hbm, ⟨23, _⟩ => ⟨S4096x5632, .f32⟩
  | .hbm, ⟨24, _⟩ => ⟨S4096x5632, .bf16⟩
  | .hbm, ⟨25, _⟩ => ⟨S4096x2x2816, .bf16⟩
  | .hbm, ⟨26, _⟩ => ⟨S2x4096x2816, .bf16⟩
  | .hbm, ⟨27, _⟩ => ⟨S1024x5632, .bf16⟩
  | .hbm, ⟨28, _⟩ => ⟨S1024x4x1408, .bf16⟩
  | .hbm, ⟨29, _⟩ => ⟨S4x1024x1408, .bf16⟩
  | .hbm, ⟨30, _⟩ => ⟨S1x1024, .f32⟩
  | .hbm, ⟨31, _⟩ => ⟨S2816x1024, .bf16⟩
  | .hbm, ⟨32, _⟩ => ⟨S_, .f32⟩
  | .hbm, ⟨33, _⟩ => ⟨S8x128, .f32⟩
  | .hbm, ⟨34, _⟩ => ⟨S4096x1024, .f32⟩
  | .hbm, ⟨35, _⟩ => ⟨S1x1024, .f32⟩
  | .hbm, ⟨36, _⟩ => ⟨S4096x1024, .bf16⟩
  | .hbm, ⟨37, _⟩ => ⟨S2x4096x2816, .bf16⟩
  | .hbm, ⟨38, _⟩ => ⟨S4096x2816, .bf16⟩
  | .hbm, ⟨39, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2x256x2816, .bf16⟩
  | .local _ .vmem, ⟨6, _⟩ => ⟨S2x256x2816, .bf16⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S2x256x2816, .bf16⟩
  | .local _ .vmem, ⟨13, _⟩ => ⟨S2x256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x1024, .bf16⟩
  | .local _ .vmem, ⟨17, _⟩ => ⟨S256x1024, .bf16⟩
  | .local _ .vmem, ⟨18, _⟩ => ⟨S4x1024x1408, .bf16⟩
  | .local _ .vmem, ⟨19, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev main_v25_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnRefIdeal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x2x2816 : Shape := ⟨3, ![4096, 2, 2816]⟩
abbrev S2x4096x2816 : Shape := ⟨3, ![2, 4096, 2816]⟩

abbrev nBuf : Space → Nat
  | .hbm => 96
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x5632, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S4096x1024, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1024, .f32⟩
  | .hbm, ⟨73, _⟩ => ⟨S4096x1024, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S1x1024, .f32⟩
  | .hbm, ⟨87, _⟩ => ⟨S4096x1024, .bf16⟩
  | .hbm, ⟨88, _⟩ => ⟨S4096x2x2816, .f32⟩
  | .hbm, ⟨89, _⟩ => ⟨S2x4096x2816, .f32⟩
  | .hbm, ⟨90, _⟩ => ⟨S2x4096x2816, .bf16⟩
  | .hbm, ⟨91, _⟩ => ⟨S4096x2816, .bf16⟩
  | .hbm, ⟨92, _⟩ => ⟨S_, .f32⟩
  | .hbm, ⟨93, _⟩ => ⟨S4096x1024, .f32⟩
  | .hbm, ⟨94, _⟩ => ⟨S4096x1024, .f32⟩
  | .hbm, ⟨95, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_cst_9 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩

abbrev nD : Nat := 1
abbrev τ : Topo := Topo.v7x

variable {F : FTy → Type} [FloatOps F]
-- ==== Conv.lean ====
abbrev S4096x1024 : Shape := ⟨2, ![4096, 1024]⟩
abbrev S31x512 : Shape := ⟨2, ![31, 512]⟩
abbrev S512 : Shape := ⟨1, ![512]⟩
abbrev S4096x512 : Shape := ⟨2, ![4096, 512]⟩
abbrev S_ : Shape := ⟨0, ![]⟩
abbrev S30x512 : Shape := ⟨2, ![30, 512]⟩
abbrev S4126x512 : Shape := ⟨2, ![4126, 512]⟩
abbrev S1x512 : Shape := ⟨2, ![1, 512]⟩
abbrev S32x512 : Shape := ⟨2, ![32, 512]⟩
abbrev S8x512 : Shape := ⟨2, ![8, 512]⟩
abbrev S512x512 : Shape := ⟨2, ![512, 512]⟩
abbrev S512x1024 : Shape := ⟨2, ![512, 1024]⟩
abbrev S32x1024 : Shape := ⟨2, ![32, 1024]⟩
abbrev S544x512 : Shape := ⟨2, ![544, 512]⟩
abbrev S7x536x512 : Shape := ⟨3, ![7, 536, 512]⟩
abbrev S32x8x512 : Shape := ⟨3, ![32, 8, 512]⟩
abbrev S512x1 : Shape := ⟨2, ![512, 1]⟩
abbrev S32 : Shape := ⟨1, ![32]⟩
abbrev S32x1 : Shape := ⟨2, ![32, 1]⟩
abbrev S536x512 : Shape := ⟨2, ![536, 512]⟩
abbrev S1x536x512 : Shape := ⟨3, ![1, 536, 512]⟩
abbrev S1x32x512 : Shape := ⟨3, ![1, 32, 512]⟩
abbrev S1x8x512 : Shape := ⟨3, ![1, 8, 512]⟩
abbrev S4x8x512 : Shape := ⟨3, ![4, 8, 512]⟩

abbrev nBuf : Space → Nat
  | .hbm => 247
  | .vmem => 25
  | .smem => 0
  | _ => 0

abbrev hbmTy0_0 (i : Nat) : BufTy := match i % 128 with
  | 0 => ⟨S4096x1024, .f32⟩
  | 1 => ⟨S31x512, .f32⟩
  | 2 => ⟨S512, .f32⟩
  | 3 => ⟨S512, .f32⟩
  | 4 => ⟨S512, .f32⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S4096x512, .f32⟩
  | 17 => ⟨S_, .f32⟩
  | 18 => ⟨S30x512, .f32⟩
  | 19 => ⟨S4126x512, .f32⟩
  | 20 => ⟨S_, .f32⟩
  | 21 => ⟨S4096x512, .f32⟩
  | 22 => ⟨S4096x512, .f32⟩
  | 23 => ⟨S1x512, .f32⟩
  | 24 => ⟨S512, .f32⟩
  | 25 => ⟨S1x512, .f32⟩
  | 26 => ⟨S4096x512, .f32⟩
  | 27 => ⟨S4096x512, .f32⟩
  | 28 => ⟨S4096x512, .f32⟩
  | 29 => ⟨S4096x512, .f32⟩
  | 30 => ⟨S1x512, .f32⟩
  | 31 => ⟨S512, .f32⟩
  | 32 => ⟨S1x512, .f32⟩
  | 33 => ⟨S4096x512, .f32⟩
  | 34 => ⟨S4096x512, .f32⟩
  | 35 => ⟨S4096x512, .f32⟩
  | 36 => ⟨S4096x512, .f32⟩
  | 37 => ⟨S1x512, .f32⟩
  | 38 => ⟨S512, .f32⟩
  | 39 => ⟨S1x512, .f32⟩
  | 40 => ⟨S4096x512, .f32⟩
  | 41 => ⟨S4096x512, .f32⟩
  | 42 => ⟨S4096x512, .f32⟩
  | 43 => ⟨S4096x512, .f32⟩
  | 44 => ⟨S1x512, .f32⟩
  | 45 => ⟨S512, .f32⟩
  | 46 => ⟨S1x512, .f32⟩
  | 47 => ⟨S4096x512, .f32⟩
  | 48 => ⟨S4096x512, .f32⟩
  | 49 => ⟨S4096x512, .f32⟩
  | 50 => ⟨S4096x512, .f32⟩
  | 51 => ⟨S1x512, .f32⟩
  | 52 => ⟨S512, .f32⟩
  | 53 => ⟨S1x512, .f32⟩
  | 54 => ⟨S4096x512, .f32⟩
  | 55 => ⟨S4096x512, .f32⟩
  | 56 => ⟨S4096x512, .f32⟩
  | 57 => ⟨S4096x512, .f32⟩
  | 58 => ⟨S1x512, .f32⟩
  | 59 => ⟨S512, .f32⟩
  | 60 => ⟨S1x512, .f32⟩
  | 61 => ⟨S4096x512, .f32⟩
  | 62 => ⟨S4096x512, .f32⟩
  | 63 => ⟨S4096x512, .f32⟩
  | 64 => ⟨S4096x512, .f32⟩
  | 65 => ⟨S1x512, .f32⟩
  | 66 => ⟨S512, .f32⟩
  | 67 => ⟨S1x512, .f32⟩
  | 68 => ⟨S4096x512, .f32⟩
  | 69 => ⟨S4096x512, .f32⟩
  | 70 => ⟨S4096x512, .f32⟩
  | 71 => ⟨S4096x512, .f32⟩
  | 72 => ⟨S1x512, .f32⟩
  | 73 => ⟨S512, .f32⟩
  | 74 => ⟨S1x512, .f32⟩
  | 75 => ⟨S4096x512, .f32⟩
  | 76 => ⟨S4096x512, .f32⟩
  | 77 => ⟨S4096x512, .f32⟩
  | 78 => ⟨S4096x512, .f32⟩
  | 79 => ⟨S1x512, .f32⟩
  | 80 => ⟨S512, .f32⟩
  | 81 => ⟨S1x512, .f32⟩
  | 82 => ⟨S4096x512, .f32⟩
  | 83 => ⟨S4096x512, .f32⟩
  | 84 => ⟨S4096x512, .f32⟩
  | 85 => ⟨S4096x512, .f32⟩
  | 86 => ⟨S1x512, .f32⟩
  | 87 => ⟨S512, .f32⟩
  | 88 => ⟨S1x512, .f32⟩
  | 89 => ⟨S4096x512, .f32⟩
  | 90 => ⟨S4096x512, .f32⟩
  | 91 => ⟨S4096x512, .f32⟩
  | 92 => ⟨S4096x512, .f32⟩
  | 93 => ⟨S1x512, .f32⟩
  | 94 => ⟨S512, .f32⟩
  | 95 => ⟨S1x512, .f32⟩
  | 96 => ⟨S4096x512, .f32⟩
  | 97 => ⟨S4096x512, .f32⟩
  | 98 => ⟨S4096x512, .f32⟩
  | 99 => ⟨S4096x512, .f32⟩
  | 100 => ⟨S1x512, .f32⟩
  | 101 => ⟨S512, .f32⟩
  | 102 => ⟨S1x512, .f32⟩
  | 103 => ⟨S4096x512, .f32⟩
  | 104 => ⟨S4096x512, .f32⟩
  | 105 => ⟨S4096x512, .f32⟩
  | 106 => ⟨S4096x512, .f32⟩
  | 107 => ⟨S1x512, .f32⟩
  | 108 => ⟨S512, .f32⟩
  | 109 => ⟨S1x512, .f32⟩
  | 110 => ⟨S4096x512, .f32⟩
  | 111 => ⟨S4096x512, .f32⟩
  | 112 => ⟨S4096x512, .f32⟩
  | 113 => ⟨S4096x512, .f32⟩
  | 114 => ⟨S1x512, .f32⟩
  | 115 => ⟨S512, .f32⟩
  | 116 => ⟨S1x512, .f32⟩
  | 117 => ⟨S4096x512, .f32⟩
  | 118 => ⟨S4096x512, .f32⟩
  | 119 => ⟨S4096x512, .f32⟩
  | 120 => ⟨S4096x512, .f32⟩
  | 121 => ⟨S1x512, .f32⟩
  | 122 => ⟨S512, .f32⟩
  | 123 => ⟨S1x512, .f32⟩
  | 124 => ⟨S4096x512, .f32⟩
  | 125 => ⟨S4096x512, .f32⟩
  | 126 => ⟨S4096x512, .f32⟩
  | 127 => ⟨S4096x512, .f32⟩
  | _ => ⟨S4096x1024, .f32⟩

abbrev hbmTy0_1 (i : Nat) : BufTy := match i % 128 with
  | 0 => ⟨S1x512, .f32⟩
  | 1 => ⟨S512, .f32⟩
  | 2 => ⟨S1x512, .f32⟩
  | 3 => ⟨S4096x512, .f32⟩
  | 4 => ⟨S4096x512, .f32⟩
  | 5 => ⟨S4096x512, .f32⟩
  | 6 => ⟨S4096x512, .f32⟩
  | 7 => ⟨S1x512, .f32⟩
  | 8 => ⟨S512, .f32⟩
  | 9 => ⟨S1x512, .f32⟩
  | 10 => ⟨S4096x512, .f32⟩
  | 11 => ⟨S4096x512, .f32⟩
  | 12 => ⟨S4096x512, .f32⟩
  | 13 => ⟨S4096x512, .f32⟩
  | 14 => ⟨S1x512, .f32⟩
  | 15 => ⟨S512, .f32⟩
  | 16 => ⟨S1x512, .f32⟩
  | 17 => ⟨S4096x512, .f32⟩
  | 18 => ⟨S4096x512, .f32⟩
  | 19 => ⟨S4096x512, .f32⟩
  | 20 => ⟨S4096x512, .f32⟩
  | 21 => ⟨S1x512, .f32⟩
  | 22 => ⟨S512, .f32⟩
  | 23 => ⟨S1x512, .f32⟩
  | 24 => ⟨S4096x512, .f32⟩
  | 25 => ⟨S4096x512, .f32⟩
  | 26 => ⟨S4096x512, .f32⟩
  | 27 => ⟨S4096x512, .f32⟩
  | 28 => ⟨S1x512, .f32⟩
  | 29 => ⟨S512, .f32⟩
  | 30 => ⟨S1x512, .f32⟩
  | 31 => ⟨S4096x512, .f32⟩
  | 32 => ⟨S4096x512, .f32⟩
  | 33 => ⟨S4096x512, .f32⟩
  | 34 => ⟨S4096x512, .f32⟩
  | 35 => ⟨S1x512, .f32⟩
  | 36 => ⟨S512, .f32⟩
  | 37 => ⟨S1x512, .f32⟩
  | 38 => ⟨S4096x512, .f32⟩
  | 39 => ⟨S4096x512, .f32⟩
  | 40 => ⟨S4096x512, .f32⟩
  | 41 => ⟨S4096x512, .f32⟩
  | 42 => ⟨S1x512, .f32⟩
  | 43 => ⟨S512, .f32⟩
  | 44 => ⟨S1x512, .f32⟩
  | 45 => ⟨S4096x512, .f32⟩
  | 46 => ⟨S4096x512, .f32⟩
  | 47 => ⟨S4096x512, .f32⟩
  | 48 => ⟨S4096x512, .f32⟩
  | 49 => ⟨S1x512, .f32⟩
  | 50 => ⟨S512, .f32⟩
  | 51 => ⟨S1x512, .f32⟩
  | 52 => ⟨S4096x512, .f32⟩
  | 53 => ⟨S4096x512, .f32⟩
  | 54 => ⟨S4096x512, .f32⟩
  | 55 => ⟨S4096x512, .f32⟩
  | 56 => ⟨S1x512, .f32⟩
  | 57 => ⟨S512, .f32⟩
  | 58 => ⟨S1x512, .f32⟩
  | 59 => ⟨S4096x512, .f32⟩
  | 60 => ⟨S4096x512, .f32⟩
  | 61 => ⟨S4096x512, .f32⟩
  | 62 => ⟨S4096x512, .f32⟩
  | 63 => ⟨S1x512, .f32⟩
  | 64 => ⟨S512, .f32⟩
  | 65 => ⟨S1x512, .f32⟩
  | 66 => ⟨S4096x512, .f32⟩
  | 67 => ⟨S4096x512, .f32⟩
  | 68 => ⟨S4096x512, .f32⟩
  | 69 => ⟨S4096x512, .f32⟩
  | 70 => ⟨S1x512, .f32⟩
  | 71 => ⟨S512, .f32⟩
  | 72 => ⟨S1x512, .f32⟩
  | 73 => ⟨S4096x512, .f32⟩
  | 74 => ⟨S4096x512, .f32⟩
  | 75 => ⟨S4096x512, .f32⟩
  | 76 => ⟨S4096x512, .f32⟩
  | 77 => ⟨S1x512, .f32⟩
  | 78 => ⟨S512, .f32⟩
  | 79 => ⟨S1x512, .f32⟩
  | 80 => ⟨S4096x512, .f32⟩
  | 81 => ⟨S4096x512, .f32⟩
  | 82 => ⟨S4096x512, .f32⟩
  | 83 => ⟨S4096x512, .f32⟩
  | 84 => ⟨S1x512, .f32⟩
  | 85 => ⟨S512, .f32⟩
  | 86 => ⟨S1x512, .f32⟩
  | 87 => ⟨S4096x512, .f32⟩
  | 88 => ⟨S4096x512, .f32⟩
  | 89 => ⟨S4096x512, .f32⟩
  | 90 => ⟨S4096x512, .f32⟩
  | 91 => ⟨S1x512, .f32⟩
  | 92 => ⟨S512, .f32⟩
  | 93 => ⟨S1x512, .f32⟩
  | 94 => ⟨S4096x512, .f32⟩
  | 95 => ⟨S4096x512, .f32⟩
  | 96 => ⟨S4096x512, .f32⟩
  | 97 => ⟨S4096x512, .f32⟩
  | 98 => ⟨S1x512, .f32⟩
  | 99 => ⟨S512, .f32⟩
  | 100 => ⟨S1x512, .f32⟩
  | 101 => ⟨S4096x512, .f32⟩
  | 102 => ⟨S4096x512, .f32⟩
  | 103 => ⟨S4096x512, .f32⟩
  | 104 => ⟨S4096x512, .f32⟩
  | 105 => ⟨S1x512, .f32⟩
  | 106 => ⟨S512, .f32⟩
  | 107 => ⟨S1x512, .f32⟩
  | 108 => ⟨S4096x512, .f32⟩
  | 109 => ⟨S4096x512, .f32⟩
  | 110 => ⟨S4096x512, .f32⟩
  | 111 => ⟨S1x512, .f32⟩
  | 112 => ⟨S4096x512, .f32⟩
  | 113 => ⟨S4096x512, .f32⟩
  | 114 => ⟨S1x512, .f32⟩
  | 115 => ⟨S1x512, .f32⟩
  | 116 => ⟨S4096x1024, .bf16⟩
  | 117 => ⟨S32x512, .f32⟩
  | 118 => ⟨S8x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S512x512, .f32⟩
  | .local _ .vmem, ⟨5, _⟩ => ⟨S512x512, .f32⟩
  | .local _ .vmem, ⟨6, _⟩ => ⟨S32x512, .f32⟩
  | .local _ .vmem, ⟨7, _⟩ => ⟨S32x512, .f32⟩
  | .local _ .vmem, ⟨8, _⟩ => ⟨S512x1024, .f32⟩
  | .local _ .vmem, ⟨9, _⟩ => ⟨S512x1024, .f32⟩
  | .local _ .vmem, ⟨10, _⟩ => ⟨S32x1024, .f32⟩
  | .local _ .vmem, ⟨11, _⟩ => ⟨S32x1024, .f32⟩
  | .local _ .vmem, ⟨12, _⟩ => ⟨S31x512, .f32⟩
  | .local _ .vmem, ⟨13, _⟩ => ⟨S1x512, .f32⟩
  | .local _ .vmem, ⟨14, _⟩ => ⟨S1x512, .f32⟩
  | .local _ .vmem, ⟨15, _⟩ => ⟨S512x1024, .bf16⟩
  | .local _ .vmem, ⟨16, _⟩ => ⟨S512x1024, .bf16⟩
  | .local _ .vmem, ⟨17, _⟩ => ⟨S32x512, .f32⟩
  | .local _ .vmem, ⟨18, _⟩ => ⟨S8x512, .f32⟩
  | .local _ .vmem, ⟨19, _⟩ => ⟨S544x512, .f32⟩
  | .local _ .vmem, ⟨20, _⟩ => ⟨S7x536x512, .f32⟩
  | .local _ .vmem, ⟨21, _⟩ => ⟨S544x512, .f32⟩
  | .local _ .vmem, ⟨22, _⟩ => ⟨S7x536x512, .f32⟩
  | .local _ .vmem, ⟨23, _⟩ => ⟨S512x512, .f32⟩
  | .local _ .vmem, ⟨24, _⟩ => ⟨S32x8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234_0 : Ref sig .tc := ⟨.hbm, 244, rfl⟩
abbrev main_v234_1 : Ref sig .tc := ⟨.hbm, 245, rfl⟩
abbrev main_v234_2 : Ref sig .tc := ⟨.hbm, 246, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_132 : BitVec 32 := 0#32
  let c16_i32 : BitVec 32 := 16#32
  let v228 : BitVec 32 := Scalar.addi c0_i32_132 c16_i32
  let c1_i32 : BitVec 32 := 1#32
  ⟨c0_i32_132, v228, c1_i32⟩
def k0_mult1 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  v252
def k0_mult2 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c24_i32 : BitVec 32 := 24#32
  let v256 : BitVec 32 := Scalar.addi v253 c24_i32
  v256
def k0_off1 (k0_t1 : Fin k0_t1_loop.trips) (c24_i32 : BitVec 32) : Fin 3 → Nat :=
  let c5_150 : Index := 5#32
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let v256 : BitVec 32 := Scalar.addi v253 c24_i32
  let v257 : BitVec 32 := v256
  let v258 : Index := Scalar.indexCast v257
  let c0_151 : Index := 0#32
  ![5, v258.toNat, 0]
def k0_mult3 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c24_i32_154 : BitVec 32 := 24#32
  let v265 : BitVec 32 := Scalar.addi v253 c24_i32_154
  v265
def k0_off2 (k0_t1 : Fin k0_t1_loop.trips) (c24_i32_154 : BitVec 32) : Fin 3 → Nat :=
  let c4_155 : Index := 4#32
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let v265 : BitVec 32 := Scalar.addi v253 c24_i32_154
  let v266 : BitVec 32 := v265
  let v267 : Index := Scalar.indexCast v266
  let c0_156 : Index := 0#32
  ![4, v267.toNat, 0]
def k0_mult4 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c24_i32_159 : BitVec 32 := 24#32
  let v274 : BitVec 32 := Scalar.addi v253 c24_i32_159
  v274
def k0_off3 (k0_t1 : Fin k0_t1_loop.trips) (c24_i32_159 : BitVec 32) : Fin 3 → Nat :=
  let c3_160 : Index := 3#32
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let v274 : BitVec 32 := Scalar.addi v253 c24_i32_159
  let v275 : BitVec 32 := v274
  let v276 : Index := Scalar.indexCast v275
  let c0_161 : Index := 0#32
  ![3, v276.toNat, 0]
def k0_mult5 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c24_i32_164 : BitVec 32 := 24#32
  let v283 : BitVec 32 := Scalar.addi v253 c24_i32_164
  v283
def k0_off4 (k0_t1 : Fin k0_t1_loop.trips) (c24_i32_164 : BitVec 32) : Fin 3 → Nat :=
  let c2_165 : Index := 2#32
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let v283 : BitVec 32 := Scalar.addi v253 c24_i32_164
  let v284 : BitVec 32 := v283
  let v285 : Index := Scalar.indexCast v284
  let c0_166 : Index := 0#32
  ![2, v285.toNat, 0]
def k0_mult6 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c24_i32_169 : BitVec 32 := 24#32
  let v292 : BitVec 32 := Scalar.addi v253 c24_i32_169
  v292
def k0_off5 (k0_t1 : Fin k0_t1_loop.trips) (c24_i32_169 : BitVec 32) : Fin 3 → Nat :=
  let c1_170 : Index := 1#32
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let v292 : BitVec 32 := Scalar.addi v253 c24_i32_169
  let v293 : BitVec 32 := v292
  let v294 : Index := Scalar.indexCast v293
  let c0_171 : Index := 0#32
  ![1, v294.toNat, 0]
def k0_mult7 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c24_i32_174 : BitVec 32 := 24#32
  let v301 : BitVec 32 := Scalar.addi v253 c24_i32_174
  v301
def k0_off6 (k0_t1 : Fin k0_t1_loop.trips) (c24_i32_174 : BitVec 32) : Fin 3 → Nat :=
  let c0_175 : Index := 0#32
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let v301 : BitVec 32 := Scalar.addi v253 c24_i32_174
  let v302 : BitVec 32 := v301
  let v303 : Index := Scalar.indexCast v302
  let c0_176 : Index := 0#32
  ![0, v303.toNat, 0]
def k0_mult8 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c24_i32_179 : BitVec 32 := 24#32
  let v310 : BitVec 32 := Scalar.addi v253 c24_i32_179
  v310
def k0_off7 (k0_t1 : Fin k0_t1_loop.trips) (c24_i32_179 : BitVec 32) : Fin 2 → Nat :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let v310 : BitVec 32 := Scalar.addi v253 c24_i32_179
  let v311 : BitVec 32 := v310
  let v312 : Index := Scalar.indexCast v311
  let c0_180 : Index := 0#32
  ![v312.toNat, 0]
def k0_mult9 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_183 : BitVec 32 := 16#32
  let v318 : BitVec 32 := Scalar.addi v253 c16_i32_183
  v318
def k0_off8 (k0_t1 : Fin k0_t1_loop.trips) (c16_i32_183 : BitVec 32) : Fin 3 → Nat :=
  let c6_184 : Index := 6#32
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let v318 : BitVec 32 := Scalar.addi v253 c16_i32_183
  let v319 : BitVec 32 := v318
  let v320 : Index := Scalar.indexCast v319
  let c0_185 : Index := 0#32
  ![6, v320.toNat, 0]
def k0_mult10 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_187 : BitVec 32 := 16#32
  let v327 : BitVec 32 := Scalar.addi v253 c16_i32_187
  v327
def k0_mult11 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_191 : BitVec 32 := 16#32
  let v336 : BitVec 32 := Scalar.addi v253 c16_i32_191
  v336
def k0_mult12 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_195 : BitVec 32 := 16#32
  let v345 : BitVec 32 := Scalar.addi v253 c16_i32_195
  v345
def k0_mult13 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_199 : BitVec 32 := 16#32
  let v354 : BitVec 32 := Scalar.addi v253 c16_i32_199
  v354
def k0_mult14 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_203 : BitVec 32 := 16#32
  let v363 : BitVec 32 := Scalar.addi v253 c16_i32_203
  v363
def k0_mult15 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_207 : BitVec 32 := 16#32
  let v372 : BitVec 32 := Scalar.addi v253 c16_i32_207
  v372
def k0_mult16 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_211 : BitVec 32 := 16#32
  let v381 : BitVec 32 := Scalar.addi v253 c16_i32_211
  v381
def k0_mult17 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32 : BitVec 32 := 8#32
  let v389 : BitVec 32 := Scalar.addi v253 c8_i32
  v389
def k0_mult18 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32_217 : BitVec 32 := 8#32
  let v398 : BitVec 32 := Scalar.addi v253 c8_i32_217
  v398
def k0_mult19 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32_221 : BitVec 32 := 8#32
  let v407 : BitVec 32 := Scalar.addi v253 c8_i32_221
  v407
def k0_mult20 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32_225 : BitVec 32 := 8#32
  let v416 : BitVec 32 := Scalar.addi v253 c8_i32_225
  v416
def k0_mult21 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32_229 : BitVec 32 := 8#32
  let v425 : BitVec 32 := Scalar.addi v253 c8_i32_229
  v425
def k0_mult22 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32_233 : BitVec 32 := 8#32
  let v434 : BitVec 32 := Scalar.addi v253 c8_i32_233
  v434
def k0_mult23 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32_237 : BitVec 32 := 8#32
  let v443 : BitVec 32 := Scalar.addi v253 c8_i32_237
  v443
def k0_mult24 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32_241 : BitVec 32 := 8#32
  let v452 : BitVec 32 := Scalar.addi v253 c8_i32_241
  v452
def k0_mult25 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c0_i32_244 : BitVec 32 := 0#32
  let v460 : BitVec 32 := Scalar.addi v253 c0_i32_244
  v460
def k0_mult26 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c0_i32_248 : BitVec 32 := 0#32
  let v469 : BitVec 32 := Scalar.addi v253 c0_i32_248
  v469
def k0_mult27 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c0_i32_252 : BitVec 32 := 0#32
  let v478 : BitVec 32 := Scalar.addi v253 c0_i32_252
  v478
def k0_mult28 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c0_i32_256 : BitVec 32 := 0#32
  let v487 : BitVec 32 := Scalar.addi v253 c0_i32_256
  v487
def k0_mult29 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c0_i32_260 : BitVec 32 := 0#32
  let v496 : BitVec 32 := Scalar.addi v253 c0_i32_260
  v496
def k0_mult30 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c0_i32_264 : BitVec 32 := 0#32
  let v505 : BitVec 32 := Scalar.addi v253 c0_i32_264
  v505
def k0_mult31 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c0_i32_268 : BitVec 32 := 0#32
  let v514 : BitVec 32 := Scalar.addi v253 c0_i32_268
  v514
def k0_mult32 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c0_i32_272 : BitVec 32 := 0#32
  let v523 : BitVec 32 := Scalar.addi v253 c0_i32_272
  v523
def k0_off9 (k0_t1 : Fin k0_t1_loop.trips) : Fin 2 → Nat :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let v530 : Index := Scalar.indexCast v253
  let c0_274 : Index := 0#32
  ![v530.toNat, 0]
def k0_off10 (k0_t1 : Fin k0_t1_loop.trips) : Fin 2 → Nat :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let v534 : Index := Scalar.indexCast v253
  let c0_275 : Index := 0#32
  ![v534.toNat, 0]
def k0_mult33 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c0_i32_276 : BitVec 32 := 0#32
  let v536 : BitVec 32 := Scalar.addi v253 c0_i32_276
  v536
def k0_mult34 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c0_i32_286 : BitVec 32 := 0#32
  let v550 : BitVec 32 := Scalar.addi v253 c0_i32_286
  v550
def k0_mult35 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c0_i32_296 : BitVec 32 := 0#32
  let v564 : BitVec 32 := Scalar.addi v253 c0_i32_296
  v564
def k0_mult36 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c0_i32_306 : BitVec 32 := 0#32
  let v578 : BitVec 32 := Scalar.addi v253 c0_i32_306
  v578
def k0_mult37 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c0_i32_316 : BitVec 32 := 0#32
  let v592 : BitVec 32 := Scalar.addi v253 c0_i32_316
  v592
def k0_mult38 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c0_i32_326 : BitVec 32 := 0#32
  let v606 : BitVec 32 := Scalar.addi v253 c0_i32_326
  v606
def k0_mult39 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32_336 : BitVec 32 := 8#32
  let v620 : BitVec 32 := Scalar.addi v253 c8_i32_336
  v620
def k0_mult40 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32_345 : BitVec 32 := 8#32
  let v633 : BitVec 32 := Scalar.addi v253 c8_i32_345
  v633
def k0_mult41 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32_355 : BitVec 32 := 8#32
  let v647 : BitVec 32 := Scalar.addi v253 c8_i32_355
  v647
def k0_mult42 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32_365 : BitVec 32 := 8#32
  let v661 : BitVec 32 := Scalar.addi v253 c8_i32_365
  v661
def k0_mult43 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32_375 : BitVec 32 := 8#32
  let v675 : BitVec 32 := Scalar.addi v253 c8_i32_375
  v675
def k0_mult44 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32_385 : BitVec 32 := 8#32
  let v689 : BitVec 32 := Scalar.addi v253 c8_i32_385
  v689
def k0_mult45 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32_395 : BitVec 32 := 8#32
  let v703 : BitVec 32 := Scalar.addi v253 c8_i32_395
  v703
def k0_mult46 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c8_i32_405 : BitVec 32 := 8#32
  let v717 : BitVec 32 := Scalar.addi v253 c8_i32_405
  v717
def k0_mult47 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_415 : BitVec 32 := 16#32
  let v731 : BitVec 32 := Scalar.addi v253 c16_i32_415
  v731
def k0_mult48 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_424 : BitVec 32 := 16#32
  let v744 : BitVec 32 := Scalar.addi v253 c16_i32_424
  v744
def k0_mult49 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_434 : BitVec 32 := 16#32
  let v758 : BitVec 32 := Scalar.addi v253 c16_i32_434
  v758
def k0_mult50 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_444 : BitVec 32 := 16#32
  let v772 : BitVec 32 := Scalar.addi v253 c16_i32_444
  v772
def k0_mult51 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_454 : BitVec 32 := 16#32
  let v786 : BitVec 32 := Scalar.addi v253 c16_i32_454
  v786
def k0_mult52 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_464 : BitVec 32 := 16#32
  let v800 : BitVec 32 := Scalar.addi v253 c16_i32_464
  v800
def k0_mult53 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_474 : BitVec 32 := 16#32
  let v814 : BitVec 32 := Scalar.addi v253 c16_i32_474
  v814
def k0_mult54 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c16_i32_484 : BitVec 32 := 16#32
  let v828 : BitVec 32 := Scalar.addi v253 c16_i32_484
  v828
def k0_mult55 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c24_i32_494 : BitVec 32 := 24#32
  let v842 : BitVec 32 := Scalar.addi v253 c24_i32_494
  v842
def k0_mult56 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c24_i32_503 : BitVec 32 := 24#32
  let v855 : BitVec 32 := Scalar.addi v253 c24_i32_503
  v855
def k0_mult57 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c24_i32_513 : BitVec 32 := 24#32
  let v869 : BitVec 32 := Scalar.addi v253 c24_i32_513
  v869
def k0_mult58 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c24_i32_523 : BitVec 32 := 24#32
  let v883 : BitVec 32 := Scalar.addi v253 c24_i32_523
  v883
def k0_mult59 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c24_i32_533 : BitVec 32 := 24#32
  let v897 : BitVec 32 := Scalar.addi v253 c24_i32_533
  v897
def k0_mult60 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c24_i32_543 : BitVec 32 := 24#32
  let v911 : BitVec 32 := Scalar.addi v253 c24_i32_543
  v911
def k0_mult61 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c24_i32_553 : BitVec 32 := 24#32
  let v925 : BitVec 32 := Scalar.addi v253 c24_i32_553
  v925
def k0_mult62 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c24_i32_563 : BitVec 32 := 24#32
  let v939 : BitVec 32 := Scalar.addi v253 c24_i32_563
  v939
def k0_mult63 (k0_t1 : Fin k0_t1_loop.trips) : BitVec 32 :=
  let c0_i32_132 : BitVec 32 := 0#32
  let c1_i32 : BitVec 32 := 1#32
  let arg19 : BitVec 32 := Scf.iv c0_i32_132 c1_i32 k0_t1
  let c32_i32 : BitVec 32 := 32#32
  let v252 : BitVec 32 := Scalar.muli arg19 c32_i32
  let v253 : BitVec 32 := v252
  let c32_i32_573 : BitVec 32 := 32#32
  let v953 : BitVec 32 := Scalar.addi v253 c32_i32_573
  v953
def k0_cond2 (i : grid0.Coords) : BitVec 1 :=
  let arg0 : BitVec 32 := BitVec.ofNat 32 (i 0).val
  let c7_i32_134 : BitVec 32 := 7#32
  let v229 : BitVec 1 := Scalar.cmpi .eq arg0 c7_i32_134
  let v230 : BitVec 32 := Scalar.extui v229
  let c0_i32_135 : BitVec 32 := 0#32
  let v231 : BitVec 1 := Scalar.cmpi .ne v230 c0_i32_135
  v231

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ConvRefIdeal.lean ====
abbrev S4096x1024 : Shape := ⟨2, ![4096, 1024]⟩
abbrev S31x512 : Shape := ⟨2, ![31, 512]⟩
abbrev S512 : Shape := ⟨1, ![512]⟩
abbrev S4096x512 : Shape := ⟨2, ![4096, 512]⟩
abbrev S_ : Shape := ⟨0, ![]⟩
abbrev S30x512 : Shape := ⟨2, ![30, 512]⟩
abbrev S4126x512 : Shape := ⟨2, ![4126, 512]⟩
abbrev S1x512 : Shape := ⟨2, ![1, 512]⟩
abbrev S4096 : Shape := ⟨1, ![4096]⟩
abbrev S4096x1 : Shape := ⟨2, ![4096, 1]⟩
abbrev S3x512 : Shape := ⟨2, ![3, 512]⟩
abbrev S5x512 : Shape := ⟨2, ![5, 512]⟩
abbrev S8x512 : Shape := ⟨2, ![8, 512]⟩
abbrev S32x512 : Shape := ⟨2, ![32, 512]⟩

abbrev nBuf : Space → Nat
  | .hbm => 830
  | .vmem => 0
  | .smem => 0
  | _ => 0

abbrev hbmTy0_0 (i : Nat) : BufTy := match i % 128 with
  | 0 => ⟨S4096x1024, .f32⟩
  | 1 => ⟨S31x512, .f32⟩
  | 2 => ⟨S512, .f32⟩
  | 3 => ⟨S512, .f32⟩
  | 4 => ⟨S512, .f32⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S_, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S4096x512, .f32⟩
  | 20 => ⟨S4096x512, .f32⟩
  | 21 => ⟨S_, .f32⟩
  | 22 => ⟨S30x512, .f32⟩
  | 23 => ⟨S4126x512, .f32⟩
  | 24 => ⟨S_, .f32⟩
  | 25 => ⟨S30x512, .f32⟩
  | 26 => ⟨S_, .f32⟩
  | 27 => ⟨S4096x512, .f32⟩
  | 28 => ⟨S4096x512, .f32⟩
  | 29 => ⟨S1x512, .f32⟩
  | 30 => ⟨S512, .f32⟩
  | 31 => ⟨S1x512, .f32⟩
  | 32 => ⟨S4096x512, .f32⟩
  | 33 => ⟨S4096x512, .f32⟩
  | 34 => ⟨S4096x512, .f32⟩
  | 35 => ⟨S4096x512, .f32⟩
  | 36 => ⟨S1x512, .f32⟩
  | 37 => ⟨S512, .f32⟩
  | 38 => ⟨S1x512, .f32⟩
  | 39 => ⟨S4096x512, .f32⟩
  | 40 => ⟨S4096x512, .f32⟩
  | 41 => ⟨S4096x512, .f32⟩
  | 42 => ⟨S4096x512, .f32⟩
  | 43 => ⟨S1x512, .f32⟩
  | 44 => ⟨S512, .f32⟩
  | 45 => ⟨S1x512, .f32⟩
  | 46 => ⟨S4096x512, .f32⟩
  | 47 => ⟨S4096x512, .f32⟩
  | 48 => ⟨S4096x512, .f32⟩
  | 49 => ⟨S4096x512, .f32⟩
  | 50 => ⟨S1x512, .f32⟩
  | 51 => ⟨S512, .f32⟩
  | 52 => ⟨S1x512, .f32⟩
  | 53 => ⟨S4096x512, .f32⟩
  | 54 => ⟨S4096x512, .f32⟩
  | 55 => ⟨S4096x512, .f32⟩
  | 56 => ⟨S4096x512, .f32⟩
  | 57 => ⟨S1x512, .f32⟩
  | 58 => ⟨S512, .f32⟩
  | 59 => ⟨S1x512, .f32⟩
  | 60 => ⟨S4096x512, .f32⟩
  | 61 => ⟨S4096x512, .f32⟩
  | 62 => ⟨S4096x512, .f32⟩
  | 63 => ⟨S4096x512, .f32⟩
  | 64 => ⟨S1x512, .f32⟩
  | 65 => ⟨S512, .f32⟩
  | 66 => ⟨S1x512, .f32⟩
  | 67 => ⟨S4096x512, .f32⟩
  | 68 => ⟨S4096x512, .f32⟩
  | 69 => ⟨S4096x512, .f32⟩
  | 70 => ⟨S4096x512, .f32⟩
  | 71 => ⟨S1x512, .f32⟩
  | 72 => ⟨S512, .f32⟩
  | 73 => ⟨S1x512, .f32⟩
  | 74 => ⟨S4096x512, .f32⟩
  | 75 => ⟨S4096x512, .f32⟩
  | 76 => ⟨S4096x512, .f32⟩
  | 77 => ⟨S4096x512, .f32⟩
  | 78 => ⟨S1x512, .f32⟩
  | 79 => ⟨S512, .f32⟩
  | 80 => ⟨S1x512, .f32⟩
  | 81 => ⟨S4096x512, .f32⟩
  | 82 => ⟨S4096x512, .f32⟩
  | 83 => ⟨S4096x512, .f32⟩
  | 84 => ⟨S4096x512, .f32⟩
  | 85 => ⟨S1x512, .f32⟩
  | 86 => ⟨S512, .f32⟩
  | 87 => ⟨S1x512, .f32⟩
  | 88 => ⟨S4096x512, .f32⟩
  | 89 => ⟨S4096x512, .f32⟩
  | 90 => ⟨S4096x512, .f32⟩
  | 91 => ⟨S4096x512, .f32⟩
  | 92 => ⟨S1x512, .f32⟩
  | 93 => ⟨S512, .f32⟩
  | 94 => ⟨S1x512, .f32⟩
  | 95 => ⟨S4096x512, .f32⟩
  | 96 => ⟨S4096x512, .f32⟩
  | 97 => ⟨S4096x512, .f32⟩
  | 98 => ⟨S4096x512, .f32⟩
  | 99 => ⟨S1x512, .f32⟩
  | 100 => ⟨S512, .f32⟩
  | 101 => ⟨S1x512, .f32⟩
  | 102 => ⟨S4096x512, .f32⟩
  | 103 => ⟨S4096x512, .f32⟩
  | 104 => ⟨S4096x512, .f32⟩
  | 105 => ⟨S4096x512, .f32⟩
  | 106 => ⟨S1x512, .f32⟩
  | 107 => ⟨S512, .f32⟩
  | 108 => ⟨S1x512, .f32⟩
  | 109 => ⟨S4096x512, .f32⟩
  | 110 => ⟨S4096x512, .f32⟩
  | 111 => ⟨S4096x512, .f32⟩
  | 112 => ⟨S4096x512, .f32⟩
  | 113 => ⟨S1x512, .f32⟩
  | 114 => ⟨S512, .f32⟩
  | 115 => ⟨S1x512, .f32⟩
  | 116 => ⟨S4096x512, .f32⟩
  | 117 => ⟨S4096x512, .f32⟩
  | 118 => ⟨S4096x512, .f32⟩
  | 119 => ⟨S4096x512, .f32⟩
  | 120 => ⟨S1x512, .f32⟩
  | 121 => ⟨S512, .f32⟩
  | 122 => ⟨S1x512, .f32⟩
  | 123 => ⟨S4096x512, .f32⟩
  | 124 => ⟨S4096x512, .f32⟩
  | 125 => ⟨S4096x512, .f32⟩
  | 126 => ⟨S4096x512, .f32⟩
  | 127 => ⟨S1x512, .f32⟩
  | _ => ⟨S4096x1024, .f32⟩

abbrev hbmTy0_1 (i : Nat) : BufTy := match i % 128 with
  | 0 => ⟨S512, .f32⟩
  | 1 => ⟨S1x512, .f32⟩
  | 2 => ⟨S4096x512, .f32⟩
  | 3 => ⟨S4096x512, .f32⟩
  | 4 => ⟨S4096x512, .f32⟩
  | 5 => ⟨S4096x512, .f32⟩
  | 6 => ⟨S1x512, .f32⟩
  | 7 => ⟨S512, .f32⟩
  | 8 => ⟨S1x512, .f32⟩
  | 9 => ⟨S4096x512, .f32⟩
  | 10 => ⟨S4096x512, .f32⟩
  | 11 => ⟨S4096x512, .f32⟩
  | 12 => ⟨S4096x512, .f32⟩
  | 13 => ⟨S1x512, .f32⟩
  | 14 => ⟨S512, .f32⟩
  | 15 => ⟨S1x512, .f32⟩
  | 16 => ⟨S4096x512, .f32⟩
  | 17 => ⟨S4096x512, .f32⟩
  | 18 => ⟨S4096x512, .f32⟩
  | 19 => ⟨S4096x512, .f32⟩
  | 20 => ⟨S1x512, .f32⟩
  | 21 => ⟨S512, .f32⟩
  | 22 => ⟨S1x512, .f32⟩
  | 23 => ⟨S4096x512, .f32⟩
  | 24 => ⟨S4096x512, .f32⟩
  | 25 => ⟨S4096x512, .f32⟩
  | 26 => ⟨S4096x512, .f32⟩
  | 27 => ⟨S1x512, .f32⟩
  | 28 => ⟨S512, .f32⟩
  | 29 => ⟨S1x512, .f32⟩
  | 30 => ⟨S4096x512, .f32⟩
  | 31 => ⟨S4096x512, .f32⟩
  | 32 => ⟨S4096x512, .f32⟩
  | 33 => ⟨S4096x512, .f32⟩
  | 34 => ⟨S1x512, .f32⟩
  | 35 => ⟨S512, .f32⟩
  | 36 => ⟨S1x512, .f32⟩
  | 37 => ⟨S4096x512, .f32⟩
  | 38 => ⟨S4096x512, .f32⟩
  | 39 => ⟨S4096x512, .f32⟩
  | 40 => ⟨S4096x512, .f32⟩
  | 41 => ⟨S1x512, .f32⟩
  | 42 => ⟨S512, .f32⟩
  | 43 => ⟨S1x512, .f32⟩
  | 44 => ⟨S4096x512, .f32⟩
  | 45 => ⟨S4096x512, .f32⟩
  | 46 => ⟨S4096x512, .f32⟩
  | 47 => ⟨S4096x512, .f32⟩
  | 48 => ⟨S1x512, .f32⟩
  | 49 => ⟨S512, .f32⟩
  | 50 => ⟨S1x512, .f32⟩
  | 51 => ⟨S4096x512, .f32⟩
  | 52 => ⟨S4096x512, .f32⟩
  | 53 => ⟨S4096x512, .f32⟩
  | 54 => ⟨S4096x512, .f32⟩
  | 55 => ⟨S1x512, .f32⟩
  | 56 => ⟨S512, .f32⟩
  | 57 => ⟨S1x512, .f32⟩
  | 58 => ⟨S4096x512, .f32⟩
  | 59 => ⟨S4096x512, .f32⟩
  | 60 => ⟨S4096x512, .f32⟩
  | 61 => ⟨S4096x512, .f32⟩
  | 62 => ⟨S1x512, .f32⟩
  | 63 => ⟨S512, .f32⟩
  | 64 => ⟨S1x512, .f32⟩
  | 65 => ⟨S4096x512, .f32⟩
  | 66 => ⟨S4096x512, .f32⟩
  | 67 => ⟨S4096x512, .f32⟩
  | 68 => ⟨S4096x512, .f32⟩
  | 69 => ⟨S1x512, .f32⟩
  | 70 => ⟨S512, .f32⟩
  | 71 => ⟨S1x512, .f32⟩
  | 72 => ⟨S4096x512, .f32⟩
  | 73 => ⟨S4096x512, .f32⟩
  | 74 => ⟨S4096x512, .f32⟩
  | 75 => ⟨S4096x512, .f32⟩
  | 76 => ⟨S1x512, .f32⟩
  | 77 => ⟨S512, .f32⟩
  | 78 => ⟨S1x512, .f32⟩
  | 79 => ⟨S4096x512, .f32⟩
  | 80 => ⟨S4096x512, .f32⟩
  | 81 => ⟨S4096x512, .f32⟩
  | 82 => ⟨S4096x512, .f32⟩
  | 83 => ⟨S1x512, .f32⟩
  | 84 => ⟨S512, .f32⟩
  | 85 => ⟨S1x512, .f32⟩
  | 86 => ⟨S4096x512, .f32⟩
  | 87 => ⟨S4096x512, .f32⟩
  | 88 => ⟨S4096x512, .f32⟩
  | 89 => ⟨S4096x512, .f32⟩
  | 90 => ⟨S1x512, .f32⟩
  | 91 => ⟨S512, .f32⟩
  | 92 => ⟨S1x512, .f32⟩
  | 93 => ⟨S4096x512, .f32⟩
  | 94 => ⟨S4096x512, .f32⟩
  | 95 => ⟨S4096x512, .f32⟩
  | 96 => ⟨S4096x512, .f32⟩
  | 97 => ⟨S1x512, .f32⟩
  | 98 => ⟨S512, .f32⟩
  | 99 => ⟨S1x512, .f32⟩
  | 100 => ⟨S4096x512, .f32⟩
  | 101 => ⟨S4096x512, .f32⟩
  | 102 => ⟨S4096x512, .f32⟩
  | 103 => ⟨S4096x512, .f32⟩
  | 104 => ⟨S1x512, .f32⟩
  | 105 => ⟨S512, .f32⟩
  | 106 => ⟨S1x512, .f32⟩
  | 107 => ⟨S4096x512, .f32⟩
  | 108 => ⟨S4096x512, .f32⟩
  | 109 => ⟨S4096x512, .f32⟩
  | 110 => ⟨S4096x512, .f32⟩
  | 111 => ⟨S1x512, .f32⟩
  | 112 => ⟨S512, .f32⟩
  | 113 => ⟨S1x512, .f32⟩
  | 114 => ⟨S4096x512, .f32⟩
  | 115 => ⟨S4096x512, .f32⟩
  | 116 => ⟨S4096x512, .f32⟩
  | 117 => ⟨S1x512, .f32⟩
  | 118 => ⟨S4096x512, .f32⟩
  | 119 => ⟨S4096x512, .f32⟩
  | 120 => ⟨S_, .f32⟩
  | 121 => ⟨S4096, .f32⟩
  | 122 => ⟨S4096x1, .f32⟩
  | 123 => ⟨S_, .f32⟩
  | 124 => ⟨S4096x1, .f32⟩
  | 125 => ⟨S4096x1, .f32⟩
  | 126 => ⟨S4096x512, .f32⟩
  | 127 => ⟨S4096x512, .f32⟩
  | _ => ⟨S4096x1024, .f32⟩

abbrev hbmTy0_2 (i : Nat) : BufTy := match i % 128 with
  | 0 => ⟨S4096x512, .f32⟩
  | 1 => ⟨S_, .f32⟩
  | 2 => ⟨S4096x512, .f32⟩
  | 3 => ⟨S4096x512, .f32⟩
  | 4 => ⟨S_, .f32⟩
  | 5 => ⟨S4096, .f32⟩
  | 6 => ⟨S4096x1, .f32⟩
  | 7 => ⟨S_, .f32⟩
  | 8 => ⟨S4096x1, .f32⟩
  | 9 => ⟨S4096x1, .f32⟩
  | 10 => ⟨S4096x512, .f32⟩
  | 11 => ⟨S4096x512, .f32⟩
  | 12 => ⟨S_, .f32⟩
  | 13 => ⟨S4096x1, .f32⟩
  | 14 => ⟨S4096x1, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x512, .f32⟩
  | 21 => ⟨S4096x512, .f32⟩
  | 22 => ⟨S1x512, .f32⟩
  | 23 => ⟨S4096x512, .f32⟩
  | 24 => ⟨S4096x512, .f32⟩
  | 25 => ⟨S1x512, .f32⟩
  | 26 => ⟨S4096x512, .f32⟩
  | 27 => ⟨S4096x512, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S_, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S_, .f32⟩
  | 46 => ⟨S512, .f32⟩
  | 47 => ⟨S1x512, .f32⟩
  | 48 => ⟨S_, .f32⟩
  | 49 => ⟨S512, .f32⟩
  | 50 => ⟨S4096x512, .f32⟩
  | 51 => ⟨S_, .f32⟩
  | 52 => ⟨S512, .f32⟩
  | 53 => ⟨S1x512, .f32⟩
  | 54 => ⟨S4096x512, .f32⟩
  | 55 => ⟨S4096x512, .f32⟩
  | 56 => ⟨S_, .f32⟩
  | 57 => ⟨S512, .f32⟩
  | 58 => ⟨S4096x512, .f32⟩
  | 59 => ⟨S_, .f32⟩
  | 60 => ⟨S4096, .f32⟩
  | 61 => ⟨S4096x1, .f32⟩
  | 62 => ⟨S4096x512, .f32⟩
  | 63 => ⟨S4096x512, .f32⟩
  | 64 => ⟨S4096x1, .f32⟩
  | 65 => ⟨S4096x512, .f32⟩
  | 66 => ⟨S_, .f32⟩
  | 67 => ⟨S4096, .f32⟩
  | 68 => ⟨S4096x1, .f32⟩
  | 69 => ⟨S_, .f32⟩
  | 70 => ⟨S4096x1, .f32⟩
  | 71 => ⟨S4096x1, .f32⟩
  | 72 => ⟨S_, .f32⟩
  | 73 => ⟨S4096, .f32⟩
  | 74 => ⟨S4096x512, .f32⟩
  | 75 => ⟨S4096x512, .f32⟩
  | 76 => ⟨S4096x512, .f32⟩
  | 77 => ⟨S_, .f32⟩
  | 78 => ⟨S4096, .f32⟩
  | 79 => ⟨S4096x1, .f32⟩
  | 80 => ⟨S4096x512, .f32⟩
  | 81 => ⟨S4096x1, .f32⟩
  | 82 => ⟨S_, .f32⟩
  | 83 => ⟨S4096x1, .f32⟩
  | 84 => ⟨S4096x1, .f32⟩
  | 85 => ⟨S_, .f32⟩
  | 86 => ⟨S4096, .f32⟩
  | 87 => ⟨S4096x512, .f32⟩
  | 88 => ⟨S4096x512, .f32⟩
  | 89 => ⟨S_, .f32⟩
  | 90 => ⟨S512, .f32⟩
  | 91 => ⟨S1x512, .f32⟩
  | 92 => ⟨S_, .f32⟩
  | 93 => ⟨S512, .f32⟩
  | 94 => ⟨S4096x512, .f32⟩
  | 95 => ⟨S_, .f32⟩
  | 96 => ⟨S512, .f32⟩
  | 97 => ⟨S1x512, .f32⟩
  | 98 => ⟨S4096x512, .f32⟩
  | 99 => ⟨S4096x512, .f32⟩
  | 100 => ⟨S_, .f32⟩
  | 101 => ⟨S512, .f32⟩
  | 102 => ⟨S1x512, .f32⟩
  | 103 => ⟨S_, .f32⟩
  | 104 => ⟨S31x512, .f32⟩
  | 105 => ⟨S_, .f32⟩
  | 106 => ⟨S4126x512, .f32⟩
  | 107 => ⟨S4096x512, .f32⟩
  | 108 => ⟨S_, .f32⟩
  | 109 => ⟨S512, .f32⟩
  | 110 => ⟨S1x512, .f32⟩
  | 111 => ⟨S4096x512, .f32⟩
  | 112 => ⟨S4096x512, .f32⟩
  | 113 => ⟨S_, .f32⟩
  | 114 => ⟨S512, .f32⟩
  | 115 => ⟨S1x512, .f32⟩
  | 116 => ⟨S_, .f32⟩
  | 117 => ⟨S31x512, .f32⟩
  | 118 => ⟨S31x512, .f32⟩
  | 119 => ⟨S_, .f32⟩
  | 120 => ⟨S4126x512, .f32⟩
  | 121 => ⟨S4126x512, .f32⟩
  | 122 => ⟨S4096x512, .f32⟩
  | 123 => ⟨S_, .f32⟩
  | 124 => ⟨S512, .f32⟩
  | 125 => ⟨S1x512, .f32⟩
  | 126 => ⟨S4096x512, .f32⟩
  | 127 => ⟨S4096x512, .f32⟩
  | _ => ⟨S4096x1024, .f32⟩

abbrev hbmTy0_3 (i : Nat) : BufTy := match i % 128 with
  | 0 => ⟨S_, .f32⟩
  | 1 => ⟨S512, .f32⟩
  | 2 => ⟨S1x512, .f32⟩
  | 3 => ⟨S_, .f32⟩
  | 4 => ⟨S31x512, .f32⟩
  | 5 => ⟨S31x512, .f32⟩
  | 6 => ⟨S_, .f32⟩
  | 7 => ⟨S4126x512, .f32⟩
  | 8 => ⟨S4126x512, .f32⟩
  | 9 => ⟨S4096x512, .f32⟩
  | 10 => ⟨S_, .f32⟩
  | 11 => ⟨S512, .f32⟩
  | 12 => ⟨S1x512, .f32⟩
  | 13 => ⟨S4096x512, .f32⟩
  | 14 => ⟨S4096x512, .f32⟩
  | 15 => ⟨S_, .f32⟩
  | 16 => ⟨S512, .f32⟩
  | 17 => ⟨S1x512, .f32⟩
  | 18 => ⟨S_, .f32⟩
  | 19 => ⟨S31x512, .f32⟩
  | 20 => ⟨S31x512, .f32⟩
  | 21 => ⟨S_, .f32⟩
  | 22 => ⟨S4126x512, .f32⟩
  | 23 => ⟨S4126x512, .f32⟩
  | 24 => ⟨S4096x512, .f32⟩
  | 25 => ⟨S_, .f32⟩
  | 26 => ⟨S512, .f32⟩
  | 27 => ⟨S1x512, .f32⟩
  | 28 => ⟨S4096x512, .f32⟩
  | 29 => ⟨S4096x512, .f32⟩
  | 30 => ⟨S_, .f32⟩
  | 31 => ⟨S512, .f32⟩
  | 32 => ⟨S1x512, .f32⟩
  | 33 => ⟨S_, .f32⟩
  | 34 => ⟨S31x512, .f32⟩
  | 35 => ⟨S31x512, .f32⟩
  | 36 => ⟨S_, .f32⟩
  | 37 => ⟨S4126x512, .f32⟩
  | 38 => ⟨S4126x512, .f32⟩
  | 39 => ⟨S4096x512, .f32⟩
  | 40 => ⟨S_, .f32⟩
  | 41 => ⟨S512, .f32⟩
  | 42 => ⟨S1x512, .f32⟩
  | 43 => ⟨S4096x512, .f32⟩
  | 44 => ⟨S4096x512, .f32⟩
  | 45 => ⟨S_, .f32⟩
  | 46 => ⟨S512, .f32⟩
  | 47 => ⟨S1x512, .f32⟩
  | 48 => ⟨S_, .f32⟩
  | 49 => ⟨S31x512, .f32⟩
  | 50 => ⟨S31x512, .f32⟩
  | 51 => ⟨S_, .f32⟩
  | 52 => ⟨S4126x512, .f32⟩
  | 53 => ⟨S4126x512, .f32⟩
  | 54 => ⟨S4096x512, .f32⟩
  | 55 => ⟨S_, .f32⟩
  | 56 => ⟨S512, .f32⟩
  | 57 => ⟨S1x512, .f32⟩
  | 58 => ⟨S4096x512, .f32⟩
  | 59 => ⟨S4096x512, .f32⟩
  | 60 => ⟨S_, .f32⟩
  | 61 => ⟨S512, .f32⟩
  | 62 => ⟨S1x512, .f32⟩
  | 63 => ⟨S_, .f32⟩
  | 64 => ⟨S31x512, .f32⟩
  | 65 => ⟨S31x512, .f32⟩
  | 66 => ⟨S_, .f32⟩
  | 67 => ⟨S4126x512, .f32⟩
  | 68 => ⟨S4126x512, .f32⟩
  | 69 => ⟨S4096x512, .f32⟩
  | 70 => ⟨S_, .f32⟩
  | 71 => ⟨S512, .f32⟩
  | 72 => ⟨S1x512, .f32⟩
  | 73 => ⟨S4096x512, .f32⟩
  | 74 => ⟨S4096x512, .f32⟩
  | 75 => ⟨S_, .f32⟩
  | 76 => ⟨S512, .f32⟩
  | 77 => ⟨S1x512, .f32⟩
  | 78 => ⟨S_, .f32⟩
  | 79 => ⟨S31x512, .f32⟩
  | 80 => ⟨S31x512, .f32⟩
  | 81 => ⟨S_, .f32⟩
  | 82 => ⟨S4126x512, .f32⟩
  | 83 => ⟨S4126x512, .f32⟩
  | 84 => ⟨S4096x512, .f32⟩
  | 85 => ⟨S_, .f32⟩
  | 86 => ⟨S512, .f32⟩
  | 87 => ⟨S1x512, .f32⟩
  | 88 => ⟨S4096x512, .f32⟩
  | 89 => ⟨S4096x512, .f32⟩
  | 90 => ⟨S_, .f32⟩
  | 91 => ⟨S512, .f32⟩
  | 92 => ⟨S1x512, .f32⟩
  | 93 => ⟨S_, .f32⟩
  | 94 => ⟨S31x512, .f32⟩
  | 95 => ⟨S31x512, .f32⟩
  | 96 => ⟨S_, .f32⟩
  | 97 => ⟨S4126x512, .f32⟩
  | 98 => ⟨S4126x512, .f32⟩
  | 99 => ⟨S4096x512, .f32⟩
  | 100 => ⟨S_, .f32⟩
  | 101 => ⟨S512, .f32⟩
  | 102 => ⟨S1x512, .f32⟩
  | 103 => ⟨S4096x512, .f32⟩
  | 104 => ⟨S4096x512, .f32⟩
  | 105 => ⟨S_, .f32⟩
  | 106 => ⟨S512, .f32⟩
  | 107 => ⟨S1x512, .f32⟩
  | 108 => ⟨S_, .f32⟩
  | 109 => ⟨S31x512, .f32⟩
  | 110 => ⟨S31x512, .f32⟩
  | 111 => ⟨S_, .f32⟩
  | 112 => ⟨S4126x512, .f32⟩
  | 113 => ⟨S4126x512, .f32⟩
  | 114 => ⟨S4096x512, .f32⟩
  | 115 => ⟨S_, .f32⟩
  | 116 => ⟨S512, .f32⟩
  | 117 => ⟨S1x512, .f32⟩
  | 118 => ⟨S4096x512, .f32⟩
  | 119 => ⟨S4096x512, .f32⟩
  | 120 => ⟨S_, .f32⟩
  | 121 => ⟨S512, .f32⟩
  | 122 => ⟨S1x512, .f32⟩
  | 123 => ⟨S_, .f32⟩
  | 124 => ⟨S31x512, .f32⟩
  | 125 => ⟨S31x512, .f32⟩
  | 126 => ⟨S_, .f32⟩
  | 127 => ⟨S4126x512, .f32⟩
  | _ => ⟨S4096x1024, .f32⟩

abbrev hbmTy0_4 (i : Nat) : BufTy := match i % 128 with
  | 0 => ⟨S4126x512, .f32⟩
  | 1 => ⟨S4096x512, .f32⟩
  | 2 => ⟨S_, .f32⟩
  | 3 => ⟨S512, .f32⟩
  | 4 => ⟨S1x512, .f32⟩
  | 5 => ⟨S4096x512, .f32⟩
  | 6 => ⟨S4096x512, .f32⟩
  | 7 => ⟨S_, .f32⟩
  | 8 => ⟨S512, .f32⟩
  | 9 => ⟨S1x512, .f32⟩
  | 10 => ⟨S_, .f32⟩
  | 11 => ⟨S31x512, .f32⟩
  | 12 => ⟨S31x512, .f32⟩
  | 13 => ⟨S_, .f32⟩
  | 14 => ⟨S4126x512, .f32⟩
  | 15 => ⟨S4126x512, .f32⟩
  | 16 => ⟨S4096x512, .f32⟩
  | 17 => ⟨S_, .f32⟩
  | 18 => ⟨S512, .f32⟩
  | 19 => ⟨S1x512, .f32⟩
  | 20 => ⟨S4096x512, .f32⟩
  | 21 => ⟨S4096x512, .f32⟩
  | 22 => ⟨S_, .f32⟩
  | 23 => ⟨S512, .f32⟩
  | 24 => ⟨S1x512, .f32⟩
  | 25 => ⟨S_, .f32⟩
  | 26 => ⟨S31x512, .f32⟩
  | 27 => ⟨S31x512, .f32⟩
  | 28 => ⟨S_, .f32⟩
  | 29 => ⟨S4126x512, .f32⟩
  | 30 => ⟨S4126x512, .f32⟩
  | 31 => ⟨S4096x512, .f32⟩
  | 32 => ⟨S_, .f32⟩
  | 33 => ⟨S512, .f32⟩
  | 34 => ⟨S1x512, .f32⟩
  | 35 => ⟨S4096x512, .f32⟩
  | 36 => ⟨S4096x512, .f32⟩
  | 37 => ⟨S_, .f32⟩
  | 38 => ⟨S512, .f32⟩
  | 39 => ⟨S1x512, .f32⟩
  | 40 => ⟨S_, .f32⟩
  | 41 => ⟨S31x512, .f32⟩
  | 42 => ⟨S31x512, .f32⟩
  | 43 => ⟨S_, .f32⟩
  | 44 => ⟨S4126x512, .f32⟩
  | 45 => ⟨S4126x512, .f32⟩
  | 46 => ⟨S4096x512, .f32⟩
  | 47 => ⟨S_, .f32⟩
  | 48 => ⟨S512, .f32⟩
  | 49 => ⟨S1x512, .f32⟩
  | 50 => ⟨S4096x512, .f32⟩
  | 51 => ⟨S4096x512, .f32⟩
  | 52 => ⟨S_, .f32⟩
  | 53 => ⟨S512, .f32⟩
  | 54 => ⟨S1x512, .f32⟩
  | 55 => ⟨S_, .f32⟩
  | 56 => ⟨S31x512, .f32⟩
  | 57 => ⟨S31x512, .f32⟩
  | 58 => ⟨S_, .f32⟩
  | 59 => ⟨S4126x512, .f32⟩
  | 60 => ⟨S4126x512, .f32⟩
  | 61 => ⟨S4096x512, .f32⟩
  | 62 => ⟨S_, .f32⟩
  | 63 => ⟨S512, .f32⟩
  | 64 => ⟨S1x512, .f32⟩
  | 65 => ⟨S4096x512, .f32⟩
  | 66 => ⟨S4096x512, .f32⟩
  | 67 => ⟨S_, .f32⟩
  | 68 => ⟨S512, .f32⟩
  | 69 => ⟨S1x512, .f32⟩
  | 70 => ⟨S_, .f32⟩
  | 71 => ⟨S31x512, .f32⟩
  | 72 => ⟨S31x512, .f32⟩
  | 73 => ⟨S_, .f32⟩
  | 74 => ⟨S4126x512, .f32⟩
  | 75 => ⟨S4126x512, .f32⟩
  | 76 => ⟨S4096x512, .f32⟩
  | 77 => ⟨S_, .f32⟩
  | 78 => ⟨S512, .f32⟩
  | 79 => ⟨S1x512, .f32⟩
  | 80 => ⟨S4096x512, .f32⟩
  | 81 => ⟨S4096x512, .f32⟩
  | 82 => ⟨S_, .f32⟩
  | 83 => ⟨S512, .f32⟩
  | 84 => ⟨S1x512, .f32⟩
  | 85 => ⟨S_, .f32⟩
  | 86 => ⟨S31x512, .f32⟩
  | 87 => ⟨S31x512, .f32⟩
  | 88 => ⟨S_, .f32⟩
  | 89 => ⟨S4126x512, .f32⟩
  | 90 => ⟨S4126x512, .f32⟩
  | 91 => ⟨S4096x512, .f32⟩
  | 92 => ⟨S_, .f32⟩
  | 93 => ⟨S512, .f32⟩
  | 94 => ⟨S1x512, .f32⟩
  | 95 => ⟨S4096x512, .f32⟩
  | 96 => ⟨S4096x512, .f32⟩
  | 97 => ⟨S_, .f32⟩
  | 98 => ⟨S512, .f32⟩
  | 99 => ⟨S1x512, .f32⟩
  | 100 => ⟨S_, .f32⟩
  | 101 => ⟨S31x512, .f32⟩
  | 102 => ⟨S31x512, .f32⟩
  | 103 => ⟨S_, .f32⟩
  | 104 => ⟨S4126x512, .f32⟩
  | 105 => ⟨S4126x512, .f32⟩
  | 106 => ⟨S4096x512, .f32⟩
  | 107 => ⟨S_, .f32⟩
  | 108 => ⟨S512, .f32⟩
  | 109 => ⟨S1x512, .f32⟩
  | 110 => ⟨S4096x512, .f32⟩
  | 111 => ⟨S4096x512, .f32⟩
  | 112 => ⟨S_, .f32⟩
  | 113 => ⟨S512, .f32⟩
  | 114 => ⟨S1x512, .f32⟩
  | 115 => ⟨S_, .f32⟩
  | 116 => ⟨S31x512, .f32⟩
  | 117 => ⟨S31x512, .f32⟩
  | 118 => ⟨S_, .f32⟩
  | 119 => ⟨S4126x512, .f32⟩
  | 120 => ⟨S4126x512, .f32⟩
  | 121 => ⟨S4096x512, .f32⟩
  | 122 => ⟨S_, .f32⟩
  | 123 => ⟨S512, .f32⟩
  | 124 => ⟨S1x512, .f32⟩
  | 125 => ⟨S4096x512, .f32⟩
  | 126 => ⟨S4096x512, .f32⟩
  | 127 => ⟨S_, .f32⟩
  | _ => ⟨S4096x1024, .f32⟩

abbrev hbmTy0_5 (i : Nat) : BufTy := match i % 128 with
  | 0 => ⟨S512, .f32⟩
  | 1 => ⟨S1x512, .f32⟩
  | 2 => ⟨S_, .f32⟩
  | 3 => ⟨S31x512, .f32⟩
  | 4 => ⟨S31x512, .f32⟩
  | 5 => ⟨S_, .f32⟩
  | 6 => ⟨S4126x512, .f32⟩
  | 7 => ⟨S4126x512, .f32⟩
  | 8 => ⟨S4096x512, .f32⟩
  | 9 => ⟨S_, .f32⟩
  | 10 => ⟨S512, .f32⟩
  | 11 => ⟨S1x512, .f32⟩
  | 12 => ⟨S4096x512, .f32⟩
  | 13 => ⟨S4096x512, .f32⟩
  | 14 => ⟨S_, .f32⟩
  | 15 => ⟨S512, .f32⟩
  | 16 => ⟨S1x512, .f32⟩
  | 17 => ⟨S_, .f32⟩
  | 18 => ⟨S31x512, .f32⟩
  | 19 => ⟨S31x512, .f32⟩
  | 20 => ⟨S_, .f32⟩
  | 21 => ⟨S4126x512, .f32⟩
  | 22 => ⟨S4126x512, .f32⟩
  | 23 => ⟨S4096x512, .f32⟩
  | 24 => ⟨S_, .f32⟩
  | 25 => ⟨S512, .f32⟩
  | 26 => ⟨S1x512, .f32⟩
  | 27 => ⟨S4096x512, .f32⟩
  | 28 => ⟨S4096x512, .f32⟩
  | 29 => ⟨S_, .f32⟩
  | 30 => ⟨S512, .f32⟩
  | 31 => ⟨S1x512, .f32⟩
  | 32 => ⟨S_, .f32⟩
  | 33 => ⟨S31x512, .f32⟩
  | 34 => ⟨S31x512, .f32⟩
  | 35 => ⟨S_, .f32⟩
  | 36 => ⟨S4126x512, .f32⟩
  | 37 => ⟨S4126x512, .f32⟩
  | 38 => ⟨S4096x512, .f32⟩
  | 39 => ⟨S_, .f32⟩
  | 40 => ⟨S512, .f32⟩
  | 41 => ⟨S1x512, .f32⟩
  | 42 => ⟨S4096x512, .f32⟩
  | 43 => ⟨S4096x512, .f32⟩
  | 44 => ⟨S_, .f32⟩
  | 45 => ⟨S512, .f32⟩
  | 46 => ⟨S1x512, .f32⟩
  | 47 => ⟨S_, .f32⟩
  | 48 => ⟨S31x512, .f32⟩
  | 49 => ⟨S31x512, .f32⟩
  | 50 => ⟨S_, .f32⟩
  | 51 => ⟨S4126x512, .f32⟩
  | 52 => ⟨S4126x512, .f32⟩
  | 53 => ⟨S4096x512, .f32⟩
  | 54 => ⟨S_, .f32⟩
  | 55 => ⟨S512, .f32⟩
  | 56 => ⟨S1x512, .f32⟩
  | 57 => ⟨S4096x512, .f32⟩
  | 58 => ⟨S4096x512, .f32⟩
  | 59 => ⟨S_, .f32⟩
  | 60 => ⟨S512, .f32⟩
  | 61 => ⟨S1x512, .f32⟩
  | 62 => ⟨S_, .f32⟩
  | 63 => ⟨S31x512, .f32⟩
  | 64 => ⟨S31x512, .f32⟩
  | 65 => ⟨S_, .f32⟩
  | 66 => ⟨S4126x512, .f32⟩
  | 67 => ⟨S4126x512, .f32⟩
  | 68 => ⟨S4096x512, .f32⟩
  | 69 => ⟨S_, .f32⟩
  | 70 => ⟨S512, .f32⟩
  | 71 => ⟨S1x512, .f32⟩
  | 72 => ⟨S4096x512, .f32⟩
  | 73 => ⟨S4096x512, .f32⟩
  | 74 => ⟨S_, .f32⟩
  | 75 => ⟨S512, .f32⟩
  | 76 => ⟨S1x512, .f32⟩
  | 77 => ⟨S_, .f32⟩
  | 78 => ⟨S31x512, .f32⟩
  | 79 => ⟨S31x512, .f32⟩
  | 80 => ⟨S_, .f32⟩
  | 81 => ⟨S4126x512, .f32⟩
  | 82 => ⟨S4126x512, .f32⟩
  | 83 => ⟨S4096x512, .f32⟩
  | 84 => ⟨S_, .f32⟩
  | 85 => ⟨S512, .f32⟩
  | 86 => ⟨S1x512, .f32⟩
  | 87 => ⟨S4096x512, .f32⟩
  | 88 => ⟨S4096x512, .f32⟩
  | 89 => ⟨S_, .f32⟩
  | 90 => ⟨S512, .f32⟩
  | 91 => ⟨S1x512, .f32⟩
  | 92 => ⟨S_, .f32⟩
  | 93 => ⟨S31x512, .f32⟩
  | 94 => ⟨S31x512, .f32⟩
  | 95 => ⟨S_, .f32⟩
  | 96 => ⟨S4126x512, .f32⟩
  | 97 => ⟨S4126x512, .f32⟩
  | 98 => ⟨S4096x512, .f32⟩
  | 99 => ⟨S_, .f32⟩
  | 100 => ⟨S512, .f32⟩
  | 101 => ⟨S1x512, .f32⟩
  | 102 => ⟨S4096x512, .f32⟩
  | 103 => ⟨S4096x512, .f32⟩
  | 104 => ⟨S_, .f32⟩
  | 105 => ⟨S512, .f32⟩
  | 106 => ⟨S1x512, .f32⟩
  | 107 => ⟨S_, .f32⟩
  | 108 => ⟨S31x512, .f32⟩
  | 109 => ⟨S31x512, .f32⟩
  | 110 => ⟨S_, .f32⟩
  | 111 => ⟨S4126x512, .f32⟩
  | 112 => ⟨S4126x512, .f32⟩
  | 113 => ⟨S4096x512, .f32⟩
  | 114 => ⟨S_, .f32⟩
  | 115 => ⟨S512, .f32⟩
  | 116 => ⟨S1x512, .f32⟩
  | 117 => ⟨S4096x512, .f32⟩
  | 118 => ⟨S4096x512, .f32⟩
  | 119 => ⟨S_, .f32⟩
  | 120 => ⟨S512, .f32⟩
  | 121 => ⟨S1x512, .f32⟩
  | 122 => ⟨S_, .f32⟩
  | 123 => ⟨S31x512, .f32⟩
  | 124 => ⟨S31x512, .f32⟩
  | 125 => ⟨S_, .f32⟩
  | 126 => ⟨S4126x512, .f32⟩
  | 127 => ⟨S4126x512, .f32⟩
  | _ => ⟨S4096x1024, .f32⟩

abbrev hbmTy0_6 (i : Nat) : BufTy := match i % 128 with
  | 0 => ⟨S4096x512, .f32⟩
  | 1 => ⟨S_, .f32⟩
  | 2 => ⟨S512, .f32⟩
  | 3 => ⟨S1x512, .f32⟩
  | 4 => ⟨S4096x512, .f32⟩
  | 5 => ⟨S4096x512, .f32⟩
  | 6 => ⟨S_, .f32⟩
  | 7 => ⟨S512, .f32⟩
  | 8 => ⟨S1x512, .f32⟩
  | 9 => ⟨S_, .f32⟩
  | 10 => ⟨S31x512, .f32⟩
  | 11 => ⟨S31x512, .f32⟩
  | 12 => ⟨S_, .f32⟩
  | 13 => ⟨S4126x512, .f32⟩
  | 14 => ⟨S4126x512, .f32⟩
  | 15 => ⟨S4096x512, .f32⟩
  | 16 => ⟨S_, .f32⟩
  | 17 => ⟨S512, .f32⟩
  | 18 => ⟨S1x512, .f32⟩
  | 19 => ⟨S4096x512, .f32⟩
  | 20 => ⟨S4096x512, .f32⟩
  | 21 => ⟨S_, .f32⟩
  | 22 => ⟨S512, .f32⟩
  | 23 => ⟨S1x512, .f32⟩
  | 24 => ⟨S_, .f32⟩
  | 25 => ⟨S31x512, .f32⟩
  | 26 => ⟨S31x512, .f32⟩
  | 27 => ⟨S_, .f32⟩
  | 28 => ⟨S4126x512, .f32⟩
  | 29 => ⟨S4126x512, .f32⟩
  | 30 => ⟨S4096x512, .f32⟩
  | 31 => ⟨S_, .f32⟩
  | 32 => ⟨S512, .f32⟩
  | 33 => ⟨S1x512, .f32⟩
  | 34 => ⟨S4096x512, .f32⟩
  | 35 => ⟨S4096x512, .f32⟩
  | 36 => ⟨S_, .f32⟩
  | 37 => ⟨S512, .f32⟩
  | 38 => ⟨S1x512, .f32⟩
  | 39 => ⟨S_, .f32⟩
  | 40 => ⟨S31x512, .f32⟩
  | 41 => ⟨S31x512, .f32⟩
  | 42 => ⟨S_, .f32⟩
  | 43 => ⟨S4126x512, .f32⟩
  | 44 => ⟨S4126x512, .f32⟩
  | 45 => ⟨S30x512, .f32⟩
  | 46 => ⟨S4096x512, .f32⟩
  | 47 => ⟨S4096x512, .f32⟩
  | 48 => ⟨S4096x512, .f32⟩
  | 49 => ⟨S4096x512, .f32⟩
  | 50 => ⟨S4096x1024, .f32⟩
  | 51 => ⟨S1x512, .f32⟩
  | 52 => ⟨S1x512, .f32⟩
  | 53 => ⟨S1x512, .f32⟩
  | 54 => ⟨S3x512, .f32⟩
  | 55 => ⟨S_, .f32⟩
  | 56 => ⟨S5x512, .f32⟩
  | 57 => ⟨S8x512, .f32⟩
  | 58 => ⟨S4096x1024, .bf16⟩
  | 59 => ⟨S_, .f32⟩
  | 60 => ⟨S1x512, .f32⟩
  | 61 => ⟨S32x512, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_v233 : Ref sig .tc := ⟨.hbm, 245, rfl⟩
abbrev main_v234 : Ref sig .tc := ⟨.hbm, 246, rfl⟩
abbrev main_v235 : Ref sig .tc := ⟨.hbm, 247, rfl⟩
abbrev main_cst_5 : Ref sig .tc := ⟨.hbm, 248, rfl⟩
abbrev main_v236 : Ref sig .tc := ⟨.hbm, 249, rfl⟩
abbrev main_v237 : Ref sig .tc := ⟨.hbm, 250, rfl⟩
abbrev main_cst_6 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_cst_7 : Ref sig .tc := ⟨.hbm, 257, rfl⟩
abbrev main_v243 : Ref sig .tc := ⟨.hbm, 258, rfl⟩
abbrev main_v244 : Ref sig .tc := ⟨.hbm, 259, rfl⟩
abbrev main_cst_8 : Ref sig .tc := ⟨.hbm, 260, rfl⟩
abbrev main_v245 : Ref sig .tc := ⟨.hbm, 261, rfl⟩
abbrev main_v246 : Ref sig .tc := ⟨.hbm, 262, rfl⟩
abbrev main_cst_9 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_cst_10 : Ref sig .tc := ⟨.hbm, 268, rfl⟩
abbrev main_v251 : Ref sig .tc := ⟨.hbm, 269, rfl⟩
abbrev main_v252 : Ref sig .tc := ⟨.hbm, 270, rfl⟩
abbrev main_v253 : Ref sig .tc := ⟨.hbm, 271, rfl⟩
abbrev main_v254 : Ref sig .tc := ⟨.hbm, 272, rfl⟩
abbrev main_cst_11 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263 : Ref sig .tc := ⟨.hbm, 282, rfl⟩
abbrev main_v264 : Ref sig .tc := ⟨.hbm, 283, rfl⟩
abbrev main_call0_v0 : Ref sig .tc := ⟨.hbm, 284, rfl⟩
abbrev main_call0_v1 : Ref sig .tc := ⟨.hbm, 285, rfl⟩
abbrev main_call0_cst : Ref sig .tc := ⟨.hbm, 286, rfl⟩
abbrev main_call0_v2 : Ref sig .tc := ⟨.hbm, 287, rfl⟩
abbrev main_call0_v3 : Ref sig .tc := ⟨.hbm, 288, rfl⟩
abbrev main_call0_cst_0 : Ref sig .tc := ⟨.hbm, 289, rfl⟩
abbrev main_call0_v4 : Ref sig .tc := ⟨.hbm, 290, rfl⟩
abbrev main_v265_2 : Ref sig .tc := ⟨.hbm, 291, rfl⟩
abbrev main_call0_cst_1 : Ref sig .tc := ⟨.hbm, 292, rfl⟩
abbrev main_call0_v6 : Ref sig .tc := ⟨.hbm, 293, rfl⟩
abbrev main_call0_v7 : Ref sig .tc := ⟨.hbm, 294, rfl⟩
abbrev main_v265_1 : Ref sig .tc := ⟨.hbm, 295, rfl⟩
abbrev main_v265_0 : Ref sig .tc := ⟨.hbm, 296, rfl⟩
abbrev main_call1_v0 : Ref sig .tc := ⟨.hbm, 297, rfl⟩
abbrev main_call1_v1 : Ref sig .tc := ⟨.hbm, 298, rfl⟩
abbrev main_call1_v2 : Ref sig .tc := ⟨.hbm, 299, rfl⟩
abbrev main_v266 : Ref sig .tc := ⟨.hbm, 300, rfl⟩
abbrev main_cst_12 : Ref sig .tc := ⟨.hbm, 301, rfl⟩
abbrev main_v267 : Ref sig .tc := ⟨.hbm, 302, rfl⟩
abbrev main_v268 : Ref sig .tc := ⟨.hbm, 303, rfl⟩
abbrev main_cst_13 : Ref sig .tc := ⟨.hbm, 304, rfl⟩
abbrev main_v269 : Ref sig .tc := ⟨.hbm, 305, rfl⟩
abbrev main_v270 : Ref sig .tc := ⟨.hbm, 306, rfl⟩
abbrev main_cst_14 : Ref sig .tc := ⟨.hbm, 307, rfl⟩
abbrev main_v271 : Ref sig .tc := ⟨.hbm, 308, rfl⟩
abbrev main_v272 : Ref sig .tc := ⟨.hbm, 309, rfl⟩
abbrev main_v273 : Ref sig .tc := ⟨.hbm, 310, rfl⟩
abbrev main_v274 : Ref sig .tc := ⟨.hbm, 311, rfl⟩
abbrev main_cst_15 : Ref sig .tc := ⟨.hbm, 312, rfl⟩
abbrev main_v275 : Ref sig .tc := ⟨.hbm, 313, rfl⟩
abbrev main_v276 : Ref sig .tc := ⟨.hbm, 314, rfl⟩
abbrev main_cst_16 : Ref sig .tc := ⟨.hbm, 315, rfl⟩
abbrev main_v277 : Ref sig .tc := ⟨.hbm, 316, rfl⟩
abbrev main_v278 : Ref sig .tc := ⟨.hbm, 317, rfl⟩
abbrev main_v279 : Ref sig .tc := ⟨.hbm, 318, rfl⟩
abbrev main_v280 : Ref sig .tc := ⟨.hbm, 319, rfl⟩
abbrev main_v281 : Ref sig .tc := ⟨.hbm, 320, rfl⟩
abbrev main_v282 : Ref sig .tc := ⟨.hbm, 321, rfl⟩
abbrev main_cst_17 : Ref sig .tc := ⟨.hbm, 322, rfl⟩
abbrev main_v283 : Ref sig .tc := ⟨.hbm, 323, rfl⟩
abbrev main_v284 : Ref sig .tc := ⟨.hbm, 324, rfl⟩
abbrev main_cst_18 : Ref sig .tc := ⟨.hbm, 325, rfl⟩
abbrev main_v285 : Ref sig .tc := ⟨.hbm, 326, rfl⟩
abbrev main_v286 : Ref sig .tc := ⟨.hbm, 327, rfl⟩
abbrev main_cst_19 : Ref sig .tc := ⟨.hbm, 328, rfl⟩
abbrev main_v287 : Ref sig .tc := ⟨.hbm, 329, rfl⟩
abbrev main_v288 : Ref sig .tc := ⟨.hbm, 330, rfl⟩
abbrev main_v289 : Ref sig .tc := ⟨.hbm, 331, rfl⟩
abbrev main_v290 : Ref sig .tc := ⟨.hbm, 332, rfl⟩
abbrev main_cst_20 : Ref sig .tc := ⟨.hbm, 333, rfl⟩
abbrev main_v291 : Ref sig .tc := ⟨.hbm, 334, rfl⟩
abbrev main_v292 : Ref sig .tc := ⟨.hbm, 335, rfl⟩
abbrev main_v293 : Ref sig .tc := ⟨.hbm, 336, rfl⟩
abbrev main_v294 : Ref sig .tc := ⟨.hbm, 337, rfl⟩
abbrev main_cst_21 : Ref sig .tc := ⟨.hbm, 338, rfl⟩
abbrev main_v295 : Ref sig .tc := ⟨.hbm, 339, rfl⟩
abbrev main_v296 : Ref sig .tc := ⟨.hbm, 340, rfl⟩
abbrev main_cst_22 : Ref sig .tc := ⟨.hbm, 341, rfl⟩
abbrev main_v297 : Ref sig .tc := ⟨.hbm, 342, rfl⟩
abbrev main_v298 : Ref sig .tc := ⟨.hbm, 343, rfl⟩
abbrev main_v299 : Ref sig .tc := ⟨.hbm, 344, rfl⟩
abbrev main_cst_23 : Ref sig .tc := ⟨.hbm, 345, rfl⟩
abbrev main_v300 : Ref sig .tc := ⟨.hbm, 346, rfl⟩
abbrev main_v301 : Ref sig .tc := ⟨.hbm, 347, rfl⟩
abbrev main_cst_24 : Ref sig .tc := ⟨.hbm, 348, rfl⟩
abbrev main_v302 : Ref sig .tc := ⟨.hbm, 349, rfl⟩
abbrev main_v303 : Ref sig .tc := ⟨.hbm, 350, rfl⟩
abbrev main_cst_25 : Ref sig .tc := ⟨.hbm, 351, rfl⟩
abbrev main_v304 : Ref sig .tc := ⟨.hbm, 352, rfl⟩
abbrev main_v305 : Ref sig .tc := ⟨.hbm, 353, rfl⟩
abbrev main_v306 : Ref sig .tc := ⟨.hbm, 354, rfl⟩
abbrev main_v307 : Ref sig .tc := ⟨.hbm, 355, rfl⟩
abbrev main_cst_26 : Ref sig .tc := ⟨.hbm, 356, rfl⟩
abbrev main_v308 : Ref sig .tc := ⟨.hbm, 357, rfl⟩
abbrev main_v309 : Ref sig .tc := ⟨.hbm, 358, rfl⟩
abbrev main_cst_27 : Ref sig .tc := ⟨.hbm, 359, rfl⟩
abbrev main_v310 : Ref sig .tc := ⟨.hbm, 360, rfl⟩
abbrev main_cst_28 : Ref sig .tc := ⟨.hbm, 361, rfl⟩
abbrev main_v311 : Ref sig .tc := ⟨.hbm, 362, rfl⟩
abbrev main_v312 : Ref sig .tc := ⟨.hbm, 363, rfl⟩
abbrev main_cst_29 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_cst_30 : Ref sig .tc := ⟨.hbm, 369, rfl⟩
abbrev main_v317 : Ref sig .tc := ⟨.hbm, 370, rfl⟩
abbrev main_v318 : Ref sig .tc := ⟨.hbm, 371, rfl⟩
abbrev main_cst_31 : Ref sig .tc := ⟨.hbm, 372, rfl⟩
abbrev main_v319 : Ref sig .tc := ⟨.hbm, 373, rfl⟩
abbrev main_v320 : Ref sig .tc := ⟨.hbm, 374, rfl⟩
abbrev main_cst_32 : Ref sig .tc := ⟨.hbm, 375, rfl⟩
abbrev main_v321 : Ref sig .tc := ⟨.hbm, 376, rfl⟩
abbrev main_v322 : Ref sig .tc := ⟨.hbm, 377, rfl⟩
abbrev main_v323 : Ref sig .tc := ⟨.hbm, 378, rfl⟩
abbrev main_cst_33 : Ref sig .tc := ⟨.hbm, 379, rfl⟩
abbrev main_v324 : Ref sig .tc := ⟨.hbm, 380, rfl⟩
abbrev main_v325 : Ref sig .tc := ⟨.hbm, 381, rfl⟩
abbrev main_v326 : Ref sig .tc := ⟨.hbm, 382, rfl⟩
abbrev main_v327 : Ref sig .tc := ⟨.hbm, 383, rfl⟩
abbrev main_cst_34 : Ref sig .tc := ⟨.hbm, 384, rfl⟩
abbrev main_v328 : Ref sig .tc := ⟨.hbm, 385, rfl⟩
abbrev main_v329 : Ref sig .tc := ⟨.hbm, 386, rfl⟩
abbrev main_cst_35 : Ref sig .tc := ⟨.hbm, 387, rfl⟩
abbrev main_v330 : Ref sig .tc := ⟨.hbm, 388, rfl⟩
abbrev main_v331 : Ref sig .tc := ⟨.hbm, 389, rfl⟩
abbrev main_cst_36 : Ref sig .tc := ⟨.hbm, 390, rfl⟩
abbrev main_v332 : Ref sig .tc := ⟨.hbm, 391, rfl⟩
abbrev main_v333 : Ref sig .tc := ⟨.hbm, 392, rfl⟩
abbrev main_v334 : Ref sig .tc := ⟨.hbm, 393, rfl⟩
abbrev main_cst_37 : Ref sig .tc := ⟨.hbm, 394, rfl⟩
abbrev main_v335 : Ref sig .tc := ⟨.hbm, 395, rfl⟩
abbrev main_v336 : Ref sig .tc := ⟨.hbm, 396, rfl⟩
abbrev main_v337 : Ref sig .tc := ⟨.hbm, 397, rfl⟩
abbrev main_v338 : Ref sig .tc := ⟨.hbm, 398, rfl⟩
abbrev main_cst_38 : Ref sig .tc := ⟨.hbm, 399, rfl⟩
abbrev main_v339 : Ref sig .tc := ⟨.hbm, 400, rfl⟩
abbrev main_v340 : Ref sig .tc := ⟨.hbm, 401, rfl⟩
abbrev main_cst_39 : Ref sig .tc := ⟨.hbm, 402, rfl⟩
abbrev main_v341 : Ref sig .tc := ⟨.hbm, 403, rfl⟩
abbrev main_v342 : Ref sig .tc := ⟨.hbm, 404, rfl⟩
abbrev main_cst_40 : Ref sig .tc := ⟨.hbm, 405, rfl⟩
abbrev main_v343 : Ref sig .tc := ⟨.hbm, 406, rfl⟩
abbrev main_v344 : Ref sig .tc := ⟨.hbm, 407, rfl⟩
abbrev main_v345 : Ref sig .tc := ⟨.hbm, 408, rfl⟩
abbrev main_cst_41 : Ref sig .tc := ⟨.hbm, 409, rfl⟩
abbrev main_v346 : Ref sig .tc := ⟨.hbm, 410, rfl⟩
abbrev main_v347 : Ref sig .tc := ⟨.hbm, 411, rfl⟩
abbrev main_v348 : Ref sig .tc := ⟨.hbm, 412, rfl⟩
abbrev main_v349 : Ref sig .tc := ⟨.hbm, 413, rfl⟩
abbrev main_cst_42 : Ref sig .tc := ⟨.hbm, 414, rfl⟩
abbrev main_v350 : Ref sig .tc := ⟨.hbm, 415, rfl⟩
abbrev main_v351 : Ref sig .tc := ⟨.hbm, 416, rfl⟩
abbrev main_cst_43 : Ref sig .tc := ⟨.hbm, 417, rfl⟩
abbrev main_v352 : Ref sig .tc := ⟨.hbm, 418, rfl⟩
abbrev main_v353 : Ref sig .tc := ⟨.hbm, 419, rfl⟩
abbrev main_cst_44 : Ref sig .tc := ⟨.hbm, 420, rfl⟩
abbrev main_v354 : Ref sig .tc := ⟨.hbm, 421, rfl⟩
abbrev main_v355 : Ref sig .tc := ⟨.hbm, 422, rfl⟩
abbrev main_v356 : Ref sig .tc := ⟨.hbm, 423, rfl⟩
abbrev main_cst_45 : Ref sig .tc := ⟨.hbm, 424, rfl⟩
abbrev main_v357 : Ref sig .tc := ⟨.hbm, 425, rfl⟩
abbrev main_v358 : Ref sig .tc := ⟨.hbm, 426, rfl⟩
abbrev main_v359 : Ref sig .tc := ⟨.hbm, 427, rfl⟩
abbrev main_v360 : Ref sig .tc := ⟨.hbm, 428, rfl⟩
abbrev main_cst_46 : Ref sig .tc := ⟨.hbm, 429, rfl⟩
abbrev main_v361 : Ref sig .tc := ⟨.hbm, 430, rfl⟩
abbrev main_v362 : Ref sig .tc := ⟨.hbm, 431, rfl⟩
abbrev main_cst_47 : Ref sig .tc := ⟨.hbm, 432, rfl⟩
abbrev main_v363 : Ref sig .tc := ⟨.hbm, 433, rfl⟩
abbrev main_v364 : Ref sig .tc := ⟨.hbm, 434, rfl⟩
abbrev main_cst_48 : Ref sig .tc := ⟨.hbm, 435, rfl⟩
abbrev main_v365 : Ref sig .tc := ⟨.hbm, 436, rfl⟩
abbrev main_v366 : Ref sig .tc := ⟨.hbm, 437, rfl⟩
abbrev main_v367 : Ref sig .tc := ⟨.hbm, 438, rfl⟩
abbrev main_cst_49 : Ref sig .tc := ⟨.hbm, 439, rfl⟩
abbrev main_v368 : Ref sig .tc := ⟨.hbm, 440, rfl⟩
abbrev main_v369 : Ref sig .tc := ⟨.hbm, 441, rfl⟩
abbrev main_v370 : Ref sig .tc := ⟨.hbm, 442, rfl⟩
abbrev main_v371 : Ref sig .tc := ⟨.hbm, 443, rfl⟩
abbrev main_cst_50 : Ref sig .tc := ⟨.hbm, 444, rfl⟩
abbrev main_v372 : Ref sig .tc := ⟨.hbm, 445, rfl⟩
abbrev main_v373 : Ref sig .tc := ⟨.hbm, 446, rfl⟩
abbrev main_cst_51 : Ref sig .tc := ⟨.hbm, 447, rfl⟩
abbrev main_v374 : Ref sig .tc := ⟨.hbm, 448, rfl⟩
abbrev main_v375 : Ref sig .tc := ⟨.hbm, 449, rfl⟩
abbrev main_cst_52 : Ref sig .tc := ⟨.hbm, 450, rfl⟩
abbrev main_v376 : Ref sig .tc := ⟨.hbm, 451, rfl⟩
abbrev main_v377 : Ref sig .tc := ⟨.hbm, 452, rfl⟩
abbrev main_v378 : Ref sig .tc := ⟨.hbm, 453, rfl⟩
abbrev main_cst_53 : Ref sig .tc := ⟨.hbm, 454, rfl⟩
abbrev main_v379 : Ref sig .tc := ⟨.hbm, 455, rfl⟩
abbrev main_v380 : Ref sig .tc := ⟨.hbm, 456, rfl⟩
abbrev main_v381 : Ref sig .tc := ⟨.hbm, 457, rfl⟩
abbrev main_v382 : Ref sig .tc := ⟨.hbm, 458, rfl⟩
abbrev main_cst_54 : Ref sig .tc := ⟨.hbm, 459, rfl⟩
abbrev main_v383 : Ref sig .tc := ⟨.hbm, 460, rfl⟩
abbrev main_v384 : Ref sig .tc := ⟨.hbm, 461, rfl⟩
abbrev main_cst_55 : Ref sig .tc := ⟨.hbm, 462, rfl⟩
abbrev main_v385 : Ref sig .tc := ⟨.hbm, 463, rfl⟩
abbrev main_v386 : Ref sig .tc := ⟨.hbm, 464, rfl⟩
abbrev main_cst_56 : Ref sig .tc := ⟨.hbm, 465, rfl⟩
abbrev main_v387 : Ref sig .tc := ⟨.hbm, 466, rfl⟩
abbrev main_v388 : Ref sig .tc := ⟨.hbm, 467, rfl⟩
abbrev main_v389 : Ref sig .tc := ⟨.hbm, 468, rfl⟩
abbrev main_cst_57 : Ref sig .tc := ⟨.hbm, 469, rfl⟩
abbrev main_v390 : Ref sig .tc := ⟨.hbm, 470, rfl⟩
abbrev main_v391 : Ref sig .tc := ⟨.hbm, 471, rfl⟩
abbrev main_v392 : Ref sig .tc := ⟨.hbm, 472, rfl⟩
abbrev main_v393 : Ref sig .tc := ⟨.hbm, 473, rfl⟩
abbrev main_cst_58 : Ref sig .tc := ⟨.hbm, 474, rfl⟩
abbrev main_v394 : Ref sig .tc := ⟨.hbm, 475, rfl⟩
abbrev main_v395 : Ref sig .tc := ⟨.hbm, 476, rfl⟩
abbrev main_cst_59 : Ref sig .tc := ⟨.hbm, 477, rfl⟩
abbrev main_v396 : Ref sig .tc := ⟨.hbm, 478, rfl⟩
abbrev main_v397 : Ref sig .tc := ⟨.hbm, 479, rfl⟩
abbrev main_cst_60 : Ref sig .tc := ⟨.hbm, 480, rfl⟩
abbrev main_v398 : Ref sig .tc := ⟨.hbm, 481, rfl⟩
abbrev main_v399 : Ref sig .tc := ⟨.hbm, 482, rfl⟩
abbrev main_v400 : Ref sig .tc := ⟨.hbm, 483, rfl⟩
abbrev main_cst_61 : Ref sig .tc := ⟨.hbm, 484, rfl⟩
abbrev main_v401 : Ref sig .tc := ⟨.hbm, 485, rfl⟩
abbrev main_v402 : Ref sig .tc := ⟨.hbm, 486, rfl⟩
abbrev main_v403 : Ref sig .tc := ⟨.hbm, 487, rfl⟩
abbrev main_v404 : Ref sig .tc := ⟨.hbm, 488, rfl⟩
abbrev main_cst_62 : Ref sig .tc := ⟨.hbm, 489, rfl⟩
abbrev main_v405 : Ref sig .tc := ⟨.hbm, 490, rfl⟩
abbrev main_v406 : Ref sig .tc := ⟨.hbm, 491, rfl⟩
abbrev main_cst_63 : Ref sig .tc := ⟨.hbm, 492, rfl⟩
abbrev main_v407 : Ref sig .tc := ⟨.hbm, 493, rfl⟩
abbrev main_v408 : Ref sig .tc := ⟨.hbm, 494, rfl⟩
abbrev main_cst_64 : Ref sig .tc := ⟨.hbm, 495, rfl⟩
abbrev main_v409 : Ref sig .tc := ⟨.hbm, 496, rfl⟩
abbrev main_v410 : Ref sig .tc := ⟨.hbm, 497, rfl⟩
abbrev main_v411 : Ref sig .tc := ⟨.hbm, 498, rfl⟩
abbrev main_cst_65 : Ref sig .tc := ⟨.hbm, 499, rfl⟩
abbrev main_v412 : Ref sig .tc := ⟨.hbm, 500, rfl⟩
abbrev main_v413 : Ref sig .tc := ⟨.hbm, 501, rfl⟩
abbrev main_v414 : Ref sig .tc := ⟨.hbm, 502, rfl⟩
abbrev main_v415 : Ref sig .tc := ⟨.hbm, 503, rfl⟩
abbrev main_cst_66 : Ref sig .tc := ⟨.hbm, 504, rfl⟩
abbrev main_v416 : Ref sig .tc := ⟨.hbm, 505, rfl⟩
abbrev main_v417 : Ref sig .tc := ⟨.hbm, 506, rfl⟩
abbrev main_cst_67 : Ref sig .tc := ⟨.hbm, 507, rfl⟩
abbrev main_v418 : Ref sig .tc := ⟨.hbm, 508, rfl⟩
abbrev main_v419 : Ref sig .tc := ⟨.hbm, 509, rfl⟩
abbrev main_cst_68 : Ref sig .tc := ⟨.hbm, 510, rfl⟩
abbrev main_v420 : Ref sig .tc := ⟨.hbm, 511, rfl⟩
abbrev main_v421 : Ref sig .tc := ⟨.hbm, 512, rfl⟩
abbrev main_v422 : Ref sig .tc := ⟨.hbm, 513, rfl⟩
abbrev main_cst_69 : Ref sig .tc := ⟨.hbm, 514, rfl⟩
abbrev main_v423 : Ref sig .tc := ⟨.hbm, 515, rfl⟩
abbrev main_v424 : Ref sig .tc := ⟨.hbm, 516, rfl⟩
abbrev main_v425 : Ref sig .tc := ⟨.hbm, 517, rfl⟩
abbrev main_v426 : Ref sig .tc := ⟨.hbm, 518, rfl⟩
abbrev main_cst_70 : Ref sig .tc := ⟨.hbm, 519, rfl⟩
abbrev main_v427 : Ref sig .tc := ⟨.hbm, 520, rfl⟩
abbrev main_v428 : Ref sig .tc := ⟨.hbm, 521, rfl⟩
abbrev main_cst_71 : Ref sig .tc := ⟨.hbm, 522, rfl⟩
abbrev main_v429 : Ref sig .tc := ⟨.hbm, 523, rfl⟩
abbrev main_v430 : Ref sig .tc := ⟨.hbm, 524, rfl⟩
abbrev main_cst_72 : Ref sig .tc := ⟨.hbm, 525, rfl⟩
abbrev main_v431 : Ref sig .tc := ⟨.hbm, 526, rfl⟩
abbrev main_v432 : Ref sig .tc := ⟨.hbm, 527, rfl⟩
abbrev main_v433 : Ref sig .tc := ⟨.hbm, 528, rfl⟩
abbrev main_cst_73 : Ref sig .tc := ⟨.hbm, 529, rfl⟩
abbrev main_v434 : Ref sig .tc := ⟨.hbm, 530, rfl⟩
abbrev main_v435 : Ref sig .tc := ⟨.hbm, 531, rfl⟩
abbrev main_v436 : Ref sig .tc := ⟨.hbm, 532, rfl⟩
abbrev main_v437 : Ref sig .tc := ⟨.hbm, 533, rfl⟩
abbrev main_cst_74 : Ref sig .tc := ⟨.hbm, 534, rfl⟩
abbrev main_v438 : Ref sig .tc := ⟨.hbm, 535, rfl⟩
abbrev main_v439 : Ref sig .tc := ⟨.hbm, 536, rfl⟩
abbrev main_cst_75 : Ref sig .tc := ⟨.hbm, 537, rfl⟩
abbrev main_v440 : Ref sig .tc := ⟨.hbm, 538, rfl⟩
abbrev main_v441 : Ref sig .tc := ⟨.hbm, 539, rfl⟩
abbrev main_cst_76 : Ref sig .tc := ⟨.hbm, 540, rfl⟩
abbrev main_v442 : Ref sig .tc := ⟨.hbm, 541, rfl⟩
abbrev main_v443 : Ref sig .tc := ⟨.hbm, 542, rfl⟩
abbrev main_v444 : Ref sig .tc := ⟨.hbm, 543, rfl⟩
abbrev main_cst_77 : Ref sig .tc := ⟨.hbm, 544, rfl⟩
abbrev main_v445 : Ref sig .tc := ⟨.hbm, 545, rfl⟩
abbrev main_v446 : Ref sig .tc := ⟨.hbm, 546, rfl⟩
abbrev main_v447 : Ref sig .tc := ⟨.hbm, 547, rfl⟩
abbrev main_v448 : Ref sig .tc := ⟨.hbm, 548, rfl⟩
abbrev main_cst_78 : Ref sig .tc := ⟨.hbm, 549, rfl⟩
abbrev main_v449 : Ref sig .tc := ⟨.hbm, 550, rfl⟩
abbrev main_v450 : Ref sig .tc := ⟨.hbm, 551, rfl⟩
abbrev main_cst_79 : Ref sig .tc := ⟨.hbm, 552, rfl⟩
abbrev main_v451 : Ref sig .tc := ⟨.hbm, 553, rfl⟩
abbrev main_v452 : Ref sig .tc := ⟨.hbm, 554, rfl⟩
abbrev main_cst_80 : Ref sig .tc := ⟨.hbm, 555, rfl⟩
abbrev main_v453 : Ref sig .tc := ⟨.hbm, 556, rfl⟩
abbrev main_v454 : Ref sig .tc := ⟨.hbm, 557, rfl⟩
abbrev main_v455 : Ref sig .tc := ⟨.hbm, 558, rfl⟩
abbrev main_cst_81 : Ref sig .tc := ⟨.hbm, 559, rfl⟩
abbrev main_v456 : Ref sig .tc := ⟨.hbm, 560, rfl⟩
abbrev main_v457 : Ref sig .tc := ⟨.hbm, 561, rfl⟩
abbrev main_v458 : Ref sig .tc := ⟨.hbm, 562, rfl⟩
abbrev main_v459 : Ref sig .tc := ⟨.hbm, 563, rfl⟩
abbrev main_cst_82 : Ref sig .tc := ⟨.hbm, 564, rfl⟩
abbrev main_v460 : Ref sig .tc := ⟨.hbm, 565, rfl⟩
abbrev main_v461 : Ref sig .tc := ⟨.hbm, 566, rfl⟩
abbrev main_cst_83 : Ref sig .tc := ⟨.hbm, 567, rfl⟩
abbrev main_v462 : Ref sig .tc := ⟨.hbm, 568, rfl⟩
abbrev main_v463 : Ref sig .tc := ⟨.hbm, 569, rfl⟩
abbrev main_cst_84 : Ref sig .tc := ⟨.hbm, 570, rfl⟩
abbrev main_v464 : Ref sig .tc := ⟨.hbm, 571, rfl⟩
abbrev main_v465 : Ref sig .tc := ⟨.hbm, 572, rfl⟩
abbrev main_v466 : Ref sig .tc := ⟨.hbm, 573, rfl⟩
abbrev main_cst_85 : Ref sig .tc := ⟨.hbm, 574, rfl⟩
abbrev main_v467 : Ref sig .tc := ⟨.hbm, 575, rfl⟩
abbrev main_v468 : Ref sig .tc := ⟨.hbm, 576, rfl⟩
abbrev main_v469 : Ref sig .tc := ⟨.hbm, 577, rfl⟩
abbrev main_v470 : Ref sig .tc := ⟨.hbm, 578, rfl⟩
abbrev main_cst_86 : Ref sig .tc := ⟨.hbm, 579, rfl⟩
abbrev main_v471 : Ref sig .tc := ⟨.hbm, 580, rfl⟩
abbrev main_v472 : Ref sig .tc := ⟨.hbm, 581, rfl⟩
abbrev main_cst_87 : Ref sig .tc := ⟨.hbm, 582, rfl⟩
abbrev main_v473 : Ref sig .tc := ⟨.hbm, 583, rfl⟩
abbrev main_v474 : Ref sig .tc := ⟨.hbm, 584, rfl⟩
abbrev main_cst_88 : Ref sig .tc := ⟨.hbm, 585, rfl⟩
abbrev main_v475 : Ref sig .tc := ⟨.hbm, 586, rfl⟩
abbrev main_v476 : Ref sig .tc := ⟨.hbm, 587, rfl⟩
abbrev main_v477 : Ref sig .tc := ⟨.hbm, 588, rfl⟩
abbrev main_cst_89 : Ref sig .tc := ⟨.hbm, 589, rfl⟩
abbrev main_v478 : Ref sig .tc := ⟨.hbm, 590, rfl⟩
abbrev main_v479 : Ref sig .tc := ⟨.hbm, 591, rfl⟩
abbrev main_v480 : Ref sig .tc := ⟨.hbm, 592, rfl⟩
abbrev main_v481 : Ref sig .tc := ⟨.hbm, 593, rfl⟩
abbrev main_cst_90 : Ref sig .tc := ⟨.hbm, 594, rfl⟩
abbrev main_v482 : Ref sig .tc := ⟨.hbm, 595, rfl⟩
abbrev main_v483 : Ref sig .tc := ⟨.hbm, 596, rfl⟩
abbrev main_cst_91 : Ref sig .tc := ⟨.hbm, 597, rfl⟩
abbrev main_v484 : Ref sig .tc := ⟨.hbm, 598, rfl⟩
abbrev main_v485 : Ref sig .tc := ⟨.hbm, 599, rfl⟩
abbrev main_cst_92 : Ref sig .tc := ⟨.hbm, 600, rfl⟩
abbrev main_v486 : Ref sig .tc := ⟨.hbm, 601, rfl⟩
abbrev main_v487 : Ref sig .tc := ⟨.hbm, 602, rfl⟩
abbrev main_v488 : Ref sig .tc := ⟨.hbm, 603, rfl⟩
abbrev main_cst_93 : Ref sig .tc := ⟨.hbm, 604, rfl⟩
abbrev main_v489 : Ref sig .tc := ⟨.hbm, 605, rfl⟩
abbrev main_v490 : Ref sig .tc := ⟨.hbm, 606, rfl⟩
abbrev main_v491 : Ref sig .tc := ⟨.hbm, 607, rfl⟩
abbrev main_v492 : Ref sig .tc := ⟨.hbm, 608, rfl⟩
abbrev main_cst_94 : Ref sig .tc := ⟨.hbm, 609, rfl⟩
abbrev main_v493 : Ref sig .tc := ⟨.hbm, 610, rfl⟩
abbrev main_v494 : Ref sig .tc := ⟨.hbm, 611, rfl⟩
abbrev main_cst_95 : Ref sig .tc := ⟨.hbm, 612, rfl⟩
abbrev main_v495 : Ref sig .tc := ⟨.hbm, 613, rfl⟩
abbrev main_v496 : Ref sig .tc := ⟨.hbm, 614, rfl⟩
abbrev main_cst_96 : Ref sig .tc := ⟨.hbm, 615, rfl⟩
abbrev main_v497 : Ref sig .tc := ⟨.hbm, 616, rfl⟩
abbrev main_v498 : Ref sig .tc := ⟨.hbm, 617, rfl⟩
abbrev main_v499 : Ref sig .tc := ⟨.hbm, 618, rfl⟩
abbrev main_cst_97 : Ref sig .tc := ⟨.hbm, 619, rfl⟩
abbrev main_v500 : Ref sig .tc := ⟨.hbm, 620, rfl⟩
abbrev main_v501 : Ref sig .tc := ⟨.hbm, 621, rfl⟩
abbrev main_v502 : Ref sig .tc := ⟨.hbm, 622, rfl⟩
abbrev main_v503 : Ref sig .tc := ⟨.hbm, 623, rfl⟩
abbrev main_cst_98 : Ref sig .tc := ⟨.hbm, 624, rfl⟩
abbrev main_v504 : Ref sig .tc := ⟨.hbm, 625, rfl⟩
abbrev main_v505 : Ref sig .tc := ⟨.hbm, 626, rfl⟩
abbrev main_cst_99 : Ref sig .tc := ⟨.hbm, 627, rfl⟩
abbrev main_v506 : Ref sig .tc := ⟨.hbm, 628, rfl⟩
abbrev main_v507 : Ref sig .tc := ⟨.hbm, 629, rfl⟩
abbrev main_cst_100 : Ref sig .tc := ⟨.hbm, 630, rfl⟩
abbrev main_v508 : Ref sig .tc := ⟨.hbm, 631, rfl⟩
abbrev main_v509 : Ref sig .tc := ⟨.hbm, 632, rfl⟩
abbrev main_v510 : Ref sig .tc := ⟨.hbm, 633, rfl⟩
abbrev main_cst_101 : Ref sig .tc := ⟨.hbm, 634, rfl⟩
abbrev main_v511 : Ref sig .tc := ⟨.hbm, 635, rfl⟩
abbrev main_v512 : Ref sig .tc := ⟨.hbm, 636, rfl⟩
abbrev main_v513 : Ref sig .tc := ⟨.hbm, 637, rfl⟩
abbrev main_v514 : Ref sig .tc := ⟨.hbm, 638, rfl⟩
abbrev main_cst_102 : Ref sig .tc := ⟨.hbm, 639, rfl⟩
abbrev main_v515 : Ref sig .tc := ⟨.hbm, 640, rfl⟩
abbrev main_v516 : Ref sig .tc := ⟨.hbm, 641, rfl⟩
abbrev main_cst_103 : Ref sig .tc := ⟨.hbm, 642, rfl⟩
abbrev main_v517 : Ref sig .tc := ⟨.hbm, 643, rfl⟩
abbrev main_v518 : Ref sig .tc := ⟨.hbm, 644, rfl⟩
abbrev main_cst_104 : Ref sig .tc := ⟨.hbm, 645, rfl⟩
abbrev main_v519 : Ref sig .tc := ⟨.hbm, 646, rfl⟩
abbrev main_v520 : Ref sig .tc := ⟨.hbm, 647, rfl⟩
abbrev main_v521 : Ref sig .tc := ⟨.hbm, 648, rfl⟩
abbrev main_cst_105 : Ref sig .tc := ⟨.hbm, 649, rfl⟩
abbrev main_v522 : Ref sig .tc := ⟨.hbm, 650, rfl⟩
abbrev main_v523 : Ref sig .tc := ⟨.hbm, 651, rfl⟩
abbrev main_v524 : Ref sig .tc := ⟨.hbm, 652, rfl⟩
abbrev main_v525 : Ref sig .tc := ⟨.hbm, 653, rfl⟩
abbrev main_cst_106 : Ref sig .tc := ⟨.hbm, 654, rfl⟩
abbrev main_v526 : Ref sig .tc := ⟨.hbm, 655, rfl⟩
abbrev main_v527 : Ref sig .tc := ⟨.hbm, 656, rfl⟩
abbrev main_cst_107 : Ref sig .tc := ⟨.hbm, 657, rfl⟩
abbrev main_v528 : Ref sig .tc := ⟨.hbm, 658, rfl⟩
abbrev main_v529 : Ref sig .tc := ⟨.hbm, 659, rfl⟩
abbrev main_cst_108 : Ref sig .tc := ⟨.hbm, 660, rfl⟩
abbrev main_v530 : Ref sig .tc := ⟨.hbm, 661, rfl⟩
abbrev main_v531 : Ref sig .tc := ⟨.hbm, 662, rfl⟩
abbrev main_v532 : Ref sig .tc := ⟨.hbm, 663, rfl⟩
abbrev main_cst_109 : Ref sig .tc := ⟨.hbm, 664, rfl⟩
abbrev main_v533 : Ref sig .tc := ⟨.hbm, 665, rfl⟩
abbrev main_v534 : Ref sig .tc := ⟨.hbm, 666, rfl⟩
abbrev main_v535 : Ref sig .tc := ⟨.hbm, 667, rfl⟩
abbrev main_v536 : Ref sig .tc := ⟨.hbm, 668, rfl⟩
abbrev main_cst_110 : Ref sig .tc := ⟨.hbm, 669, rfl⟩
abbrev main_v537 : Ref sig .tc := ⟨.hbm, 670, rfl⟩
abbrev main_v538 : Ref sig .tc := ⟨.hbm, 671, rfl⟩
abbrev main_cst_111 : Ref sig .tc := ⟨.hbm, 672, rfl⟩
abbrev main_v539 : Ref sig .tc := ⟨.hbm, 673, rfl⟩
abbrev main_v540 : Ref sig .tc := ⟨.hbm, 674, rfl⟩
abbrev main_cst_112 : Ref sig .tc := ⟨.hbm, 675, rfl⟩
abbrev main_v541 : Ref sig .tc := ⟨.hbm, 676, rfl⟩
abbrev main_v542 : Ref sig .tc := ⟨.hbm, 677, rfl⟩
abbrev main_v543 : Ref sig .tc := ⟨.hbm, 678, rfl⟩
abbrev main_cst_113 : Ref sig .tc := ⟨.hbm, 679, rfl⟩
abbrev main_v544 : Ref sig .tc := ⟨.hbm, 680, rfl⟩
abbrev main_v545 : Ref sig .tc := ⟨.hbm, 681, rfl⟩
abbrev main_v546 : Ref sig .tc := ⟨.hbm, 682, rfl⟩
abbrev main_v547 : Ref sig .tc := ⟨.hbm, 683, rfl⟩
abbrev main_cst_114 : Ref sig .tc := ⟨.hbm, 684, rfl⟩
abbrev main_v548 : Ref sig .tc := ⟨.hbm, 685, rfl⟩
abbrev main_v549 : Ref sig .tc := ⟨.hbm, 686, rfl⟩
abbrev main_cst_115 : Ref sig .tc := ⟨.hbm, 687, rfl⟩
abbrev main_v550 : Ref sig .tc := ⟨.hbm, 688, rfl⟩
abbrev main_v551 : Ref sig .tc := ⟨.hbm, 689, rfl⟩
abbrev main_cst_116 : Ref sig .tc := ⟨.hbm, 690, rfl⟩
abbrev main_v552 : Ref sig .tc := ⟨.hbm, 691, rfl⟩
abbrev main_v553 : Ref sig .tc := ⟨.hbm, 692, rfl⟩
abbrev main_v554 : Ref sig .tc := ⟨.hbm, 693, rfl⟩
abbrev main_cst_117 : Ref sig .tc := ⟨.hbm, 694, rfl⟩
abbrev main_v555 : Ref sig .tc := ⟨.hbm, 695, rfl⟩
abbrev main_v556 : Ref sig .tc := ⟨.hbm, 696, rfl⟩
abbrev main_v557 : Ref sig .tc := ⟨.hbm, 697, rfl⟩
abbrev main_v558 : Ref sig .tc := ⟨.hbm, 698, rfl⟩
abbrev main_cst_118 : Ref sig .tc := ⟨.hbm, 699, rfl⟩
abbrev main_v559 : Ref sig .tc := ⟨.hbm, 700, rfl⟩
abbrev main_v560 : Ref sig .tc := ⟨.hbm, 701, rfl⟩
abbrev main_cst_119 : Ref sig .tc := ⟨.hbm, 702, rfl⟩
abbrev main_v561 : Ref sig .tc := ⟨.hbm, 703, rfl⟩
abbrev main_v562 : Ref sig .tc := ⟨.hbm, 704, rfl⟩
abbrev main_cst_120 : Ref sig .tc := ⟨.hbm, 705, rfl⟩
abbrev main_v563 : Ref sig .tc := ⟨.hbm, 706, rfl⟩
abbrev main_v564 : Ref sig .tc := ⟨.hbm, 707, rfl⟩
abbrev main_v565 : Ref sig .tc := ⟨.hbm, 708, rfl⟩
abbrev main_cst_121 : Ref sig .tc := ⟨.hbm, 709, rfl⟩
abbrev main_v566 : Ref sig .tc := ⟨.hbm, 710, rfl⟩
abbrev main_v567 : Ref sig .tc := ⟨.hbm, 711, rfl⟩
abbrev main_v568 : Ref sig .tc := ⟨.hbm, 712, rfl⟩
abbrev main_v569 : Ref sig .tc := ⟨.hbm, 713, rfl⟩
abbrev main_cst_122 : Ref sig .tc := ⟨.hbm, 714, rfl⟩
abbrev main_v570 : Ref sig .tc := ⟨.hbm, 715, rfl⟩
abbrev main_v571 : Ref sig .tc := ⟨.hbm, 716, rfl⟩
abbrev main_cst_123 : Ref sig .tc := ⟨.hbm, 717, rfl⟩
abbrev main_v572 : Ref sig .tc := ⟨.hbm, 718, rfl⟩
abbrev main_v573 : Ref sig .tc := ⟨.hbm, 719, rfl⟩
abbrev main_cst_124 : Ref sig .tc := ⟨.hbm, 720, rfl⟩
abbrev main_v574 : Ref sig .tc := ⟨.hbm, 721, rfl⟩
abbrev main_v575 : Ref sig .tc := ⟨.hbm, 722, rfl⟩
abbrev main_v576 : Ref sig .tc := ⟨.hbm, 723, rfl⟩
abbrev main_cst_125 : Ref sig .tc := ⟨.hbm, 724, rfl⟩
abbrev main_v577 : Ref sig .tc := ⟨.hbm, 725, rfl⟩
abbrev main_v578 : Ref sig .tc := ⟨.hbm, 726, rfl⟩
abbrev main_v579 : Ref sig .tc := ⟨.hbm, 727, rfl⟩
abbrev main_v580 : Ref sig .tc := ⟨.hbm, 728, rfl⟩
abbrev main_cst_126 : Ref sig .tc := ⟨.hbm, 729, rfl⟩
abbrev main_v581 : Ref sig .tc := ⟨.hbm, 730, rfl⟩
abbrev main_v582 : Ref sig .tc := ⟨.hbm, 731, rfl⟩
abbrev main_cst_127 : Ref sig .tc := ⟨.hbm, 732, rfl⟩
abbrev main_v583 : Ref sig .tc := ⟨.hbm, 733, rfl⟩
abbrev main_v584 : Ref sig .tc := ⟨.hbm, 734, rfl⟩
abbrev main_cst_128 : Ref sig .tc := ⟨.hbm, 735, rfl⟩
abbrev main_v585 : Ref sig .tc := ⟨.hbm, 736, rfl⟩
abbrev main_v586 : Ref sig .tc := ⟨.hbm, 737, rfl⟩
abbrev main_v587 : Ref sig .tc := ⟨.hbm, 738, rfl⟩
abbrev main_cst_129 : Ref sig .tc := ⟨.hbm, 739, rfl⟩
abbrev main_v588 : Ref sig .tc := ⟨.hbm, 740, rfl⟩
abbrev main_v589 : Ref sig .tc := ⟨.hbm, 741, rfl⟩
abbrev main_v590 : Ref sig .tc := ⟨.hbm, 742, rfl⟩
abbrev main_v591 : Ref sig .tc := ⟨.hbm, 743, rfl⟩
abbrev main_cst_130 : Ref sig .tc := ⟨.hbm, 744, rfl⟩
abbrev main_v592 : Ref sig .tc := ⟨.hbm, 745, rfl⟩
abbrev main_v593 : Ref sig .tc := ⟨.hbm, 746, rfl⟩
abbrev main_cst_131 : Ref sig .tc := ⟨.hbm, 747, rfl⟩
abbrev main_v594 : Ref sig .tc := ⟨.hbm, 748, rfl⟩
abbrev main_v595 : Ref sig .tc := ⟨.hbm, 749, rfl⟩
abbrev main_cst_132 : Ref sig .tc := ⟨.hbm, 750, rfl⟩
abbrev main_v596 : Ref sig .tc := ⟨.hbm, 751, rfl⟩
abbrev main_v597 : Ref sig .tc := ⟨.hbm, 752, rfl⟩
abbrev main_v598 : Ref sig .tc := ⟨.hbm, 753, rfl⟩
abbrev main_cst_133 : Ref sig .tc := ⟨.hbm, 754, rfl⟩
abbrev main_v599 : Ref sig .tc := ⟨.hbm, 755, rfl⟩
abbrev main_v600 : Ref sig .tc := ⟨.hbm, 756, rfl⟩
abbrev main_v601 : Ref sig .tc := ⟨.hbm, 757, rfl⟩
abbrev main_v602 : Ref sig .tc := ⟨.hbm, 758, rfl⟩
abbrev main_cst_134 : Ref sig .tc := ⟨.hbm, 759, rfl⟩
abbrev main_v603 : Ref sig .tc := ⟨.hbm, 760, rfl⟩
abbrev main_v604 : Ref sig .tc := ⟨.hbm, 761, rfl⟩
abbrev main_cst_135 : Ref sig .tc := ⟨.hbm, 762, rfl⟩
abbrev main_v605 : Ref sig .tc := ⟨.hbm, 763, rfl⟩
abbrev main_v606 : Ref sig .tc := ⟨.hbm, 764, rfl⟩
abbrev main_cst_136 : Ref sig .tc := ⟨.hbm, 765, rfl⟩
abbrev main_v607 : Ref sig .tc := ⟨.hbm, 766, rfl⟩
abbrev main_v608 : Ref sig .tc := ⟨.hbm, 767, rfl⟩
abbrev main_v609 : Ref sig .tc := ⟨.hbm, 768, rfl⟩
abbrev main_cst_137 : Ref sig .tc := ⟨.hbm, 769, rfl⟩
abbrev main_v610 : Ref sig .tc := ⟨.hbm, 770, rfl⟩
abbrev main_v611 : Ref sig .tc := ⟨.hbm, 771, rfl⟩
abbrev main_v612 : Ref sig .tc := ⟨.hbm, 772, rfl⟩
abbrev main_v613 : Ref sig .tc := ⟨.hbm, 773, rfl⟩
abbrev main_cst_138 : Ref sig .tc := ⟨.hbm, 774, rfl⟩
abbrev main_v614 : Ref sig .tc := ⟨.hbm, 775, rfl⟩
abbrev main_v615 : Ref sig .tc := ⟨.hbm, 776, rfl⟩
abbrev main_cst_139 : Ref sig .tc := ⟨.hbm, 777, rfl⟩
abbrev main_v616 : Ref sig .tc := ⟨.hbm, 778, rfl⟩
abbrev main_v617 : Ref sig .tc := ⟨.hbm, 779, rfl⟩
abbrev main_cst_140 : Ref sig .tc := ⟨.hbm, 780, rfl⟩
abbrev main_v618 : Ref sig .tc := ⟨.hbm, 781, rfl⟩
abbrev main_v619 : Ref sig .tc := ⟨.hbm, 782, rfl⟩
abbrev main_v620 : Ref sig .tc := ⟨.hbm, 783, rfl⟩
abbrev main_cst_141 : Ref sig .tc := ⟨.hbm, 784, rfl⟩
abbrev main_v621 : Ref sig .tc := ⟨.hbm, 785, rfl⟩
abbrev main_v622 : Ref sig .tc := ⟨.hbm, 786, rfl⟩
abbrev main_v623 : Ref sig .tc := ⟨.hbm, 787, rfl⟩
abbrev main_v624 : Ref sig .tc := ⟨.hbm, 788, rfl⟩
abbrev main_cst_142 : Ref sig .tc := ⟨.hbm, 789, rfl⟩
abbrev main_v625 : Ref sig .tc := ⟨.hbm, 790, rfl⟩
abbrev main_v626 : Ref sig .tc := ⟨.hbm, 791, rfl⟩
abbrev main_cst_143 : Ref sig .tc := ⟨.hbm, 792, rfl⟩
abbrev main_v627 : Ref sig .tc := ⟨.hbm, 793, rfl⟩
abbrev main_v628 : Ref sig .tc := ⟨.hbm, 794, rfl⟩
abbrev main_cst_144 : Ref sig .tc := ⟨.hbm, 795, rfl⟩
abbrev main_v629 : Ref sig .tc := ⟨.hbm, 796, rfl⟩
abbrev main_v630 : Ref sig .tc := ⟨.hbm, 797, rfl⟩
abbrev main_v631 : Ref sig .tc := ⟨.hbm, 798, rfl⟩
abbrev main_cst_145 : Ref sig .tc := ⟨.hbm, 799, rfl⟩
abbrev main_v632 : Ref sig .tc := ⟨.hbm, 800, rfl⟩
abbrev main_v633 : Ref sig .tc := ⟨.hbm, 801, rfl⟩
abbrev main_v634 : Ref sig .tc := ⟨.hbm, 802, rfl⟩
abbrev main_v635 : Ref sig .tc := ⟨.hbm, 803, rfl⟩
abbrev main_cst_146 : Ref sig .tc := ⟨.hbm, 804, rfl⟩
abbrev main_v636 : Ref sig .tc := ⟨.hbm, 805, rfl⟩
abbrev main_v637 : Ref sig .tc := ⟨.hbm, 806, rfl⟩
abbrev main_cst_147 : Ref sig .tc := ⟨.hbm, 807, rfl⟩
abbrev main_v638 : Ref sig .tc := ⟨.hbm, 808, rfl⟩
abbrev main_v639 : Ref sig .tc := ⟨.hbm, 809, rfl⟩
abbrev main_cst_148 : Ref sig .tc := ⟨.hbm, 810, rfl⟩
abbrev main_v640 : Ref sig .tc := ⟨.hbm, 811, rfl⟩
abbrev main_v641 : Ref sig .tc := ⟨.hbm, 812, rfl⟩
abbrev main_v642 : Ref sig .tc := ⟨.hbm, 813, rfl⟩
abbrev main_v643 : Ref sig .tc := ⟨.hbm, 814, rfl⟩
abbrev main_v644 : Ref sig .tc := ⟨.hbm, 815, rfl⟩
abbrev main_v645 : Ref sig .tc := ⟨.hbm, 816, rfl⟩
abbrev main_v646 : Ref sig .tc := ⟨.hbm, 817, rfl⟩
abbrev main_v647 : Ref sig .tc := ⟨.hbm, 818, rfl⟩
abbrev main_v648 : Ref sig .tc := ⟨.hbm, 819, rfl⟩
abbrev main_v649 : Ref sig .tc := ⟨.hbm, 820, rfl⟩
abbrev main_v650 : Ref sig .tc := ⟨.hbm, 821, rfl⟩
abbrev main_v651 : Ref sig .tc := ⟨.hbm, 822, rfl⟩
abbrev main_cst_149 : Ref sig .tc := ⟨.hbm, 823, rfl⟩
abbrev main_v652 : Ref sig .tc := ⟨.hbm, 824, rfl⟩
abbrev main_v653 : Ref sig .tc := ⟨.hbm, 825, rfl⟩
abbrev main_v654 : Ref sig .tc := ⟨.hbm, 826, rfl⟩
abbrev main_cst_150 : Ref sig .tc := ⟨.hbm, 827, rfl⟩
abbrev main_v655 : Ref sig .tc := ⟨.hbm, 828, rfl⟩
abbrev main_v656 : Ref sig .tc := ⟨.hbm, 829, rfl⟩

abbrev nD : Nat := 1
abbrev τ : Topo := Topo.v7x

variable {F : FTy → Type} [FloatOps F]
-- ==== Proj.lean ====
abbrev S4096x1024 : Shape := ⟨2, ![4096, 1024]⟩
abbrev S1024 : Shape := ⟨1, ![1024]⟩
abbrev S1024x1792 : Shape := ⟨2, ![1024, 1792]⟩
abbrev S1x1024 : Shape := ⟨2, ![1, 1024]⟩
abbrev S1792x1024 : Shape := ⟨2, ![1792, 1024]⟩
abbrev S4096x768 : Shape := ⟨2, ![4096, 768]⟩
abbrev S1024x1024 : Shape := ⟨2, ![1024, 1024]⟩
abbrev S1024x768 : Shape := ⟨2, ![1024, 768]⟩
abbrev S1024x1 : Shape := ⟨2, ![1024, 1]⟩
abbrev S768x1024 : Shape := ⟨2, ![768, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1792, .f32⟩
  | .hbm, ⟨3, _⟩ => ⟨S1x1024, .f32⟩
  | .hbm, ⟨4, _⟩ => ⟨S1792x1024, .f32⟩
  | .hbm, ⟨5, _⟩ => ⟨S1792x1024, .bf16⟩
  | .hbm, ⟨6, _⟩ => ⟨S4096x768, .bf16⟩
  | .hbm, ⟨7, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1792x1024, .bf16⟩
  | .local _ .vmem, ⟨4, _⟩ => ⟨S1024x768, .bf16⟩
  | .local _ .vmem, ⟨5, _⟩ => ⟨S1024x768, .bf16⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjRefIdeal.lean ====
abbrev S4096x1024 : Shape := ⟨2, ![4096, 1024]⟩
abbrev S1024 : Shape := ⟨1, ![1024]⟩
abbrev S1024x1792 : Shape := ⟨2, ![1024, 1792]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x1792 : Shape := ⟨2, ![4096, 1792]⟩
abbrev S4096x768 : Shape := ⟨2, ![4096, 768]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1792, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1792, .f32⟩
  | .hbm, ⟨20, _⟩ => ⟨S4096x768, .f32⟩
  | .hbm, ⟨21, _⟩ => ⟨S4096x1024, .f32⟩
  | .hbm, ⟨22, _⟩ => ⟨S4096x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Mixo.lean ====
abbrev S4096x1024 : Shape := ⟨2, ![4096, 1024]⟩
abbrev S4096x512 : Shape := ⟨2, ![4096, 512]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S4096x512, .bf16⟩
  | .hbm, ⟨5, _⟩ => ⟨S4096x512, .bf16⟩
  | .hbm, ⟨6, _⟩ => ⟨S1024x1024, .bf16⟩
  | .hbm, ⟨7, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixoRefIdeal.lean ====
abbrev S4096x1024 : Shape := ⟨2, ![4096, 1024]⟩
abbrev S4096x512 : Shape := ⟨2, ![4096, 512]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Mixb.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩
abbrev S512x1024 : Shape := ⟨2, ![512, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .bf16⟩
  | .hbm, ⟨4, _⟩ => ⟨S4096x512, .bf16⟩
  | .hbm, ⟨5, _⟩ => ⟨S4096x512, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .f32⟩
  | .local _ .vmem, ⟨8, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixbRefIdeal.lean ====
abbrev S4096x1024 : Shape := ⟨2, ![4096, 1024]⟩
abbrev S1024x1024 : Shape := ⟨2, ![1024, 1024]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S4096x1024, .bf16⟩
  | .hbm, ⟨7, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Wcat.lean ====
abbrev S4096x512 : Shape := ⟨2, ![4096, 512]⟩
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x512, .bf16⟩
  | .hbm, ⟨4, _⟩ => ⟨S4096x512, .bf16⟩
  | .hbm, ⟨5, _⟩ => ⟨S4096x1024, .bf16⟩
  | .hbm, ⟨6, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v23 : BitVec 1 := Scalar.cmpi .eq arg0 c1_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== WcatRefIdeal.lean ====
abbrev S4096x512 : Shape := ⟨2, ![4096, 512]⟩
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S1024x4096, .f32⟩
  | .hbm, ⟨5, _⟩ => ⟨S1024x1024, .f32⟩
  | .hbm, ⟨6, _⟩ => ⟨S1024x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Wout.lean ====
abbrev S4096x2816 : Shape := ⟨2, ![4096, 2816]⟩
abbrev S4096x1024 : Shape := ⟨2, ![4096, 1024]⟩
abbrev S_ : Shape := ⟨0, ![]⟩
abbrev S8x128 : Shape := ⟨2, ![8, 128]⟩
abbrev S4x704x1024 : Shape := ⟨3, ![4, 704, 1024]⟩
abbrev S2048x1408 : Shape := ⟨2, ![2048, 1408]⟩
abbrev S2048x1024 : Shape := ⟨2, ![2048, 1024]⟩
abbrev S2x704x1024 : Shape := ⟨3, ![2, 704, 1024]⟩
abbrev S1408x1024 : Shape := ⟨2, ![1408, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S_, .f32⟩
  | .hbm, ⟨5, _⟩ => ⟨S8x128, .f32⟩
  | .hbm, ⟨6, _⟩ => ⟨S4x704x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S2x704x1024, .bf16⟩
  | .local _ .vmem, ⟨5, _⟩ => ⟨S2x704x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WoutRefIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩
abbrev S4x704x1024 : Shape := ⟨3, ![4, 704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2816x4096, .f32⟩
  | .hbm, ⟨3, _⟩ => ⟨S2816x1024, .f32⟩
  | .hbm, ⟨4, _⟩ => ⟨S4x704x1024, .f32⟩
  | .hbm, ⟨5, _⟩ => ⟨S4x704x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Win.lean ====
abbrev S4096x1024 : Shape := ⟨2, ![4096, 1024]⟩
abbrev S4096x5632 : Shape := ⟨2, ![4096, 5632]⟩
abbrev S4096x2x2816 : Shape := ⟨3, ![4096, 2, 2816]⟩
abbrev S2x4096x2816 : Shape := ⟨3, ![2, 4096, 2816]⟩
abbrev S_ : Shape := ⟨0, ![]⟩
abbrev S8x128 : Shape := ⟨2, ![8, 128]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 9
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x1024, .bf16⟩
  | .hbm, ⟨3, _⟩ => ⟨S4096x5632, .bf16⟩
  | .hbm, ⟨4, _⟩ => ⟨S4096x2x2816, .bf16⟩
  | .hbm, ⟨5, _⟩ => ⟨S2x4096x2816, .bf16⟩
  | .hbm, ⟨6, _⟩ => ⟨S_, .f32⟩
  | .hbm, ⟨7, _⟩ => ⟨S8x128, .f32⟩
  | .hbm, ⟨8, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WinRefIdeal.lean ====
abbrev S4096x1024 : Shape := ⟨2, ![4096, 1024]⟩
abbrev S4096x5632 : Shape := ⟨2, ![4096, 5632]⟩
abbrev S1024x4096 : Shape := ⟨2, ![1024, 4096]⟩
abbrev S1024x5632 : Shape := ⟨2, ![1024, 5632]⟩
abbrev S1024x4x1408 : Shape := ⟨3, ![1024, 4, 1408]⟩
abbrev S4x1024x1408 : Shape := ⟨3, ![4, 1024, 1408]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1024x4096, .f32⟩
  | .hbm, ⟨3, _⟩ => ⟨S1024x5632, .f32⟩
  | .hbm, ⟨4, _⟩ => ⟨S1024x4x1408, .f32⟩
  | .hbm, ⟨5, _⟩ => ⟨S4x1024x1408, .f32⟩
  | .hbm, ⟨6, _⟩ => ⟨S4x1024x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Wtok.lean ====
abbrev S4096x512 : Shape := ⟨2, ![4096, 512]⟩
abbrev S4096x256 : Shape := ⟨2, ![4096, 256]⟩
abbrev S4096x1024 : Shape := ⟨2, ![4096, 1024]⟩
abbrev S1792x1024 : Shape := ⟨2, ![1792, 1024]⟩
abbrev S2048x512 : Shape := ⟨2, ![2048, 512]⟩
abbrev S2048x256 : Shape := ⟨2, ![2048, 256]⟩
abbrev S2048x1024 : Shape := ⟨2, ![2048, 1024]⟩
abbrev S512x1024 : Shape := ⟨2, ![512, 1024]⟩
abbrev S256x1024 : Shape := ⟨2, ![256, 1024]⟩
abbrev S1024x1024 : Shape := ⟨2, ![1024, 1024]⟩

abbrev nBuf : Space → Nat
  | .hbm => 9
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x1024, .f32⟩
  | .hbm, ⟨3, _⟩ => ⟨S4096x1024, .f32⟩
  | .hbm, ⟨4, _⟩ => ⟨S4096x512, .bf16⟩
  | .hbm, ⟨5, _⟩ => ⟨S4096x256, .bf16⟩
  | .hbm, ⟨6, _⟩ => ⟨S4096x1024, .bf16⟩
  | .hbm, ⟨7, _⟩ => ⟨S4096x1024, .bf16⟩
  | .hbm, ⟨8, _⟩ => ⟨S1792x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1792x1024, .bf16⟩
  | .local _ .vmem, ⟨9, _⟩ => ⟨S1792x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v33 : BitVec 1 := Scalar.cmpi .eq arg0 c1_i32
  let v34 : BitVec 32 := Scalar.extui v33
  let c0_i32_24 : BitVec 32 := 0#32
  let v35 : BitVec 1 := Scalar.cmpi .ne v34 c0_i32_24
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1792x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== WtokRefIdeal.lean ====
abbrev S4096x512 : Shape := ⟨2, ![4096, 512]⟩
abbrev S4096x256 : Shape := ⟨2, ![4096, 256]⟩
abbrev S4096x1024 : Shape := ⟨2, ![4096, 1024]⟩
abbrev S4096x1792 : Shape := ⟨2, ![4096, 1792]⟩
abbrev S1792x4096 : Shape := ⟨2, ![1792, 4096]⟩
abbrev S1792x1024 : Shape := ⟨2, ![1792, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x256, .f32⟩
  | .hbm, ⟨2, _⟩ => ⟨S4096x1024, .f32⟩
  | .hbm, ⟨3, _⟩ => ⟨S4096x1024, .f32⟩
  | .hbm, ⟨4, _⟩ => ⟨S4096x1792, .f32⟩
  | .hbm, ⟨5, _⟩ => ⟨S1792x4096, .f32⟩
  | .hbm, ⟨6, _⟩ => ⟨S1792x1024, .f32⟩
  | .hbm, ⟨7, _⟩ => ⟨S1792x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.Rms.lean ====
/-
  The algebra of the root-mean-square norm over the extended reals: the constants of the norm as real numbers,
  multiplication by a positive real through a sum, and the gradient of the norm — the closed form the kernels write
  by hand equals the one the chain rule builds — with no assumption on the entries of the row.
-/
module

public import Idealize.ShloMosaic.Lib.Pointwise

@[expose] public section

set_option maxRecDepth 16384

noncomputable section

open Idealize.ShloMosaic

namespace Cert.Rms

/-- The word `0x44800000` is the row length 1024. -/
theorem c1024 : Ideal.ofBits .f32 1149239296#32 = ((1024 : ℝ) : EReal) := by
  simp [Ideal.ofBits, Ideal.ieee]; rw [← EReal.coe_mul]; norm_num

/-- The word `0x3F000000` is one half. -/
theorem chalf : Ideal.ofBits .f32 1056964608#32 = ((1 / 2 : ℝ) : EReal) := by
  simp [Ideal.ofBits, Ideal.ieee]; rw [← EReal.coe_mul]; norm_num

/-- The word `0xBF000000` is minus one half. -/
theorem cnhalf : Ideal.ofBits .f32 3204448256#32 = ((-(1 / 2) : ℝ) : EReal) := by
  simp [Ideal.ofBits, Ideal.ieee]; rw [← EReal.coe_mul]; norm_num

/-- The word `0x40000000` is two. -/
theorem ctwo : Ideal.ofBits .f32 1073741824#32 = ((2 : ℝ) : EReal) := by
  simp [Ideal.ofBits, Ideal.ieee]; rw [← EReal.coe_mul]; norm_num

/-- The word `0x3A800000` is one over the row length. -/
theorem cinv : Ideal.ofBits .f32 981467136#32 = ((1 / 1024 : ℝ) : EReal) := by
  simp [Ideal.ofBits, Ideal.ieee]; rw [← EReal.coe_mul]; norm_num

/-- The constant added under the root is a positive real. -/
theorem ceps : ∃ e : ℝ, 0 < e ∧ Ideal.ofBits .f32 897988541#32 = (e : EReal) := by
  refine ⟨_, ?_, by simp [Ideal.ofBits, Ideal.ieee]; rfl⟩
  norm_num

/-- A non-negative real distributes over a sum of two extended reals. -/
theorem coe_mul_add {c : ℝ} (hc : 0 ≤ c) (a b : EReal) : (c : EReal) * (a + b) = c * a + c * b :=
  EReal.left_distrib_of_nonneg_of_ne_top (by exact_mod_cast hc) (EReal.coe_ne_top c) a b

/-- A non-negative real distributes over a difference. -/
theorem coe_mul_sub {c : ℝ} (hc : 0 ≤ c) (a b : EReal) : (c : EReal) * (a - b) = c * a - c * b := by
  rw [sub_eq_add_neg, coe_mul_add hc, mul_neg, ← sub_eq_add_neg]

/-- A non-negative real distributes over a finite sum. -/
theorem coe_mul_sum {ι : Type*} {c : ℝ} (hc : 0 ≤ c) (s : Finset ι) (f : ι → EReal) :
    (c : EReal) * ∑ k ∈ s, f k = ∑ k ∈ s, (c : EReal) * f k := by
  classical
  induction s using Finset.induction_on with
  | empty => simp
  | insert a s ha ih => rw [Finset.sum_insert ha, Finset.sum_insert ha, coe_mul_add hc, ih]

/-- A product with a positive real added to itself is the product with twice the real, also at infinity. -/
theorem mul_neg_add_self (u : EReal) {q : ℝ} (hq : 0 < q) :
    u * ((-q : ℝ) : EReal) + u * ((-q : ℝ) : EReal) = -(u * ((2 * q : ℝ) : EReal)) := by
  induction u with
  | bot => rw [EReal.bot_mul_coe_of_neg (by linarith), EReal.bot_mul_coe_of_pos (by linarith)]; rfl
  | top => rw [EReal.top_mul_coe_of_neg (by linarith), EReal.top_mul_coe_of_pos (by linarith)]; rfl
  | coe r => norm_cast; ring

section Row

variable {n : ℕ}

/-- The mean of the squares of a row plus the small constant. -/
def vv (x : Fin n → EReal) : EReal :=
  Ideal.div (∑ k, x k * x k) (Ideal.ofBits .f32 1149239296#32) + Ideal.ofBits .f32 897988541#32

/-- The reciprocal root of a row: what a row is multiplied by. -/
def rr (x : Fin n → EReal) : EReal := Ideal.rsqrt (vv x)

theorem sq_nonneg (a : EReal) : 0 ≤ a * a := by
  rcases le_total 0 a with h | h
  · exact mul_nonneg h h
  · rw [← neg_mul_neg]; exact mul_nonneg (by simpa using h) (by simpa using h)

/-- Either the mean square is a positive real, and the reciprocal root is the positive real belonging to it, or the row
    has an infinite entry and the reciprocal root is zero. -/
theorem rr_cases (x : Fin n → EReal) :
    (∃ ρ : ℝ, 0 < ρ ∧ rr x = (ρ : EReal) ∧ vv x = (((ρ ^ 2)⁻¹ : ℝ) : EReal)) ∨ (rr x = 0 ∧ vv x = ⊤) := by
  obtain ⟨e, he, hE⟩ := ceps
  have hs : 0 ≤ ∑ k, x k * x k := Finset.sum_nonneg fun k _ => sq_nonneg (x k)
  have hv : vv x = (∑ k, x k * x k) * ((1 / 1024 : ℝ) : EReal) + (e : EReal) := by
    rw [vv, c1024, hE, Ideal.div_coe (by norm_num)]
  unfold rr
  rw [hv]
  generalize ∑ k, x k * x k = s at hs
  induction s with
  | bot => exact absurd hs (by simp)
  | top =>
    right
    rw [EReal.top_mul_coe_of_pos (by norm_num), EReal.top_add_coe]
    exact ⟨rfl, rfl⟩
  | coe r =>
    left
    have hr : 0 ≤ r := by exact_mod_cast hs
    have hp : 0 < r * (1 / 1024) + e := by positivity
    refine ⟨(Real.sqrt (r * (1 / 1024) + e))⁻¹, inv_pos.mpr (Real.sqrt_pos.mpr hp), ?_, ?_⟩
    · rw [← EReal.coe_mul, ← EReal.coe_add, Ideal.rsqrt_coe, if_neg (not_lt.mpr hp.le), if_neg hp.ne']
    · rw [← EReal.coe_mul, ← EReal.coe_add, inv_pow, inv_inv, Real.sq_sqrt hp.le]

/-- The gradient of the norm as the kernels write it: of the cotangent `a` of the normalised row, the part along the
    normalised row is taken off, and what is left is multiplied by the reciprocal root. -/
def bwd (x a : Fin n → EReal) (l : Fin n) : EReal :=
  rr x * (a l - x l * rr x * Ideal.div (∑ k, a k * (x k * rr x)) (Ideal.ofBits .f32 1149239296#32))

/-- The cotangent of the square of one entry, as the chain rule through the root gives it. -/
def tt (x a : Fin n → EReal) : EReal :=
  Ideal.div ((∑ k, x k * a k) * (Ideal.ofBits .f32 3204448256#32 * Ideal.div (rr x) (vv x)))
    (Ideal.ofBits .f32 1149239296#32)

/-- The two gradients of the norm agree, on every row of extended reals. -/
theorem bwd_eq (x a : Fin n → EReal) (l : Fin n) :
    bwd x a l = a l * rr x + x l * tt x a + tt x a * x l := by
  unfold bwd tt
  rcases rr_cases x with ⟨ρ, hρ, hr, hv⟩ | ⟨hr, hv⟩
  · have hρ0 := hρ.ne'
    have hsum : ∑ k, a k * (x k * rr x) = (ρ : EReal) * ∑ k, x k * a k := by
      rw [coe_mul_sum hρ.le]
      refine Finset.sum_congr rfl fun k _ => ?_
      rw [hr]; ac_rfl
    rw [hsum, hr, hv, cnhalf, c1024, Ideal.div_coe (by positivity), Ideal.div_coe (by positivity),
      Ideal.div_coe (by positivity), coe_mul_sub hρ.le]
    generalize ∑ k, x k * a k = S
    have e1 : (ρ : EReal) * (x l * ρ * (ρ * S * ((1 / 1024 : ℝ) : EReal))) = x l * S * ((ρ ^ 3 / 1024 : ℝ) : EReal) := by
      have : ((ρ ^ 3 / 1024 : ℝ) : EReal) = ρ * (ρ * (ρ * ((1 / 1024 : ℝ) : EReal))) := by norm_cast; ring
      rw [this]; ac_rfl
    have e2 : S * (((-(1 / 2) : ℝ) : EReal) * ((ρ : EReal) * ((1 / (ρ ^ 2)⁻¹ : ℝ) : EReal))) * ((1 / 1024 : ℝ) : EReal)
        = S * ((-(ρ ^ 3 / 2048) : ℝ) : EReal) := by
      rw [mul_assoc]
      congr 1
      norm_cast
      have := hρ.ne'
      field_simp
      norm_num
    rw [e1, e2, mul_comm (S * _) (x l), ← mul_assoc, add_assoc, mul_neg_add_self _ (by positivity), mul_comm (ρ : EReal) (a l),
      sub_eq_add_neg]
    congr 4
    ring
  · rw [hr, hv]
    simp [Ideal.div, c1024, cnhalf]

end Row

end Cert.Rms
-- ==== Proof.LossPure.lean ====
/-
  The loss head, element by element: what one grid point of the kernel computes from its block of rows, and what the
  reference computes, both written over rows of extended reals.
-/
module

public import proofs.«01_k».proof.Proof.Gen.LossIdeal.Value
public import proofs.«01_k».proof.Proof.Gen.LossRefIdeal.Read
public import proofs.«01_k».proof.Proof.Rms
public import Idealize.ShloMosaic.Lib.Pipeline.ValueKit

@[expose] public section

set_option maxRecDepth 16384

noncomputable section

open Idealize.ShloMosaic Idealize.ShloMosaic.TcCoe Idealize.SL.Sem

namespace Cert.LossSpec

open Cert.Rms

/-- The error of one entry: the normalised, scaled row minus its target. -/
def err (x g y : Fin 1024 → EReal) (l : Fin 1024) : EReal := x l * rr x * g l - y l

/-- The mean squared error of a row. -/
def rowLoss (x g y : Fin 1024 → EReal) : EReal :=
  Ideal.div (∑ l, err x g y l * err x g y l) (Ideal.ofBits .f32 1149239296#32)

/-- The factor the kernel multiplies an error by. -/
def dy (x g y : Fin 1024 → EReal) (l : Fin 1024) : EReal := err x g y l * Ideal.ofBits .f32 981467136#32

/-- The cotangent the chain rule gives an entry of the normalised row is the kernel's. -/
theorem dy_eq (x g y : Fin 1024 → EReal) (l : Fin 1024) :
    Ideal.div (Ideal.ofBits .f32 1056964608#32) (Ideal.ofBits .f32 1149239296#32) *
      (Ideal.ofBits .f32 1073741824#32 * err x g y l) = dy x g y l := by
  unfold dy
  rw [chalf, c1024, ctwo, cinv, Ideal.div_coe (by norm_num), ← mul_assoc, mul_comm]
  congr 1
  norm_cast
  norm_num

end Cert.LossSpec

namespace Cert.LossIdeal.Pure

open Cert.LossIdeal Cert.LossIdeal.Gen Cert.Rms Cert.LossSpec

/-- A row of a block. -/
def row (x : FVec Ideal S512x1024 .f32) (r : Fin 512) : Fin 1024 → EReal := fun k => x (ix2 r k)
/-- The row of weights. -/
def row1 (g : FVec Ideal S1x1024 .f32) : Fin 1024 → EReal := fun k => g (ix2 0 k)

theorem pay3 (x : FVec Ideal S512x1024 .f32) (g : FVec Ideal S1x1024 .f32) (y : FVec Ideal S512x1024 .f32)
    (r : Fin 512) (l : Fin 1024) :
    k0_pay3 (F := Ideal) x (k0_pay7 g) (k0_pay10 x g y) (k0_pay11 x) (ix2 r l)
      = bwd (row x r) (fun k => dy (row x r) (row1 g) (row y r) k * row1 g k) l := by
  pointwise [k0_pay3, k0_pay7, k0_pay10, k0_pay11, k0_pay2, k0_pay1, k0_pay8]
  rfl

theorem pay9 (x : FVec Ideal S512x1024 .f32) (g : FVec Ideal S1x1024 .f32) (y : FVec Ideal S512x1024 .f32)
    (acc : FVec Ideal S1x1 .f32) (r l : Fin 1) :
    k0_pay9 (F := Ideal) x g y acc (ix2 r l)
      = acc (ix2 r l) + Ideal.ofBits .f32 1056964608#32 * ∑ a, rowLoss (row x a) (row1 g) (row y a) := by
  pointwise [k0_pay9, k0_pay7, k0_pay8]
  rfl

theorem pay4 (x : FVec Ideal S512x1024 .f32) (g : FVec Ideal S1x1024 .f32) (y : FVec Ideal S512x1024 .f32)
    (acc : FVec Ideal S1x1024 .f32) (r : Fin 1) (l : Fin 1024) :
    k0_pay4 (F := Ideal) x (k0_pay10 x g y) (k0_pay11 x) acc (ix2 r l)
      = acc (ix2 r l) + ∑ a, dy (row x a) (row1 g) (row y a) l * (row x a l * rr (row x a)) := by
  pointwise [k0_pay4, k0_pay7, k0_pay10, k0_pay11, k0_pay2, k0_pay1, k0_pay8]
  rfl

theorem pay5 (j) : k0_pay5 (F := Ideal) j = 0 := by pointwise [k0_pay5]
theorem pay6 (j) : k0_pay6 (F := Ideal) j = 0 := by pointwise [k0_pay6]

end Cert.LossIdeal.Pure

namespace Cert.LossRefIdeal.Pure

open Cert.LossRefIdeal Cert.LossRefIdeal.Gen Cert.LossRefIdeal.Read Cert.Rms Cert.LossSpec

/-- A row of an array. -/
def row (x : FVec Ideal S4096x1024 .f32) (r : Fin 4096) : Fin 1024 → EReal := fun k => x (ix2 r k)
/-- The weights. -/
def row1 (g : FVec Ideal S1024 .f32) : Fin 1024 → EReal := fun k => g (ix1 k)

/-- The gradient of the input, entry by entry. -/
theorem dx (x : FVec Ideal S4096x1024 .f32) (g : FVec Ideal S1024 .f32) (y : FVec Ideal S4096x1024 .f32)
    (r : Fin 4096) (l : Fin 1024) :
    val_main_v50 (F := Ideal) x g y (ix2 r l)
      = bwd (row x r) (fun k => dy (row x r) (row1 g) (row y r) k * row1 g k) l := by
  rw [bwd_eq]
  simp only [← dy_eq]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52, err, tt, rr, vv, row, row1]
  simp only [Fin.sum_univ_one, Finset.univ_unique, Finset.sum_singleton]

/-- The gradient of the weights, entry by entry. -/
theorem dg (x : FVec Ideal S4096x1024 .f32) (g : FVec Ideal S1024 .f32) (y : FVec Ideal S4096x1024 .f32)
    (r : Fin 1) (l : Fin 1024) :
    val_main_v52 (F := Ideal) x g y (ix2 r l)
      = ∑ a, dy (row x a) (row1 g) (row y a) l * (row x a l * rr (row x a)) := by
  simp only [← dy_eq]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52, err, rr, vv, row, row1]
  simp only [Finset.univ_unique, Finset.sum_singleton]
  exact Finset.sum_congr rfl fun a _ => mul_comm _ _

/-- The loss. -/
theorem loss (x : FVec Ideal S4096x1024 .f32) (g : FVec Ideal S1024 .f32) (y : FVec Ideal S4096x1024 .f32)
    (r l : Fin 1) :
    val_main_v51 (F := Ideal) x g y (ix2 r l)
      = Ideal.ofBits .f32 1056964608#32 * ∑ a, rowLoss (row x a) (row1 g) (row y a) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_cst_3, val_main_v18, val_main_v19, val_main_cst_4, val_main_v20, val_main_cst_5, val_main_v21, val_main_v22, val_main_cst_6, val_main_v23, val_main_cst_7, val_main_v24, val_main_cst_8, val_main_cst_9, val_main_v25, val_main_v26, val_main_cst_10, val_main_v27, val_main_v28, val_main_v29, val_main_v30, val_main_v31, val_main_cst_11, val_main_v32, val_main_v33, val_main_v34, val_main_v35, val_main_cst_12, val_main_v36, val_main_v37, val_main_cst_13, val_main_v38, val_main_v39, val_main_v40, val_main_v41, val_main_v42, val_main_cst_14, val_main_v43, val_main_v44, val_main_cst_15, val_main_v45, val_main_v46, val_main_v47, val_main_v48, val_main_v49, val_main_v50, val_main_v51, val_main_v52, rowLoss, err, rr, vv, row, row1]

end Cert.LossRefIdeal.Pure
-- ==== Proof.LossValue.lean ====
/-
  The loss head's three result arrays after the run, each equal to the reference's term over the same arguments.
-/
module

public import proofs.«01_k».proof.Proof.LossPure

@[expose] public section

set_option maxRecDepth 16384

noncomputable section

open Idealize.ShloMosaic Idealize.ShloMosaic.TcCoe Idealize.SL.Sem
open Idealize.ShloMosaic.Pipeline (Dat)

namespace Cert.LossIdeal.Final

open Cert.LossIdeal Cert.LossIdeal.Gen Cert.LossIdeal.Pure
open Cert.LossRefIdeal.Read (val_main_v50 val_main_v51 val_main_v52)

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- The place in the arrays of a row of a block. -/
def at' (t : Fin cfg0.N) (r : Fin 512) : Fin 4096 :=
  ⟨t.val * 512 + r.val, by have hN : cfg0.N = 8 := N_0; have := t.isLt; have := r.isLt; omega⟩

theorem blk0 (c : Dev nD) (t : Fin cfg0.N) (r : Fin 512) :
    row (iblk m c 0 t) r = Cert.LossRefIdeal.Pure.row (m ((c : Thread nD τ).loc main_arg0)) (at' t r) := by
  funext k
  show iblk m c 0 t (ix2 r k) = m ((c : Thread nD τ).loc main_arg0) (ix2 (at' t r) k)
  blk_ext [iblk, V, idx t, at']

theorem blk2 (c : Dev nD) (t : Fin cfg0.N) (r : Fin 512) :
    row (iblk m c 2 t) r = Cert.LossRefIdeal.Pure.row (m ((c : Thread nD τ).loc main_arg2)) (at' t r) := by
  funext k
  show iblk m c 2 t (ix2 r k) = m ((c : Thread nD τ).loc main_arg2) (ix2 (at' t r) k)
  blk_ext [iblk, V, idx t, at']

theorem blk1 (c : Dev nD) (t : Fin cfg0.N) :
    row1 (iblk m c 1 t) = Cert.LossRefIdeal.Pure.row1 (m ((c : Thread nD τ).loc main_arg1)) := by
  funext k
  show iblk m c 1 t (ix2 0 k) = m ((c : Thread nD τ).loc main_arg1) (ix1 k)
  blk_simp [iblk]
  entry_read
  pointwise
  blk_ext [idx t]

/-- The gradient of the input. -/
theorem dx (c : Dev nD) : (dats m 0 c).arrAt 4 cfg0.N
    = val_main_v50 (F := Ideal) (m ((c : Thread nD τ).loc main_arg0)) (m ((c : Thread nD τ).loc main_arg1))
        (m ((c : Thread nD τ).loc main_arg2)) := by
  refine (dats m 0 c).arrAt_eq_of_covers 4 _ (by decide +kernel) fun t hf y => ?_
  blk_simp
  rw [after0_4]
  have key : ∀ (y0 : Fin 512) (y1 : Fin 1024),
      k0_pay3 (iblk m c 0 t) (k0_pay7 (iblk m c 1 t)) (k0_pay10 (iblk m c 0 t) (iblk m c 1 t) (iblk m c 2 t))
        (k0_pay11 (iblk m c 0 t)) (ix2 y0 y1)
      = val_main_v50 (F := Ideal) (m ((c : Thread nD τ).loc main_arg0)) (m ((c : Thread nD τ).loc main_arg1))
        (m ((c : Thread nD τ).loc main_arg2)) (((View.whole main_v1_1).slice (win0_4.rect t)).emb (ix2 y0 y1)) := by
    intro y0 y1
    have he : (((View.whole main_v1_1).slice (win0_4.rect t)).emb (ix2 y0 y1)) = (ix2 (at' t y0) y1 : S4096x1024.Idx) := by
      blk_ext [idx t, at']
    rw [he, pay3, blk0, blk1, blk2]
    exact (Cert.LossRefIdeal.Pure.dx _ _ _ _ _).symm
  by_cases h : t.val % 8 = 0
  · rw [outsAt0_A m c t h]
    frame_out
    idx_vars y
    exact key y0 y1
  · rw [outsAt0_B m c t h]
    frame_out
    idx_vars y
    exact key y0 y1

/-- What one grid point adds to the gradient of the weights. -/
def dgPart (c : Dev nD) (t : Fin cfg0.N) (j : S1x1024.Idx) : EReal :=
  ∑ a, Cert.LossSpec.dy (row (iblk m c 0 t) a) (row1 (iblk m c 1 t)) (row (iblk m c 2 t) a) (j 1)
    * (row (iblk m c 0 t) a (j 1) * Cert.Rms.rr (row (iblk m c 0 t) a))

/-- The gradient of the weights. -/
theorem dg (c : Dev nD) : (dats m 0 c).arrAt 5 cfg0.N
    = val_main_v52 (F := Ideal) (m ((c : Thread nD τ).loc main_arg0)) (m ((c : Thread nD τ).loc main_arg1))
        (m ((c : Thread nD τ).loc main_arg2)) := by
  refine (dats m 0 c).arrAt_eq_of_after_last 5 t0_7 (by decide +kernel) _ fun j => ?_
  blk_simp
  idx_vars j
  rw [after0_5, Pipeline.eq_sum_fin_of_reset_step_apply_last (fun n h => (outsAt0 m c n h).2.2) 8 (fun _ => 0) (dgPart m c)
    (fun t h j => by rw [outsAt0_A m c t h]; frame_out; idx_vars j; rw [pay4, pay6]; rfl)
    (fun t h j => by rw [outsAt0_B m c t h]; frame_out; idx_vars j; rw [pay4]; rfl)
    (le_of_eq N_0) t0_7 rfl _, zero_add]
  refine Eq.trans ?_ (Cert.LossRefIdeal.Pure.dg _ _ _ _ _).symm
  simp only [dgPart, blk0, blk1, blk2]
  exact Fin.sum_mul_add_congr (fun p a _ => rfl) (by rw [show cfg0.N = 8 from N_0])

/-- What one grid point adds to the loss. -/
def lossPart (c : Dev nD) (t : Fin cfg0.N) (_ : S1x1.Idx) : EReal :=
  Ideal.ofBits .f32 1056964608#32
    * ∑ a, Cert.LossSpec.rowLoss (row (iblk m c 0 t) a) (row1 (iblk m c 1 t)) (row (iblk m c 2 t) a)

/-- The loss. -/
theorem loss (c : Dev nD) : (dats m 0 c).arrAt 3 cfg0.N
    = val_main_v51 (F := Ideal) (m ((c : Thread nD τ).loc main_arg0)) (m ((c : Thread nD τ).loc main_arg1))
        (m ((c : Thread nD τ).loc main_arg2)) := by
  refine (dats m 0 c).arrAt_eq_of_after_last 3 t0_7 (by decide +kernel) _ fun j => ?_
  blk_simp
  idx_vars j
  rw [after0_3, Pipeline.eq_sum_fin_of_reset_step_apply_last (fun n h => (outsAt0 m c n h).1) 8 (fun _ => 0) (lossPart m c)
    (fun t h j => by rw [outsAt0_A m c t h]; frame_out; idx_vars j; rw [pay9, pay5]; rfl)
    (fun t h j => by rw [outsAt0_B m c t h]; frame_out; idx_vars j; rw [pay9]; rfl)
    (le_of_eq N_0) t0_7 rfl _, zero_add]
  refine Eq.trans ?_ (Cert.LossRefIdeal.Pure.loss _ _ _ _ _).symm
  simp only [lossPart, blk0, blk1, blk2]
  rw [Cert.Rms.chalf]
  refine (Cert.Rms.coe_mul_sum (by norm_num) _ _).symm.trans (congrArg _ ?_)
  exact Fin.sum_mul_add_congr (fun p a _ => rfl) (by rw [show cfg0.N = 8 from N_0])

end Cert.LossIdeal.Final
-- ==== Proof.LossClaim.lean ====
/-
  The loss head's claims: the frames of the two programs of the value claim, and the value claim itself.
-/
module

public import proofs.«01_k».proof.Defs
public import proofs.«01_k».proof.Proof.LossValue
public import proofs.«01_k».proof.Proof.Gen.Loss.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.LossClaim

/-- The reference runs and leaves its arguments and its counters as they were. -/
theorem frame_ref : Cert.quiescent_LossRefIdeal := by
  intro m g _
  exact (θ_run Cert.LossRefIdeal.defs _ _).mono
    (fun r h => ⟨fun c => (h c).2.2.2, sem_eq_zero_of_no_sems (by decide) r.2⟩)
    (Cert.LossRefIdeal.Value.run (F := Ideal) m g)

/-- Kernel and reference end with equal loss, input gradient and weight gradient. -/
theorem algebraic : Cert.algebraic_LossIdeal_LossRefIdeal := by
  pair_intro
  · run_from Cert.LossIdeal.Gen.run_main m g
  · run_from Cert.LossRefIdeal.Value.run m' g'
    · exact (Cert.LossIdeal.Final.loss m c).symm
    · rw [Cert.LossRefIdeal.Read.val_main_v50_eq, (hagree c).1, (hagree c).2.1, (hagree c).2.2]
      exact (Cert.LossIdeal.Final.dx m c).symm
    · exact (Cert.LossIdeal.Final.dg m c).symm

end Cert.LossClaim
-- ==== Proof.MixPure.lean ====
/-
  The norm before the token mixing, backward, element by element: what one grid point of the kernel computes from its
  blocks, and what the reference computes, both written over rows of extended reals.
-/
module

public import proofs.«01_k».proof.Proof.Gen.MixIdeal.Value
public import proofs.«01_k».proof.Proof.Gen.MixRefIdeal.Read
public import proofs.«01_k».proof.Proof.Rms
public import Idealize.ShloMosaic.Lib.Pipeline.ValueKit

@[expose] public section

set_option maxRecDepth 16384

noncomputable section

open Idealize.ShloMosaic Idealize.ShloMosaic.TcCoe Idealize.SL.Sem

namespace Cert.MixIdeal.Pure

open Cert.MixIdeal Cert.MixIdeal.Gen Cert.Rms

/-- A row of a block. -/
def row (x : FVec Ideal S512x1024 .f32) (r : Fin 512) : Fin 1024 → EReal := fun k => x (ix2 r k)
/-- The row of weights. -/
def row1 (g : FVec Ideal S1x1024 .f32) : Fin 1024 → EReal := fun k => g (ix2 0 k)

/-- The three products of the cotangent's parts and the weights' parts, summed. -/
theorem pay6 (v4 : FVec Ideal S512x512 .bf16) (v6 : FVec Ideal S512x1024 .bf16) (v10 : FVec Ideal S512x256 .bf16) (v12 : FVec Ideal S256x1024 .bf16)
   (v16 : FVec Ideal S512x1024 .bf16) (v18 : FVec Ideal S1024x1024 .bf16) (r : Fin 512) (l : Fin 1024) :
    k0_pay6 (F := Ideal) v4 v6 v10 v12 v16 v18 (ix2 r l)
      = (∑ k, v4 (ix2 r k) * v6 (ix2 k l)) + (∑ k, v10 (ix2 r k) * v12 (ix2 k l)) + (∑ k, v16 (ix2 r k) * v18 (ix2 k l)) := by
  pointwise [k0_pay6]

/-- The input's gradient: what comes from behind plus the norm's gradient. -/
theorem pay2 (h : FVec Ideal S512x1024 .f32) (x : FVec Ideal S512x1024 .f32) (g : FVec Ideal S1x1024 .f32) (o : FVec Ideal S512x1024 .f32)
    (r : Fin 512) (l : Fin 1024) :
    k0_pay2 (F := Ideal) h x (k0_pay7 g) (k0_pay8 x) o (ix2 r l)
      = o (ix2 r l) + bwd (row x r) (fun k => row h r k * row1 g k) l := by
  pointwise [k0_pay2, k0_pay7, k0_pay8, k0_pay1]
  rfl

/-- What a block adds to the weights' gradient. -/
theorem pay3 (h : FVec Ideal S512x1024 .f32) (x : FVec Ideal S512x1024 .f32)
    (acc : FVec Ideal S1x1024 .f32) (r : Fin 1) (l : Fin 1024) :
    k0_pay3 (F := Ideal) h x (k0_pay8 x) acc (ix2 r l)
      = acc (ix2 r l) + ∑ a, row h a l * (row x a l * rr (row x a)) := by
  pointwise [k0_pay3, k0_pay8, k0_pay1]
  rfl

/-- The normalised, scaled row. -/
theorem pay4 (x : FVec Ideal S512x1024 .f32) (g : FVec Ideal S1x1024 .f32)
    (r : Fin 512) (l : Fin 1024) :
    k0_pay4 (F := Ideal) x (k0_pay7 g) (k0_pay8 x) (ix2 r l)
      = row x r l * rr (row x r) * row1 g l := by
  pointwise [k0_pay4, k0_pay7, k0_pay8, k0_pay1]
  rfl

/-- The weights' gradient starts at zero. -/
theorem pay5 (j) : k0_pay5 (F := Ideal) j = 0 := by pointwise [k0_pay5]

end Cert.MixIdeal.Pure

namespace Cert.MixRefIdeal.Pure

open Cert.MixRefIdeal Cert.MixRefIdeal.Gen Cert.MixRefIdeal.Read Cert.Rms

/-- A row of an array. -/
def row (x : FVec Ideal S4096x1024 .f32) (r : Fin 4096) : Fin 1024 → EReal := fun k => x (ix2 r k)
/-- The weights. -/
def row1 (g : FVec Ideal S1024 .f32) : Fin 1024 → EReal := fun k => g (ix1 k)
/-- A row of the cotangent of the normalised rows: the projection's cotangent times the weights transposed. -/
def dh (d : FVec Ideal S4096x1792 .f32) (w : FVec Ideal S1024x1792 .f32) (r : Fin 4096) : Fin 1024 → EReal :=
  fun l => ∑ k, d (ix2 r k) * w (ix2 l k)

/-- The gradient of the input, entry by entry. -/
theorem dx (o x : FVec Ideal S4096x1024 .f32) (g : FVec Ideal S1024 .f32) (d : FVec Ideal S4096x1792 .f32)
    (w : FVec Ideal S1024x1792 .f32) (r : Fin 4096) (l : Fin 1024) :
    val_main_v38 (F := Ideal) o x g d w (ix2 r l)
      = o (ix2 r l) + bwd (row x r) (fun k => dh d w r k * row1 g k) l := by
  rw [bwd_eq, ← add_assoc, ← add_assoc]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39, val_main_v40, tt, rr, vv, row, row1, dh]
  simp only [Fin.sum_univ_one, Finset.univ_unique, Finset.sum_singleton]

/-- The gradient of the weights, entry by entry. -/
theorem dg (x : FVec Ideal S4096x1024 .f32) (d : FVec Ideal S4096x1792 .f32)
    (w : FVec Ideal S1024x1792 .f32) (r : Fin 1) (l : Fin 1024) :
    val_main_v39 (F := Ideal) x d w (ix2 r l)
      = ∑ a, dh d w a l * (row x a l * rr (row x a)) := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39, val_main_v40, rr, vv, row, row1, dh]
  simp only [Finset.univ_unique, Finset.sum_singleton]
  exact Finset.sum_congr rfl fun a _ => mul_comm _ _

/-- The normalised, scaled rows, entry by entry. -/
theorem hb (x : FVec Ideal S4096x1024 .f32) (g : FVec Ideal S1024 .f32) (r : Fin 4096) (l : Fin 1024) :
    val_main_v40 (F := Ideal) x g (ix2 r l) = row x r l * rr (row x r) * row1 g l := by
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_v17, val_main_v18, val_main_cst_3, val_main_v19, val_main_v20, val_main_v21, val_main_v22, val_main_cst_4, val_main_v23, val_main_v24, val_main_cst_5, val_main_v25, val_main_v26, val_main_v27, val_main_v28, val_main_v29, val_main_v30, val_main_cst_6, val_main_v31, val_main_v32, val_main_cst_7, val_main_v33, val_main_v34, val_main_v35, val_main_v36, val_main_v37, val_main_v38, val_main_v39, val_main_v40, rr, vv, row, row1, dh]

end Cert.MixRefIdeal.Pure
-- ==== Proof.MixValue.lean ====
/-
  The three result arrays after the run, each equal to the reference's term over the same arguments.
-/
module

public import proofs.«01_k».proof.Proof.MixPure

@[expose] public section

set_option maxRecDepth 16384

noncomputable section

open Idealize.ShloMosaic Idealize.ShloMosaic.TcCoe Idealize.SL.Sem
open Idealize.ShloMosaic.Pipeline (Dat)

namespace Cert.MixIdeal.Final

open Cert.MixIdeal Cert.MixIdeal.Gen Cert.MixIdeal.Pure
open Cert.MixRefIdeal.Read (val_main_v38 val_main_v39 val_main_v40)

variable (m : (ℓ : Loc nD τ sig) → Buf (Elt Ideal) ℓ)

/-- The block each window takes at each grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![0, 0] ∧ win0_9.index t = ![t.val, 0] :=
  (by decide +kernel : ∀ t : Fin grid0.N, _)

/-- The place in the arrays of a row of a block. -/
def at' (t : Fin cfg0.N) (r : Fin 512) : Fin 4096 :=
  ⟨t.val * 512 + r.val, by have hN : cfg0.N = 8 := N_0; have := t.isLt; have := r.isLt; omega⟩

/-- A row of the cotangent's block. -/
theorem blk0 (c : Dev nD) (t : Fin cfg0.N) (r : Fin 512) :
    row (iblk m c 0 t) r = Cert.MixRefIdeal.Pure.row (m ((c : Thread nD τ).loc main_arg0)) (at' t r) := by
  funext k
  show iblk m c 0 t (ix2 r k) = m ((c : Thread nD τ).loc main_arg0) (ix2 (at' t r) k)
  blk_ext [iblk, V, idx t, at']

/-- A row of the input's block. -/
theorem blk1 (c : Dev nD) (t : Fin cfg0.N) (r : Fin 512) :
    row (iblk m c 1 t) r = Cert.MixRefIdeal.Pure.row (m ((c : Thread nD τ).loc main_arg1)) (at' t r) := by
  funext k
  show iblk m c 1 t (ix2 r k) = m ((c : Thread nD τ).loc main_arg1) (ix2 (at' t r) k)
  blk_ext [iblk, V, idx t, at']

/-- The weights of the norm. -/
theorem blk2 (c : Dev nD) (t : Fin cfg0.N) :
    row1 (iblk m c 2 t) = Cert.MixRefIdeal.Pure.row1 (m ((c : Thread nD τ).loc main_arg2)) := by
  funext k
  show iblk m c 2 t (ix2 0 k) = m ((c : Thread nD τ).loc main_arg2) (ix1 k)
  blk_simp [iblk]
  entry_read
  pointwise
  blk_ext [idx t]

/-- The first part of the projection's cotangent. -/
theorem blk3 (c : Dev nD) (t : Fin cfg0.N) (r k : Fin 512) :
    iblk m c 3 t (ix2 r k) = m ((c : Thread nD τ).loc main_arg3) (ix2 (at' t r) ⟨k.val, by omega⟩) := by
  blk_simp [iblk]
  entry_read
  pointwise
  blk_ext [idx t, at']

/-- The second part of it. -/
theorem blk4 (c : Dev nD) (t : Fin cfg0.N) (r : Fin 512) (k : Fin 256) :
    iblk m c 4 t (ix2 r k) = m ((c : Thread nD τ).loc main_arg3) (ix2 (at' t r) ⟨512 + k.val, by omega⟩) := by
  blk_simp [iblk]
  entry_read
  pointwise
  blk_ext [idx t, at']

/-- The third part of it. -/
theorem blk5 (c : Dev nD) (t : Fin cfg0.N) (r : Fin 512) (k : Fin 1024) :
    iblk m c 5 t (ix2 r k) = m ((c : Thread nD τ).loc main_arg3) (ix2 (at' t r) ⟨768 + k.val, by omega⟩) := by
  blk_simp [iblk]
  entry_read
  pointwise
  blk_ext [idx t, at']

/-- The projection's weights, transposed. -/
theorem blk6 (c : Dev nD) (t : Fin cfg0.N) (k : Fin 1792) (l : Fin 1024) :
    iblk m c 6 t (ix2 k l) = m ((c : Thread nD τ).loc main_arg4) (ix2 l k) := by
  blk_simp [iblk]
  entry_read
  pointwise
  blk_ext [idx t]

/-- The cotangent of the normalised rows of one block, as the kernel sums it up over the three parts. -/
def dhBlk (c : Dev nD) (t : Fin cfg0.N) : FVec Ideal S512x1024 .f32 :=
  k0_pay6 (iblk m c 3 t) (View.ld (iblk m c 6 t) (Rect.unit ![0, 0] ![512, 1024] inb_S1792x1024_S512x1024_0_0))
    (iblk m c 4 t) (View.ld (iblk m c 6 t) (Rect.unit ![512, 0] ![256, 1024] inb_S1792x1024_S256x1024_512_0))
    (iblk m c 5 t) (View.ld (iblk m c 6 t) (Rect.unit ![768, 0] ![1024, 1024] inb_S1792x1024_S1024x1024_768_0))

/-- A sum over 1792 entries is the sum over its first 512, its next 256 and its last 1024. -/
theorem sum_parts (f : Fin 1792 → EReal) :
    ∑ k, f k = (∑ k : Fin 512, f ⟨k.val, by omega⟩) + (∑ k : Fin 256, f ⟨512 + k.val, by omega⟩)
      + ∑ k : Fin 1024, f ⟨768 + k.val, by omega⟩ := by
  rw [show (∑ k, f k) = ∑ k : Fin ((512 + 256) + 1024), f ⟨k.val, by omega⟩ from rfl, Fin.sum_univ_add, Fin.sum_univ_add]
  rfl

/-- The product's sum, in the three parts. -/
theorem dh_parts (d : FVec Ideal Cert.MixRefIdeal.S4096x1792 .f32) (w : FVec Ideal Cert.MixRefIdeal.S1024x1792 .f32)
    (r : Fin 4096) (l : Fin 1024) : Cert.MixRefIdeal.Pure.dh d w r l
      = (∑ k : Fin 512, d (ix2 r ⟨k.val, by omega⟩) * w (ix2 l ⟨k.val, by omega⟩))
        + (∑ k : Fin 256, d (ix2 r ⟨512 + k.val, by omega⟩) * w (ix2 l ⟨512 + k.val, by omega⟩))
        + ∑ k : Fin 1024, d (ix2 r ⟨768 + k.val, by omega⟩) * w (ix2 l ⟨768 + k.val, by omega⟩) :=
  sum_parts _

/-- An entry of the part of the weights that starts at row 0. -/
theorem ld0 (X : Vec Ideal S1792x1024 .bf16) (k : Fin 512) (l : Fin 1024) :
    View.ld X (Rect.unit ![0, 0] ![512, 1024] inb_S1792x1024_S512x1024_0_0) (ix2 k l)
      = X (ix2 ⟨k.val, by omega⟩ l) := by
  refine congrArg X ?_
  funext a
  apply Fin.ext
  rw [Rect.idx_unit_val]
  fin_cases a <;> simp [ix2]

/-- The weights the kernel reads, in parts, are the reference's transposed. -/
theorem w0 (c : Dev nD) (t : Fin cfg0.N) (k : Fin 512) (l : Fin 1024) :
    View.ld (iblk m c 6 t) (Rect.unit ![0, 0] ![512, 1024] inb_S1792x1024_S512x1024_0_0) (ix2 k l)
      = m ((c : Thread nD τ).loc main_arg4) (ix2 l ⟨k.val, by omega⟩) :=
  (ld0 (iblk m c 6 t) k l).trans (blk6 m c t ⟨k.val, by omega⟩ l)

/-- An entry of the part of the weights that starts at row 512. -/
theorem ld1 (X : Vec Ideal S1792x1024 .bf16) (k : Fin 256) (l : Fin 1024) :
    View.ld X (Rect.unit ![512, 0] ![256, 1024] inb_S1792x1024_S256x1024_512_0) (ix2 k l)
      = X (ix2 ⟨512 + k.val, by omega⟩ l) := by
  refine congrArg X ?_
  funext a
  apply Fin.ext
  rw [Rect.idx_unit_val]
  fin_cases a <;> simp [ix2]

theorem w1 (c : Dev nD) (t : Fin cfg0.N) (k : Fin 256) (l : Fin 1024) :
    View.ld (iblk m c 6 t) (Rect.unit ![512, 0] ![256, 1024] inb_S1792x1024_S256x1024_512_0) (ix2 k l)
      = m ((c : Thread nD τ).loc main_arg4) (ix2 l ⟨512 + k.val, by omega⟩) :=
  (ld1 (iblk m c 6 t) k l).trans (blk6 m c t ⟨512 + k.val, by omega⟩ l)

/-- An entry of the part of the weights that starts at row 768. -/
theorem ld2 (X : Vec Ideal S1792x1024 .bf16) (k : Fin 1024) (l : Fin 1024) :
    View.ld X (Rect.unit ![768, 0] ![1024, 1024] inb_S1792x1024_S1024x1024_768_0) (ix2 k l)
      = X (ix2 ⟨768 + k.val, by omega⟩ l) := by
  refine congrArg X ?_
  funext a
  apply Fin.ext
  rw [Rect.idx_unit_val]
  fin_cases a <;> simp [ix2]

theorem w2 (c : Dev nD) (t : Fin cfg0.N) (k : Fin 1024) (l : Fin 1024) :
    View.ld (iblk m c 6 t) (Rect.unit ![768, 0] ![1024, 1024] inb_S1792x1024_S1024x1024_768_0) (ix2 k l)
      = m ((c : Thread nD τ).loc main_arg4) (ix2 l ⟨768 + k.val, by omega⟩) :=
  (ld2 (iblk m c 6 t) k l).trans (blk6 m c t ⟨768 + k.val, by omega⟩ l)

/-- The cotangent of a normalised row is the product of the projection's cotangent and the weights. -/
theorem dhBlk_row (c : Dev nD) (t : Fin cfg0.N) (r : Fin 512) :
    row (dhBlk m c t) r = Cert.MixRefIdeal.Pure.dh (m ((c : Thread nD τ).loc main_arg3)) (m ((c : Thread nD τ).loc main_arg4)) (at' t r) := by
  funext l
  show dhBlk m c t (ix2 r l) = _
  rw [dhBlk, pay6]
  simp only [blk3, blk4, blk5, w0, w1, w2]
  exact (dh_parts _ _ _ _).symm

/-- The gradient of the input. -/
theorem dx (c : Dev nD) : (dats m 0 c).arrAt 7 cfg0.N
    = val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  have key : ∀ (y0 : Fin 512) (y1 : Fin 1024),
      k0_pay2 (dhBlk m c t) (iblk m c 1 t) (k0_pay7 (iblk m c 2 t)) (k0_pay8 (iblk m c 1 t)) (iblk m c 0 t) (ix2 y0 y1)
      = val_main_v38 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (((View.whole main_v7_0).slice (win0_7.rect t)).emb (ix2 y0 y1)) := by
    intro y0 y1
    have he : (((View.whole main_v7_0).slice (win0_7.rect t)).emb (ix2 y0 y1)) = (ix2 (at' t y0) y1 : S4096x1024.Idx) := by
      blk_ext [idx t, at']
    rw [he, pay2, dhBlk_row, blk1, blk2]
    refine Eq.trans ?_ (Cert.MixRefIdeal.Pure.dx _ _ _ _ _ _ _).symm
    exact congrArg (· + _) (congrFun (blk0 m c t y0) y1)
  by_cases h : t.val % 8 = 0
  · rw [outsAt0_A m c t h]
    frame_out
    idx_vars y
    exact key y0 y1
  · rw [outsAt0_B m c t h]
    frame_out
    idx_vars y
    exact key y0 y1

/-- The normalised rows, as the weights' gradient takes them. -/
theorem hb (c : Dev nD) : (dats m 0 c).arrAt 9 cfg0.N
    = val_main_v40 (F := Ideal) (m ((c : Thread nD τ).loc main_arg1)) (m ((c : Thread nD τ).loc main_arg2)) := by
  refine (dats m 0 c).arrAt_eq_of_covers 9 _ (by decide +kernel) fun t hf y => ?_
  blk_simp
  rw [after0_9]
  have key : ∀ (y0 : Fin 512) (y1 : Fin 1024),
      k0_pay4 (iblk m c 1 t) (k0_pay7 (iblk m c 2 t)) (k0_pay8 (iblk m c 1 t)) (ix2 y0 y1)
      = val_main_v40 (F := Ideal) (m ((c : Thread nD τ).loc main_arg1)) (m ((c : Thread nD τ).loc main_arg2))
        (((View.whole main_v7_2).slice (win0_9.rect t)).emb (ix2 y0 y1)) := by
    intro y0 y1
    have he : (((View.whole main_v7_2).slice (win0_9.rect t)).emb (ix2 y0 y1)) = (ix2 (at' t y0) y1 : S4096x1024.Idx) := by
      blk_ext [idx t, at']
    rw [he, pay4, blk1, blk2]
    exact (Cert.MixRefIdeal.Pure.hb _ _ _ _).symm
  by_cases h : t.val % 8 = 0
  · rw [outsAt0_A m c t h]
    frame_out
    idx_vars y
    exact key y0 y1
  · rw [outsAt0_B m c t h]
    frame_out
    idx_vars y
    exact key y0 y1

/-- What one grid point adds to the gradient of the weights. -/
def dgPart (c : Dev nD) (t : Fin cfg0.N) (j : S1x1024.Idx) : EReal :=
  ∑ a, row (dhBlk m c t) a (j 1) * (row (iblk m c 1 t) a (j 1) * Cert.Rms.rr (row (iblk m c 1 t) a))

/-- The gradient of the weights. -/
theorem dg (c : Dev nD) : (dats m 0 c).arrAt 8 cfg0.N
    = val_main_v39 (F := Ideal) (m ((c : Thread nD τ).loc main_arg1)) (m ((c : Thread nD τ).loc main_arg3))
        (m ((c : Thread nD τ).loc main_arg4)) := by
  refine (dats m 0 c).arrAt_eq_of_after_last 8 t0_7 (by decide +kernel) _ fun j => ?_
  blk_simp
  idx_vars j
  rw [after0_8, Pipeline.eq_sum_fin_of_reset_step_apply_last (fun n h => (outsAt0 m c n h).2.1) 8 (fun _ => 0) (dgPart m c)
    (fun t h j => by rw [outsAt0_A m c t h]; frame_out; idx_vars j; exact (pay3 (dhBlk m c t) _ _ _ _).trans (by rw [pay5]; rfl))
    (fun t h j => by rw [outsAt0_B m c t h]; frame_out; idx_vars j; exact (pay3 (dhBlk m c t) _ _ _ _).trans rfl)
    (le_of_eq N_0) t0_7 rfl _, zero_add]
  refine Eq.trans ?_ (Cert.MixRefIdeal.Pure.dg _ _ _ _ _).symm
  simp only [dgPart, dhBlk_row, blk1]
  exact Fin.sum_mul_add_congr (fun p a _ => rfl) (by rw [show cfg0.N = 8 from N_0])

end Cert.MixIdeal.Final
-- ==== Proof.MixClaim.lean ====
/-
  The claims about the norm before the token mixing, backward: the reference's frame and the value claim.
-/
module

public import proofs.«01_k».proof.Defs
public import proofs.«01_k».proof.Proof.MixValue
public import proofs.«01_k».proof.Proof.Gen.Mix.Frame
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.MixClaim

/-- The reference runs and leaves its arguments and its counters as they were. -/
theorem frame_ref : Cert.quiescent_MixRefIdeal := by
  intro m g _
  exact (θ_run Cert.MixRefIdeal.defs _ _).mono
    (fun r h => ⟨fun c => (h c).2.2.2, sem_eq_zero_of_no_sems (by decide) r.2⟩)
    (Cert.MixRefIdeal.Value.run (F := Ideal) m g)

/-- Kernel and reference end with equal input gradient, weight gradient and normalised rows. -/
theorem algebraic : Cert.algebraic_MixIdeal_MixRefIdeal := by
  pair_intro
  · run_from Cert.MixIdeal.Gen.run_main m g
  · run_from Cert.MixRefIdeal.Value.run m' g'
    · rw [Cert.MixRefIdeal.Read.val_main_v38_eq, (hagree c).1, (hagree c).2.1, (hagree c).2.2.1, (hagree c).2.2.2.1,
        (hagree c).2.2.2.2]
      exact (Cert.MixIdeal.Final.dx m c).symm
    · exact (Cert.MixIdeal.Final.dg m c).symm
    · exact (Cert.MixIdeal.Final.hb m c).symm

end Cert.MixClaim
-- ==== Proof.AttnIdealRun.lean ====
/-
  The attention gradient's kernel, run at one point of its grid.

  The body has three cases: the first block (which also clears the sinks' gradient and the carry), a middle block, and the
  point after the last block (which only writes the carried half of the keys' and values' gradient).
-/
module

public import proofs.«01_k».proof.Proof.Gen.AttnIdeal.Skeleton
public import proofs.«01_k».proof.Proof.Gen.AttnIdeal.Frame

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg1 : Memref sig .tc .smem S1x8 .f32) (harg1 : arg1.IsWhole)
  (arg2 : Memref sig .tc .vmem S2x512x256 .f32) (harg2 : arg2.IsWhole)
  (arg3 : Memref sig .tc .vmem S128x512 .bf16) (harg3 : arg3.IsWhole)
  (arg4 : Memref sig .tc .vmem S128x256 .bf16) (harg4 : arg4.IsWhole)
  (arg5 : Memref sig .tc .vmem S128x256 .bf16) (harg5 : arg5.IsWhole)
  (arg6 : Memref sig .tc .vmem S128x512 .bf16) (harg6 : arg6.IsWhole)
  (arg7 : Memref sig .tc .vmem S128x512 .bf16) (harg7 : arg7.IsWhole)
  (arg8 : Memref sig .tc .vmem S128x256 .bf16) (harg8 : arg8.IsWhole)
  (arg9 : Memref sig .tc .vmem S8x128 .f32) (harg9 : arg9.IsWhole)
  (arg10 : Memref sig .tc .vmem S128x256 .f32) (harg10 : arg10.IsWhole)

set_option maxHeartbeats 1000000 in
/-- The first point: the stores the body makes into the three results and the carry, in terms of the blocks it reads; and that
    it runs to the end having made them. -/
noncomputable def runA (h0 : k0_cond1 i = 1#1) (h1 : k0_cond2 i = 1#1) (h2 : ¬k0_cond3 i = 1#1)
    (x0 : Vec F S1x8 .f32) (x1 : Vec F S2x512x256 .f32) (x2 : Vec F S128x512 .bf16) (x3 : Vec F S128x256 .bf16) (x4 : Vec F S128x256 .bf16) (x5 : Vec F S128x512 .bf16) :
    Σ' (L6 : List (View.Piece (Elt F) S128x512 .bf16)) (L7 : List (View.Piece (Elt F) S128x256 .bf16))
      (L8 : List (View.Piece (Elt F) S8x128 .f32)), { LS : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
              ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_attn_bwd_eq_skeleton]; unfold cc0_attn_bwd_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%d8, %f8, -, H8⟩, ⟨%ds, %fs, -, HS⟩, Hk⟩
    obtain rfl := harg1.eq_unread e0; obtain rfl := harg2.eq_unread e1; obtain rfl := harg3.eq_unread e2; obtain rfl := harg4.eq_unread e3; obtain rfl := harg5.eq_unread e4; obtain rfl := harg6.eq_unread e5
    sl_exec (disch := first | sl_exact h0 | sl_exact h1 | sl_exact h2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact HS

set_option maxHeartbeats 1000000 in
/-- A middle point: as at the first, but the sinks' gradient and the carry are found at `xo` and `xs`, and added to. -/
noncomputable def runB (h0 : ¬k0_cond1 i = 1#1) (h1 : k0_cond2 i = 1#1) (h2 : ¬k0_cond3 i = 1#1)
    (x0 : Vec F S1x8 .f32) (x1 : Vec F S2x512x256 .f32) (x2 : Vec F S128x512 .bf16) (x3 : Vec F S128x256 .bf16) (x4 : Vec F S128x256 .bf16) (x5 : Vec F S128x512 .bf16) (xo : Vec F S8x128 .f32) (xs : Vec F S128x256 .f32) :
    Σ' (L6 : List (View.Piece (Elt F) S128x512 .bf16)) (L7 : List (View.Piece (Elt F) S128x256 .bf16))
      (L8 : List (View.Piece (Elt F) S8x128 .f32)), { LS : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ owns (c : Thread nD τ) arg9 fullShare xo ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
              ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f LS)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_attn_bwd_eq_skeleton]; unfold cc0_attn_bwd_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, ⟨%f8, %e8, H8⟩, ⟨%fs, %es, HS⟩, Hk⟩
    obtain rfl := harg1.eq_unread e0; obtain rfl := harg2.eq_unread e1; obtain rfl := harg3.eq_unread e2; obtain rfl := harg4.eq_unread e3; obtain rfl := harg5.eq_unread e4; obtain rfl := harg6.eq_unread e5; obtain rfl := harg9.eq_unread e8; obtain rfl := harg10.eq_unread es
    sl_exec (disch := first | sl_exact h0 | sl_exact h1 | sl_exact h2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    iexists _; iexact HS

/-- The point after the last block: the carry `xs` is written out; nothing else is touched. -/
noncomputable def runC (h0 : ¬k0_cond1 i = 1#1) (h1 : ¬k0_cond2 i = 1#1) (h2 : k0_cond3 i = 1#1) (xs : Vec F S128x256 .f32) :
    { L7 : List (View.Piece (Elt F) S128x256 .bf16) //
      ∀ (E : Set ℕ) (K : PUnit → sProp 𝕄),
        iprop((∃ d, owns (c : Thread nD τ) arg8 fullShare d) ∗ owns (c : Thread nD τ) arg10 fullShare xs
            ∗ (iprop((∃ f, arg8.view.loc (c : Thread nD τ) ↦[arg8.view.set]{fullShare} arg8.view.writes (Elt F) f L7) ∗ owns (c : Thread nD τ) arg10 fullShare xs) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10) K } := by
  refine ⟨?_, fun E K => ?run⟩
  case run =>
    simp only [cc0_attn_bwd_eq_skeleton]; unfold cc0_attn_bwd_skel
    unfold owns
    iintro ⟨⟨%d7, %f7, -, H7⟩, ⟨%fs, %es, HS⟩, Hk⟩
    obtain rfl := harg10.eq_unread es
    sl_exec (disch := first | sl_exact h0 | sl_exact h1 | sl_exact h2)
    sl_step
    iapply Hk
    isplitl [H7]; · iexists _; iexact H7
    iexists _; isplitr; · ipureintro; exact harg10.read_unread _
    iexact HS

/-- Those stores cover the whole of the queries' gradient. -/
theorem coverA_q (h0 : k0_cond1 i = 1#1) (h1 : k0_cond2 i = 1#1) (h2 : ¬k0_cond3 i = 1#1)
    (x0 : Vec F S1x8 .f32) (x1 : Vec F S2x512x256 .f32) (x2 : Vec F S128x512 .bf16) (x3 : Vec F S128x256 .bf16) (x4 : Vec F S128x256 .bf16) (x5 : Vec F S128x512 .bf16) (y : S128x512.Idx) :
    ∃ p ∈ (runA c i arg1 harg1 arg2 harg2 arg3 harg3 arg4 harg4 arg5 harg5 arg6 harg6 arg7 harg7 arg8 harg8 arg9 harg9 arg10 harg10 h0 h1 h2 x0 x1 x2 x3 x4 x5).1, y ∈ p.1.set :=
  View.cover_of_tiledL (runA c i arg1 harg1 arg2 harg2 arg3 harg3 arg4 harg4 arg5 harg5 arg6 harg6 arg7 harg7 arg8 harg8 arg9 harg9 arg10 harg10 h0 h1 h2 x0 x1 x2 x3 x4 x5).1 S128x64.size (by sl_kernel_rfl) y

/-- Those stores cover the whole of the keys' and values' gradient. -/
theorem coverA_kv (h0 : k0_cond1 i = 1#1) (h1 : k0_cond2 i = 1#1) (h2 : ¬k0_cond3 i = 1#1)
    (x0 : Vec F S1x8 .f32) (x1 : Vec F S2x512x256 .f32) (x2 : Vec F S128x512 .bf16) (x3 : Vec F S128x256 .bf16) (x4 : Vec F S128x256 .bf16) (x5 : Vec F S128x512 .bf16) (y : S128x256.Idx) :
    ∃ p ∈ (runA c i arg1 harg1 arg2 harg2 arg3 harg3 arg4 harg4 arg5 harg5 arg6 harg6 arg7 harg7 arg8 harg8 arg9 harg9 arg10 harg10 h0 h1 h2 x0 x1 x2 x3 x4 x5).2.1, y ∈ p.1.set :=
  View.cover_of_tiledL (runA c i arg1 harg1 arg2 harg2 arg3 harg3 arg4 harg4 arg5 harg5 arg6 harg6 arg7 harg7 arg8 harg8 arg9 harg9 arg10 harg10 h0 h1 h2 x0 x1 x2 x3 x4 x5).2.1 S128x64.size (by sl_kernel_rfl) y

/-- Those stores cover the whole of the sinks' gradient. -/
theorem coverA_sk (h0 : k0_cond1 i = 1#1) (h1 : k0_cond2 i = 1#1) (h2 : ¬k0_cond3 i = 1#1)
    (x0 : Vec F S1x8 .f32) (x1 : Vec F S2x512x256 .f32) (x2 : Vec F S128x512 .bf16) (x3 : Vec F S128x256 .bf16) (x4 : Vec F S128x256 .bf16) (x5 : Vec F S128x512 .bf16) (y : S8x128.Idx) :
    ∃ p ∈ (runA c i arg1 harg1 arg2 harg2 arg3 harg3 arg4 harg4 arg5 harg5 arg6 harg6 arg7 harg7 arg8 harg8 arg9 harg9 arg10 harg10 h0 h1 h2 x0 x1 x2 x3 x4 x5).2.2.1, y ∈ p.1.set :=
  View.cover_of_tiledL (runA c i arg1 harg1 arg2 harg2 arg3 harg3 arg4 harg4 arg5 harg5 arg6 harg6 arg7 harg7 arg8 harg8 arg9 harg9 arg10 harg10 h0 h1 h2 x0 x1 x2 x3 x4 x5).2.2.1 S1x128.size (by sl_kernel_rfl) y

/-- Those stores cover the whole of the carry. -/
theorem coverA_carry (h0 : k0_cond1 i = 1#1) (h1 : k0_cond2 i = 1#1) (h2 : ¬k0_cond3 i = 1#1)
    (x0 : Vec F S1x8 .f32) (x1 : Vec F S2x512x256 .f32) (x2 : Vec F S128x512 .bf16) (x3 : Vec F S128x256 .bf16) (x4 : Vec F S128x256 .bf16) (x5 : Vec F S128x512 .bf16) (y : S128x256.Idx) :
    ∃ p ∈ (runA c i arg1 harg1 arg2 harg2 arg3 harg3 arg4 harg4 arg5 harg5 arg6 harg6 arg7 harg7 arg8 harg8 arg9 harg9 arg10 harg10 h0 h1 h2 x0 x1 x2 x3 x4 x5).2.2.2.1, y ∈ p.1.set :=
  View.cover_of_tiledL (runA c i arg1 harg1 arg2 harg2 arg3 harg3 arg4 harg4 arg5 harg5 arg6 harg6 arg7 harg7 arg8 harg8 arg9 harg9 arg10 harg10 h0 h1 h2 x0 x1 x2 x3 x4 x5).2.2.2.1 S128x64.size (by sl_kernel_rfl) y

/-- Those stores cover the whole of the queries' gradient. -/
theorem coverB_q (h0 : ¬k0_cond1 i = 1#1) (h1 : k0_cond2 i = 1#1) (h2 : ¬k0_cond3 i = 1#1)
    (x0 : Vec F S1x8 .f32) (x1 : Vec F S2x512x256 .f32) (x2 : Vec F S128x512 .bf16) (x3 : Vec F S128x256 .bf16) (x4 : Vec F S128x256 .bf16) (x5 : Vec F S128x512 .bf16) (xo : Vec F S8x128 .f32) (xs : Vec F S128x256 .f32) (y : S128x512.Idx) :
    ∃ p ∈ (runB c i arg1 harg1 arg2 harg2 arg3 harg3 arg4 harg4 arg5 harg5 arg6 harg6 arg7 harg7 arg8 harg8 arg9 harg9 arg10 harg10 h0 h1 h2 x0 x1 x2 x3 x4 x5 xo xs).1, y ∈ p.1.set :=
  View.cover_of_tiledL (runB c i arg1 harg1 arg2 harg2 arg3 harg3 arg4 harg4 arg5 harg5 arg6 harg6 arg7 harg7 arg8 harg8 arg9 harg9 arg10 harg10 h0 h1 h2 x0 x1 x2 x3 x4 x5 xo xs).1 S128x64.size (by sl_kernel_rfl) y

/-- Those stores cover the whole of the keys' and values' gradient. -/
theorem coverB_kv (h0 : ¬k0_cond1 i = 1#1) (h1 : k0_cond2 i = 1#1) (h2 : ¬k0_cond3 i = 1#1)
    (x0 : Vec F S1x8 .f32) (x1 : Vec F S2x512x256 .f32) (x2 : Vec F S128x512 .bf16) (x3 : Vec F S128x256 .bf16) (x4 : Vec F S128x256 .bf16) (x5 : Vec F S128x512 .bf16) (xo : Vec F S8x128 .f32) (xs : Vec F S128x256 .f32) (y : S128x256.Idx) :
    ∃ p ∈ (runB c i arg1 harg1 arg2 harg2 arg3 harg3 arg4 harg4 arg5 harg5 arg6 harg6 arg7 harg7 arg8 harg8 arg9 harg9 arg10 harg10 h0 h1 h2 x0 x1 x2 x3 x4 x5 xo xs).2.1, y ∈ p.1.set :=
  View.cover_of_tiledL (runB c i arg1 harg1 arg2 harg2 arg3 harg3 arg4 harg4 arg5 harg5 arg6 harg6 arg7 harg7 arg8 harg8 arg9 harg9 arg10 harg10 h0 h1 h2 x0 x1 x2 x3 x4 x5 xo xs).2.1 S128x64.size (by sl_kernel_rfl) y

/-- Those stores cover the whole of the sinks' gradient. -/
theorem coverB_sk (h0 : ¬k0_cond1 i = 1#1) (h1 : k0_cond2 i = 1#1) (h2 : ¬k0_cond3 i = 1#1)
    (x0 : Vec F S1x8 .f32) (x1 : Vec F S2x512x256 .f32) (x2 : Vec F S128x512 .bf16) (x3 : Vec F S128x256 .bf16) (x4 : Vec F S128x256 .bf16) (x5 : Vec F S128x512 .bf16) (xo : Vec F S8x128 .f32) (xs : Vec F S128x256 .f32) (y : S8x128.Idx) :
    ∃ p ∈ (runB c i arg1 harg1 arg2 harg2 arg3 harg3 arg4 harg4 arg5 harg5 arg6 harg6 arg7 harg7 arg8 harg8 arg9 harg9 arg10 harg10 h0 h1 h2 x0 x1 x2 x3 x4 x5 xo xs).2.2.1, y ∈ p.1.set :=
  View.cover_of_tiledL (runB c i arg1 harg1 arg2 harg2 arg3 harg3 arg4 harg4 arg5 harg5 arg6 harg6 arg7 harg7 arg8 harg8 arg9 harg9 arg10 harg10 h0 h1 h2 x0 x1 x2 x3 x4 x5 xo xs).2.2.1 S1x128.size (by sl_kernel_rfl) y

/-- Those stores cover the whole of the carry. -/
theorem coverB_carry (h0 : ¬k0_cond1 i = 1#1) (h1 : k0_cond2 i = 1#1) (h2 : ¬k0_cond3 i = 1#1)
    (x0 : Vec F S1x8 .f32) (x1 : Vec F S2x512x256 .f32) (x2 : Vec F S128x512 .bf16) (x3 : Vec F S128x256 .bf16) (x4 : Vec F S128x256 .bf16) (x5 : Vec F S128x512 .bf16) (xo : Vec F S8x128 .f32) (xs : Vec F S128x256 .f32) (y : S128x256.Idx) :
    ∃ p ∈ (runB c i arg1 harg1 arg2 harg2 arg3 harg3 arg4 harg4 arg5 harg5 arg6 harg6 arg7 harg7 arg8 harg8 arg9 harg9 arg10 harg10 h0 h1 h2 x0 x1 x2 x3 x4 x5 xo xs).2.2.2.1, y ∈ p.1.set :=
  View.cover_of_tiledL (runB c i arg1 harg1 arg2 harg2 arg3 harg3 arg4 harg4 arg5 harg5 arg6 harg6 arg7 harg7 arg8 harg8 arg9 harg9 arg10 harg10 h0 h1 h2 x0 x1 x2 x3 x4 x5 xo xs).2.2.2.1 S128x64.size (by sl_kernel_rfl) y

/-- That store covers the whole block. -/
theorem coverC (h0 : ¬k0_cond1 i = 1#1) (h1 : ¬k0_cond2 i = 1#1) (h2 : k0_cond3 i = 1#1) (xs : Vec F S128x256 .f32) (y : S128x256.Idx) :
    ∃ p ∈ (runC c i arg1 harg1 arg2 harg2 arg3 harg3 arg4 harg4 arg5 harg5 arg6 harg6 arg7 harg7 arg8 harg8 arg9 harg9 arg10 harg10 h0 h1 h2 xs).1, y ∈ p.1.set :=
  View.cover_of_tiledL (runC c i arg1 harg1 arg2 harg2 arg3 harg3 arg4 harg4 arg5 harg5 arg6 harg6 arg7 harg7 arg8 harg8 arg9 harg9 arg10 harg10 h0 h1 h2 xs).1 S128x256.size (by sl_kernel_rfl) y

end Cert.AttnIdeal.Body

end
-- ==== Proof.AttnIdealFrame.lean ====
/-
  The attention gradient's kernel over its whole grid: what the three results and the carry hold after each point, the
  pipeline's proof data, and the launch.
-/
module

public import proofs.«01_k».proof.Proof.AttnIdealRun
public import proofs.«01_k».proof.Proof.Gen.AttnIdeal.Launch
public import proofs.«01_k».proof.Proof.Gen.AttnIdeal.Points
public import Idealize.ShloMosaic.Lib.Pipeline.FrameBody
public import Idealize.ShloMosaic.Lib.Pipeline.TableIdle
public import Idealize.ShloMosaic.Lib.Tactic
public import Idealize.ShloMosaic.Lib.Claim

@[expose] public section

set_option maxRecDepth 16384

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The cases, by the point's number -/

theorem isFirst : ∀ t : Fin cfg0.N, k0_cond1 (grid0.coords t) = 1#1 ↔ t.val = 0 :=
  (by decide +kernel : ∀ t : Fin grid0.N, k0_cond1 (grid0.coords t) = 1#1 ↔ t.val = 0)
theorem isBlock : ∀ t : Fin cfg0.N, k0_cond2 (grid0.coords t) = 1#1 ↔ t.val < 32 :=
  (by decide +kernel : ∀ t : Fin grid0.N, k0_cond2 (grid0.coords t) = 1#1 ↔ t.val < 32)
theorem isLast : ∀ t : Fin cfg0.N, k0_cond3 (grid0.coords t) = 1#1 ↔ t.val = 32 :=
  (by decide +kernel : ∀ t : Fin grid0.N, k0_cond3 (grid0.coords t) = 1#1 ↔ t.val = 32)

/-- The result windows the body stores into at the points of a block, and the one it stores into at the last point. -/
theorem live : ∀ t : Fin cfg0.N, t.val < 32 → cfg0.idle 6 (grid0.coords t) = false ∧ cfg0.idle 7 (grid0.coords t) = false ∧ cfg0.idle 8 (grid0.coords t) = false :=
  (by decide +kernel : ∀ t : Fin grid0.N, t.val < 32 → cfg0.idle 6 (grid0.coords t) = false ∧ cfg0.idle 7 (grid0.coords t) = false ∧ cfg0.idle 8 (grid0.coords t) = false)
theorem liveLast : ∀ t : Fin cfg0.N, cfg0.idle 7 (grid0.coords t) = false :=
  (by decide +kernel : ∀ t : Fin grid0.N, cfg0.idle 7 (grid0.coords t) = false)
theorem idleLast : ∀ t : Fin cfg0.N, ¬t.val < 32 → cfg0.idle 6 (grid0.coords t) = true ∧ cfg0.idle 8 (grid0.coords t) = true ∧ (cfg0.win 6).flush t = true ∧ (cfg0.win 8).flush t = true :=
  (by decide +kernel : ∀ t : Fin grid0.N, ¬t.val < 32 → cfg0.idle 6 (grid0.coords t) = true ∧ cfg0.idle 8 (grid0.coords t) = true ∧ (cfg0.win 6).flush t = true ∧ (cfg0.win 8).flush t = true)

/-- The sinks' gradient is never handed over before the last point. -/
theorem fresh8 : ∀ n : ℕ, n < 33 → cfg0.fresh 8 n = (n == 0) :=
  fun n h => Pipeline.Cfg.fresh_tab cfg0 8 (fun n => n == 0 || n == 33) rfl (by decide +kernel) n (by rw [show cfg0.N = 33 from N_0]; omega) |>.trans
    (by simp only [Bool.or_eq_left_iff_imp, beq_iff_eq]; omega)
/-- At the last point the block of the queries' gradient is still the one the point before filled. -/
theorem fresh6 : cfg0.fresh 6 32 = false :=
  Pipeline.Cfg.fresh_tab cfg0 6 (fun n => !(n == 32)) rfl (by decide +kernel) 32 (by rw [show cfg0.N = 33 from N_0]; omega)

/-! ## What the buffers hold after each point -/

abbrev hst0 (t : Fin cfg0.N) : (st0_0 t : Memref sig .tc .smem S1x8 .f32).IsWhole := hstage0_0 ((cfg0.slots t 0).cast nbuf0_0)
abbrev hst1 (t : Fin cfg0.N) : (st0_1 t : Memref sig .tc .vmem S2x512x256 .f32).IsWhole := hstage0_1 ((cfg0.slots t 1).cast nbuf0_1)
abbrev hst2 (t : Fin cfg0.N) : (st0_2 t : Memref sig .tc .vmem S128x512 .bf16).IsWhole := hstage0_2 ((cfg0.slots t 2).cast nbuf0_2)
abbrev hst3 (t : Fin cfg0.N) : (st0_3 t : Memref sig .tc .vmem S128x256 .bf16).IsWhole := hstage0_3 ((cfg0.slots t 3).cast nbuf0_3)
abbrev hst4 (t : Fin cfg0.N) : (st0_4 t : Memref sig .tc .vmem S128x256 .bf16).IsWhole := hstage0_4 ((cfg0.slots t 4).cast nbuf0_4)
abbrev hst5 (t : Fin cfg0.N) : (st0_5 t : Memref sig .tc .vmem S128x512 .bf16).IsWhole := hstage0_5 ((cfg0.slots t 5).cast nbuf0_5)
abbrev hst6 (t : Fin cfg0.N) : (st0_6 t : Memref sig .tc .vmem S128x512 .bf16).IsWhole := hstage0_6 ((cfg0.slots t 6).cast nbuf0_6)
abbrev hst7 (t : Fin cfg0.N) : (st0_7 t : Memref sig .tc .vmem S128x256 .bf16).IsWhole := hstage0_7 ((cfg0.slots t 7).cast nbuf0_7)
abbrev hst8 (t : Fin cfg0.N) : (st0_8 t : Memref sig .tc .vmem S8x128 .f32).IsWhole := hstage0_8 ((cfg0.slots t 8).cast nbuf0_8)
/-- The scratch buffer that carries half of a block's keys' and values' gradient to the next point. -/
abbrev carryRef : Memref sig .tc .vmem S128x256 .f32 := Memref.whole cc0_scratch0

/-- The result windows' buffers and the carry. -/
abbrev Out (F : FTy → Type) [FloatOps F] : Type := Vec F S128x512 .bf16 × Vec F S128x256 .bf16 × Vec F S8x128 .f32 × Vec F S128x256 .f32

variable (c : Dev nD) (t : Fin cfg0.N)

def runFirst (h : t.val = 0) := runA (F := F) c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) carryRef (Memref.isWhole_whole _)
  ((isFirst t).mpr h) ((isBlock t).mpr (by omega)) (fun k => by have := (isLast t).mp k; omega) (iblk m c 0 t) (iblk m c 1 t) (X0_2 m c t) (iblk m c 3 t) (iblk m c 4 t) (iblk m c 5 t)
def runBlock (h : t.val ≠ 0) (h' : t.val < 32) (xo : Vec F S8x128 .f32) (xs : Vec F S128x256 .f32) := runB (F := F) c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) carryRef (Memref.isWhole_whole _)
  (fun k => h ((isFirst t).mp k)) ((isBlock t).mpr h') (fun k => by have := (isLast t).mp k; omega) (iblk m c 0 t) (iblk m c 1 t) (X0_2 m c t) (iblk m c 3 t) (iblk m c 4 t) (iblk m c 5 t) xo xs
def runLast (h : t.val = 32) (xs : Vec F S128x256 .f32) := runC (F := F) c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) carryRef (Memref.isWhole_whole _)
  (fun k => by have := (isFirst t).mp k; omega) (fun k => by have := (isBlock t).mp k; omega) ((isLast t).mpr h) xs

/-- The views the contents are stated through. -/
abbrev V6 : View sig .tc .vmem S128x512 .bf16 := (Memref.whole cc0_stg6_0 : Memref sig .tc .vmem S128x512 .bf16).view
abbrev V7 : View sig .tc .vmem S128x256 .bf16 := (Memref.whole cc0_stg7_0 : Memref sig .tc .vmem S128x256 .bf16).view
abbrev V8 : View sig .tc .vmem S8x128 .f32 := (Memref.whole cc0_stg8_0 : Memref sig .tc .vmem S8x128 .f32).view

def first6 (h : t.val = 0) : Vec F S128x512 .bf16 := V6.read (Elt F) (V6.writes (Elt F) V6.junk (runFirst m c t h).1)
def first7 (h : t.val = 0) : Vec F S128x256 .bf16 := V7.read (Elt F) (V7.writes (Elt F) V7.junk (runFirst m c t h).2.1)
def first8 (h : t.val = 0) : Vec F S8x128 .f32 := V8.read (Elt F) (V8.writes (Elt F) V8.junk (runFirst m c t h).2.2.1)
def firstS (h : t.val = 0) : Vec F S128x256 .f32 := carryRef.view.read (Elt F) (carryRef.view.writes (Elt F) carryRef.view.junk (runFirst m c t h).2.2.2.1)
def block6 (h : t.val ≠ 0) (h' : t.val < 32) (xo : Vec F S8x128 .f32) (xs : Vec F S128x256 .f32) : Vec F S128x512 .bf16 :=
  V6.read (Elt F) (V6.writes (Elt F) V6.junk (runBlock m c t h h' xo xs).1)
def block7 (h : t.val ≠ 0) (h' : t.val < 32) (xo : Vec F S8x128 .f32) (xs : Vec F S128x256 .f32) : Vec F S128x256 .bf16 :=
  V7.read (Elt F) (V7.writes (Elt F) V7.junk (runBlock m c t h h' xo xs).2.1)
def block8 (h : t.val ≠ 0) (h' : t.val < 32) (xo : Vec F S8x128 .f32) (xs : Vec F S128x256 .f32) : Vec F S8x128 .f32 :=
  V8.read (Elt F) (V8.writes (Elt F) V8.junk (runBlock m c t h h' xo xs).2.2.1)
def blockS (h : t.val ≠ 0) (h' : t.val < 32) (xo : Vec F S8x128 .f32) (xs : Vec F S128x256 .f32) : Vec F S128x256 .f32 :=
  carryRef.view.read (Elt F) (carryRef.view.writes (Elt F) carryRef.view.junk (runBlock m c t h h' xo xs).2.2.2.1)
def last7 (h : t.val = 32) (xs : Vec F S128x256 .f32) : Vec F S128x256 .bf16 := V7.read (Elt F) (V7.writes (Elt F) V7.junk (runLast c t h xs).1)

/-- The contents after point `n`: the first point's, a middle point's over those before it, or, at the last point, the queries'
    and the sinks' gradient as they were and the carry written out. -/
def outsAt : (n : ℕ) → n < cfg0.N → Out F
  | 0, hn => (first6 m c ⟨0, hn⟩ rfl, first7 m c ⟨0, hn⟩ rfl, first8 m c ⟨0, hn⟩ rfl, firstS m c ⟨0, hn⟩ rfl)
  | n + 1, hn =>
    let p := outsAt n (Nat.lt_of_succ_lt hn)
    if h : n + 1 < 32 then
      (block6 m c ⟨n + 1, hn⟩ (Nat.succ_ne_zero n) h p.2.2.1 p.2.2.2, block7 m c ⟨n + 1, hn⟩ (Nat.succ_ne_zero n) h p.2.2.1 p.2.2.2,
        block8 m c ⟨n + 1, hn⟩ (Nat.succ_ne_zero n) h p.2.2.1 p.2.2.2, blockS m c ⟨n + 1, hn⟩ (Nat.succ_ne_zero n) h p.2.2.1 p.2.2.2)
    else
      (p.1, last7 c ⟨n + 1, hn⟩ (by have : n + 1 < 33 := lt_of_lt_of_eq hn (show cfg0.N = 33 from N_0); show n + 1 = 32; omega) p.2.2.2, p.2.2.1, p.2.2.2)

/-- What the point before left. -/
abbrev prev : Out F := outsAt m c (t.val - 1) (Nat.lt_of_le_of_lt (Nat.sub_le _ _) t.isLt)

theorem outsAt_first (h : t.val = 0) : outsAt m c t.val t.isLt = (first6 m c t h, first7 m c t h, first8 m c t h, firstS m c t h) := by
  obtain ⟨n, hn⟩ := t
  cases n with
  | zero => rfl
  | succ n => exact absurd h (Nat.succ_ne_zero n)
theorem outsAt_block (h : t.val ≠ 0) (h' : t.val < 32) : outsAt m c t.val t.isLt
    = (block6 m c t h h' (prev m c t).2.2.1 (prev m c t).2.2.2, block7 m c t h h' (prev m c t).2.2.1 (prev m c t).2.2.2,
        block8 m c t h h' (prev m c t).2.2.1 (prev m c t).2.2.2, blockS m c t h h' (prev m c t).2.2.1 (prev m c t).2.2.2) := by
  obtain ⟨n, hn⟩ := t
  cases n with
  | zero => exact absurd rfl h
  | succ n => exact dif_pos h'
theorem outsAt_last (h : t.val = 32) : outsAt m c t.val t.isLt
    = ((prev m c t).1, last7 c t h (prev m c t).2.2.2, (prev m c t).2.2.1, (prev m c t).2.2.2) := by
  obtain ⟨n, hn⟩ := t
  cases n with
  | zero => simp at h
  | succ n => exact dif_neg (by simp only at h; omega)

/-! ## The pipeline's proof data -/

/-- What the points hand one another besides the windows: the carry. -/
def Inv : (n : ℕ) → n ≤ cfg0.N → sProp 𝕄
  | 0, _ => Pipeline.ΦA spec0 c
  | n + 1, h => iprop(owns (c : Thread nD τ) carryRef fullShare (outsAt m c n h).2.2.2 ∗ (∃ r, prngReg c r))

theorem launchInv_eq : (Pipeline.ΦA spec0 c : sProp 𝕄)
    = iprop((∃ d, owns (c : Thread nD τ) carryRef fullShare d) ∗ (∃ r, prngReg c r)) := by
  unfold Pipeline.ΦA; rw [scopedRest0_eq]; simp only [carryRef, owns_whole]; rfl

theorem Inv_pos (n : ℕ) (h : n ≤ cfg0.N) (hz : n ≠ 0) :
    Inv m c n h = iprop(owns (c : Thread nD τ) carryRef fullShare (outsAt m c (n - 1) (by omega)).2.2.2 ∗ (∃ r, prngReg c r)) := by
  cases n with
  | zero => exact absurd rfl hz
  | succ n => rfl

/-- Every input's block is left as it was found, and the results' buffers and the carry hold `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => (outsAt m c t.val t.isLt).1
    | ⟨7, _⟩ => (outsAt m c t.val t.isLt).2.1
    | ⟨8, _⟩ => (outsAt m c t.val t.isLt).2.2.1
  Φ t := Inv m c t.val (Nat.le_of_lt_succ t.isLt)
  q w := Pipeline.shareOf spec0 w
  owed _ := 0

theorem A_eq (w : Fin cfg0.W) : (dats m 0 c).A w = V m c (Pipeline.arrRef spec0 w) := by dsimp only [dats]

theorem after0 : (dats m 0 c).after 0 t = iblk m c 0 t := by dsimp only [dats]
theorem after1 : (dats m 0 c).after 1 t = iblk m c 1 t := by dsimp only [dats]
theorem after2 : (dats m 0 c).after 2 t = X0_2 m c t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = (outsAt m c t.val t.isLt).1 := by dsimp only [dats]
theorem after7 : (dats m 0 c).after 7 t = (outsAt m c t.val t.isLt).2.1 := by dsimp only [dats]
theorem after8 : (dats m 0 c).after 8 t = (outsAt m c t.val t.isLt).2.2.1 := by dsimp only [dats]
theorem before0 (d) : (dats m 0 c).before 0 t d = iblk m c 0 t := before0_0_of m (dats m 0 c) (A_eq m c 0) (fun t => after0 m c t) t d
theorem before1 (d) : (dats m 0 c).before 1 t d = iblk m c 1 t := before0_1_of m (dats m 0 c) (A_eq m c 1) (fun t => after1 m c t) t d
theorem before2 (d) : (dats m 0 c).before 2 t d = X0_2 m c t := before0_2_of m (dats m 0 c) (A_eq m c 2) (fun t => after2 m c t) t d
theorem before3 (d) : (dats m 0 c).before 3 t d = iblk m c 3 t := before0_3_of m (dats m 0 c) (A_eq m c 3) (fun t => after3 m c t) t d
theorem before4 (d) : (dats m 0 c).before 4 t d = iblk m c 4 t := before0_4_of m (dats m 0 c) (A_eq m c 4) (fun t => after4 m c t) t d
theorem before5 (d) : (dats m 0 c).before 5 t d = iblk m c 5 t := before0_5_of m (dats m 0 c) (A_eq m c 5) (fun t => after5 m c t) t d

/-- The sinks' gradient at a later point is found as the point before left it. -/
theorem before8 (h : t.val ≠ 0) (d) : (dats m 0 c).before 8 t d = (prev m c t).2.2.1 := by
  have hN : t.val < 33 := lt_of_lt_of_eq t.isLt (show cfg0.N = 33 from N_0)
  rw [Dat.before_out_traj _ 8 rfl (fun _ _ => rfl) (fun t h hi _ => ?_) t.val t rfl d,
    if_neg (by rw [fresh8 t.val hN]; simp [h]), after8]
  have hN : t.val < 33 := lt_of_lt_of_eq t.isLt (show cfg0.N = 33 from N_0)
  by_cases h' : t.val < 32
  · rw [(live t h').2.2] at hi; exact absurd hi Bool.false_ne_true
  · rw [after8, after8, outsAt_last m c t (by omega)]

/-- The queries' gradient at the last point is found as the point before left it. -/
theorem before6 (h : t.val = 32) (d) : (dats m 0 c).before 6 t d = (prev m c t).1 := by
  rw [Dat.before_out_traj _ 6 rfl (fun _ _ => rfl) (fun t h hi _ => ?_) t.val t rfl d,
    if_neg (by rw [h, fresh6]; exact Bool.false_ne_true), after6]
  have hN : t.val < 33 := lt_of_lt_of_eq t.isLt (show cfg0.N = 33 from N_0)
  by_cases h' : t.val < 32
  · rw [(live t h').1] at hi; exact absurd hi Bool.false_ne_true
  · rw [after6, after6, outsAt_last m c t (by omega)]

/-! ## The body at any point -/

/-- What the body is handed at point `t`, the windows one by one, -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it hands back. -/
def bodyPost : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- A window the body is live in is left at its stated contents. -/
theorem leaves_live (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]
/-- So is one it is idle in, where the block is written back. -/
theorem leaves_flush (w : Fin cfg0.W) (h : cfg0.idle w (grid0.coords t) = true) (h' : (cfg0.win w).flush t = true) :
    (dats m 0 c).leavesExact w t = owns (c : Thread nD τ) ((cfg0.win w).stage (cfg0.slots t w)) fullShare ((dats m 0 c).after w t) := by
  unfold Dat.leavesExact; rw [h, h']

set_option maxHeartbeats 4000000 in
/-- The body keeps the proof data at every point: by its three cases. -/
theorem sound_body :
    bodyPre m c t ⊢ wp frame (wpE (defs₀ (F := F)) Variants.none c none) Set.univ (bodyAt0 t) (fun _ => bodyPost m c t) := by
  have hN : t.val < 33 := lt_of_lt_of_eq t.isLt (show cfg0.N = 33 from N_0)
  have ho : (dats m 0 c).owesAt () t.succ = (dats m 0 c).owesAt () t.castSucc := rfl
  have hs : (dats m 0 c).Φ t.succ = iprop(owns (c : Thread nD τ) carryRef fullShare (outsAt m c t.val t.isLt).2.2.2 ∗ (∃ r, prngReg c r)) := rfl
  have hp : (dats m 0 c).Φ t.castSucc = Inv m c t.val (Nat.le_of_lt t.isLt) := by
    dsimp only [dats]; exact Pipeline.Dat.Φ_castSucc (Inv m c) t
  have l0 := leaves_live m c t 0 rfl
  have l1 := leaves_live m c t 1 rfl
  have l2 := leaves_live m c t 2 rfl
  have l3 := leaves_live m c t 3 rfl
  have l4 := leaves_live m c t 4 rfl
  have l5 := leaves_live m c t 5 rfl
  have l7 := leaves_live m c t 7 (liveLast t)
  have l6 : (dats m 0 c).leavesExact 6 t = owns (c : Thread nD τ) (st0_6 t) fullShare ((dats m 0 c).after 6 t) := by
    by_cases h : t.val < 32
    · exact leaves_live m c t 6 (live t h).1
    · exact leaves_flush m c t 6 (idleLast t h).1 (idleLast t h).2.2.1
  have l8 : (dats m 0 c).leavesExact 8 t = owns (c : Thread nD τ) (st0_8 t) fullShare ((dats m 0 c).after 8 t) := by
    by_cases h : t.val < 32
    · exact leaves_live m c t 8 (live t h).2.2
    · exact leaves_flush m c t 8 (idleLast t h).2.1 (idleLast t h).2.2.2
  unfold bodyPre bodyPost bodyAt0
  simp only [before0, before1, before2, before3, before4, before5]
  rw [l0, l1, l2, l3, l4, l5, l6, l7, l8, ho, hs, hp, after0, after1, after2, after3, after4, after5, after6, after7, after8]
  by_cases h0 : t.val = 0
  · rw [show Inv m c t.val (Nat.le_of_lt t.isLt) = Pipeline.ΦA spec0 c from by simp only [h0]; rfl, launchInv_eq, outsAt_first m c t h0]
    dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runFirst m c t h0).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS]; · iexact HS
    iintro ⟨H0, H1, H2, H3, H4, H5, ⟨%e6, H6⟩, ⟨%e7, H7⟩, ⟨%e8, H8⟩, ⟨%es, HS⟩⟩
    isplitl [HS Hg]
    · isplitl [HS]
      · unfold owns; iexists _; isplitr
        swap; · iexact HS
        ipureintro; exact View.read_writes_of_cover _ _ _ _ _ (fun _ => coverA_carry ..)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (fun _ => coverA_q ..)
    isplitl [H7]
    · unfold owns; iexists _; isplitr
      swap; · iexact H7
      ipureintro; exact View.read_writes_of_cover _ _ _ _ _ (fun _ => coverA_kv ..)
    unfold owns; iexists _; isplitr
    swap; · iexact H8
    ipureintro; exact View.read_writes_of_cover _ _ _ _ _ (fun _ => coverA_sk ..)
  · simp only [before8 m c t h0]
    rw [Inv_pos m c _ _ h0]
    by_cases h' : t.val < 32
    · rw [outsAt_block m c t h0 h']
      dsimp only
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runBlock m c t h0 h' (prev m c t).2.2.1 (prev m c t).2.2.2).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexact H8
      isplitl [HS]; · iexact HS
      iintro ⟨H0, H1, H2, H3, H4, H5, ⟨%e6, H6⟩, ⟨%e7, H7⟩, ⟨%e8, H8⟩, ⟨%es, HS⟩⟩
      isplitl [HS Hg]
      · isplitl [HS]
        · unfold owns; iexists _; isplitr
          swap; · iexact HS
          ipureintro; exact View.read_writes_of_cover _ _ _ _ _ (fun _ => coverB_carry ..)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (fun _ => coverB_q ..)
      isplitl [H7]
      · unfold owns; iexists _; isplitr
        swap; · iexact H7
        ipureintro; exact View.read_writes_of_cover _ _ _ _ _ (fun _ => coverB_kv ..)
      unfold owns; iexists _; isplitr
      swap; · iexact H8
      ipureintro; exact View.read_writes_of_cover _ _ _ _ _ (fun _ => coverB_sk ..)
    · have h2 : t.val = 32 := by omega
      simp only [before6 m c t h2]
      rw [outsAt_last m c t h2]
      dsimp only
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runLast c t h2 (prev m c t).2.2.2).2 Set.univ _)
      isplitl [H7]; · iexists _; iexact H7
      isplitl [HS]; · iexact HS
      iintro ⟨⟨%e7, H7⟩, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (fun _ => coverC ..)
      iexact H8

/-! ## The launch -/

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Inv m c (Fin.last cfg0.N).val (Nat.le_refl _) from rfl,
    Inv_pos m c _ _ (by rw [Fin.val_last]; have : cfg0.N = 33 := N_0; omega), launchInv_eq]
  iintro ⟨HS, Hg⟩
  isplitl [HS]
  · iexists _; iexact HS
  iexact Hg

set_option backward.isDefEq.respectTransparency.types false in
/-- Every execution of the program ends, with every window's array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every execution ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.AttnIdeal.Body

end
-- ==== Proof.AttnRow.lean ====
/-
  One row of a softmax with a sink, backward, over finite numbers: the gradient as the kernel writes it and the gradient
  as the chain rule through the row's maximum, the exponentials and their quotient gives it are one real number each.
-/
module

public import Idealize.ShloMosaic.PureOps.Ideal
public import Idealize.ShloMosaic.Lib.Pipeline.ValueKit

@[expose] public section

noncomputable section

open Idealize.ShloMosaic

namespace Cert.AttnRow

/-- The word `0xFF800000` is minus infinity. -/
theorem cbot : Ideal.ofBits .f32 4286578688#32 = (⊥ : EReal) := by
  simp [Ideal.ofBits, Ideal.ieee]

/-- The word `0x3E000000` is one eighth. -/
theorem ceighth : Ideal.ofBits .f32 1040187392#32 = ((1 / 8 : ℝ) : EReal) := by
  simp [Ideal.ofBits, Ideal.ieee]; rw [← EReal.coe_mul]; norm_num

/-- The word `0x3F000000` is one half. -/
theorem chalf : Ideal.ofBits .f32 1056964608#32 = ((1 / 2 : ℝ) : EReal) := by
  simp [Ideal.ofBits, Ideal.ieee]; rw [← EReal.coe_mul]; norm_num

/-- A sum of reals is a real. -/
theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The largest entry of a row. -/
def top (f : Fin 256 → EReal) : EReal := Finset.univ.fold max (⊥ : EReal) f

/-- A row's entries and the sink: what every exponent is taken relative to. -/
def mx (f : Fin 256 → EReal) (a : EReal) : EReal := max (top f) a

/-- An exponential of the row. -/
def pe (f : Fin 256 → EReal) (a : EReal) (s : Fin 256) : EReal := Ideal.exp (f s - mx f a)

/-- The sink's exponential. -/
def es (f : Fin 256 → EReal) (a : EReal) : EReal := Ideal.exp (a - mx f a)

/-- The sum of the exponentials. -/
def den (f : Fin 256 → EReal) (a : EReal) : EReal := ∑ x, pe f a x + es f a

/-! ## The kernel's row -/

/-- The probability of an entry. -/
def kP (f : Fin 256 → EReal) (a : EReal) (s : Fin 256) : EReal := pe f a s * Ideal.div 1 (den f a)

/-- The gradient of a score. -/
def kDs (f : Fin 256 → EReal) (a : EReal) (dp : Fin 256 → EReal) (s : Fin 256) : EReal :=
  kP f a s * (dp s - ∑ x, kP f a x * dp x)

/-- A row's part of the sink's gradient. -/
def kSink (f : Fin 256 → EReal) (a : EReal) (dp : Fin 256 → EReal) : EReal :=
  (0 - es f a * Ideal.div 1 (den f a)) * ∑ x, kP f a x * dp x

/-! ## The reference's row -/

/-- The probability of an entry. -/
def rP (f : Fin 256 → EReal) (a : EReal) (s : Fin 256) : EReal := Ideal.div (pe f a s) (den f a)

/-- The cotangent of the sum of the exponentials. -/
def rDen (f : Fin 256 → EReal) (a : EReal) (dp : Fin 256 → EReal) : EReal :=
  -∑ x, dp x * Ideal.div 1 (den f a * den f a) * pe f a x

/-- The cotangent of an exponent. -/
def rE (f : Fin 256 → EReal) (a : EReal) (dp : Fin 256 → EReal) (s : Fin 256) : EReal :=
  (Ideal.div (dp s) (den f a) + rDen f a dp) * pe f a s

/-- The cotangent of the sink's exponent. -/
def rS (f : Fin 256 → EReal) (a : EReal) (dp : Fin 256 → EReal) : EReal := rDen f a dp * es f a

/-- The cotangent of the maximum. -/
def rM (f : Fin 256 → EReal) (a : EReal) (dp : Fin 256 → EReal) : EReal := -rS f a dp + ∑ x, -rE f a dp x

/-- The number of entries at which the maximum is attained. -/
def hits (f : Fin 256 → EReal) : EReal := ∑ x, if f x = top f then (1 : EReal) else 0

/-- The cotangent of a score, the maximum's share `w` of the row spread over the entries that attain it. -/
def rDs (f : Fin 256 → EReal) (a : EReal) (dp : Fin 256 → EReal) (w : EReal) (s : Fin 256) : EReal :=
  rE f a dp s + Ideal.div (rM f a dp * w) (hits f) * if f s = top f then 1 else 0

/-! ## Both over finite numbers -/

section Finite

variable {V : Fin 256 → Prop} [DecidablePred V] (σ dl : Fin 256 → ℝ) (α : ℝ)

/-- A row of real scores, minus infinity where it is masked. -/
def masked (V : Fin 256 → Prop) [DecidablePred V] (σ : Fin 256 → ℝ) (s : Fin 256) : EReal := if V s then (σ s : EReal) else ⊥

theorem masked_ne_top (s : Fin 256) : masked V σ s ≠ ⊤ := by
  unfold masked; split
  · exact EReal.coe_ne_top _
  · exact bot_ne_top

theorem top_ne_top : top (masked V σ) ≠ ⊤ := by
  unfold top
  refine (Finset.fold_max_lt (c := ⊤)).2 ⟨bot_lt_top, fun s _ => lt_top_iff_ne_top.2 (masked_ne_top σ s)⟩ |>.ne

/-- The maximum is a real number. -/
theorem mx_real : ∃ μ : ℝ, mx (masked V σ) (α : EReal) = (μ : EReal) := by
  have h : mx (masked V σ) (α : EReal) ≠ ⊤ := (max_lt (lt_top_iff_ne_top.2 (top_ne_top σ)) (EReal.coe_lt_top α)).ne
  have h' : mx (masked V σ) (α : EReal) ≠ ⊥ := (lt_of_lt_of_le (EReal.bot_lt_coe α) (le_max_right _ _)).ne'
  exact ⟨_, (EReal.coe_toReal h h').symm⟩

/-- Some entry attains the maximum. -/
theorem hit : ∃ s, masked V σ s = top (masked V σ) := by
  unfold top
  have h : (Finset.univ : Finset (Fin 256)).fold max (⊥ : EReal) (masked V σ) = ⊥ ∨ ∃ x ∈ (Finset.univ : Finset (Fin 256)), (Finset.univ : Finset (Fin 256)).fold max (⊥ : EReal) (masked V σ) ≤ masked V σ x := by
    by_cases hb : (Finset.univ : Finset (Fin 256)).fold max (⊥ : EReal) (masked V σ) = ⊥
    · exact .inl hb
    · rcases (Finset.le_fold_max (c := (Finset.univ : Finset (Fin 256)).fold max (⊥ : EReal) (masked V σ))).1 le_rfl with h | h
      · exact absurd (le_bot_iff.1 h) hb
      · exact .inr h
  rcases h with h | ⟨x, _, h⟩
  · refine ⟨0, le_antisymm ?_ (by rw [h]; exact bot_le)⟩
    exact (Finset.le_fold_max _).2 (.inr ⟨0, Finset.mem_univ _, le_rfl⟩)
  · exact ⟨x, le_antisymm ((Finset.le_fold_max _).2 (.inr ⟨x, Finset.mem_univ _, le_rfl⟩)) h⟩

theorem hits_ne : ∃ c : ℝ, c ≠ 0 ∧ hits (masked V σ) = (c : EReal) := by
  obtain ⟨s, hs⟩ := hit (V := V) σ
  refine ⟨∑ x, if masked V σ x = top (masked V σ) then (1 : ℝ) else 0, ?_, ?_⟩
  · refine (Finset.sum_pos' (fun x _ => by split <;> norm_num) ⟨s, Finset.mem_univ _, ?_⟩).ne'
    rw [if_pos hs]; norm_num
  · rw [← coe_sum]
    exact Finset.sum_congr rfl fun x _ => by split <;> simp

/-- What a row comes down to: real exponentials `E`, a sink's `e`, and their positive sum `D`. -/
structure Real' (f : Fin 256 → EReal) (a : EReal) (V : Fin 256 → Prop) (E : Fin 256 → ℝ) (e D : ℝ) : Prop where
  pe : ∀ s, pe f a s = (E s : EReal)
  es : es f a = (e : EReal)
  den : den f a = (D : EReal)
  sum : D = ∑ s, E s + e
  pos : 0 < D
  zero : ∀ s, ¬V s → E s = 0

theorem real_row : ∃ E e D, Real' (masked V σ) (α : EReal) V E e D := by
  obtain ⟨μ, hμ⟩ := mx_real (V := V) σ α
  have hp : ∀ s, pe (masked V σ) (α : EReal) s = ((if V s then Real.exp (σ s - μ) else 0 : ℝ) : EReal) := fun s => by
    unfold pe; rw [hμ]; unfold masked; split
    · rw [← EReal.coe_sub, Ideal.exp_coe]
    · rw [EReal.bot_sub, Ideal.exp_bot]; rfl
  have he : es (masked V σ) (α : EReal) = ((Real.exp (α - μ) : ℝ) : EReal) := by
    unfold es; rw [hμ, ← EReal.coe_sub, Ideal.exp_coe]
  refine ⟨_, _, _, hp, he, ?_, rfl, ?_, fun s h => if_neg h⟩
  · unfold den; rw [he, Finset.sum_congr rfl fun s _ => hp s, coe_sum, ← EReal.coe_add]
  · exact add_pos_of_nonneg_of_pos (Finset.sum_nonneg fun s _ => by split; exacts [(Real.exp_pos _).le, le_rfl]) (Real.exp_pos _)

variable {f : Fin 256 → EReal} {a : EReal} {E : Fin 256 → ℝ} {e D : ℝ} (H : Real' f a V E e D)

/-- The probability, the score's gradient and the sink's, as reals. -/
def P (E : Fin 256 → ℝ) (D : ℝ) (s : Fin 256) : ℝ := E s * (1 / D)
def Ds (E : Fin 256 → ℝ) (D : ℝ) (dl : Fin 256 → ℝ) (s : Fin 256) : ℝ := P E D s * (dl s - ∑ x, P E D x * dl x)
def Sk (E : Fin 256 → ℝ) (e D : ℝ) (dl : Fin 256 → ℝ) : ℝ := -(e * (1 / D)) * ∑ x, P E D x * dl x

include H

theorem kP_eq (s : Fin 256) : kP f a s = (P E D s : EReal) := by
  unfold kP P; rw [H.pe, H.den, Ideal.div_coe H.pos.ne', one_mul, ← EReal.coe_mul]

theorem kSum_eq : ∑ x, kP f a x * (dl x : EReal) = ((∑ x, P E D x * dl x : ℝ) : EReal) := by
  rw [← coe_sum]; exact Finset.sum_congr rfl fun x _ => by rw [kP_eq H, ← EReal.coe_mul]

theorem kDs_eq (s : Fin 256) : kDs f a (fun x => (dl x : EReal)) s = (Ds E D dl s : EReal) := by
  unfold kDs Ds; rw [kSum_eq dl H, kP_eq H, ← EReal.coe_sub, ← EReal.coe_mul]

theorem kSink_eq : kSink f a (fun x => (dl x : EReal)) = (Sk E e D dl : EReal) := by
  unfold kSink Sk; rw [kSum_eq dl H, H.es, H.den, Ideal.div_coe H.pos.ne', one_mul, zero_sub, ← EReal.coe_mul, ← EReal.coe_neg, ← EReal.coe_mul]

theorem rP_eq (s : Fin 256) : rP f a s = (P E D s : EReal) := by
  unfold rP P; rw [H.pe, H.den, Ideal.div_coe H.pos.ne', ← EReal.coe_mul]

theorem rDen_eq : rDen f a (fun x => (dl x : EReal)) = ((-((1 / D) * ∑ x, P E D x * dl x) : ℝ) : EReal) := by
  unfold rDen
  rw [EReal.coe_neg, Finset.mul_sum, ← coe_sum]
  refine congrArg Neg.neg (Finset.sum_congr rfl fun x _ => ?_)
  rw [H.pe, H.den, ← EReal.coe_mul, Ideal.div_coe (mul_pos H.pos H.pos).ne', one_mul, ← EReal.coe_mul, ← EReal.coe_mul]
  congr 1; unfold P; field_simp [H.pos.ne']

theorem rE_eq (s : Fin 256) : rE f a (fun x => (dl x : EReal)) s = (Ds E D dl s : EReal) := by
  unfold rE
  rw [rDen_eq dl H, H.den, H.pe, Ideal.div_coe H.pos.ne', ← EReal.coe_mul, ← EReal.coe_add, ← EReal.coe_mul]
  congr 1; unfold Ds P; ring

theorem rS_eq : rS f a (fun x => (dl x : EReal)) = (Sk E e D dl : EReal) := by
  unfold rS
  rw [rDen_eq dl H, H.es, ← EReal.coe_mul]
  congr 1; unfold Sk; ring

/-- The maximum has no gradient: shifting every exponent leaves the probabilities as they are. -/
theorem rM_eq : rM f a (fun x => (dl x : EReal)) = 0 := by
  unfold rM
  rw [rS_eq dl H, Finset.sum_congr rfl fun x _ => by rw [rE_eq dl H x, ← EReal.coe_neg], coe_sum, ← EReal.coe_neg, ← EReal.coe_add, ← EReal.coe_zero]
  congr 1
  have hD := H.pos.ne'
  have hE : ∑ x, P E D x = 1 - e * (1 / D) := by
    unfold P; rw [← Finset.sum_mul, eq_sub_iff_add_eq, ← add_mul, ← H.sum]; field_simp
  have h : ∑ x, Ds E D dl x = (∑ x, P E D x * dl x) * (e * (1 / D)) := by
    unfold Ds
    simp only [mul_sub, Finset.sum_sub_distrib]
    rw [← Finset.sum_mul, hE]; ring
  rw [Finset.sum_neg_distrib, h]; unfold Sk; ring

theorem rDs_eq (hf : f = masked V σ) (w : ℝ) (s : Fin 256) : rDs f a (fun x => (dl x : EReal)) (w : EReal) s = (Ds E D dl s : EReal) := by
  obtain ⟨c, hc, hh⟩ := hits_ne (V := V) σ
  unfold rDs
  rw [rM_eq dl H, rE_eq dl H, hf, hh, zero_mul, Ideal.div_coe hc, zero_mul, zero_mul, add_zero]

/-- A masked entry has no probability and no gradient. -/
theorem P_zero (s : Fin 256) (h : ¬V s) : P E D s = 0 := by unfold P; rw [H.zero s h, zero_mul]
theorem Ds_zero (s : Fin 256) (h : ¬V s) : Ds E D dl s = 0 := by unfold Ds; rw [P_zero H s h, zero_mul]

/-- The cotangents of the masked probabilities do not matter. -/
theorem Ds_congr (dl' : Fin 256 → ℝ) (h : ∀ s, V s → dl s = dl' s) (s : Fin 256) : Ds E D dl s = Ds E D dl' s := by
  by_cases hs : V s
  · unfold Ds
    rw [h s hs, Finset.sum_congr rfl fun x _ => show P E D x * dl x = P E D x * dl' x from ?_]
    by_cases hx : V x
    · rw [h x hx]
    · rw [P_zero H x hx, zero_mul, zero_mul]
  · rw [Ds_zero dl H s hs, Ds_zero dl' H s hs]
theorem Sk_congr (dl' : Fin 256 → ℝ) (h : ∀ s, V s → dl s = dl' s) : Sk E e D dl = Sk E e D dl' := by
  unfold Sk
  rw [Finset.sum_congr rfl fun x _ => show P E D x * dl x = P E D x * dl' x from ?_]
  by_cases hx : V x
  · rw [h x hx]
  · rw [P_zero H x hx, zero_mul, zero_mul]

end Finite

end Cert.AttnRow

end
-- ==== Proof.AttnSpec.lean ====
/-
  The gradient of the windowed attention with sinks in real numbers: what both programs compute where every argument is
  finite. Blocks of 128 rows are numbered by `n`, the heads by `h` (`g` the pair of key and value they share), the rows of
  a block by `r`, the rows of the block and the one before it by `s`.
-/
module

public import proofs.«01_k».proof.Proof.AttnRow

@[expose] public section

noncomputable section

open Idealize.ShloMosaic

namespace Cert.AttnSpec

open Cert.AttnRow

/-- The constant the programs take for the logarithm of two. -/
def ln2 : ℝ := (Ideal.ofBits .f32 1060205080#32).toReal

theorem cln2 : Ideal.ofBits .f32 1060205080#32 = (ln2 : EReal) := by
  refine (EReal.coe_toReal ?_ ?_).symm <;> simp [Ideal.ofBits, Ideal.ieee] <;> rw [← EReal.coe_mul]
  · exact EReal.coe_ne_top _
  · exact EReal.coe_ne_bot _

/-- A query at row `r` of block `n` sees the row `s` of the two blocks. -/
def valid (n r : ℕ) (s : Fin 256) : Prop := (r < s.val ∧ s.val ≤ r + 128) ∧ (0 < n ∨ 128 ≤ s.val)

instance (n r : ℕ) : DecidablePred (valid n r) := fun s => by unfold valid; infer_instance

/-- The bias per step of distance of a head. -/
def tilt (h : ℕ) : ℝ := Real.exp (ln2 * -((h : ℝ) + 1))

variable (A : ℕ → ℝ) (X W : ℕ → ℕ → ℝ)

/-- The keys (`o = 512`) or values (`o = 640`) of the block before and of the block itself, zero before the first. -/
def band (o n g : ℕ) (s : Fin 256) (d : Fin 64) : ℝ :=
  if s.val < 128 then if n < 1 then 0 else X ((n - 1) * 128 + s.val) (o + (g * 64 + d.val)) else X (n * 128 + (s.val - 128)) (o + (g * 64 + d.val))

/-- The score of a query and a key. -/
def score (n h r : ℕ) (s : Fin 256) : ℝ :=
  (∑ d : Fin 64, X (n * 128 + r) (h * 64 + d.val) * band X 512 n (h / 4) s d) * (1 / 8) + -tilt h * ((r : ℝ) + 128 - s.val)

/-- The cotangent of a probability. -/
def dl (n h r : ℕ) (s : Fin 256) : ℝ := ∑ d : Fin 64, W (n * 128 + r) (h * 64 + d.val) * band X 640 n (h / 4) s d

/-- The exponentials of a row, the sink's and their sum. -/
def rowE (n h r : ℕ) : Fin 256 → ℝ := (real_row (V := valid n r) (score X n h r) (A h)).choose
def rowS (n h r : ℕ) : ℝ := (real_row (V := valid n r) (score X n h r) (A h)).choose_spec.choose
def rowD (n h r : ℕ) : ℝ := (real_row (V := valid n r) (score X n h r) (A h)).choose_spec.choose_spec.choose

theorem row (n h r : ℕ) : Real' (masked (valid n r) (score X n h r)) (A h : EReal) (valid n r) (rowE A X n h r) (rowS A X n h r) (rowD A X n h r) :=
  (real_row (V := valid n r) (score X n h r) (A h)).choose_spec.choose_spec.choose_spec

/-- A probability, the gradient of a score, and a row's part of the sink's gradient. -/
def p (n h r : ℕ) (s : Fin 256) : ℝ := P (rowE A X n h r) (rowD A X n h r) s
def ds (n h r : ℕ) (s : Fin 256) : ℝ := Ds (rowE A X n h r) (rowD A X n h r) (dl X W n h r) s
def sk (n h r : ℕ) : ℝ := Sk (rowE A X n h r) (rowS A X n h r) (rowD A X n h r) (dl X W n h r)

/-- The queries' gradient. -/
def dq (n h r : ℕ) (d : Fin 64) : ℝ := ∑ s : Fin 256, ds A X W n h r s * (1 / 8) * band X 512 n (h / 4) s d

/-- A block's part of the keys' gradient, on its own rows and on those of the block before. -/
def dk (n g : ℕ) (s : Fin 256) (d : Fin 64) : ℝ :=
  ∑ r : Fin 128, ∑ i : Fin 4, ds A X W n (g * 4 + i.val) r.val s * (1 / 8) * X (n * 128 + r.val) ((g * 4 + i.val) * 64 + d.val)

/-- A block's part of the values' gradient. -/
def dv (n g : ℕ) (s : Fin 256) (d : Fin 64) : ℝ :=
  ∑ i : Fin 4, ∑ r : Fin 128, W (n * 128 + r.val) ((g * 4 + i.val) * 64 + d.val) * p A X n (g * 4 + i.val) r.val s

/-- The lower and the upper half of the two blocks' rows. -/
def lo (r : Fin 128) : Fin 256 := ⟨r.val, by omega⟩
def hi (r : Fin 128) : Fin 256 := ⟨128 + r.val, by omega⟩

/-- The gradient of a block's keys, values: its own part and the next block's. -/
def dkAll (n g : ℕ) (r : Fin 128) (d : Fin 64) : ℝ := dk A X W n g (hi r) d + if n < 31 then dk A X W (1 + n) g (lo r) d else 0
def dvAll (n g : ℕ) (r : Fin 128) (d : Fin 64) : ℝ := dv A X W n g (hi r) d + if n < 31 then dv A X W (1 + n) g (lo r) d else 0

/-- The sink's gradient. -/
def dsink (h : ℕ) : ℝ := ∑ n : Fin 32, ∑ r : Fin 128, sk A X W n.val h r.val

end Cert.AttnSpec

end
-- ==== Proof.AttnPure.lean ====
/-
  What one grid point of the attention kernel computes for one pair of key and value heads: at finite arguments, the
  specification's real numbers. The second pair's text is the first pair's, cut at other places.
-/
module

public import proofs.«01_k».proof.Proof.Gen.AttnIdeal.Skeleton
public import proofs.«01_k».proof.Proof.AttnSpec
public import Idealize.ShloMosaic.Lib.Pipeline.ValueKit

@[expose] public section

set_option maxRecDepth 16384

noncomputable section

open Idealize.ShloMosaic Idealize.ShloMosaic.TcCoe Idealize.ShloMosaic.Tactic

namespace Cert.AttnIdeal.Pure

open Cert.AttnIdeal Cert.AttnIdeal.Gen Cert.AttnRow Cert.AttnSpec

/-- The block of rows a row of the tile is of: which of the four heads. -/
def hd (j : Fin 512) : ℕ := j.val / 128
def rw' (j : Fin 512) : ℕ := j.val % 128

/-- A tile's operands are the arrays' rows: block `n`, key and value head `g`. Keys and values count only where a query sees them. -/
structure Tile (A : ℕ → ℝ) (X W : ℕ → ℕ → ℝ) (n g : ℕ) (v14 : IVec S512x256 1) (q o : FVec Ideal S512x64 .bf16) (k v : FVec Ideal S256x64 .bf16)
    (b : Vec Ideal S1x512x256 .f32) (a : Fin 4 → Elt Ideal .f32) : Prop where
  seen : ∀ (j : Fin 512) (s : Fin 256), v14 (ix2 j s) = BitVec.ofBool (decide (0 < n ∨ 128 ≤ s.val))
  q : ∀ (j : Fin 512) (d : Fin 64), q (ix2 j d) = (X (n * 128 + rw' j) ((g * 4 + hd j) * 64 + d.val) : EReal)
  o : ∀ (j : Fin 512) (d : Fin 64), o (ix2 j d) = (W (n * 128 + rw' j) ((g * 4 + hd j) * 64 + d.val) : EReal)
  k : ∃ K : Fin 256 → Fin 64 → ℝ, (∀ s d, k (ix2 s d) = (K s d : EReal)) ∧ ∀ s d, (0 < n ∨ 128 ≤ s.val) → K s d = band X 512 n g s d
  v : ∃ V : Fin 256 → Fin 64 → ℝ, (∀ s d, v (ix2 s d) = (V s d : EReal)) ∧ ∀ s d, (0 < n ∨ 128 ≤ s.val) → V s d = band X 640 n g s d
  b : ∀ (j : Fin 512) (s : Fin 256), b (ix3 0 j s)
    = if rw' j < s.val ∧ s.val ≤ rw' j + 128 then ((-tilt (g * 4 + hd j) * ((rw' j : ℝ) + 128 - s.val) : ℝ) : EReal) else ⊥
  a : ∀ i : Fin 4, a i = (A (g * 4 + i.val) : EReal)

section
variable {A : ℕ → ℝ} {X W : ℕ → ℕ → ℝ} {n g : ℕ} {v14 : IVec S512x256 1} {q o : FVec Ideal S512x64 .bf16} {k v : FVec Ideal S256x64 .bf16}
  {b : Vec Ideal S1x512x256 .f32} {a : Fin 4 → Elt Ideal .f32} (T : Tile A X W n g v14 q o k v b a)
include T

theorem hd_lt (j : Fin 512) : hd j < 4 := by unfold hd; omega

/-- A row's masked scores. -/
theorem scores (j : Fin 512) : (fun s => k0_pay11 v14 q k b (ix2 j s)) = masked (valid n (rw' j)) (score X n (g * 4 + hd j) (rw' j)) := by
  funext s
  obtain ⟨K, hK, hKb⟩ := T.k
  pointwise [k0_pay11]
  rw [T.seen, T.b]
  unfold masked
  by_cases h : 0 < n ∨ 128 ≤ s.val
  · rw [show BitVec.ofBool (decide (0 < n ∨ 128 ≤ s.val)) = 1#1 by simp [h]]
    show (∑ x, q (ix2 j x) * k (ix2 s x)) * Ideal.ofBits .f32 1040187392#32 + _ = _
    rw [ceighth, Finset.sum_congr rfl fun d _ => congrArg₂ (· * ·) (T.q j d) (hK s d)]
    simp only [← EReal.coe_mul, coe_sum]
    by_cases h' : rw' j < s.val ∧ s.val ≤ rw' j + 128
    · rw [if_pos h', if_pos (show valid n (rw' j) s from ⟨h', h⟩), ← EReal.coe_add]
      unfold score
      rw [show (g * 4 + hd j) / 4 = g by have := hd_lt T j; omega]
      refine congrArg (fun z : ℝ => (z : EReal)) (congrArg (fun z : ℝ => z * (1 / 8) + _) (Finset.sum_congr rfl fun d _ => ?_))
      rw [hKb s d h]
    · rw [if_neg h', if_neg (fun hv : valid n (rw' j) s => h' hv.1)]
      exact EReal.add_bot _
  · rw [show BitVec.ofBool (decide (0 < n ∨ 128 ≤ s.val)) = 0#1 by simp only [h, decide_false]; rfl, if_neg (fun hv : valid n (rw' j) s => h hv.2)]
    rfl

omit T in
theorem word_part : ∀ j : Fin 512, IntOp.shrsi ArithUnit.vector (BitVec.ofNat 32 j.val) 7#32 = BitVec.ofNat 32 (j.val / 128) := by decide +kernel

/-- A row's sink. -/
theorem sink (j : Fin 512) : k0_pay10 (a 0) (a 1) (a 2) (a 3) (ix2 j 0) = (A (g * 4 + hd j) : EReal) := by
  pointwise [k0_pay10]
  rw [word_part]
  have hj := hd_lt T j
  unfold hd at hj ⊢
  generalize j.val / 128 = i at hj ⊢
  match i, hj with
  | 0, _ => exact T.a 0
  | 1, _ => exact T.a 1
  | 2, _ => exact T.a 2
  | 3, _ => exact T.a 3

theorem rowK (j : Fin 512) : Real' (fun s => k0_pay11 v14 q k b (ix2 j s)) (k0_pay10 (a 0) (a 1) (a 2) (a 3) (ix2 j 0)) (valid n (rw' j))
    (rowE A X n (g * 4 + hd j) (rw' j)) (rowS A X n (g * 4 + hd j) (rw' j)) (rowD A X n (g * 4 + hd j) (rw' j)) := by
  rw [scores T j, sink T j]
  exact row A X n (g * 4 + hd j) (rw' j)

omit T in
theorem mxK (j : Fin 512) : k0_pay12 v14 q k b (a 0) (a 1) (a 2) (a 3) (ix2 j 0) = mx (fun s => k0_pay11 v14 q k b (ix2 j s)) (k0_pay10 (a 0) (a 1) (a 2) (a 3) (ix2 j 0)) := by
  pointwise [k0_pay12]
  unfold mx top
  rw [cbot]

/-- The exponentials of a row and the sink's exponent. -/
def ex (v14 : IVec S512x256 1) (q : FVec Ideal S512x64 .bf16) (k : FVec Ideal S256x64 .bf16) (b : Vec Ideal S1x512x256 .f32) (a : Fin 4 → Elt Ideal .f32) :=
  k0_pay13 v14 q k b (a 0) (a 1) (a 2) (a 3)
def se (v14 : IVec S512x256 1) (q : FVec Ideal S512x64 .bf16) (k : FVec Ideal S256x64 .bf16) (b : Vec Ideal S1x512x256 .f32) (a : Fin 4 → Elt Ideal .f32) :=
  k0_pay14 v14 q k b (a 0) (a 1) (a 2) (a 3)

omit T in
theorem exK (j : Fin 512) (s : Fin 256) : ex v14 q k b a (ix2 j s) = pe (fun s => k0_pay11 v14 q k b (ix2 j s)) (k0_pay10 (a 0) (a 1) (a 2) (a 3) (ix2 j 0)) s := by
  unfold ex
  pointwise [k0_pay13, mxK]
  rfl
omit T in
theorem seK (j : Fin 512) : Ideal.exp (se v14 q k b a (ix2 j 0)) = es (fun s => k0_pay11 v14 q k b (ix2 j s)) (k0_pay10 (a 0) (a 1) (a 2) (a 3) (ix2 j 0)) := by
  unfold se
  pointwise [k0_pay14, mxK]
  rfl

/-- The cotangent of a probability, with the keys and values of the tile. -/
theorem cotK (j : Fin 512) : ∃ dl' : Fin 256 → ℝ, (∀ s, ∑ x, o (ix2 j x) * v (ix2 s x) = (dl' s : EReal))
    ∧ ∀ s, valid n (rw' j) s → dl' s = dl X W n (g * 4 + hd j) (rw' j) s := by
  obtain ⟨V, hV, hVb⟩ := T.v
  refine ⟨fun s => ∑ d : Fin 64, W (n * 128 + rw' j) ((g * 4 + hd j) * 64 + d.val) * V s d, fun s => ?_, fun s hs => ?_⟩
  · rw [Finset.sum_congr rfl fun d _ => congrArg₂ (· * ·) (T.o j d) (hV s d)]
    simp only [← EReal.coe_mul, coe_sum]
  · unfold dl
    rw [show (g * 4 + hd j) / 4 = g by have := hd_lt T j; omega]
    exact Finset.sum_congr rfl fun d _ => by rw [hVb s d hs.2]

/-- The gradient of a score. -/
theorem dsK (j : Fin 512) (s : Fin 256) : k0_pay20 o v (ex v14 q k b a) (se v14 q k b a) (ix2 j s) = (ds A X W n (g * 4 + hd j) (rw' j) s : EReal) := by
  obtain ⟨dl', h1, h2⟩ := cotK T j
  have H := rowK T j
  unfold ds
  rw [Ds_congr _ H dl' (fun s hs => (h2 s hs).symm) s]
  pointwise [k0_pay20, k0_pay19, k0_pay17, k0_pay18, k0_pay16, k0_pay15]
  rw [seK]
  simp only [exK, h1]
  exact kDs_eq dl' H s

/-- A row's part of the sink's gradient. -/
theorem skK (j : Fin 512) : k0_pay21 o v (ex v14 q k b a) (se v14 q k b a) (ix2 j 0) = (sk A X W n (g * 4 + hd j) (rw' j) : EReal) := by
  obtain ⟨dl', h1, h2⟩ := cotK T j
  have H := rowK T j
  unfold sk
  rw [Sk_congr _ H dl' (fun s hs => (h2 s hs).symm)]
  pointwise [k0_pay21, k0_pay19, k0_pay17, k0_pay18, k0_pay16, k0_pay15]
  rw [seK]
  simp only [exK, h1]
  exact kSink_eq dl' H

/-- The queries' gradient. -/
theorem dqK (j : Fin 512) (d : Fin 64) : k0_pay22 o k v (ex v14 q k b a) (se v14 q k b a) (ix2 j d) = (dq A X W n (g * 4 + hd j) (rw' j) d : EReal) := by
  obtain ⟨K, hK, hKb⟩ := T.k
  pointwise [k0_pay22]
  rw [ceighth, Finset.sum_congr rfl fun s _ => congrArg₂ (· * ·) (dsK T j s) (hK s d)]
  simp only [← EReal.coe_mul, coe_sum]
  unfold dq
  rw [show (g * 4 + hd j) / 4 = g by have := hd_lt T j; omega, Finset.sum_mul]
  refine congrArg (fun z : ℝ => (z : EReal)) (Finset.sum_congr rfl fun s _ => ?_)
  by_cases h : 0 < n ∨ 128 ≤ s.val
  · rw [hKb s d h]; ring
  · have h0 : ds A X W n (g * 4 + hd j) (rw' j) s = 0 := Ds_zero _ (row A X n (g * 4 + hd j) (rw' j)) s (fun hv => h hv.2)
    rw [h0]; ring

omit T in
/-- The tile's rows are the four heads' blocks of rows. -/
theorem sum_rows (f : Fin 512 → ℝ) (f' : Fin 4 → Fin 128 → ℝ) (h : ∀ (i : Fin 4) (r : Fin 128), f ⟨i.val * 128 + r.val, by omega⟩ = f' i r) :
    ∑ j, f j = ∑ i, ∑ r, f' i r := by
  rw [← Fintype.sum_prod_type']
  refine (Fintype.sum_equiv finProdFinEquiv (fun p : Fin 4 × Fin 128 => f' p.1 p.2) f (fun p => ?_)).symm
  rw [← h p.1 p.2]
  refine congrArg f (Fin.ext ?_)
  simp [finProdFinEquiv]
  omega

/-- The keys' gradient. -/
theorem dkK (s : Fin 256) (d : Fin 64) : k0_pay23 q o v (ex v14 q k b a) (se v14 q k b a) (ix2 s d) = (dk A X W n g s d : EReal) := by
  pointwise [k0_pay23]
  rw [ceighth, Finset.sum_congr rfl fun j _ => congrArg₂ (· * ·) (dsK T j s) (T.q j d)]
  simp only [← EReal.coe_mul, coe_sum]
  unfold dk
  rw [Finset.sum_mul, Finset.sum_comm]
  refine congrArg (fun z : ℝ => (z : EReal)) (sum_rows _ _ fun i r => ?_)
  have e1 : hd ⟨i.val * 128 + r.val, by omega⟩ = i.val := by unfold hd; show (i.val * 128 + r.val) / 128 = _; omega
  have e2 : rw' ⟨i.val * 128 + r.val, by omega⟩ = r.val := by unfold rw'; show (i.val * 128 + r.val) % 128 = _; omega
  rw [e1, e2]
  ring

/-- The values' gradient. -/
theorem dvK (s : Fin 256) (d : Fin 64) : k0_pay24 o (ex v14 q k b a) (se v14 q k b a) (ix2 s d) = (dv A X W n g s d : EReal) := by
  have hp : ∀ j, ex v14 q k b a (ix2 j s) * k0_pay16 (ex v14 q k b a) (se v14 q k b a) (ix2 j 0) = (p A X n (g * 4 + hd j) (rw' j) s : EReal) := fun j => by
    pointwise [k0_pay16, k0_pay15]
    rw [seK]
    simp only [exK]
    exact kP_eq (rowK T j) s
  pointwise [k0_pay24, k0_pay17]
  rw [Finset.sum_congr rfl fun j _ => congrArg₂ (· * ·) (hp j) (T.o j d)]
  simp only [← EReal.coe_mul, coe_sum]
  unfold dv
  refine congrArg (fun z : ℝ => (z : EReal)) (sum_rows _ _ fun i r => ?_)
  have e1 : hd ⟨i.val * 128 + r.val, by omega⟩ = i.val := by unfold hd; show (i.val * 128 + r.val) / 128 = _; omega
  have e2 : rw' ⟨i.val * 128 + r.val, by omega⟩ = r.val := by unfold rw'; show (i.val * 128 + r.val) % 128 = _; omega
  rw [e1, e2]
  ring

end

/-! ## The second pair's text -/

section Bridge
variable (v14 : IVec S512x256 1) (q o : FVec Ideal S512x64 .bf16) (k v : FVec Ideal S256x64 .bf16) (b : Vec Ideal S1x512x256 .f32) (a : Fin 4 → Elt Ideal .f32)

theorem sk1 : k0_pay56 v14 q o k v (k0_pay43 b) k0_pay44 (k0_pay45 (a 0) (a 1) (a 2)) 3#32 (a 3) = k0_pay21 o v (ex v14 q k b a) (se v14 q k b a) := rfl
theorem dq1 : k0_pay57 v14 q o k v (k0_pay43 b) k0_pay44 (k0_pay45 (a 0) (a 1) (a 2)) 3#32 (a 3) = k0_pay22 o k v (ex v14 q k b a) (se v14 q k b a) := rfl
theorem dk1 : k0_pay58 v14 q o k v (k0_pay43 b) k0_pay44 (k0_pay45 (a 0) (a 1) (a 2)) 3#32 (a 3) = k0_pay23 q o v (ex v14 q k b a) (se v14 q k b a) := rfl
theorem dv1 : k0_pay60 o (k0_pay59 v14 q k (k0_pay43 b) k0_pay44 (k0_pay45 (a 0) (a 1) (a 2)) 3#32 (a 3)) = k0_pay24 o (ex v14 q k b a) (se v14 q k b a) := rfl

end Bridge

end Cert.AttnIdeal.Pure

end
-- ==== Proof.AttnWords.lean ====
/-
  The words of the attention's mask and bias: which queries see which keys, and at which distance.
-/
module

public import proofs.«01_k».proof.Proof.AttnSpec
public import Idealize.ShloMosaic.Lib.Pipeline.ValueKit

@[expose] public section

set_option maxRecDepth 16384

noncomputable section

open Idealize.ShloMosaic Idealize.ShloMosaic.TcCoe Idealize.ShloMosaic.Tactic

namespace Cert.AttnSpec

open Cert.AttnRow

/-! ## The words of the mask and of the bias -/

/-- The distance of a query and a key, as a word. -/
def dist (r : Fin 128) (s : Fin 256) : BitVec 32 := IntOp.subi (IntOp.addi (BitVec.ofNat 32 r.val) 128#32) (BitVec.ofNat 32 s.val)

theorem word_window : ∀ (r : Fin 128) (s : Fin 256),
    IntOp.andi (IntOp.cmpi .sge (dist r s) 0#32) (IntOp.cmpi .slt (dist r s) 128#32) = BitVec.ofBool (decide (r.val < s.val ∧ s.val ≤ r.val + 128)) := by
  decide +kernel

theorem word_seen : ∀ (n : Fin 32) (s : Fin 256),
    IntOp.ori (IntOp.cmpi .sgt (BitVec.ofNat 32 n.val) 0#32) (IntOp.cmpi .sge (BitVec.ofNat 32 s.val) 128#32) = BitVec.ofBool (decide (0 < n.val ∨ 128 ≤ s.val)) := by
  decide +kernel

theorem word_dist : ∀ (r : Fin 128) (s : Fin 256), s.val ≤ r.val + 128 → (IntOp.absi (dist r s)).toInt = (r.val : ℤ) + 128 - s.val := by
  decide +kernel

theorem word_head : ∀ (h : Fin 8), (BitVec.ofNat 32 h.val).toInt = (h.val : ℤ) := by decide +kernel

theorem cm8 : Ideal.ofBits .f32 3238002688#32 = ((-8 : ℝ) : EReal) := by
  simp [Ideal.ofBits, Ideal.ieee]; rw [← EReal.coe_mul]; norm_num
theorem c8 : Ideal.ofBits .f32 1090519040#32 = ((8 : ℝ) : EReal) := by
  simp [Ideal.ofBits, Ideal.ieee]; rw [← EReal.coe_mul]; norm_num

/-- The bias both programs add to a score. -/
theorem bias (h : Fin 8) (w : BitVec 32) (δ : ℤ) (hw : w.toInt = δ) :
    -Ideal.exp (Ideal.ofBits .f32 1060205080#32 * Ideal.div (Ideal.ofBits .f32 3238002688#32 * (1 + FloatOps.sitofp (F := Ideal) .f32 (BitVec.ofNat 32 h.val)))
        (Ideal.ofBits .f32 1090519040#32)) * FloatOps.sitofp (F := Ideal) .f32 w = ((-tilt h.val * δ : ℝ) : EReal) := by
  have e1 : FloatOps.sitofp (F := Ideal) .f32 (BitVec.ofNat 32 h.val) = ((h.val : ℝ) : EReal) := by
    show (((BitVec.ofNat 32 h.val).toInt : ℝ) : EReal) = _
    rw [word_head h]; norm_cast
  have e2 : FloatOps.sitofp (F := Ideal) .f32 w = ((δ : ℝ) : EReal) := by
    show ((w.toInt : ℝ) : EReal) = _
    rw [hw]
  rw [e1, e2, cln2, cm8, c8, ← EReal.coe_one, ← EReal.coe_add, ← EReal.coe_mul, Ideal.div_coe (by norm_num), ← EReal.coe_mul]
  show -((Real.exp _ : ℝ) : EReal) * _ = _
  rw [← EReal.coe_neg, ← EReal.coe_mul]
  unfold tilt
  refine congrArg (fun z : ℝ => ((-Real.exp z * (δ : ℝ) : ℝ) : EReal)) ?_
  ring

end Cert.AttnSpec

end
-- ==== Proof.AttnTile.lean ====
/-
  One grid point's operands of the attention kernel, as the body cuts them out of its blocks, and what they are where the
  blocks hold finite numbers.
-/
module

public import proofs.«01_k».proof.Proof.AttnPure
public import proofs.«01_k».proof.Proof.AttnWords
public import Idealize.ShloMosaic.Lib.WholeRead

@[expose] public section

set_option maxRecDepth 16384

noncomputable section

open Idealize.ShloMosaic Idealize.ShloMosaic.TcCoe Idealize.ShloMosaic.Tactic

namespace Cert.AttnIdeal.Pure

open Cert.AttnIdeal Cert.AttnIdeal.Gen Cert.AttnRow Cert.AttnSpec

/-- Which keys are inside the sequence. -/
def tS (i : grid0.Coords) : IVec S512x256 1 := k0_pay5 (BitVec.ofNat 32 (i 0).val)

variable
  {arg1 : Memref sig .tc .smem S1x8 .f32} (harg1 : arg1.IsWhole) (x0 : Vec Ideal S1x8 .f32)
  {arg2 : Memref sig .tc .vmem S2x512x256 .f32} (harg2 : arg2.IsWhole) (x1 : Vec Ideal S2x512x256 .f32)
  {arg3 : Memref sig .tc .vmem S128x512 .bf16} (harg3 : arg3.IsWhole) (x2 : Vec Ideal S128x512 .bf16)
  {arg4 : Memref sig .tc .vmem S128x256 .bf16} (harg4 : arg4.IsWhole) (x3 : Vec Ideal S128x256 .bf16)
  {arg5 : Memref sig .tc .vmem S128x256 .bf16} (harg5 : arg5.IsWhole) (x4 : Vec Ideal S128x256 .bf16)
  {arg6 : Memref sig .tc .vmem S128x512 .bf16} (harg6 : arg6.IsWhole) (x5 : Vec Ideal S128x512 .bf16)

/-! ## The two pairs' operands -/

/-- The queries, their cotangents, the keys, the values, the bias and the sinks of pair 0. -/
def tQ0 : FVec Ideal S512x64 .bf16 :=
  k0_pay6 (View.readAt (Elt Ideal) arg3.view (Rect.unit (s := S128x512) ![0, 0] S128x64.size inb_S128x512_S128x64_0_0).toLoadRect (harg3.unread x2))
    (View.readAt (Elt Ideal) arg3.view (Rect.unit (s := S128x512) ![0, 64] S128x64.size inb_S128x512_S128x64_0_64).toLoadRect (harg3.unread x2))
    (View.readAt (Elt Ideal) arg3.view (Rect.unit (s := S128x512) ![0, 128] S128x64.size inb_S128x512_S128x64_0_128).toLoadRect (harg3.unread x2))
    (View.readAt (Elt Ideal) arg3.view (Rect.unit (s := S128x512) ![0, 192] S128x64.size inb_S128x512_S128x64_0_192).toLoadRect (harg3.unread x2))
def tO0 : FVec Ideal S512x64 .bf16 :=
  k0_pay7 (View.readAt (Elt Ideal) arg6.view (Rect.unit (s := S128x512) ![0, 0] S128x64.size inb_S128x512_S128x64_0_0).toLoadRect (harg6.unread x5))
    (View.readAt (Elt Ideal) arg6.view (Rect.unit (s := S128x512) ![0, 64] S128x64.size inb_S128x512_S128x64_0_64).toLoadRect (harg6.unread x5))
    (View.readAt (Elt Ideal) arg6.view (Rect.unit (s := S128x512) ![0, 128] S128x64.size inb_S128x512_S128x64_0_128).toLoadRect (harg6.unread x5))
    (View.readAt (Elt Ideal) arg6.view (Rect.unit (s := S128x512) ![0, 192] S128x64.size inb_S128x512_S128x64_0_192).toLoadRect (harg6.unread x5))
def tK0 : FVec Ideal S256x64 .bf16 :=
  k0_pay8 (View.readAt (Elt Ideal) arg4.view (Rect.unit (s := S128x256) ![0, 0] S128x64.size inb_S128x256_S128x64_0_0).toLoadRect (harg4.unread x3))
    (View.readAt (Elt Ideal) arg5.view (Rect.unit (s := S128x256) ![0, 0] S128x64.size inb_S128x256_S128x64_0_0).toLoadRect (harg5.unread x4))
def tV0 : FVec Ideal S256x64 .bf16 :=
  k0_pay9 (View.readAt (Elt Ideal) arg4.view (Rect.unit (s := S128x256) ![0, 128] S128x64.size inb_S128x256_S128x64_0_128).toLoadRect (harg4.unread x3))
    (View.readAt (Elt Ideal) arg5.view (Rect.unit (s := S128x256) ![0, 128] S128x64.size inb_S128x256_S128x64_0_128).toLoadRect (harg5.unread x4))
def tB0 : Vec Ideal S1x512x256 .f32 := View.readAt (Elt Ideal) arg2.view (Rect.unit (s := S2x512x256) ![0, 0, 0] S1x512x256.size inb_S2x512x256_S1x512x256_0_0_0).toLoadRect (harg2.unread x1)
def tA0 (h : Fin 4) : Elt Ideal .f32 := match h with
  | 0 => View.readAt (Elt Ideal) arg1.view (Rect.unit (s := S1x8) ![0, 0] S1x1.size inb_S1x8_S1x1_0_0).toLoadRect (harg1.unread x0) (Shape.Idx.first (by decide))
  | 1 => View.readAt (Elt Ideal) arg1.view (Rect.unit (s := S1x8) ![0, 1] S1x1.size inb_S1x8_S1x1_0_1).toLoadRect (harg1.unread x0) (Shape.Idx.first (by decide))
  | 2 => View.readAt (Elt Ideal) arg1.view (Rect.unit (s := S1x8) ![0, 2] S1x1.size inb_S1x8_S1x1_0_2).toLoadRect (harg1.unread x0) (Shape.Idx.first (by decide))
  | 3 => View.readAt (Elt Ideal) arg1.view (Rect.unit (s := S1x8) ![0, 3] S1x1.size inb_S1x8_S1x1_0_3).toLoadRect (harg1.unread x0) (Shape.Idx.first (by decide))

/-- The queries, their cotangents, the keys, the values, the bias and the sinks of pair 1. -/
def tQ1 : FVec Ideal S512x64 .bf16 :=
  k0_pay37 (View.readAt (Elt Ideal) arg3.view (Rect.unit (s := S128x512) ![0, 256] S128x64.size inb_S128x512_S128x64_0_256).toLoadRect (harg3.unread x2))
    (View.readAt (Elt Ideal) arg3.view (Rect.unit (s := S128x512) ![0, 320] S128x64.size inb_S128x512_S128x64_0_320).toLoadRect (harg3.unread x2))
    (View.readAt (Elt Ideal) arg3.view (Rect.unit (s := S128x512) ![0, 384] S128x64.size inb_S128x512_S128x64_0_384).toLoadRect (harg3.unread x2))
    (View.readAt (Elt Ideal) arg3.view (Rect.unit (s := S128x512) ![0, 448] S128x64.size inb_S128x512_S128x64_0_448).toLoadRect (harg3.unread x2))
def tO1 : FVec Ideal S512x64 .bf16 :=
  k0_pay40 (k0_pay38 (View.readAt (Elt Ideal) arg6.view (Rect.unit (s := S128x512) ![0, 256] S128x64.size inb_S128x512_S128x64_0_256).toLoadRect (harg6.unread x5)))
    (k0_pay39 (View.readAt (Elt Ideal) arg6.view (Rect.unit (s := S128x512) ![0, 320] S128x64.size inb_S128x512_S128x64_0_320).toLoadRect (harg6.unread x5)))
    (View.readAt (Elt Ideal) arg6.view (Rect.unit (s := S128x512) ![0, 384] S128x64.size inb_S128x512_S128x64_0_384).toLoadRect (harg6.unread x5))
    (View.readAt (Elt Ideal) arg6.view (Rect.unit (s := S128x512) ![0, 448] S128x64.size inb_S128x512_S128x64_0_448).toLoadRect (harg6.unread x5))
def tK1 : FVec Ideal S256x64 .bf16 :=
  k0_pay41 (View.readAt (Elt Ideal) arg4.view (Rect.unit (s := S128x256) ![0, 64] S128x64.size inb_S128x256_S128x64_0_64).toLoadRect (harg4.unread x3))
    (View.readAt (Elt Ideal) arg5.view (Rect.unit (s := S128x256) ![0, 64] S128x64.size inb_S128x256_S128x64_0_64).toLoadRect (harg5.unread x4))
def tV1 : FVec Ideal S256x64 .bf16 :=
  k0_pay42 (View.readAt (Elt Ideal) arg4.view (Rect.unit (s := S128x256) ![0, 192] S128x64.size inb_S128x256_S128x64_0_192).toLoadRect (harg4.unread x3))
    (View.readAt (Elt Ideal) arg5.view (Rect.unit (s := S128x256) ![0, 192] S128x64.size inb_S128x256_S128x64_0_192).toLoadRect (harg5.unread x4))
def tB1 : Vec Ideal S1x512x256 .f32 := View.readAt (Elt Ideal) arg2.view (Rect.unit (s := S2x512x256) ![1, 0, 0] S1x512x256.size inb_S2x512x256_S1x512x256_1_0_0).toLoadRect (harg2.unread x1)
def tA1 (h : Fin 4) : Elt Ideal .f32 := match h with
  | 0 => View.readAt (Elt Ideal) arg1.view (Rect.unit (s := S1x8) ![0, 4] S1x1.size inb_S1x8_S1x1_0_4).toLoadRect (harg1.unread x0) (Shape.Idx.first (by decide))
  | 1 => View.readAt (Elt Ideal) arg1.view (Rect.unit (s := S1x8) ![0, 5] S1x1.size inb_S1x8_S1x1_0_5).toLoadRect (harg1.unread x0) (Shape.Idx.first (by decide))
  | 2 => View.readAt (Elt Ideal) arg1.view (Rect.unit (s := S1x8) ![0, 6] S1x1.size inb_S1x8_S1x1_0_6).toLoadRect (harg1.unread x0) (Shape.Idx.first (by decide))
  | 3 => View.readAt (Elt Ideal) arg1.view (Rect.unit (s := S1x8) ![0, 7] S1x1.size inb_S1x8_S1x1_0_7).toLoadRect (harg1.unread x0) (Shape.Idx.first (by decide))

/-- The blocks at one point hold the arrays' rows: block `n`'s queries and cotangents, its keys and values and those of the
    block before (of block 0 itself at block 0), the bias table and the sinks. -/
structure Blocks (A : ℕ → ℝ) (X W : ℕ → ℕ → ℝ) (n : ℕ) : Prop where
  sink : ∀ h : Fin 8, x0 (ix2 0 h) = (A h.val : EReal)
  bias : ∀ (g : Fin 2) (j : Fin 512) (s : Fin 256), x1 (ix3 g j s)
    = if rw' j < s.val ∧ s.val ≤ rw' j + 128 then ((-tilt (g.val * 4 + hd j) * ((rw' j : ℝ) + 128 - s.val) : ℝ) : EReal) else ⊥
  q : ∀ (r : Fin 128) (l : Fin 512), x2 (ix2 r l) = (X (n * 128 + r.val) l.val : EReal)
  before : ∀ (r : Fin 128) (l : Fin 256), x3 (ix2 r l) = (X ((n - 1) * 128 + r.val) (512 + l.val) : EReal)
  own : ∀ (r : Fin 128) (l : Fin 256), x4 (ix2 r l) = (X (n * 128 + r.val) (512 + l.val) : EReal)
  ct : ∀ (r : Fin 128) (l : Fin 512), x5 (ix2 r l) = (W (n * 128 + r.val) l.val : EReal)

variable {A : ℕ → ℝ} {X W : ℕ → ℕ → ℝ} {n : ℕ}

/-! ## What a cut of a block reads -/

theorem rd512 {arg : Memref sig .tc .vmem S128x512 .bf16} (h : arg.IsWhole) (x : Vec Ideal S128x512 .bf16) (o : ℕ)
    (inb : ∀ a, (![0, o] : Fin 2 → ℕ) a + S128x64.size a ≤ S128x512.size a) (ho : o + 64 ≤ 512) (r : Fin 128) (d : Fin 64) :
    View.readAt (Elt Ideal) arg.view (Rect.unit (s := S128x512) ![0, o] S128x64.size inb).toLoadRect (h.unread x) (ix2 r d) = x (ix2 r ⟨o + d.val, by omega⟩) := by
  refine (h.readAt_unread x _ _).trans (congrArg x ?_)
  exact funext fun a => Fin.ext (by match a with | ⟨0, _⟩ => exact (Rect.idx_unit_val _ _ _ _ _).trans (Nat.zero_add _) | ⟨1, _⟩ => exact Rect.idx_unit_val _ _ _ _ _)
theorem rd256 {arg : Memref sig .tc .vmem S128x256 .bf16} (h : arg.IsWhole) (x : Vec Ideal S128x256 .bf16) (o : ℕ)
    (inb : ∀ a, (![0, o] : Fin 2 → ℕ) a + S128x64.size a ≤ S128x256.size a) (ho : o + 64 ≤ 256) (r : Fin 128) (d : Fin 64) :
    View.readAt (Elt Ideal) arg.view (Rect.unit (s := S128x256) ![0, o] S128x64.size inb).toLoadRect (h.unread x) (ix2 r d) = x (ix2 r ⟨o + d.val, by omega⟩) := by
  refine (h.readAt_unread x _ _).trans (congrArg x ?_)
  exact funext fun a => Fin.ext (by match a with | ⟨0, _⟩ => exact (Rect.idx_unit_val _ _ _ _ _).trans (Nat.zero_add _) | ⟨1, _⟩ => exact Rect.idx_unit_val _ _ _ _ _)
/-- Entries of a real array at equal indices. -/
theorem ent (X : ℕ → ℕ → ℝ) {a a' b b' : ℕ} (h : a = a') (h' : b = b') : (X a b : EReal) = (X a' b' : EReal) := by rw [h, h']

theorem seenT (i : grid0.Coords) (hn : (i 0).val = n) (h32 : n < 32) (j : Fin 512) (s : Fin 256) :
    tS i (ix2 j s) = BitVec.ofBool (decide (0 < n ∨ 128 ≤ s.val)) := by
  unfold tS
  pointwise [k0_pay5]
  rw [hn]
  exact word_seen ⟨n, h32⟩ s

theorem tile0 (B : Blocks x0 x1 x2 x3 x4 x5 A X W n) (i : grid0.Coords) (hn : (i 0).val = n) (h32 : n < 32) :
    Tile A X W n 0 (tS i) (tQ0 harg3 x2) (tO0 harg6 x5) (tK0 harg4 x3 harg5 x4) (tV0 harg4 x3 harg5 x4) (tB0 harg2 x1) (tA0 harg1 x0) where
  seen := seenT i hn h32
  q := fun j d => by
    unfold tQ0
    pointwise [k0_pay6]
    unfold rw' hd
    split_ifs
    all_goals first
      | exact absurd rfl ‹¬ _›
      | exact (rd512 harg3 x2 0 _ (by omega) _ d).trans ((B.q _ _).trans (ent _ (by dsimp only <;> omega) (by dsimp only <;> omega)))
      | exact (rd512 harg3 x2 64 _ (by omega) _ d).trans ((B.q _ _).trans (ent _ (by dsimp only <;> omega) (by dsimp only <;> omega)))
      | exact (rd512 harg3 x2 128 _ (by omega) _ d).trans ((B.q _ _).trans (ent _ (by dsimp only <;> omega) (by dsimp only <;> omega)))
      | exact (rd512 harg3 x2 192 _ (by omega) _ d).trans ((B.q _ _).trans (ent _ (by dsimp only <;> omega) (by dsimp only <;> omega)))
  o := fun j d => by
    unfold tO0
    pointwise [k0_pay7]
    unfold rw' hd
    split_ifs
    all_goals first
      | exact absurd rfl ‹¬ _›
      | exact (rd512 harg6 x5 0 _ (by omega) _ d).trans ((B.ct _ _).trans (ent _ (by dsimp only <;> omega) (by dsimp only <;> omega)))
      | exact (rd512 harg6 x5 64 _ (by omega) _ d).trans ((B.ct _ _).trans (ent _ (by dsimp only <;> omega) (by dsimp only <;> omega)))
      | exact (rd512 harg6 x5 128 _ (by omega) _ d).trans ((B.ct _ _).trans (ent _ (by dsimp only <;> omega) (by dsimp only <;> omega)))
      | exact (rd512 harg6 x5 192 _ (by omega) _ d).trans ((B.ct _ _).trans (ent _ (by dsimp only <;> omega) (by dsimp only <;> omega)))
  k := by
    refine ⟨fun s d => if s.val < 128 then X ((n - 1) * 128 + s.val) (512 + (0 + d.val)) else X (n * 128 + (s.val - 128)) (512 + (0 + d.val)), fun s d => ?_, fun s d h => ?_⟩
    · unfold tK0
      pointwise [k0_pay8]
      by_cases hs : s.val < 128
      · rw [dif_pos hs, if_pos hs]
        exact (rd256 harg4 x3 0 _ (by omega) _ d).trans ((B.before _ _).trans (ent _ rfl (by dsimp only <;> omega)))
      · rw [dif_neg hs, if_neg hs]
        exact (rd256 harg5 x4 0 _ (by omega) _ d).trans ((B.own _ _).trans (ent _ rfl (by dsimp only <;> omega)))
    · unfold band
      dsimp only
      by_cases hs : s.val < 128
      · rw [if_pos hs, if_pos hs, if_neg (by omega)]
      · rw [if_neg hs, if_neg hs]
  v := by
    refine ⟨fun s d => if s.val < 128 then X ((n - 1) * 128 + s.val) (640 + (0 + d.val)) else X (n * 128 + (s.val - 128)) (640 + (0 + d.val)), fun s d => ?_, fun s d h => ?_⟩
    · unfold tV0
      pointwise [k0_pay9]
      by_cases hs : s.val < 128
      · rw [dif_pos hs, if_pos hs]
        exact (rd256 harg4 x3 128 _ (by omega) _ d).trans ((B.before _ _).trans (ent _ rfl (by dsimp only <;> omega)))
      · rw [dif_neg hs, if_neg hs]
        exact (rd256 harg5 x4 128 _ (by omega) _ d).trans ((B.own _ _).trans (ent _ rfl (by dsimp only <;> omega)))
    · unfold band
      dsimp only
      by_cases hs : s.val < 128
      · rw [if_pos hs, if_pos hs, if_neg (by omega)]
      · rw [if_neg hs, if_neg hs]
  b := fun j s => by
    refine (harg2.readAt_unread x1 _ _).trans ?_
    refine (congrArg x1 (?_ : _ = ix3 0 j s)).trans (B.bias 0 j s)
    exact funext fun a => Fin.ext (by match a with | ⟨0, _⟩ => rfl | ⟨1, _⟩ => exact (Rect.idx_unit_val _ _ _ _ _).trans (Nat.zero_add _) | ⟨2, _⟩ => exact (Rect.idx_unit_val _ _ _ _ _).trans (Nat.zero_add _))
  a := fun h => by
    match h with
    | 0 =>
      refine (harg1.readAt_unread x0 _ _).trans ((congrArg x0 (?_ : _ = ix2 0 0)).trans (B.sink 0))
      exact funext fun a => Fin.ext (by match a with | ⟨0, _⟩ => rfl | ⟨1, _⟩ => rfl)
    | 1 =>
      refine (harg1.readAt_unread x0 _ _).trans ((congrArg x0 (?_ : _ = ix2 0 1)).trans (B.sink 1))
      exact funext fun a => Fin.ext (by match a with | ⟨0, _⟩ => rfl | ⟨1, _⟩ => rfl)
    | 2 =>
      refine (harg1.readAt_unread x0 _ _).trans ((congrArg x0 (?_ : _ = ix2 0 2)).trans (B.sink 2))
      exact funext fun a => Fin.ext (by match a with | ⟨0, _⟩ => rfl | ⟨1, _⟩ => rfl)
    | 3 =>
      refine (harg1.readAt_unread x0 _ _).trans ((congrArg x0 (?_ : _ = ix2 0 3)).trans (B.sink 3))
      exact funext fun a => Fin.ext (by match a with | ⟨0, _⟩ => rfl | ⟨1, _⟩ => rfl)

theorem tile1 (B : Blocks x0 x1 x2 x3 x4 x5 A X W n) (i : grid0.Coords) (hn : (i 0).val = n) (h32 : n < 32) :
    Tile A X W n 1 (tS i) (tQ1 harg3 x2) (tO1 harg6 x5) (tK1 harg4 x3 harg5 x4) (tV1 harg4 x3 harg5 x4) (tB1 harg2 x1) (tA1 harg1 x0) where
  seen := seenT i hn h32
  q := fun j d => by
    unfold tQ1
    pointwise [k0_pay37]
    unfold rw' hd
    split_ifs
    all_goals first
      | exact absurd rfl ‹¬ _›
      | exact (rd512 harg3 x2 256 _ (by omega) _ d).trans ((B.q _ _).trans (ent _ (by dsimp only <;> omega) (by dsimp only <;> omega)))
      | exact (rd512 harg3 x2 320 _ (by omega) _ d).trans ((B.q _ _).trans (ent _ (by dsimp only <;> omega) (by dsimp only <;> omega)))
      | exact (rd512 harg3 x2 384 _ (by omega) _ d).trans ((B.q _ _).trans (ent _ (by dsimp only <;> omega) (by dsimp only <;> omega)))
      | exact (rd512 harg3 x2 448 _ (by omega) _ d).trans ((B.q _ _).trans (ent _ (by dsimp only <;> omega) (by dsimp only <;> omega)))
  o := fun j d => by
    unfold tO1
    pointwise [k0_pay38, k0_pay39, k0_pay40]
    unfold rw' hd
    split_ifs
    all_goals first
      | exact absurd rfl ‹¬ _›
      | exact (rd512 harg6 x5 256 _ (by omega) _ d).trans ((B.ct _ _).trans (ent _ (by dsimp only <;> omega) (by dsimp only <;> omega)))
      | exact (rd512 harg6 x5 320 _ (by omega) _ d).trans ((B.ct _ _).trans (ent _ (by dsimp only <;> omega) (by dsimp only <;> omega)))
      | exact (rd512 harg6 x5 384 _ (by omega) _ d).trans ((B.ct _ _).trans (ent _ (by dsimp only <;> omega) (by dsimp only <;> omega)))
      | exact (rd512 harg6 x5 448 _ (by omega) _ d).trans ((B.ct _ _).trans (ent _ (by dsimp only <;> omega) (by dsimp only <;> omega)))
  k := by
    refine ⟨fun s d => if s.val < 128 then X ((n - 1) * 128 + s.val) (512 + (64 + d.val)) else X (n * 128 + (s.val - 128)) (512 + (64 + d.val)), fun s d => ?_, fun s d h => ?_⟩
    · unfold tK1
      pointwise [k0_pay41]
      by_cases hs : s.val < 128
      · rw [dif_pos hs, if_pos hs]
        exact (rd256 harg4 x3 64 _ (by omega) _ d).trans ((B.before _ _).trans (ent _ rfl (by dsimp only <;> omega)))
      · rw [dif_neg hs, if_neg hs]
        exact (rd256 harg5 x4 64 _ (by omega) _ d).trans ((B.own _ _).trans (ent _ rfl (by dsimp only <;> omega)))
    · unfold band
      dsimp only
      by_cases hs : s.val < 128
      · rw [if_pos hs, if_pos hs, if_neg (by omega)]
      · rw [if_neg hs, if_neg hs]
  v := by
    refine ⟨fun s d => if s.val < 128 then X ((n - 1) * 128 + s.val) (640 + (64 + d.val)) else X (n * 128 + (s.val - 128)) (640 + (64 + d.val)), fun s d => ?_, fun s d h => ?_⟩
    · unfold tV1
      pointwise [k0_pay42]
      by_cases hs : s.val < 128
      · rw [dif_pos hs, if_pos hs]
        exact (rd256 harg4 x3 192 _ (by omega) _ d).trans ((B.before _ _).trans (ent _ rfl (by dsimp only <;> omega)))
      · rw [dif_neg hs, if_neg hs]
        exact (rd256 harg5 x4 192 _ (by omega) _ d).trans ((B.own _ _).trans (ent _ rfl (by dsimp only <;> omega)))
    · unfold band
      dsimp only
      by_cases hs : s.val < 128
      · rw [if_pos hs, if_pos hs, if_neg (by omega)]
      · rw [if_neg hs, if_neg hs]
  b := fun j s => by
    refine (harg2.readAt_unread x1 _ _).trans ?_
    refine (congrArg x1 (?_ : _ = ix3 1 j s)).trans (B.bias 1 j s)
    exact funext fun a => Fin.ext (by match a with | ⟨0, _⟩ => rfl | ⟨1, _⟩ => exact (Rect.idx_unit_val _ _ _ _ _).trans (Nat.zero_add _) | ⟨2, _⟩ => exact (Rect.idx_unit_val _ _ _ _ _).trans (Nat.zero_add _))
  a := fun h => by
    match h with
    | 0 =>
      refine (harg1.readAt_unread x0 _ _).trans ((congrArg x0 (?_ : _ = ix2 0 4)).trans (B.sink 4))
      exact funext fun a => Fin.ext (by match a with | ⟨0, _⟩ => rfl | ⟨1, _⟩ => rfl)
    | 1 =>
      refine (harg1.readAt_unread x0 _ _).trans ((congrArg x0 (?_ : _ = ix2 0 5)).trans (B.sink 5))
      exact funext fun a => Fin.ext (by match a with | ⟨0, _⟩ => rfl | ⟨1, _⟩ => rfl)
    | 2 =>
      refine (harg1.readAt_unread x0 _ _).trans ((congrArg x0 (?_ : _ = ix2 0 6)).trans (B.sink 6))
      exact funext fun a => Fin.ext (by match a with | ⟨0, _⟩ => rfl | ⟨1, _⟩ => rfl)
    | 3 =>
      refine (harg1.readAt_unread x0 _ _).trans ((congrArg x0 (?_ : _ = ix2 0 7)).trans (B.sink 7))
      exact funext fun a => Fin.ext (by match a with | ⟨0, _⟩ => rfl | ⟨1, _⟩ => rfl)

end Cert.AttnIdeal.Pure

end
-- ==== Proof.AttnPoint.lean ====
/-
  What the body leaves at one grid point of the attention kernel, in terms of the specification's real numbers: the
  queries' gradient of the point's block, the halves of its keys' and values' gradient, and its part of the sinks'.
-/
module

public import proofs.«01_k».proof.Proof.AttnIdealFrame
public import proofs.«01_k».proof.Proof.AttnTile
public import Idealize.ShloMosaic.Lib.Pipeline.ValueKit
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.ShloMosaic.Tactic

namespace Cert.AttnIdeal.Pure

open Cert.AttnIdeal Cert.AttnIdeal.Gen Cert.AttnIdeal.Body Cert.AttnRow Cert.AttnSpec

/-! ## The pieces the body stores -/

theorem cut29 (z : FVec Ideal S512x64 .f32) (r : Fin 128) (d : Fin 64) : k0_pay29 z (ix2 r d) = z (ix2 ⟨256 + r.val, by omega⟩ d) := by
  pointwise [k0_pay29]

theorem cut31 (z : FVec Ideal S512x64 .f32) (r : Fin 128) (d : Fin 64) : k0_pay31 z (ix2 r d) = z (ix2 ⟨384 + r.val, by omega⟩ d) := by
  pointwise [k0_pay31]

theorem cut61 (z : FVec Ideal S512x64 .f32) (r : Fin 128) (d : Fin 64) : k0_pay61 z (ix2 r d) = z (ix2 ⟨0 + r.val, by omega⟩ d) := by
  pointwise [k0_pay61]

theorem cut63 (z : FVec Ideal S512x64 .f32) (r : Fin 128) (d : Fin 64) : k0_pay63 z (ix2 r d) = z (ix2 ⟨128 + r.val, by omega⟩ d) := by
  pointwise [k0_pay63]

theorem cut65 (z : FVec Ideal S512x64 .f32) (r : Fin 128) (d : Fin 64) : k0_pay65 z (ix2 r d) = z (ix2 ⟨256 + r.val, by omega⟩ d) := by
  pointwise [k0_pay65]

theorem cut67 (z : FVec Ideal S512x64 .f32) (r : Fin 128) (d : Fin 64) : k0_pay67 z (ix2 r d) = z (ix2 ⟨384 + r.val, by omega⟩ d) := by
  pointwise [k0_pay67]

theorem cut25 (v32 : FVec Ideal S512x64 .bf16) (v37 v42 : FVec Ideal S256x64 .bf16) (v80 : FVec Ideal S512x256 .f32) (v81 : FVec Ideal S512x1 .f32) (r : Fin 128) (d : Fin 64) :
    k0_pay25 v32 v37 v42 v80 v81 (ix2 r d) = k0_pay22 v32 v37 v42 v80 v81 (ix2 ⟨0 + r.val, by omega⟩ d) := by
  pointwise [k0_pay25]

theorem cut27 (v32 : FVec Ideal S512x64 .bf16) (v37 v42 : FVec Ideal S256x64 .bf16) (v80 : FVec Ideal S512x256 .f32) (v81 : FVec Ideal S512x1 .f32) (r : Fin 128) (d : Fin 64) :
    k0_pay27 v32 v37 v42 v80 v81 (ix2 r d) = k0_pay22 v32 v37 v42 v80 v81 (ix2 ⟨128 + r.val, by omega⟩ d) := by
  pointwise [k0_pay27]

theorem cut33 (z : FVec Ideal S256x64 .f32) (w : Vec Ideal S128x64 .f32) (r : Fin 128) (d : Fin 64) : k0_pay33 z w (ix2 r d) = w (ix2 r d) + z (ix2 (lo r) d) := by
  pointwise [k0_pay33]
  rfl

theorem cut35 (z : FVec Ideal S256x64 .f32) (w : Vec Ideal S128x64 .f32) (r : Fin 128) (d : Fin 64) : k0_pay35 z w (ix2 r d) = w (ix2 r d) + z (ix2 (lo r) d) := by
  pointwise [k0_pay35]
  rfl

theorem cut69 (z : FVec Ideal S256x64 .f32) (w : Vec Ideal S128x64 .f32) (r : Fin 128) (d : Fin 64) : k0_pay69 z w (ix2 r d) = w (ix2 r d) + z (ix2 (lo r) d) := by
  pointwise [k0_pay69]
  rfl

theorem cut71 (z : FVec Ideal S256x64 .f32) (w : Vec Ideal S128x64 .f32) (r : Fin 128) (d : Fin 64) : k0_pay71 z w (ix2 r d) = w (ix2 r d) + z (ix2 (lo r) d) := by
  pointwise [k0_pay71]
  rfl

theorem cut34 (z : FVec Ideal S256x64 .f32) (r : Fin 128) (d : Fin 64) : k0_pay34 z (ix2 r d) = z (ix2 (hi r) d) := by
  pointwise [k0_pay34]
  rfl

theorem cut36 (z : FVec Ideal S256x64 .f32) (r : Fin 128) (d : Fin 64) : k0_pay36 z (ix2 r d) = z (ix2 (hi r) d) := by
  pointwise [k0_pay36]
  rfl

theorem cut70 (z : FVec Ideal S256x64 .f32) (r : Fin 128) (d : Fin 64) : k0_pay70 z (ix2 r d) = z (ix2 (hi r) d) := by
  pointwise [k0_pay70]
  rfl

theorem cut72 (z : FVec Ideal S256x64 .f32) (r : Fin 128) (d : Fin 64) : k0_pay72 z (ix2 r d) = z (ix2 (hi r) d) := by
  pointwise [k0_pay72]
  rfl

theorem cut28 (z : FVec Ideal S512x1 .f32) (w : Vec Ideal S1x128 .f32) (l : Fin 128) : k0_pay28 z w (ix2 0 l) = w (ix2 0 l) + ∑ r : Fin 128, z (ix2 ⟨128 + r.val, by omega⟩ 0) := by
  pointwise [k0_pay28]

theorem cut30 (z : FVec Ideal S512x1 .f32) (w : Vec Ideal S1x128 .f32) (l : Fin 128) : k0_pay30 z w (ix2 0 l) = w (ix2 0 l) + ∑ r : Fin 128, z (ix2 ⟨256 + r.val, by omega⟩ 0) := by
  pointwise [k0_pay30]

theorem cut32 (z : FVec Ideal S512x1 .f32) (w : Vec Ideal S1x128 .f32) (l : Fin 128) : k0_pay32 z w (ix2 0 l) = w (ix2 0 l) + ∑ r : Fin 128, z (ix2 ⟨384 + r.val, by omega⟩ 0) := by
  pointwise [k0_pay32]

theorem cut62 (z : FVec Ideal S512x1 .f32) (w : Vec Ideal S1x128 .f32) (l : Fin 128) : k0_pay62 z w (ix2 0 l) = w (ix2 0 l) + ∑ r : Fin 128, z (ix2 ⟨0 + r.val, by omega⟩ 0) := by
  pointwise [k0_pay62]

theorem cut64 (z : FVec Ideal S512x1 .f32) (w : Vec Ideal S1x128 .f32) (l : Fin 128) : k0_pay64 z w (ix2 0 l) = w (ix2 0 l) + ∑ r : Fin 128, z (ix2 ⟨128 + r.val, by omega⟩ 0) := by
  pointwise [k0_pay64]

theorem cut66 (z : FVec Ideal S512x1 .f32) (w : Vec Ideal S1x128 .f32) (l : Fin 128) : k0_pay66 z w (ix2 0 l) = w (ix2 0 l) + ∑ r : Fin 128, z (ix2 ⟨256 + r.val, by omega⟩ 0) := by
  pointwise [k0_pay66]

theorem cut68 (z : FVec Ideal S512x1 .f32) (w : Vec Ideal S1x128 .f32) (l : Fin 128) : k0_pay68 z w (ix2 0 l) = w (ix2 0 l) + ∑ r : Fin 128, z (ix2 ⟨384 + r.val, by omega⟩ 0) := by
  pointwise [k0_pay68]

theorem cut3 (z : FVec Ideal S256x64 .f32) (r : Fin 128) (d : Fin 64) : k0_pay3 (k0_pay72 z) (ix2 r d) = z (ix2 (hi r) d) := by
  pointwise [k0_pay3, k0_pay72]
  rfl

theorem cut26 (v32 : FVec Ideal S512x64 .bf16) (v42 : FVec Ideal S256x64 .bf16) (v80 : FVec Ideal S512x256 .f32) (v81 : FVec Ideal S512x1 .f32) (w : Vec Ideal S1x128 .f32) (l : Fin 128) :
    k0_pay26 v32 v42 v80 v81 w (ix2 0 l) = w (ix2 0 l) + ∑ r : Fin 128, k0_pay21 v32 v42 v80 v81 (ix2 ⟨0 + r.val, by omega⟩ 0) := by
  pointwise [k0_pay26]

/-- Both gradients of a pair's rows: two heads of keys, then two of values. -/
def half (A : ℕ → ℝ) (X W : ℕ → ℕ → ℝ) (n : ℕ) (s : Fin 256) (l : Fin 256) : ℝ :=
  if l.val < 128 then dk A X W n (l.val / 64) s ⟨l.val % 64, Nat.mod_lt _ (by omega)⟩ else dv A X W n ((l.val - 128) / 64) s ⟨l.val % 64, Nat.mod_lt _ (by omega)⟩
theorem half_k (A : ℕ → ℝ) (X W : ℕ → ℕ → ℝ) (n g : ℕ) (s : Fin 256) (l : Fin 256) (d : Fin 64) (e : l.val = g * 64 + d.val) (hg : g < 2) :
    (dk A X W n g s d : EReal) = (half A X W n s l : EReal) := by
  unfold half
  rw [if_pos (by omega), show l.val / 64 = g by omega, show (⟨l.val % 64, Nat.mod_lt _ (by omega)⟩ : Fin 64) = d from Fin.ext (by dsimp only; omega)]
theorem half_v (A : ℕ → ℝ) (X W : ℕ → ℕ → ℝ) (n g : ℕ) (s : Fin 256) (l : Fin 256) (d : Fin 64) (e : l.val = 128 + g * 64 + d.val) (hg : g < 2) :
    (dv A X W n g s d : EReal) = (half A X W n s l : EReal) := by
  unfold half
  rw [if_neg (by omega), show (l.val - 128) / 64 = g by omega, show (⟨l.val % 64, Nat.mod_lt _ (by omega)⟩ : Fin 64) = d from Fin.ext (by dsimp only; omega)]

theorem rdS {arg : Memref sig .tc .vmem S128x256 .f32} (h : arg.IsWhole) (x : Vec Ideal S128x256 .f32) (o : ℕ)
    (inb : ∀ a, (![0, o] : Fin 2 → ℕ) a + S128x64.size a ≤ S128x256.size a) (r : Fin 128) (d : Fin 64) (l : Fin 256) (e : l.val = o + d.val) :
    View.readAt (Elt Ideal) arg.view (Rect.unit (s := S128x256) ![0, o] S128x64.size inb).toLoadRect (h.unread x) (ix2 r d) = x (ix2 r l) := by
  refine (h.readAt_unread x _ _).trans (congrArg x ?_)
  exact funext fun a => Fin.ext (by match a with | ⟨0, _⟩ => exact (Rect.idx_unit_val _ _ _ _ _).trans (Nat.zero_add _) | ⟨1, _⟩ => exact (Rect.idx_unit_val _ _ _ _ _).trans e.symm)
theorem rdO {arg : Memref sig .tc .vmem S8x128 .f32} (h : arg.IsWhole) (x : Vec Ideal S8x128 .f32) (o : ℕ)
    (inb : ∀ a, (![o, 0] : Fin 2 → ℕ) a + S1x128.size a ≤ S8x128.size a) (y : Fin 8) (l : Fin 128) (e : y.val = o) :
    View.readAt (Elt Ideal) arg.view (Rect.unit (s := S8x128) ![o, 0] S1x128.size inb).toLoadRect (h.unread x) (ix2 0 l) = x (ix2 y l) := by
  refine (h.readAt_unread x _ _).trans (congrArg x ?_)
  exact funext fun a => Fin.ext (by match a with | ⟨0, _⟩ => exact (Rect.idx_unit_val _ _ _ _ _).trans e.symm | ⟨1, _⟩ => exact (Rect.idx_unit_val _ _ _ _ _).trans (Nat.zero_add _))

theorem zero1 (i : S8x128.Idx) : k0_pay1 (F := Ideal) i = 0 := by
  pointwise [k0_pay1]
theorem col_hit (k : ℕ) (inb : ∀ a, (![0, k] : Fin 2 → ℕ) a + S128x64.size a ≤ S128x256.size a) (w : Vec Ideal S128x64 .f32) (L : List (View.Piece (Elt Ideal) S128x256 .f32))
    (r : Fin 128) (l : Fin 256) (d : Fin 64) (e : l.val = k + d.val) :
    View.canon ((⟨Rect.unit (s := S128x256) ![0, k] S128x64.size inb, w⟩ : View.Piece (Elt Ideal) S128x256 .f32) :: L) (ix2 r l) = w (ix2 r d) := by
  refine (congrArg _ (?_ : _ = (Rect.unit (s := S128x256) ![0, k] S128x64.size inb).emb (ix2 r d))).trans (View.canon_cons_emb (Val := Elt Ideal) (s := S128x256) (e := .f32) (Rect.unit (s := S128x256) ![0, k] S128x64.size inb) w L (ix2 r d))
  exact funext fun a => Fin.ext (by match a with | ⟨0, _⟩ => exact ((Rect.idx_unit_val _ _ _ _ _).trans (Nat.zero_add _)).symm | ⟨1, _⟩ => exact (show l.val = k + 1 * d.val by omega))
theorem col_miss (k : ℕ) (inb : ∀ a, (![0, k] : Fin 2 → ℕ) a + S128x64.size a ≤ S128x256.size a) (w : Vec Ideal S128x64 .f32) (L : List (View.Piece (Elt Ideal) S128x256 .f32))
    (r : Fin 128) (l : Fin 256) (e : ¬(k ≤ l.val ∧ l.val < k + 64)) :
    View.canon ((⟨Rect.unit (s := S128x256) ![0, k] S128x64.size inb, w⟩ : View.Piece (Elt Ideal) S128x256 .f32) :: L) (ix2 r l) = View.canon L (ix2 r l) :=
  View.canon_cons_of_not_mem _ L fun h => e ((Rect.mem_set_unit (s := S128x256) (off := (![0, k] : Fin 2 → ℕ)) (size := S128x64.size) (inb := inb) (i := ix2 r l)).mp h 1)
theorem row_hit (k : ℕ) (inb : ∀ a, (![k, 0] : Fin 2 → ℕ) a + S1x128.size a ≤ S8x128.size a) (w : Vec Ideal S1x128 .f32) (L : List (View.Piece (Elt Ideal) S8x128 .f32))
    (y : Fin 8) (l : Fin 128) (e : y.val = k) : View.canon ((⟨Rect.unit (s := S8x128) ![k, 0] S1x128.size inb, w⟩ : View.Piece (Elt Ideal) S8x128 .f32) :: L) (ix2 y l) = w (ix2 0 l) := by
  refine (congrArg _ (?_ : _ = (Rect.unit (s := S8x128) ![k, 0] S1x128.size inb).emb (ix2 0 l))).trans (View.canon_cons_emb (Val := Elt Ideal) (s := S8x128) (e := .f32) (Rect.unit (s := S8x128) ![k, 0] S1x128.size inb) w L (ix2 0 l))
  exact funext fun a => Fin.ext (by match a with | ⟨0, _⟩ => exact (show y.val = k + 1 * 0 by omega) | ⟨1, _⟩ => exact ((Rect.idx_unit_val _ _ _ _ _).trans (Nat.zero_add _)).symm)
theorem row_miss (k : ℕ) (inb : ∀ a, (![k, 0] : Fin 2 → ℕ) a + S1x128.size a ≤ S8x128.size a) (w : Vec Ideal S1x128 .f32) (L : List (View.Piece (Elt Ideal) S8x128 .f32))
    (y : Fin 8) (l : Fin 128) (e : ¬y.val = k) : View.canon ((⟨Rect.unit (s := S8x128) ![k, 0] S1x128.size inb, w⟩ : View.Piece (Elt Ideal) S8x128 .f32) :: L) (ix2 y l) = View.canon L (ix2 y l) := by
  refine View.canon_cons_of_not_mem _ L fun h => e ?_
  have := (Rect.mem_set_unit (s := S8x128) (off := (![k, 0] : Fin 2 → ℕ)) (size := S1x128.size) (inb := inb) (i := ix2 y l)).mp h 0
  have h1 : k ≤ y.val := this.1
  have h2 : y.val < k + 1 := this.2
  omega

section
variable (m : (ℓ : Loc nD τ sig) → Buf (Elt Ideal) ℓ) (c : Dev nD) (t : Fin cfg0.N) {A : ℕ → ℝ} {X W : ℕ → ℕ → ℝ}
  (B : Blocks (iblk m c 0 t) (iblk m c 1 t) (X0_2 m c t) (iblk m c 3 t) (iblk m c 4 t) (iblk m c 5 t) A X W t.val)

/-- One point's operands, at its own blocks. -/
abbrev Q0 := tQ0 (hst2 t) (X0_2 m c t)
abbrev Q1 := tQ1 (hst2 t) (X0_2 m c t)
abbrev O0 := tO0 (hst5 t) (iblk m c 5 t)
abbrev O1 := tO1 (hst5 t) (iblk m c 5 t)
abbrev K0 := tK0 (hst3 t) (iblk m c 3 t) (hst4 t) (iblk m c 4 t)
abbrev K1 := tK1 (hst3 t) (iblk m c 3 t) (hst4 t) (iblk m c 4 t)
abbrev V0 := tV0 (hst3 t) (iblk m c 3 t) (hst4 t) (iblk m c 4 t)
abbrev V1 := tV1 (hst3 t) (iblk m c 3 t) (hst4 t) (iblk m c 4 t)
abbrev E0 := ex (tS (grid0.coords t)) (Q0 m c t) (K0 m c t) (tB0 (hst1 t) (iblk m c 1 t)) (tA0 (hst0 t) (iblk m c 0 t))
abbrev E1 := ex (tS (grid0.coords t)) (Q1 m c t) (K1 m c t) (tB1 (hst1 t) (iblk m c 1 t)) (tA1 (hst0 t) (iblk m c 0 t))
abbrev Z0 := se (tS (grid0.coords t)) (Q0 m c t) (K0 m c t) (tB0 (hst1 t) (iblk m c 1 t)) (tA0 (hst0 t) (iblk m c 0 t))
abbrev Z1 := se (tS (grid0.coords t)) (Q1 m c t) (K1 m c t) (tB1 (hst1 t) (iblk m c 1 t)) (tA1 (hst0 t) (iblk m c 0 t))

/-- A point's number is its block's. -/
theorem pt : ∀ t : Fin cfg0.N, (grid0.coords t 0).val = t.val := (by decide +kernel : ∀ t : Fin grid0.N, (grid0.coords t 0).val = t.val)

include B
theorem T0 (h : t.val < 32) : Tile A X W t.val 0 (tS (grid0.coords t)) (Q0 m c t) (O0 m c t) (K0 m c t) (V0 m c t) (tB0 (hst1 t) (iblk m c 1 t)) (tA0 (hst0 t) (iblk m c 0 t)) :=
  tile0 (hst0 t) _ (hst1 t) _ (hst2 t) _ (hst3 t) _ (hst4 t) _ (hst5 t) _ B _ (pt t) h
theorem T1 (h : t.val < 32) : Tile A X W t.val 1 (tS (grid0.coords t)) (Q1 m c t) (O1 m c t) (K1 m c t) (V1 m c t) (tB1 (hst1 t) (iblk m c 1 t)) (tA1 (hst0 t) (iblk m c 0 t)) :=
  tile1 (hst0 t) _ (hst1 t) _ (hst2 t) _ (hst3 t) _ (hst4 t) _ (hst5 t) _ B _ (pt t) h

/-- The queries' gradient, by rows of the tile. -/
theorem q0 (h : t.val < 32) (j : Fin 512) (d d' : Fin 64) (hh r : ℕ) (e : hh = hd j) (e' : r = rw' j) (e'' : d = d') :
    k0_pay22 (O0 m c t) (K0 m c t) (V0 m c t) (E0 m c t) (Z0 m c t) (ix2 j d) = (dq A X W t.val hh r d' : EReal) := by
  subst e e' e''
  rw [dqK (T0 m c t B h), Nat.zero_mul, Nat.zero_add]
theorem q1 (h : t.val < 32) (j : Fin 512) (d d' : Fin 64) (hh r : ℕ) (e : hh = 4 + hd j) (e' : r = rw' j) (e'' : d = d') :
    k0_pay22 (O1 m c t) (K1 m c t) (V1 m c t) (E1 m c t) (Z1 m c t) (ix2 j d) = (dq A X W t.val hh r d' : EReal) := by
  subst e e' e''
  rw [dqK (T1 m c t B h), Nat.one_mul]

/-- A head's part of the sinks' gradient. -/
theorem s0 (h : t.val < 32) (i hh : ℕ) (e : hh = 0 * 4 + i ∧ i < 4) (f : Fin 128 → Fin 512) (hf : ∀ r, (f r).val = i * 128 + r.val) :
    ∑ r : Fin 128, k0_pay21 (O0 m c t) (V0 m c t) (E0 m c t) (Z0 m c t) (ix2 (f r) 0) = ((∑ r : Fin 128, sk A X W t.val hh r.val : ℝ) : EReal) := by
  rw [← coe_sum]
  refine Finset.sum_congr rfl fun r _ => ?_
  rw [skK (T0 m c t B h), e.1, show hd (f r) = i by unfold hd; rw [hf]; omega, show rw' (f r) = r.val by unfold rw'; rw [hf]; omega]
theorem s1 (h : t.val < 32) (i hh : ℕ) (e : hh = 1 * 4 + i ∧ i < 4) (f : Fin 128 → Fin 512) (hf : ∀ r, (f r).val = i * 128 + r.val) :
    ∑ r : Fin 128, k0_pay21 (O1 m c t) (V1 m c t) (E1 m c t) (Z1 m c t) (ix2 (f r) 0) = ((∑ r : Fin 128, sk A X W t.val hh r.val : ℝ) : EReal) := by
  rw [← coe_sum]
  refine Finset.sum_congr rfl fun r _ => ?_
  rw [skK (T1 m c t B h), e.1, show hd (f r) = i by unfold hd; rw [hf]; omega, show rw' (f r) = r.val by unfold rw'; rw [hf]; omega]

theorem block6_eq (h : t.val ≠ 0) (h' : t.val < 32) (xo : Vec Ideal S8x128 .f32) (xs : Vec Ideal S128x256 .f32) (r : Fin 128) (l : Fin 512) :
    block6 m c t h h' xo xs (ix2 r l) = (dq A X W t.val (l.val / 64) r.val ⟨l.val % 64, Nat.mod_lt _ (by omega)⟩ : EReal) := by
  unfold block6
  frame_out
  unfold runBlock
  simp only [runB]
  canon_tiles
  all_goals
    idx_vars x
    have e0 : r.val = x0.val := h0
  · have e1 : l.val = 448 + x1.val := h1
    exact (cut67 (k0_pay22 (O1 m c t) (K1 m c t) (V1 m c t) (E1 m c t) (Z1 m c t)) x0 x1).trans (q1 m c t B h' _ _ _ _ _ (by unfold hd; dsimp only; omega) (by unfold rw'; dsimp only; omega) (Fin.ext (by dsimp only; omega)))
  · have e1 : l.val = 384 + x1.val := h1
    exact (cut65 (k0_pay22 (O1 m c t) (K1 m c t) (V1 m c t) (E1 m c t) (Z1 m c t)) x0 x1).trans (q1 m c t B h' _ _ _ _ _ (by unfold hd; dsimp only; omega) (by unfold rw'; dsimp only; omega) (Fin.ext (by dsimp only; omega)))
  · have e1 : l.val = 320 + x1.val := h1
    exact (cut63 (k0_pay22 (O1 m c t) (K1 m c t) (V1 m c t) (E1 m c t) (Z1 m c t)) x0 x1).trans (q1 m c t B h' _ _ _ _ _ (by unfold hd; dsimp only; omega) (by unfold rw'; dsimp only; omega) (Fin.ext (by dsimp only; omega)))
  · have e1 : l.val = 256 + x1.val := h1
    exact (cut61 (k0_pay22 (O1 m c t) (K1 m c t) (V1 m c t) (E1 m c t) (Z1 m c t)) x0 x1).trans (q1 m c t B h' _ _ _ _ _ (by unfold hd; dsimp only; omega) (by unfold rw'; dsimp only; omega) (Fin.ext (by dsimp only; omega)))
  · have e1 : l.val = 192 + x1.val := h1
    exact (cut31 (k0_pay22 (O0 m c t) (K0 m c t) (V0 m c t) (E0 m c t) (Z0 m c t)) x0 x1).trans (q0 m c t B h' _ _ _ _ _ (by unfold hd; dsimp only; omega) (by unfold rw'; dsimp only; omega) (Fin.ext (by dsimp only; omega)))
  · have e1 : l.val = 128 + x1.val := h1
    exact (cut29 (k0_pay22 (O0 m c t) (K0 m c t) (V0 m c t) (E0 m c t) (Z0 m c t)) x0 x1).trans (q0 m c t B h' _ _ _ _ _ (by unfold hd; dsimp only; omega) (by unfold rw'; dsimp only; omega) (Fin.ext (by dsimp only; omega)))
  · have e1 : l.val = 64 + x1.val := h1
    exact (cut27 (O0 m c t) (K0 m c t) (V0 m c t) (E0 m c t) (Z0 m c t) x0 x1).trans (q0 m c t B h' _ _ _ _ _ (by unfold hd; dsimp only; omega) (by unfold rw'; dsimp only; omega) (Fin.ext (by dsimp only; omega)))
  · have e1 : l.val = 0 + x1.val := h1.trans (Nat.zero_add _).symm
    exact (cut25 (O0 m c t) (K0 m c t) (V0 m c t) (E0 m c t) (Z0 m c t) x0 x1).trans (q0 m c t B h' _ _ _ _ _ (by unfold hd; dsimp only; omega) (by unfold rw'; dsimp only; omega) (Fin.ext (by dsimp only; omega)))
/-- What the carry holds: the own half of the block's gradient of the keys, then of the values. -/
theorem blockS_eq (h : t.val ≠ 0) (h' : t.val < 32) (xo : Vec Ideal S8x128 .f32) (xs : Vec Ideal S128x256 .f32) (r : Fin 128) (l : Fin 256) :
    blockS m c t h h' xo xs (ix2 r l) = (half A X W t.val (hi r) l : EReal) := by
  unfold blockS
  frame_out
  unfold runBlock
  simp only [runB]
  canon_tiles
  all_goals
    idx_vars x
    have e0 : r = x0 := Fin.ext h0
    subst e0
  · have e1 : l.val = 192 + x1.val := h1
    exact (cut3 (k0_pay24 (O1 m c t) (E1 m c t) (Z1 m c t)) r x1).trans ((dvK (T1 m c t B h') (hi r) x1).trans (half_v A X W t.val 1 (hi r) l x1 (by omega) (by omega)))
  · have e1 : l.val = 64 + x1.val := h1
    exact (cut70 (k0_pay23 (Q1 m c t) (O1 m c t) (V1 m c t) (E1 m c t) (Z1 m c t)) r x1).trans ((dkK (T1 m c t B h') (hi r) x1).trans (half_k A X W t.val 1 (hi r) l x1 (by omega) (by omega)))
  · have e1 : l.val = 128 + x1.val := h1
    exact (cut36 (k0_pay24 (O0 m c t) (E0 m c t) (Z0 m c t)) r x1).trans ((dvK (T0 m c t B h') (hi r) x1).trans (half_v A X W t.val 0 (hi r) l x1 (by omega) (by omega)))
  · have e1 : l.val = 0 + x1.val := h1.trans (Nat.zero_add _).symm
    exact (cut34 (k0_pay23 (Q0 m c t) (O0 m c t) (V0 m c t) (E0 m c t) (Z0 m c t)) r x1).trans ((dkK (T0 m c t B h') (hi r) x1).trans (half_k A X W t.val 0 (hi r) l x1 (by omega) (by omega)))
/-- What a point writes out: the carry it finds and its part of the block before's gradient. -/
theorem block7_eq (h : t.val ≠ 0) (h' : t.val < 32) (xo : Vec Ideal S8x128 .f32) (xs : Vec Ideal S128x256 .f32) (r : Fin 128) (l : Fin 256) :
    block7 m c t h h' xo xs (ix2 r l) = xs (ix2 r l) + (half A X W t.val (lo r) l : EReal) := by
  unfold block7
  frame_out
  unfold runBlock
  simp only [runB]
  canon_tiles
  all_goals
    idx_vars x
    have e0 : r = x0 := Fin.ext h0
    subst e0
  · have e1 : l.val = 192 + x1.val := h1
    exact (cut71 (k0_pay24 (O1 m c t) (E1 m c t) (Z1 m c t)) _ r x1).trans (congrArg₂ (· + ·) (rdS (Memref.isWhole_whole _) xs 192 _ r x1 l e1)
      ((dvK (T1 m c t B h') (lo r) x1).trans (half_v A X W t.val 1 (lo r) l x1 (by omega) (by omega))))
  · have e1 : l.val = 64 + x1.val := h1
    exact (cut69 (k0_pay23 (Q1 m c t) (O1 m c t) (V1 m c t) (E1 m c t) (Z1 m c t)) _ r x1).trans (congrArg₂ (· + ·) (rdS (Memref.isWhole_whole _) xs 64 _ r x1 l e1)
      ((dkK (T1 m c t B h') (lo r) x1).trans (half_k A X W t.val 1 (lo r) l x1 (by omega) (by omega))))
  · have e1 : l.val = 128 + x1.val := h1
    exact (cut35 (k0_pay24 (O0 m c t) (E0 m c t) (Z0 m c t)) _ r x1).trans (congrArg₂ (· + ·) (rdS (Memref.isWhole_whole _) xs 128 _ r x1 l e1)
      ((dvK (T0 m c t B h') (lo r) x1).trans (half_v A X W t.val 0 (lo r) l x1 (by omega) (by omega))))
  · have e1 : l.val = 0 + x1.val := h1.trans (Nat.zero_add _).symm
    exact (cut33 (k0_pay23 (Q0 m c t) (O0 m c t) (V0 m c t) (E0 m c t) (Z0 m c t)) _ r x1).trans (congrArg₂ (· + ·) (rdS (Memref.isWhole_whole _) xs 0 _ r x1 l e1)
      ((dkK (T0 m c t B h') (lo r) x1).trans (half_k A X W t.val 0 (lo r) l x1 (by omega) (by omega))))
/-- The sinks' gradient: what is there and the point's rows' part. -/
theorem block8_eq (h : t.val ≠ 0) (h' : t.val < 32) (xo : Vec Ideal S8x128 .f32) (xs : Vec Ideal S128x256 .f32) (y : Fin 8) (l : Fin 128) :
    block8 m c t h h' xo xs (ix2 y l) = xo (ix2 y l) + ((∑ r : Fin 128, sk A X W t.val y.val r.val : ℝ) : EReal) := by
  unfold block8
  frame_out
  unfold runBlock
  simp only [runB]
  canon_tiles
  all_goals
    idx_vars x
    have e1 : l = x1 := Fin.ext h1
    subst e1
    obtain rfl : x0 = 0 := Subsingleton.elim _ _
  · have e0 : y.val = 7 := h0
    exact (cut68 (k0_pay21 (O1 m c t) (V1 m c t) (E1 m c t) (Z1 m c t)) _ l).trans (congrArg₂ (· + ·) (rdO (hst8 t) xo 7 _ y l e0) (s1 m c t B h' 3 y.val (by omega) (fun r => ⟨384 + r.val, by omega⟩) (fun r => rfl)))
  · have e0 : y.val = 6 := h0
    exact (cut66 (k0_pay21 (O1 m c t) (V1 m c t) (E1 m c t) (Z1 m c t)) _ l).trans (congrArg₂ (· + ·) (rdO (hst8 t) xo 6 _ y l e0) (s1 m c t B h' 2 y.val (by omega) (fun r => ⟨256 + r.val, by omega⟩) (fun r => rfl)))
  · have e0 : y.val = 5 := h0
    exact (cut64 (k0_pay21 (O1 m c t) (V1 m c t) (E1 m c t) (Z1 m c t)) _ l).trans (congrArg₂ (· + ·) (rdO (hst8 t) xo 5 _ y l e0) (s1 m c t B h' 1 y.val (by omega) (fun r => ⟨128 + r.val, by omega⟩) (fun r => rfl)))
  · have e0 : y.val = 4 := h0
    exact (cut62 (k0_pay21 (O1 m c t) (V1 m c t) (E1 m c t) (Z1 m c t)) _ l).trans (congrArg₂ (· + ·) (rdO (hst8 t) xo 4 _ y l e0) (s1 m c t B h' 0 y.val (by omega) (fun r => ⟨0 + r.val, by omega⟩) (fun r => rfl)))
  · have e0 : y.val = 3 := h0
    exact (cut32 (k0_pay21 (O0 m c t) (V0 m c t) (E0 m c t) (Z0 m c t)) _ l).trans (congrArg₂ (· + ·) (rdO (hst8 t) xo 3 _ y l e0) (s0 m c t B h' 3 y.val (by omega) (fun r => ⟨384 + r.val, by omega⟩) (fun r => rfl)))
  · have e0 : y.val = 2 := h0
    exact (cut30 (k0_pay21 (O0 m c t) (V0 m c t) (E0 m c t) (Z0 m c t)) _ l).trans (congrArg₂ (· + ·) (rdO (hst8 t) xo 2 _ y l e0) (s0 m c t B h' 2 y.val (by omega) (fun r => ⟨256 + r.val, by omega⟩) (fun r => rfl)))
  · have e0 : y.val = 1 := h0
    exact (cut28 (k0_pay21 (O0 m c t) (V0 m c t) (E0 m c t) (Z0 m c t)) _ l).trans (congrArg₂ (· + ·) (rdO (hst8 t) xo 1 _ y l e0) (s0 m c t B h' 1 y.val (by omega) (fun r => ⟨128 + r.val, by omega⟩) (fun r => rfl)))
  · have e0 : y.val = 0 := h0
    exact (cut26 (O0 m c t) (V0 m c t) (E0 m c t) (Z0 m c t) _ l).trans (congrArg₂ (· + ·) (rdO (hst8 t) xo 0 _ y l e0) (s0 m c t B h' 0 y.val (by omega) (fun r => ⟨0 + r.val, by omega⟩) (fun r => rfl)))
theorem first6_eq (h : t.val = 0) (r : Fin 128) (l : Fin 512) :
    first6 m c t h (ix2 r l) = (dq A X W t.val (l.val / 64) r.val ⟨l.val % 64, Nat.mod_lt _ (by omega)⟩ : EReal) := by
  unfold first6
  frame_out
  unfold runFirst
  simp only [runA, runA.sl.HS_4, runA.sl.HS_3, runA.sl.HS_2, runA.sl.HS_1, runA.sl.H8_8, runA.sl.H8_7, runA.sl.H8_6, runA.sl.H8_5, runA.sl.H8_4, runA.sl.H8_3, runA.sl.H8_2, runA.sl.H8_1]
  canon_tiles
  all_goals
    idx_vars x
    have e0 : r.val = x0.val := h0
  · have e1 : l.val = 448 + x1.val := h1
    exact (cut67 (k0_pay22 (O1 m c t) (K1 m c t) (V1 m c t) (E1 m c t) (Z1 m c t)) x0 x1).trans (q1 m c t B (by omega) _ _ _ _ _ (by unfold hd; dsimp only; omega) (by unfold rw'; dsimp only; omega) (Fin.ext (by dsimp only; omega)))
  · have e1 : l.val = 384 + x1.val := h1
    exact (cut65 (k0_pay22 (O1 m c t) (K1 m c t) (V1 m c t) (E1 m c t) (Z1 m c t)) x0 x1).trans (q1 m c t B (by omega) _ _ _ _ _ (by unfold hd; dsimp only; omega) (by unfold rw'; dsimp only; omega) (Fin.ext (by dsimp only; omega)))
  · have e1 : l.val = 320 + x1.val := h1
    exact (cut63 (k0_pay22 (O1 m c t) (K1 m c t) (V1 m c t) (E1 m c t) (Z1 m c t)) x0 x1).trans (q1 m c t B (by omega) _ _ _ _ _ (by unfold hd; dsimp only; omega) (by unfold rw'; dsimp only; omega) (Fin.ext (by dsimp only; omega)))
  · have e1 : l.val = 256 + x1.val := h1
    exact (cut61 (k0_pay22 (O1 m c t) (K1 m c t) (V1 m c t) (E1 m c t) (Z1 m c t)) x0 x1).trans (q1 m c t B (by omega) _ _ _ _ _ (by unfold hd; dsimp only; omega) (by unfold rw'; dsimp only; omega) (Fin.ext (by dsimp only; omega)))
  · have e1 : l.val = 192 + x1.val := h1
    exact (cut31 (k0_pay22 (O0 m c t) (K0 m c t) (V0 m c t) (E0 m c t) (Z0 m c t)) x0 x1).trans (q0 m c t B (by omega) _ _ _ _ _ (by unfold hd; dsimp only; omega) (by unfold rw'; dsimp only; omega) (Fin.ext (by dsimp only; omega)))
  · have e1 : l.val = 128 + x1.val := h1
    exact (cut29 (k0_pay22 (O0 m c t) (K0 m c t) (V0 m c t) (E0 m c t) (Z0 m c t)) x0 x1).trans (q0 m c t B (by omega) _ _ _ _ _ (by unfold hd; dsimp only; omega) (by unfold rw'; dsimp only; omega) (Fin.ext (by dsimp only; omega)))
  · have e1 : l.val = 64 + x1.val := h1
    exact (cut27 (O0 m c t) (K0 m c t) (V0 m c t) (E0 m c t) (Z0 m c t) x0 x1).trans (q0 m c t B (by omega) _ _ _ _ _ (by unfold hd; dsimp only; omega) (by unfold rw'; dsimp only; omega) (Fin.ext (by dsimp only; omega)))
  · have e1 : l.val = 0 + x1.val := h1.trans (Nat.zero_add _).symm
    exact (cut25 (O0 m c t) (K0 m c t) (V0 m c t) (E0 m c t) (Z0 m c t) x0 x1).trans (q0 m c t B (by omega) _ _ _ _ _ (by unfold hd; dsimp only; omega) (by unfold rw'; dsimp only; omega) (Fin.ext (by dsimp only; omega)))
/-- What the carry holds: the own half of the block's gradient of the keys, then of the values. -/
theorem firstS_eq (h : t.val = 0) (r : Fin 128) (l : Fin 256) :
    firstS m c t h (ix2 r l) = (half A X W t.val (hi r) l : EReal) := by
  unfold firstS
  frame_out
  unfold runFirst
  simp only [runA, runA.sl.HS_4, runA.sl.HS_3, runA.sl.HS_2, runA.sl.HS_1, runA.sl.H8_8, runA.sl.H8_7, runA.sl.H8_6, runA.sl.H8_5, runA.sl.H8_4, runA.sl.H8_3, runA.sl.H8_2, runA.sl.H8_1]
  by_cases e192 : 192 ≤ l.val ∧ l.val < 192 + 64
  · refine (col_hit 192 _ _ _ r l ⟨l.val - 192, by omega⟩ (by dsimp only; omega)).trans ?_
    exact (cut3 (k0_pay24 (O1 m c t) (E1 m c t) (Z1 m c t)) r _).trans ((dvK (T1 m c t B (by omega)) (hi r) _).trans (half_v A X W t.val 1 (hi r) l _ (by dsimp only; omega) (by omega)))
  refine (col_miss 192 _ _ _ r l e192).trans ?_
  by_cases e64 : 64 ≤ l.val ∧ l.val < 64 + 64
  · refine (col_hit 64 _ _ _ r l ⟨l.val - 64, by omega⟩ (by dsimp only; omega)).trans ?_
    exact (cut70 (k0_pay23 (Q1 m c t) (O1 m c t) (V1 m c t) (E1 m c t) (Z1 m c t)) r _).trans ((dkK (T1 m c t B (by omega)) (hi r) _).trans (half_k A X W t.val 1 (hi r) l _ (by dsimp only; omega) (by omega)))
  refine (col_miss 64 _ _ _ r l e64).trans ?_
  by_cases e128 : 128 ≤ l.val ∧ l.val < 128 + 64
  · refine (col_hit 128 _ _ _ r l ⟨l.val - 128, by omega⟩ (by dsimp only; omega)).trans ?_
    exact (cut36 (k0_pay24 (O0 m c t) (E0 m c t) (Z0 m c t)) r _).trans ((dvK (T0 m c t B (by omega)) (hi r) _).trans (half_v A X W t.val 0 (hi r) l _ (by dsimp only; omega) (by omega)))
  refine (col_miss 128 _ _ _ r l e128).trans ?_
  by_cases e0 : 0 ≤ l.val ∧ l.val < 0 + 64
  · refine (col_hit 0 _ _ _ r l ⟨l.val - 0, by omega⟩ (by dsimp only; omega)).trans ?_
    exact (cut34 (k0_pay23 (Q0 m c t) (O0 m c t) (V0 m c t) (E0 m c t) (Z0 m c t)) r _).trans ((dkK (T0 m c t B (by omega)) (hi r) _).trans (half_k A X W t.val 0 (hi r) l _ (by dsimp only; omega) (by omega)))
  refine (col_miss 0 _ _ _ r l e0).trans ?_
  exfalso; omega
/-- The sinks' gradient: what is there and the point's rows' part. -/
theorem first8_eq (h : t.val = 0) (y : Fin 8) (l : Fin 128) :
    first8 m c t h (ix2 y l) = 0 + ((∑ r : Fin 128, sk A X W t.val y.val r.val : ℝ) : EReal) := by
  unfold first8
  frame_out
  unfold runFirst
  simp only [runA]
  by_cases e7 : y.val = 7
  · refine (row_hit 7 _ _ _ y l e7).trans ((cut68 (k0_pay21 (O1 m c t) (V1 m c t) (E1 m c t) (Z1 m c t)) _ l).trans (congrArg₂ (· + ·) (?_ : runA.sl.v303 c (grid0.coords t) (st0_0 t) (hst0 t) (st0_1 t) (hst1 t) (st0_2 t) (hst2 t) (st0_3 t) (hst3 t) (st0_4 t) (hst4 t) (st0_5 t) (hst5 t) (st0_8 t) (iblk m c 0 t) (iblk m c 1 t) (X0_2 m c t) (iblk m c 3 t) (iblk m c 4 t) (iblk m c 5 t) (ix2 0 l) = 0) (s1 m c t B (by omega) 3 y.val (by omega) (fun r => ⟨384 + r.val, by omega⟩) (fun r => rfl))))
    unfold runA.sl.v303
    simp (disch := decide +kernel) only [runA.sl.H8_8, runA.sl.H8_7, runA.sl.H8_6, runA.sl.H8_5, runA.sl.H8_4, runA.sl.H8_3, runA.sl.H8_2, runA.sl.H8_1, View.readCov_skip]
    exact (congrFun (View.readCov_fill _ _ _ _ _ (by decide)) _).trans (zero1 _)
  refine (row_miss 7 _ _ _ y l e7).trans ?_
  by_cases e6 : y.val = 6
  · refine (row_hit 6 _ _ _ y l e6).trans ((cut66 (k0_pay21 (O1 m c t) (V1 m c t) (E1 m c t) (Z1 m c t)) _ l).trans (congrArg₂ (· + ·) (?_ : runA.sl.v292 c (grid0.coords t) (st0_0 t) (hst0 t) (st0_1 t) (hst1 t) (st0_2 t) (hst2 t) (st0_3 t) (hst3 t) (st0_4 t) (hst4 t) (st0_5 t) (hst5 t) (st0_8 t) (iblk m c 0 t) (iblk m c 1 t) (X0_2 m c t) (iblk m c 3 t) (iblk m c 4 t) (iblk m c 5 t) (ix2 0 l) = 0) (s1 m c t B (by omega) 2 y.val (by omega) (fun r => ⟨256 + r.val, by omega⟩) (fun r => rfl))))
    unfold runA.sl.v292
    simp (disch := decide +kernel) only [runA.sl.H8_7, runA.sl.H8_6, runA.sl.H8_5, runA.sl.H8_4, runA.sl.H8_3, runA.sl.H8_2, runA.sl.H8_1, View.readCov_skip]
    exact (congrFun (View.readCov_fill _ _ _ _ _ (by decide)) _).trans (zero1 _)
  refine (row_miss 6 _ _ _ y l e6).trans ?_
  by_cases e5 : y.val = 5
  · refine (row_hit 5 _ _ _ y l e5).trans ((cut64 (k0_pay21 (O1 m c t) (V1 m c t) (E1 m c t) (Z1 m c t)) _ l).trans (congrArg₂ (· + ·) (?_ : runA.sl.v281 c (grid0.coords t) (st0_0 t) (hst0 t) (st0_1 t) (hst1 t) (st0_2 t) (hst2 t) (st0_3 t) (hst3 t) (st0_4 t) (hst4 t) (st0_5 t) (hst5 t) (st0_8 t) (iblk m c 0 t) (iblk m c 1 t) (X0_2 m c t) (iblk m c 3 t) (iblk m c 4 t) (iblk m c 5 t) (ix2 0 l) = 0) (s1 m c t B (by omega) 1 y.val (by omega) (fun r => ⟨128 + r.val, by omega⟩) (fun r => rfl))))
    unfold runA.sl.v281
    simp (disch := decide +kernel) only [runA.sl.H8_6, runA.sl.H8_5, runA.sl.H8_4, runA.sl.H8_3, runA.sl.H8_2, runA.sl.H8_1, View.readCov_skip]
    exact (congrFun (View.readCov_fill _ _ _ _ _ (by decide)) _).trans (zero1 _)
  refine (row_miss 5 _ _ _ y l e5).trans ?_
  by_cases e4 : y.val = 4
  · refine (row_hit 4 _ _ _ y l e4).trans ((cut62 (k0_pay21 (O1 m c t) (V1 m c t) (E1 m c t) (Z1 m c t)) _ l).trans (congrArg₂ (· + ·) (?_ : runA.sl.v270 c (grid0.coords t) (st0_0 t) (hst0 t) (st0_1 t) (hst1 t) (st0_2 t) (hst2 t) (st0_3 t) (hst3 t) (st0_4 t) (hst4 t) (st0_5 t) (hst5 t) (st0_8 t) (iblk m c 0 t) (iblk m c 1 t) (X0_2 m c t) (iblk m c 3 t) (iblk m c 4 t) (iblk m c 5 t) (ix2 0 l) = 0) (s1 m c t B (by omega) 0 y.val (by omega) (fun r => ⟨0 + r.val, by omega⟩) (fun r => rfl))))
    unfold runA.sl.v270
    simp (disch := decide +kernel) only [runA.sl.H8_5, runA.sl.H8_4, runA.sl.H8_3, runA.sl.H8_2, runA.sl.H8_1, View.readCov_skip]
    exact (congrFun (View.readCov_fill _ _ _ _ _ (by decide)) _).trans (zero1 _)
  refine (row_miss 4 _ _ _ y l e4).trans ?_
  by_cases e3 : y.val = 3
  · refine (row_hit 3 _ _ _ y l e3).trans ((cut32 (k0_pay21 (O0 m c t) (V0 m c t) (E0 m c t) (Z0 m c t)) _ l).trans (congrArg₂ (· + ·) (?_ : runA.sl.v146 c (grid0.coords t) (st0_0 t) (hst0 t) (st0_1 t) (hst1 t) (st0_2 t) (hst2 t) (st0_3 t) (hst3 t) (st0_4 t) (hst4 t) (st0_5 t) (hst5 t) (st0_8 t) (iblk m c 0 t) (iblk m c 1 t) (X0_2 m c t) (iblk m c 3 t) (iblk m c 4 t) (iblk m c 5 t) (ix2 0 l) = 0) (s0 m c t B (by omega) 3 y.val (by omega) (fun r => ⟨384 + r.val, by omega⟩) (fun r => rfl))))
    unfold runA.sl.v146
    simp (disch := decide +kernel) only [runA.sl.H8_4, runA.sl.H8_3, runA.sl.H8_2, runA.sl.H8_1, View.readCov_skip]
    exact (congrFun (View.readCov_fill _ _ _ _ _ (by decide)) _).trans (zero1 _)
  refine (row_miss 3 _ _ _ y l e3).trans ?_
  by_cases e2 : y.val = 2
  · refine (row_hit 2 _ _ _ y l e2).trans ((cut30 (k0_pay21 (O0 m c t) (V0 m c t) (E0 m c t) (Z0 m c t)) _ l).trans (congrArg₂ (· + ·) (?_ : runA.sl.v135 c (grid0.coords t) (st0_0 t) (hst0 t) (st0_1 t) (hst1 t) (st0_2 t) (hst2 t) (st0_3 t) (hst3 t) (st0_4 t) (hst4 t) (st0_5 t) (hst5 t) (st0_8 t) (iblk m c 0 t) (iblk m c 1 t) (X0_2 m c t) (iblk m c 3 t) (iblk m c 4 t) (iblk m c 5 t) (ix2 0 l) = 0) (s0 m c t B (by omega) 2 y.val (by omega) (fun r => ⟨256 + r.val, by omega⟩) (fun r => rfl))))
    unfold runA.sl.v135
    simp (disch := decide +kernel) only [runA.sl.H8_3, runA.sl.H8_2, runA.sl.H8_1, View.readCov_skip]
    exact (congrFun (View.readCov_fill _ _ _ _ _ (by decide)) _).trans (zero1 _)
  refine (row_miss 2 _ _ _ y l e2).trans ?_
  by_cases e1 : y.val = 1
  · refine (row_hit 1 _ _ _ y l e1).trans ((cut28 (k0_pay21 (O0 m c t) (V0 m c t) (E0 m c t) (Z0 m c t)) _ l).trans (congrArg₂ (· + ·) (?_ : runA.sl.v124 c (grid0.coords t) (st0_0 t) (hst0 t) (st0_1 t) (hst1 t) (st0_2 t) (hst2 t) (st0_3 t) (hst3 t) (st0_4 t) (hst4 t) (st0_5 t) (hst5 t) (st0_8 t) (iblk m c 0 t) (iblk m c 1 t) (X0_2 m c t) (iblk m c 3 t) (iblk m c 4 t) (iblk m c 5 t) (ix2 0 l) = 0) (s0 m c t B (by omega) 1 y.val (by omega) (fun r => ⟨128 + r.val, by omega⟩) (fun r => rfl))))
    unfold runA.sl.v124
    simp (disch := decide +kernel) only [runA.sl.H8_2, runA.sl.H8_1, View.readCov_skip]
    exact (congrFun (View.readCov_fill _ _ _ _ _ (by decide)) _).trans (zero1 _)
  refine (row_miss 1 _ _ _ y l e1).trans ?_
  by_cases e0 : y.val = 0
  · refine (row_hit 0 _ _ _ y l e0).trans ((cut26 (O0 m c t) (V0 m c t) (E0 m c t) (Z0 m c t) _ l).trans (congrArg₂ (· + ·) (?_ : runA.sl.v113 c (st0_8 t) (ix2 0 l) = 0) (s0 m c t B (by omega) 0 y.val (by omega) (fun r => ⟨0 + r.val, by omega⟩) (fun r => rfl))))
    unfold runA.sl.v113
    simp (disch := decide +kernel) only [runA.sl.H8_1, View.readCov_skip]
    exact (congrFun (View.readCov_fill _ _ _ _ _ (by decide)) _).trans (zero1 _)
  refine (row_miss 0 _ _ _ y l e0).trans ?_
  exfalso; omega

end

end Cert.AttnIdeal.Pure

end
-- ==== Proof.AttnBlocks.lean ====
/-
  The blocks the attention kernel finds at each grid point, in terms of the run's arguments.
-/
module

public import proofs.«01_k».proof.Proof.AttnPoint

@[expose] public section

set_option maxRecDepth 16384

noncomputable section

open Idealize.ShloMosaic Idealize.ShloMosaic.TcCoe Idealize.ShloMosaic.Tactic

namespace Cert.AttnIdeal.Pure

open Cert.AttnIdeal Cert.AttnIdeal.Gen Cert.AttnIdeal.Body Cert.AttnRow Cert.AttnSpec

variable (m : (ℓ : Loc nD τ sig) → Buf (Elt Ideal) ℓ) (c : Dev nD) (t : Fin cfg0.N)

/-- The block each argument window takes at each grid point of a block. -/
theorem idx : ∀ t : Fin cfg0.N, t.val < 32 → win0_0.index t = ![0, 0] ∧ win0_1.index t = ![0, 0, 0] ∧ win0_2.index t = ![t.val, 0]
    ∧ win0_3.index t = ![t.val - 1, 2] ∧ win0_4.index t = ![t.val, 2] ∧ win0_5.index t = ![t.val, 0] :=
  (by decide +kernel : ∀ t : Fin grid0.N, _)

theorem V_v0 : V m c main_v0 = shapeCast S1x8 (m ((c : Thread nD τ).loc main_arg0)) shapeCasts_S8_S1x8 := by
  unfold V
  simp only [hostOps0, hostOps0_1, hostOps0_2, List.flatten_cons, List.flatten_nil, List.append_nil, List.cons_append, List.nil_append]
  after_results
  try rfl

/-- The sinks. -/
theorem blk0 (h : t.val < 32) (y : Fin 8) : iblk m c 0 t (ix2 0 y) = m ((c : Thread nD τ).loc main_arg0) (ix1 y) := by
  blk_simp [iblk]
  rw [V_v0]
  pointwise
  blk_ext [idx t h]

/-- The table of biases the host prepares. -/
def table : FVec Ideal S2x512x256 .f32 :=
  select (andi
      (cmpi CmpIPredicate.sge (subi (addi (andi (iotaInDim S2x512x256 32 1) (broadcastInDim S2x512x256 ![] bcast_S_S2x512x256 (constantI S_ 32 127#32)))
        (broadcastInDim S2x512x256 ![] bcast_S_S2x512x256 (constantI S_ 32 128#32))) (iotaInDim S2x512x256 32 2))
        (broadcastInDim S2x512x256 ![] bcast_S_S2x512x256 (constantI S_ 32 0#32)))
      (cmpi CmpIPredicate.slt (subi (addi (andi (iotaInDim S2x512x256 32 1) (broadcastInDim S2x512x256 ![] bcast_S_S2x512x256 (constantI S_ 32 127#32)))
        (broadcastInDim S2x512x256 ![] bcast_S_S2x512x256 (constantI S_ 32 128#32))) (iotaInDim S2x512x256 32 2))
        (broadcastInDim S2x512x256 ![] bcast_S_S2x512x256 (constantI S_ 32 128#32))))
    (mulf (Host.negf (Host.exp (mulf (broadcastInDim S2x512x256 ![] bcast_S_S2x512x256 (constant S_ FTy.f32 1060205080#32))
        (Host.negf (sitofp FTy.f32 (addi (addi (muli (broadcastInDim S2x512x256 ![] bcast_S_S2x512x256 (constantI S_ 32 4#32)) (iotaInDim S2x512x256 32 0))
          (Host.shrsi (iotaInDim S2x512x256 32 1) (broadcastInDim S2x512x256 ![] bcast_S_S2x512x256 (constantI S_ 32 7#32))))
          (broadcastInDim S2x512x256 ![] bcast_S_S2x512x256 (constantI S_ 32 1#32))))))))
      (sitofp FTy.f32 (subi (addi (andi (iotaInDim S2x512x256 32 1) (broadcastInDim S2x512x256 ![] bcast_S_S2x512x256 (constantI S_ 32 127#32)))
        (broadcastInDim S2x512x256 ![] bcast_S_S2x512x256 (constantI S_ 32 128#32))) (iotaInDim S2x512x256 32 2))))
    (broadcastInDim S2x512x256 ![] bcast_S_S2x512x256 (constant S_ FTy.f32 4286578688#32))

theorem V_v29 : V m c main_v29 = table := by
  unfold V
  simp only [hostOps0, hostOps0_1, hostOps0_2, List.flatten_cons, List.flatten_nil, List.append_nil, List.cons_append, List.nil_append]
  after_results
  rfl

theorem word_row : ∀ j : Fin 512, IntOp.andi (BitVec.ofNat 32 j.val) 127#32 = BitVec.ofNat 32 (j.val % 128) := by decide +kernel
theorem word_hd : ∀ (g : Fin 2) (j : Fin 512), (IntOp.addi (IntOp.addi (IntOp.muli 4#32 (BitVec.ofNat 32 g.val)) (IntOp.shrsi .host (BitVec.ofNat 32 j.val) 7#32)) 1#32).toInt
    = ((g.val * 4 + j.val / 128 : ℕ) : ℤ) + 1 := by decide +kernel
theorem word_d : ∀ (r : Fin 128) (s : Fin 256), (AttnSpec.dist r s).toInt = (r.val : ℤ) + 128 - s.val := by decide +kernel

/-- A row of the table: the bias of a key seen, minus infinity elsewhere. -/
theorem table_row (g : Fin 2) (j : Fin 512) (s : Fin 256) :
    table (ix3 g j s) = if rw' j < s.val ∧ s.val ≤ rw' j + 128 then ((-tilt (g.val * 4 + hd j) * ((rw' j : ℝ) + 128 - s.val) : ℝ) : EReal) else ⊥ := by
  have hd1 := word_d ⟨j.val % 128, by omega⟩ s
  have hw := word_window ⟨j.val % 128, by omega⟩ s
  unfold AttnSpec.dist at hd1 hw
  pointwise [table]
  rw [word_row, hw, cbot]
  have e1 : FloatOps.sitofp (F := Ideal) .f32 (IntOp.addi (IntOp.addi (IntOp.muli 4#32 (BitVec.ofNat 32 g.val)) (IntOp.shrsi .host (BitVec.ofNat 32 j.val) 7#32)) 1#32)
      = (((g.val * 4 + hd j : ℕ) : ℝ) + 1 : ℝ) := by
    show (((IntOp.addi _ _ : BitVec 32).toInt : ℝ) : EReal) = _
    rw [word_hd g j]; push_cast; rfl
  have e2 : FloatOps.sitofp (F := Ideal) .f32 (IntOp.subi (IntOp.addi (BitVec.ofNat 32 (j.val % 128)) 128#32) (BitVec.ofNat 32 s.val))
      = (((rw' j : ℝ) + 128 - s.val : ℝ) : EReal) := by
    show (((IntOp.subi _ _ : BitVec 32).toInt : ℝ) : EReal) = _
    rw [hd1]; push_cast; rfl
  rw [e1, e2, cln2, ← EReal.coe_neg, ← EReal.coe_mul]
  show Scalar.select _ (-((Real.exp _ : ℝ) : EReal) * _) _ = _
  rw [← EReal.coe_neg, ← EReal.coe_mul]
  show Scalar.select (BitVec.ofBool (decide (rw' j < s.val ∧ s.val ≤ rw' j + 128))) _ _ = _
  by_cases h : rw' j < s.val ∧ s.val ≤ rw' j + 128
  · rw [if_pos h, decide_eq_true h]; rfl
  · rw [if_neg h, decide_eq_false h]; rfl

theorem blk1 (h : t.val < 32) (g : Fin 2) (j : Fin 512) (s : Fin 256) : iblk m c 1 t (ix3 g j s) = table (ix3 g j s) := by
  blk_simp [iblk]
  rw [V_v29]
  blk_ext [idx t h]

theorem blk2 (h : t.val < 32) (r : Fin 128) (l : Fin 512) : X0_2 m c t (ix2 r l) = m ((c : Thread nD τ).loc main_arg1) (ix2 ⟨t.val * 128 + r.val, by omega⟩ ⟨l.val, by omega⟩) := by
  unfold X0_2 Pipeline.Window.fill
  rw [dif_pos (moved0_2 t _)]
  blk_simp [iblk]
  entry_read
  pointwise
  blk_ext [idx t h]

theorem blk3 (h : t.val < 32) (r : Fin 128) (l : Fin 256) : iblk m c 3 t (ix2 r l) = m ((c : Thread nD τ).loc main_arg1) (ix2 ⟨(t.val - 1) * 128 + r.val, by omega⟩ ⟨512 + l.val, by omega⟩) := by
  blk_simp [iblk]
  entry_read
  pointwise
  blk_ext [idx t h]

theorem blk4 (h : t.val < 32) (r : Fin 128) (l : Fin 256) : iblk m c 4 t (ix2 r l) = m ((c : Thread nD τ).loc main_arg1) (ix2 ⟨t.val * 128 + r.val, by omega⟩ ⟨512 + l.val, by omega⟩) := by
  blk_simp [iblk]
  entry_read
  pointwise
  blk_ext [idx t h]

theorem blk5 (h : t.val < 32) (r : Fin 128) (l : Fin 512) : iblk m c 5 t (ix2 r l) = m ((c : Thread nD τ).loc main_arg2) (ix2 ⟨t.val * 128 + r.val, by omega⟩ l) := by
  blk_simp [iblk]
  entry_read
  pointwise
  blk_ext [idx t h]

/-- The blocks of a point, for arguments that are real numbers. -/
theorem blocks {A : ℕ → ℝ} {X W : ℕ → ℕ → ℝ} (hA : ∀ y : Fin 8, m ((c : Thread nD τ).loc main_arg0) (ix1 y) = ((A y.val : ℝ) : EReal))
    (hX : ∀ (a : Fin 4096) (b : Fin 768), m ((c : Thread nD τ).loc main_arg1) (ix2 a b) = ((X a.val b.val : ℝ) : EReal))
    (hW : ∀ (a : Fin 4096) (b : Fin 512), m ((c : Thread nD τ).loc main_arg2) (ix2 a b) = ((W a.val b.val : ℝ) : EReal)) (h : t.val < 32) :
    Blocks (iblk m c 0 t) (iblk m c 1 t) (X0_2 m c t) (iblk m c 3 t) (iblk m c 4 t) (iblk m c 5 t) A X W t.val where
  sink y := (blk0 m c t h y).trans (hA y)
  bias g j s := (blk1 m c t h g j s).trans (table_row g j s)
  q r l := (blk2 m c t h r l).trans (hX _ _)
  before r l := (blk3 m c t h r l).trans (hX _ _)
  own r l := (blk4 m c t h r l).trans (hX _ _)
  ct r l := (blk5 m c t h r l).trans (hW _ _)

end Cert.AttnIdeal.Pure

end
-- ==== Proof.AttnRefPure.lean ====
/-
  The attention reference, step by step, where every argument is finite: its three results are the real numbers of the
  specification.
-/
module

public import proofs.«01_k».proof.Proof.Gen.AttnRefIdeal.Read
public import proofs.«01_k».proof.Proof.AttnSpec
public import Idealize.ShloMosaic.Lib.KernelVsHost
public import Idealize.ShloMosaic.Lib.Pipeline.ValueKit

@[expose] public section

set_option maxRecDepth 16384

noncomputable section

open Idealize.ShloMosaic Idealize.ShloMosaic.TcCoe Idealize.ShloMosaic.Tactic

namespace Cert.AttnRefIdeal.Pure

open Cert.AttnRefIdeal Cert.AttnRefIdeal.Read Cert.AttnRow Cert.AttnSpec

variable (x0 : (⟨S8, .f32⟩ : BufTy).Contents (Elt Ideal)) (x1 : (⟨S4096x768, .f32⟩ : BufTy).Contents (Elt Ideal))
  (x2 : (⟨S4096x512, .f32⟩ : BufTy).Contents (Elt Ideal))
variable (A : ℕ → ℝ) (X W : ℕ → ℕ → ℝ)
variable (g : Fin 2) (i : Fin 4) (n : Fin 32) (r : Fin 128) (s : Fin 256) (d : Fin 64)

/-! ## The reductions -/

/-- The largest score of a row. -/
theorem r80 : val_main_v80 (F := Ideal) x1 (ix5 0 g i n r) = top (fun s => val_main_v77_0 (F := Ideal) x1 (ix6 0 g i n r s)) := by
  have h : S1x2x4x32x128x256.Reduces [5] S1x2x4x32x128 := by decide
  unfold val_main_v80
  rw [Host.reduce_eq_fold_single (FloatOps.maximumf (F := Ideal) (φ := .f32)) _ _ _ h]
  unfold top
  rw [show val_main_cst_13 (F := Ideal) (Shape.Idx.first Gen.h_S_) = (⊥ : EReal) from cbot]
  refine congrArg (fun f => Finset.fold max (⊥ : EReal) f Finset.univ) (funext fun k => ?_)
  exact congrArg (val_main_v77_0 (F := Ideal) x1) (funext fun a => Fin.ext (by match a with | ⟨0, _⟩ => rfl | ⟨1, _⟩ => rfl | ⟨2, _⟩ => rfl | ⟨3, _⟩ => rfl | ⟨4, _⟩ => rfl | ⟨5, _⟩ => rfl))

/-- A sum over two axes of extent one is the one term. -/
theorem sum05 (v : S1x2x4x32x128x1.Idx → EReal) (z : EReal) :
    Ideal.hostReduceAdd Gen.reducesTo_S1x2x4x32x128x1_S2x4x32x128_d0_5 v z (ix4 g i n r) = z + v (ix6 0 g i n r 0) := by
  unfold Ideal.hostReduceAdd
  refine congrArg (z + ·) ?_
  refine (Finset.sum_filter_eq_sum_of_fiber _ (fun _ : Fin 1 => (ix6 0 g i n r 0 : S1x2x4x32x128x1.Idx)) (fun _ _ _ => Subsingleton.elim _ _) (fun j => ?_) v).trans (by simp)
  constructor
  · intro h
    refine ⟨0, ?_⟩
    idx_vars j
    have h0 := congrArg Fin.val (congrFun h 0)
    have h1 := congrArg Fin.val (congrFun h 1)
    have h2 := congrArg Fin.val (congrFun h 2)
    have h3 := congrArg Fin.val (congrFun h 3)
    refine (ix6_inj ..).2 ⟨Subsingleton.elim _ _, Fin.ext h0.symm, Fin.ext h1.symm, Fin.ext h2.symm, Fin.ext h3.symm, Subsingleton.elim _ _⟩
  · rintro ⟨_, rfl⟩
    funext b
    match b with | ⟨0, _⟩ => rfl | ⟨1, _⟩ => rfl | ⟨2, _⟩ => rfl | ⟨3, _⟩ => rfl

/-- A sum over the blocks and their rows. -/
theorem sum34 (v : S1x2x4x32x128.Idx → EReal) (z : EReal) :
    Ideal.hostReduceAdd Gen.reducesTo_S1x2x4x32x128_S1x2x4_d3_4 v z (ix3 0 g i) = z + ∑ n : Fin 32, ∑ r : Fin 128, v (ix5 0 g i n r) := by
  unfold Ideal.hostReduceAdd
  refine congrArg (z + ·) ?_
  refine (Finset.sum_filter_eq_sum_of_fiber _ (fun k : Fin 32 × Fin 128 => (ix5 0 g i k.1 k.2 : S1x2x4x32x128.Idx))
    (fun _ _ e => Prod.ext (congrFun e 3) (congrFun e 4)) (fun j => ?_) v).trans (Fintype.sum_prod_type _)
  constructor
  · intro h
    idx_vars j
    refine ⟨(j3, j4), ?_⟩
    have h1 := congrArg Fin.val (congrFun h 1)
    have h2 := congrArg Fin.val (congrFun h 2)
    refine (ix5_inj ..).2 ⟨Subsingleton.elim _ _, Fin.ext h1.symm, Fin.ext h2.symm, rfl, rfl⟩
  · rintro ⟨_, rfl⟩
    funext b
    match b with | ⟨0, _⟩ => rfl | ⟨1, _⟩ => rfl | ⟨2, _⟩ => rfl

/-- A sum over three axes of extent one is the one term. -/
theorem sum034 (v : S1x2x4x1x1.Idx → EReal) (z : EReal) :
    Ideal.hostReduceAdd Gen.reducesTo_S1x2x4x1x1_S2x4_d0_3_4 v z (ix2 g i) = z + v (ix5 0 g i 0 0) := by
  unfold Ideal.hostReduceAdd
  refine congrArg (z + ·) ?_
  refine (Finset.sum_filter_eq_sum_of_fiber _ (fun _ : Fin 1 => (ix5 0 g i 0 0 : S1x2x4x1x1.Idx)) (fun _ _ _ => Subsingleton.elim _ _) (fun j => ?_) v).trans (by simp)
  constructor
  · intro h
    refine ⟨0, ?_⟩
    idx_vars j
    have h0 := congrArg Fin.val (congrFun h 0)
    have h1 := congrArg Fin.val (congrFun h 1)
    refine (ix5_inj ..).2 ⟨Subsingleton.elim _ _, Fin.ext h0.symm, Fin.ext h1.symm, Subsingleton.elim _ _, Subsingleton.elim _ _⟩
  · rintro ⟨_, rfl⟩
    funext b
    match b with | ⟨0, _⟩ => rfl | ⟨1, _⟩ => rfl

/-! ## The row of a block's head -/

/-- The scores, the sink and the cotangents of the probabilities of one row. -/
def sc (s : Fin 256) : EReal := val_main_v77_0 (F := Ideal) x1 (ix6 0 g i n r s)
def sn : EReal := x0 (ix1 ⟨g.val * 4 + i.val, by omega⟩)
def cot (s : Fin 256) : EReal := val_main_v129 (F := Ideal) x1 x2 (ix6 0 g i n r s)

theorem r79 : val_main_v79 (F := Ideal) x0 (ix5 0 g i 0 0) = sn x0 g i := by
  pointwise [val_main_v79, val_main_v78]
  rfl

theorem r87 : val_main_v87 (F := Ideal) x0 x1 (ix5 0 g i n r) = mx (sc x1 g i n r) (sn x0 g i) := by
  rw [val_main_v87_apply, val_main_v86_apply]
  refine (congrArg₂ max (r80 x1 g i n r) (?_ : _ = sn x0 g i)).trans rfl
  refine (congrArg (val_main_v79 (F := Ideal) x0) (funext fun a => Fin.ext (by match a with | ⟨0, _⟩ => rfl | ⟨1, _⟩ => rfl | ⟨2, _⟩ => rfl | ⟨3, _⟩ => rfl | ⟨4, _⟩ => rfl))).trans (r79 x0 g i)

theorem r84 : val_main_v84 (F := Ideal) x1 (ix6 0 g i n r s) = if sc x1 g i n r s = top (sc x1 g i n r) then 1 else 0 := by
  pointwise [val_main_v84, val_main_v83, val_main_v82, val_main_v81, r80]
  show (((BitVec.ofBool (decide (sc x1 g i n r s = top (sc x1 g i n r)))).toNat : ℝ) : EReal) = _
  by_cases h : sc x1 g i n r s = top (sc x1 g i n r) <;> simp [h]

theorem r85 : val_main_v85 (F := Ideal) x1 (ix5 0 g i n r) = hits (sc x1 g i n r) := by
  rw [val_main_v85_apply]
  unfold hits
  rw [show val_main_cst_14 (F := Ideal) (Shape.Idx.first Gen.h_S_) = (0 : EReal) from by pointwise [val_main_cst_14], zero_add]
  refine Finset.sum_congr rfl fun k _ => ?_
  rw [← r84 x1 g i n r k]
  exact congrArg (val_main_v84 (F := Ideal) x1) (funext fun a => Fin.ext (by match a with | ⟨0, _⟩ => rfl | ⟨1, _⟩ => rfl | ⟨2, _⟩ => rfl | ⟨3, _⟩ => rfl | ⟨4, _⟩ => rfl | ⟨5, _⟩ => rfl))

theorem r109 : val_main_v109 (F := Ideal) x0 x1 (ix6 0 g i n r s) = pe (sc x1 g i n r) (sn x0 g i) s := by
  pointwise [val_main_v109, val_main_v108, val_main_v107, val_main_v106, r87]
  rfl

theorem r113 : val_main_v113 (F := Ideal) x0 x1 (ix5 0 g i n r) = es (sc x1 g i n r) (sn x0 g i) := by
  pointwise [val_main_v113, val_main_v112, val_main_v111, r79, r87]
  rfl

theorem r110 : val_main_v110 (F := Ideal) x0 x1 (ix5 0 g i n r) = ∑ s, pe (sc x1 g i n r) (sn x0 g i) s := by
  rw [val_main_v110_apply, show val_main_cst_21 (F := Ideal) (Shape.Idx.first Gen.h_S_) = (0 : EReal) from by pointwise [val_main_cst_21], zero_add]
  refine Finset.sum_congr rfl fun k _ => ?_
  rw [← r109 x0 x1 g i n r k]
  exact congrArg (val_main_v109 (F := Ideal) x0 x1) (funext fun a => Fin.ext (by match a with | ⟨0, _⟩ => rfl | ⟨1, _⟩ => rfl | ⟨2, _⟩ => rfl | ⟨3, _⟩ => rfl | ⟨4, _⟩ => rfl | ⟨5, _⟩ => rfl))

theorem r114 : val_main_v114 (F := Ideal) x0 x1 (ix5 0 g i n r) = den (sc x1 g i n r) (sn x0 g i) := by
  pointwise [val_main_v114, r110, r113]
  rfl

theorem r117 : val_main_v117 (F := Ideal) x0 x1 (ix6 0 g i n r s) = rP (sc x1 g i n r) (sn x0 g i) s := by
  pointwise [val_main_v117, val_main_v116, val_main_v115, r109, r114]
  rfl

theorem r134 : val_main_v134 (F := Ideal) x0 x1 x2 (ix6 0 g i n r s)
    = cot x1 x2 g i n r s * Ideal.div 1 (den (sc x1 g i n r) (sn x0 g i) * den (sc x1 g i n r) (sn x0 g i)) * pe (sc x1 g i n r) (sn x0 g i) s := by
  pointwise [val_main_v134, val_main_v133, val_main_v132, val_main_v120, val_main_v119, val_main_v118, val_main_v115, val_main_cst_22, r109, r114]
  rfl

theorem r135 : val_main_v135 (F := Ideal) x0 x1 x2 (ix5 0 g i n r)
    = ∑ s, cot x1 x2 g i n r s * Ideal.div 1 (den (sc x1 g i n r) (sn x0 g i) * den (sc x1 g i n r) (sn x0 g i)) * pe (sc x1 g i n r) (sn x0 g i) s := by
  rw [val_main_v135_apply, show val_main_cst_23 (F := Ideal) (Shape.Idx.first Gen.h_S_) = (0 : EReal) from by pointwise [val_main_cst_23], zero_add]
  refine Finset.sum_congr rfl fun k _ => ?_
  rw [← r134 x0 x1 x2 g i n r k]
  exact congrArg (val_main_v134 (F := Ideal) x0 x1 x2) (funext fun a => Fin.ext (by match a with | ⟨0, _⟩ => rfl | ⟨1, _⟩ => rfl | ⟨2, _⟩ => rfl | ⟨3, _⟩ => rfl | ⟨4, _⟩ => rfl | ⟨5, _⟩ => rfl))

theorem r140 : val_main_v140 (F := Ideal) x0 x1 x2 (ix4 g i n r) = rDen (sc x1 g i n r) (sn x0 g i) (cot x1 x2 g i n r) := by
  pointwise [val_main_v140, sum05, val_main_v137, val_main_v136, r135, val_main_cst_24]
  rfl

theorem r142 : val_main_v142 (F := Ideal) x0 x1 x2 (ix5 0 g i n r) = rS (sc x1 g i n r) (sn x0 g i) (cot x1 x2 g i n r) := by
  pointwise [val_main_v142, val_main_v141, r140, r113]
  rfl

theorem r148 : val_main_v148 (F := Ideal) x0 x1 x2 (ix6 0 g i n r s) = rE (sc x1 g i n r) (sn x0 g i) (cot x1 x2 g i n r) s := by
  pointwise [val_main_v148, val_main_v147, val_main_v146, val_main_v141, val_main_v139, val_main_v138, val_main_v115, r140, r114, r109]
  rfl

theorem r150 : val_main_v150 (F := Ideal) x0 x1 x2 (ix5 0 g i n r) = ∑ s, -rE (sc x1 g i n r) (sn x0 g i) (cot x1 x2 g i n r) s := by
  rw [val_main_v150_apply, show val_main_cst_26 (F := Ideal) (Shape.Idx.first Gen.h_S_) = (0 : EReal) from by pointwise [val_main_cst_26], zero_add]
  refine Finset.sum_congr rfl fun k _ => ?_
  rw [← r148 x0 x1 x2 g i n r k]
  refine (congrArg (val_main_v149 (F := Ideal) x0 x1 x2) (show idx_main_v150 (ix5 0 g i n r) k = (ix6 0 g i n r k : S1x2x4x32x128x256.Idx) from
    funext fun a => Fin.ext (by match a with | ⟨0, _⟩ => rfl | ⟨1, _⟩ => rfl | ⟨2, _⟩ => rfl | ⟨3, _⟩ => rfl | ⟨4, _⟩ => rfl | ⟨5, _⟩ => rfl))).trans ?_
  pointwise [val_main_v149]

theorem r154 : val_main_v154 (F := Ideal) x0 x1 x2 (ix5 0 g i n r) = rM (sc x1 g i n r) (sn x0 g i) (cot x1 x2 g i n r) := by
  pointwise [val_main_v154, val_main_v153, val_main_v152, sum05, val_main_v151, val_main_v145, r142, r150, val_main_cst_28, val_main_cst_27]
  rfl

/-- The share of the maximum that the row's scores have, and the one that the sink has, are real numbers. -/
theorem r96 : ∃ w : ℝ, val_main_v96 (F := Ideal) x0 x1 (ix5 0 g i n r) = (w : EReal) := by
  pointwise [val_main_v96, val_main_v95, val_main_v94, val_main_v93, val_main_v92, val_main_cst_15, val_main_cst_16, val_main_cst_17, chalf]
  generalize val_main_v89 (F := Ideal) x0 x1 (ix5 0 g i n r) = b
  generalize val_main_v91 (F := Ideal) x0 x1 (ix5 0 g i n r) = b'
  unfold Scalar.select
  split
  · exact ⟨1, rfl⟩
  · split
    · exact ⟨_, rfl⟩
    · exact ⟨0, rfl⟩
theorem r105 : ∃ w : ℝ, val_main_v105 (F := Ideal) x0 x1 (ix5 0 g i n r) = (w : EReal) := by
  pointwise [val_main_v105, val_main_v104, val_main_v103, val_main_v102, val_main_v101, val_main_cst_18, val_main_cst_19, val_main_cst_20, chalf]
  generalize val_main_v98 (F := Ideal) x0 x1 (ix5 0 g i n r) = b
  generalize val_main_v100 (F := Ideal) x0 x1 (ix5 0 g i n r) = b'
  unfold Scalar.select
  split
  · exact ⟨1, rfl⟩
  · split
    · exact ⟨_, rfl⟩
    · exact ⟨0, rfl⟩

theorem r163 : val_main_v163 (F := Ideal) x0 x1 x2 (ix6 0 g i n r s)
    = rDs (sc x1 g i n r) (sn x0 g i) (cot x1 x2 g i n r) (val_main_v96 (F := Ideal) x0 x1 (ix5 0 g i n r)) s := by
  pointwise [val_main_v163, val_main_v162, val_main_v161, val_main_v160, val_main_v159, r154, r85, r84, r148]
  rfl

end Cert.AttnRefIdeal.Pure

end
-- ==== Proof.AttnRefValue.lean ====
/-
  The attention reference at finite arguments: its three results are the specification's real numbers.
-/
module

public import proofs.«01_k».proof.Proof.AttnRefPure
public import proofs.«01_k».proof.Proof.AttnWords

@[expose] public section

set_option maxRecDepth 16384

noncomputable section

open Idealize.ShloMosaic Idealize.ShloMosaic.TcCoe Idealize.ShloMosaic.Tactic

namespace Cert.AttnRefIdeal.Pure

open Cert.AttnRefIdeal Cert.AttnRefIdeal.Read Cert.AttnRow Cert.AttnSpec

variable (x0 : (⟨S8, .f32⟩ : BufTy).Contents (Elt Ideal)) (x1 : (⟨S4096x768, .f32⟩ : BufTy).Contents (Elt Ideal))
  (x2 : (⟨S4096x512, .f32⟩ : BufTy).Contents (Elt Ideal))
variable (A : ℕ → ℝ) (X W : ℕ → ℕ → ℝ)
variable (g : Fin 2) (i : Fin 4) (n : Fin 32) (r : Fin 128) (s : Fin 256) (d : Fin 64)

/-- A query sees a key where the mask's bit says so. -/
theorem mask : val_main_v77_1 (F := Ideal) (ix6 0 g i n r s) = BitVec.ofBool (decide (valid n.val r.val s)) := by
  pointwise [val_main_v77_1, val_main_v72, val_main_v52, val_main_v51, val_main_v50, val_main_v41, val_main_v49, val_main_v48,val_main_v47,val_main_v46,val_main_v45,val_main_v44,val_main_v43,val_main_v42,val_main_v40,val_main_v39,val_main_v38,val_main_v37,val_main_v36,val_main_v35,val_main_v34,val_main_v33,val_main_v32,val_main_v31,val_main_v30,val_main_v29,val_main_v28,val_main_v27,val_main_v26,val_main_v25,val_main_c,val_main_c_4,val_main_c_5,val_main_c_6,val_main_c_7]
  refine (congrArg₂ IntOp.andi (word_window r s) (word_seen n s)).trans ?_
  unfold valid
  by_cases h1 : r.val < s.val ∧ s.val ≤ r.val + 128 <;> by_cases h2 : 0 < n.val ∨ 128 ≤ s.val <;> simp only [h1, h2, decide_true, decide_false, and_true, and_false, true_and, false_and] <;> rfl

section Leaves
variable (hA : ∀ h : Fin 8, x0 (ix1 h) = (A h.val : EReal)) (hX : ∀ (a : Fin 4096) (b : Fin 768), x1 (ix2 a b) = (X a.val b.val : EReal))
  (hW : ∀ (a : Fin 4096) (b : Fin 512), x2 (ix2 a b) = (W a.val b.val : EReal))
include hX

theorem keys : val_main_v13 (F := Ideal) x1 (ix5 0 n s g d) = (band X 512 n.val g.val s d : EReal) := by
  pointwise [val_main_v13, val_main_v12, val_main_v11, val_main_v10, val_main_v9, val_main_v8, val_main_v7, val_main_v4, val_main_v1, val_main_cst, val_main_cst_0]
  unfold band
  split
  · split
    · rfl
    · exact hX _ _
  · exact hX _ _

theorem values : val_main_v20 (F := Ideal) x1 (ix5 0 n s g d) = (band X 640 n.val g.val s d : EReal) := by
  pointwise [val_main_v20, val_main_v19, val_main_v18, val_main_v17, val_main_v16, val_main_v15, val_main_v14, val_main_v5, val_main_v2, val_main_cst_1, val_main_cst_2]
  unfold band
  split
  · split
    · rfl
    · exact hX _ _
  · exact hX _ _

theorem queries : val_main_v6 (F := Ideal) x1 (ix6 0 n r g i d) = (X (n.val * 128 + r.val) ((g.val * 4 + i.val) * 64 + d.val) : EReal) := by
  pointwise [val_main_v6, val_main_v3, val_main_v0]
  exact hX _ _

theorem scores : sc x1 g i n r = masked (valid n.val r.val) (score X n.val (g.val * 4 + i.val) r.val) := by
  funext s
  unfold sc masked
  pointwise [val_main_v77_0, mask, val_main_v76, val_main_v75, val_main_v74, val_main_v73, val_main_v24, val_main_v23, val_main_v22, val_main_v21, val_main_cst_3,
    val_main_call0_v2, val_main_call0_v0, val_main_cst_12, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_cst_8, val_main_cst_9, val_main_cst_10, val_main_cst_11, val_main_v33, val_main_v32,val_main_v31,val_main_v30,val_main_v29,val_main_v28,val_main_v27,val_main_v26,val_main_v25,val_main_c]
  by_cases h : valid n.val r.val s
  · rw [if_pos h, if_pos h]
    refine (congrArg₂ (· + ·) (congrArg₂ (· * ·) (Finset.sum_congr rfl fun d _ => congrArg₂ (· * ·) (keys x1 X g n s d hX) (queries x1 X g i n r d hX)) ceighth)
      (bias ⟨g.val * 4 + i.val, by omega⟩ _ _ (word_dist r s h.1.2))).trans ?_
    simp only [← EReal.coe_mul, coe_sum, ← EReal.coe_add]
    unfold score
    rw [show (g.val * 4 + i.val) / 4 = g.val by omega]
    refine congrArg (fun z : ℝ => (z : EReal)) (congrArg₂ (· + ·) (congrArg (· * (1 / 8 : ℝ)) (Finset.sum_congr rfl fun d _ => mul_comm _ _)) ?_)
    push_cast
    rfl
  · rw [if_neg h, if_neg h]
    exact cbot

omit hX in
include hW in
theorem cotangents : val_main_v127 (F := Ideal) x2 (ix6 0 n g d i r) = (W (n.val * 128 + r.val) ((g.val * 4 + i.val) * 64 + d.val) : EReal) := by
  pointwise [val_main_v127, val_main_v126, val_main_v125, val_main_v124, val_main_v123, val_main_v122, val_main_v121]
  refine (hW _ _).trans ?_
  refine congrArg (fun z : ℕ => ((W (n.val * 128 + r.val) z : ℝ) : EReal)) ?_
  show g.val * 256 + i.val * 64 + d.val = (g.val * 4 + i.val) * 64 + d.val
  omega

include hW

theorem cots : cot x1 x2 g i n r = fun s => (dl X W n.val (g.val * 4 + i.val) r.val s : EReal) := by
  funext s
  unfold cot
  pointwise [val_main_v129, val_main_v128]
  refine (Finset.sum_congr rfl fun d _ => congrArg₂ (· * ·) (cotangents x2 W g i n r d hW) (values x1 X g n s d hX)).trans ?_
  simp only [← EReal.coe_mul, coe_sum]
  unfold dl
  rw [show (g.val * 4 + i.val) / 4 = g.val by omega]

include hA

/-- The row's real numbers. -/
theorem rowR : Real' (sc x1 g i n r) (sn x0 g i) (valid n.val r.val) (rowE A X n.val (g.val * 4 + i.val) r.val)
    (rowS A X n.val (g.val * 4 + i.val) r.val) (rowD A X n.val (g.val * 4 + i.val) r.val) := by
  rw [scores x1 X g i n r hX, show sn x0 g i = (A (g.val * 4 + i.val) : EReal) from hA _]
  exact row A X n.val (g.val * 4 + i.val) r.val

theorem probs : val_main_v117 (F := Ideal) x0 x1 (ix6 0 g i n r s) = (p A X n.val (g.val * 4 + i.val) r.val s : EReal) := by
  rw [r117]
  exact rP_eq (rowR x0 x1 x2 A X W g i n r hA hX hW) s

theorem dscores : val_main_v166 (F := Ideal) x0 x1 x2 (ix6 0 g i n r s) = (ds A X W n.val (g.val * 4 + i.val) r.val s : EReal) := by
  have H := rowR x0 x1 x2 A X W g i n r hA hX hW
  pointwise [val_main_v166, mask, r163, val_main_call1_v0, val_main_call1_cst]
  by_cases h : valid n.val r.val s
  · rw [if_pos h]
    obtain ⟨w, hw⟩ := r96 x0 x1 g i n r
    rw [hw, cots x1 x2 X W g i n r hX hW]
    exact rDs_eq _ _ H (scores x1 X g i n r hX) w s
  · rw [if_neg h]
    unfold ds
    rw [Ds_zero _ H s h]
    rfl

theorem sinkRow : val_main_v142 (F := Ideal) x0 x1 x2 (ix5 0 g i n r) = (sk A X W n.val (g.val * 4 + i.val) r.val : EReal) := by
  rw [r142, cots x1 x2 X W g i n r hX hW]
  exact rS_eq _ (rowR x0 x1 x2 A X W g i n r hA hX hW)

theorem maxRow : val_main_v154 (F := Ideal) x0 x1 x2 (ix5 0 g i n r) = 0 := by
  rw [r154, cots x1 x2 X W g i n r hX hW]
  exact rM_eq _ (rowR x0 x1 x2 A X W g i n r hA hX hW)

/-! ## The results -/

/-- The sinks' gradient. -/
theorem sinks : val_main_v164 (F := Ideal) x0 x1 x2 (ix2 g i) = (dsink A X W (g.val * 4 + i.val) : EReal) := by
  pointwise [val_main_v164, sum034, val_main_v158, val_main_v144, val_main_v157, val_main_v143, val_main_v156, sum34, val_main_v155, maxRow x0 x1 x2 A X W _ _ _ _ hA hX hW,
    sinkRow x0 x1 x2 A X W _ _ _ _ hA hX hW, val_main_cst_25, val_main_cst_28, val_main_cst_29]
  simp only [coe_sum]
  unfold dsink
  simp

/-- A block's part of the keys' gradient. -/
theorem keyPart : val_main_v173 (F := Ideal) x0 x1 x2 (ix5 0 n s g d) = (dk A X W n.val g.val s d : EReal) := by
  pointwise [val_main_v173, val_main_v172, val_main_v169, val_main_v168, val_main_v167, val_main_cst_30]
  refine (Finset.sum_congr rfl fun r _ => Finset.sum_congr rfl fun i _ =>
    congrArg₂ (· * ·) (congrArg₂ (· * ·) (dscores x0 x1 x2 A X W g i n r s hA hX hW) ceighth) (queries x1 X g i n r d hX)).trans ?_
  simp only [← EReal.coe_mul, coe_sum]
  rfl

/-- A block's part of the values' gradient. -/
theorem valuePart : val_main_v131 (F := Ideal) x0 x1 x2 (ix5 0 n s g d) = (dv A X W n.val g.val s d : EReal) := by
  pointwise [val_main_v131, val_main_v130]
  refine (Finset.sum_congr rfl fun i _ => Finset.sum_congr rfl fun r _ => congrArg₂ (· * ·) (cotangents x2 W g i n r d hW) (probs x0 x1 x2 A X W g i n r s hA hX hW)).trans ?_
  simp only [← EReal.coe_mul, coe_sum]
  rfl

theorem keyAll : val_main_v186 (F := Ideal) x0 x1 x2 (ix5 0 n r g d) = (dkAll A X W n.val g.val r d : EReal) := by
  pointwise [val_main_v186, val_main_v185, val_main_v184, val_main_v183, val_main_v182, val_main_v181, val_main_v174, val_main_v175, val_main_v176, val_main_cst_32]
  unfold dkAll
  rw [EReal.coe_add]
  refine congrArg₂ (· + ·) (keyPart x0 x1 x2 A X W g n (hi r) d hA hX hW) ?_
  by_cases h : n.val < 31
  · rw [dif_pos h, if_pos h]
    exact keyPart x0 x1 x2 A X W g ⟨1 + n.val, by omega⟩ (lo r) d hA hX hW
  · rw [dif_neg h, if_neg h]
    rfl

theorem valueAll : val_main_v179 (F := Ideal) x0 x1 x2 (ix5 0 n r g d) = (dvAll A X W n.val g.val r d : EReal) := by
  pointwise [val_main_v179, val_main_v178, val_main_v177, val_main_v176, val_main_v175, val_main_v174, val_main_cst_31]
  unfold dvAll
  rw [EReal.coe_add]
  refine congrArg₂ (· + ·) (valuePart x0 x1 x2 A X W g n (hi r) d hA hX hW) ?_
  by_cases h : n.val < 31
  · rw [dif_pos h, if_pos h]
    exact valuePart x0 x1 x2 A X W g ⟨1 + n.val, by omega⟩ (lo r) d hA hX hW
  · rw [dif_neg h, if_neg h]
    rfl

/-- The queries' gradient. -/
theorem res0 (y : Fin 4096) (z : Fin 512) : val_main_v192 (F := Ideal) x0 x1 x2 (ix2 y z)
    = (dq A X W (y.val / 128) (z.val / 64) (y.val % 128) ⟨z.val % 64, by omega⟩ : EReal) := by
  pointwise [val_main_v192, val_main_v191, val_main_v188, val_main_v171, val_main_v170, val_main_v169, val_main_v168, val_main_v167, val_main_cst_30]
  refine (Finset.sum_congr rfl fun s _ => congrArg₂ (· * ·) (congrArg₂ (· * ·)
    (dscores x0 x1 x2 A X W ⟨z.val / 256, by omega⟩ ⟨z.val / 64 % 4, by omega⟩ ⟨y.val / 128, by omega⟩ ⟨y.val % 128, by omega⟩ s hA hX hW) ceighth)
    (keys x1 X ⟨z.val / 256, by omega⟩ ⟨y.val / 128, by omega⟩ s ⟨z.val % 64, by omega⟩ hX)).trans ?_
  simp only [← EReal.coe_mul, coe_sum]
  unfold dq
  rw [show z.val / 256 * 4 + z.val / 64 % 4 = z.val / 64 by omega, show z.val / 64 / 4 = z.val / 256 by omega]

/-- The keys' and the values' gradient, side by side. -/
theorem res1 (y : Fin 4096) (z : Fin 256) : val_main_v194 (F := Ideal) x0 x1 x2 (ix2 y z)
    = ((if z.val < 128 then dkAll A X W (y.val / 128) (z.val / 64) ⟨y.val % 128, by omega⟩ ⟨z.val % 64, by omega⟩
        else dvAll A X W (y.val / 128) ((z.val - 128) / 64) ⟨y.val % 128, by omega⟩ ⟨z.val % 64, by omega⟩ : ℝ) : EReal) := by
  have hk : ∀ z : Fin 128, val_main_v190 (F := Ideal) x0 x1 x2 (ix2 y z) = (dkAll A X W (y.val / 128) (z.val / 64) ⟨y.val % 128, by omega⟩ ⟨z.val % 64, by omega⟩ : EReal) := fun z => by
    pointwise [val_main_v190, val_main_v187]
    exact keyAll x0 x1 x2 A X W ⟨z.val / 64, by omega⟩ ⟨y.val / 128, by omega⟩ ⟨y.val % 128, by omega⟩ ⟨z.val % 64, by omega⟩ hA hX hW
  have hv : ∀ z : Fin 128, val_main_v189 (F := Ideal) x0 x1 x2 (ix2 y z) = (dvAll A X W (y.val / 128) (z.val / 64) ⟨y.val % 128, by omega⟩ ⟨z.val % 64, by omega⟩ : EReal) := fun z => by
    pointwise [val_main_v189, val_main_v180]
    exact valueAll x0 x1 x2 A X W ⟨z.val / 64, by omega⟩ ⟨y.val / 128, by omega⟩ ⟨y.val % 128, by omega⟩ ⟨z.val % 64, by omega⟩ hA hX hW
  pointwise [val_main_v194, val_main_v193]
  by_cases h : z.val < 128
  · rw [dif_pos h, if_pos h]
    exact hk ⟨z.val, h⟩
  · rw [dif_neg h, if_neg h]
    refine (hv ⟨z.val - 128, by omega⟩).trans ?_
    rw [show (⟨z.val % 64, by omega⟩ : Fin 64) = ⟨(z.val - 128) % 64, by omega⟩ from Fin.ext (show z.val % 64 = (z.val - 128) % 64 by omega)]

/-- The sinks' gradient, along every lane. -/
theorem res2 (y : Fin 8) (z : Fin 128) : val_main_v196 (F := Ideal) x0 x1 x2 (ix2 y z) = (dsink A X W y.val : EReal) := by
  pointwise [val_main_v196, val_main_v195, val_main_v165]
  refine (sinks x0 x1 x2 A X W ⟨y.val / 4, by omega⟩ ⟨y.val % 4, by omega⟩ hA hX hW).trans ?_
  show ((dsink A X W (y.val / 4 * 4 + y.val % 4) : ℝ) : EReal) = _
  rw [show y.val / 4 * 4 + y.val % 4 = y.val by omega]

end Leaves

end Cert.AttnRefIdeal.Pure

end
-- ==== Proof.AttnValue.lean ====
/-
  What the attention kernel leaves in its result arrays, for arguments that are real numbers.
-/
module

public import proofs.«01_k».proof.Proof.AttnBlocks
public import proofs.«01_k».proof.Proof.AttnRefValue

@[expose] public section

set_option maxRecDepth 16384

noncomputable section

open Idealize.ShloMosaic Idealize.ShloMosaic.TcCoe Idealize.ShloMosaic.Tactic Idealize.SL.Sem
open Idealize.ShloMosaic.Pipeline (Dat)

namespace Cert.AttnIdeal.Final

open Cert.AttnIdeal Cert.AttnIdeal.Gen Cert.AttnIdeal.Body Cert.AttnIdeal.Pure Cert.AttnRow Cert.AttnSpec
open Cert.AttnRefIdeal.Read (val_main_v192 val_main_v194 val_main_v196)

variable (m : (ℓ : Loc nD τ sig) → Buf (Elt Ideal) ℓ) (c : Dev nD)

/-- The block each result window takes at each grid point. -/
theorem idxO : ∀ t : Fin cfg0.N, win0_6.index t = ![min t.val 31, 0] ∧ win0_7.index t = ![t.val - 1, 0] ∧ win0_8.index t = ![0, 0] :=
  (by decide +kernel : ∀ t : Fin grid0.N, _)

theorem rdC {arg : Memref sig .tc .vmem S128x256 .f32} (h : arg.IsWhole) (x : Vec Ideal S128x256 .f32)
    (inb : ∀ a, (![0, 0] : Fin 2 → ℕ) a + S128x256.size a ≤ S128x256.size a) (r : Fin 128) (l : Fin 256) :
    View.readAt (Elt Ideal) arg.view (Rect.unit (s := S128x256) ![0, 0] S128x256.size inb).toLoadRect (h.unread x) (ix2 r l) = x (ix2 r l) := by
  refine (h.readAt_unread x _ _).trans (congrArg x ?_)
  exact funext fun a => Fin.ext (by match a with | ⟨0, _⟩ => exact (Rect.idx_unit_val _ _ _ _ _).trans (Nat.zero_add _) | ⟨1, _⟩ => exact (Rect.idx_unit_val _ _ _ _ _).trans (Nat.zero_add _))

/-- The last point writes the carry out. -/
theorem last7_eq (t : Fin cfg0.N) (h : t.val = 32) (xs : Vec Ideal S128x256 .f32) (r : Fin 128) (l : Fin 256) :
    last7 c t h xs (ix2 r l) = xs (ix2 r l) := by
  unfold last7
  frame_out
  unfold runLast
  simp only [runC]
  canon_tiles
  have hx : x = ix2 r l := by
    funext a
    exact Fin.ext (by match a with | ⟨0, _⟩ => exact h0.symm | ⟨1, _⟩ => exact h1.symm)
  subst hx
  exact rdC (arg := carryRef) (Memref.isWhole_whole _) xs _ r l

/-- The last grid point. -/
def tEnd : Fin cfg0.N := ⟨32, by decide +kernel⟩

/-- A key and value gradient's block is written back at every point but the first. -/
theorem flush7 : ∀ t : Fin cfg0.N, (win0 7).flush t = true → t.val ≠ 0 := (by decide +kernel : ∀ t : Fin grid0.N, _)

section

variable {A : ℕ → ℝ} {X W : ℕ → ℕ → ℝ} (hA : ∀ y : Fin 8, m ((c : Thread nD τ).loc main_arg0) (ix1 y) = ((A y.val : ℝ) : EReal))
  (hX : ∀ (a : Fin 4096) (b : Fin 768), m ((c : Thread nD τ).loc main_arg1) (ix2 a b) = ((X a.val b.val : ℝ) : EReal))
  (hW : ∀ (a : Fin 4096) (b : Fin 512), m ((c : Thread nD τ).loc main_arg2) (ix2 a b) = ((W a.val b.val : ℝ) : EReal))

include hA hX hW

/-- After the points of the blocks up to `n`: the carried half and the sinks' sums. -/
theorem track (n : ℕ) (hn : n < cfg0.N) (h : n < 32) :
    (∀ (r : Fin 128) (l : Fin 256), (outsAt m c n hn).2.2.2 (ix2 r l) = (half A X W n (hi r) l : EReal))
    ∧ (∀ (y : Fin 8) (l : Fin 128), (outsAt m c n hn).2.2.1 (ix2 y l) = ((∑ k ∈ Finset.range (n + 1), ∑ r : Fin 128, sk A X W k y.val r.val : ℝ) : EReal)) := by
  induction n with
  | zero =>
    have B := blocks m c ⟨0, hn⟩ hA hX hW h
    rw [show outsAt m c 0 hn = _ from outsAt_first m c ⟨0, hn⟩ rfl]
    exact ⟨fun r l => firstS_eq m c _ B rfl r l, fun y l => (first8_eq m c _ B rfl y l).trans (by rw [zero_add, Finset.sum_range_one])⟩
  | succ n ih =>
    have B := blocks m c ⟨n + 1, hn⟩ hA hX hW h
    obtain ⟨i1, i2⟩ := ih (Nat.lt_of_succ_lt hn) (by omega)
    have hp : prev m c ⟨n + 1, hn⟩ = outsAt m c n (Nat.lt_of_succ_lt hn) := rfl
    rw [show outsAt m c (n + 1) hn = _ from outsAt_block m c ⟨n + 1, hn⟩ (Nat.succ_ne_zero n) h]
    dsimp only
    refine ⟨fun r l => blockS_eq m c _ B (Nat.succ_ne_zero n) h _ _ r l, fun y l => ?_⟩
    rw [block8_eq m c _ B, hp, i2, ← EReal.coe_add, Finset.sum_range_succ _ (n + 1)]

/-- The block of query gradients a point leaves. -/
theorem at6 (n : ℕ) (hn : n < cfg0.N) (h : n < 32) (r : Fin 128) (l : Fin 512) :
    (outsAt m c n hn).1 (ix2 r l) = (dq A X W n (l.val / 64) r.val ⟨l.val % 64, Nat.mod_lt _ (by omega)⟩ : EReal) := by
  have B := blocks m c ⟨n, hn⟩ hA hX hW h
  by_cases h0 : n = 0
  · rw [show outsAt m c n hn = _ from outsAt_first m c ⟨n, hn⟩ h0]
    exact first6_eq m c _ B h0 r l
  · rw [show outsAt m c n hn = _ from outsAt_block m c ⟨n, hn⟩ h0 h]
    exact block6_eq m c _ B h0 h (prev m c ⟨n, hn⟩).2.2.1 (prev m c ⟨n, hn⟩).2.2.2 r l

/-- The last point leaves the queries' gradient as it was. -/
theorem at6_last (n : ℕ) (hn : n + 1 < cfg0.N) (h : n = 31) (r : Fin 128) (l : Fin 512) :
    (outsAt m c (n + 1) hn).1 (ix2 r l) = (dq A X W n (l.val / 64) r.val ⟨l.val % 64, Nat.mod_lt _ (by omega)⟩ : EReal) := by
  have hp : prev m c ⟨n + 1, hn⟩ = outsAt m c n (Nat.lt_of_succ_lt hn) := rfl
  rw [show outsAt m c (n + 1) hn = _ from outsAt_last m c ⟨n + 1, hn⟩ (show n + 1 = 32 by omega), hp]
  exact at6 m c hA hX hW n _ (by omega) r l

/-- The block of key and value gradients the points from the second on leave: the block before theirs. -/
theorem at7 (n : ℕ) (hn : n + 1 < cfg0.N) (r : Fin 128) (l : Fin 256) :
    (outsAt m c (n + 1) hn).2.1 (ix2 r l) = ((half A X W n (hi r) l + if n < 31 then half A X W (1 + n) (lo r) l else 0 : ℝ) : EReal) := by
  have hN : cfg0.N = 33 := N_0
  have hp : prev m c ⟨n + 1, hn⟩ = outsAt m c n (Nat.lt_of_succ_lt hn) := rfl
  have i1 := (track m c hA hX hW n (Nat.lt_of_succ_lt hn) (by omega)).1 r l
  by_cases h : n + 1 < 32
  · have B := blocks m c ⟨n + 1, hn⟩ hA hX hW h
    rw [show outsAt m c (n + 1) hn = _ from outsAt_block m c ⟨n + 1, hn⟩ (Nat.succ_ne_zero n) h, if_pos (by omega)]
    refine (block7_eq m c _ B (Nat.succ_ne_zero n) h (prev m c ⟨n + 1, hn⟩).2.2.1 (prev m c ⟨n + 1, hn⟩).2.2.2 r l).trans ?_
    rw [hp, i1, ← EReal.coe_add]
    show ((half A X W n (hi r) l + half A X W (n + 1) (lo r) l : ℝ) : EReal) = _
    rw [Nat.add_comm n 1]
  · rw [show outsAt m c (n + 1) hn = _ from outsAt_last m c ⟨n + 1, hn⟩ (show n + 1 = 32 by omega), if_neg (by omega), add_zero]
    dsimp only
    rw [last7_eq, hp, i1]

/-- The sinks' gradients at the last point. -/
theorem at8 (n : ℕ) (hn : n + 1 < cfg0.N) (h : n = 31) (y : Fin 8) (l : Fin 128) : (outsAt m c (n + 1) hn).2.2.1 (ix2 y l) = (dsink A X W y.val : EReal) := by
  have hp : prev m c ⟨n + 1, hn⟩ = outsAt m c n (Nat.lt_of_succ_lt hn) := rfl
  rw [show outsAt m c (n + 1) hn = _ from outsAt_last m c ⟨n + 1, hn⟩ (show n + 1 = 32 by omega), hp,
    (track m c hA hX hW n (Nat.lt_of_succ_lt hn) (by omega)).2 y l, Finset.sum_range]
  subst h
  rfl

/-- The gradient of the queries. -/
theorem final6 : (dats m 0 c).arrAt 6 cfg0.N
    = val_main_v192 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht : t.val < 33 := lt_of_lt_of_eq t.isLt N_0
  blk_simp
  rw [after6]
  idx_vars y
  have he : ((View.whole main_v32_0).slice (win0_6.rect t)).emb (ix2 y0 y1) = (ix2 ⟨min t.val 31 * 128 + y0.val, by omega⟩ y1 : S4096x512.Idx) := by
    blk_ext [idxO t]
  rw [he]
  refine Eq.trans ?_ (Cert.AttnRefIdeal.Pure.res0 _ _ _ A X W hA hX hW _ _).symm
  by_cases h : t.val < 32
  · rw [at6 m c hA hX hW t.val t.isLt h y0 y1]
    show ((dq A X W t.val (y1.val / 64) y0.val _ : ℝ) : EReal) = ((dq A X W ((min t.val 31 * 128 + y0.val) / 128) (y1.val / 64) ((min t.val 31 * 128 + y0.val) % 128) _ : ℝ) : EReal)
    rw [show (min t.val 31 * 128 + y0.val) / 128 = t.val by omega, show (min t.val 31 * 128 + y0.val) % 128 = y0.val by omega]
  · obtain ⟨n, hn⟩ := t
    obtain rfl : n = 31 + 1 := by simp only at h ht; omega
    rw [at6_last m c hA hX hW 31 hn rfl y0 y1]
    show ((dq A X W 31 (y1.val / 64) y0.val _ : ℝ) : EReal) = ((dq A X W ((31 * 128 + y0.val) / 128) (y1.val / 64) ((31 * 128 + y0.val) % 128) _ : ℝ) : EReal)
    rw [show (31 * 128 + y0.val) / 128 = 31 by omega, show (31 * 128 + y0.val) % 128 = y0.val by omega]

/-- The gradients of the keys and values. -/
theorem final7 : (dats m 0 c).arrAt 7 cfg0.N
    = val_main_v194 (F := Ideal) (m ((c : Thread nD τ).loc main_arg0)) (m ((c : Thread nD τ).loc main_arg1)) (m ((c : Thread nD τ).loc main_arg2)) := by
  refine (dats m 0 c).arrAt_eq_of_covers 7 _ (by decide +kernel) fun t hf y => ?_
  have ht : t.val < 33 := lt_of_lt_of_eq t.isLt N_0
  blk_simp
  rw [after7]
  idx_vars y
  have he : ((View.whole main_v32_1).slice (win0_7.rect t)).emb (ix2 y0 y1) = (ix2 ⟨(t.val - 1) * 128 + y0.val, by omega⟩ y1 : S4096x256.Idx) := by
    blk_ext [idxO t]
  rw [he]
  refine Eq.trans ?_ (Cert.AttnRefIdeal.Pure.res1 _ _ _ A X W hA hX hW _ _).symm
  have h0 := flush7 t hf
  obtain ⟨n, hn⟩ := t
  obtain ⟨n, rfl⟩ : ∃ k, n = k + 1 := ⟨n - 1, by simp only at h0; omega⟩
  rw [at7 m c hA hX hW n hn y0 y1]
  show _ = ((if y1.val < 128 then dkAll A X W ((n * 128 + y0.val) / 128) (y1.val / 64) ⟨(n * 128 + y0.val) % 128, _⟩ _
    else dvAll A X W ((n * 128 + y0.val) / 128) ((y1.val - 128) / 64) ⟨(n * 128 + y0.val) % 128, _⟩ _ : ℝ) : EReal)
  have e1 : (n * 128 + y0.val) / 128 = n := by omega
  have e2 : (⟨(n * 128 + y0.val) % 128, Nat.mod_lt _ (by omega)⟩ : Fin 128) = y0 := Fin.ext (show (n * 128 + y0.val) % 128 = y0.val by omega)
  rw [e1, e2]
  unfold half dkAll dvAll
  split_ifs <;> rfl

/-- The gradients of the sinks. -/
theorem final8 : (dats m 0 c).arrAt 8 cfg0.N
    = val_main_v196 (F := Ideal) (m ((c : Thread nD τ).loc main_arg0)) (m ((c : Thread nD τ).loc main_arg1)) (m ((c : Thread nD τ).loc main_arg2)) := by
  refine (dats m 0 c).arrAt_eq_of_after_last 8 tEnd (by decide +kernel) _ fun j => ?_
  blk_simp
  rw [after8]
  idx_vars j
  refine (at8 m c hA hX hW 31 tEnd.isLt rfl j0 j1).trans ?_
  exact (Cert.AttnRefIdeal.Pure.res2 _ _ _ A X W hA hX hW _ _).symm

end

end Cert.AttnIdeal.Final

end
-- ==== Proof.Finite.lean ====
/-
  A number whose absolute value is below infinity is a real number.
-/
module

public import Idealize.ShloMosaic.Lib.ReduceAll
public import Idealize.ShloMosaic.Lib.Pipeline.ValueKit

@[expose] public section

noncomputable section

open Idealize.ShloMosaic

namespace Cert.Finite

/-- The comparison a precondition makes of one element. -/
theorem real_of_abs_lt (x : EReal) (h : FloatOps.cmpf (F := Ideal) (φ := .f32) .olt (FloatOps.absf (F := Ideal) (φ := .f32) x) (Ideal.ofBits .f32 0x7F800000#32) = 1#1) :
    x = (x.toReal : EReal) := by
  have hinf : Ideal.ofBits .f32 0x7F800000#32 = (⊤ : EReal) := by simp [Ideal.ofBits, Ideal.ieee]
  rw [hinf] at h
  have h' : FloatOps.absf (F := Ideal) (φ := .f32) x < (⊤ : EReal) := by
    by_contra hn
    have : FloatOps.cmpf (F := Ideal) (φ := .f32) .olt (FloatOps.absf (F := Ideal) (φ := .f32) x) (⊤ : EReal) = 0#1 := by
      show BitVec.ofBool (decide (_ < _)) = _
      rw [decide_eq_false hn]; rfl
    rw [this] at h
    exact absurd h (by decide)
  induction x with
  | bot => exact absurd h' (by show ¬ (max (⊥ : EReal) (-⊥) < ⊤); simp)
  | top => exact absurd h' (by show ¬ (max (⊤ : EReal) (-⊤) < ⊤); simp)
  | coe r => rfl

/-- A precondition that holds of all elements of an array makes them real numbers. -/
theorem real_of_all {s t u : Shape} [Subsingleton t.Idx] {axes : List (Fin s.rank)} (x : s.Idx → EReal) (init : u.Idx → BitVec 1) (h : s.ReducesTo axes t)
    (hu : 0 < u.numel) (j : t.Idx) (bound : s.Idx → EReal) (hb : ∀ i, bound i = Ideal.ofBits .f32 0x7F800000#32)
    (e : Host.reduce IntOp.andi (cmpf (F := Ideal) (φ := .f32) .olt (Host.absf (F := Ideal) (φ := .f32) x) bound) init h hu j = 1#1) (i : s.Idx) :
    x i = ((x i).toReal : EReal) := by
  have := Host.reduce_andi_all _ _ h hu j e i
  exact real_of_abs_lt _ (by rw [← hb i]; exact this)

end Cert.Finite

end
-- ==== Proof.AttnClaim.lean ====
/-
  The claims about the attention's backward call: the reference's frame, the named mask and the value claim.
-/
module

public import proofs.«01_k».proof.Defs
public import proofs.«01_k».proof.Proof.AttnValue
public import proofs.«01_k».proof.Proof.AttnIdealFrame
public import proofs.«01_k».proof.Proof.AttnFrame
public import proofs.«01_k».proof.Proof.Finite
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.AttnClaim

/-- The shape relations of the precondition's operations. -/
theorem facts : Cert.Pre_attn_finite.Facts where
  bcast_S_S8 := by decide
  reducesTo_S8_S_d0 := by decide
  h_S_ := by decide
  bcast_S_S4096x768 := by decide
  reducesTo_S4096x768_S_d0_1 := by decide
  bcast_S_S4096x512 := by decide
  reducesTo_S4096x512_S_d0_1 := by decide

/-- The reference runs and leaves its arguments and its counters as they were. -/
theorem frame_ref : Cert.quiescent_AttnRefIdeal := by
  intro m g _
  exact (θ_run Cert.AttnRefIdeal.defs _ _).mono
    (fun r h => ⟨fun c => (h c).2.2.2, sem_eq_zero_of_no_sems (by decide) r.2⟩)
    (Cert.AttnRefIdeal.Value.run (F := Ideal) m g)

/-- The kernel's mask, a large negative number, stands for minus infinity. -/
theorem preserves : Cert.preserves_Attn_AttnIdeal :=
  IdealRules.named_const.statement Cert.AttnIdeal.κ "mask" .f32 0xF149F2CA#32 ⊥ rfl

/-- A row and a column of an index's values, zero outside the array. -/
def entry {a b : ℕ} (x : (⟨2, ![a, b]⟩ : Shape).Idx → EReal) (i j : ℕ) : ℝ := if h : i < a ∧ j < b then (x (ix2 ⟨i, h.1⟩ ⟨j, h.2⟩)).toReal else 0
def entry1 {a : ℕ} (x : (⟨1, ![a]⟩ : Shape).Idx → EReal) (i : ℕ) : ℝ := if h : i < a then (x (ix1 ⟨i, h⟩)).toReal else 0

instance : Subsingleton Cert.Pre_attn_finite.S_.Idx := ⟨fun a b => funext fun i => i.elim0⟩

/-- Under the precondition the arguments are real numbers. -/
theorem reals (x0 : FVec Ideal Cert.Pre_attn_finite.S8 .f32) (x1 : FVec Ideal Cert.Pre_attn_finite.S4096x768 .f32) (x2 : FVec Ideal Cert.Pre_attn_finite.S4096x512 .f32)
    (h : @Cert.Pre_attn_finite.fn facts Ideal _ x0 x1 x2 = fun _ => 1#1) :
    (∀ i, x0 i = ((x0 i).toReal : EReal)) ∧ (∀ i, x1 i = ((x1 i).toReal : EReal)) ∧ ∀ i, x2 i = ((x2 i).toReal : EReal) := by
  have h0 := congrFun h (fun i => i.elim0)
  obtain ⟨h01, h2⟩ := IntOp.andi_eq_one.mp h0
  obtain ⟨h0, h1⟩ := IntOp.andi_eq_one.mp h01
  exact ⟨Cert.Finite.real_of_all x0 _ _ _ _ _ (fun _ => rfl) h0, Cert.Finite.real_of_all x1 _ _ _ _ _ (fun _ => rfl) h1,
    Cert.Finite.real_of_all x2 _ _ _ _ _ (fun _ => rfl) h2⟩

set_option maxHeartbeats 2000000 in
/-- Kernel and reference end with equal gradients of the queries, of the keys and values, and of the sinks. -/
theorem algebraic : Cert.algebraic_AttnIdeal_AttnRefIdeal_pre_attn_finite (hPre_attn_finite := facts) := by
  pair_intro
  · run_from Cert.AttnIdeal.Body.run_main m g
    · exact Cert.AttnIdeal.Gen.V_main_arg0 m c
    · exact Cert.AttnIdeal.Gen.V_main_arg1 m c
    · exact Cert.AttnIdeal.Gen.V_main_arg2 m c
  · have hA : ∀ (c : Dev Cert.AttnIdeal.nD) (y : Fin 8), m ((c.tc : Thread Cert.AttnIdeal.nD Cert.AttnIdeal.τ).loc Cert.AttnIdeal.main_arg0) (ix1 y)
        = ((entry1 (a := 8) (m ((c.tc : Thread Cert.AttnIdeal.nD Cert.AttnIdeal.τ).loc Cert.AttnIdeal.main_arg0)) y.val : ℝ) : EReal) := fun c y => by
      rw [entry1, dif_pos y.isLt]; exact (reals _ _ _ (hpre c)).1 _
    have hX : ∀ (c : Dev Cert.AttnIdeal.nD) (a : Fin 4096) (b : Fin 768), m ((c.tc : Thread Cert.AttnIdeal.nD Cert.AttnIdeal.τ).loc Cert.AttnIdeal.main_arg1) (ix2 a b)
        = ((entry (a := 4096) (b := 768) (m ((c.tc : Thread Cert.AttnIdeal.nD Cert.AttnIdeal.τ).loc Cert.AttnIdeal.main_arg1)) a.val b.val : ℝ) : EReal) := fun c a b => by
      rw [entry, dif_pos ⟨a.isLt, b.isLt⟩]; exact (reals _ _ _ (hpre c)).2.1 _
    have hW : ∀ (c : Dev Cert.AttnIdeal.nD) (a : Fin 4096) (b : Fin 512), m ((c.tc : Thread Cert.AttnIdeal.nD Cert.AttnIdeal.τ).loc Cert.AttnIdeal.main_arg2) (ix2 a b)
        = ((entry (a := 4096) (b := 512) (m ((c.tc : Thread Cert.AttnIdeal.nD Cert.AttnIdeal.τ).loc Cert.AttnIdeal.main_arg2)) a.val b.val : ℝ) : EReal) := fun c a b => by
      rw [entry, dif_pos ⟨a.isLt, b.isLt⟩]; exact (reals _ _ _ (hpre c)).2.2 _
    have h0 : ∀ c : Dev Cert.AttnIdeal.nD, StableHlo.launchContents m' c (Proc.devRef .tc Cert.AttnRefIdeal.main_arg0)
        = m ((c.tc : Thread Cert.AttnIdeal.nD Cert.AttnIdeal.τ).loc Cert.AttnIdeal.main_arg0) := fun c => (hagree c).1
    have h1 : ∀ c : Dev Cert.AttnIdeal.nD, StableHlo.launchContents m' c (Proc.devRef .tc Cert.AttnRefIdeal.main_arg1)
        = m ((c.tc : Thread Cert.AttnIdeal.nD Cert.AttnIdeal.τ).loc Cert.AttnIdeal.main_arg1) := fun c => (hagree c).2.1
    have h2 : ∀ c : Dev Cert.AttnIdeal.nD, StableHlo.launchContents m' c (Proc.devRef .tc Cert.AttnRefIdeal.main_arg2)
        = m ((c.tc : Thread Cert.AttnIdeal.nD Cert.AttnIdeal.τ).loc Cert.AttnIdeal.main_arg2) := fun c => (hagree c).2.2
    run_from Cert.AttnRefIdeal.Value.run m' g'
    · rw [Cert.AttnRefIdeal.Read.val_main_v192_eq, h0 c, h1 c, h2 c]
      exact (Cert.AttnIdeal.Final.final6 m c (hA c) (hX c) (hW c)).symm
    · rw [Cert.AttnRefIdeal.Read.val_main_v194_eq, h0 c, h1 c, h2 c]
      exact (Cert.AttnIdeal.Final.final7 m c (hA c) (hX c) (hW c)).symm
    · rw [Cert.AttnRefIdeal.Read.val_main_v196_eq, h0 c, h1 c, h2 c]
      exact (Cert.AttnIdeal.Final.final8 m c (hA c) (hX c) (hW c)).symm

end Cert.AttnClaim

end
-- ==== Proof.AttnfRefValue.lean ====
/-
  The attention's forward reference at finite arguments: its result is the specification's real numbers. Its operations up
  to the probabilities are the ones the reference of the gradient starts with.
-/
module

public import proofs.«01_k».proof.Proof.AttnRefValue
public import proofs.«01_k».proof.Proof.Gen.AttnfRefIdeal.Read

@[expose] public section

set_option maxRecDepth 16384

noncomputable section

open Idealize.ShloMosaic Idealize.ShloMosaic.TcCoe Idealize.ShloMosaic.Tactic

namespace Cert.AttnSpec

/-- A row of the attention's output: the values of the two blocks, weighted by the row's probabilities. -/
def out (A : ℕ → ℝ) (X : ℕ → ℕ → ℝ) (n h r : ℕ) (d : Fin 64) : ℝ := ∑ s : Fin 256, p A X n h r s * band X 640 n (h / 4) s d

end Cert.AttnSpec

namespace Cert.AttnfRefIdeal.Pure

open Cert.AttnfRefIdeal Cert.AttnfRefIdeal.Read Cert.AttnRow Cert.AttnSpec

variable (x0 : (⟨S8, .f32⟩ : BufTy).Contents (Elt Ideal)) (x1 : (⟨S4096x768, .f32⟩ : BufTy).Contents (Elt Ideal))

theorem values_eq : val_main_v18 (F := Ideal) x1 = Cert.AttnRefIdeal.Read.val_main_v20 (F := Ideal) x1 := rfl
theorem scores_eq : val_main_v75 (F := Ideal) x1 = Cert.AttnRefIdeal.Read.val_main_v77_0 (F := Ideal) x1 := rfl
theorem exps_eq : val_main_v84 (F := Ideal) x0 x1 = Cert.AttnRefIdeal.Read.val_main_v109 (F := Ideal) x0 x1 := by
  unfold val_main_v84 val_main_v83 val_main_v82 val_main_v81 val_main_v80 val_main_v78
  rw [scores_eq]
  rfl
theorem probs_eq : val_main_v92 (F := Ideal) x0 x1 = Cert.AttnRefIdeal.Read.val_main_v117 (F := Ideal) x0 x1 := by
  unfold val_main_v92 val_main_v91 val_main_v90 val_main_v89 val_main_v88 val_main_v87 val_main_v85 val_main_v80 val_main_v78
  rw [exps_eq, scores_eq]
  rfl

variable (A : ℕ → ℝ) (X : ℕ → ℕ → ℝ)
variable (hA : ∀ h : Fin 8, x0 (ix1 h) = (A h.val : EReal)) (hX : ∀ (a : Fin 4096) (b : Fin 768), x1 (ix2 a b) = (X a.val b.val : EReal))
include hA hX

/-- The reference's result. -/
theorem res (y : Fin 4096) (z : Fin 512) : val_main_v97 (F := Ideal) x0 x1 (ix2 y z)
    = (out A X (y.val / 128) (z.val / 64) (y.val % 128) ⟨z.val % 64, by omega⟩ : EReal) := by
  pointwise [val_main_v97, val_main_v96, val_main_v95, val_main_v94, val_main_v93, probs_eq, values_eq]
  refine (Finset.sum_congr rfl fun s _ => congrArg₂ (· * ·)
    (Cert.AttnRefIdeal.Pure.values x1 X ⟨z.val / 256, by omega⟩ ⟨y.val / 128, by omega⟩ s ⟨z.val % 64, by omega⟩ hX)
    (Cert.AttnRefIdeal.Pure.probs x0 x1 (fun _ => 0) A X (fun _ _ => 0) ⟨z.val / 256, by omega⟩ ⟨z.val / 64 % 4, by omega⟩ ⟨y.val / 128, by omega⟩ ⟨y.val % 128, by omega⟩ s hA hX
      fun _ _ => EReal.coe_zero.symm)).trans ?_
  simp only [← EReal.coe_mul, coe_sum]
  unfold out
  rw [show z.val / 256 * 4 + z.val / 64 % 4 = z.val / 64 by omega, show z.val / 64 / 4 = z.val / 256 by omega]
  exact congrArg (fun z : ℝ => (z : EReal)) (Finset.sum_congr rfl fun s _ => mul_comm _ _)

end Cert.AttnfRefIdeal.Pure

end
-- ==== Proof.AttnfPure.lean ====
/-
  What one grid point of the attention's forward kernel computes: its operands are those the backward kernel cuts out of the
  same blocks, and it leaves the specification's rows of the output.
-/
module

public import proofs.«01_k».proof.Proof.Gen.AttnfIdeal.Value
public import proofs.«01_k».proof.Proof.AttnPoint
public import proofs.«01_k».proof.Proof.AttnfRefValue

@[expose] public section

set_option maxRecDepth 16384

noncomputable section

open Idealize.ShloMosaic Idealize.ShloMosaic.TcCoe Idealize.ShloMosaic.Tactic

namespace Cert.AttnfIdeal.Pure

open Cert.AttnfIdeal Cert.AttnfIdeal.Gen Cert.AttnRow Cert.AttnSpec
open Cert.AttnIdeal.Pure (Tile Blocks hd rw' rowK exK seK ex se tS)

/-! ## A tile's output -/

section
variable {A : ℕ → ℝ} {X W : ℕ → ℕ → ℝ} {n g : ℕ} {v14 : IVec S512x256 1} {q o : FVec Ideal S512x64 .bf16} {k v : FVec Ideal S256x64 .bf16}
  {b : Vec Ideal S1x512x256 .f32} {a : Fin 4 → Elt Ideal .f32}

/-- The rows of a tile's output, from its operands. -/
def tileOut (v14 : IVec S512x256 1) (q : FVec Ideal S512x64 .bf16) (k v : FVec Ideal S256x64 .bf16) (b : Vec Ideal S1x512x256 .f32) (a : Fin 4 → Elt Ideal .f32) : FVec Ideal S512x64 .f32 :=
  k0_pay1 v (k0_pay25 v14 q k b (a 0) (a 1) (a 2) (a 3)) (k0_pay26 v14 q k b (a 0) (a 1) (a 2) (a 3)) (k0_pay27 v14 q k b (a 0) (a 1) (a 2) (a 3))

theorem exF : k0_pay25 v14 q k b (a 0) (a 1) (a 2) (a 3) = ex v14 q k b a := rfl
theorem seF (j : Fin 512) : k0_pay26 v14 q k b (a 0) (a 1) (a 2) (a 3) (ix2 j 0) = Ideal.exp (se v14 q k b a (ix2 j 0)) := rfl

theorem out_row (T : Tile A X W n g v14 q o k v b a) (j : Fin 512) (d : Fin 64) : tileOut v14 q k v b a (ix2 j d) = (out A X n (g * 4 + hd j) (rw' j) d : EReal) := by
  obtain ⟨V, hV, hVb⟩ := T.v
  have H := rowK T j
  unfold tileOut
  pointwise [k0_pay1, k0_pay27, exF, seF]
  rw [seK]
  simp only [exK]
  refine (Finset.sum_congr rfl fun s _ => congrArg₂ (· * ·) (kP_eq H s) (hV s d)).trans ?_
  simp only [← EReal.coe_mul, coe_sum]
  unfold out
  rw [show (g * 4 + hd j) / 4 = g by have := Cert.AttnIdeal.Pure.hd_lt T j; omega]
  refine congrArg (fun z : ℝ => (z : EReal)) (Finset.sum_congr rfl fun s _ => ?_)
  unfold p
  by_cases h : 0 < n ∨ 128 ≤ s.val
  · rw [hVb s d h]
  · have h0 : rowE A X n (g * 4 + hd j) (rw' j) s = 0 := (row A X n (g * 4 + hd j) (rw' j)).zero s (fun hv => h hv.2)
    unfold P
    rw [h0, zero_mul, zero_mul, zero_mul]

end

/-! ## The operands the body cuts out of its blocks -/

variable (x0 : Vec Ideal S1x8 .f32) (x1 : Vec Ideal S2x512x256 .f32) (x2 : Vec Ideal S128x512 .bf16) (x3 x4 : Vec Ideal S128x256 .bf16)

/-- The queries, the keys, the values, the bias and the sinks of pair 0. -/
def tQ0 : FVec Ideal S512x64 .bf16 :=
  k0_pay7 (View.ld x2 (Rect.unit (s := S128x512) ![0, 0] S128x64.size inb_S128x512_S128x64_0_0))
    (View.ld x2 (Rect.unit (s := S128x512) ![0, 64] S128x64.size inb_S128x512_S128x64_0_64))
    (View.ld x2 (Rect.unit (s := S128x512) ![0, 128] S128x64.size inb_S128x512_S128x64_0_128))
    (View.ld x2 (Rect.unit (s := S128x512) ![0, 192] S128x64.size inb_S128x512_S128x64_0_192))
def tK0 : FVec Ideal S256x64 .bf16 :=
  k0_pay8 (View.ld x3 (Rect.unit (s := S128x256) ![0, 0] S128x64.size inb_S128x256_S128x64_0_0))
    (View.ld x4 (Rect.unit (s := S128x256) ![0, 0] S128x64.size inb_S128x256_S128x64_0_0))
def tV0 : FVec Ideal S256x64 .bf16 :=
  k0_pay9 (View.ld x3 (Rect.unit (s := S128x256) ![0, 128] S128x64.size inb_S128x256_S128x64_0_128))
    (View.ld x4 (Rect.unit (s := S128x256) ![0, 128] S128x64.size inb_S128x256_S128x64_0_128))
def tB0 : Vec Ideal S1x512x256 .f32 := View.ld x1 (Rect.unit (s := S2x512x256) ![0, 0, 0] S1x512x256.size inb_S2x512x256_S1x512x256_0_0_0)
def tA0 (h : Fin 4) : Elt Ideal .f32 := match h with
  | 0 => View.ld x0 (Rect.unit (s := S1x8) ![0, 0] S1x1.size inb_S1x8_S1x1_0_0) (Shape.Idx.first (by decide))
  | 1 => View.ld x0 (Rect.unit (s := S1x8) ![0, 1] S1x1.size inb_S1x8_S1x1_0_1) (Shape.Idx.first (by decide))
  | 2 => View.ld x0 (Rect.unit (s := S1x8) ![0, 2] S1x1.size inb_S1x8_S1x1_0_2) (Shape.Idx.first (by decide))
  | 3 => View.ld x0 (Rect.unit (s := S1x8) ![0, 3] S1x1.size inb_S1x8_S1x1_0_3) (Shape.Idx.first (by decide))

/-- The queries, the keys, the values, the bias and the sinks of pair 1. -/
def tQ1 : FVec Ideal S512x64 .bf16 :=
  k0_pay19 (View.ld x2 (Rect.unit (s := S128x512) ![0, 256] S128x64.size inb_S128x512_S128x64_0_256))
    (View.ld x2 (Rect.unit (s := S128x512) ![0, 320] S128x64.size inb_S128x512_S128x64_0_320))
    (View.ld x2 (Rect.unit (s := S128x512) ![0, 384] S128x64.size inb_S128x512_S128x64_0_384))
    (View.ld x2 (Rect.unit (s := S128x512) ![0, 448] S128x64.size inb_S128x512_S128x64_0_448))
def tK1 : FVec Ideal S256x64 .bf16 :=
  k0_pay20 (View.ld x3 (Rect.unit (s := S128x256) ![0, 64] S128x64.size inb_S128x256_S128x64_0_64))
    (View.ld x4 (Rect.unit (s := S128x256) ![0, 64] S128x64.size inb_S128x256_S128x64_0_64))
def tV1 : FVec Ideal S256x64 .bf16 :=
  k0_pay21 (View.ld x3 (Rect.unit (s := S128x256) ![0, 192] S128x64.size inb_S128x256_S128x64_0_192))
    (View.ld x4 (Rect.unit (s := S128x256) ![0, 192] S128x64.size inb_S128x256_S128x64_0_192))
def tB1 : Vec Ideal S1x512x256 .f32 := View.ld x1 (Rect.unit (s := S2x512x256) ![1, 0, 0] S1x512x256.size inb_S2x512x256_S1x512x256_1_0_0)
def tA1 (h : Fin 4) : Elt Ideal .f32 := match h with
  | 0 => View.ld x0 (Rect.unit (s := S1x8) ![0, 4] S1x1.size inb_S1x8_S1x1_0_4) (Shape.Idx.first (by decide))
  | 1 => View.ld x0 (Rect.unit (s := S1x8) ![0, 5] S1x1.size inb_S1x8_S1x1_0_5) (Shape.Idx.first (by decide))
  | 2 => View.ld x0 (Rect.unit (s := S1x8) ![0, 6] S1x1.size inb_S1x8_S1x1_0_6) (Shape.Idx.first (by decide))
  | 3 => View.ld x0 (Rect.unit (s := S1x8) ![0, 7] S1x1.size inb_S1x8_S1x1_0_7) (Shape.Idx.first (by decide))

/-- A load of a whole reference reads its value. -/
theorem load_eq {sp : Space} {s : Shape} {e : EltTy} {arg : Memref Cert.AttnIdeal.sig .tc sp s e} (h : arg.IsWhole) (x : Vec Ideal s e) (R : Rect s) :
    View.readAt (Elt Ideal) arg.view R.toLoadRect (h.unread x) = View.ld x R :=
  funext fun y => h.readAt_unread x _ y

variable
  {arg1 : Memref Cert.AttnIdeal.sig .tc .smem S1x8 .f32} (harg1 : arg1.IsWhole)
  {arg2 : Memref Cert.AttnIdeal.sig .tc .vmem S2x512x256 .f32} (harg2 : arg2.IsWhole)
  {arg3 : Memref Cert.AttnIdeal.sig .tc .vmem S128x512 .bf16} (harg3 : arg3.IsWhole)
  {arg4 : Memref Cert.AttnIdeal.sig .tc .vmem S128x256 .bf16} (harg4 : arg4.IsWhole)
  {arg5 : Memref Cert.AttnIdeal.sig .tc .vmem S128x256 .bf16} (harg5 : arg5.IsWhole)

/-! The backward kernel cuts the same operands out of its blocks. -/

theorem Q0_eq : tQ0 x2 = Cert.AttnIdeal.Pure.tQ0 harg3 x2 := by
  unfold tQ0 Cert.AttnIdeal.Pure.tQ0
  simp only [load_eq harg3]
  rfl
theorem K0_eq : tK0 x3 x4 = Cert.AttnIdeal.Pure.tK0 harg4 x3 harg5 x4 := by
  unfold tK0 Cert.AttnIdeal.Pure.tK0
  simp only [load_eq harg4, load_eq harg5]
  rfl
theorem V0_eq : tV0 x3 x4 = Cert.AttnIdeal.Pure.tV0 harg4 x3 harg5 x4 := by
  unfold tV0 Cert.AttnIdeal.Pure.tV0
  simp only [load_eq harg4, load_eq harg5]
  rfl
theorem B0_eq : tB0 x1 = Cert.AttnIdeal.Pure.tB0 harg2 x1 := by
  unfold tB0 Cert.AttnIdeal.Pure.tB0
  simp only [load_eq harg2]
theorem A0_eq : tA0 x0 = Cert.AttnIdeal.Pure.tA0 harg1 x0 := funext fun h => by
  match h with
  | 0 => exact congrFun (load_eq harg1 x0 _).symm _
  | 1 => exact congrFun (load_eq harg1 x0 _).symm _
  | 2 => exact congrFun (load_eq harg1 x0 _).symm _
  | 3 => exact congrFun (load_eq harg1 x0 _).symm _
theorem Q1_eq : tQ1 x2 = Cert.AttnIdeal.Pure.tQ1 harg3 x2 := by
  unfold tQ1 Cert.AttnIdeal.Pure.tQ1
  simp only [load_eq harg3]
  rfl
theorem K1_eq : tK1 x3 x4 = Cert.AttnIdeal.Pure.tK1 harg4 x3 harg5 x4 := by
  unfold tK1 Cert.AttnIdeal.Pure.tK1
  simp only [load_eq harg4, load_eq harg5]
  rfl
theorem V1_eq : tV1 x3 x4 = Cert.AttnIdeal.Pure.tV1 harg4 x3 harg5 x4 := by
  unfold tV1 Cert.AttnIdeal.Pure.tV1
  simp only [load_eq harg4, load_eq harg5]
  rfl
theorem B1_eq : tB1 x1 = Cert.AttnIdeal.Pure.tB1 harg2 x1 := by
  unfold tB1 Cert.AttnIdeal.Pure.tB1
  simp only [load_eq harg2]
theorem A1_eq : tA1 x0 = Cert.AttnIdeal.Pure.tA1 harg1 x0 := funext fun h => by
  match h with
  | 0 => exact congrFun (load_eq harg1 x0 _).symm _
  | 1 => exact congrFun (load_eq harg1 x0 _).symm _
  | 2 => exact congrFun (load_eq harg1 x0 _).symm _
  | 3 => exact congrFun (load_eq harg1 x0 _).symm _

end Cert.AttnfIdeal.Pure

end
-- ==== Proof.AttnfValue.lean ====
/-
  What the attention's forward kernel leaves in its result array, for arguments that are real numbers.
-/
module

public import proofs.«01_k».proof.Proof.AttnfPure
public import proofs.«01_k».proof.Proof.AttnBlocks

@[expose] public section

set_option maxRecDepth 16384

noncomputable section

open Idealize.ShloMosaic Idealize.ShloMosaic.TcCoe Idealize.ShloMosaic.Tactic Idealize.SL.Sem
open Idealize.ShloMosaic.Pipeline (Dat)

namespace Cert.AttnfIdeal.Final

open Cert.AttnfIdeal Cert.AttnfIdeal.Gen Cert.AttnfIdeal.Pure Cert.AttnRow Cert.AttnSpec
open Cert.AttnIdeal.Pure (Tile Blocks hd rw' table table_row tile0 tile1)
open Cert.AttnfRefIdeal.Read (val_main_v97)

/-! ## The pieces the body stores -/

theorem cut16 (z : FVec Ideal S512x64 .f32) (r : Fin 128) (d : Fin 64) : k0_pay16 z (ix2 r d) = z (ix2 ⟨128 + r.val, by omega⟩ d) := by
  pointwise [k0_pay16]
theorem cut17 (z : FVec Ideal S512x64 .f32) (r : Fin 128) (d : Fin 64) : k0_pay17 z (ix2 r d) = z (ix2 ⟨256 + r.val, by omega⟩ d) := by
  pointwise [k0_pay17]
theorem cut18 (z : FVec Ideal S512x64 .f32) (r : Fin 128) (d : Fin 64) : k0_pay18 z (ix2 r d) = z (ix2 ⟨384 + r.val, by omega⟩ d) := by
  pointwise [k0_pay18]
theorem cut2 (v : FVec Ideal S256x64 .bf16) (e : FVec Ideal S512x256 .f32) (z y : FVec Ideal S512x1 .f32) (r : Fin 128) (d : Fin 64) :
    k0_pay2 v e z y (ix2 r d) = k0_pay1 v e z y (ix2 ⟨0 + r.val, by omega⟩ d) := by
  pointwise [k0_pay2]
theorem cut3 (v : FVec Ideal S256x64 .bf16) (e : FVec Ideal S512x256 .f32) (z y : FVec Ideal S512x1 .f32) (r : Fin 128) (d : Fin 64) :
    k0_pay3 v e z y (ix2 r d) = k0_pay1 v e z y (ix2 ⟨128 + r.val, by omega⟩ d) := by
  pointwise [k0_pay3]
theorem cut4 (v : FVec Ideal S256x64 .bf16) (e : FVec Ideal S512x256 .f32) (z y : FVec Ideal S512x1 .f32) (r : Fin 128) (d : Fin 64) :
    k0_pay4 v e z y (ix2 r d) = k0_pay1 v e z y (ix2 ⟨256 + r.val, by omega⟩ d) := by
  pointwise [k0_pay4]
theorem cut5 (v : FVec Ideal S256x64 .bf16) (e : FVec Ideal S512x256 .f32) (z y : FVec Ideal S512x1 .f32) (r : Fin 128) (d : Fin 64) :
    k0_pay5 v e z y (ix2 r d) = k0_pay1 v e z y (ix2 ⟨384 + r.val, by omega⟩ d) := by
  pointwise [k0_pay5]
theorem cut15 (s : IVec S512x256 1) (q : FVec Ideal S512x64 .bf16) (k v : FVec Ideal S256x64 .bf16) (b : FVec Ideal S512x256 .f32) (i : IVec S512x1 32) (z : FVec Ideal S512x1 .f32)
    (j : IVec S512x1 1) (a0 a1 a2 a3 : Elt Ideal .f32) (r : Fin 128) (d : Fin 64) :
    k0_pay15 s q k v b i z j a0 a1 a2 a3 (ix2 r d) = k0_pay14 s q k v b i z j a0 a1 a2 a3 (ix2 ⟨0 + r.val, by omega⟩ d) := by
  pointwise [k0_pay15]

/-- The first pair's tile goes through the same operations as the second's. -/
theorem first_eq (s : IVec S512x256 1) (q : FVec Ideal S512x64 .bf16) (k v : FVec Ideal S256x64 .bf16) (b : Vec Ideal S1x512x256 .f32) (a : Fin 4 → Elt Ideal .f32) :
    k0_pay14 s q k v (k0_pay10 b) k0_pay11 k0_pay12 k0_pay13 (a 0) (a 1) (a 2) (a 3) = tileOut s q k v b a := rfl

variable (m : (ℓ : Loc nD τ sig) → Buf (Elt Ideal) ℓ) (c : Dev nD) (t : Fin cfg0.N)

/-! ## The blocks of a grid point -/

/-- The block each window takes at each grid point. -/
theorem idx : ∀ t : Fin cfg0.N, win0_0.index t = ![0, 0] ∧ win0_1.index t = ![0, 0, 0] ∧ win0_2.index t = ![t.val, 0]
    ∧ win0_3.index t = ![t.val - 1, 2] ∧ win0_4.index t = ![t.val, 2] ∧ win0_5.index t = ![t.val, 0] :=
  (by decide +kernel : ∀ t : Fin grid0.N, _)

/-- A point's number is its block's. -/
theorem pt : ∀ t : Fin cfg0.N, (grid0.coords t 0).val = t.val := (by decide +kernel : ∀ t : Fin grid0.N, (grid0.coords t 0).val = t.val)

theorem lt32 : t.val < 32 := lt_of_lt_of_eq t.isLt N_0

theorem V_v0 : V m c main_v0 = shapeCast S1x8 (m ((c : Thread nD τ).loc main_arg0)) shapeCasts_S8_S1x8 := by
  unfold V
  simp only [hostOps0, hostOps0_1, hostOps0_2, List.flatten_cons, List.flatten_nil, List.append_nil, List.cons_append, List.nil_append]
  after_results
  try rfl

theorem V_v29 : V m c main_v29 = table := by
  unfold V
  simp only [hostOps0, hostOps0_1, hostOps0_2, List.flatten_cons, List.flatten_nil, List.append_nil, List.cons_append, List.nil_append]
  after_results
  rfl

theorem blk0 (y : Fin 8) : iblk m c 0 t (ix2 0 y) = m ((c : Thread nD τ).loc main_arg0) (ix1 y) := by
  blk_simp [iblk]
  rw [V_v0]
  pointwise
  blk_ext [idx t]

theorem blk1 (g : Fin 2) (j : Fin 512) (s : Fin 256) : iblk m c 1 t (ix3 g j s) = table (ix3 g j s) := by
  blk_simp [iblk]
  rw [V_v29]
  blk_ext [idx t]

theorem blk2 (r : Fin 128) (l : Fin 512) : X0_2 m c t (ix2 r l) = m ((c : Thread nD τ).loc main_arg1) (ix2 ⟨t.val * 128 + r.val, by have := lt32 t; omega⟩ ⟨l.val, by omega⟩) := by
  have h := lt32 t
  unfold X0_2 Pipeline.Window.fill
  rw [dif_pos (moved0_2 t _)]
  blk_simp [iblk]
  entry_read
  pointwise
  blk_ext [idx t]

theorem blk3 (r : Fin 128) (l : Fin 256) : iblk m c 3 t (ix2 r l) = m ((c : Thread nD τ).loc main_arg1) (ix2 ⟨(t.val - 1) * 128 + r.val, by have := lt32 t; omega⟩ ⟨512 + l.val, by omega⟩) := by
  have h := lt32 t
  blk_simp [iblk]
  entry_read
  pointwise
  blk_ext [idx t]

theorem blk4 (r : Fin 128) (l : Fin 256) : iblk m c 4 t (ix2 r l) = m ((c : Thread nD τ).loc main_arg1) (ix2 ⟨t.val * 128 + r.val, by have := lt32 t; omega⟩ ⟨512 + l.val, by omega⟩) := by
  have h := lt32 t
  blk_simp [iblk]
  entry_read
  pointwise
  blk_ext [idx t]

/-- A grid point of the backward kernel, for the place of its blocks. -/
def t' : Fin Cert.AttnIdeal.cfg0.N := ⟨t.val, lt_of_lt_of_eq (Nat.lt_succ_of_lt (lt32 t)) Cert.AttnIdeal.Gen.N_0.symm⟩

/-- The keys a point sees: its own block's, and those before them where there is a block before. -/
theorem seen (j : Fin 512) (s : Fin 256) : k0_pay6 (grid0.coords t) (ix2 j s) = BitVec.ofBool (decide (0 < t.val ∨ 128 ≤ s.val)) := by
  pointwise [k0_pay6]
  rw [pt]
  exact word_seen ⟨t.val, lt32 t⟩ s

variable {A : ℕ → ℝ} {X : ℕ → ℕ → ℝ}
variable (hA : ∀ y : Fin 8, m ((c : Thread nD τ).loc main_arg0) (ix1 y) = ((A y.val : ℝ) : EReal))
variable (hX : ∀ (a : Fin 4096) (b : Fin 768), m ((c : Thread nD τ).loc main_arg1) (ix2 a b) = ((X a.val b.val : ℝ) : EReal))
include hA hX

/-- The blocks of a point; a forward point has no cotangent, so that part is zero. -/
theorem blocks : Blocks (iblk m c 0 t) (iblk m c 1 t) (X0_2 m c t) (iblk m c 3 t) (iblk m c 4 t) (fun _ => (0 : EReal)) A X (fun _ _ => 0) t.val where
  sink y := (blk0 m c t y).trans (hA y)
  bias g j s := (blk1 m c t g j s).trans (table_row g j s)
  q r l := (blk2 m c t r l).trans (hX _ _)
  before r l := (blk3 m c t r l).trans (hX _ _)
  own r l := (blk4 m c t r l).trans (hX _ _)
  ct _ _ := EReal.coe_zero.symm

/-- A pair's operands are the specification's entries. -/
theorem T0 : ∃ o, Tile A X (fun _ _ => 0) t.val 0 (k0_pay6 (grid0.coords t)) (tQ0 (X0_2 m c t)) o (tK0 (iblk m c 3 t) (iblk m c 4 t))
    (tV0 (iblk m c 3 t) (iblk m c 4 t)) (tB0 (iblk m c 1 t)) (tA0 (iblk m c 0 t)) := by
  rw [Q0_eq _ (Cert.AttnIdeal.Body.hst2 (t' t)), K0_eq _ _ (Cert.AttnIdeal.Body.hst3 (t' t)) (Cert.AttnIdeal.Body.hst4 (t' t)),
    V0_eq _ _ (Cert.AttnIdeal.Body.hst3 (t' t)) (Cert.AttnIdeal.Body.hst4 (t' t)), B0_eq _ (Cert.AttnIdeal.Body.hst1 (t' t)),
    A0_eq _ (Cert.AttnIdeal.Body.hst0 (t' t))]
  exact ⟨_, { tile0 (Cert.AttnIdeal.Body.hst0 (t' t)) _ (Cert.AttnIdeal.Body.hst1 (t' t)) _ (Cert.AttnIdeal.Body.hst2 (t' t)) _ (Cert.AttnIdeal.Body.hst3 (t' t)) _ (Cert.AttnIdeal.Body.hst4 (t' t)) _
    (Cert.AttnIdeal.Body.hst5 (t' t)) _ (blocks m c t hA hX) _ (Cert.AttnIdeal.Pure.pt (t' t)) (lt32 t) with seen := seen t }⟩

/-- A pair's output, by rows of its tile. -/
theorem o0 (j : Fin 512) (d d' : Fin 64) (hh r : ℕ) (e : hh = 0 * 4 + hd j) (e' : r = rw' j) (e'' : d = d') :
    tileOut (k0_pay6 (grid0.coords t)) (tQ0 (X0_2 m c t)) (tK0 (iblk m c 3 t) (iblk m c 4 t))
      (tV0 (iblk m c 3 t) (iblk m c 4 t)) (tB0 (iblk m c 1 t)) (tA0 (iblk m c 0 t)) (ix2 j d)
    = (out A X t.val hh r d' : EReal) := by
  subst e e' e''
  obtain ⟨o, T⟩ := T0 m c t hA hX
  exact out_row T j d

theorem T1 : ∃ o, Tile A X (fun _ _ => 0) t.val 1 (k0_pay6 (grid0.coords t)) (tQ1 (X0_2 m c t)) o (tK1 (iblk m c 3 t) (iblk m c 4 t))
    (tV1 (iblk m c 3 t) (iblk m c 4 t)) (tB1 (iblk m c 1 t)) (tA1 (iblk m c 0 t)) := by
  rw [Q1_eq _ (Cert.AttnIdeal.Body.hst2 (t' t)), K1_eq _ _ (Cert.AttnIdeal.Body.hst3 (t' t)) (Cert.AttnIdeal.Body.hst4 (t' t)),
    V1_eq _ _ (Cert.AttnIdeal.Body.hst3 (t' t)) (Cert.AttnIdeal.Body.hst4 (t' t)), B1_eq _ (Cert.AttnIdeal.Body.hst1 (t' t)),
    A1_eq _ (Cert.AttnIdeal.Body.hst0 (t' t))]
  exact ⟨_, { tile1 (Cert.AttnIdeal.Body.hst0 (t' t)) _ (Cert.AttnIdeal.Body.hst1 (t' t)) _ (Cert.AttnIdeal.Body.hst2 (t' t)) _ (Cert.AttnIdeal.Body.hst3 (t' t)) _ (Cert.AttnIdeal.Body.hst4 (t' t)) _
    (Cert.AttnIdeal.Body.hst5 (t' t)) _ (blocks m c t hA hX) _ (Cert.AttnIdeal.Pure.pt (t' t)) (lt32 t) with seen := seen t }⟩

theorem o1 (j : Fin 512) (d d' : Fin 64) (hh r : ℕ) (e : hh = 1 * 4 + hd j) (e' : r = rw' j) (e'' : d = d') :
    tileOut (k0_pay6 (grid0.coords t)) (tQ1 (X0_2 m c t)) (tK1 (iblk m c 3 t) (iblk m c 4 t))
      (tV1 (iblk m c 3 t) (iblk m c 4 t)) (tB1 (iblk m c 1 t)) (tA1 (iblk m c 0 t)) (ix2 j d)
    = (out A X t.val hh r d' : EReal) := by
  subst e e' e''
  obtain ⟨o, T⟩ := T1 m c t hA hX
  exact out_row T j d

/-- The output of a grid point's block. -/
theorem block (r : Fin 128) (l : Fin 512) : outsAt0 m c t (ix2 r l) = (out A X t.val (l.val / 64) r.val ⟨l.val % 64, by omega⟩ : EReal) := by
  unfold outsAt0 out0_A_5
  frame_out
  canon_tiles
  all_goals
    idx_vars x
    have e0 : r.val = x0.val := h0
  · have e1 : l.val = 448 + x1.val := h1
    exact (cut5 _ _ _ _ x0 x1).trans (o1 m c t hA hX _ _ _ _ _ (by unfold hd; dsimp only; omega) (by unfold rw'; dsimp only; omega) (Fin.ext (by dsimp only; omega)))
  · have e1 : l.val = 384 + x1.val := h1
    exact (cut4 _ _ _ _ x0 x1).trans (o1 m c t hA hX _ _ _ _ _ (by unfold hd; dsimp only; omega) (by unfold rw'; dsimp only; omega) (Fin.ext (by dsimp only; omega)))
  · have e1 : l.val = 320 + x1.val := h1
    exact (cut3 _ _ _ _ x0 x1).trans (o1 m c t hA hX _ _ _ _ _ (by unfold hd; dsimp only; omega) (by unfold rw'; dsimp only; omega) (Fin.ext (by dsimp only; omega)))
  · have e1 : l.val = 256 + x1.val := h1
    exact (cut2 _ _ _ _ x0 x1).trans (o1 m c t hA hX _ _ _ _ _ (by unfold hd; dsimp only; omega) (by unfold rw'; dsimp only; omega) (Fin.ext (by dsimp only; omega)))
  · have e1 : l.val = 192 + x1.val := h1
    exact (cut18 _ x0 x1).trans (o0 m c t hA hX _ _ _ _ _ (by unfold hd; dsimp only; omega) (by unfold rw'; dsimp only; omega) (Fin.ext (by dsimp only; omega)))
  · have e1 : l.val = 128 + x1.val := h1
    exact (cut17 _ x0 x1).trans (o0 m c t hA hX _ _ _ _ _ (by unfold hd; dsimp only; omega) (by unfold rw'; dsimp only; omega) (Fin.ext (by dsimp only; omega)))
  · have e1 : l.val = 64 + x1.val := h1
    exact (cut16 _ x0 x1).trans (o0 m c t hA hX _ _ _ _ _ (by unfold hd; dsimp only; omega) (by unfold rw'; dsimp only; omega) (Fin.ext (by dsimp only; omega)))
  · have e1 : l.val = 0 + x1.val := h1.trans (Nat.zero_add _).symm
    exact (cut15 _ _ _ _ _ _ _ _ _ _ _ _ x0 x1).trans (o0 m c t hA hX _ _ _ _ _ (by unfold hd; dsimp only; omega) (by unfold rw'; dsimp only; omega) (Fin.ext (by dsimp only; omega)))

/-- The kernel's result is the reference's. -/
theorem final : (dats m 0 c).arrAt 5 cfg0.N = val_main_v97 (F := Ideal) (m ((c : Thread nD τ).loc main_arg0)) (m ((c : Thread nD τ).loc main_arg1)) := by
  refine (dats m 0 c).arrAt_eq_of_covers 5 _ (by decide +kernel) fun t hf y => ?_
  have ht : t.val < 32 := lt32 t
  blk_simp
  rw [after0_5]
  idx_vars y
  have he : ((View.whole main_v31).slice (win0_5.rect t)).emb (ix2 y0 y1) = (ix2 ⟨t.val * 128 + y0.val, by omega⟩ y1 : S4096x512.Idx) := by
    blk_ext [idx t]
  rw [he]
  refine Eq.trans ?_ (Cert.AttnfRefIdeal.Pure.res _ _ A X hA hX _ _).symm
  rw [block m c t hA hX y0 y1]
  show ((out A X t.val (y1.val / 64) y0.val _ : ℝ) : EReal) = ((out A X ((t.val * 128 + y0.val) / 128) (y1.val / 64) ((t.val * 128 + y0.val) % 128) _ : ℝ) : EReal)
  rw [show (t.val * 128 + y0.val) / 128 = t.val by omega, show (t.val * 128 + y0.val) % 128 = y0.val by omega]

end Cert.AttnfIdeal.Final

end
-- ==== Proof.AttnfClaim.lean ====
/-
  The claims about the attention's forward call: the reference's frame, the named mask and the value claim.
-/
module

public import proofs.«01_k».proof.Defs
public import proofs.«01_k».proof.Proof.AttnfValue
public import proofs.«01_k».proof.Proof.AttnClaim

@[expose] public section

set_option maxRecDepth 16384

noncomputable section

open Idealize.ShloMosaic Idealize.ShloMosaic.TcCoe Idealize.SL.Sem

namespace Cert.AttnfClaim

open Cert.AttnClaim (entry entry1)

/-- The shape relations of the precondition's operations. -/
theorem facts : Cert.Pre_attnf_finite.Facts where
  bcast_S_S8 := by decide
  reducesTo_S8_S_d0 := by decide
  h_S_ := by decide
  bcast_S_S4096x768 := by decide
  reducesTo_S4096x768_S_d0_1 := by decide

/-- The reference runs and leaves its arguments and its counters as they were. -/
theorem frame_ref : Cert.quiescent_AttnfRefIdeal := by
  intro m g _
  exact (θ_run Cert.AttnfRefIdeal.defs _ _).mono
    (fun r h => ⟨fun c => (h c).2, sem_eq_zero_of_no_sems (by decide) r.2⟩)
    (Cert.AttnfRefIdeal.Value.run (F := Ideal) m g)

/-- The kernel's mask, a large negative number, stands for minus infinity. -/
theorem preserves : Cert.preserves_Attnf_AttnfIdeal :=
  IdealRules.named_const.statement Cert.AttnfIdeal.κ "mask" .f32 0xF149F2CA#32 ⊥ rfl

instance : Subsingleton Cert.Pre_attnf_finite.S_.Idx := ⟨fun a b => funext fun i => i.elim0⟩

/-- Under the precondition the arguments are real numbers. -/
theorem reals (x0 : FVec Ideal Cert.Pre_attnf_finite.S8 .f32) (x1 : FVec Ideal Cert.Pre_attnf_finite.S4096x768 .f32)
    (h : @Cert.Pre_attnf_finite.fn facts Ideal _ x0 x1 = fun _ => 1#1) :
    (∀ i, x0 i = ((x0 i).toReal : EReal)) ∧ ∀ i, x1 i = ((x1 i).toReal : EReal) := by
  have h0 := congrFun h (fun i => i.elim0)
  obtain ⟨h0, h1⟩ := IntOp.andi_eq_one.mp h0
  exact ⟨Cert.Finite.real_of_all x0 _ _ _ _ _ (fun _ => rfl) h0, Cert.Finite.real_of_all x1 _ _ _ _ _ (fun _ => rfl) h1⟩

set_option maxHeartbeats 2000000 in
/-- Kernel and reference end with equal outputs of the attention. -/
theorem algebraic : Cert.algebraic_AttnfIdeal_AttnfRefIdeal_pre_attnf_finite (hPre_attnf_finite := facts) := by
  pair_intro
  · run_from Cert.AttnfIdeal.Gen.run_main m g
    · exact Cert.AttnfIdeal.Gen.V_main_arg0 m c
    · exact Cert.AttnfIdeal.Gen.V_main_arg1 m c
  · have hA : ∀ (c : Dev Cert.AttnfIdeal.nD) (y : Fin 8), m ((c.tc : Thread Cert.AttnfIdeal.nD Cert.AttnfIdeal.τ).loc Cert.AttnfIdeal.main_arg0) (ix1 y)
        = ((entry1 (a := 8) (m ((c.tc : Thread Cert.AttnfIdeal.nD Cert.AttnfIdeal.τ).loc Cert.AttnfIdeal.main_arg0)) y.val : ℝ) : EReal) := fun c y => by
      rw [entry1, dif_pos y.isLt]; exact (reals _ _ (hpre c)).1 _
    have hX : ∀ (c : Dev Cert.AttnfIdeal.nD) (a : Fin 4096) (b : Fin 768), m ((c.tc : Thread Cert.AttnfIdeal.nD Cert.AttnfIdeal.τ).loc Cert.AttnfIdeal.main_arg1) (ix2 a b)
        = ((entry (a := 4096) (b := 768) (m ((c.tc : Thread Cert.AttnfIdeal.nD Cert.AttnfIdeal.τ).loc Cert.AttnfIdeal.main_arg1)) a.val b.val : ℝ) : EReal) := fun c a b => by
      rw [entry, dif_pos ⟨a.isLt, b.isLt⟩]; exact (reals _ _ (hpre c)).2 _
    run_from Cert.AttnfRefIdeal.Value.run m' g'
    · rw [Cert.AttnfRefIdeal.Read.val_main_v97_eq, (hagree c).1, (hagree c).2]
      exact (Cert.AttnfIdeal.Final.final m c (hA c) (hX c)).symm

end Cert.AttnfClaim

end
-- ==== Proof.FfnIdealLoad.lean ====
/-
  The two weights of the feed-forward gradient's kernel, which the first point copies into the body's own buffers piece by piece.

  Each weight's array is held as the pieces the copies name; what the copies deliver, put together, is the whole array.
-/
module

public import proofs.«01_k».proof.Proof.Gen.FfnIdeal.Skeleton
public import proofs.«01_k».proof.Proof.Gen.FfnIdeal.Frame
public import Idealize.ShloMosaic.Lib.Pipeline.Value

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The two weights' arrays, left in HBM. -/
abbrev hbIn : Memref sig .tc .hbm S4x1024x1408 .bf16 := Memref.whole main_v21
abbrev hbOut : Memref sig .tc .hbm S2816x1024 .bf16 := Memref.whole main_v23
abbrev hbDep : Memref sig .tc .hbm S8x128 .f32 := Memref.whole main_v24
/-- The body's own buffers for them. -/
abbrev scIn : Memref sig .tc .vmem S4x1024x1408 .bf16 := Memref.whole cc0_scratch0
abbrev scOut : Memref sig .tc .vmem S2816x1024 .bf16 := Memref.whole cc0_scratch1
/-- A buffer's contents on one core, and the whole of it held. -/
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- A resource set aside: what runs the body does not see it until it is taken out again. -/
def Aside (P : sProp 𝕄) : sProp 𝕄 := iprop(∃ _ : Unit, P)
theorem aside_out (P : sProp 𝕄) : Aside P ⊢ P := by
  unfold Aside
  iintro ⟨%u, H⟩
  iexact H
theorem aside_in (P G : sProp 𝕄) : iprop(Aside P -∗ G) ⊢ iprop(P -∗ G) := by
  iintro H HP
  iapply H
  unfold Aside
  iexists ()
  iexact HP

/-- An index of the four-block weight lies in block `k` exactly when its first coordinate is `k`. -/
theorem mem_in (k : ℕ) (h : _) (j : S4x1024x1408.Idx) :
    j ∈ (Rect.unit (s := S4x1024x1408) ![k, 0, 0] S1x1024x1408.size h).set ↔ (j 0).val = k := by
  have h1 := (j 1).isLt; have h2 := (j 2).isLt
  rw [Rect.mem_set_unit]
  constructor
  · intro H; have := H 0; simp at this; omega
  · intro H; intro d; fin_cases d <;> simp at * <;> omega

/-- An index of the output weight lies in the 1408 rows from `k` on exactly when its row does. -/
theorem mem_out (k : ℕ) (h : _) (j : S2816x1024.Idx) :
    j ∈ (Rect.unit (s := S2816x1024) ![k, 0] S1408x1024.size h).set ↔ k ≤ (j 0).val ∧ (j 0).val < k + 1408 := by
  have h1 := (j 1).isLt
  rw [Rect.mem_set_unit]
  constructor
  · intro H; have := H 0; simp at this; omega
  · intro H; intro d; fin_cases d <;> simp at * <;> omega

/-- Two different blocks share nothing, and the four of them are everything. -/
theorem in_disj (k l : ℕ) (h : _) (h' : _) (hk : k ≠ l) :
    Disjoint (Rect.unit (s := S4x1024x1408) ![k, 0, 0] S1x1024x1408.size h).set (Rect.unit (s := S4x1024x1408) ![l, 0, 0] S1x1024x1408.size h').set :=
  Finset.disjoint_left.mpr fun j h1 h2 => hk (((mem_in k h j).mp h1).symm.trans ((mem_in l h' j).mp h2))
theorem in_cover (h0 h1 h2 h3 : _) :
    (Rect.unit (s := S4x1024x1408) ![0, 0, 0] S1x1024x1408.size h0).set ∪ ((Rect.unit (s := S4x1024x1408) ![1, 0, 0] S1x1024x1408.size h1).set
      ∪ ((Rect.unit (s := S4x1024x1408) ![2, 0, 0] S1x1024x1408.size h2).set ∪ (Rect.unit (s := S4x1024x1408) ![3, 0, 0] S1x1024x1408.size h3).set))
      = Finset.univ := by
  refine Finset.eq_univ_iff_forall.mpr fun j => ?_
  have hj : (j 0).val < 4 := (j 0).isLt
  rw [Finset.mem_union, Finset.mem_union, Finset.mem_union, mem_in, mem_in, mem_in, mem_in]
  omega

/-- The two halves of the output weight share nothing, and are everything. -/
theorem out_disj (h h' : _) :
    Disjoint (Rect.unit (s := S2816x1024) ![0, 0] S1408x1024.size h).set (Rect.unit (s := S2816x1024) ![1408, 0] S1408x1024.size h').set :=
  Finset.disjoint_left.mpr fun j h1 h2 => by
    have a := (mem_out 0 h j).mp h1; have b := (mem_out 1408 h' j).mp h2; omega
theorem out_cover (h h' : _) :
    (Rect.unit (s := S2816x1024) ![0, 0] S1408x1024.size h).set ∪ (Rect.unit (s := S2816x1024) ![1408, 0] S1408x1024.size h').set = Finset.univ := by
  refine Finset.eq_univ_iff_forall.mpr fun j => ?_
  have hj : (j 0).val < 2816 := (j 0).isLt
  rw [Finset.mem_union, mem_out, mem_out]
  omega

/-- A buffer held whole is two parts of it that share nothing and leave nothing out. -/
theorem split2 (ℓ : Loc nD τ sig) (f : Buf (Elt F) ℓ) (I J : Finset (Idx ℓ)) (hd : Disjoint I J) (hu : I ∪ J = Finset.univ) :
    (ℓ ↦{fullShare} f : sProp 𝕄) ⊣⊢ iprop((ℓ ↦[I]{fullShare} f) ∗ (ℓ ↦[J]{fullShare} f)) := by
  rw [← hu]
  exact pointsTo_union hd

/-- The same with four parts. -/
theorem split4 (ℓ : Loc nD τ sig) (f : Buf (Elt F) ℓ) (I J K L : Finset (Idx ℓ)) (h1 : Disjoint I (J ∪ (K ∪ L))) (h2 : Disjoint J (K ∪ L))
    (h3 : Disjoint K L) (hu : I ∪ (J ∪ (K ∪ L)) = Finset.univ) :
    (ℓ ↦{fullShare} f : sProp 𝕄)
      ⊣⊢ iprop((ℓ ↦[I]{fullShare} f) ∗ (ℓ ↦[J]{fullShare} f) ∗ (ℓ ↦[K]{fullShare} f) ∗ (ℓ ↦[L]{fullShare} f)) := by
  have e1 : (ℓ ↦[K ∪ L]{fullShare} f : sProp 𝕄) ⊣⊢ _ := pointsTo_union h3
  have e2 : (ℓ ↦[J ∪ (K ∪ L)]{fullShare} f : sProp 𝕄) ⊣⊢ _ := pointsTo_union h2
  have e3 := split2 ℓ f I _ h1 hu
  constructor
  · iintro H
    ihave ⟨A, H⟩ := e3.1 $$ H
    ihave ⟨B, H⟩ := e2.1 $$ H
    ihave ⟨C, D⟩ := e1.1 $$ H
    isplitl [A]; · iexact A
    isplitl [B]; · iexact B
    isplitl [C] <;> iassumption
  · iintro ⟨A, B, C, D⟩
    iapply e3.2
    isplitl [A]; · iexact A
    iapply e2.2
    isplitl [B]; · iexact B
    iapply e1.2
    isplitl [C] <;> iassumption

variable (c : Dev nD)

theorem set_hbIn0 : ((hbIn.slice (Rect.unit (s := S4x1024x1408) ![0, 0, 0] S1x1024x1408.size inb_S4x1024x1408_S1x1024x1408_0_0_0) (fun _ => rfl)).squeeze S1024x1408 squeezes_S1x1024x1408_S1024x1408).view.set = (Rect.unit (s := S4x1024x1408) ![0, 0, 0] S1x1024x1408.size inb_S4x1024x1408_S1x1024x1408_0_0_0).set := by
  exact (View.set_reshape _ _).trans (View.set_slice_whole _ _)
theorem set_hbIn1 : ((hbIn.slice (Rect.unit (s := S4x1024x1408) ![1, 0, 0] S1x1024x1408.size inb_S4x1024x1408_S1x1024x1408_1_0_0) (fun _ => rfl)).squeeze S1024x1408 squeezes_S1x1024x1408_S1024x1408).view.set = (Rect.unit (s := S4x1024x1408) ![1, 0, 0] S1x1024x1408.size inb_S4x1024x1408_S1x1024x1408_1_0_0).set := by
  exact (View.set_reshape _ _).trans (View.set_slice_whole _ _)
theorem set_hbIn2 : ((hbIn.slice (Rect.unit (s := S4x1024x1408) ![2, 0, 0] S1x1024x1408.size inb_S4x1024x1408_S1x1024x1408_2_0_0) (fun _ => rfl)).squeeze S1024x1408 squeezes_S1x1024x1408_S1024x1408).view.set = (Rect.unit (s := S4x1024x1408) ![2, 0, 0] S1x1024x1408.size inb_S4x1024x1408_S1x1024x1408_2_0_0).set := by
  exact (View.set_reshape _ _).trans (View.set_slice_whole _ _)
theorem set_hbIn3 : ((hbIn.slice (Rect.unit (s := S4x1024x1408) ![3, 0, 0] S1x1024x1408.size inb_S4x1024x1408_S1x1024x1408_3_0_0) (fun _ => rfl)).squeeze S1024x1408 squeezes_S1x1024x1408_S1024x1408).view.set = (Rect.unit (s := S4x1024x1408) ![3, 0, 0] S1x1024x1408.size inb_S4x1024x1408_S1x1024x1408_3_0_0).set := by
  exact (View.set_reshape _ _).trans (View.set_slice_whole _ _)
theorem set_scIn0 : ((scIn.slice (Rect.unit (s := S4x1024x1408) ![0, 0, 0] S1x1024x1408.size inb_S4x1024x1408_S1x1024x1408_0_0_0) (fun _ => rfl)).squeeze S1024x1408 squeezes_S1x1024x1408_S1024x1408).view.set = (Rect.unit (s := S4x1024x1408) ![0, 0, 0] S1x1024x1408.size inb_S4x1024x1408_S1x1024x1408_0_0_0).set := by
  exact (View.set_reshape _ _).trans (View.set_slice_whole _ _)
theorem set_scIn1 : ((scIn.slice (Rect.unit (s := S4x1024x1408) ![1, 0, 0] S1x1024x1408.size inb_S4x1024x1408_S1x1024x1408_1_0_0) (fun _ => rfl)).squeeze S1024x1408 squeezes_S1x1024x1408_S1024x1408).view.set = (Rect.unit (s := S4x1024x1408) ![1, 0, 0] S1x1024x1408.size inb_S4x1024x1408_S1x1024x1408_1_0_0).set := by
  exact (View.set_reshape _ _).trans (View.set_slice_whole _ _)
theorem set_scIn2 : ((scIn.slice (Rect.unit (s := S4x1024x1408) ![2, 0, 0] S1x1024x1408.size inb_S4x1024x1408_S1x1024x1408_2_0_0) (fun _ => rfl)).squeeze S1024x1408 squeezes_S1x1024x1408_S1024x1408).view.set = (Rect.unit (s := S4x1024x1408) ![2, 0, 0] S1x1024x1408.size inb_S4x1024x1408_S1x1024x1408_2_0_0).set := by
  exact (View.set_reshape _ _).trans (View.set_slice_whole _ _)
theorem set_scIn3 : ((scIn.slice (Rect.unit (s := S4x1024x1408) ![3, 0, 0] S1x1024x1408.size inb_S4x1024x1408_S1x1024x1408_3_0_0) (fun _ => rfl)).squeeze S1024x1408 squeezes_S1x1024x1408_S1024x1408).view.set = (Rect.unit (s := S4x1024x1408) ![3, 0, 0] S1x1024x1408.size inb_S4x1024x1408_S1x1024x1408_3_0_0).set := by
  exact (View.set_reshape _ _).trans (View.set_slice_whole _ _)
theorem set_hbOut0 : (hbOut.slice (Rect.unit (s := S2816x1024) ![0, 0] S1408x1024.size inb_S2816x1024_S1408x1024_0_0) (fun _ => rfl)).view.set = (Rect.unit (s := S2816x1024) ![0, 0] S1408x1024.size inb_S2816x1024_S1408x1024_0_0).set :=
  View.set_slice_whole _ _
theorem set_hbOut1408 : (hbOut.slice (Rect.unit (s := S2816x1024) ![1408, 0] S1408x1024.size inb_S2816x1024_S1408x1024_1408_0) (fun _ => rfl)).view.set = (Rect.unit (s := S2816x1024) ![1408, 0] S1408x1024.size inb_S2816x1024_S1408x1024_1408_0).set :=
  View.set_slice_whole _ _
theorem set_scOut0 : (scOut.slice (Rect.unit (s := S2816x1024) ![0, 0] S1408x1024.size inb_S2816x1024_S1408x1024_0_0) (fun _ => rfl)).view.set = (Rect.unit (s := S2816x1024) ![0, 0] S1408x1024.size inb_S2816x1024_S1408x1024_0_0).set :=
  View.set_slice_whole _ _
theorem set_scOut1408 : (scOut.slice (Rect.unit (s := S2816x1024) ![1408, 0] S1408x1024.size inb_S2816x1024_S1408x1024_1408_0) (fun _ => rfl)).view.set = (Rect.unit (s := S2816x1024) ![1408, 0] S1408x1024.size inb_S2816x1024_S1408x1024_1408_0).set :=
  View.set_slice_whole _ _

/-- The whole of the four-block weight is its four blocks. -/
theorem split_hbIn (f : HbBuf (F := F) c hbIn) :
    (hbPt c hbIn f : sProp 𝕄) ⊣⊢ iprop((hbIn.view.loc (c : Thread nD τ) ↦[((hbIn.slice (Rect.unit (s := S4x1024x1408) ![0, 0, 0] S1x1024x1408.size inb_S4x1024x1408_S1x1024x1408_0_0_0) (fun _ => rfl)).squeeze S1024x1408 squeezes_S1x1024x1408_S1024x1408).view.set]{fullShare} f) ∗ (hbIn.view.loc (c : Thread nD τ) ↦[((hbIn.slice (Rect.unit (s := S4x1024x1408) ![1, 0, 0] S1x1024x1408.size inb_S4x1024x1408_S1x1024x1408_1_0_0) (fun _ => rfl)).squeeze S1024x1408 squeezes_S1x1024x1408_S1024x1408).view.set]{fullShare} f) ∗ (hbIn.view.loc (c : Thread nD τ) ↦[((hbIn.slice (Rect.unit (s := S4x1024x1408) ![2, 0, 0] S1x1024x1408.size inb_S4x1024x1408_S1x1024x1408_2_0_0) (fun _ => rfl)).squeeze S1024x1408 squeezes_S1x1024x1408_S1024x1408).view.set]{fullShare} f) ∗ (hbIn.view.loc (c : Thread nD τ) ↦[((hbIn.slice (Rect.unit (s := S4x1024x1408) ![3, 0, 0] S1x1024x1408.size inb_S4x1024x1408_S1x1024x1408_3_0_0) (fun _ => rfl)).squeeze S1024x1408 squeezes_S1x1024x1408_S1024x1408).view.set]{fullShare} f)) := by
  rw [set_hbIn0, set_hbIn1, set_hbIn2, set_hbIn3]
  exact split4 _ f _ _ _ _
    (Finset.disjoint_union_right.mpr ⟨in_disj _ _ _ _ (by decide), Finset.disjoint_union_right.mpr ⟨in_disj _ _ _ _ (by decide), in_disj _ _ _ _ (by decide)⟩⟩)
    (Finset.disjoint_union_right.mpr ⟨in_disj _ _ _ _ (by decide), in_disj _ _ _ _ (by decide)⟩) (in_disj _ _ _ _ (by decide)) (in_cover _ _ _ _)

/-- The whole of the four-block weight is its four blocks. -/
theorem split_scIn (f : HbBuf (F := F) c scIn) :
    (hbPt c scIn f : sProp 𝕄) ⊣⊢ iprop((scIn.view.loc (c : Thread nD τ) ↦[((scIn.slice (Rect.unit (s := S4x1024x1408) ![0, 0, 0] S1x1024x1408.size inb_S4x1024x1408_S1x1024x1408_0_0_0) (fun _ => rfl)).squeeze S1024x1408 squeezes_S1x1024x1408_S1024x1408).view.set]{fullShare} f) ∗ (scIn.view.loc (c : Thread nD τ) ↦[((scIn.slice (Rect.unit (s := S4x1024x1408) ![1, 0, 0] S1x1024x1408.size inb_S4x1024x1408_S1x1024x1408_1_0_0) (fun _ => rfl)).squeeze S1024x1408 squeezes_S1x1024x1408_S1024x1408).view.set]{fullShare} f) ∗ (scIn.view.loc (c : Thread nD τ) ↦[((scIn.slice (Rect.unit (s := S4x1024x1408) ![2, 0, 0] S1x1024x1408.size inb_S4x1024x1408_S1x1024x1408_2_0_0) (fun _ => rfl)).squeeze S1024x1408 squeezes_S1x1024x1408_S1024x1408).view.set]{fullShare} f) ∗ (scIn.view.loc (c : Thread nD τ) ↦[((scIn.slice (Rect.unit (s := S4x1024x1408) ![3, 0, 0] S1x1024x1408.size inb_S4x1024x1408_S1x1024x1408_3_0_0) (fun _ => rfl)).squeeze S1024x1408 squeezes_S1x1024x1408_S1024x1408).view.set]{fullShare} f)) := by
  rw [set_scIn0, set_scIn1, set_scIn2, set_scIn3]
  exact split4 _ f _ _ _ _
    (Finset.disjoint_union_right.mpr ⟨in_disj _ _ _ _ (by decide), Finset.disjoint_union_right.mpr ⟨in_disj _ _ _ _ (by decide), in_disj _ _ _ _ (by decide)⟩⟩)
    (Finset.disjoint_union_right.mpr ⟨in_disj _ _ _ _ (by decide), in_disj _ _ _ _ (by decide)⟩) (in_disj _ _ _ _ (by decide)) (in_cover _ _ _ _)

/-- The whole of the output weight is its two halves. -/
theorem split_hbOut (f : HbBuf (F := F) c hbOut) :
    (hbPt c hbOut f : sProp 𝕄) ⊣⊢ iprop((hbOut.view.loc (c : Thread nD τ) ↦[(hbOut.slice (Rect.unit (s := S2816x1024) ![0, 0] S1408x1024.size inb_S2816x1024_S1408x1024_0_0) (fun _ => rfl)).view.set]{fullShare} f) ∗ (hbOut.view.loc (c : Thread nD τ) ↦[(hbOut.slice (Rect.unit (s := S2816x1024) ![1408, 0] S1408x1024.size inb_S2816x1024_S1408x1024_1408_0) (fun _ => rfl)).view.set]{fullShare} f)) := by
  rw [set_hbOut0, set_hbOut1408]
  exact split2 _ f _ _ (out_disj _ _) (out_cover _ _)

/-- The whole of the output weight is its two halves. -/
theorem split_scOut (f : HbBuf (F := F) c scOut) :
    (hbPt c scOut f : sProp 𝕄) ⊣⊢ iprop((scOut.view.loc (c : Thread nD τ) ↦[(scOut.slice (Rect.unit (s := S2816x1024) ![0, 0] S1408x1024.size inb_S2816x1024_S1408x1024_0_0) (fun _ => rfl)).view.set]{fullShare} f) ∗ (scOut.view.loc (c : Thread nD τ) ↦[(scOut.slice (Rect.unit (s := S2816x1024) ![1408, 0] S1408x1024.size inb_S2816x1024_S1408x1024_1408_0) (fun _ => rfl)).view.set]{fullShare} f)) := by
  rw [set_scOut0, set_scOut1408]
  exact split2 _ f _ _ (out_disj _ _) (out_cover _ _)

/-- Block 0 as its copy delivers it. -/
theorem got_in0 (f0 : HbBuf (F := F) c scIn) (fi : HbBuf (F := F) c hbIn) :
    (scIn.view.loc (c : Thread nD τ) ↦[((scIn.slice (Rect.unit (s := S4x1024x1408) ![0, 0, 0] S1x1024x1408.size inb_S4x1024x1408_S1x1024x1408_0_0_0) (fun _ => rfl)).squeeze S1024x1408 squeezes_S1x1024x1408_S1024x1408).view.set]{fullShare}
        ((scIn.slice (Rect.unit (s := S4x1024x1408) ![0, 0, 0] S1x1024x1408.size inb_S4x1024x1408_S1x1024x1408_0_0_0) (fun _ => rfl)).squeeze S1024x1408 squeezes_S1x1024x1408_S1024x1408).view.write (Elt F) f0 (ReadAs.same.apply (((hbIn.slice (Rect.unit (s := S4x1024x1408) ![0, 0, 0] S1x1024x1408.size inb_S4x1024x1408_S1x1024x1408_0_0_0) (fun _ => rfl)).squeeze S1024x1408 squeezes_S1x1024x1408_S1024x1408).view.read (Elt F) fi)) Finset.univ : sProp 𝕄)
      = (scIn.view.loc (c : Thread nD τ) ↦[((scIn.slice (Rect.unit (s := S4x1024x1408) ![0, 0, 0] S1x1024x1408.size inb_S4x1024x1408_S1x1024x1408_0_0_0) (fun _ => rfl)).squeeze S1024x1408 squeezes_S1x1024x1408_S1024x1408).view.set]{fullShare} (fi : HbBuf (F := F) c scIn)) := by
  refine pointsTo_congr fun j hj => ?_
  obtain ⟨y, rfl⟩ := View.exists_emb_of_mem_set _ hj
  exact (View.write_emb_of_mem _ _ (Finset.mem_univ _)).trans rfl

/-- Block 1 as its copy delivers it. -/
theorem got_in1 (f0 : HbBuf (F := F) c scIn) (fi : HbBuf (F := F) c hbIn) :
    (scIn.view.loc (c : Thread nD τ) ↦[((scIn.slice (Rect.unit (s := S4x1024x1408) ![1, 0, 0] S1x1024x1408.size inb_S4x1024x1408_S1x1024x1408_1_0_0) (fun _ => rfl)).squeeze S1024x1408 squeezes_S1x1024x1408_S1024x1408).view.set]{fullShare}
        ((scIn.slice (Rect.unit (s := S4x1024x1408) ![1, 0, 0] S1x1024x1408.size inb_S4x1024x1408_S1x1024x1408_1_0_0) (fun _ => rfl)).squeeze S1024x1408 squeezes_S1x1024x1408_S1024x1408).view.write (Elt F) f0 (ReadAs.same.apply (((hbIn.slice (Rect.unit (s := S4x1024x1408) ![1, 0, 0] S1x1024x1408.size inb_S4x1024x1408_S1x1024x1408_1_0_0) (fun _ => rfl)).squeeze S1024x1408 squeezes_S1x1024x1408_S1024x1408).view.read (Elt F) fi)) Finset.univ : sProp 𝕄)
      = (scIn.view.loc (c : Thread nD τ) ↦[((scIn.slice (Rect.unit (s := S4x1024x1408) ![1, 0, 0] S1x1024x1408.size inb_S4x1024x1408_S1x1024x1408_1_0_0) (fun _ => rfl)).squeeze S1024x1408 squeezes_S1x1024x1408_S1024x1408).view.set]{fullShare} (fi : HbBuf (F := F) c scIn)) := by
  refine pointsTo_congr fun j hj => ?_
  obtain ⟨y, rfl⟩ := View.exists_emb_of_mem_set _ hj
  exact (View.write_emb_of_mem _ _ (Finset.mem_univ _)).trans rfl

/-- Block 2 as its copy delivers it. -/
theorem got_in2 (f0 : HbBuf (F := F) c scIn) (fi : HbBuf (F := F) c hbIn) :
    (scIn.view.loc (c : Thread nD τ) ↦[((scIn.slice (Rect.unit (s := S4x1024x1408) ![2, 0, 0] S1x1024x1408.size inb_S4x1024x1408_S1x1024x1408_2_0_0) (fun _ => rfl)).squeeze S1024x1408 squeezes_S1x1024x1408_S1024x1408).view.set]{fullShare}
        ((scIn.slice (Rect.unit (s := S4x1024x1408) ![2, 0, 0] S1x1024x1408.size inb_S4x1024x1408_S1x1024x1408_2_0_0) (fun _ => rfl)).squeeze S1024x1408 squeezes_S1x1024x1408_S1024x1408).view.write (Elt F) f0 (ReadAs.same.apply (((hbIn.slice (Rect.unit (s := S4x1024x1408) ![2, 0, 0] S1x1024x1408.size inb_S4x1024x1408_S1x1024x1408_2_0_0) (fun _ => rfl)).squeeze S1024x1408 squeezes_S1x1024x1408_S1024x1408).view.read (Elt F) fi)) Finset.univ : sProp 𝕄)
      = (scIn.view.loc (c : Thread nD τ) ↦[((scIn.slice (Rect.unit (s := S4x1024x1408) ![2, 0, 0] S1x1024x1408.size inb_S4x1024x1408_S1x1024x1408_2_0_0) (fun _ => rfl)).squeeze S1024x1408 squeezes_S1x1024x1408_S1024x1408).view.set]{fullShare} (fi : HbBuf (F := F) c scIn)) := by
  refine pointsTo_congr fun j hj => ?_
  obtain ⟨y, rfl⟩ := View.exists_emb_of_mem_set _ hj
  exact (View.write_emb_of_mem _ _ (Finset.mem_univ _)).trans rfl

/-- Block 3 as its copy delivers it. -/
theorem got_in3 (f0 : HbBuf (F := F) c scIn) (fi : HbBuf (F := F) c hbIn) :
    (scIn.view.loc (c : Thread nD τ) ↦[((scIn.slice (Rect.unit (s := S4x1024x1408) ![3, 0, 0] S1x1024x1408.size inb_S4x1024x1408_S1x1024x1408_3_0_0) (fun _ => rfl)).squeeze S1024x1408 squeezes_S1x1024x1408_S1024x1408).view.set]{fullShare}
        ((scIn.slice (Rect.unit (s := S4x1024x1408) ![3, 0, 0] S1x1024x1408.size inb_S4x1024x1408_S1x1024x1408_3_0_0) (fun _ => rfl)).squeeze S1024x1408 squeezes_S1x1024x1408_S1024x1408).view.write (Elt F) f0 (ReadAs.same.apply (((hbIn.slice (Rect.unit (s := S4x1024x1408) ![3, 0, 0] S1x1024x1408.size inb_S4x1024x1408_S1x1024x1408_3_0_0) (fun _ => rfl)).squeeze S1024x1408 squeezes_S1x1024x1408_S1024x1408).view.read (Elt F) fi)) Finset.univ : sProp 𝕄)
      = (scIn.view.loc (c : Thread nD τ) ↦[((scIn.slice (Rect.unit (s := S4x1024x1408) ![3, 0, 0] S1x1024x1408.size inb_S4x1024x1408_S1x1024x1408_3_0_0) (fun _ => rfl)).squeeze S1024x1408 squeezes_S1x1024x1408_S1024x1408).view.set]{fullShare} (fi : HbBuf (F := F) c scIn)) := by
  refine pointsTo_congr fun j hj => ?_
  obtain ⟨y, rfl⟩ := View.exists_emb_of_mem_set _ hj
  exact (View.write_emb_of_mem _ _ (Finset.mem_univ _)).trans rfl

/-- The rows from 0 on as their copy delivers them. -/
theorem got_out0 (f0 : HbBuf (F := F) c scOut) (fo : HbBuf (F := F) c hbOut) :
    (scOut.view.loc (c : Thread nD τ) ↦[(scOut.slice (Rect.unit (s := S2816x1024) ![0, 0] S1408x1024.size inb_S2816x1024_S1408x1024_0_0) (fun _ => rfl)).view.set]{fullShare}
        (scOut.slice (Rect.unit (s := S2816x1024) ![0, 0] S1408x1024.size inb_S2816x1024_S1408x1024_0_0) (fun _ => rfl)).view.write (Elt F) f0 (ReadAs.same.apply ((hbOut.slice (Rect.unit (s := S2816x1024) ![0, 0] S1408x1024.size inb_S2816x1024_S1408x1024_0_0) (fun _ => rfl)).view.read (Elt F) fo)) Finset.univ : sProp 𝕄)
      = (scOut.view.loc (c : Thread nD τ) ↦[(scOut.slice (Rect.unit (s := S2816x1024) ![0, 0] S1408x1024.size inb_S2816x1024_S1408x1024_0_0) (fun _ => rfl)).view.set]{fullShare} (fo : HbBuf (F := F) c scOut)) := by
  refine pointsTo_congr fun j hj => ?_
  obtain ⟨y, rfl⟩ := View.exists_emb_of_mem_set _ hj
  exact (View.write_emb_of_mem _ _ (Finset.mem_univ _)).trans rfl

/-- The rows from 1408 on as their copy delivers them. -/
theorem got_out1408 (f0 : HbBuf (F := F) c scOut) (fo : HbBuf (F := F) c hbOut) :
    (scOut.view.loc (c : Thread nD τ) ↦[(scOut.slice (Rect.unit (s := S2816x1024) ![1408, 0] S1408x1024.size inb_S2816x1024_S1408x1024_1408_0) (fun _ => rfl)).view.set]{fullShare}
        (scOut.slice (Rect.unit (s := S2816x1024) ![1408, 0] S1408x1024.size inb_S2816x1024_S1408x1024_1408_0) (fun _ => rfl)).view.write (Elt F) f0 (ReadAs.same.apply ((hbOut.slice (Rect.unit (s := S2816x1024) ![1408, 0] S1408x1024.size inb_S2816x1024_S1408x1024_1408_0) (fun _ => rfl)).view.read (Elt F) fo)) Finset.univ : sProp 𝕄)
      = (scOut.view.loc (c : Thread nD τ) ↦[(scOut.slice (Rect.unit (s := S2816x1024) ![1408, 0] S1408x1024.size inb_S2816x1024_S1408x1024_1408_0) (fun _ => rfl)).view.set]{fullShare} (fo : HbBuf (F := F) c scOut)) := by
  refine pointsTo_congr fun j hj => ?_
  obtain ⟨y, rfl⟩ := View.exists_emb_of_mem_set _ hj
  exact (View.write_emb_of_mem _ _ (Finset.mem_univ _)).trans rfl

end Cert.FfnIdeal.Body

end
-- ==== Proof.FfnIdealRun.lean ====
/-
  The feed-forward gradient's kernel, run at one point of its grid.

  At the first point the body copies both weights from the arrays left in HBM into its own buffers, and clears the scale's
  gradient; at every later point it finds the weights where the first point put them.
-/
module

public import proofs.«01_k».proof.Proof.FfnIdealLoad

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S1x1024 .f32) (harg3 : arg3.IsWhole)
  (arg4 : Memref sig .tc .vmem S2x256x2816 .bf16) (harg4 : arg4.IsWhole)
  (arg8 : Memref sig .tc .vmem S256x1024 .f32) (harg8 : arg8.IsWhole)
  (arg9 : Memref sig .tc .vmem S1x1024 .f32) (harg9 : arg9.IsWhole)
  (arg10 : Memref sig .tc .vmem S256x1024 .bf16) (harg10 : arg10.IsWhole)
  (arg11 : Memref sig .tc .vmem S2x256x2816 .bf16) (harg11 : arg11.IsWhole)
  (arg12 : Memref sig .tc .vmem S256x2816 .bf16) (harg12 : arg12.IsWhole)
  (arg13 : Memref sig .tc .vmem S256x1024 .bf16) (harg13 : arg13.IsWhole)

/-- The point is the first, as the body asks. -/
abbrev first (i : grid0.Coords) : Prop := (Scalar.cmpi .ne (Scalar.extui (Scalar.cmpi .eq (BitVec.ofNat 32 (i 0).val) 0#32)) 0#32) = 1#1

set_option maxHeartbeats 4000000 in
/-- The first point: the stores the body makes into the six results, in terms of the blocks it reads and the weights; it runs to the end
    having made them, with the weights in its own buffers. -/
noncomputable def runA (h0 : first i) (x0 : Vec F S256x1024 .f32) (x1 : Vec F S256x1024 .f32) (x2 : Vec F S1x1024 .f32) (x3 : Vec F S2x256x2816 .bf16) (fi : HbBuf (F := F) c hbIn) (fo : HbBuf (F := F) c hbOut) :
    Σ' (L8 : List (View.Piece (Elt F) S256x1024 .f32)) (L9 : List (View.Piece (Elt F) S1x1024 .f32)) (L10 : List (View.Piece (Elt F) S256x1024 .bf16)) (L11 : List (View.Piece (Elt F) S2x256x2816 .bf16)) (L12 : List (View.Piece (Elt F) S256x2816 .bf16)), { L13 : List (View.Piece (Elt F) S256x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ f, hbPt c scIn f) ∗ (∃ f, hbPt c scOut f) ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ hbPt c hbIn fi ∗ hbPt c hbOut fo ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ hbPt c scIn fi ∗ hbPt c scOut fo ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ hbPt c hbIn fi ∗ hbPt c hbOut fo ∗ (∃ W', owes (c : Thread nD τ) 0 W')) -∗ K ⟨⟩))
          ⊢ wp frame (wpE (defs₀ (F := F)) Variants.none c none) Set.univ (cc0_ffn_bwd i arg1 harg1 arg2 harg2 arg3 harg3 arg4 harg4 hbIn (Memref.isWhole_whole _) hbOut (Memref.isWhole_whole _) hbDep (Memref.isWhole_whole _) arg8 harg8 arg9 harg9 arg10 harg10 arg11 harg11 arg12 harg12 arg13 harg13 scIn (Memref.isWhole_whole _) scOut (Memref.isWhole_whole _) cc0_scratch2) K } := by
  refine ⟨?_, ?_, ?_, ?_, ?_, ?_, fun W K => ?run⟩
  case run =>
    simp only [cc0_ffn_bwd_eq_skeleton]; unfold cc0_ffn_bwd_skel
    simp only [k0_part3_eq_skeleton, k0_part1_eq_skeleton, k0_part2_eq_skeleton, k0_part4_eq_skeleton, k0_part5_eq_skeleton]
    unfold owns
    iintro ⟨⟨%f1, %e1, H1⟩, ⟨%f2, %e2, H2⟩, ⟨%f3, %e3, H3⟩, ⟨%f4, %e4, H4⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, H14⟩, ⟨%f15, H15⟩, Q18, Q19, Q20, Q21, Q22, Q23, HI, HO, HW, Hk⟩
    obtain rfl := harg1.eq_unread e1; obtain rfl := harg2.eq_unread e2; obtain rfl := harg3.eq_unread e3; obtain rfl := harg4.eq_unread e4
    ihave ⟨A0, A1, A2, A3⟩ := (split_scIn c _).1 $$ H14
    ihave ⟨B0, B1, B2, B3⟩ := (split_hbIn c _).1 $$ HI
    ihave ⟨C0, C1⟩ := (split_scOut c _).1 $$ H15
    ihave ⟨D0, D1⟩ := (split_hbOut c _).1 $$ HO
    sl_exec (disch := first | sl_exact h0)
    iapply (Transfers.wp_dmaLocal countersEmb Variants.none (c : Thread nD τ) none () _ rfl
      (Nat.pos_of_ne_zero fun h => absurd ((View.amount_eq_zero_iff _ _).mp h) (by decide)) (Finset.Subset.refl _)) $$ [B0 A0 Q18]
    · isplitl [B0]; · iexact B0
      isplitl [A0]; · iexact A0
      iexact Q18
    iintro Q18
    sl_exec (disch := first | sl_exact h0)
    iapply (Transfers.wp_dmaLocal countersEmb Variants.none (c : Thread nD τ) none () _ rfl
      (Nat.pos_of_ne_zero fun h => absurd ((View.amount_eq_zero_iff _ _).mp h) (by decide)) (Finset.Subset.refl _)) $$ [B1 A1 Q19]
    · isplitl [B1]; · iexact B1
      isplitl [A1]; · iexact A1
      iexact Q19
    iintro Q19
    sl_exec (disch := first | sl_exact h0)
    iapply (Transfers.wp_dmaLocal countersEmb Variants.none (c : Thread nD τ) none () _ rfl
      (Nat.pos_of_ne_zero fun h => absurd ((View.amount_eq_zero_iff _ _).mp h) (by decide)) (Finset.Subset.refl _)) $$ [B2 A2 Q20]
    · isplitl [B2]; · iexact B2
      isplitl [A2]; · iexact A2
      iexact Q20
    iintro Q20
    sl_exec (disch := first | sl_exact h0)
    iapply (Transfers.wp_dmaLocal countersEmb Variants.none (c : Thread nD τ) none () _ rfl
      (Nat.pos_of_ne_zero fun h => absurd ((View.amount_eq_zero_iff _ _).mp h) (by decide)) (Finset.Subset.refl _)) $$ [B3 A3 Q21]
    · isplitl [B3]; · iexact B3
      isplitl [A3]; · iexact A3
      iexact Q21
    iintro Q21
    sl_exec (disch := first | sl_exact h0)
    iapply (Transfers.wp_dmaLocal countersEmb Variants.none (c : Thread nD τ) none () _ rfl
      (Nat.pos_of_ne_zero fun h => absurd ((View.amount_eq_zero_iff _ _).mp h) (by decide)) (Finset.Subset.refl _)) $$ [D0 C0 Q22]
    · isplitl [D0]; · iexact D0
      isplitl [C0]; · iexact C0
      iexact Q22
    iintro Q22
    sl_exec (disch := first | sl_exact h0)
    iapply (Transfers.wp_dmaLocal countersEmb Variants.none (c : Thread nD τ) none () _ rfl
      (Nat.pos_of_ne_zero fun h => absurd ((View.amount_eq_zero_iff _ _).mp h) (by decide)) (Finset.Subset.refl _)) $$ [D1 C1 Q23]
    · isplitl [D1]; · iexact D1
      isplitl [C1]; · iexact C1
      iexact Q23
    iapply aside_in
    iintro Q23
    sl_exec (disch := first | sl_exact h0)
    ihave Q23 := aside_out _ $$ Q23
    iapply (Transfers.wp_waitLocal countersEmb Variants.none (c : Thread nD τ) none () rfl) $$ [Q23 HW]
    · isplitl [Q23]; · iexact Q23
      iexact HW
    iintro ⟨⟨Q23_dst, Q23_src⟩, Q23, HW⟩
    ihave Q18_dst := (BI.BIBase.Entails.of_eq (got_in0 c _ _)) $$ Q18_dst
    ihave Q19_dst := (BI.BIBase.Entails.of_eq (got_in1 c _ _)) $$ Q19_dst
    ihave Q20_dst := (BI.BIBase.Entails.of_eq (got_in2 c _ _)) $$ Q20_dst
    ihave Q21_dst := (BI.BIBase.Entails.of_eq (got_in3 c _ _)) $$ Q21_dst
    ihave Q22_dst := (BI.BIBase.Entails.of_eq (got_out0 c _ _)) $$ Q22_dst
    ihave Q23_dst := (BI.BIBase.Entails.of_eq (got_out1408 c _ _)) $$ Q23_dst
    ihave H14 := (split_scIn c fi).2 $$ [Q18_dst Q19_dst Q20_dst Q21_dst]
    · isplitl [Q18_dst]; · iexact Q18_dst
      isplitl [Q19_dst]; · iexact Q19_dst
      isplitl [Q20_dst] <;> iassumption
    ihave HI := (split_hbIn c fi).2 $$ [Q18_src Q19_src Q20_src Q21_src]
    · isplitl [Q18_src]; · iexact Q18_src
      isplitl [Q19_src]; · iexact Q19_src
      isplitl [Q20_src] <;> iassumption
    ihave H15 := (split_scOut c fo).2 $$ [Q22_dst Q23_dst]
    · isplitl [Q22_dst] <;> iassumption
    ihave HO := (split_hbOut c fo).2 $$ [Q22_src Q23_src]
    · isplitl [Q22_src] <;> iassumption
    sl_exec (disch := first | sl_exact h0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexact H14
    isplitl [H15]; · iexact H15
    isplitl [Q18]; · iexact Q18
    isplitl [Q19]; · iexact Q19
    isplitl [Q20]; · iexact Q20
    isplitl [Q21]; · iexact Q21
    isplitl [Q22]; · iexact Q22
    isplitl [Q23]; · iexact Q23
    isplitl [HI]; · iexact HI
    isplitl [HO]; · iexact HO
    iexists _; iexact HW

set_option maxHeartbeats 4000000 in
/-- A later point: as at the first, but the weights are found at `xw` and `xo` and the scale's gradient at `xg`. -/
noncomputable def runB (h0 : ¬first i) (x0 : Vec F S256x1024 .f32) (x1 : Vec F S256x1024 .f32) (x2 : Vec F S1x1024 .f32) (x3 : Vec F S2x256x2816 .bf16) (xg : Vec F S1x1024 .f32) (xw : HbBuf (F := F) c scIn) (xo : HbBuf (F := F) c scOut) :
    Σ' (L8 : List (View.Piece (Elt F) S256x1024 .f32)) (L9 : List (View.Piece (Elt F) S1x1024 .f32)) (L10 : List (View.Piece (Elt F) S256x1024 .bf16)) (L11 : List (View.Piece (Elt F) S2x256x2816 .bf16)) (L12 : List (View.Piece (Elt F) S256x2816 .bf16)), { L13 : List (View.Piece (Elt F) S256x1024 .bf16) //
      ∀ (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg8 fullShare d) ∗ owns (c : Thread nD τ) arg9 fullShare xg ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ hbPt c scIn xw ∗ hbPt c scOut xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ hbPt c scIn xw ∗ hbPt c scOut xo) -∗ K ⟨⟩))
          ⊢ wp frame (wpE (defs₀ (F := F)) Variants.none c none) Set.univ (cc0_ffn_bwd i arg1 harg1 arg2 harg2 arg3 harg3 arg4 harg4 hbIn (Memref.isWhole_whole _) hbOut (Memref.isWhole_whole _) hbDep (Memref.isWhole_whole _) arg8 harg8 arg9 harg9 arg10 harg10 arg11 harg11 arg12 harg12 arg13 harg13 scIn (Memref.isWhole_whole _) scOut (Memref.isWhole_whole _) cc0_scratch2) K } := by
  refine ⟨?_, ?_, ?_, ?_, ?_, ?_, fun K => ?run⟩
  case run =>
    simp only [cc0_ffn_bwd_eq_skeleton]; unfold cc0_ffn_bwd_skel
    simp only [k0_part3_eq_skeleton, k0_part1_eq_skeleton, k0_part2_eq_skeleton, k0_part4_eq_skeleton, k0_part5_eq_skeleton]
    unfold owns
    iintro ⟨⟨%f1, %e1, H1⟩, ⟨%f2, %e2, H2⟩, ⟨%f3, %e3, H3⟩, ⟨%f4, %e4, H4⟩, ⟨%d8, %f8, -, H8⟩, ⟨%f9, %e9, H9⟩, ⟨%d10, %f10, -, H10⟩, ⟨%d11, %f11, -, H11⟩, ⟨%d12, %f12, -, H12⟩, ⟨%d13, %f13, -, H13⟩, H14, H15, Hk⟩
    obtain rfl := harg1.eq_unread e1; obtain rfl := harg2.eq_unread e2; obtain rfl := harg3.eq_unread e3; obtain rfl := harg4.eq_unread e4; obtain rfl := harg9.eq_unread e9
    sl_exec (disch := first | sl_exact h0)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexact H14
    iexact H15

end Cert.FfnIdeal.Body

end
-- ==== Proof.FfnIdealFrame.lean ====
/-
  The feed-forward gradient's kernel over its whole grid: what the results hold after each point, the pipeline's proof data,
  and the launch.

  The first point brings the weights into the body's own buffers, where every later point finds them; the scale's gradient is
  added up from point to point.
-/
module

public import proofs.«01_k».proof.Proof.FfnIdealRun
public import proofs.«01_k».proof.Proof.Gen.FfnIdeal.Launch
public import proofs.«01_k».proof.Proof.Gen.FfnIdeal.Points
public import Idealize.ShloMosaic.Lib.Pipeline.FrameBody
public import Idealize.ShloMosaic.Lib.Pipeline.TableIdle
public import Idealize.ShloMosaic.Lib.Tactic
public import Idealize.ShloMosaic.Lib.Claim

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem isFirst : ∀ t : Fin cfg0.N, first (grid0.coords t) ↔ t.val = 0 :=
  (by decide +kernel : ∀ t : Fin grid0.N, first (grid0.coords t) ↔ t.val = 0)
/-- The scale's gradient is handed over after the last point only. -/
theorem fresh9 : ∀ n : ℕ, n < 16 → cfg0.fresh 5 n = (n == 0) :=
  fun n h => Pipeline.Cfg.fresh_tab cfg0 5 (fun n => n == 0 || n == 16) rfl (by decide +kernel) n (by rw [show cfg0.N = 16 from N_0]; omega) |>.trans
    (by simp only [Bool.or_eq_left_iff_imp, beq_iff_eq]; omega)

/-! ## What the buffers hold after each point -/

abbrev hst0 (t : Fin cfg0.N) : (st0_0 t : Memref sig .tc .vmem S256x1024 .f32).IsWhole := hstage0_0 ((cfg0.slots t 0).cast nbuf0_0)
abbrev hst1 (t : Fin cfg0.N) : (st0_1 t : Memref sig .tc .vmem S256x1024 .f32).IsWhole := hstage0_1 ((cfg0.slots t 1).cast nbuf0_1)
abbrev hst2 (t : Fin cfg0.N) : (st0_2 t : Memref sig .tc .vmem S1x1024 .f32).IsWhole := hstage0_2 ((cfg0.slots t 2).cast nbuf0_2)
abbrev hst3 (t : Fin cfg0.N) : (st0_3 t : Memref sig .tc .vmem S2x256x2816 .bf16).IsWhole := hstage0_3 ((cfg0.slots t 3).cast nbuf0_3)
abbrev hst4 (t : Fin cfg0.N) : (st0_4 t : Memref sig .tc .vmem S256x1024 .f32).IsWhole := hstage0_4 ((cfg0.slots t 4).cast nbuf0_4)
abbrev hst5 (t : Fin cfg0.N) : (st0_5 t : Memref sig .tc .vmem S1x1024 .f32).IsWhole := hstage0_5 ((cfg0.slots t 5).cast nbuf0_5)
abbrev hst6 (t : Fin cfg0.N) : (st0_6 t : Memref sig .tc .vmem S256x1024 .bf16).IsWhole := hstage0_6 ((cfg0.slots t 6).cast nbuf0_6)
abbrev hst7 (t : Fin cfg0.N) : (st0_7 t : Memref sig .tc .vmem S2x256x2816 .bf16).IsWhole := hstage0_7 ((cfg0.slots t 7).cast nbuf0_7)
abbrev hst8 (t : Fin cfg0.N) : (st0_8 t : Memref sig .tc .vmem S256x2816 .bf16).IsWhole := hstage0_8 ((cfg0.slots t 8).cast nbuf0_8)
abbrev hst9 (t : Fin cfg0.N) : (st0_9 t : Memref sig .tc .vmem S256x1024 .bf16).IsWhole := hstage0_9 ((cfg0.slots t 9).cast nbuf0_9)

/-- The weights as the region finds them. -/
abbrev wIn (c : Dev nD) : HbBuf (F := F) c hbIn := V m c main_v21
abbrev wOut (c : Dev nD) : HbBuf (F := F) c hbOut := V m c main_v23

/-- The result windows' buffers. -/
abbrev Out (F : FTy → Type) [FloatOps F] : Type := Vec F S256x1024 .f32 × Vec F S1x1024 .f32 × Vec F S256x1024 .bf16 × Vec F S2x256x2816 .bf16 × Vec F S256x2816 .bf16 × Vec F S256x1024 .bf16

variable (c : Dev nD) (t : Fin cfg0.N)

/-- The stores of the first point, and of a later one that finds the scale's gradient at `xg`. -/
def runFirst (h : t.val = 0) := runA (F := F) c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) ((isFirst t).mpr h) (iblk m c 0 t) (iblk m c 1 t) (iblk m c 2 t) (iblk m c 3 t) (wIn m c) (wOut m c)
def runLater (h : t.val ≠ 0) (xg : Vec F S1x1024 .f32) := runB (F := F) c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (fun k => h ((isFirst t).mp k)) (iblk m c 0 t) (iblk m c 1 t) (iblk m c 2 t) (iblk m c 3 t) xg (wIn m c) (wOut m c)

/-- The views the contents are stated through. -/
abbrev V8 : View sig .tc .vmem S256x1024 .f32 := (Memref.whole cc0_stg4_0 : Memref sig .tc .vmem S256x1024 .f32).view
abbrev V9 : View sig .tc .vmem S1x1024 .f32 := (Memref.whole cc0_stg5_0 : Memref sig .tc .vmem S1x1024 .f32).view
abbrev V10 : View sig .tc .vmem S256x1024 .bf16 := (Memref.whole cc0_stg6_0 : Memref sig .tc .vmem S256x1024 .bf16).view
abbrev V11 : View sig .tc .vmem S2x256x2816 .bf16 := (Memref.whole cc0_stg7_0 : Memref sig .tc .vmem S2x256x2816 .bf16).view
abbrev V12 : View sig .tc .vmem S256x2816 .bf16 := (Memref.whole cc0_stg8_0 : Memref sig .tc .vmem S256x2816 .bf16).view
abbrev V13 : View sig .tc .vmem S256x1024 .bf16 := (Memref.whole cc0_stg9_0 : Memref sig .tc .vmem S256x1024 .bf16).view

def first8 (h : t.val = 0) : Vec F S256x1024 .f32 := V8.read (Elt F) (V8.writes (Elt F) V8.junk (runFirst m c t h).1)
def first9 (h : t.val = 0) : Vec F S1x1024 .f32 := V9.read (Elt F) (V9.writes (Elt F) V9.junk (runFirst m c t h).2.1)
def first10 (h : t.val = 0) : Vec F S256x1024 .bf16 := V10.read (Elt F) (V10.writes (Elt F) V10.junk (runFirst m c t h).2.2.1)
def first11 (h : t.val = 0) : Vec F S2x256x2816 .bf16 := V11.read (Elt F) (V11.writes (Elt F) V11.junk (runFirst m c t h).2.2.2.1)
def first12 (h : t.val = 0) : Vec F S256x2816 .bf16 := V12.read (Elt F) (V12.writes (Elt F) V12.junk (runFirst m c t h).2.2.2.2.1)
def first13 (h : t.val = 0) : Vec F S256x1024 .bf16 := V13.read (Elt F) (V13.writes (Elt F) V13.junk (runFirst m c t h).2.2.2.2.2.1)
def later8 (h : t.val ≠ 0) (xg : Vec F S1x1024 .f32) : Vec F S256x1024 .f32 := V8.read (Elt F) (V8.writes (Elt F) V8.junk (runLater m c t h xg).1)
def later9 (h : t.val ≠ 0) (xg : Vec F S1x1024 .f32) : Vec F S1x1024 .f32 := V9.read (Elt F) (V9.writes (Elt F) V9.junk (runLater m c t h xg).2.1)
def later10 (h : t.val ≠ 0) (xg : Vec F S1x1024 .f32) : Vec F S256x1024 .bf16 := V10.read (Elt F) (V10.writes (Elt F) V10.junk (runLater m c t h xg).2.2.1)
def later11 (h : t.val ≠ 0) (xg : Vec F S1x1024 .f32) : Vec F S2x256x2816 .bf16 := V11.read (Elt F) (V11.writes (Elt F) V11.junk (runLater m c t h xg).2.2.2.1)
def later12 (h : t.val ≠ 0) (xg : Vec F S1x1024 .f32) : Vec F S256x2816 .bf16 := V12.read (Elt F) (V12.writes (Elt F) V12.junk (runLater m c t h xg).2.2.2.2.1)
def later13 (h : t.val ≠ 0) (xg : Vec F S1x1024 .f32) : Vec F S256x1024 .bf16 := V13.read (Elt F) (V13.writes (Elt F) V13.junk (runLater m c t h xg).2.2.2.2.2.1)

/-- Each result's stores cover its block. -/
theorem cover_first8 (h : t.val = 0) (y : S256x1024.Idx) : ∃ p ∈ (runFirst m c t h).1, y ∈ p.1.set :=
  View.cover_of_tiledL (runFirst m c t h).1 S256x1024.size (by sl_kernel_rfl) y
theorem cover_later8 (h : t.val ≠ 0) (xg : Vec F S1x1024 .f32) (y : S256x1024.Idx) : ∃ p ∈ (runLater m c t h xg).1, y ∈ p.1.set :=
  View.cover_of_tiledL (runLater m c t h xg).1 S256x1024.size (by sl_kernel_rfl) y
theorem cover_first9 (h : t.val = 0) (y : S1x1024.Idx) : ∃ p ∈ (runFirst m c t h).2.1, y ∈ p.1.set :=
  View.cover_of_tiledL (runFirst m c t h).2.1 S1x1024.size (by sl_kernel_rfl) y
theorem cover_later9 (h : t.val ≠ 0) (xg : Vec F S1x1024 .f32) (y : S1x1024.Idx) : ∃ p ∈ (runLater m c t h xg).2.1, y ∈ p.1.set :=
  View.cover_of_tiledL (runLater m c t h xg).2.1 S1x1024.size (by sl_kernel_rfl) y
theorem cover_first10 (h : t.val = 0) (y : S256x1024.Idx) : ∃ p ∈ (runFirst m c t h).2.2.1, y ∈ p.1.set :=
  View.cover_of_tiledL (runFirst m c t h).2.2.1 S256x1024.size (by sl_kernel_rfl) y
theorem cover_later10 (h : t.val ≠ 0) (xg : Vec F S1x1024 .f32) (y : S256x1024.Idx) : ∃ p ∈ (runLater m c t h xg).2.2.1, y ∈ p.1.set :=
  View.cover_of_tiledL (runLater m c t h xg).2.2.1 S256x1024.size (by sl_kernel_rfl) y
theorem cover_first11 (h : t.val = 0) (y : S2x256x2816.Idx) : ∃ p ∈ (runFirst m c t h).2.2.2.1, y ∈ p.1.set :=
  View.cover_of_tiledL (runFirst m c t h).2.2.2.1 S1x256x1408.size (by sl_kernel_rfl) y
theorem cover_later11 (h : t.val ≠ 0) (xg : Vec F S1x1024 .f32) (y : S2x256x2816.Idx) : ∃ p ∈ (runLater m c t h xg).2.2.2.1, y ∈ p.1.set :=
  View.cover_of_tiledL (runLater m c t h xg).2.2.2.1 S1x256x1408.size (by sl_kernel_rfl) y
theorem cover_first12 (h : t.val = 0) (y : S256x2816.Idx) : ∃ p ∈ (runFirst m c t h).2.2.2.2.1, y ∈ p.1.set :=
  View.cover_of_tiledL (runFirst m c t h).2.2.2.2.1 S256x1408.size (by sl_kernel_rfl) y
theorem cover_later12 (h : t.val ≠ 0) (xg : Vec F S1x1024 .f32) (y : S256x2816.Idx) : ∃ p ∈ (runLater m c t h xg).2.2.2.2.1, y ∈ p.1.set :=
  View.cover_of_tiledL (runLater m c t h xg).2.2.2.2.1 S256x1408.size (by sl_kernel_rfl) y
theorem cover_first13 (h : t.val = 0) (y : S256x1024.Idx) : ∃ p ∈ (runFirst m c t h).2.2.2.2.2.1, y ∈ p.1.set :=
  View.cover_of_tiledL (runFirst m c t h).2.2.2.2.2.1 S256x1024.size (by sl_kernel_rfl) y
theorem cover_later13 (h : t.val ≠ 0) (xg : Vec F S1x1024 .f32) (y : S256x1024.Idx) : ∃ p ∈ (runLater m c t h xg).2.2.2.2.2.1, y ∈ p.1.set :=
  View.cover_of_tiledL (runLater m c t h xg).2.2.2.2.2.1 S256x1024.size (by sl_kernel_rfl) y

/-- The contents after point `n`: the first point's, or a later one's over the scale's gradient before it. -/
def outsAt : (n : ℕ) → n < cfg0.N → Out F
  | 0, hn => (first8 m c ⟨0, hn⟩ rfl, first9 m c ⟨0, hn⟩ rfl, first10 m c ⟨0, hn⟩ rfl, first11 m c ⟨0, hn⟩ rfl, first12 m c ⟨0, hn⟩ rfl, first13 m c ⟨0, hn⟩ rfl)
  | n + 1, hn => (later8 m c ⟨n + 1, hn⟩ (Nat.succ_ne_zero n) (outsAt n (Nat.lt_of_succ_lt hn)).2.1, later9 m c ⟨n + 1, hn⟩ (Nat.succ_ne_zero n) (outsAt n (Nat.lt_of_succ_lt hn)).2.1, later10 m c ⟨n + 1, hn⟩ (Nat.succ_ne_zero n) (outsAt n (Nat.lt_of_succ_lt hn)).2.1, later11 m c ⟨n + 1, hn⟩ (Nat.succ_ne_zero n) (outsAt n (Nat.lt_of_succ_lt hn)).2.1, later12 m c ⟨n + 1, hn⟩ (Nat.succ_ne_zero n) (outsAt n (Nat.lt_of_succ_lt hn)).2.1, later13 m c ⟨n + 1, hn⟩ (Nat.succ_ne_zero n) (outsAt n (Nat.lt_of_succ_lt hn)).2.1)

/-- What the point before left. -/
abbrev prev : Out F := outsAt m c (t.val - 1) (Nat.lt_of_le_of_lt (Nat.sub_le _ _) t.isLt)

theorem outsAt_first (h : t.val = 0) : outsAt m c t.val t.isLt = (first8 m c t h, first9 m c t h, first10 m c t h, first11 m c t h, first12 m c t h, first13 m c t h) := by
  obtain ⟨n, hn⟩ := t
  cases n with
  | zero => rfl
  | succ n => exact absurd h (Nat.succ_ne_zero n)
theorem outsAt_later (h : t.val ≠ 0) : outsAt m c t.val t.isLt = (later8 m c t h (prev m c t).2.1, later9 m c t h (prev m c t).2.1, later10 m c t h (prev m c t).2.1, later11 m c t h (prev m c t).2.1, later12 m c t h (prev m c t).2.1, later13 m c t h (prev m c t).2.1) := by
  obtain ⟨n, hn⟩ := t
  cases n with
  | zero => exact absurd rfl h
  | succ n => rfl

/-! ## What the points hand one another -/

/-- The cells of the body's own copies. -/
abbrev osem0 : Fin 6 → SemLoc sig := fun j => (![SemLoc.dma 18, SemLoc.dma 19, SemLoc.dma 20, SemLoc.dma 21, SemLoc.dma 22, SemLoc.dma 23] : Fin 6 → SemLoc sig) j
theorem ownSemFacts0 : Pipeline.OwnSemFacts spec0 osem0 := by decide
/-- The cells at zero, one by one. -/
abbrev sems : sProp 𝕄 := iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0)
theorem ownSems_eq : (Pipeline.ownSems0 (Ix := Unit) (Name := ℕ) (U := Pipeline.UD sig nD τ) (Lvl := ℕ) (Val := Elt F) (τ := τ) osem0 c : sProp 𝕄) = sems c := by
  rw [Pipeline.ownSems0_eq_of_list c osem0 [0, 1, 2, 3, 4, 5] (by decide) (by decide)]; rfl
/-- The arrays the body copies from. -/
def H0 : Finset (Ref sig .tc) := {main_v21, main_v23}
theorem H0_sub : H0 ⊆ Pipeline.restRefs sig spec0 := by decide
abbrev hbm : sProp 𝕄 := iprop(hbPt c hbIn (wIn m c) ∗ hbPt c hbOut (wOut m c))
theorem hbm_eq : (bigSep H0 (fun b => (((c : Thread nD τ)).loc b) ↦{fullShare} V m c b) : sProp 𝕄) = hbm m c := by
  rw [BI.bigSep_eq_bigSepL_of_eq [main_v21, main_v23] (by decide) (by decide)]; rfl

/-- Before the first point: the body's buffers at anything. -/
theorem launchInv_eq : (Pipeline.ΦD osem0 spec0 H0 (V m) c : sProp 𝕄)
    = iprop(((∃ f, hbPt c scIn f) ∗ (∃ f, hbPt c scOut f)) ∗ (∃ r, prngReg c r) ∗ sems c ∗ hbm m c) := by
  rw [Pipeline.ΦD_eq, scopedRest0_eq, ownSems_eq, hbm_eq]

/-- What the points hand one another besides the windows: after the first, the weights in the body's buffers. -/
def Inv : (n : ℕ) → n ≤ cfg0.N → sProp 𝕄
  | 0, _ => Pipeline.ΦD osem0 spec0 H0 (V m) c
  | n + 1, h => iprop((hbPt c scIn (wIn m c) ∗ hbPt c scOut (wOut m c)) ∗ (∃ r, prngReg c r) ∗ sems c ∗ hbm m c)

theorem Inv_pos (n : ℕ) (h : n ≤ cfg0.N) (hz : n ≠ 0) :
    Inv m c n h = iprop((hbPt c scIn (wIn m c) ∗ hbPt c scOut (wOut m c)) ∗ (∃ r, prngReg c r) ∗ sems c ∗ hbm m c) := by
  cases n with
  | zero => exact absurd rfl hz
  | succ n => rfl

/-! ## The pipeline's proof data -/

/-- Every input's block is left as it was found, and the results' buffers hold `outsAt`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2.1
    | ⟨6, _⟩ => (outsAt m c t.val t.isLt).2.2.1
    | ⟨7, _⟩ => (outsAt m c t.val t.isLt).2.2.2.1
    | ⟨8, _⟩ => (outsAt m c t.val t.isLt).2.2.2.2.1
    | ⟨9, _⟩ => (outsAt m c t.val t.isLt).2.2.2.2.2
  Φ t := Inv m c t.val (Nat.le_of_lt_succ t.isLt)
  q _ := fullShare
  owed _ := 0

theorem A_eq (w : Fin cfg0.W) : (dats m 0 c).A w = V m c (Pipeline.arrRef spec0 w) := by dsimp only [dats]

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = (outsAt m c t.val t.isLt).1 := by dsimp only [dats]
theorem after5 : (dats m 0 c).after 5 t = (outsAt m c t.val t.isLt).2.1 := by dsimp only [dats]
theorem after6 : (dats m 0 c).after 6 t = (outsAt m c t.val t.isLt).2.2.1 := by dsimp only [dats]
theorem after7 : (dats m 0 c).after 7 t = (outsAt m c t.val t.isLt).2.2.2.1 := by dsimp only [dats]
theorem after8 : (dats m 0 c).after 8 t = (outsAt m c t.val t.isLt).2.2.2.2.1 := by dsimp only [dats]
theorem after9 : (dats m 0 c).after 9 t = (outsAt m c t.val t.isLt).2.2.2.2.2 := by dsimp only [dats]
theorem before0 (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- The scale's gradient at a later point is found as the point before left it. -/
theorem before5 (h : t.val ≠ 0) (d) : (dats m 0 c).before 5 t d = (prev m c t).2.1 := by
  have hN : t.val < 16 := lt_of_lt_of_eq t.isLt (show cfg0.N = 16 from N_0)
  rw [Dat.before_out_traj _ 5 rfl (fun _ _ => rfl) (fun t h hi _ => absurd hi Bool.false_ne_true) t.val t rfl d,
    if_neg (by rw [fresh9 t.val hN]; simp [h]), after5]

/-! ## The body at any point -/

/-- What the body is handed at point `t`, the windows one by one, -/
def bodyPre : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)))

/-- and what it hands back. -/
def bodyPost : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t))

set_option maxHeartbeats 4000000 in
/-- The body keeps the proof data at every point: at the first, and at a later one. -/
theorem sound_body :
    bodyPre m c t ⊢ wp frame (wpE (defs₀ (F := F)) Variants.none c none) Set.univ (bodyAt0 t) (fun _ => bodyPost m c t) := by
  have hs : (dats m 0 c).Φ t.succ = iprop((hbPt c scIn (wIn m c) ∗ hbPt c scOut (wOut m c)) ∗ (∃ r, prngReg c r) ∗ sems c ∗ hbm m c) := rfl
  have hp : (dats m 0 c).Φ t.castSucc = Inv m c t.val (Nat.le_of_lt t.isLt) := by
    dsimp only [dats]; exact Pipeline.Dat.Φ_castSucc (Inv m c) t
  unfold bodyPre bodyPost bodyAt0
  simp only [before0, before1, before2, before3]
  rw [hs, hp, after0, after1, after2, after3, after4, after5, after6, after7, after8, after9]
  unfold Dat.owesAt Pipeline.owesWithin
  rw [show (dats m 0 c).owed t.castSucc = 0 from rfl, show (dats m 0 c).owed t.succ = 0 from rfl]
  by_cases h0 : t.val = 0
  · rw [show Inv m c t.val (Nat.le_of_lt t.isLt) = Pipeline.ΦD osem0 spec0 H0 (V m) c from by simp only [h0]; rfl, launchInv_eq, outsAt_first m c t h0]
    dsimp only
    iintro ⟨⟨⟨HS, HT⟩, Hg, ⟨Q18, Q19, Q20, Q21, Q22, Q23⟩, ⟨HI, HO⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runFirst m c t h0).2.2.2.2.2.2 W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS]; · iexact HS
    isplitl [HT]; · iexact HT
    isplitl [Q18]; · iexact Q18
    isplitl [Q19]; · iexact Q19
    isplitl [Q20]; · iexact Q20
    isplitl [Q21]; · iexact Q21
    isplitl [Q22]; · iexact Q22
    isplitl [Q23]; · iexact Q23
    isplitl [HI]; · iexact HI
    isplitl [HO]; · iexact HO
    isplitl [HW]; · iexact HW
    iintro ⟨H0, H1, H2, H3, ⟨%e4, H4⟩, ⟨%e5, H5⟩, ⟨%e6, H6⟩, ⟨%e7, H7⟩, ⟨%e8, H8⟩, ⟨%e9, H9⟩, HS, HT, Q18, Q19, Q20, Q21, Q22, Q23, HI, HO, ⟨%W', HW'⟩⟩
    isplitl [HS HT Hg Q18 Q19 Q20 Q21 Q22 Q23 HI HO]
    · isplitl [HS HT]
      · isplitl [HS]; · iexact HS
        iexact HT
      isplitl [Hg]; · iexact Hg
      isplitl [Q18 Q19 Q20 Q21 Q22 Q23]
      · isplitl [Q18]; · iexact Q18
        isplitl [Q19]; · iexact Q19
        isplitl [Q20]; · iexact Q20
        isplitl [Q21]; · iexact Q21
        isplitl [Q22]; · iexact Q22
        iexact Q23
      isplitl [HI]; · iexact HI
      iexact HO
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (fun y => cover_first8 m c t h0 y)
    isplitl [H5]
    · unfold owns; iexists _; isplitr
      swap; · iexact H5
      ipureintro; exact View.read_writes_of_cover _ _ _ _ _ (fun y => cover_first9 m c t h0 y)
    isplitl [H6]
    · unfold owns; iexists _; isplitr
      swap; · iexact H6
      ipureintro; exact View.read_writes_of_cover _ _ _ _ _ (fun y => cover_first10 m c t h0 y)
    isplitl [H7]
    · unfold owns; iexists _; isplitr
      swap; · iexact H7
      ipureintro; exact View.read_writes_of_cover _ _ _ _ _ (fun y => cover_first11 m c t h0 y)
    isplitl [H8]
    · unfold owns; iexists _; isplitr
      swap; · iexact H8
      ipureintro; exact View.read_writes_of_cover _ _ _ _ _ (fun y => cover_first12 m c t h0 y)
    unfold owns; iexists _; isplitr
    swap; · iexact H9
    ipureintro; exact View.read_writes_of_cover _ _ _ _ _ (fun y => cover_first13 m c t h0 y)
  · simp only [before5 m c t h0]
    rw [Inv_pos m c _ _ h0, outsAt_later m c t h0]
    dsimp only
    iintro ⟨⟨⟨HS, HT⟩, Hg, HQ, HH⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runLater m c t h0 (prev m c t).2.1).2.2.2.2.2.2 _)
    isplitl [H0]; · iexact H0
    isplitl [H1]; · iexact H1
    isplitl [H2]; · iexact H2
    isplitl [H3]; · iexact H3
    isplitl [H4]; · iexists _; iexact H4
    isplitl [H5]; · iexact H5
    isplitl [H6]; · iexists _; iexact H6
    isplitl [H7]; · iexists _; iexact H7
    isplitl [H8]; · iexists _; iexact H8
    isplitl [H9]; · iexists _; iexact H9
    isplitl [HS]; · iexact HS
    isplitl [HT]; · iexact HT
    iintro ⟨H0, H1, H2, H3, ⟨%e4, H4⟩, ⟨%e5, H5⟩, ⟨%e6, H6⟩, ⟨%e7, H7⟩, ⟨%e8, H8⟩, ⟨%e9, H9⟩, HS, HT⟩
    isplitl [HS HT Hg HQ HH]
    · isplitl [HS HT]
      · isplitl [HS]; · iexact HS
        iexact HT
      isplitl [Hg]; · iexact Hg
      isplitl [HQ]; · iexact HQ
      iexact HH
    isplitl [HW]
    · iexists W; isplitr; · ipureintro; exact fun _ _ => Or.inl trivial
      iexact HW
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (fun y => cover_later8 m c t h0 _ y)
    isplitl [H5]
    · unfold owns; iexists _; isplitr
      swap; · iexact H5
      ipureintro; exact View.read_writes_of_cover _ _ _ _ _ (fun y => cover_later9 m c t h0 _ y)
    isplitl [H6]
    · unfold owns; iexists _; isplitr
      swap; · iexact H6
      ipureintro; exact View.read_writes_of_cover _ _ _ _ _ (fun y => cover_later10 m c t h0 _ y)
    isplitl [H7]
    · unfold owns; iexists _; isplitr
      swap; · iexact H7
      ipureintro; exact View.read_writes_of_cover _ _ _ _ _ (fun y => cover_later11 m c t h0 _ y)
    isplitl [H8]
    · unfold owns; iexists _; isplitr
      swap; · iexact H8
      ipureintro; exact View.read_writes_of_cover _ _ _ _ _ (fun y => cover_later12 m c t h0 _ y)
    unfold owns; iexists _; isplitr
    swap; · iexact H9
    ipureintro; exact View.read_writes_of_cover _ _ _ _ _ (fun y => cover_later13 m c t h0 _ y)

/-! ## The launch -/

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

theorem hin (c : Dev nD) : Pipeline.ΦD osem0 spec0 H0 (V m) c ⊢ (dats m 0 c).Φ 0 := by
  rw [show (dats m 0 c).Φ 0 = Pipeline.ΦD osem0 spec0 H0 (V m) c from rfl]

theorem hout (c : Dev nD) : (dats m 0 c).Φ (Fin.last cfg0.N) ⊢ Pipeline.ΦD osem0 spec0 H0 (V m) c := by
  rw [show (dats m 0 c).Φ (Fin.last cfg0.N) = Inv m c (Fin.last cfg0.N).val (Nat.le_refl _) from rfl,
    Inv_pos m c _ _ (by rw [Fin.val_last]; have : cfg0.N = 16 := N_0; omega), launchInv_eq]
  iintro ⟨⟨HS, HT⟩, HR⟩
  isplitl [HS HT]
  · isplitl [HS]
    · iexists _; iexact HS
    iexists _; iexact HT
  iexact HR

/-- The host operations before the region leave its arrays at `V`. -/
theorem hmain' : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- Every execution of the program ends, with every window's array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain' m) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every execution ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨((h.1 c).1 1).trans (((dats m 0 c).arrAt_in 1 rfl _).trans ((A_eq m c 1).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).1 0).trans (((dats m 0 c).arrAt_in 0 rfl _).trans ((A_eq m c 0).trans (V_main_arg4 m c)))⟩, h.2⟩) (run_main_quiescent m ρ)

end Cert.FfnIdeal.Body

end
-- ==== Proof.FfnRefPure.lean ====
/-
  The feed-forward gradient's reference, entry by entry, over the extended reals.
-/
module

public import proofs.«01_k».proof.Proof.Gen.FfnRefIdeal.Read
public import proofs.«01_k».proof.Proof.Rms

@[expose] public section

set_option maxRecDepth 16384

noncomputable section

open Idealize.ShloMosaic Idealize.ShloMosaic.TcCoe Idealize.SL.Sem

namespace Cert.FfnRefIdeal.Pure

open Cert.FfnRefIdeal Cert.FfnRefIdeal.Gen Cert.FfnRefIdeal.Read Cert.Rms

/-- A row of an array of 1024 columns. -/
def row (x : FVec Ideal S4096x1024 .f32) (r : Fin 4096) : Fin 1024 → EReal := fun k => x (ix2 r k)
/-- The norm's scale. -/
def row1 (g : FVec Ideal S1024 .f32) : Fin 1024 → EReal := fun k => g (ix1 k)

/-- One half, as the programs write it. -/
def half : EReal := Ideal.ofBits .f32 1056964608#32
/-- The logistic function. -/
def sg (z : EReal) : EReal := Ideal.div 1 (1 + Ideal.exp (0 - z))

section

variable (x : FVec Ideal S4096x1024 .f32) (g : FVec Ideal S1024 .f32) (w : FVec Ideal S1024x5632 .f32) (wo : FVec Ideal S2816x1024 .f32)
  (ct : FVec Ideal S4096x1024 .f32) (r : Fin 4096)

/-- The normalised, scaled row. -/
def h (l : Fin 1024) : EReal := row x r l * rr (row x r) * row1 g l
/-- The row after the first product: the gates and then the values they multiply. -/
def z (j : Fin 5632) : EReal := ∑ k, h x g r k * w (ix2 k j)
/-- The gate's argument. -/
def ga (j : Fin 2816) : EReal := z x g w r ⟨j.val, by omega⟩
/-- What the gate multiplies. -/
def up (j : Fin 2816) : EReal := z x g w r ⟨2816 + j.val, by omega⟩
/-- The cotangent of the gated row: half the cotangent times the second product's weights. -/
def da (j : Fin 2816) : EReal := ∑ k, half * ct (ix2 r k) * wo (ix2 j k)
/-- The cotangent of the gate's argument, as the chain rule builds it. -/
def dga (j : Fin 2816) : EReal :=
  da wo ct r j * up x g w r j * sg (ga x g w r j)
    + ga x g w r j * (da wo ct r j * up x g w r j) * (sg (ga x g w r j) * (1 - sg (ga x g w r j)))
/-- The cotangent of what the gate multiplies. -/
def dup (j : Fin 2816) : EReal := ga x g w r j * sg (ga x g w r j) * da wo ct r j
/-- Both cotangents side by side. -/
def dz (j : Fin 5632) : EReal :=
  if hj : j.val < 2816 then dga x g w wo ct r ⟨j.val, hj⟩ else dup x g w wo ct r ⟨j.val - 2816, by omega⟩
/-- The cotangent of the normalised row. -/
def dh (l : Fin 1024) : EReal := ∑ j, dz x g w wo ct r j * w (ix2 l j)

theorem v15 (l : Fin 1024) : val_main_v15 (F := Ideal) x g (ix2 r l) = h x g r l := by
  pointwise [val_main_v0, val_main_cst, val_main_v1, val_main_v2, val_main_cst_0, val_main_v3, val_main_v4, val_main_cst_1, val_main_v5, val_main_v6, val_main_v7, val_main_v11, val_main_v12, val_main_v13, val_main_v14, val_main_v15, rr, vv, row, row1, h]
theorem v16 (j : Fin 5632) : val_main_v16 (F := Ideal) x g w (ix2 r j) = z x g w r j := by
  pointwise [val_main_v16]
  simp only [v15]; rfl
theorem v17 (j : Fin 2816) : val_main_v17 (F := Ideal) x g w (ix2 r j) = ga x g w r j := by
  pointwise [val_main_v17]
  exact v16 x g w r _
theorem v18 (j : Fin 2816) : val_main_v18 (F := Ideal) x g w (ix2 r j) = up x g w r j := by
  pointwise [val_main_v18]
  exact v16 x g w r _
theorem v28 (j : Fin 2816) : val_main_v28 (F := Ideal) wo ct (ix2 r j) = da wo ct r j := by
  pointwise [val_main_v28, val_main_v27, val_main_v26, val_main_v25, val_main_cst_4, da, half]
theorem sig (j : Fin 2816) : val_main_v19_2 (F := Ideal) x g w (ix2 r j) = sg (ga x g w r j) := by
  pointwise [val_main_call0_v0, val_main_call0_v1, val_main_call0_cst, val_main_call0_v2, val_main_call0_v3, val_main_call0_cst_0, val_main_call0_v4, val_main_v19_2]
  rw [v17, sg, sub_eq_add_neg, zero_add]
theorem v19 (j : Fin 2816) : val_main_v19_0 (F := Ideal) x g w (ix2 r j) = ga x g w r j * sg (ga x g w r j) := by
  pointwise [val_main_v19_0]
  rw [v17, sig]
theorem v60 (j : Fin 2816) : val_main_v60 (F := Ideal) x g w (ix2 r j) = ga x g w r j * sg (ga x g w r j) * up x g w r j := by
  pointwise [val_main_v60, val_main_v20]
  rw [v19, v18]
theorem v29 (j : Fin 2816) : val_main_v29 (F := Ideal) x g w wo ct (ix2 r j) = dup x g w wo ct r j := by
  pointwise [val_main_v29]
  rw [v19, v28]; rfl
theorem v31 (j : Fin 2816) : val_main_v31 (F := Ideal) x g w wo ct (ix2 r j) = dga x g w wo ct r j := by
  pointwise [val_main_v31, val_main_call1_v0, val_main_call1_v1, val_main_call1_v2, val_main_v30, val_main_v19_1, val_main_call0_v7, val_main_call0_v6, val_main_call0_cst_1]
  rw [v17, v28, v18, sig]; rfl
theorem v32 (j : Fin 5632) : val_main_v32 (F := Ideal) x g w wo ct (ix2 r j) = dz x g w wo ct r j := by
  pointwise [val_main_v32]
  unfold dz
  by_cases hj : j.val < 2816
  · rw [dif_pos hj, dif_pos hj]
    exact v31 x g w wo ct r _
  · rw [dif_neg hj, dif_neg hj]
    exact v29 x g w wo ct r _
theorem v33 (l : Fin 1024) : val_main_v33 (F := Ideal) x g w wo ct (ix2 r l) = dh x g w wo ct r l := by
  pointwise [val_main_v33]
  simp only [v32]; rfl

/-- The input's gradient. -/
theorem dx (l : Fin 1024) : val_main_v54 (F := Ideal) x g w wo ct (ix2 r l)
    = ct (ix2 r l) + bwd (row x r) (fun k => dh x g w wo ct r k * row1 g k) l := by
  rw [bwd_eq]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v37, val_main_v38, val_main_v40, val_main_cst_7, val_main_v41, val_main_v42, val_main_v43, val_main_v44, val_main_v45, val_main_v46, val_main_v47, val_main_v48, val_main_v49, val_main_v50, val_main_v51, val_main_v52, val_main_v53, val_main_v54, val_main_cst_8, val_main_cst_9, tt, rr, vv, row, row1]
  simp only [v33, Fin.sum_univ_one, Finset.univ_unique, Finset.sum_singleton]
/-- The scale's gradient. -/
theorem dg (a : Fin 1) (l : Fin 1024) : val_main_v55 (F := Ideal) x g w wo ct (ix2 a l)
    = ∑ a, dh x g w wo ct a l * (row x a l * rr (row x a)) := by
  pointwise [val_main_v0, val_main_cst, val_main_v1, val_main_v2, val_main_cst_0, val_main_v3, val_main_v4, val_main_cst_1, val_main_v5, val_main_v6, val_main_v7, val_main_v11, val_main_v12, val_main_v34, val_main_cst_5, val_main_v35, val_main_v36, val_main_cst_6, val_main_v39, val_main_v55, rr, vv, row]
  simp only [v33, Finset.univ_unique, Finset.sum_singleton]
  exact Finset.sum_congr rfl fun a _ => mul_comm _ _
theorem hb (l : Fin 1024) : val_main_v56 (F := Ideal) x g (ix2 r l) = h x g r l := by
  pointwise [val_main_v56]
  exact v15 x g r l
theorem dgu (s : Fin 2) (j : Fin 2816) : val_main_v59 (F := Ideal) x g w wo ct (ix3 s r j)
    = dz x g w wo ct r ⟨s.val * 2816 + j.val, by omega⟩ := by
  pointwise [val_main_v59, val_main_v58, val_main_v57]
  exact v32 x g w wo ct r _
theorem dyb (l : Fin 1024) : val_main_v63 (F := Ideal) ct (ix2 r l) = half * ct (ix2 r l) := by
  pointwise [val_main_v63, val_main_v62, val_main_v61, val_main_cst_10]
  rfl
end

end Cert.FfnRefIdeal.Pure
-- ==== Proof.FfnPure.lean ====
/-
  The feed-forward gradient's kernel, one grid point: what the body computes from its blocks, entry by entry.
-/
module

public import proofs.«01_k».proof.Proof.FfnIdealFrame
public import proofs.«01_k».proof.Proof.FfnRefPure
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem

namespace Cert.FfnIdeal.Pure

open Cert.FfnIdeal Cert.FfnIdeal.Gen Cert.Rms
open Cert.FfnRefIdeal.Pure (sg half)

/-- A row of a block. -/
def row (x : FVec Ideal S256x1024 .f32) (r : Fin 256) : Fin 1024 → EReal := fun k => x (ix2 r k)
/-- The norm's scale. -/
def row1 (g : FVec Ideal S1x1024 .f32) : Fin 1024 → EReal := fun k => g (ix2 0 k)
/-- A column of the first half of 2816 columns. -/
def lo (j : Fin 1408) : Fin 2816 := ⟨j.val, by omega⟩
/-- A column of the second half. -/
def hi (j : Fin 1408) : Fin 2816 := ⟨1408 + j.val, by omega⟩

section

variable (x0 x1 : Vec Ideal S256x1024 .f32) (x2 : Vec Ideal S1x1024 .f32) (x3 : Vec Ideal S2x256x2816 .bf16)
  (wi : Vec Ideal S4x1024x1408 .bf16) (wo : Vec Ideal S2816x1024 .bf16) (r : Fin 256)

/-- The cotangent of the gated row. -/
def da (j : Fin 2816) : EReal := ∑ k, half * x0 (ix2 r k) * wo (ix2 j k)
/-- The gate's argument. -/
def ga (j : Fin 2816) : EReal := x3 (ix3 0 r j)
/-- What the gate multiplies. -/
def up (j : Fin 2816) : EReal := x3 (ix3 1 r j)
/-- The gated row. -/
def a (j : Fin 2816) : EReal := ga x3 r j * sg (ga x3 r j) * up x3 r j
/-- The cotangent of the gate's argument, as the kernel writes it. -/
def dga (j : Fin 2816) : EReal :=
  da x0 wo r j * up x3 r j * (sg (ga x3 r j) + ga x3 r j * sg (ga x3 r j) * (1 - sg (ga x3 r j)))
/-- The cotangent of what the gate multiplies. -/
def dup (j : Fin 2816) : EReal := da x0 wo r j * (ga x3 r j * sg (ga x3 r j))
/-- The cotangent of the normalised row, summed up in four parts. -/
def dh (l : Fin 1024) : EReal :=
  (∑ j, dga x0 x3 wo r (lo j) * wi (ix3 0 l j)) + (∑ j, dup x0 x3 wo r (lo j) * wi (ix3 2 l j))
    + (∑ j, dga x0 x3 wo r (hi j) * wi (ix3 1 l j)) + (∑ j, dup x0 x3 wo r (hi j) * wi (ix3 3 l j))

end

/-! ## Loads -/

/-- A load of a whole two-dimensional buffer from an offset. -/
theorem rd2 {A B a b o p : ℕ} {e : EltTy} {M : Memref sig .tc .vmem ⟨2, ![A, B]⟩ e} (h : M.IsWhole) (X : Vec Ideal ⟨2, ![A, B]⟩ e)
    (inb : ∀ i, (![o, p] : Fin 2 → ℕ) i + (![a, b] : Fin 2 → ℕ) i ≤ (⟨2, ![A, B]⟩ : Shape).size i) (r : Fin a) (l : Fin b)
    (ha : o + r.val < A) (hb : p + l.val < B) :
    View.readAt (Elt Ideal) M.view (Rect.unit (s := ⟨2, ![A, B]⟩) ![o, p] ![a, b] inb).toLoadRect (h.unread X) (ix2 r l)
      = X (ix2 ⟨o + r.val, ha⟩ ⟨p + l.val, hb⟩) := by
  refine (h.readAt_unread X _ _).trans (congrArg X ?_)
  exact funext fun i => Fin.ext (by match i with | ⟨0, _⟩ => exact Rect.idx_unit_val _ _ _ _ _ | ⟨1, _⟩ => exact Rect.idx_unit_val _ _ _ _ _)
/-- A load of a whole three-dimensional buffer from an offset. -/
theorem rd3 {A B C b c n o p : ℕ} {e : EltTy} {M : Memref sig .tc .vmem ⟨3, ![A, B, C]⟩ e} (h : M.IsWhole) (X : Vec Ideal ⟨3, ![A, B, C]⟩ e)
    (inb : ∀ i, (![n, o, p] : Fin 3 → ℕ) i + (![1, b, c] : Fin 3 → ℕ) i ≤ (⟨3, ![A, B, C]⟩ : Shape).size i) (r : Fin b) (l : Fin c)
    (hn : n < A) (ha : o + r.val < B) (hb : p + l.val < C) :
    View.readAt (Elt Ideal) M.view (Rect.unit (s := ⟨3, ![A, B, C]⟩) ![n, o, p] ![1, b, c] inb).toLoadRect (h.unread X) (ix3 0 r l)
      = X (ix3 ⟨n, hn⟩ ⟨o + r.val, ha⟩ ⟨p + l.val, hb⟩) := by
  refine (h.readAt_unread X _ _).trans (congrArg X ?_)
  exact funext fun i => Fin.ext (by match i with | ⟨0, _⟩ => exact Rect.idx_unit_val _ _ _ _ _ | ⟨1, _⟩ => exact Rect.idx_unit_val _ _ _ _ _ | ⟨2, _⟩ => exact Rect.idx_unit_val _ _ _ _ _)

/-! ## The body's values -/

theorem p7 (v3 : Vec Ideal S256x1024 .f32) (r : Fin 256) (l : Fin 1024) : k0_pay7 (F := Ideal) v3 (ix2 r l) = half * v3 (ix2 r l) := by
  pointwise [k0_pay7, half]
theorem p9 (v3 : Vec Ideal S256x1024 .f32) (v9 : Vec Ideal S1408x1024 .bf16) (r : Fin 256) (j : Fin 1408) :
    k0_pay9 (F := Ideal) v3 v9 (ix2 r j) = ∑ k, half * v3 (ix2 r k) * v9 (ix2 j k) := by
  pointwise [k0_pay9, k0_pay7, half]
theorem p14 (v11 v14 : Vec Ideal S1x256x1408 .bf16) (r : Fin 256) (j : Fin 1408) :
    k0_pay14 (F := Ideal) v11 v14 (ix2 r j) = v11 (ix3 0 r j) * sg (v11 (ix3 0 r j)) * v14 (ix3 0 r j) := by
  pointwise [k0_pay14, k0_pay13, k0_pay12, k0_pay11, k0_pay10, sg]
theorem p15 (v3 : Vec Ideal S256x1024 .f32) (v9 : Vec Ideal S1408x1024 .bf16) (v11 v14 : Vec Ideal S1x256x1408 .bf16) (r : Fin 256) (j : Fin 1408) :
    k0_pay15 (F := Ideal) v3 v9 v11 v14 (ix2 r j) = (∑ k, half * v3 (ix2 r k) * v9 (ix2 j k)) * v14 (ix3 0 r j)
      * (sg (v11 (ix3 0 r j)) + v11 (ix3 0 r j) * sg (v11 (ix3 0 r j)) * (1 - sg (v11 (ix3 0 r j)))) := by
  pointwise [k0_pay15, k0_pay13, k0_pay12, k0_pay11, k0_pay10, k0_pay9, k0_pay7, sg, half]
theorem p18 (v3 : Vec Ideal S256x1024 .f32) (v9 : Vec Ideal S1408x1024 .bf16) (v11 : Vec Ideal S1x256x1408 .bf16) (r : Fin 256) (j : Fin 1408) :
    k0_pay18 (F := Ideal) (k0_pay9 v3 v9) (k0_pay13 v11) (ix3 0 r j)
      = (∑ k, half * v3 (ix2 r k) * v9 (ix2 j k)) * (v11 (ix3 0 r j) * sg (v11 (ix3 0 r j))) := by
  pointwise [k0_pay18, k0_pay16, k0_pay13, k0_pay12, k0_pay10, k0_pay9, k0_pay7, sg, half]
theorem p17 (v : FVec Ideal S256x1408 .bf16) (r : Fin 256) (j : Fin 1408) :
    k0_pay17 (F := Ideal) v (ix3 0 r j) = v (ix2 r j) := by
  pointwise [k0_pay17]
theorem p25 (v11 v14 : Vec Ideal S1x256x1408 .bf16) (r : Fin 256) (j : Fin 1408) :
    k0_pay25 (F := Ideal) v11 v14 (ix2 r j) = v11 (ix3 0 r j) * sg (v11 (ix3 0 r j)) * v14 (ix3 0 r j) := by
  pointwise [k0_pay25, k0_pay24, k0_pay23, k0_pay22, k0_pay21, sg]
theorem p28 (v3 : Vec Ideal S256x1024 .f32) (v9 : Vec Ideal S1408x1024 .bf16) (v11 v14 : Vec Ideal S1x256x1408 .bf16) (r : Fin 256) (j : Fin 1408) :
    k0_pay28 (F := Ideal) (k0_pay20 (k0_pay7 v3) v9) (k0_pay22 v14) (k0_pay23 v11) (k0_pay24 v11) (ix3 0 r j)
     = (∑ k, half * v3 (ix2 r k) * v9 (ix2 j k)) * v14 (ix3 0 r j)
      * (sg (v11 (ix3 0 r j)) + v11 (ix3 0 r j) * sg (v11 (ix3 0 r j)) * (1 - sg (v11 (ix3 0 r j)))) := by
  pointwise [k0_pay28, k0_pay26, k0_pay24, k0_pay23, k0_pay22, k0_pay21, k0_pay20, k0_pay7, sg, half]
theorem p29 (v3 : Vec Ideal S256x1024 .f32) (v9 : Vec Ideal S1408x1024 .bf16) (v11 : Vec Ideal S1x256x1408 .bf16) (r : Fin 256) (j : Fin 1408) :
    k0_pay29 (F := Ideal) (k0_pay20 (k0_pay7 v3) v9) (k0_pay24 v11) (ix3 0 r j)
     = (∑ k, half * v3 (ix2 r k) * v9 (ix2 j k)) * (v11 (ix3 0 r j) * sg (v11 (ix3 0 r j))) := by
  pointwise [k0_pay29, k0_pay27, k0_pay24, k0_pay23, k0_pay21, k0_pay20, k0_pay7, sg, half]
/-- The cotangent of the normalised row: the stored cotangents times the weights' four parts. -/
theorem p30 (v3 : Vec Ideal S256x1024 .f32) (v9 v50 : Vec Ideal S1408x1024 .bf16) (v11 v14 v52 v55 : Vec Ideal S1x256x1408 .bf16)
    (v42 v46 v83 v87 : Vec Ideal S1x1024x1408 .bf16) (r : Fin 256) (l : Fin 1024) :
    k0_pay30 (F := Ideal) (k0_pay19 k0_pay8 (k0_pay9 v3 v9) (k0_pay13 v11) (k0_pay15 v3 v9 v11 v14) v42 v46)
        (k0_pay20 (k0_pay7 v3) v50) (k0_pay22 v55) (k0_pay23 v52) (k0_pay24 v52) v83 v87 (ix2 r l)
     = (∑ j, k0_pay15 (F := Ideal) v3 v9 v11 v14 (ix2 r j) * v42 (ix3 0 l j))
        + (∑ j, k0_pay18 (F := Ideal) (k0_pay9 v3 v9) (k0_pay13 v11) (ix3 0 r j) * v46 (ix3 0 l j))
        + (∑ j, k0_pay28 (F := Ideal) (k0_pay20 (k0_pay7 v3) v50) (k0_pay22 v55) (k0_pay23 v52) (k0_pay24 v52) (ix3 0 r j) * v83 (ix3 0 l j))
        + (∑ j, k0_pay29 (F := Ideal) (k0_pay20 (k0_pay7 v3) v50) (k0_pay24 v52) (ix3 0 r j) * v87 (ix3 0 l j)) := by
  pointwise [k0_pay30, k0_pay19, k0_pay8, k0_pay18, k0_pay28, k0_pay29]
/-- The input's gradient: what comes from behind plus the norm's gradient. -/
theorem p3 (d x o : FVec Ideal S256x1024 .f32) (g : FVec Ideal S1x1024 .f32) (r : Fin 256) (l : Fin 1024) :
    k0_pay3 (F := Ideal) d x (k0_pay31 g) (k0_pay32 x) k0_pay33 o (ix2 r l)
      = o (ix2 r l) + bwd (row x r) (fun k => row d r k * row1 g k) l := by
  pointwise [k0_pay3, k0_pay31, k0_pay32, k0_pay33, k0_pay2, k0_pay1]
  rfl
/-- What a block adds to the scale's gradient. -/
theorem p4 (d x : FVec Ideal S256x1024 .f32) (acc : FVec Ideal S1x1024 .f32) (r : Fin 1) (l : Fin 1024) :
    k0_pay4 (F := Ideal) d x (k0_pay32 x) k0_pay33 acc (ix2 r l)
      = acc (ix2 r l) + ∑ a, row d a l * (row x a l * rr (row x a)) := by
  pointwise [k0_pay4, k0_pay32, k0_pay33, k0_pay2, k0_pay1]
  rfl
/-- The normalised, scaled row. -/
theorem p5 (x : FVec Ideal S256x1024 .f32) (g : FVec Ideal S1x1024 .f32) (r : Fin 256) (l : Fin 1024) :
    k0_pay5 (F := Ideal) x (k0_pay31 g) (k0_pay32 x) k0_pay33 (ix2 r l) = row x r l * rr (row x r) * row1 g l := by
  pointwise [k0_pay5, k0_pay31, k0_pay32, k0_pay33, k0_pay2, k0_pay1]
  rfl
/-- The scale's gradient starts at zero. -/
theorem p6 (j) : k0_pay6 (F := Ideal) j = 0 := by pointwise [k0_pay6]

end Cert.FfnIdeal.Pure
-- ==== Proof.FfnPoint.lean ====
/-
  The feed-forward gradient's kernel: what its six results hold after a grid point, entry by entry.
-/
module

public import proofs.«01_k».proof.Proof.FfnPure
public import Idealize.ShloMosaic.Lib.Pipeline.Value

@[expose] public section

set_option maxRecDepth 16384

noncomputable section

open Idealize.ShloMosaic Idealize.ShloMosaic.TcCoe Idealize.SL.Sem

namespace Cert.FfnIdeal.Point

open Cert.FfnIdeal Cert.FfnIdeal.Gen Cert.FfnIdeal.Pure Cert.Rms
open Cert.FfnIdeal.Body hiding first

variable (m : (ℓ : Loc nD τ sig) → Buf (Elt Ideal) ℓ) (c : Dev nD) (t : Fin cfg0.N)

/-! ## Loads at their entries -/

section

variable {M2 : Memref sig .tc .vmem S256x1024 .f32} (h2 : M2.IsWhole) (X2 : Vec Ideal S256x1024 .f32)
  {M1 : Memref sig .tc .vmem S1x1024 .f32} (h1 : M1.IsWhole) (X1 : Vec Ideal S1x1024 .f32)
  {M3 : Memref sig .tc .vmem S2x256x2816 .bf16} (h3 : M3.IsWhole) (X3 : Vec Ideal S2x256x2816 .bf16)
  (wi : Vec Ideal S4x1024x1408 .bf16) (wo : Vec Ideal S2816x1024 .bf16) (r : Fin 256) (k : Fin 1024) (j : Fin 1408)

theorem ld2 : View.readAt (Elt Ideal) M2.view (Rect.unit ![0, 0] ![256, 1024] inb_S256x1024_S256x1024_0_0).toLoadRect (h2.unread X2) = X2 := by
  funext y
  idx_vars y
  exact (rd2 h2 X2 _ y0 y1 (by omega) (by omega)).trans (congrArg X2 (by blk_ext))
theorem ld1 : View.readAt (Elt Ideal) M1.view (Rect.unit ![0, 0] ![1, 1024] inb_S1x1024_S1x1024_0_0).toLoadRect (h1.unread X1) = X1 := by
  funext y
  idx_vars y
  exact (rd2 h1 X1 _ y0 y1 (by omega) (by omega)).trans (congrArg X1 (by blk_ext))
theorem ld3_0_0 : (View.readAt (Elt Ideal) M3.view (Rect.unit (s := S2x256x2816) ![0, 0, 0] ![1, 256, 1408] inb_S2x256x2816_S1x256x1408_0_0_0).toLoadRect (h3.unread X3) : Vec Ideal S1x256x1408 .bf16) (ix3 0 r j)
    = X3 (ix3 0 r (lo j)) :=
  (rd3 h3 X3 _ r j (by omega) (by omega) (by omega)).trans (congrArg X3 (by blk_ext [lo]))
theorem ld3_0_1408 : (View.readAt (Elt Ideal) M3.view (Rect.unit (s := S2x256x2816) ![0, 0, 1408] ![1, 256, 1408] inb_S2x256x2816_S1x256x1408_0_0_1408).toLoadRect (h3.unread X3) : Vec Ideal S1x256x1408 .bf16) (ix3 0 r j)
    = X3 (ix3 0 r (hi j)) :=
  (rd3 h3 X3 _ r j (by omega) (by omega) (by omega)).trans (congrArg X3 (by blk_ext [hi]))
theorem ld3_1_0 : (View.readAt (Elt Ideal) M3.view (Rect.unit (s := S2x256x2816) ![1, 0, 0] ![1, 256, 1408] inb_S2x256x2816_S1x256x1408_1_0_0).toLoadRect (h3.unread X3) : Vec Ideal S1x256x1408 .bf16) (ix3 0 r j)
    = X3 (ix3 1 r (lo j)) :=
  (rd3 h3 X3 _ r j (by omega) (by omega) (by omega)).trans (congrArg X3 (by blk_ext [lo]))
theorem ld3_1_1408 : (View.readAt (Elt Ideal) M3.view (Rect.unit (s := S2x256x2816) ![1, 0, 1408] ![1, 256, 1408] inb_S2x256x2816_S1x256x1408_1_0_1408).toLoadRect (h3.unread X3) : Vec Ideal S1x256x1408 .bf16) (ix3 0 r j)
    = X3 (ix3 1 r (hi j)) :=
  (rd3 h3 X3 _ r j (by omega) (by omega) (by omega)).trans (congrArg X3 (by blk_ext [hi]))
theorem lwi0 : (View.readAt (Elt Ideal) (View.whole cc0_scratch0) (Rect.unit (s := S4x1024x1408) ![0, 0, 0] ![1, 1024, 1408] inb_S4x1024x1408_S1x1024x1408_0_0_0).toLoadRect wi : Vec Ideal S1x1024x1408 .bf16) (ix3 0 k j)
    = wi (ix3 0 k j) :=
  congrArg wi (funext fun i => Fin.ext (by match i with | ⟨0, _⟩ => exact Rect.idx_unit_val _ _ _ _ _ | ⟨1, _⟩ => exact (Rect.idx_unit_val _ _ _ _ _).trans (Nat.zero_add _) | ⟨2, _⟩ => exact (Rect.idx_unit_val _ _ _ _ _).trans (Nat.zero_add _)))
theorem lwi1 : (View.readAt (Elt Ideal) (View.whole cc0_scratch0) (Rect.unit (s := S4x1024x1408) ![1, 0, 0] ![1, 1024, 1408] inb_S4x1024x1408_S1x1024x1408_1_0_0).toLoadRect wi : Vec Ideal S1x1024x1408 .bf16) (ix3 0 k j)
    = wi (ix3 1 k j) :=
  congrArg wi (funext fun i => Fin.ext (by match i with | ⟨0, _⟩ => exact Rect.idx_unit_val _ _ _ _ _ | ⟨1, _⟩ => exact (Rect.idx_unit_val _ _ _ _ _).trans (Nat.zero_add _) | ⟨2, _⟩ => exact (Rect.idx_unit_val _ _ _ _ _).trans (Nat.zero_add _)))
theorem lwi2 : (View.readAt (Elt Ideal) (View.whole cc0_scratch0) (Rect.unit (s := S4x1024x1408) ![2, 0, 0] ![1, 1024, 1408] inb_S4x1024x1408_S1x1024x1408_2_0_0).toLoadRect wi : Vec Ideal S1x1024x1408 .bf16) (ix3 0 k j)
    = wi (ix3 2 k j) :=
  congrArg wi (funext fun i => Fin.ext (by match i with | ⟨0, _⟩ => exact Rect.idx_unit_val _ _ _ _ _ | ⟨1, _⟩ => exact (Rect.idx_unit_val _ _ _ _ _).trans (Nat.zero_add _) | ⟨2, _⟩ => exact (Rect.idx_unit_val _ _ _ _ _).trans (Nat.zero_add _)))
theorem lwi3 : (View.readAt (Elt Ideal) (View.whole cc0_scratch0) (Rect.unit (s := S4x1024x1408) ![3, 0, 0] ![1, 1024, 1408] inb_S4x1024x1408_S1x1024x1408_3_0_0).toLoadRect wi : Vec Ideal S1x1024x1408 .bf16) (ix3 0 k j)
    = wi (ix3 3 k j) :=
  congrArg wi (funext fun i => Fin.ext (by match i with | ⟨0, _⟩ => exact Rect.idx_unit_val _ _ _ _ _ | ⟨1, _⟩ => exact (Rect.idx_unit_val _ _ _ _ _).trans (Nat.zero_add _) | ⟨2, _⟩ => exact (Rect.idx_unit_val _ _ _ _ _).trans (Nat.zero_add _)))
theorem lwo0 : (View.readAt (Elt Ideal) (View.whole cc0_scratch1) (Rect.unit (s := S2816x1024) ![0, 0] ![1408, 1024] inb_S2816x1024_S1408x1024_0_0).toLoadRect wo : Vec Ideal S1408x1024 .bf16) (ix2 j k)
    = wo (ix2 (lo j) k) :=
  congrArg wo (funext fun i => Fin.ext (by match i with | ⟨0, _⟩ => exact (Rect.idx_unit_val _ _ _ _ _).trans (by simp [lo, ix2]) | ⟨1, _⟩ => exact (Rect.idx_unit_val _ _ _ _ _).trans (Nat.zero_add _)))
theorem lwo1408 : (View.readAt (Elt Ideal) (View.whole cc0_scratch1) (Rect.unit (s := S2816x1024) ![1408, 0] ![1408, 1024] inb_S2816x1024_S1408x1024_1408_0).toLoadRect wo : Vec Ideal S1408x1024 .bf16) (ix2 j k)
    = wo (ix2 (hi j) k) :=
  congrArg wo (funext fun i => Fin.ext (by match i with | ⟨0, _⟩ => exact (Rect.idx_unit_val _ _ _ _ _).trans (by simp [hi, ix2]) | ⟨1, _⟩ => exact (Rect.idx_unit_val _ _ _ _ _).trans (Nat.zero_add _)))

end

/-- The cotangents of a block's normalised rows. -/
def dhv (x0 : Vec Ideal S256x1024 .f32) (x3 : Vec Ideal S2x256x2816 .bf16) (wi : Vec Ideal S4x1024x1408 .bf16) (wo : Vec Ideal S2816x1024 .bf16) :
    FVec Ideal S256x1024 .f32 := fun y => dh x0 x3 wi wo (y 0) (y 1)

/-! ## The body's values over one half of the columns -/

section

variable {v3 x0 : Vec Ideal S256x1024 .f32} (e3 : v3 = x0) {wo : Vec Ideal S2816x1024 .bf16} {x3 : Vec Ideal S2x256x2816 .bf16}
  {v9 : Vec Ideal S1408x1024 .bf16} {v11 v14 : Vec Ideal S1x256x1408 .bf16} {J : Fin 1408 → Fin 2816}
  (e9 : ∀ j k, v9 (ix2 j k) = wo (ix2 (J j) k)) (e11 : ∀ r j, v11 (ix3 0 r j) = x3 (ix3 0 r (J j)))
  (e14 : ∀ r j, v14 (ix3 0 r j) = x3 (ix3 1 r (J j))) (r : Fin 256) (j : Fin 1408)

include e11 e14 in
theorem q14 : k0_pay14 (F := Ideal) v11 v14 (ix2 r j) = a x3 r (J j) := by rw [p14, e11, e14]; rfl
include e11 e14 in
theorem q25 : k0_pay25 (F := Ideal) v11 v14 (ix2 r j) = a x3 r (J j) := by rw [p25, e11, e14]; rfl
include e3 e9 e11 e14 in
theorem q15 : k0_pay15 (F := Ideal) v3 v9 v11 v14 (ix2 r j) = dga x0 x3 wo r (J j) := by
  subst e3; rw [p15, e11, e14]; simp only [e9]; rfl
include e3 e9 e11 e14 in
theorem q17 : k0_pay17 (F := Ideal) (k0_pay15 v3 v9 v11 v14) (ix3 0 r j) = dga x0 x3 wo r (J j) :=
  (p17 _ r j).trans (q15 e3 e9 e11 e14 r j)
include e3 e9 e11 in
theorem q18 : k0_pay18 (F := Ideal) (k0_pay9 v3 v9) (k0_pay13 v11) (ix3 0 r j) = dup x0 x3 wo r (J j) := by
  subst e3; rw [p18, e11]; simp only [e9]; rfl
include e3 e9 e11 e14 in
theorem q28 : k0_pay28 (F := Ideal) (k0_pay20 (k0_pay7 v3) v9) (k0_pay22 v14) (k0_pay23 v11) (k0_pay24 v11) (ix3 0 r j) = dga x0 x3 wo r (J j) := by
  subst e3; rw [p28, e11, e14]; simp only [e9]; rfl
include e3 e9 e11 in
theorem q29 : k0_pay29 (F := Ideal) (k0_pay20 (k0_pay7 v3) v9) (k0_pay24 v11) (ix3 0 r j) = dup x0 x3 wo r (J j) := by
  subst e3; rw [p29, e11]; simp only [e9]; rfl

end

theorem q30 {v3 x0 : Vec Ideal S256x1024 .f32} (e3 : v3 = x0) {wo : Vec Ideal S2816x1024 .bf16} {x3 : Vec Ideal S2x256x2816 .bf16}
    {wi : Vec Ideal S4x1024x1408 .bf16} {v9 v50 : Vec Ideal S1408x1024 .bf16} {v11 v14 v52 v55 : Vec Ideal S1x256x1408 .bf16}
    {v42 v46 v83 v87 : Vec Ideal S1x1024x1408 .bf16}
    (e9 : ∀ j k, v9 (ix2 j k) = wo (ix2 (lo j) k)) (e11 : ∀ r j, v11 (ix3 0 r j) = x3 (ix3 0 r (lo j)))
    (e14 : ∀ r j, v14 (ix3 0 r j) = x3 (ix3 1 r (lo j)))
    (e50 : ∀ j k, v50 (ix2 j k) = wo (ix2 (hi j) k)) (e52 : ∀ r j, v52 (ix3 0 r j) = x3 (ix3 0 r (hi j)))
    (e55 : ∀ r j, v55 (ix3 0 r j) = x3 (ix3 1 r (hi j)))
    (e42 : ∀ l j, v42 (ix3 0 l j) = wi (ix3 0 l j)) (e83 : ∀ l j, v83 (ix3 0 l j) = wi (ix3 1 l j))
    (e46 : ∀ l j, v46 (ix3 0 l j) = wi (ix3 2 l j)) (e87 : ∀ l j, v87 (ix3 0 l j) = wi (ix3 3 l j)) :
    k0_pay30 (F := Ideal) (k0_pay19 k0_pay8 (k0_pay9 v3 v9) (k0_pay13 v11) (k0_pay15 v3 v9 v11 v14) v42 v46)
        (k0_pay20 (k0_pay7 v3) v50) (k0_pay22 v55) (k0_pay23 v52) (k0_pay24 v52) v83 v87 = dhv x0 x3 wi wo := by
  funext y
  idx_vars y
  rw [p30]
  simp only [q15 e3 e9 e11 e14, q18 e3 e9 e11, q28 e3 e50 e52 e55, q29 e3 e50 e52, e42, e46, e83, e87]
  rfl

/-! ## The first point -/

theorem r10A : runA.sl.r_10 (F := Ideal) c (st0_0 t) (hst0 t) (st0_3 t) (hst3 t) (iblk m c 0 t) (iblk m c 3 t) (wIn m c) (wOut m c) = dhv (iblk m c 0 t) (iblk m c 3 t) (wIn m c) (wOut m c) := by
  unfold runA.sl.r_10
  exact q30 (ld2 (hst0 t) _) (fun j k => lwo0 _ k j) (fun r j => ld3_0_0 (hst3 t) _ r j) (fun r j => ld3_1_0 (hst3 t) _ r j)
    (fun j k => lwo1408 _ k j) (fun r j => ld3_0_1408 (hst3 t) _ r j) (fun r j => ld3_1_1408 (hst3 t) _ r j)
    (fun l j => lwi0 _ l j) (fun l j => lwi1 _ l j) (fun l j => lwi2 _ l j) (fun l j => lwi3 _ l j)
theorem first_dx (h : t.val = 0) (r : Fin 256) (l : Fin 1024) : first8 (F := Ideal) m c t h (ix2 r l)
    = row (iblk m c 0 t) r l + bwd (row (iblk m c 1 t) r) (fun k => row (dhv (iblk m c 0 t) (iblk m c 3 t) (wIn m c) (wOut m c)) r k * row1 (iblk m c 2 t) k) l := by
  unfold first8
  frame_out
  unfold runFirst
  simp only [runA]
  canon_tiles
  have hx : x = ix2 r l := by
    funext a
    exact Fin.ext (by match a with | ⟨0, _⟩ => exact h0.symm | ⟨1, _⟩ => exact h1.symm)
  subst hx
  rw [r10A]
  simp only [runA.sl.r_11, runA.sl.r_12, runA.sl.r_13, ld2, ld1]
  exact p3 _ _ _ _ _ _
theorem first_dg (h : t.val = 0) (l : Fin 1024) : first9 (F := Ideal) m c t h (ix2 0 l)
    = ∑ a, row (dhv (iblk m c 0 t) (iblk m c 3 t) (wIn m c) (wOut m c)) a l * (row (iblk m c 1 t) a l * rr (row (iblk m c 1 t) a)) := by
  unfold first9
  frame_out
  unfold runFirst
  simp only [runA]
  refine (congrFun (View.canon_cons_unit_zero (S := S1x1024) (off := ![0, 0]) (by funext a; fin_cases a <;> rfl) _ _ _) _).trans ?_
  rw [r10A]
  simp only [runA.sl.r_11, runA.sl.r_13, ld2]
  refine (p4 _ _ _ _ _).trans ?_
  rw [show runA.sl.v124 (F := Ideal) c (st0_5 t) (ix2 0 l) = 0 from ?_, zero_add]
  unfold runA.sl.v124
  rw [View.readCov_eq_canon']
  refine (congrFun (View.canon_cons_unit_zero (S := S1x1024) (off := ![0, 0]) (by funext a; fin_cases a <;> rfl) _ _ _) _).trans (p6 _)
theorem first_hb (h : t.val = 0) (r : Fin 256) (l : Fin 1024) : first10 (F := Ideal) m c t h (ix2 r l)
    = row (iblk m c 1 t) r l * rr (row (iblk m c 1 t) r) * row1 (iblk m c 2 t) l := by
  unfold first10
  frame_out
  unfold runFirst
  simp only [runA]
  canon_tiles
  have hx : x = ix2 r l := by
    funext a
    exact Fin.ext (by match a with | ⟨0, _⟩ => exact h0.symm | ⟨1, _⟩ => exact h1.symm)
  subst hx
  simp only [runA.sl.r_11, runA.sl.r_12, runA.sl.r_13, ld2, ld1]
  exact p5 _ _ _ _
theorem first_dyb (h : t.val = 0) (r : Fin 256) (l : Fin 1024) : first13 (F := Ideal) m c t h (ix2 r l) = Cert.FfnRefIdeal.Pure.half * row (iblk m c 0 t) r l := by
  unfold first13
  frame_out
  unfold runFirst
  simp only [runA]
  canon_tiles
  have hx : x = ix2 r l := by
    funext a
    exact Fin.ext (by match a with | ⟨0, _⟩ => exact h0.symm | ⟨1, _⟩ => exact h1.symm)
  subst hx
  simp only [runA.sl.r, ld2]
  exact p7 _ _ _
theorem first_a (h : t.val = 0) (r : Fin 256) (l : Fin 2816) : first12 (F := Ideal) m c t h (ix2 r l) = a (iblk m c 3 t) r l := by
  unfold first12
  frame_out
  unfold runFirst
  simp only [runA]
  canon_tiles
  all_goals
    idx_vars x
    obtain rfl : r = x0 := Fin.ext h0
  · obtain rfl : l = hi x1 := Fin.ext h1
    exact q25 (fun r j => ld3_0_1408 (hst3 t) _ r j) (fun r j => ld3_1_1408 (hst3 t) _ r j) _ _
  · obtain rfl : l = lo x1 := Fin.ext (h1)
    exact q14 (fun r j => ld3_0_0 (hst3 t) _ r j) (fun r j => ld3_1_0 (hst3 t) _ r j) _ _
theorem first_dgu (h : t.val = 0) (s : Fin 2) (r : Fin 256) (l : Fin 2816) : first11 (F := Ideal) m c t h (ix3 s r l)
    = if s.val = 0 then dga (iblk m c 0 t) (iblk m c 3 t) (wOut m c) r l else dup (iblk m c 0 t) (iblk m c 3 t) (wOut m c) r l := by
  unfold first11
  frame_out
  unfold runFirst
  simp only [runA]
  canon_tiles
  all_goals
    idx_vars x
    obtain rfl : r = x1 := Fin.ext h1
    obtain rfl : x0 = 0 := Subsingleton.elim _ _
  · obtain rfl : s = 1 := Fin.ext h0
    obtain rfl : l = hi x2 := Fin.ext h2
    exact q29 (ld2 (hst0 t) _) (fun j k => lwo1408 _ k j) (fun r j => ld3_0_1408 (hst3 t) _ r j) _ _
  · obtain rfl : s = 0 := Fin.ext h0
    obtain rfl : l = hi x2 := Fin.ext h2
    exact q28 (ld2 (hst0 t) _) (fun j k => lwo1408 _ k j) (fun r j => ld3_0_1408 (hst3 t) _ r j) (fun r j => ld3_1_1408 (hst3 t) _ r j) _ _
  · obtain rfl : s = 1 := Fin.ext h0
    obtain rfl : l = lo x2 := Fin.ext h2
    exact q18 (ld2 (hst0 t) _) (fun j k => lwo0 _ k j) (fun r j => ld3_0_0 (hst3 t) _ r j) _ _
  · obtain rfl : s = 0 := Fin.ext h0
    obtain rfl : l = lo x2 := Fin.ext h2
    exact q17 (ld2 (hst0 t) _) (fun j k => lwo0 _ k j) (fun r j => ld3_0_0 (hst3 t) _ r j) (fun r j => ld3_1_0 (hst3 t) _ r j) _ _

/-! ## A later point -/

theorem r10B : runB.sl.r_10 (F := Ideal) c (st0_0 t) (hst0 t) (st0_3 t) (hst3 t) (iblk m c 0 t) (iblk m c 3 t) (wIn m c) (wOut m c) = dhv (iblk m c 0 t) (iblk m c 3 t) (wIn m c) (wOut m c) := by
  unfold runB.sl.r_10
  exact q30 (ld2 (hst0 t) _) (fun j k => lwo0 _ k j) (fun r j => ld3_0_0 (hst3 t) _ r j) (fun r j => ld3_1_0 (hst3 t) _ r j)
    (fun j k => lwo1408 _ k j) (fun r j => ld3_0_1408 (hst3 t) _ r j) (fun r j => ld3_1_1408 (hst3 t) _ r j)
    (fun l j => lwi0 _ l j) (fun l j => lwi1 _ l j) (fun l j => lwi2 _ l j) (fun l j => lwi3 _ l j)
theorem later_dx (h : t.val ≠ 0) (xg : Vec Ideal S1x1024 .f32) (r : Fin 256) (l : Fin 1024) : later8 (F := Ideal) m c t h xg (ix2 r l)
    = row (iblk m c 0 t) r l + bwd (row (iblk m c 1 t) r) (fun k => row (dhv (iblk m c 0 t) (iblk m c 3 t) (wIn m c) (wOut m c)) r k * row1 (iblk m c 2 t) k) l := by
  unfold later8
  frame_out
  unfold runLater
  simp only [runB]
  canon_tiles
  have hx : x = ix2 r l := by
    funext a
    exact Fin.ext (by match a with | ⟨0, _⟩ => exact h0.symm | ⟨1, _⟩ => exact h1.symm)
  subst hx
  rw [r10B]
  simp only [runB.sl.r_11, runB.sl.r_12, runB.sl.r_13, ld2, ld1]
  exact p3 _ _ _ _ _ _
theorem later_dg (h : t.val ≠ 0) (xg : Vec Ideal S1x1024 .f32) (l : Fin 1024) : later9 (F := Ideal) m c t h xg (ix2 0 l)
    = row1 xg l + ∑ a, row (dhv (iblk m c 0 t) (iblk m c 3 t) (wIn m c) (wOut m c)) a l * (row (iblk m c 1 t) a l * rr (row (iblk m c 1 t) a)) := by
  unfold later9
  frame_out
  unfold runLater
  simp only [runB]
  refine (congrFun (View.canon_cons_unit_zero (S := S1x1024) (off := ![0, 0]) (by funext a; fin_cases a <;> rfl) _ _ _) _).trans ?_
  rw [r10B]
  simp only [runB.sl.r_11, runB.sl.r_13, ld2, ld1]
  exact p4 _ _ _ _ _
theorem later_hb (h : t.val ≠ 0) (xg : Vec Ideal S1x1024 .f32) (r : Fin 256) (l : Fin 1024) : later10 (F := Ideal) m c t h xg (ix2 r l)
    = row (iblk m c 1 t) r l * rr (row (iblk m c 1 t) r) * row1 (iblk m c 2 t) l := by
  unfold later10
  frame_out
  unfold runLater
  simp only [runB]
  canon_tiles
  have hx : x = ix2 r l := by
    funext a
    exact Fin.ext (by match a with | ⟨0, _⟩ => exact h0.symm | ⟨1, _⟩ => exact h1.symm)
  subst hx
  simp only [runB.sl.r_11, runB.sl.r_12, runB.sl.r_13, ld2, ld1]
  exact p5 _ _ _ _
theorem later_dyb (h : t.val ≠ 0) (xg : Vec Ideal S1x1024 .f32) (r : Fin 256) (l : Fin 1024) : later13 (F := Ideal) m c t h xg (ix2 r l) = Cert.FfnRefIdeal.Pure.half * row (iblk m c 0 t) r l := by
  unfold later13
  frame_out
  unfold runLater
  simp only [runB]
  canon_tiles
  have hx : x = ix2 r l := by
    funext a
    exact Fin.ext (by match a with | ⟨0, _⟩ => exact h0.symm | ⟨1, _⟩ => exact h1.symm)
  subst hx
  simp only [runB.sl.r, ld2]
  exact p7 _ _ _
theorem later_a (h : t.val ≠ 0) (xg : Vec Ideal S1x1024 .f32) (r : Fin 256) (l : Fin 2816) : later12 (F := Ideal) m c t h xg (ix2 r l) = a (iblk m c 3 t) r l := by
  unfold later12
  frame_out
  unfold runLater
  simp only [runB]
  canon_tiles
  all_goals
    idx_vars x
    obtain rfl : r = x0 := Fin.ext h0
  · obtain rfl : l = hi x1 := Fin.ext h1
    exact q25 (fun r j => ld3_0_1408 (hst3 t) _ r j) (fun r j => ld3_1_1408 (hst3 t) _ r j) _ _
  · obtain rfl : l = lo x1 := Fin.ext (h1)
    exact q14 (fun r j => ld3_0_0 (hst3 t) _ r j) (fun r j => ld3_1_0 (hst3 t) _ r j) _ _
theorem later_dgu (h : t.val ≠ 0) (xg : Vec Ideal S1x1024 .f32) (s : Fin 2) (r : Fin 256) (l : Fin 2816) : later11 (F := Ideal) m c t h xg (ix3 s r l)
    = if s.val = 0 then dga (iblk m c 0 t) (iblk m c 3 t) (wOut m c) r l else dup (iblk m c 0 t) (iblk m c 3 t) (wOut m c) r l := by
  unfold later11
  frame_out
  unfold runLater
  simp only [runB]
  canon_tiles
  all_goals
    idx_vars x
    obtain rfl : r = x1 := Fin.ext h1
    obtain rfl : x0 = 0 := Subsingleton.elim _ _
  · obtain rfl : s = 1 := Fin.ext h0
    obtain rfl : l = hi x2 := Fin.ext h2
    exact q29 (ld2 (hst0 t) _) (fun j k => lwo1408 _ k j) (fun r j => ld3_0_1408 (hst3 t) _ r j) _ _
  · obtain rfl : s = 0 := Fin.ext h0
    obtain rfl : l = hi x2 := Fin.ext h2
    exact q28 (ld2 (hst0 t) _) (fun j k => lwo1408 _ k j) (fun r j => ld3_0_1408 (hst3 t) _ r j) (fun r j => ld3_1_1408 (hst3 t) _ r j) _ _
  · obtain rfl : s = 1 := Fin.ext h0
    obtain rfl : l = lo x2 := Fin.ext h2
    exact q18 (ld2 (hst0 t) _) (fun j k => lwo0 _ k j) (fun r j => ld3_0_0 (hst3 t) _ r j) _ _
  · obtain rfl : s = 0 := Fin.ext h0
    obtain rfl : l = lo x2 := Fin.ext h2
    exact q17 (ld2 (hst0 t) _) (fun j k => lwo0 _ k j) (fun r j => ld3_0_0 (hst3 t) _ r j) (fun r j => ld3_1_0 (hst3 t) _ r j) _ _

end Cert.FfnIdeal.Point
-- ==== Proof.FfnReal.lean ====
/-
  Where the arguments of the gate are real numbers, the two ways of writing the gate's derivative agree.
-/
module

public import proofs.«01_k».proof.Proof.FfnPoint
public import proofs.«01_k».proof.Proof.FfnRefPure

@[expose] public section

set_option maxRecDepth 16384

noncomputable section

open Idealize.ShloMosaic

namespace Cert.FfnIdeal.Real

open Cert.Rms
open Cert.FfnRefIdeal.Pure (sg half)

/-- A number that is not infinite. -/
def IsReal (x : EReal) : Prop := ∃ a : ℝ, x = a

theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sum {n : ℕ} {f : Fin n → EReal} (h : ∀ k, IsReal (f k)) : IsReal (∑ k, f k) :=
  Finset.sum_induction f IsReal (fun _ _ => IsReal.add) ⟨0, rfl⟩ fun k _ => h k
theorem half_real : IsReal half := ⟨1 / 2, chalf⟩

/-- An entry of a row times the row's reciprocal root is real, whatever the row. -/
theorem norm_real (x : Fin 1024 → EReal) (l : Fin 1024) : IsReal (x l * rr x) := by
  rcases rr_cases x with ⟨ρ, hρ, hr, hv⟩ | ⟨hr, hv⟩
  · rw [hr]
    refine IsReal.mul ?_ ⟨ρ, rfl⟩
    have hs : ∑ k, x k * x k ≠ ⊤ := by
      intro ht
      obtain ⟨e, he, hE⟩ := ceps
      rw [vv, c1024, hE, Ideal.div_coe (by norm_num), ht, EReal.top_mul_coe_of_pos (by norm_num), EReal.top_add_coe] at hv
      exact EReal.coe_ne_top _ hv.symm
    have hl : x l * x l ≤ ∑ k, x k * x k :=
      Finset.single_le_sum (f := fun k => x k * x k) (fun k _ => sq_nonneg (x k)) (Finset.mem_univ l)
    have hn : x l * x l ≠ ⊤ := fun h => hs (top_le_iff.mp (h ▸ hl))
    generalize x l = y at hn
    induction y with
    | bot => exact absurd rfl hn
    | top => exact absurd rfl hn
    | coe a => exact ⟨a, rfl⟩
  · rw [hr, mul_zero]
    exact ⟨0, rfl⟩

/-- The logistic function of a real number is real. -/
theorem sg_real (z : ℝ) : IsReal (sg z) := by
  have hp : (1 + Real.exp (0 - z)) ≠ 0 := (add_pos one_pos (Real.exp_pos _)).ne'
  refine ⟨1 / (1 + Real.exp (0 - z)), ?_⟩
  rw [sg, ← EReal.coe_zero, ← EReal.coe_sub, Ideal.exp_coe, ← EReal.coe_one, ← EReal.coe_add, Ideal.div_coe hp, ← EReal.coe_mul, one_mul]

/-- The gate's derivative, written as one factor and as two terms. -/
theorem gate {d u z : EReal} (hd : IsReal d) (hu : IsReal u) (hz : IsReal z) :
    d * u * (sg z + z * sg z * (1 - sg z)) = d * u * sg z + z * (d * u) * (sg z * (1 - sg z)) := by
  obtain ⟨d, rfl⟩ := hd
  obtain ⟨u, rfl⟩ := hu
  obtain ⟨z, rfl⟩ := hz
  obtain ⟨s, hs⟩ := sg_real z
  rw [hs, ← EReal.coe_one]
  norm_cast
  ring

/-- A sum over 5632 entries in four quarters, the third before the second. -/
theorem sum_quarters (f : Fin 5632 → EReal) :
    ∑ k, f k = (∑ k : Fin 1408, f ⟨k.val, by omega⟩) + (∑ k : Fin 1408, f ⟨2816 + k.val, by omega⟩)
      + (∑ k : Fin 1408, f ⟨1408 + k.val, by omega⟩) + ∑ k : Fin 1408, f ⟨4224 + k.val, by omega⟩ := by
  rw [show (∑ k, f k) = ∑ k : Fin (((1408 + 1408) + 1408) + 1408), f ⟨k.val, by omega⟩ from rfl, Fin.sum_univ_add, Fin.sum_univ_add,
    Fin.sum_univ_add]
  exact congrArg (· + _) (add_right_comm _ _ _)

section

variable (x : FVec Ideal Cert.FfnRefIdeal.S4096x1024 .f32) (g : FVec Ideal Cert.FfnRefIdeal.S1024 .f32)
  (w : FVec Ideal Cert.FfnRefIdeal.S1024x5632 .f32) (wo : FVec Ideal Cert.FfnRefIdeal.S2816x1024 .f32)
  (ct : FVec Ideal Cert.FfnRefIdeal.S4096x1024 .f32)

/-- The first product's rows are real where the scale and the weights are. -/
theorem z_real (hg : ∀ i, IsReal (g i)) (hw : ∀ i, IsReal (w i)) (r : Fin 4096) (j : Fin 5632) :
    IsReal (Cert.FfnRefIdeal.Pure.z x g w r j) :=
  IsReal.sum fun k => ((norm_real (Cert.FfnRefIdeal.Pure.row x r) k).mul (hg _)).mul (hw _)

/-- The gated row's cotangent is real where the cotangent and the second weights are. -/
theorem da_real (ho : ∀ i, IsReal (wo i)) (hc : ∀ i, IsReal (ct i)) (r : Fin 4096) (j : Fin 2816) :
    IsReal (Cert.FfnRefIdeal.Pure.da wo ct r j) :=
  IsReal.sum fun k => (half_real.mul (hc _)).mul (ho _)

end

end Cert.FfnIdeal.Real

end
-- ==== Proof.FfnBlocks.lean ====
/-
  What the blocks the gated layer's backward call reads hold, in terms of the program's arguments.
-/
module

public import proofs.«01_k».proof.Proof.FfnReal

@[expose] public section

set_option maxRecDepth 16384

noncomputable section

open Idealize.ShloMosaic Idealize.ShloMosaic.TcCoe Idealize.SL.Sem
open Idealize.ShloMosaic.Pipeline (Dat)

namespace Cert.FfnIdeal.Blocks

open Cert.FfnIdeal Cert.FfnIdeal.Gen Cert.FfnIdeal.Pure
open Cert.FfnIdeal.Body (wIn wOut)

variable (m : (ℓ : Loc nD τ sig) → Buf (Elt Ideal) ℓ)

/-- The block each window takes at each grid point. -/
theorem idx : ∀ t : Fin cfg0.N, win0_0.index t = ![t.val, 0] ∧ win0_1.index t = ![t.val, 0] ∧ win0_2.index t = ![0, 0]
    ∧ win0_3.index t = ![0, t.val, 0] ∧ win0_4.index t = ![t.val, 0] ∧ win0_5.index t = ![0, 0] ∧ win0_6.index t = ![t.val, 0]
    ∧ win0_7.index t = ![0, t.val, 0] ∧ win0_8.index t = ![t.val, 0] ∧ win0_9.index t = ![t.val, 0] :=
  (by decide +kernel : ∀ t : Fin grid0.N, _)

/-- The place in the arrays of a row of a block. -/
def at' (t : Fin cfg0.N) (r : Fin 256) : Fin 4096 :=
  ⟨t.val * 256 + r.val, by have hN : cfg0.N = 16 := N_0; have := t.isLt; have := r.isLt; omega⟩

/-- The layer's input. -/
abbrev aX (c : Dev nD) := m ((c : Thread nD τ).loc main_arg0)
/-- The norm's scale. -/
abbrev aG (c : Dev nD) := m ((c : Thread nD τ).loc main_arg1)
/-- The first product's weights. -/
abbrev aI (c : Dev nD) := m ((c : Thread nD τ).loc main_arg2)
/-- The second product's weights. -/
abbrev aO (c : Dev nD) := m ((c : Thread nD τ).loc main_arg3)
/-- The cotangent. -/
abbrev aC (c : Dev nD) := m ((c : Thread nD τ).loc main_arg4)

/-- A row of the cotangent's block. -/
theorem blk0 (c : Dev nD) (t : Fin cfg0.N) (r : Fin 256) :
    row (iblk m c 0 t) r = Cert.FfnRefIdeal.Pure.row (aC m c) (at' t r) := by
  funext k
  show iblk m c 0 t (ix2 r k) = aC m c (ix2 (at' t r) k)
  blk_ext [iblk, V, idx t, at']

/-- A row of the input's block. -/
theorem blk1 (c : Dev nD) (t : Fin cfg0.N) (r : Fin 256) :
    row (iblk m c 1 t) r = Cert.FfnRefIdeal.Pure.row (aX m c) (at' t r) := by
  funext k
  show iblk m c 1 t (ix2 r k) = aX m c (ix2 (at' t r) k)
  blk_ext [iblk, V, idx t, at']

/-- The scale of the norm. -/
theorem blk2 (c : Dev nD) (t : Fin cfg0.N) :
    row1 (iblk m c 2 t) = Cert.FfnRefIdeal.Pure.row1 (aG m c) := by
  funext k
  show iblk m c 2 t (ix2 0 k) = aG m c (ix1 k)
  blk_simp [iblk]
  entry_read
  pointwise
  blk_ext [idx t]

/-- The first product's weights, cut into four groups of columns. -/
theorem win (c : Dev nD) (q : Fin 4) (l : Fin 1024) (j : Fin 1408) :
    wIn m c (ix3 q l j) = aI m c (ix2 l ⟨q.val * 1408 + j.val, by omega⟩) := by
  unfold wIn
  entry_read
  pointwise

/-- The second product's weights. -/
theorem wout (c : Dev nD) : wOut m c = aO m c := by
  unfold wOut
  entry_read
  rfl

/-- The saved product, before it is laid out by halves. -/
theorem V_v16 (c : Dev nD) : (V m c main_v18 : FVec Ideal S2x4096x2816 .bf16) = transpose S2x4096x2816 [1, 0, 2]
    (shapeCast S4096x2x2816 (truncf (F := Ideal) .bf16 (Cert.FfnRefIdeal.Read.val_main_v16 (F := Ideal) (aX m c) (aG m c) (aI m c) : FVec Ideal S4096x5632 .f32) bitsLt_bf16_f32)
      shapeCasts_S4096x5632_S4096x2x2816) transposes_S4096x2x2816_S2x4096x2816_1_0_2 := by
  unfold V
  simp only [hostOps0, List.flatten_cons, List.flatten_nil, List.append_nil, List.cons_append, List.nil_append]
  after_results
  rfl

/-- The saved product of the normalised rows and the first weights. -/
theorem blk3 (c : Dev nD) (t : Fin cfg0.N) (s : Fin 2) (r : Fin 256) (j : Fin 2816) :
    iblk m c 3 t (ix3 s r j) = Cert.FfnRefIdeal.Pure.z (aX m c) (aG m c) (aI m c) (at' t r) ⟨s.val * 2816 + j.val, by omega⟩ := by
  refine Eq.trans ?_ (Cert.FfnRefIdeal.Pure.v16 (aX m c) (aG m c) (aI m c) (at' t r) ⟨s.val * 2816 + j.val, by omega⟩)
  blk_simp [iblk]
  rw [V_v16]
  pointwise
  blk_ext [idx t, at']

end Cert.FfnIdeal.Blocks

end
-- ==== Proof.FfnValue.lean ====
/-
  The six result arrays of the gated layer's backward call after the run, each equal to the reference's term.
-/
module

public import proofs.«01_k».proof.Proof.FfnBlocks

@[expose] public section

set_option maxRecDepth 16384

noncomputable section

open Idealize.ShloMosaic Idealize.ShloMosaic.TcCoe Idealize.SL.Sem
open Idealize.ShloMosaic.Pipeline (Dat)

namespace Cert.FfnIdeal.Final

open Cert.FfnIdeal Cert.FfnIdeal.Gen Cert.FfnIdeal.Pure Cert.FfnIdeal.Blocks
open Cert.FfnIdeal.Body hiding first
open Cert.FfnIdeal.Point
open Cert.FfnIdeal.Real (IsReal)
open Cert.FfnRefIdeal.Read (val_main_v54 val_main_v55 val_main_v56 val_main_v59 val_main_v60 val_main_v63)

variable (m : (ℓ : Loc nD τ sig) → Buf (Elt Ideal) ℓ)

section Parts

variable (c : Dev nD) (t : Fin cfg0.N) (r : Fin 256)

/-- The gate's argument of one row. -/
theorem ga_eq (j : Fin 2816) : ga (iblk m c 3 t) r j = Cert.FfnRefIdeal.Pure.ga (aX m c) (aG m c) (aI m c) (at' t r) j :=
  (blk3 m c t 0 r j).trans (congrArg (Cert.FfnRefIdeal.Pure.z (aX m c) (aG m c) (aI m c) (at' t r)) (Fin.ext (by dsimp only [Fin.val_zero] <;> omega)))
/-- What the gate multiplies. -/
theorem up_eq (j : Fin 2816) : up (iblk m c 3 t) r j = Cert.FfnRefIdeal.Pure.up (aX m c) (aG m c) (aI m c) (at' t r) j :=
  (blk3 m c t 1 r j).trans (congrArg (Cert.FfnRefIdeal.Pure.z (aX m c) (aG m c) (aI m c) (at' t r)) (Fin.ext (by dsimp only [Fin.val_one] <;> omega)))
/-- The cotangent of the gated row. -/
theorem da_eq (j : Fin 2816) : da (iblk m c 0 t) (wOut m c) r j = Cert.FfnRefIdeal.Pure.da (aO m c) (aC m c) (at' t r) j := by
  unfold da Cert.FfnRefIdeal.Pure.da
  refine Finset.sum_congr rfl fun k _ => ?_
  rw [wout]
  exact congrArg (fun u => Cert.FfnRefIdeal.Pure.half * u * aO m c (ix2 j k)) (congrFun (blk0 m c t r) k)
/-- The cotangent of what the gate multiplies. -/
theorem dup_eq (j : Fin 2816) : dup (iblk m c 0 t) (iblk m c 3 t) (wOut m c) r j
    = Cert.FfnRefIdeal.Pure.dup (aX m c) (aG m c) (aI m c) (aO m c) (aC m c) (at' t r) j := by
  unfold dup Cert.FfnRefIdeal.Pure.dup
  rw [da_eq, ga_eq]
  exact mul_comm _ _

variable (hg : ∀ i, IsReal (aG m c i)) (hw : ∀ i, IsReal (aI m c i)) (ho : ∀ i, IsReal (aO m c i)) (hc : ∀ i, IsReal (aC m c i))
include hg hw ho hc

/-- The cotangent of the gate's argument. -/
theorem dga_eq (j : Fin 2816) : dga (iblk m c 0 t) (iblk m c 3 t) (wOut m c) r j
    = Cert.FfnRefIdeal.Pure.dga (aX m c) (aG m c) (aI m c) (aO m c) (aC m c) (at' t r) j := by
  unfold dga Cert.FfnRefIdeal.Pure.dga
  rw [da_eq, ga_eq, up_eq]
  exact Cert.FfnIdeal.Real.gate (Cert.FfnIdeal.Real.da_real _ _ ho hc _ _) (Cert.FfnIdeal.Real.z_real _ _ _ hg hw _ _)
    (Cert.FfnIdeal.Real.z_real _ _ _ hg hw _ _)

/-- The cotangent of the normalised row. -/
theorem dh_eq : row (dhv (iblk m c 0 t) (iblk m c 3 t) (wIn m c) (wOut m c)) r
    = Cert.FfnRefIdeal.Pure.dh (aX m c) (aG m c) (aI m c) (aO m c) (aC m c) (at' t r) := by
  funext l
  show dh (iblk m c 0 t) (iblk m c 3 t) (wIn m c) (wOut m c) r l = _
  unfold dh Cert.FfnRefIdeal.Pure.dh
  rw [Cert.FfnIdeal.Real.sum_quarters]
  refine congrArg₂ (· + ·) (congrArg₂ (· + ·) (congrArg₂ (· + ·) ?_ ?_) ?_) ?_
  · refine Finset.sum_congr rfl fun j _ => ?_
    rw [dga_eq m c t r hg hw ho hc, win, Cert.FfnRefIdeal.Pure.dz, dif_pos (show j.val < 2816 by omega)]
    exact congrArg (fun k => _ * aI m c (ix2 l k)) (Fin.ext (by dsimp only [Fin.val_zero] <;> omega))
  · refine Finset.sum_congr rfl fun j _ => ?_
    rw [dup_eq, win, Cert.FfnRefIdeal.Pure.dz, dif_neg (show ¬ 2816 + j.val < 2816 by omega)]
    exact congrArg₂ (fun k k' => Cert.FfnRefIdeal.Pure.dup (aX m c) (aG m c) (aI m c) (aO m c) (aC m c) (at' t r) k * aI m c (ix2 l k'))
      (Fin.ext (by dsimp only [lo] <;> omega)) (Fin.ext (by dsimp only [Fin.val_two] <;> omega))
  · refine Finset.sum_congr rfl fun j _ => ?_
    rw [dga_eq m c t r hg hw ho hc, win, Cert.FfnRefIdeal.Pure.dz, dif_pos (show 1408 + j.val < 2816 by omega)]
    exact congrArg (fun k => _ * aI m c (ix2 l k)) (Fin.ext (by dsimp only [Fin.val_one] <;> omega))
  · refine Finset.sum_congr rfl fun j _ => ?_
    rw [dup_eq, win, Cert.FfnRefIdeal.Pure.dz, dif_neg (show ¬ 4224 + j.val < 2816 by omega)]
    exact congrArg₂ (fun k k' => Cert.FfnRefIdeal.Pure.dup (aX m c) (aG m c) (aI m c) (aO m c) (aC m c) (at' t r) k * aI m c (ix2 l k'))
      (Fin.ext (by dsimp only [hi] <;> omega)) (Fin.ext (by show 3 * 1408 + j.val = 4224 + j.val; omega))

end Parts

/-- The gradient of the layer's input. -/
theorem dx (c : Dev nD) (hg : ∀ i, IsReal (aG m c i)) (hw : ∀ i, IsReal (aI m c i)) (ho : ∀ i, IsReal (aO m c i)) (hc : ∀ i, IsReal (aC m c i)) : (dats m 0 c).arrAt 4 cfg0.N = val_main_v54 (F := Ideal) (aX m c) (aG m c) (aI m c) (aO m c) (aC m c) := by
  refine (dats m 0 c).arrAt_eq_of_covers 4 _ (by decide +kernel) fun t hf y => ?_
  blk_simp
  rw [after4]
  have key : ∀ (v : FVec Ideal S256x1024 .f32) (hv : ∀ y0 y1, v (ix2 y0 y1) = row (iblk m c 0 t) y0 y1 + Cert.Rms.bwd (row (iblk m c 1 t) y0) (fun k => row (dhv (iblk m c 0 t) (iblk m c 3 t) (wIn m c) (wOut m c)) y0 k * row1 (iblk m c 2 t) k) y1) (y0 : Fin 256) (y1 : Fin 1024),
      v (ix2 y0 y1) = val_main_v54 (F := Ideal) (aX m c) (aG m c) (aI m c) (aO m c) (aC m c) (((View.whole main_v25_0).slice (win0_4.rect t)).emb (ix2 y0 y1)) := by
    intro v hv y0 y1
    have he : (((View.whole main_v25_0).slice (win0_4.rect t)).emb (ix2 y0 y1)) = (ix2 (at' t y0) y1 : S4096x1024.Idx) := by
      blk_ext [idx t, at']
    rw [he, hv, dh_eq m c t y0 hg hw ho hc, blk1, blk2, blk0]
    exact (Cert.FfnRefIdeal.Pure.dx (aX m c) (aG m c) (aI m c) (aO m c) (aC m c) (at' t y0) y1).symm
  by_cases h : t.val = 0
  · rw [outsAt_first m c t h]
    dsimp only
    idx_vars y
    exact key _ (fun y0 y1 => first_dx m c t h y0 y1) y0 y1
  · rw [outsAt_later m c t h]
    dsimp only
    idx_vars y
    exact key _ (fun y0 y1 => later_dx m c t h _ y0 y1) y0 y1

/-- What one grid point adds to the gradient of the norm's scale. -/
def dgPart (c : Dev nD) (t : Fin cfg0.N) (j : S1x1024.Idx) : EReal :=
  ∑ a, row (dhv (iblk m c 0 t) (iblk m c 3 t) (wIn m c) (wOut m c)) a (j 1) * (row (iblk m c 1 t) a (j 1) * Cert.Rms.rr (row (iblk m c 1 t) a))

/-- The first point's part. -/
theorem dg_zero (c : Dev nD) (t : Fin cfg0.N) (h : t.val = 0) (j : S1x1024.Idx) : (outsAt m c t.val t.isLt).2.1 j = 0 + dgPart m c t j := by
  rw [outsAt_first m c t h]
  dsimp only
  idx_vars j
  obtain rfl : j0 = 0 := Subsingleton.elim _ _
  rw [zero_add, first_dg m c t h]
  rfl
/-- A later point adds its part. -/
theorem dg_succ (c : Dev nD) (t : Fin cfg0.N) (h : t.val ≠ 0) (j : S1x1024.Idx) : (outsAt m c t.val t.isLt).2.1 j = (prev m c t).2.1 j + dgPart m c t j := by
  rw [outsAt_later m c t h]
  dsimp only
  idx_vars j
  obtain rfl : j0 = 0 := Subsingleton.elim _ _
  rw [later_dg m c t h]
  rfl

/-- The last point leaves the sum of all parts. -/
theorem dg_at (c : Dev nD) (t : Fin cfg0.N) (ht : t.val = 15) (j : S1x1024.Idx) : (outsAt m c t.val t.isLt).2.1 j = ∑ s : Fin cfg0.N, dgPart m c s j :=
  (Pipeline.eq_sum_fin_of_reset_step_apply_last (fun n h => (outsAt m c n h).2.1) 16 (fun _ => 0) (dgPart m c)
    (fun t h j => dg_zero m c t (by have hN : t.val < 16 := lt_of_lt_of_eq t.isLt N_0; omega) j)
    (fun t h j => dg_succ m c t (by omega) j)
    (le_of_eq N_0) t (by rw [ht]; exact N_0.symm) j).trans (zero_add _)

/-- The last point. -/
def tEnd : Fin cfg0.N := ⟨15, by decide +kernel⟩

/-- The gradient of the norm's scale. -/
theorem dg (c : Dev nD) (hg : ∀ i, IsReal (aG m c i)) (hw : ∀ i, IsReal (aI m c i)) (ho : ∀ i, IsReal (aO m c i)) (hc : ∀ i, IsReal (aC m c i)) : (dats m 0 c).arrAt 5 cfg0.N = val_main_v55 (F := Ideal) (aX m c) (aG m c) (aI m c) (aO m c) (aC m c) := by
  refine (dats m 0 c).arrAt_eq_of_after_last 5 tEnd (by decide +kernel) _ fun j => ?_
  blk_simp
  idx_vars j
  rw [after5]
  refine (dg_at m c tEnd rfl _).trans (Eq.trans ?_ (Cert.FfnRefIdeal.Pure.dg (aX m c) (aG m c) (aI m c) (aO m c) (aC m c) _ _).symm)
  simp only [dgPart, dh_eq m c _ _ hg hw ho hc, blk1]
  exact Fin.sum_mul_add_congr (fun p a _ => rfl) (by rw [show cfg0.N = 16 from N_0])

/-- The normalised rows, as the weights' gradient takes them. -/
theorem hb (c : Dev nD)  : (dats m 0 c).arrAt 6 cfg0.N = val_main_v56 (F := Ideal) (aX m c) (aG m c) := by
  refine (dats m 0 c).arrAt_eq_of_covers 6 _ (by decide +kernel) fun t hf y => ?_
  blk_simp
  rw [after6]
  have key : ∀ (v : FVec Ideal S256x1024 .bf16) (hv : ∀ y0 y1, v (ix2 y0 y1) = row (iblk m c 1 t) y0 y1 * Cert.Rms.rr (row (iblk m c 1 t) y0) * row1 (iblk m c 2 t) y1) (y0 : Fin 256) (y1 : Fin 1024),
      v (ix2 y0 y1) = val_main_v56 (F := Ideal) (aX m c) (aG m c) (((View.whole main_v25_2).slice (win0_6.rect t)).emb (ix2 y0 y1)) := by
    intro v hv y0 y1
    have he : (((View.whole main_v25_2).slice (win0_6.rect t)).emb (ix2 y0 y1)) = (ix2 (at' t y0) y1 : S4096x1024.Idx) := by
      blk_ext [idx t, at']
    rw [he, hv, blk1, blk2]
    exact (Cert.FfnRefIdeal.Pure.hb (aX m c) (aG m c) (at' t y0) y1).symm
  by_cases h : t.val = 0
  · rw [outsAt_first m c t h]
    dsimp only
    idx_vars y
    exact key _ (fun y0 y1 => first_hb m c t h y0 y1) y0 y1
  · rw [outsAt_later m c t h]
    dsimp only
    idx_vars y
    exact key _ (fun y0 y1 => later_hb m c t h _ y0 y1) y0 y1

/-- The cotangents of the gate's argument and of what it multiplies, one after the other. -/
theorem dgu (c : Dev nD) (hg : ∀ i, IsReal (aG m c i)) (hw : ∀ i, IsReal (aI m c i)) (ho : ∀ i, IsReal (aO m c i)) (hc : ∀ i, IsReal (aC m c i)) : (dats m 0 c).arrAt 7 cfg0.N = val_main_v59 (F := Ideal) (aX m c) (aG m c) (aI m c) (aO m c) (aC m c) := by
  refine (dats m 0 c).arrAt_eq_of_covers 7 _ (by decide +kernel) fun t hf y => ?_
  blk_simp
  rw [after7]
  have key : ∀ (v : FVec Ideal S2x256x2816 .bf16) (hv : ∀ s y0 y1, v (ix3 s y0 y1) = if s.val = 0 then dga (iblk m c 0 t) (iblk m c 3 t) (wOut m c) y0 y1
        else dup (iblk m c 0 t) (iblk m c 3 t) (wOut m c) y0 y1) (s : Fin 2) (y0 : Fin 256) (y1 : Fin 2816),
      v (ix3 s y0 y1) = val_main_v59 (F := Ideal) (aX m c) (aG m c) (aI m c) (aO m c) (aC m c) (((View.whole main_v25_3).slice (win0_7.rect t)).emb (ix3 s y0 y1)) := by
    intro v hv s y0 y1
    have he : (((View.whole main_v25_3).slice (win0_7.rect t)).emb (ix3 s y0 y1)) = (ix3 s (at' t y0) y1 : S2x4096x2816.Idx) := by
      blk_ext [idx t, at']
    rw [he, hv, dga_eq m c t y0 hg hw ho hc, dup_eq]
    refine Eq.trans ?_ (Cert.FfnRefIdeal.Pure.dgu (aX m c) (aG m c) (aI m c) (aO m c) (aC m c) (at' t y0) s y1).symm
    unfold Cert.FfnRefIdeal.Pure.dz
    by_cases hs : s.val = 0
    · rw [if_pos hs, dif_pos (show s.val * 2816 + y1.val < 2816 by omega)]
      exact congrArg _ (Fin.ext (by dsimp only <;> omega))
    · rw [if_neg hs, dif_neg (show ¬ s.val * 2816 + y1.val < 2816 by omega)]
      exact congrArg _ (Fin.ext (by dsimp only <;> omega))
  by_cases h : t.val = 0
  · rw [outsAt_first m c t h]
    dsimp only
    idx_vars y
    exact key _ (fun s y0 y1 => first_dgu m c t h s y0 y1) y0 y1 y2
  · rw [outsAt_later m c t h]
    dsimp only
    idx_vars y
    exact key _ (fun s y0 y1 => later_dgu m c t h _ s y0 y1) y0 y1 y2

/-- The gated rows. -/
theorem a (c : Dev nD)  : (dats m 0 c).arrAt 8 cfg0.N = val_main_v60 (F := Ideal) (aX m c) (aG m c) (aI m c) := by
  refine (dats m 0 c).arrAt_eq_of_covers 8 _ (by decide +kernel) fun t hf y => ?_
  blk_simp
  rw [after8]
  have key : ∀ (v : FVec Ideal S256x2816 .bf16) (hv : ∀ y0 y1, v (ix2 y0 y1) = Cert.FfnIdeal.Pure.a (iblk m c 3 t) y0 y1) (y0 : Fin 256) (y1 : Fin 2816),
      v (ix2 y0 y1) = val_main_v60 (F := Ideal) (aX m c) (aG m c) (aI m c) (((View.whole main_v25_4).slice (win0_8.rect t)).emb (ix2 y0 y1)) := by
    intro v hv y0 y1
    have he : (((View.whole main_v25_4).slice (win0_8.rect t)).emb (ix2 y0 y1)) = (ix2 (at' t y0) y1 : S4096x2816.Idx) := by
      blk_ext [idx t, at']
    rw [he, hv, Cert.FfnIdeal.Pure.a, ga_eq, up_eq]
    exact (Cert.FfnRefIdeal.Pure.v60 (aX m c) (aG m c) (aI m c) (at' t y0) y1).symm
  by_cases h : t.val = 0
  · rw [outsAt_first m c t h]
    dsimp only
    idx_vars y
    exact key _ (fun y0 y1 => first_a m c t h y0 y1) y0 y1
  · rw [outsAt_later m c t h]
    dsimp only
    idx_vars y
    exact key _ (fun y0 y1 => later_a m c t h _ y0 y1) y0 y1

/-- Half the cotangent. -/
theorem dyb (c : Dev nD)  : (dats m 0 c).arrAt 9 cfg0.N = val_main_v63 (F := Ideal) (aC m c) := by
  refine (dats m 0 c).arrAt_eq_of_covers 9 _ (by decide +kernel) fun t hf y => ?_
  blk_simp
  rw [after9]
  have key : ∀ (v : FVec Ideal S256x1024 .bf16) (hv : ∀ y0 y1, v (ix2 y0 y1) = Cert.FfnRefIdeal.Pure.half * row (iblk m c 0 t) y0 y1) (y0 : Fin 256) (y1 : Fin 1024),
      v (ix2 y0 y1) = val_main_v63 (F := Ideal) (aC m c) (((View.whole main_v25_5).slice (win0_9.rect t)).emb (ix2 y0 y1)) := by
    intro v hv y0 y1
    have he : (((View.whole main_v25_5).slice (win0_9.rect t)).emb (ix2 y0 y1)) = (ix2 (at' t y0) y1 : S4096x1024.Idx) := by
      blk_ext [idx t, at']
    rw [he, hv, blk0]
    exact (Cert.FfnRefIdeal.Pure.dyb (aC m c) (at' t y0) y1).symm
  by_cases h : t.val = 0
  · rw [outsAt_first m c t h]
    dsimp only
    idx_vars y
    exact key _ (fun y0 y1 => first_dyb m c t h y0 y1) y0 y1
  · rw [outsAt_later m c t h]
    dsimp only
    idx_vars y
    exact key _ (fun y0 y1 => later_dyb m c t h _ y0 y1) y0 y1

end Cert.FfnIdeal.Final

end
-- ==== Proof.FfnClaim.lean ====
/-
  The claims about the gated layer's backward call: the reference's frame and the value claim.
-/
module

public import proofs.«01_k».proof.Defs
public import proofs.«01_k».proof.Proof.FfnValue
public import proofs.«01_k».proof.Proof.FfnFrame
public import proofs.«01_k».proof.Proof.Finite
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.FfnClaim

open Cert.FfnIdeal.Real (IsReal)

/-- The shape relations of the precondition's operations. -/
theorem facts : Cert.Pre_ffn_finite.Facts where
  bcast_S_S1024 := by decide
  reducesTo_S1024_S_d0 := by decide
  h_S_ := by decide
  bcast_S_S1024x5632 := by decide
  reducesTo_S1024x5632_S_d0_1 := by decide
  bcast_S_S2816x1024 := by decide
  reducesTo_S2816x1024_S_d0_1 := by decide
  bcast_S_S4096x1024 := by decide
  reducesTo_S4096x1024_S_d0_1 := by decide

/-- The reference runs and leaves its arguments and its counters as they were. -/
theorem frame_ref : Cert.quiescent_FfnRefIdeal := by
  intro m g _
  exact (θ_run Cert.FfnRefIdeal.defs _ _).mono
    (fun r h => ⟨fun c => (h c).2.2.2.2.2.2, sem_eq_zero_of_no_sems (by decide) r.2⟩)
    (Cert.FfnRefIdeal.Value.run (F := Ideal) m g)

instance : Subsingleton Cert.Pre_ffn_finite.S_.Idx := ⟨fun a b => funext fun i => i.elim0⟩

/-- Under the precondition the scale, the weights and the cotangent are real numbers. -/
theorem reals (x0 x4 : FVec Ideal Cert.Pre_ffn_finite.S4096x1024 .f32) (x1 : FVec Ideal Cert.Pre_ffn_finite.S1024 .f32)
    (x2 : FVec Ideal Cert.Pre_ffn_finite.S1024x5632 .f32) (x3 : FVec Ideal Cert.Pre_ffn_finite.S2816x1024 .f32)
    (h : @Cert.Pre_ffn_finite.fn facts Ideal _ x0 x1 x2 x3 x4 = fun _ => 1#1) :
    (∀ i, IsReal (x1 i)) ∧ (∀ i, IsReal (x2 i)) ∧ (∀ i, IsReal (x3 i)) ∧ ∀ i, IsReal (x4 i) := by
  have h0 := congrFun h (fun i => i.elim0)
  obtain ⟨h123, h4⟩ := IntOp.andi_eq_one.mp h0
  obtain ⟨h12, h3⟩ := IntOp.andi_eq_one.mp h123
  obtain ⟨h1, h2⟩ := IntOp.andi_eq_one.mp h12
  exact ⟨fun i => ⟨_, Cert.Finite.real_of_all x1 _ _ _ _ _ (fun _ => rfl) h1 i⟩,
    fun i => ⟨_, Cert.Finite.real_of_all x2 _ _ _ _ _ (fun _ => rfl) h2 i⟩,
    fun i => ⟨_, Cert.Finite.real_of_all x3 _ _ _ _ _ (fun _ => rfl) h3 i⟩,
    fun i => ⟨_, Cert.Finite.real_of_all x4 _ _ _ _ _ (fun _ => rfl) h4 i⟩⟩

set_option maxHeartbeats 2000000 in
/-- Kernel and reference end with equal gradients of the input and of the norm's scale, equal normalised rows, cotangents of the
    first product, gated rows and halved cotangents. -/
theorem algebraic : Cert.algebraic_FfnIdeal_FfnRefIdeal_pre_ffn_finite (hPre_ffn_finite := facts) := by
  pair_intro
  · run_from Cert.FfnIdeal.Body.run_main m g
  · have hR := fun c => reals _ _ _ _ _ (hpre c)
    run_from Cert.FfnRefIdeal.Value.run m' g'
    · rw [Cert.FfnRefIdeal.Read.val_main_v54_eq, (hagree c).1, (hagree c).2.1, (hagree c).2.2.1, (hagree c).2.2.2.1, (hagree c).2.2.2.2]
      exact (Cert.FfnIdeal.Final.dx m c (hR c).1 (hR c).2.1 (hR c).2.2.1 (hR c).2.2.2).symm
    · rw [Cert.FfnRefIdeal.Read.val_main_v55_eq, (hagree c).1, (hagree c).2.1, (hagree c).2.2.1, (hagree c).2.2.2.1, (hagree c).2.2.2.2]
      exact (Cert.FfnIdeal.Final.dg m c (hR c).1 (hR c).2.1 (hR c).2.2.1 (hR c).2.2.2).symm
    · rw [Cert.FfnRefIdeal.Read.val_main_v56_eq]
      exact (Cert.FfnIdeal.Final.hb m c).symm
    · rw [Cert.FfnRefIdeal.Read.val_main_v59_eq, (hagree c).1, (hagree c).2.1, (hagree c).2.2.1, (hagree c).2.2.2.1, (hagree c).2.2.2.2]
      exact (Cert.FfnIdeal.Final.dgu m c (hR c).1 (hR c).2.1 (hR c).2.2.1 (hR c).2.2.2).symm
    · rw [Cert.FfnRefIdeal.Read.val_main_v60_eq]
      exact (Cert.FfnIdeal.Final.a m c).symm
    · rw [Cert.FfnRefIdeal.Read.val_main_v63_eq]
      exact (Cert.FfnIdeal.Final.dyb m c).symm

end Cert.FfnClaim

end
-- ==== Proof.ConvIdealLoop.lean ====
/-
  The loop over the chunks of 32 rows in the convolution's gradient.

  A trip stores one chunk of the gradient by the convolution's input and adds the chunk's share to the sums for the
  filter's gradient. What the loop leaves in the first buffer does not depend on what was there before.
-/
module

public import proofs.«01_k».proof.Proof.Gen.ConvIdeal.Skeleton
public import proofs.«01_k».proof.Proof.Gen.ConvIdeal.Frame
public import proofs.«01_k».proof.Proof.Gen.ConvIdeal.Loops
public import Idealize.ShloMosaic.Lib.WritesUnit

@[expose] public section

set_option maxRecDepth 16384
set_option warn.classDefReducibility false

noncomputable section

namespace Cert.ConvIdeal.Body

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (𝒱 : Variants) (c : Dev nD) (bd : Option 𝒱.V) (i : grid0.Coords)
  (arg1 : Memref sig .tc .vmem S512x512 .f32) (harg1 : arg1.IsWhole)
  (arg2 : Memref sig .tc .vmem S32x512 .f32) (harg2 : arg2.IsWhole)
  (arg3 : Memref sig .tc .vmem S512x512 .f32) (harg3 : arg3.IsWhole)
  (arg4 : Memref sig .tc .vmem S32x512 .f32) (harg4 : arg4.IsWhole)
  (arg5 : Memref sig .tc .vmem S512x1024 .f32) (harg5 : arg5.IsWhole)
  (arg6 : Memref sig .tc .vmem S32x1024 .f32) (harg6 : arg6.IsWhole)
  (arg7 : Memref sig .tc .vmem S31x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S512x1024 .bf16) (harg10 : arg10.IsWhole)
  (arg11 : Memref sig .tc .vmem S32x512 .f32) (harg11 : arg11.IsWhole)
  (arg12 : Memref sig .tc .vmem S8x512 .f32) (harg12 : arg12.IsWhole)
  (arg13 : Memref sig .tc .vmem S544x512 .f32) (harg13 : arg13.IsWhole)
  (arg14 : Memref sig .tc .vmem S7x536x512 .f32) (harg14 : arg14.IsWhole)
  (arg15 : Memref sig .tc .vmem S544x512 .f32) (harg15 : arg15.IsWhole)
  (arg16 : Memref sig .tc .vmem S7x536x512 .f32) (harg16 : arg16.IsWhole)
  (arg17 : Memref sig .tc .vmem S512x512 .f32) (harg17 : arg17.IsWhole)
  (arg18 : Memref sig .tc .vmem S32x8x512 .f32) (harg18 : arg18.IsWhole)
  (a0 : BitVec 32) (v : Vec F S536x512 .f32)
  (X7 : BufTy.Contents (Elt F) arg7.view.ty) (X13 : BufTy.Contents (Elt F) arg13.view.ty)
  (X14 : BufTy.Contents (Elt F) arg14.view.ty) (X15 : BufTy.Contents (Elt F) arg15.view.ty)
  (X16 : BufTy.Contents (Elt F) arg16.view.ty)

theorem trips_eq : k0_t1_loop.trips = 16 := by decide

/-- The rows that a trip stores. -/
abbrev rows (k : Fin k0_t1_loop.trips) : Rect S512x512 := Rect.unit (s := S512x512) (k0_off9 k) S32x512.size (k0_off9_inb k)

/-- The chunk of the gradient by the convolution's input that trip `k` stores. -/
def chunk (k : Fin k0_t1_loop.trips) : FVec F S32x512 .f32 :=
  k0_pay13 (trip_k0_t1.sl.r_13 arg7 arg15 arg16 X7 X15 X16 k)
    (View.readAt (Elt F) arg7.view (Rect.unit (s := S31x512) ![30, 0] S1x512.size inb_S31x512_S1x512_30_0).toLoadRect X7)
    (View.readAt (Elt F) arg15.view (Rect.unit (s := S544x512) (k0_off7 k 0#32) S32x512.size (k0_off7_inb k 0)).toLoadRect X15)

/-- The chunks that the trips before `n` have stored, the last first. -/
def chunks : ℕ → List (View.Piece (Elt F) S512x512 .f32)
  | 0 => []
  | n + 1 => if h : n < k0_t1_loop.trips then ⟨rows ⟨n, h⟩, chunk arg7 arg15 arg16 X7 X15 X16 ⟨n, h⟩⟩ :: chunks n else chunks n

/-- What the trips before `n` have made of the sums for the filter's gradient, found at `g`. -/
def sums (g : BufTy.Contents (Elt F) arg18.view.ty) : ℕ → BufTy.Contents (Elt F) arg18.view.ty
  | 0 => g
  | n + 1 => if h : n < k0_t1_loop.trips then
      arg18.view.writes (Elt F) (sums g n) (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 ⟨n, h⟩ arg17.view.junk (sums g n)).2
    else sums g n

theorem trip_chunk (k : Fin k0_t1_loop.trips) (f : BufTy.Contents (Elt F) arg17.view.ty) (g : BufTy.Contents (Elt F) arg18.view.ty) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 k f g).1 = [⟨rows k, chunk arg7 arg15 arg16 X7 X15 X16 k⟩] := by
  unfold tripL_k0_t1 trip_k0_t1; rfl

theorem trip_sums (k : Fin k0_t1_loop.trips) (f f' : BufTy.Contents (Elt F) arg17.view.ty) (g : BufTy.Contents (Elt F) arg18.view.ty) :
    (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 k f g).2 = (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 k f' g).2 := by
  unfold tripL_k0_t1 trip_k0_t1; rfl

theorem loop_state (f : BufTy.Contents (Elt F) arg17.view.ty) (g : BufTy.Contents (Elt F) arg18.view.ty) (n : ℕ) (hn : n ≤ k0_t1_loop.trips) :
    (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 f g n).1 = chunks arg7 arg15 arg16 X7 X15 X16 n
      ∧ arg18.view.writes (Elt F) g (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 f g n).2 = sums 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 g n := by
  induction n with
  | zero => exact ⟨by rw [pb_k0_t1]; rfl, by rw [pb_k0_t1]; rfl⟩
  | succ n ih =>
    have h : n < k0_t1_loop.trips := hn
    obtain ⟨ih1, ih2⟩ := ih (Nat.le_of_lt h)
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 f g ⟨n, h⟩
    simp only at hs
    rw [hs]
    dsimp only
    constructor
    · exact (congrArg₂ (· ++ ·) (trip_chunk 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 ⟨n, h⟩ _ _) ih1).trans (by rw [chunks, dif_pos h]; rfl)
    · refine (View.writes_append _ _ _ _).trans ?_
      rw [ih2, sums, dif_pos h]
      exact congrArg _ (trip_sums 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 _ _ _ _)

theorem mem_chunks (n : ℕ) (hn : n ≤ k0_t1_loop.trips) (j : ℕ) (hj : j < n) :
    ⟨rows ⟨j, Nat.lt_of_lt_of_le hj hn⟩, chunk arg7 arg15 arg16 X7 X15 X16 ⟨j, Nat.lt_of_lt_of_le hj hn⟩⟩ ∈ chunks arg7 arg15 arg16 X7 X15 X16 n := by
  induction n with
  | zero => omega
  | succ n ih =>
    have h : n < k0_t1_loop.trips := hn
    rw [chunks, dif_pos h]
    by_cases e : j = n
    · subst e; exact List.mem_cons_self
    · exact List.mem_cons_of_mem _ (ih (Nat.le_of_lt h) (by omega))

/-- The chunks cover all rows. -/
theorem chunks_cover (y : S512x512.Idx) : ∃ p ∈ chunks arg7 arg15 arg16 X7 X15 X16 16, y ∈ p.1.set := by
  have hy : (y 0).val < 512 := (y 0).isLt
  have hz : (y 1).val < 512 := (y 1).isLt
  refine ⟨_, mem_chunks arg7 arg15 arg16 X7 X15 X16 16 (by rw [trips_eq]) ((y 0).val / 32) (by omega), ?_⟩
  dsimp only [rows]
  rw [Rect.mem_set_unit, k0_off9_eq]
  intro a
  fin_cases a
  · show 32 * ((y 0).val / 32) ≤ (y 0).val ∧ (y 0).val < 32 * ((y 0).val / 32) + 32; omega
  · show 0 ≤ (y 1).val ∧ (y 1).val < 0 + 512; omega

/-- The gradient by the convolution's input that the loop leaves. -/
def dzOf : Vec F S512x512 .f32 :=
  arg17.view.read (Elt F) (arg17.view.writes (Elt F) arg17.view.junk (chunks arg7 arg15 arg16 X7 X15 X16 16))

/-- The sums for the filter's gradient that the loop leaves. -/
def dwOf (g : BufTy.Contents (Elt F) arg18.view.ty) : Vec F S32x8x512 .f32 := arg18.view.read (Elt F) (sums 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 g 16)

/-- How the run goes on after the loop. -/
def loopExit (E : Set ℕ) (f : BufTy.Contents (Elt F) arg17.view.ty) (g : BufTy.Contents (Elt F) arg18.view.ty) :
    LoopExit (loopInv_k0_t1 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 f g) where
  post _ := iprop((arg7.view.loc (c : Thread nD τ) ↦[arg7.view.set]{fullShare} X7) ∗ (arg13.view.loc (c : Thread nD τ) ↦[arg13.view.set]{fullShare} X13)
    ∗ (arg14.view.loc (c : Thread nD τ) ↦[arg14.view.set]{fullShare} X14) ∗ (arg15.view.loc (c : Thread nD τ) ↦[arg15.view.set]{fullShare} X15)
    ∗ (arg16.view.loc (c : Thread nD τ) ↦[arg16.view.set]{fullShare} X16)
    ∗ (∃ f', (arg17.view.loc (c : Thread nD τ) ↦[arg17.view.set]{fullShare} f') ∗ ⌜f' = harg17.unread (dzOf arg7 arg15 arg16 arg17 X7 X15 X16)⌝)
    ∗ (∃ g', (arg18.view.loc (c : Thread nD τ) ↦[arg18.view.set]{fullShare} g') ∗ ⌜g' = harg18.unread (dwOf 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 g)⌝))
  exit _ := by
    obtain ⟨e1, e2⟩ := loop_state (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 f g k0_t1_loop.trips (Nat.le_refl _)
    have h17 : arg17.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 f g k0_t1_loop.trips).1 = harg17.unread (dzOf arg7 arg15 arg16 arg17 X7 X15 X16) :=
      harg17.eq_unread (by
        rw [e1, trips_eq]; exact View.read_writes_of_cover _ _ _ _ _ (fun y => chunks_cover arg7 arg15 arg16 X7 X15 X16 y))
    have h18 : arg18.view.writes (Elt F) g (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 f g k0_t1_loop.trips).2 = harg18.unread (dwOf 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 g) :=
      harg18.eq_unread (by rw [e2, trips_eq]; rfl)
    show inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 v X7 X13 X14 X15 X16 f g k0_t1_loop.trips _ ⊢ _
    iintro ⟨H7, H13, H14, H15, H16, ⟨%f17, H17, %h1⟩, ⟨%f18, H18, %h2⟩⟩
    rw [h17] at h1; rw [h18] at h2
    isplitl [H7]; · iexact H7
    isplitl [H13]; · iexact H13
    isplitl [H14]; · iexact H14
    isplitl [H15]; · iexact H15
    isplitl [H16]; · iexact H16
    isplitl [H17]
    · iexists _; isplitl [H17]; · iexact H17
      ipureintro; exact h1
    iexists _; isplitl [H18]; · iexact H18
    ipureintro; exact h2

end Cert.ConvIdeal.Body

end
-- ==== Proof.ConvIdealRun.lean ====
/-
  The convolution gradient's kernel, run at one point of its grid.

  The body has three cases: the first block (which also clears the sums), a middle block, and the last block (which also
  writes the filter's gradient out).
-/
module

public import proofs.«01_k».proof.Proof.ConvIdealLoop

@[expose] public section

set_option maxRecDepth 16384
set_option warn.classDefReducibility false

noncomputable section

namespace Cert.ConvIdeal.Body

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg1 : Memref sig .tc .vmem S512x512 .f32) (harg1 : arg1.IsWhole)
  (arg2 : Memref sig .tc .vmem S32x512 .f32) (harg2 : arg2.IsWhole)
  (arg3 : Memref sig .tc .vmem S512x512 .f32) (harg3 : arg3.IsWhole)
  (arg4 : Memref sig .tc .vmem S32x512 .f32) (harg4 : arg4.IsWhole)
  (arg5 : Memref sig .tc .vmem S512x1024 .f32) (harg5 : arg5.IsWhole)
  (arg6 : Memref sig .tc .vmem S32x1024 .f32) (harg6 : arg6.IsWhole)
  (arg7 : Memref sig .tc .vmem S31x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S512x1024 .bf16) (harg10 : arg10.IsWhole)
  (arg11 : Memref sig .tc .vmem S32x512 .f32) (harg11 : arg11.IsWhole)
  (arg12 : Memref sig .tc .vmem S8x512 .f32) (harg12 : arg12.IsWhole)
  (arg13 : Memref sig .tc .vmem S544x512 .f32) (harg13 : arg13.IsWhole)
  (arg14 : Memref sig .tc .vmem S7x536x512 .f32) (harg14 : arg14.IsWhole)
  (arg15 : Memref sig .tc .vmem S544x512 .f32) (harg15 : arg15.IsWhole)
  (arg16 : Memref sig .tc .vmem S7x536x512 .f32) (harg16 : arg16.IsWhole)
  (arg17 : Memref sig .tc .vmem S512x512 .f32) (harg17 : arg17.IsWhole)
  (arg18 : Memref sig .tc .vmem S32x8x512 .f32) (harg18 : arg18.IsWhole)

/-- The condition that clears the sums. -/
abbrev atFirst (i : grid0.Coords) : BitVec 1 :=
  Scalar.cmpi .ne (Scalar.extui (Scalar.cmpi .eq (BitVec.ofNat 32 (i 0).val : BitVec 32) 0#32) : BitVec 32) 0#32

attribute [local instance] loopExit

/-- A buffer whose contents are `x`, and one that holds something. -/
abbrev own {sp : Space} {s : Shape} {e : EltTy} (a : Memref sig .tc sp s e) (x : Vec F s e) : sProp 𝕄 := owns (c : Thread nD τ) a fullShare x
abbrev held {sp : Space} {s : Shape} {e : EltTy} (a : Memref sig .tc sp s e) : sProp 𝕄 := iprop(∃ d : Vec F s e, owns (c : Thread nD τ) a fullShare d)

theorem give {c : Dev nD} {sp : Space} {s : Shape} {e : EltTy} {a : Memref sig .tc sp s e} (h : a.IsWhole) {x : Vec F s e} :
    (a.view.loc (c : Thread nD τ) ↦[a.view.set]{fullShare} h.unread x : sProp 𝕄) ⊢ iprop(∃ f, ⌜a.view.read (Elt F) f = x⌝ ∗ (a.view.loc (c : Thread nD τ) ↦[a.view.set]{fullShare} f)) := by
  iintro H
  iexists _; isplitr
  swap; · iexact H
  ipureintro; exact h.read_unread _
theorem some' {c : Dev nD} {sp : Space} {s : Shape} {e : EltTy} (a : Memref sig .tc sp s e) {f : Buf (Elt F) (a.view.loc (c : Thread nD τ))} :
    (a.view.loc (c : Thread nD τ) ↦[a.view.set]{fullShare} f : sProp 𝕄) ⊢ held c a := by
  unfold held owns
  iintro H
  iexists _; iexists _; isplitr
  swap; · iexact H
  ipureintro; rfl

variable (x0 : Vec F S512x512 .f32) (x1 : Vec F S32x512 .f32) (x2 : Vec F S512x512 .f32) (x3 : Vec F S32x512 .f32) (x4 : Vec F S512x1024 .f32) (x5 : Vec F S32x1024 .f32) (x6 : Vec F S31x512 .f32) (x7 : Vec F S1x512 .f32) (x8 : Vec F S1x512 .f32)

set_option maxHeartbeats 4000000 in
/-- The first point: the stores the body makes into the results, in terms of the blocks it reads, and the sums it leaves; and
    that it runs to the end having made them. -/
noncomputable def runA (h0 : atFirst i = 1#1) (h1 : ¬k0_cond2 i = 1#1)
    :
    Σ' (L10 : List (View.Piece (Elt F) S512x1024 .bf16)) (L12 : List (View.Piece (Elt F) S8x512 .f32)), { S18 : Vec F S32x8x512 .f32 //
      ∀ (E : Set ℕ) (K : PUnit → sProp 𝕄),
        iprop(own c arg1 x0 ∗ own c arg2 x1 ∗ own c arg3 x2 ∗ own c arg4 x3 ∗ own c arg5 x4 ∗ own c arg6 x5 ∗ own c arg7 x6 ∗ own c arg8 x7 ∗ own c arg9 x8 ∗ held c arg10 ∗ held c arg12 ∗ held c arg13 ∗ held c arg14 ∗ held c arg15 ∗ held c arg16 ∗ held c arg17 ∗ held c arg18
            ∗ (iprop(own c arg1 x0 ∗ own c arg2 x1 ∗ own c arg3 x2 ∗ own c arg4 x3 ∗ own c arg5 x4 ∗ own c arg6 x5 ∗ own c arg7 x6 ∗ own c arg8 x7 ∗ own c arg9 x8 ∗ (∃ f, arg10.view.loc (c : Thread nD τ) ↦[arg10.view.set]{fullShare} arg10.view.writes (Elt F) f L10) ∗ (∃ f, arg12.view.loc (c : Thread nD τ) ↦[arg12.view.set]{fullShare} arg12.view.writes (Elt F) f L12) ∗ held c arg13 ∗ held c arg14 ∗ held c arg15 ∗ held c arg16 ∗ held c arg17 ∗ own c arg18 S18) -∗ K ⟨⟩))
          ⊢ wp frame (wpE (defs₀ (F := F)) Variants.none c none) E (cc0_conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_conv_bwd_eq_skeleton]; unfold cc0_conv_bwd_skel
    simp only [k0_part21_eq_skeleton, k0_part22_eq_skeleton, k0_part23_eq_skeleton, k0_part24_eq_skeleton, k0_part25_eq_skeleton, k0_part26_eq_skeleton, k0_part27_eq_skeleton]
    unfold held own owns
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, Hk⟩
    obtain rfl := harg1.eq_unread e1; obtain rfl := harg2.eq_unread e2; obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9
    sl_exec (disch := first | sl_exact h0 | sl_exact h1)
    sl_step
    iapply Hk
    isplitl [H1]; · iapply give harg1; iexact H1
    isplitl [H2]; · iapply give harg2; iexact H2
    isplitl [H3]; · iapply give harg3; iexact H3
    isplitl [H4]; · iapply give harg4; iexact H4
    isplitl [H5]; · iapply give harg5; iexact H5
    isplitl [H6]; · iapply give harg6; iexact H6
    isplitl [H7]; · iapply give harg7; iexact H7
    isplitl [H8]; · iapply give harg8; iexact H8
    isplitl [H9]; · iapply give harg9; iexact H9
    isplitl [H10]; · iexists _; iexact H10
    isplitl [H12]; · iexists _; iexact H12
    isplitl [H13]; · iapply some' arg13; iexact H13
    isplitl [H14]; · iapply some' arg14; iexact H14
    isplitl [H15]; · iapply some' arg15; iexact H15
    isplitl [H16]; · iapply some' arg16; iexact H16
    isplitl [H17]; · iapply some' arg17; iexact H17
    iexists _; isplitr
    swap; · iexact H18
    ipureintro; exact harg18.read_unread _

set_option maxHeartbeats 4000000 in
/-- A middle point: as at the first, but the vectors' gradients and the sums are found at `xo` and `xs`, and added to. -/
noncomputable def runB (h0 : ¬atFirst i = 1#1) (h1 : ¬k0_cond2 i = 1#1)
    (xo : Vec F S8x512 .f32) (xs : Vec F S32x8x512 .f32) :
    Σ' (L10 : List (View.Piece (Elt F) S512x1024 .bf16)) (L12 : List (View.Piece (Elt F) S8x512 .f32)), { S18 : Vec F S32x8x512 .f32 //
      ∀ (E : Set ℕ) (K : PUnit → sProp 𝕄),
        iprop(own c arg1 x0 ∗ own c arg2 x1 ∗ own c arg3 x2 ∗ own c arg4 x3 ∗ own c arg5 x4 ∗ own c arg6 x5 ∗ own c arg7 x6 ∗ own c arg8 x7 ∗ own c arg9 x8 ∗ held c arg10 ∗ own c arg12 xo ∗ held c arg13 ∗ held c arg14 ∗ held c arg15 ∗ held c arg16 ∗ held c arg17 ∗ own c arg18 xs
            ∗ (iprop(own c arg1 x0 ∗ own c arg2 x1 ∗ own c arg3 x2 ∗ own c arg4 x3 ∗ own c arg5 x4 ∗ own c arg6 x5 ∗ own c arg7 x6 ∗ own c arg8 x7 ∗ own c arg9 x8 ∗ (∃ f, arg10.view.loc (c : Thread nD τ) ↦[arg10.view.set]{fullShare} arg10.view.writes (Elt F) f L10) ∗ (arg12.view.loc (c : Thread nD τ) ↦[arg12.view.set]{fullShare} arg12.view.writes (Elt F) (harg12.unread xo) L12) ∗ held c arg13 ∗ held c arg14 ∗ held c arg15 ∗ held c arg16 ∗ held c arg17 ∗ own c arg18 S18) -∗ K ⟨⟩))
          ⊢ wp frame (wpE (defs₀ (F := F)) Variants.none c none) E (cc0_conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, fun E K => ?run⟩
  case run =>
    simp only [cc0_conv_bwd_eq_skeleton]; unfold cc0_conv_bwd_skel
    simp only [k0_part21_eq_skeleton, k0_part22_eq_skeleton, k0_part23_eq_skeleton, k0_part24_eq_skeleton, k0_part25_eq_skeleton, k0_part26_eq_skeleton, k0_part27_eq_skeleton]
    unfold held own owns
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%f12, %e12, H12⟩, ⟨%d13, %f13, -, H13⟩, ⟨%d14, %f14, -, H14⟩, ⟨%d15, %f15, -, H15⟩, ⟨%d16, %f16, -, H16⟩, ⟨%d17, %f17, -, H17⟩, ⟨%f18, %e18, H18⟩, Hk⟩
    obtain rfl := harg1.eq_unread e1; obtain rfl := harg2.eq_unread e2; obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg12.eq_unread e12; obtain rfl := harg18.eq_unread e18
    sl_exec (disch := first | sl_exact h0 | sl_exact h1)
    sl_step
    iapply Hk
    isplitl [H1]; · iapply give harg1; iexact H1
    isplitl [H2]; · iapply give harg2; iexact H2
    isplitl [H3]; · iapply give harg3; iexact H3
    isplitl [H4]; · iapply give harg4; iexact H4
    isplitl [H5]; · iapply give harg5; iexact H5
    isplitl [H6]; · iapply give harg6; iexact H6
    isplitl [H7]; · iapply give harg7; iexact H7
    isplitl [H8]; · iapply give harg8; iexact H8
    isplitl [H9]; · iapply give harg9; iexact H9
    isplitl [H10]; · iexists _; iexact H10
    isplitl [H12]; · iexact H12
    isplitl [H13]; · iapply some' arg13; iexact H13
    isplitl [H14]; · iapply some' arg14; iexact H14
    isplitl [H15]; · iapply some' arg15; iexact H15
    isplitl [H16]; · iapply some' arg16; iexact H16
    isplitl [H17]; · iapply some' arg17; iexact H17
    iexists _; isplitr
    swap; · iexact H18
    ipureintro; exact harg18.read_unread _

set_option maxHeartbeats 4000000 in
/-- The last point: as a middle one, and the filter's gradient is written out. -/
noncomputable def runC (h0 : ¬atFirst i = 1#1) (h1 : k0_cond2 i = 1#1)
    (xo : Vec F S8x512 .f32) (xs : Vec F S32x8x512 .f32) :
    Σ' (L10 : List (View.Piece (Elt F) S512x1024 .bf16)) (L11 : List (View.Piece (Elt F) S32x512 .f32)) (L12 : List (View.Piece (Elt F) S8x512 .f32)), { S18 : Vec F S32x8x512 .f32 //
      ∀ (E : Set ℕ) (K : PUnit → sProp 𝕄),
        iprop(own c arg1 x0 ∗ own c arg2 x1 ∗ own c arg3 x2 ∗ own c arg4 x3 ∗ own c arg5 x4 ∗ own c arg6 x5 ∗ own c arg7 x6 ∗ own c arg8 x7 ∗ own c arg9 x8 ∗ held c arg10 ∗ held c arg11 ∗ own c arg12 xo ∗ held c arg13 ∗ held c arg14 ∗ held c arg15 ∗ held c arg16 ∗ held c arg17 ∗ own c arg18 xs
            ∗ (iprop(own c arg1 x0 ∗ own c arg2 x1 ∗ own c arg3 x2 ∗ own c arg4 x3 ∗ own c arg5 x4 ∗ own c arg6 x5 ∗ own c arg7 x6 ∗ own c arg8 x7 ∗ own c arg9 x8 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread xo) L12) ∗ held c arg13 ∗ held c arg14 ∗ held c arg15 ∗ held c arg16 ∗ held c arg17 ∗ own c arg18 S18) -∗ K ⟨⟩))
          ⊢ wp frame (wpE (defs₀ (F := F)) Variants.none c none) E (cc0_conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_conv_bwd_eq_skeleton]; unfold cc0_conv_bwd_skel
    simp only [k0_part21_eq_skeleton, k0_part22_eq_skeleton, k0_part23_eq_skeleton, k0_part24_eq_skeleton, k0_part25_eq_skeleton, k0_part26_eq_skeleton, k0_part27_eq_skeleton]
    unfold held own owns
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%d10, %f10, -, H10⟩, ⟨%d11, %f11, -, H11⟩, ⟨%f12, %e12, H12⟩, ⟨%d13, %f13, -, H13⟩, ⟨%d14, %f14, -, H14⟩, ⟨%d15, %f15, -, H15⟩, ⟨%d16, %f16, -, H16⟩, ⟨%d17, %f17, -, H17⟩, ⟨%f18, %e18, H18⟩, Hk⟩
    obtain rfl := harg1.eq_unread e1; obtain rfl := harg2.eq_unread e2; obtain rfl := harg3.eq_unread e3; obtain rfl := harg4.eq_unread e4; obtain rfl := harg5.eq_unread e5; obtain rfl := harg6.eq_unread e6; obtain rfl := harg7.eq_unread e7; obtain rfl := harg8.eq_unread e8; obtain rfl := harg9.eq_unread e9; obtain rfl := harg12.eq_unread e12; obtain rfl := harg18.eq_unread e18
    sl_exec (disch := first | sl_exact h0 | sl_exact h1)
    sl_step
    iapply Hk
    isplitl [H1]; · iapply give harg1; iexact H1
    isplitl [H2]; · iapply give harg2; iexact H2
    isplitl [H3]; · iapply give harg3; iexact H3
    isplitl [H4]; · iapply give harg4; iexact H4
    isplitl [H5]; · iapply give harg5; iexact H5
    isplitl [H6]; · iapply give harg6; iexact H6
    isplitl [H7]; · iapply give harg7; iexact H7
    isplitl [H8]; · iapply give harg8; iexact H8
    isplitl [H9]; · iapply give harg9; iexact H9
    isplitl [H10]; · iexists _; iexact H10
    isplitl [H11]; · iexists _; iexact H11
    isplitl [H12]; · iexact H12
    isplitl [H13]; · iapply some' arg13; iexact H13
    isplitl [H14]; · iapply some' arg14; iexact H14
    isplitl [H15]; · iapply some' arg15; iexact H15
    isplitl [H16]; · iapply some' arg16; iexact H16
    isplitl [H17]; · iapply some' arg17; iexact H17
    iexists _; isplitr
    swap; · iexact H18
    ipureintro; exact harg18.read_unread _

/-- Those stores cover the whole of the gradient by the input. -/
theorem coverA_du (h0 : atFirst i = 1#1) (h1 : ¬k0_cond2 i = 1#1)
    (y : S512x1024.Idx) :
    ∃ p ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 h0 h1).1, y ∈ p.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 h0 h1).1 S512x512.size (by sl_kernel_rfl) y

/-- Those stores cover the whole of the vectors' gradients. -/
theorem coverA_dv (h0 : atFirst i = 1#1) (h1 : ¬k0_cond2 i = 1#1)
    (y : S8x512.Idx) :
    ∃ p ∈ (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 h0 h1).2.1, y ∈ p.1.set :=
  View.cover_of_tiledL (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 h0 h1).2.1 S8x512.size (by sl_kernel_rfl) y

/-- Those stores cover the whole of the gradient by the input. -/
theorem coverB_du (h0 : ¬atFirst i = 1#1) (h1 : ¬k0_cond2 i = 1#1)
    (xo : Vec F S8x512 .f32) (xs : Vec F S32x8x512 .f32) (y : S512x1024.Idx) :
    ∃ p ∈ (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 h0 h1 xo xs).1, y ∈ p.1.set :=
  View.cover_of_tiledL (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 h0 h1 xo xs).1 S512x512.size (by sl_kernel_rfl) y

/-- Those stores cover the whole of the gradient by the input. -/
theorem coverC_du (h0 : ¬atFirst i = 1#1) (h1 : k0_cond2 i = 1#1)
    (xo : Vec F S8x512 .f32) (xs : Vec F S32x8x512 .f32) (y : S512x1024.Idx) :
    ∃ p ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 h0 h1 xo xs).1, y ∈ p.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 h0 h1 xo xs).1 S512x512.size (by sl_kernel_rfl) y

/-- Those stores cover the whole of the filter's gradient. -/
theorem coverC_dw (h0 : ¬atFirst i = 1#1) (h1 : k0_cond2 i = 1#1)
    (xo : Vec F S8x512 .f32) (xs : Vec F S32x8x512 .f32) (y : S32x512.Idx) :
    ∃ p ∈ (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 h0 h1 xo xs).2.1, y ∈ p.1.set :=
  View.cover_of_tiledL (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 h0 h1 xo xs).2.1 S32x512.size (by sl_kernel_rfl) y

end Cert.ConvIdeal.Body

end
-- ==== Proof.ConvIdealFrame.lean ====
/-
  The convolution gradient's kernel over its whole grid: what the three results and the sums hold after each point, the
  pipeline's proof data, and the launch.
-/
module

public import proofs.«01_k».proof.Proof.ConvIdealRun
public import proofs.«01_k».proof.Proof.Gen.ConvIdeal.Frame
public import proofs.«01_k».proof.Proof.Gen.ConvIdeal.Launch
public import proofs.«01_k».proof.Proof.Gen.ConvIdeal.Points
public import Idealize.ShloMosaic.Lib.Pipeline.FrameBody
public import Idealize.ShloMosaic.Lib.Pipeline.TableIdle
public import Idealize.ShloMosaic.Lib.Tactic
public import Idealize.ShloMosaic.Lib.Claim

@[expose] public section

set_option maxRecDepth 16384

noncomputable section

namespace Cert.ConvIdeal.Body

open Cert.ConvIdeal Cert.ConvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The cases, by the point's number -/

theorem isFirst : ∀ t : Fin cfg0.N, atFirst (grid0.coords t) = 1#1 ↔ t.val = 0 :=
  (by decide +kernel : ∀ t : Fin grid0.N, atFirst (grid0.coords t) = 1#1 ↔ t.val = 0)
theorem isLast : ∀ t : Fin cfg0.N, k0_cond2 (grid0.coords t) = 1#1 ↔ t.val = 7 :=
  (by decide +kernel : ∀ t : Fin grid0.N, k0_cond2 (grid0.coords t) = 1#1 ↔ t.val = 7)

/-- The filter's gradient is stored into at the last point alone, and not written back before it. -/
theorem idleDw : ∀ t : Fin cfg0.N, t.val < 7 → cfg0.idle 10 (grid0.coords t) = true ∧ (cfg0.win 10).flush t = false :=
  (by decide +kernel : ∀ t : Fin grid0.N, t.val < 7 → cfg0.idle 10 (grid0.coords t) = true ∧ (cfg0.win 10).flush t = false)
theorem liveDw : ∀ t : Fin cfg0.N, t.val = 7 → cfg0.idle 10 (grid0.coords t) = false :=
  (by decide +kernel : ∀ t : Fin grid0.N, t.val = 7 → cfg0.idle 10 (grid0.coords t) = false)

/-- The vectors' gradients are never handed over before the last point. -/
theorem fresh11 : ∀ n : ℕ, n < 8 → cfg0.fresh 11 n = (n == 0) :=
  fun n h => Pipeline.Cfg.fresh_tab cfg0 11 (fun n => n == 0 || n == 8) rfl (by decide +kernel) n (by rw [show cfg0.N = 8 from N_0]; omega) |>.trans
    (by simp only [Bool.or_eq_left_iff_imp, beq_iff_eq]; omega)

/-! ## What the buffers hold after each point -/

abbrev hst0 (t : Fin cfg0.N) : (st0_0 t : Memref sig .tc .vmem S512x512 .f32).IsWhole := hstage0_0 ((cfg0.slots t 0).cast nbuf0_0)
abbrev hst1 (t : Fin cfg0.N) : (st0_1 t : Memref sig .tc .vmem S32x512 .f32).IsWhole := hstage0_1 ((cfg0.slots t 1).cast nbuf0_1)
abbrev hst2 (t : Fin cfg0.N) : (st0_2 t : Memref sig .tc .vmem S512x512 .f32).IsWhole := hstage0_2 ((cfg0.slots t 2).cast nbuf0_2)
abbrev hst3 (t : Fin cfg0.N) : (st0_3 t : Memref sig .tc .vmem S32x512 .f32).IsWhole := hstage0_3 ((cfg0.slots t 3).cast nbuf0_3)
abbrev hst4 (t : Fin cfg0.N) : (st0_4 t : Memref sig .tc .vmem S512x1024 .f32).IsWhole := hstage0_4 ((cfg0.slots t 4).cast nbuf0_4)
abbrev hst5 (t : Fin cfg0.N) : (st0_5 t : Memref sig .tc .vmem S32x1024 .f32).IsWhole := hstage0_5 ((cfg0.slots t 5).cast nbuf0_5)
abbrev hst6 (t : Fin cfg0.N) : (st0_6 t : Memref sig .tc .vmem S31x512 .f32).IsWhole := hstage0_6 ((cfg0.slots t 6).cast nbuf0_6)
abbrev hst7 (t : Fin cfg0.N) : (st0_7 t : Memref sig .tc .vmem S1x512 .f32).IsWhole := hstage0_7 ((cfg0.slots t 7).cast nbuf0_7)
abbrev hst8 (t : Fin cfg0.N) : (st0_8 t : Memref sig .tc .vmem S1x512 .f32).IsWhole := hstage0_8 ((cfg0.slots t 8).cast nbuf0_8)
abbrev hst9 (t : Fin cfg0.N) : (st0_9 t : Memref sig .tc .vmem S512x1024 .bf16).IsWhole := hstage0_9 ((cfg0.slots t 9).cast nbuf0_9)
abbrev hst10 (t : Fin cfg0.N) : (st0_10 t : Memref sig .tc .vmem S32x512 .f32).IsWhole := hstage0_10 ((cfg0.slots t 10).cast nbuf0_10)
abbrev hst11 (t : Fin cfg0.N) : (st0_11 t : Memref sig .tc .vmem S8x512 .f32).IsWhole := hstage0_11 ((cfg0.slots t 11).cast nbuf0_11)
/-- The scratch buffers: the gate's values and their shifted copies, the gradient before the norm and its shifted copies, the
    gradient by the gate's values, and the sums that make the filter's gradient. Only the last is read at a later point. -/
abbrev scr0 : Memref sig .tc .vmem S544x512 .f32 := Memref.whole cc0_scratch0
abbrev scr1 : Memref sig .tc .vmem S7x536x512 .f32 := Memref.whole cc0_scratch1
abbrev scr2 : Memref sig .tc .vmem S544x512 .f32 := Memref.whole cc0_scratch2
abbrev scr3 : Memref sig .tc .vmem S7x536x512 .f32 := Memref.whole cc0_scratch3
abbrev scr4 : Memref sig .tc .vmem S512x512 .f32 := Memref.whole cc0_scratch4
abbrev scr5 : Memref sig .tc .vmem S32x8x512 .f32 := Memref.whole cc0_scratch5

/-- The scratch buffers, the last one's contents being told by `Q`. -/
abbrev scratch (c : Dev nD) (Q : sProp 𝕄) : sProp 𝕄 := iprop(held (F := F) c scr0 ∗ held (F := F) c scr1 ∗ held (F := F) c scr2 ∗ held (F := F) c scr3 ∗ held (F := F) c scr4 ∗ Q)

/-- The result windows' buffers and the sums. -/
abbrev Out (F : FTy → Type) [FloatOps F] : Type := Vec F S512x1024 .bf16 × Vec F S32x512 .f32 × Vec F S8x512 .f32 × Vec F S32x8x512 .f32

variable (c : Dev nD) (t : Fin cfg0.N)

def runFirst (h : t.val = 0) := runA (F := F) c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) (st0_11 t) (hst11 t) scr0 (Memref.isWhole_whole _) scr1 (Memref.isWhole_whole _) scr2 (Memref.isWhole_whole _) scr3 (Memref.isWhole_whole _) scr4 (Memref.isWhole_whole _) scr5 (Memref.isWhole_whole _)
  (iblk m c 0 t) (iblk m c 1 t) (iblk m c 2 t) (iblk m c 3 t) (iblk m c 4 t) (iblk m c 5 t) (iblk m c 6 t) (iblk m c 7 t) (iblk m c 8 t) ((isFirst t).mpr h) (fun k => by have := (isLast t).mp k; omega)
def runBlock (h : t.val ≠ 0) (h' : t.val < 7) (xo : Vec F S8x512 .f32) (xs : Vec F S32x8x512 .f32) := runB (F := F) c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) (st0_11 t) (hst11 t) scr0 (Memref.isWhole_whole _) scr1 (Memref.isWhole_whole _) scr2 (Memref.isWhole_whole _) scr3 (Memref.isWhole_whole _) scr4 (Memref.isWhole_whole _) scr5 (Memref.isWhole_whole _)
  (iblk m c 0 t) (iblk m c 1 t) (iblk m c 2 t) (iblk m c 3 t) (iblk m c 4 t) (iblk m c 5 t) (iblk m c 6 t) (iblk m c 7 t) (iblk m c 8 t) (fun k => h ((isFirst t).mp k)) (fun k => by have := (isLast t).mp k; omega) xo xs
def runLast (h : t.val = 7) (xo : Vec F S8x512 .f32) (xs : Vec F S32x8x512 .f32) := runC (F := F) c (grid0.coords t) (st0_0 t) (hst0 t) (st0_1 t) (hst1 t) (st0_2 t) (hst2 t) (st0_3 t) (hst3 t) (st0_4 t) (hst4 t) (st0_5 t) (hst5 t) (st0_6 t) (hst6 t) (st0_7 t) (hst7 t) (st0_8 t) (hst8 t) (st0_9 t) (hst9 t) (st0_10 t) (hst10 t) (st0_11 t) (hst11 t) scr0 (Memref.isWhole_whole _) scr1 (Memref.isWhole_whole _) scr2 (Memref.isWhole_whole _) scr3 (Memref.isWhole_whole _) scr4 (Memref.isWhole_whole _) scr5 (Memref.isWhole_whole _)
  (iblk m c 0 t) (iblk m c 1 t) (iblk m c 2 t) (iblk m c 3 t) (iblk m c 4 t) (iblk m c 5 t) (iblk m c 6 t) (iblk m c 7 t) (iblk m c 8 t) (fun k => by have := (isFirst t).mp k; omega) ((isLast t).mpr h) xo xs

/-- The views the contents are stated through. -/
abbrev V9 : View sig .tc .vmem S512x1024 .bf16 := (Memref.whole cc0_stg9_0 : Memref sig .tc .vmem S512x1024 .bf16).view
abbrev V10 : View sig .tc .vmem S32x512 .f32 := (Memref.whole cc0_stg10_0 : Memref sig .tc .vmem S32x512 .f32).view
abbrev V11 : View sig .tc .vmem S8x512 .f32 := (Memref.whole cc0_stg11_0 : Memref sig .tc .vmem S8x512 .f32).view

/-- A buffer over what it held, `xo`, with the pieces of `L` stored into it. -/
def over (L : List (View.Piece (Elt F) S8x512 .f32)) (xo : Vec F S8x512 .f32) : Vec F S8x512 .f32 :=
  (st0_11 t).view.read (Elt F) ((st0_11 t).view.writes (Elt F) ((hst11 t).unread xo) L)

def firstDu (h : t.val = 0) : Vec F S512x1024 .bf16 := V9.read (Elt F) (V9.writes (Elt F) V9.junk (runFirst m c t h).1)
def firstDv (h : t.val = 0) : Vec F S8x512 .f32 := V11.read (Elt F) (V11.writes (Elt F) V11.junk (runFirst m c t h).2.1)
def firstS (h : t.val = 0) : Vec F S32x8x512 .f32 := (runFirst m c t h).2.2.1
def blockDu (h : t.val ≠ 0) (h' : t.val < 7) (xo : Vec F S8x512 .f32) (xs : Vec F S32x8x512 .f32) : Vec F S512x1024 .bf16 := V9.read (Elt F) (V9.writes (Elt F) V9.junk (runBlock m c t h h' xo xs).1)
def blockDv (h : t.val ≠ 0) (h' : t.val < 7) (xo : Vec F S8x512 .f32) (xs : Vec F S32x8x512 .f32) : Vec F S8x512 .f32 := over t (runBlock m c t h h' xo xs).2.1 xo
def blockS (h : t.val ≠ 0) (h' : t.val < 7) (xo : Vec F S8x512 .f32) (xs : Vec F S32x8x512 .f32) : Vec F S32x8x512 .f32 := (runBlock m c t h h' xo xs).2.2.1
def lastDu (h : t.val = 7) (xo : Vec F S8x512 .f32) (xs : Vec F S32x8x512 .f32) : Vec F S512x1024 .bf16 := V9.read (Elt F) (V9.writes (Elt F) V9.junk (runLast m c t h xo xs).1)
def lastDw (h : t.val = 7) (xo : Vec F S8x512 .f32) (xs : Vec F S32x8x512 .f32) : Vec F S32x512 .f32 := V10.read (Elt F) (V10.writes (Elt F) V10.junk (runLast m c t h xo xs).2.1)
def lastDv (h : t.val = 7) (xo : Vec F S8x512 .f32) (xs : Vec F S32x8x512 .f32) : Vec F S8x512 .f32 := over t (runLast m c t h xo xs).2.2.1 xo
def lastS (h : t.val = 7) (xo : Vec F S8x512 .f32) (xs : Vec F S32x8x512 .f32) : Vec F S32x8x512 .f32 := (runLast m c t h xo xs).2.2.2.1
/-- The filter's gradient before the last point: nothing anyone reads. -/
def noDw : Vec F S32x512 .f32 := V10.read (Elt F) V10.junk

/-- The contents after point `n`: the first point's, or a later one's over those before it. -/
def outsAt : (n : ℕ) → n < cfg0.N → Out F
  | 0, hn => (firstDu m c ⟨0, hn⟩ rfl, noDw, firstDv m c ⟨0, hn⟩ rfl, firstS m c ⟨0, hn⟩ rfl)
  | n + 1, hn =>
    let p := outsAt n (Nat.lt_of_succ_lt hn)
    if h : n + 1 < 7 then
      (blockDu m c ⟨n + 1, hn⟩ (Nat.succ_ne_zero n) h p.2.2.1 p.2.2.2, noDw,
        blockDv m c ⟨n + 1, hn⟩ (Nat.succ_ne_zero n) h p.2.2.1 p.2.2.2, blockS m c ⟨n + 1, hn⟩ (Nat.succ_ne_zero n) h p.2.2.1 p.2.2.2)
    else
      have h' : n + 1 = 7 := by have : n + 1 < 8 := lt_of_lt_of_eq hn (show cfg0.N = 8 from N_0); omega
      (lastDu m c ⟨n + 1, hn⟩ h' p.2.2.1 p.2.2.2, lastDw m c ⟨n + 1, hn⟩ h' p.2.2.1 p.2.2.2,
        lastDv m c ⟨n + 1, hn⟩ h' p.2.2.1 p.2.2.2, lastS m c ⟨n + 1, hn⟩ h' p.2.2.1 p.2.2.2)

/-- What the point before left. -/
abbrev prev : Out F := outsAt m c (t.val - 1) (Nat.lt_of_le_of_lt (Nat.sub_le _ _) t.isLt)

theorem outsAt_first (h : t.val = 0) : outsAt m c t.val t.isLt = (firstDu m c t h, noDw, firstDv m c t h, firstS m c t h) := by
  obtain ⟨n, hn⟩ := t
  cases n with
  | zero => rfl
  | succ n => exact absurd h (Nat.succ_ne_zero n)
theorem outsAt_block (h : t.val ≠ 0) (h' : t.val < 7) : outsAt m c t.val t.isLt
    = (blockDu m c t h h' (prev m c t).2.2.1 (prev m c t).2.2.2, noDw, blockDv m c t h h' (prev m c t).2.2.1 (prev m c t).2.2.2, blockS m c t h h' (prev m c t).2.2.1 (prev m c t).2.2.2) := by
  obtain ⟨n, hn⟩ := t
  cases n with
  | zero => exact absurd rfl h
  | succ n => exact dif_pos h'
theorem outsAt_last (h : t.val = 7) : outsAt m c t.val t.isLt
    = (lastDu m c t h (prev m c t).2.2.1 (prev m c t).2.2.2, lastDw m c t h (prev m c t).2.2.1 (prev m c t).2.2.2, lastDv m c t h (prev m c t).2.2.1 (prev m c t).2.2.2, lastS m c t h (prev m c t).2.2.1 (prev m c t).2.2.2) := by
  obtain ⟨n, hn⟩ := t
  cases n with
  | zero => simp at h
  | succ n => exact dif_neg (by simp only at h; omega)

/-! ## The pipeline's proof data -/

/-- What the points hand one another besides the windows: the scratch buffers, of which only the sums have contents. -/
def Inv : (n : ℕ) → n ≤ cfg0.N → sProp 𝕄
  | 0, _ => Pipeline.ΦA spec0 c
  | n + 1, h => iprop(scratch c (own c scr5 (outsAt m c n h).2.2.2) ∗ (∃ r, prngReg c r))

theorem launchInv_eq : (Pipeline.ΦA spec0 c : sProp 𝕄)
    = iprop(scratch c (held (F := F) c scr5) ∗ (∃ r, prngReg c r)) := by
  unfold Pipeline.ΦA; rw [scopedRest0_eq]; simp only [scratch, held, scr0, scr1, scr2, scr3, scr4, scr5, owns_whole]; rfl

theorem Inv_pos (n : ℕ) (h : n ≤ cfg0.N) (hz : n ≠ 0) :
    Inv m c n h = iprop(scratch c (own c scr5 (outsAt m c (n - 1) (by omega)).2.2.2) ∗ (∃ r, prngReg c r)) := by
  cases n with
  | zero => exact absurd rfl hz
  | succ n => rfl

/-- Every input's block is left as it was found, and the results' buffers and the sums hold `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
    | ⟨10, _⟩ => (outsAt m c t.val t.isLt).2.1
    | ⟨11, _⟩ => (outsAt m c t.val t.isLt).2.2.1
  Φ t := Inv m c t.val (Nat.le_of_lt_succ t.isLt)
  q w := Pipeline.shareOf spec0 w
  owed _ := 0

theorem A_eq (w : Fin cfg0.W) : (dats m 0 c).A w = V m c (Pipeline.arrRef spec0 w) := by dsimp only [dats]

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = (outsAt m c t.val t.isLt).1 := by dsimp only [dats]
theorem after10 : (dats m 0 c).after 10 t = (outsAt m c t.val t.isLt).2.1 := by dsimp only [dats]
theorem after11 : (dats m 0 c).after 11 t = (outsAt m c t.val t.isLt).2.2.1 := by dsimp only [dats]
theorem before0 (d) : (dats m 0 c).before 0 t d = iblk m c 0 t := before0_0_of m (dats m 0 c) (A_eq m c 0) (fun t => after0 m c t) t d
theorem before1 (d) : (dats m 0 c).before 1 t d = iblk m c 1 t := before0_1_of m (dats m 0 c) (A_eq m c 1) (fun t => after1 m c t) t d
theorem before2 (d) : (dats m 0 c).before 2 t d = iblk m c 2 t := before0_2_of m (dats m 0 c) (A_eq m c 2) (fun t => after2 m c t) t d
theorem before3 (d) : (dats m 0 c).before 3 t d = iblk m c 3 t := before0_3_of m (dats m 0 c) (A_eq m c 3) (fun t => after3 m c t) t d
theorem before4 (d) : (dats m 0 c).before 4 t d = iblk m c 4 t := before0_4_of m (dats m 0 c) (A_eq m c 4) (fun t => after4 m c t) t d
theorem before5 (d) : (dats m 0 c).before 5 t d = iblk m c 5 t := before0_5_of m (dats m 0 c) (A_eq m c 5) (fun t => after5 m c t) t d
theorem before6 (d) : (dats m 0 c).before 6 t d = iblk m c 6 t := before0_6_of m (dats m 0 c) (A_eq m c 6) (fun t => after6 m c t) t d
theorem before7 (d) : (dats m 0 c).before 7 t d = iblk m c 7 t := before0_7_of m (dats m 0 c) (A_eq m c 7) (fun t => after7 m c t) t d
theorem before8 (d) : (dats m 0 c).before 8 t d = iblk m c 8 t := before0_8_of m (dats m 0 c) (A_eq m c 8) (fun t => after8 m c t) t d

/-- The vectors' gradients at a later point are found as the point before left them. -/
theorem before11 (h : t.val ≠ 0) (d) : (dats m 0 c).before 11 t d = (prev m c t).2.2.1 := by
  have hN : t.val < 8 := lt_of_lt_of_eq t.isLt (show cfg0.N = 8 from N_0)
  rw [Dat.before_out_traj _ 11 rfl (fun _ _ => rfl) (fun t h hi _ => absurd hi Bool.false_ne_true) t.val t rfl d,
    if_neg (by rw [fresh11 t.val hN]; simp [h]), after11]

/-! ## The body at any point -/

/-- What the body is handed at point `t`, the windows one by one, -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it hands back. -/
def bodyPost : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-- A window the body is live in is left at its stated contents. -/
theorem leaves_live (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 4000000 in
/-- The body keeps the proof data at the first point, -/
theorem sound_first (h : t.val = 0) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have ho : (dats m 0 c).owesAt () t.succ = (dats m 0 c).owesAt () t.castSucc := rfl
  have hs : (dats m 0 c).Φ t.succ = iprop(scratch c (own c scr5 (outsAt m c t.val t.isLt).2.2.2) ∗ (∃ r, prngReg c r)) := rfl
  have hp : (dats m 0 c).Φ t.castSucc = Inv m c t.val (Nat.le_of_lt t.isLt) := by
    dsimp only [dats]; exact Pipeline.Dat.Φ_castSucc (Inv m c) t
  have l0 := leaves_live m c t 0 rfl
  have l1 := leaves_live m c t 1 rfl
  have l2 := leaves_live m c t 2 rfl
  have l3 := leaves_live m c t 3 rfl
  have l4 := leaves_live m c t 4 rfl
  have l5 := leaves_live m c t 5 rfl
  have l6 := leaves_live m c t 6 rfl
  have l7 := leaves_live m c t 7 rfl
  have l8 := leaves_live m c t 8 rfl
  have l9 := leaves_live m c t 9 rfl
  have l11 := leaves_live m c t 11 rfl
  unfold bodyPre bodyPost bodyAt0
  simp only [before0, before1, before2, before3, before4, before5, before6, before7, before8]
  rw [l0, l1, l2, l3, l4, l5, l6, l7, l8, l9, l11, Dat.leavesExact_idle _ 10 t (idleDw t (by omega)).1 (idleDw t (by omega)).2, ho, hs, hp, after0, after1, after2, after3, after4, after5, after6, after7, after8, after9, after11]
  rw [show Inv m c t.val (Nat.le_of_lt t.isLt) = Pipeline.ΦA spec0 c from by simp only [h]; rfl, launchInv_eq, outsAt_first m c t h]
  unfold scratch; dsimp only
  iintro ⟨⟨⟨HZ0, HZ1, HZ2, HZ3, HZ4, HZ5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runFirst m c t h).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H11]; · iexists _; iexact H11
  isplitl [HZ0]; · iexact HZ0
  isplitl [HZ1]; · iexact HZ1
  isplitl [HZ2]; · iexact HZ2
  isplitl [HZ3]; · iexact HZ3
  isplitl [HZ4]; · iexact HZ4
  isplitl [HZ5]; · iexact HZ5
  iintro ⟨H0, H1, H2, H3, H4, H5, H6, H7, H8, ⟨%e9, H9⟩, ⟨%e11, H11⟩, HZ0, HZ1, HZ2, HZ3, HZ4, HZ5⟩
  isplitl [HZ0 HZ1 HZ2 HZ3 HZ4 HZ5 Hg]
  · isplitl [HZ0 HZ1 HZ2 HZ3 HZ4 HZ5]
    · isplitl [HZ0]; · iexact HZ0
      isplitl [HZ1]; · iexact HZ1
      isplitl [HZ2]; · iexact HZ2
      isplitl [HZ3]; · iexact HZ3
      isplitl [HZ4]; · iexact HZ4
      iexact HZ5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (fun _ => coverA_du ..)
  isplitl [H10]; · iexists _; iexact H10
  unfold owns; iexists _; isplitr
  swap; · iexact H11
  ipureintro; exact View.read_writes_of_cover _ _ _ _ _ (fun _ => coverA_dv ..)

set_option maxHeartbeats 4000000 in
/-- at a middle point, -/
theorem sound_block (h : t.val ≠ 0) (h' : t.val < 7) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have ho : (dats m 0 c).owesAt () t.succ = (dats m 0 c).owesAt () t.castSucc := rfl
  have hs : (dats m 0 c).Φ t.succ = iprop(scratch c (own c scr5 (outsAt m c t.val t.isLt).2.2.2) ∗ (∃ r, prngReg c r)) := rfl
  have hp : (dats m 0 c).Φ t.castSucc = Inv m c t.val (Nat.le_of_lt t.isLt) := by
    dsimp only [dats]; exact Pipeline.Dat.Φ_castSucc (Inv m c) t
  have l0 := leaves_live m c t 0 rfl
  have l1 := leaves_live m c t 1 rfl
  have l2 := leaves_live m c t 2 rfl
  have l3 := leaves_live m c t 3 rfl
  have l4 := leaves_live m c t 4 rfl
  have l5 := leaves_live m c t 5 rfl
  have l6 := leaves_live m c t 6 rfl
  have l7 := leaves_live m c t 7 rfl
  have l8 := leaves_live m c t 8 rfl
  have l9 := leaves_live m c t 9 rfl
  have l11 := leaves_live m c t 11 rfl
  unfold bodyPre bodyPost bodyAt0
  simp only [before0, before1, before2, before3, before4, before5, before6, before7, before8]
  rw [l0, l1, l2, l3, l4, l5, l6, l7, l8, l9, l11, Dat.leavesExact_idle _ 10 t (idleDw t (by omega)).1 (idleDw t (by omega)).2, ho, hs, hp, after0, after1, after2, after3, after4, after5, after6, after7, after8, after9, after11]
  simp only [before11 m c t h]
  rw [Inv_pos m c _ _ h, outsAt_block m c t h h']
  unfold scratch; dsimp only
  iintro ⟨⟨⟨HZ0, HZ1, HZ2, HZ3, HZ4, HZ5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runBlock m c t h h' (prev m c t).2.2.1 (prev m c t).2.2.2).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H11]; · iexact H11
  isplitl [HZ0]; · iexact HZ0
  isplitl [HZ1]; · iexact HZ1
  isplitl [HZ2]; · iexact HZ2
  isplitl [HZ3]; · iexact HZ3
  isplitl [HZ4]; · iexact HZ4
  isplitl [HZ5]; · iexact HZ5
  iintro ⟨H0, H1, H2, H3, H4, H5, H6, H7, H8, ⟨%e9, H9⟩, H11, HZ0, HZ1, HZ2, HZ3, HZ4, HZ5⟩
  isplitl [HZ0 HZ1 HZ2 HZ3 HZ4 HZ5 Hg]
  · isplitl [HZ0 HZ1 HZ2 HZ3 HZ4 HZ5]
    · isplitl [HZ0]; · iexact HZ0
      isplitl [HZ1]; · iexact HZ1
      isplitl [HZ2]; · iexact HZ2
      isplitl [HZ3]; · iexact HZ3
      isplitl [HZ4]; · iexact HZ4
      iexact HZ5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (fun _ => coverB_du ..)
  isplitl [H10]; · iexists _; iexact H10
  unfold owns; iexists _; isplitr
  swap; · iexact H11
  ipureintro; rfl

set_option maxHeartbeats 4000000 in
/-- and at the last. -/
theorem sound_last (h : t.val = 7) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  have ho : (dats m 0 c).owesAt () t.succ = (dats m 0 c).owesAt () t.castSucc := rfl
  have hs : (dats m 0 c).Φ t.succ = iprop(scratch c (own c scr5 (outsAt m c t.val t.isLt).2.2.2) ∗ (∃ r, prngReg c r)) := rfl
  have hp : (dats m 0 c).Φ t.castSucc = Inv m c t.val (Nat.le_of_lt t.isLt) := by
    dsimp only [dats]; exact Pipeline.Dat.Φ_castSucc (Inv m c) t
  have l0 := leaves_live m c t 0 rfl
  have l1 := leaves_live m c t 1 rfl
  have l2 := leaves_live m c t 2 rfl
  have l3 := leaves_live m c t 3 rfl
  have l4 := leaves_live m c t 4 rfl
  have l5 := leaves_live m c t 5 rfl
  have l6 := leaves_live m c t 6 rfl
  have l7 := leaves_live m c t 7 rfl
  have l8 := leaves_live m c t 8 rfl
  have l9 := leaves_live m c t 9 rfl
  have l11 := leaves_live m c t 11 rfl
  unfold bodyPre bodyPost bodyAt0
  simp only [before0, before1, before2, before3, before4, before5, before6, before7, before8]
  rw [l0, l1, l2, l3, l4, l5, l6, l7, l8, l9, l11, leaves_live m c t 10 (liveDw t h), ho, hs, hp, after0, after1, after2, after3, after4, after5, after6, after7, after8, after9, after10, after11]
  simp only [before11 m c t (show t.val ≠ 0 by omega)]
  rw [Inv_pos m c _ _ (by omega), outsAt_last m c t h]
  unfold scratch; dsimp only
  iintro ⟨⟨⟨HZ0, HZ1, HZ2, HZ3, HZ4, HZ5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((runLast m c t h (prev m c t).2.2.1 (prev m c t).2.2.2).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [HZ0]; · iexact HZ0
  isplitl [HZ1]; · iexact HZ1
  isplitl [HZ2]; · iexact HZ2
  isplitl [HZ3]; · iexact HZ3
  isplitl [HZ4]; · iexact HZ4
  isplitl [HZ5]; · iexact HZ5
  iintro ⟨H0, H1, H2, H3, H4, H5, H6, H7, H8, ⟨%e9, H9⟩, ⟨%e10, H10⟩, H11, HZ0, HZ1, HZ2, HZ3, HZ4, HZ5⟩
  isplitl [HZ0 HZ1 HZ2 HZ3 HZ4 HZ5 Hg]
  · isplitl [HZ0 HZ1 HZ2 HZ3 HZ4 HZ5]
    · isplitl [HZ0]; · iexact HZ0
      isplitl [HZ1]; · iexact HZ1
      isplitl [HZ2]; · iexact HZ2
      isplitl [HZ3]; · iexact HZ3
      isplitl [HZ4]; · iexact HZ4
      iexact HZ5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact View.read_writes_of_cover _ _ _ _ _ (fun _ => coverC_du ..)
  isplitl [H10]
  · unfold owns; iexists _; isplitr
    swap; · iexact H10
    ipureintro; exact View.read_writes_of_cover _ _ _ _ _ (fun _ => coverC_dw ..)
  unfold owns; iexists _; isplitr
  swap; · iexact H11
  ipureintro; rfl

theorem sound_body :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  by_cases h : t.val = 0
  · exact sound_first m c t h
  by_cases h' : t.val < 7
  · exact sound_block m c t h h'
  · exact sound_last m c t (by omega)

/-! ## The launch -/

theorem body_obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Inv m c (Fin.last cfg0.N).val (Nat.le_refl _) from rfl,
    Inv_pos m c _ _ (by rw [Fin.val_last]; have : cfg0.N = 8 := N_0; omega), launchInv_eq]
  unfold scratch
  iintro ⟨⟨HZ0, HZ1, HZ2, HZ3, HZ4, HZ5⟩, Hg⟩
  isplitl [HZ0 HZ1 HZ2 HZ3 HZ4 HZ5]
  · isplitl [HZ0]; · iexact HZ0
    isplitl [HZ1]; · iexact HZ1
    isplitl [HZ2]; · iexact HZ2
    isplitl [HZ3]; · iexact HZ3
    isplitl [HZ4]; · iexact HZ4
    iexists _; iexact HZ5
  iexact Hg

set_option backward.isDefEq.respectTransparency.types false in
/-- Every execution of the program ends, with every window's array at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every execution ends, leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.ConvIdeal.Body

end
-- ==== Proof.ConvClaim.lean ====
/-
  The frame of the reference of the convolution gradient.
-/
module

public import proofs.«01_k».proof.Defs
public import proofs.«01_k».proof.Proof.Gen.ConvRefIdeal.Run
public import Idealize.ShloMosaic.Lib.Claim
public import Idealize.ShloMosaic.Lib.Quiescent

@[expose] public section

set_option maxRecDepth 16384

noncomputable section

namespace Cert.ConvClaim

open Idealize.ShloMosaic Idealize.ShloMosaic.TcCoe Idealize.SL.Sem

/-- Every execution of the reference ends, leaves the arguments as they were and every counter at zero. -/
theorem frame_ref : Cert.quiescent_ConvRefIdeal := by
  intro m g _
  exact (θ_run Cert.ConvRefIdeal.defs _ _).mono
    (fun r h => ⟨fun c => (h c).2.2.2, sem_eq_zero_of_no_sems (by decide) r.2⟩)
    (Cert.ConvRefIdeal.Value.run (F := Ideal) m g)

end Cert.ConvClaim

end
-- ==== Proof.ProjClaim.lean ====
/-
  The norm before the token mixing and the product by the projection's weights, forward: both parts of the product,
  entry by entry, in the kernel and in the reference, and the claims about the pair.
-/
module

public import proofs.«01_k».proof.Defs
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Proj.Frame
public import proofs.«01_k».proof.Proof.Rms
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.ProjRefIdeal.Pure

open Cert.ProjRefIdeal Cert.ProjRefIdeal.Gen Cert.ProjRefIdeal.Read Cert.Rms

/-- A row of the input. -/
def row (x : FVec Ideal S4096x1024 .f32) (r : Fin 4096) : Fin 1024 → EReal := fun k => x (ix2 r k)

/-- An entry of the product: the normalised, scaled row times a column of the weights. -/
def prod (x : FVec Ideal S4096x1024 .f32) (g : FVec Ideal S1024 .f32) (w : FVec Ideal S1024x1792 .f32) (r : Fin 4096) (l : Fin 1792) : EReal :=
  ∑ k, row x r k * rr (row x r) * g (ix1 k) * w (ix2 k l)

/-- The queries, keys and values. -/
theorem qkv (x : FVec Ideal S4096x1024 .f32) (g : FVec Ideal S1024 .f32) (w : FVec Ideal S1024x1792 .f32) (r : Fin 4096) (l : Fin 768) :
    val_main_v16 (F := Ideal) x g w (ix2 r l) = prod x g w r ⟨l.val, by omega⟩ := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, rr, vv, row, prod]

/-- The convolution's input and gate. -/
theorem u (x : FVec Ideal S4096x1024 .f32) (g : FVec Ideal S1024 .f32) (w : FVec Ideal S1024x1792 .f32) (r : Fin 4096) (l : Fin 1024) :
    val_main_v15 (F := Ideal) x g w (ix2 r l) = prod x g w r ⟨768 + l.val, by omega⟩ := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, rr, vv, row, prod]

end Cert.ProjRefIdeal.Pure

namespace Cert.ProjIdeal.Final

open Cert.ProjIdeal Cert.ProjIdeal.Gen Cert.Rms
open Cert.ProjRefIdeal.Read (val_main_v15 val_main_v16)

/-- A row of a block. -/
def row (x : FVec Ideal S1024x1024 .f32) (r : Fin 1024) : Fin 1024 → EReal := fun k => x (ix2 r k)

/-- What a grid point stores as queries, keys and values. -/
theorem pay2 (x : FVec Ideal S1024x1024 .f32) (g : FVec Ideal S1x1024 .f32) (w : FVec Ideal S768x1024 .bf16) (r : Fin 1024) (l : Fin 768) :
    k0_pay2 (F := Ideal) x g w (ix2 r l) = ∑ k, row x r k * rr (row x r) * g (ix2 0 k) * w (ix2 l k) := by
  pointwise [k0_pay2, k0_pay1]
  rfl

/-- What a grid point stores as the convolution's input and gate. -/
theorem pay3 (x : FVec Ideal S1024x1024 .f32) (g : FVec Ideal S1x1024 .f32) (w : FVec Ideal S1024x1024 .bf16) (r : Fin 1024) (l : Fin 1024) :
    k0_pay3 (F := Ideal) x g w (ix2 r l) = ∑ k, row x r k * rr (row x r) * g (ix2 0 k) * w (ix2 l k) := by
  pointwise [k0_pay3, k0_pay1]
  rfl

variable (m : (ℓ : Loc nD τ sig) → Buf (Elt Ideal) ℓ)

/-- The block each window takes at each grid point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The place in the arrays of a row of a block. -/
def at' (t : Fin cfg0.N) (r : Fin 1024) : Fin 4096 :=
  ⟨t.val * 1024 + r.val, by have hN : cfg0.N = 4 := N_0; have := t.isLt; have := r.isLt; omega⟩

/-- A row of the input's block. -/
theorem blk0 (c : Dev nD) (t : Fin cfg0.N) (r : Fin 1024) :
    row (iblk m c 0 t) r = Cert.ProjRefIdeal.Pure.row (m ((c : Thread nD τ).loc main_arg0)) (at' t r) := by
  funext k
  show iblk m c 0 t (ix2 r k) = m ((c : Thread nD τ).loc main_arg0) (ix2 (at' t r) k)
  blk_ext [iblk, V, idx t, at']

/-- The norm's weights. -/
theorem blk1 (c : Dev nD) (t : Fin cfg0.N) (k : Fin 1024) :
    iblk m c 1 t (ix2 0 k) = m ((c : Thread nD τ).loc main_arg1) (ix1 k) := by
  blk_simp [iblk]
  entry_read
  pointwise
  blk_ext [idx t]

/-- The projection's weights, transposed. -/
theorem blk2 (c : Dev nD) (t : Fin cfg0.N) (l : Fin 1792) (k : Fin 1024) :
    iblk m c 2 t (ix2 l k) = m ((c : Thread nD τ).loc main_arg2) (ix2 k l) := by
  blk_simp [iblk]
  entry_read
  pointwise
  blk_ext [idx t]

/-- An entry of the part of the weights that starts at row 0. -/
theorem ld0 (X : Vec Ideal S1792x1024 .bf16) (k : Fin 768) (l : Fin 1024) :
    View.ld X (Rect.unit ![0, 0] ![768, 1024] inb_S1792x1024_S768x1024_0_0) (ix2 k l)
      = X (ix2 ⟨k.val, by omega⟩ l) := by
  refine congrArg X ?_
  funext a
  apply Fin.ext
  rw [Rect.idx_unit_val]
  fin_cases a <;> simp [ix2]

/-- An entry of the part of the weights that starts at row 768. -/
theorem ld768 (X : Vec Ideal S1792x1024 .bf16) (k : Fin 1024) (l : Fin 1024) :
    View.ld X (Rect.unit ![768, 0] ![1024, 1024] inb_S1792x1024_S1024x1024_768_0) (ix2 k l)
      = X (ix2 ⟨768 + k.val, by omega⟩ l) := by
  refine congrArg X ?_
  funext a
  apply Fin.ext
  rw [Rect.idx_unit_val]
  fin_cases a <;> simp [ix2]

/-- An entry of that part, as an entry of the reference's weights. -/
theorem w0 (c : Dev nD) (t : Fin cfg0.N) (k : Fin 768) (l : Fin 1024) :
    View.ld (iblk m c 2 t) (Rect.unit ![0, 0] ![768, 1024] inb_S1792x1024_S768x1024_0_0) (ix2 k l)
      = m ((c : Thread nD τ).loc main_arg2) (ix2 l ⟨k.val, by omega⟩) :=
  (ld0 (iblk m c 2 t) k l).trans (blk2 m c t ⟨k.val, by omega⟩ l)

/-- An entry of that part, as an entry of the reference's weights. -/
theorem w768 (c : Dev nD) (t : Fin cfg0.N) (k : Fin 1024) (l : Fin 1024) :
    View.ld (iblk m c 2 t) (Rect.unit ![768, 0] ![1024, 1024] inb_S1792x1024_S1024x1024_768_0) (ix2 k l)
      = m ((c : Thread nD τ).loc main_arg2) (ix2 l ⟨768 + k.val, by omega⟩) :=
  (ld768 (iblk m c 2 t) k l).trans (blk2 m c t ⟨768 + k.val, by omega⟩ l)

/-- The queries, keys and values after the run. -/
theorem qkv (c : Dev nD) : (dats m 0 c).arrAt 3 cfg0.N = val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  have he : ((View.whole main_v3_0).slice (win0_3.rect t)).emb (ix2 y0 y1) = (ix2 (at' t y0) y1 : S4096x768.Idx) := by
    blk_ext [idx t, at']
  rw [he]
  refine Eq.trans ?_ (Cert.ProjRefIdeal.Pure.qkv _ _ _ _ _).symm
  unfold out0_3
  frame_out
  rw [pay2]
  simp only [blk0, blk1]
  refine Eq.trans (b := (_ : EReal)) (Finset.sum_congr rfl fun k _ => congrArg _ (w0 m c t y1 k)) rfl

/-- The convolution's input and gate after the run. -/
theorem u (c : Dev nD) : (dats m 0 c).arrAt 4 cfg0.N = val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  idx_vars y
  have he : ((View.whole main_v3_1).slice (win0_4.rect t)).emb (ix2 y0 y1) = (ix2 (at' t y0) y1 : S4096x1024.Idx) := by
    blk_ext [idx t, at']
  rw [he]
  refine Eq.trans ?_ (Cert.ProjRefIdeal.Pure.u _ _ _ _ _).symm
  unfold out0_4
  frame_out
  rw [pay3]
  simp only [blk0, blk1]
  refine Eq.trans (b := (_ : EReal)) (Finset.sum_congr rfl fun k _ => congrArg _ (w768 m c t y1 k)) rfl

end Cert.ProjIdeal.Final

namespace Cert.ProjClaim

/-- The reference runs and leaves its arguments and its counters as they were. -/
theorem frame_ref : Cert.quiescent_ProjRefIdeal := by
  intro m g _
  exact (θ_run Cert.ProjRefIdeal.defs _ _).mono
    (fun r h => ⟨fun c => (h c).2.2, sem_eq_zero_of_no_sems (by decide) r.2⟩)
    (Cert.ProjRefIdeal.Value.run (F := Ideal) m g)

/-- Kernel and reference end with equal queries, keys, values and convolution input. -/
theorem algebraic : Cert.algebraic_ProjIdeal_ProjRefIdeal := by
  pair_intro
  · run_from Cert.ProjIdeal.Gen.run_main m g
  · run_from Cert.ProjRefIdeal.Value.run m' g'
    · rw [Cert.ProjRefIdeal.Read.val_main_v16_eq]
      exact (Cert.ProjIdeal.Final.qkv m c).symm
    · rw [Cert.ProjRefIdeal.Read.val_main_v15_eq]
      exact (Cert.ProjIdeal.Final.u m c).symm

end Cert.ProjClaim

end
-- ==== Proof.MixoClaim.lean ====
/-
  The product by the output projection's weights, added to the residual stream: the result, entry by entry, in the
  kernel and in the reference, and the claims about the pair.
-/
module

public import proofs.«01_k».proof.Defs
public import proofs.«01_k».proof.Proof.Gen.MixoIdeal.Value
public import proofs.«01_k».proof.Proof.Gen.MixoRefIdeal.Run
public import proofs.«01_k».proof.Proof.Gen.MixoRefIdeal.Read
public import proofs.«01_k».proof.Proof.Gen.Mixo.Frame
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MixoRefIdeal.Pure

open Cert.MixoRefIdeal Cert.MixoRefIdeal.Gen Cert.MixoRefIdeal.Read

/-- A sum over 1024 entries is the sum over its first 512 and its last 512. -/
theorem sum_parts (f : Fin 1024 → EReal) :
    ∑ k, f k = (∑ k : Fin 512, f ⟨k.val, by omega⟩) + ∑ k : Fin 512, f ⟨512 + k.val, by omega⟩ := by
  rw [show (∑ k, f k) = ∑ k : Fin (512 + 512), f ⟨k.val, by omega⟩ from rfl, Fin.sum_univ_add]
  rfl

/-- The attention's output and the convolution's output side by side. -/
theorem cat0 (a b : FVec Ideal S4096x512 .f32) (r : Fin 4096) (k : Fin 512) :
    val_main_v0 (F := Ideal) a b (ix2 r ⟨k.val, by omega⟩) = a (ix2 r k) := by
  pointwise [val_main_v0]

theorem cat1 (a b : FVec Ideal S4096x512 .f32) (r : Fin 4096) (k : Fin 512) :
    val_main_v0 (F := Ideal) a b (ix2 r ⟨512 + k.val, by omega⟩) = b (ix2 r k) := by
  pointwise [val_main_v0]

/-- The reference's result, entry by entry. -/
theorem res (x : FVec Ideal S4096x1024 .f32) (a b : FVec Ideal S4096x512 .f32) (w : FVec Ideal S1024x1024 .f32) (r : Fin 4096) (l : Fin 1024) :
    val_main_v2 (F := Ideal) x a b w (ix2 r l)
      = x (ix2 r l) + (∑ k : Fin 512, a (ix2 r k) * w (ix2 ⟨k.val, by omega⟩ l)) + ∑ k : Fin 512, b (ix2 r k) * w (ix2 ⟨512 + k.val, by omega⟩ l) := by
  have h : val_main_v2 (F := Ideal) x a b w (ix2 r l) = x (ix2 r l) + ∑ k, val_main_v0 (F := Ideal) a b (ix2 r k) * w (ix2 k l) := by
    pointwise [val_main_v2, val_main_v1]
  rw [h, sum_parts, add_assoc]
  simp only [cat0, cat1]

end Cert.MixoRefIdeal.Pure

namespace Cert.MixoIdeal.Final

open Cert.MixoIdeal Cert.MixoIdeal.Gen
open Cert.MixoRefIdeal.Read (val_main_v2)

/-- What a grid point stores. -/
theorem pay1 (x : FVec Ideal S1024x1024 .f32) (a : FVec Ideal S1024x512 .bf16) (v : FVec Ideal S512x1024 .bf16) (b : FVec Ideal S1024x512 .bf16) (w : FVec Ideal S512x1024 .bf16) (r : Fin 1024) (l : Fin 1024) :
    k0_pay1 (F := Ideal) x a v b w (ix2 r l) = x (ix2 r l) + (∑ k, a (ix2 r k) * v (ix2 k l)) + ∑ k, b (ix2 r k) * w (ix2 k l) := by
  pointwise [k0_pay1]

variable (m : (ℓ : Loc nD τ sig) → Buf (Elt Ideal) ℓ)

/-- The block each window takes at each grid point. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

/-- The place in the arrays of a row of a block. -/
def at' (t : Fin cfg0.N) (r : Fin 1024) : Fin 4096 :=
  ⟨t.val * 1024 + r.val, by have hN : cfg0.N = 4 := N_0; have := t.isLt; have := r.isLt; omega⟩

/-- An entry of the residual stream's block. -/
theorem blk0 (c : Dev nD) (t : Fin cfg0.N) (r : Fin 1024) (k : Fin 1024) :
    iblk m c 0 t (ix2 r k) = m ((c : Thread nD τ).loc main_arg0) (ix2 (at' t r) k) := by
  blk_ext [iblk, V, idx t, at']

/-- An entry of the attention's block. -/
theorem blk1 (c : Dev nD) (t : Fin cfg0.N) (r : Fin 1024) (k : Fin 512) :
    iblk m c 1 t (ix2 r k) = m ((c : Thread nD τ).loc main_arg1) (ix2 (at' t r) k) := by
  blk_simp [iblk]
  entry_read
  pointwise
  blk_ext [idx t, at']

/-- An entry of the convolution's block. -/
theorem blk2 (c : Dev nD) (t : Fin cfg0.N) (r : Fin 1024) (k : Fin 512) :
    iblk m c 2 t (ix2 r k) = m ((c : Thread nD τ).loc main_arg2) (ix2 (at' t r) k) := by
  blk_simp [iblk]
  entry_read
  pointwise
  blk_ext [idx t, at']

/-- The weights. -/
theorem blk3 (c : Dev nD) (t : Fin cfg0.N) (k l : Fin 1024) :
    iblk m c 3 t (ix2 k l) = m ((c : Thread nD τ).loc main_arg3) (ix2 k l) := by
  blk_simp [iblk]
  entry_read
  pointwise
  blk_ext [idx t]

/-- An entry of the part of the weights that starts at row 0. -/
theorem ld0 (X : Vec Ideal S1024x1024 .bf16) (k : Fin 512) (l : Fin 1024) :
    View.ld X (Rect.unit ![0, 0] ![512, 1024] inb_S1024x1024_S512x1024_0_0) (ix2 k l)
      = X (ix2 ⟨k.val, by omega⟩ l) := by
  refine congrArg X ?_
  funext a
  apply Fin.ext
  rw [Rect.idx_unit_val]
  fin_cases a <;> simp [ix2]

/-- An entry of the part of the weights that starts at row 512. -/
theorem ld512 (X : Vec Ideal S1024x1024 .bf16) (k : Fin 512) (l : Fin 1024) :
    View.ld X (Rect.unit ![512, 0] ![512, 1024] inb_S1024x1024_S512x1024_512_0) (ix2 k l)
      = X (ix2 ⟨512 + k.val, by omega⟩ l) := by
  refine congrArg X ?_
  funext a
  apply Fin.ext
  rw [Rect.idx_unit_val]
  fin_cases a <;> simp [ix2]

/-- An entry of that part, as an entry of the reference's weights. -/
theorem w0 (c : Dev nD) (t : Fin cfg0.N) (k : Fin 512) (l : Fin 1024) :
    View.ld (iblk m c 3 t) (Rect.unit ![0, 0] ![512, 1024] inb_S1024x1024_S512x1024_0_0) (ix2 k l)
      = m ((c : Thread nD τ).loc main_arg3) (ix2 ⟨k.val, by omega⟩ l) :=
  (ld0 (iblk m c 3 t) k l).trans (blk3 m c t ⟨k.val, by omega⟩ l)

/-- An entry of that part, as an entry of the reference's weights. -/
theorem w512 (c : Dev nD) (t : Fin cfg0.N) (k : Fin 512) (l : Fin 1024) :
    View.ld (iblk m c 3 t) (Rect.unit ![512, 0] ![512, 1024] inb_S1024x1024_S512x1024_512_0) (ix2 k l)
      = m ((c : Thread nD τ).loc main_arg3) (ix2 ⟨512 + k.val, by omega⟩ l) :=
  (ld512 (iblk m c 3 t) k l).trans (blk3 m c t ⟨512 + k.val, by omega⟩ l)

/-- The residual stream after the run. -/
theorem res (c : Dev nD) : (dats m 0 c).arrAt 4 cfg0.N = val_main_v2 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  idx_vars y
  have he : ((View.whole main_v3).slice (win0_4.rect t)).emb (ix2 y0 y1) = (ix2 (at' t y0) y1 : S4096x1024.Idx) := by
    blk_ext [idx t, at']
  rw [he]
  refine Eq.trans ?_ (Cert.MixoRefIdeal.Pure.res _ _ _ _ _ _).symm
  unfold out0_4
  frame_out
  rw [pay1]
  simp only [blk1, blk2]
  rw [blk0]
  exact congrArg₂ (· + ·) (congrArg _ (Finset.sum_congr rfl fun k _ => congrArg _ (w0 m c t k y1)))
    (Finset.sum_congr rfl fun k _ => congrArg _ (w512 m c t k y1))

end Cert.MixoIdeal.Final

namespace Cert.MixoClaim

/-- The reference runs and leaves its arguments and its counters as they were. -/
theorem frame_ref : Cert.quiescent_MixoRefIdeal := by
  intro m g _
  exact (θ_run Cert.MixoRefIdeal.defs _ _).mono
    (fun r h => ⟨fun c => (h c).2, sem_eq_zero_of_no_sems (by decide) r.2⟩)
    (Cert.MixoRefIdeal.Value.run (F := Ideal) m g)

/-- Kernel and reference end with equal residual streams. -/
theorem algebraic : Cert.algebraic_MixoIdeal_MixoRefIdeal := by
  pair_intro
  · run_from Cert.MixoIdeal.Gen.run_main m g
  · run_from Cert.MixoRefIdeal.Value.run m' g'
    · rw [Cert.MixoRefIdeal.Read.val_main_v2_eq, (hagree c).2.1, (hagree c).2.2.1]
      exact (Cert.MixoIdeal.Final.res m c).symm

end Cert.MixoClaim

end
-- ==== Proof.MixbClaim.lean ====
/-
  The gradient of the product by the output projection's weights: the rounded cotangent and both parts of the product,
  entry by entry, in the kernel and in the reference, and the claims about the pair.
-/
module

public import proofs.«01_k».proof.Defs
public import proofs.«01_k».proof.Proof.Gen.MixbIdeal.Value
public import proofs.«01_k».proof.Proof.Gen.MixbRefIdeal.Run
public import proofs.«01_k».proof.Proof.Gen.MixbRefIdeal.Read
public import proofs.«01_k».proof.Proof.Gen.Mixb.Frame
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.MixbRefIdeal.Pure

open Cert.MixbRefIdeal Cert.MixbRefIdeal.Gen Cert.MixbRefIdeal.Read

/-- The attention's part of the gradient. -/
theorem da (x : FVec Ideal S4096x1024 .f32) (w : FVec Ideal S1024x1024 .f32) (r : Fin 4096) (l : Fin 512) :
    val_main_v5 (F := Ideal) x w (ix2 r l) = ∑ k, x (ix2 r k) * w (ix2 ⟨l.val, by omega⟩ k) := by
  pointwise [val_main_v0, val_main_v1, val_main_v2, val_main_v3, val_main_v4, val_main_v5]

/-- The convolution's part of the gradient. -/
theorem dc (x : FVec Ideal S4096x1024 .f32) (w : FVec Ideal S1024x1024 .f32) (r : Fin 4096) (l : Fin 512) :
    val_main_v3 (F := Ideal) x w (ix2 r l) = ∑ k, x (ix2 r k) * w (ix2 ⟨512 + l.val, by omega⟩ k) := by
  pointwise [val_main_v0, val_main_v1, val_main_v2, val_main_v3, val_main_v4, val_main_v5]

/-- The cotangent itself. -/
theorem ct (x : FVec Ideal S4096x1024 .f32) (r : Fin 4096) (l : Fin 1024) :
    val_main_v4 (F := Ideal) x (ix2 r l) = x (ix2 r l) := by
  pointwise [val_main_v0, val_main_v1, val_main_v2, val_main_v3, val_main_v4, val_main_v5]

end Cert.MixbRefIdeal.Pure

namespace Cert.MixbIdeal.Final

open Cert.MixbIdeal Cert.MixbIdeal.Gen
open Cert.MixbRefIdeal.Read (val_main_v3 val_main_v4 val_main_v5)

/-- What a grid point stores as the rounded cotangent. -/
theorem pay1 (x : FVec Ideal S1024x1024 .f32) (r l : Fin 1024) : k0_pay1 (F := Ideal) x (ix2 r l) = x (ix2 r l) := by
  pointwise [k0_pay1]

/-- What a grid point stores as the attention's part. -/
theorem pay2 (x : FVec Ideal S1024x1024 .f32) (w : FVec Ideal S512x1024 .bf16) (r : Fin 1024) (l : Fin 512) :
    k0_pay2 (F := Ideal) x w (ix2 r l) = ∑ k, x (ix2 r k) * w (ix2 l k) := by
  pointwise [k0_pay2, k0_pay1]

/-- What a grid point stores as the convolution's part. -/
theorem pay3 (x : FVec Ideal S1024x1024 .f32) (w : FVec Ideal S512x1024 .bf16) (r : Fin 1024) (l : Fin 512) :
    k0_pay3 (F := Ideal) x w (ix2 r l) = ∑ k, x (ix2 r k) * w (ix2 l k) := by
  pointwise [k0_pay3, k0_pay1]

variable (m : (ℓ : Loc nD τ sig) → Buf (Elt Ideal) ℓ)

/-- The block each window takes at each grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

/-- The place in the arrays of a row of a block. -/
def at' (t : Fin cfg0.N) (r : Fin 1024) : Fin 4096 :=
  ⟨t.val * 1024 + r.val, by have hN : cfg0.N = 4 := N_0; have := t.isLt; have := r.isLt; omega⟩

/-- An entry of the cotangent's block. -/
theorem blk0 (c : Dev nD) (t : Fin cfg0.N) (r : Fin 1024) (k : Fin 1024) :
    iblk m c 0 t (ix2 r k) = m ((c : Thread nD τ).loc main_arg0) (ix2 (at' t r) k) := by
  blk_ext [iblk, V, idx t, at']

/-- The weights. -/
theorem blk1 (c : Dev nD) (t : Fin cfg0.N) (k l : Fin 1024) :
    iblk m c 1 t (ix2 k l) = m ((c : Thread nD τ).loc main_arg1) (ix2 k l) := by
  blk_simp [iblk]
  entry_read
  pointwise
  blk_ext [idx t]

/-- An entry of the part of the weights that starts at row 0. -/
theorem ld0 (X : Vec Ideal S1024x1024 .bf16) (k : Fin 512) (l : Fin 1024) :
    View.ld X (Rect.unit ![0, 0] ![512, 1024] inb_S1024x1024_S512x1024_0_0) (ix2 k l)
      = X (ix2 ⟨k.val, by omega⟩ l) := by
  refine congrArg X ?_
  funext a
  apply Fin.ext
  rw [Rect.idx_unit_val]
  fin_cases a <;> simp [ix2]

/-- An entry of the part of the weights that starts at row 512. -/
theorem ld512 (X : Vec Ideal S1024x1024 .bf16) (k : Fin 512) (l : Fin 1024) :
    View.ld X (Rect.unit ![512, 0] ![512, 1024] inb_S1024x1024_S512x1024_512_0) (ix2 k l)
      = X (ix2 ⟨512 + k.val, by omega⟩ l) := by
  refine congrArg X ?_
  funext a
  apply Fin.ext
  rw [Rect.idx_unit_val]
  fin_cases a <;> simp [ix2]

/-- An entry of that part, as an entry of the reference's weights. -/
theorem w0 (c : Dev nD) (t : Fin cfg0.N) (k : Fin 512) (l : Fin 1024) :
    View.ld (iblk m c 1 t) (Rect.unit ![0, 0] ![512, 1024] inb_S1024x1024_S512x1024_0_0) (ix2 k l)
      = m ((c : Thread nD τ).loc main_arg1) (ix2 ⟨k.val, by omega⟩ l) :=
  (ld0 (iblk m c 1 t) k l).trans (blk1 m c t ⟨k.val, by omega⟩ l)

/-- An entry of that part, as an entry of the reference's weights. -/
theorem w512 (c : Dev nD) (t : Fin cfg0.N) (k : Fin 512) (l : Fin 1024) :
    View.ld (iblk m c 1 t) (Rect.unit ![512, 0] ![512, 1024] inb_S1024x1024_S512x1024_512_0) (ix2 k l)
      = m ((c : Thread nD τ).loc main_arg1) (ix2 ⟨512 + k.val, by omega⟩ l) :=
  (ld512 (iblk m c 1 t) k l).trans (blk1 m c t ⟨512 + k.val, by omega⟩ l)

/-- The rounded cotangent after the run. -/
theorem ct (c : Dev nD) : (dats m 0 c).arrAt 2 cfg0.N = val_main_v4 (F := Ideal) (m ((c : Thread nD τ).loc main_arg0)) := by
  refine (dats m 0 c).arrAt_eq_of_covers 2 _ (by decide +kernel) fun t hf y => ?_
  blk_simp
  rw [after0_2]
  idx_vars y
  have he : ((View.whole main_v1_0).slice (win0_2.rect t)).emb (ix2 y0 y1) = (ix2 (at' t y0) y1 : S4096x1024.Idx) := by
    blk_ext [idx t, at']
  rw [he]
  refine Eq.trans ?_ (Cert.MixbRefIdeal.Pure.ct _ _ _).symm
  unfold out0_2
  frame_out
  rw [pay1]
  exact blk0 m c t y0 y1

/-- The attention's part after the run. -/
theorem da (c : Dev nD) : (dats m 0 c).arrAt 3 cfg0.N = val_main_v5 (F := Ideal) (m ((c : Thread nD τ).loc main_arg0)) (m ((c : Thread nD τ).loc main_arg1)) := by
  refine (dats m 0 c).arrAt_eq_of_covers 3 _ (by decide +kernel) fun t hf y => ?_
  blk_simp
  rw [after0_3]
  idx_vars y
  have he : ((View.whole main_v1_1).slice (win0_3.rect t)).emb (ix2 y0 y1) = (ix2 (at' t y0) y1 : S4096x512.Idx) := by
    blk_ext [idx t, at']
  rw [he]
  refine Eq.trans ?_ (Cert.MixbRefIdeal.Pure.da _ _ _ _).symm
  unfold out0_3
  frame_out
  rw [pay2]
  simp only [blk0]
  refine Eq.trans (b := (_ : EReal)) (Finset.sum_congr rfl fun k _ => congrArg _ (w0 m c t y1 k)) rfl

/-- The convolution's part after the run. -/
theorem dc (c : Dev nD) : (dats m 0 c).arrAt 4 cfg0.N = val_main_v3 (F := Ideal) (m ((c : Thread nD τ).loc main_arg0)) (m ((c : Thread nD τ).loc main_arg1)) := by
  refine (dats m 0 c).arrAt_eq_of_covers 4 _ (by decide +kernel) fun t hf y => ?_
  blk_simp
  rw [after0_4]
  idx_vars y
  have he : ((View.whole main_v1_2).slice (win0_4.rect t)).emb (ix2 y0 y1) = (ix2 (at' t y0) y1 : S4096x512.Idx) := by
    blk_ext [idx t, at']
  rw [he]
  refine Eq.trans ?_ (Cert.MixbRefIdeal.Pure.dc _ _ _ _).symm
  unfold out0_4
  frame_out
  rw [pay3]
  simp only [blk0]
  refine Eq.trans (b := (_ : EReal)) (Finset.sum_congr rfl fun k _ => congrArg _ (w512 m c t y1 k)) rfl

end Cert.MixbIdeal.Final

namespace Cert.MixbClaim

/-- The reference runs and leaves its arguments and its counters as they were. -/
theorem frame_ref : Cert.quiescent_MixbRefIdeal := by
  intro m g _
  exact (θ_run Cert.MixbRefIdeal.defs _ _).mono
    (fun r h => ⟨fun c => (h c).2.2.2, sem_eq_zero_of_no_sems (by decide) r.2⟩)
    (Cert.MixbRefIdeal.Value.run (F := Ideal) m g)

/-- Kernel and reference end with equal rounded cotangents and equal parts of the gradient. -/
theorem algebraic : Cert.algebraic_MixbIdeal_MixbRefIdeal := by
  pair_intro
  · run_from Cert.MixbIdeal.Gen.run_main m g
  · run_from Cert.MixbRefIdeal.Value.run m' g'
    · rw [Cert.MixbRefIdeal.Read.val_main_v4_eq]
      exact (Cert.MixbIdeal.Final.ct m c).symm
    · rw [Cert.MixbRefIdeal.Read.val_main_v5_eq]
      exact (Cert.MixbIdeal.Final.da m c).symm
    · rw [Cert.MixbRefIdeal.Read.val_main_v3_eq]
      exact (Cert.MixbIdeal.Final.dc m c).symm

end Cert.MixbClaim

end
-- ==== Proof.WcatClaim.lean ====
/-
  The gradient of the output projection's weights: the product of the outputs side by side, transposed, and the
  cotangent, summed over the row blocks, entry by entry, in the kernel and in the reference, and the claims about the pair.
-/
module

public import proofs.«01_k».proof.Defs
public import proofs.«01_k».proof.Proof.Gen.WcatIdeal.Value
public import proofs.«01_k».proof.Proof.Gen.WcatRefIdeal.Run
public import proofs.«01_k».proof.Proof.Gen.WcatRefIdeal.Read
public import proofs.«01_k».proof.Proof.Gen.Wcat.Frame
public import Idealize.ShloMosaic.Lib.Pipeline.ValueKit
public import Idealize.ShloMosaic.Lib.WholeRead
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WcatRefIdeal.Pure

open Cert.WcatRefIdeal Cert.WcatRefIdeal.Gen Cert.WcatRefIdeal.Read

/-- The attention's output and the convolution's output side by side: the first 512 columns. -/
theorem cat0 (a b : FVec Ideal S4096x512 .f32) (r : Fin 4096) (k : Fin 512) :
    val_main_v0 (F := Ideal) a b (ix2 r ⟨k.val, by omega⟩) = a (ix2 r k) := by
  pointwise [val_main_v0]

/-- The last 512 columns. -/
theorem cat1 (a b : FVec Ideal S4096x512 .f32) (r : Fin 4096) (k : Fin 512) :
    val_main_v0 (F := Ideal) a b (ix2 r ⟨512 + k.val, by omega⟩) = b (ix2 r k) := by
  pointwise [val_main_v0]

/-- An entry of the gradient: a sum over the rows. -/
theorem res (a b : FVec Ideal S4096x512 .f32) (x : FVec Ideal S4096x1024 .f32) (r l : Fin 1024) :
    val_main_v3 (F := Ideal) a b x (ix2 r l) = ∑ k, val_main_v0 (F := Ideal) a b (ix2 k r) * x (ix2 k l) := by
  pointwise [val_main_v3, val_main_v2, val_main_v1]

end Cert.WcatRefIdeal.Pure

namespace Cert.WcatIdeal.Final

open Cert.WcatIdeal Cert.WcatIdeal.Gen
open Cert.WcatRefIdeal.Read (val_main_v0 val_main_v3)

/-- The accumulator starts at zero. -/
theorem pay1 (j) : k0_pay1 (F := Ideal) j = 0 := by pointwise [k0_pay1]

/-- What the attention's rows add. -/
theorem pay2 (acc : FVec Ideal S512x1024 .f32) (a : FVec Ideal S2048x512 .bf16) (x : FVec Ideal S2048x1024 .bf16) (r : Fin 512) (l : Fin 1024) :
    k0_pay2 (F := Ideal) acc a x (ix2 r l) = acc (ix2 r l) + ∑ k, a (ix2 k r) * x (ix2 k l) := by
  pointwise [k0_pay2]

/-- What the convolution's rows add. -/
theorem pay3 (acc : FVec Ideal S512x1024 .f32) (a : FVec Ideal S2048x512 .bf16) (x : FVec Ideal S2048x1024 .bf16) (r : Fin 512) (l : Fin 1024) :
    k0_pay3 (F := Ideal) acc a x (ix2 r l) = acc (ix2 r l) + ∑ k, a (ix2 k r) * x (ix2 k l) := by
  pointwise [k0_pay3]

/-- The result is the accumulator. -/
theorem pay4 (acc : FVec Ideal S1024x1024 .f32) (j) : k0_pay4 (F := Ideal) acc j = acc j := by pointwise [k0_pay4]

variable (m : (ℓ : Loc nD τ sig) → Buf (Elt Ideal) ℓ)

/-- The block each window takes at each grid point. -/
theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

/-- The place in the arrays of a row of a block. -/
def at' (t : Fin cfg0.N) (r : Fin 2048) : Fin 4096 :=
  ⟨t.val * 2048 + r.val, by have hN : cfg0.N = 2 := N_0; have := t.isLt; have := r.isLt; omega⟩

/-- An entry of the attention's block. -/
theorem blk0 (c : Dev nD) (t : Fin cfg0.N) (r : Fin 2048) (k : Fin 512) :
    iblk m c 0 t (ix2 r k) = m ((c : Thread nD τ).loc main_arg0) (ix2 (at' t r) k) := by
  blk_simp [iblk]
  entry_read
  pointwise
  blk_ext [idx t, at']

/-- An entry of the convolution's block. -/
theorem blk1 (c : Dev nD) (t : Fin cfg0.N) (r : Fin 2048) (k : Fin 512) :
    iblk m c 1 t (ix2 r k) = m ((c : Thread nD τ).loc main_arg1) (ix2 (at' t r) k) := by
  blk_simp [iblk]
  entry_read
  pointwise
  blk_ext [idx t, at']

/-- An entry of the cotangent's block. -/
theorem blk2 (c : Dev nD) (t : Fin cfg0.N) (r : Fin 2048) (k : Fin 1024) :
    iblk m c 2 t (ix2 r k) = m ((c : Thread nD τ).loc main_arg2) (ix2 (at' t r) k) := by
  blk_simp [iblk]
  entry_read
  pointwise
  blk_ext [idx t, at']

/-- What one grid point adds to an entry of the gradient. -/
def part (c : Dev nD) (t : Fin cfg0.N) (r l : Fin 1024) : EReal :=
  ∑ k : Fin 2048, val_main_v0 (F := Ideal) (m ((c : Thread nD τ).loc main_arg0)) (m ((c : Thread nD τ).loc main_arg1)) (ix2 (at' t k) r)
    * m ((c : Thread nD τ).loc main_arg2) (ix2 (at' t k) l)

/-- The attention's rows of that. -/
theorem part0 (c : Dev nD) (t : Fin cfg0.N) (r l : Fin 1024) (r' : Fin 512) (h : r.val = r'.val) :
    part m c t r l = ∑ k, (show EReal from iblk m c 0 t (ix2 k r')) * (show EReal from iblk m c 2 t (ix2 k l)) := by
  rw [show r = ⟨r'.val, by omega⟩ from Fin.ext h]
  simp only [part, Cert.WcatRefIdeal.Pure.cat0]
  exact Finset.sum_congr rfl fun k _ => (congrArg₂ (fun p q : EReal => p * q) (blk0 m c t k r') (blk2 m c t k l)).symm

/-- The convolution's rows of that. -/
theorem part1 (c : Dev nD) (t : Fin cfg0.N) (r l : Fin 1024) (r' : Fin 512) (h : r.val = 512 + r'.val) :
    part m c t r l = ∑ k, (show EReal from iblk m c 1 t (ix2 k r')) * (show EReal from iblk m c 2 t (ix2 k l)) := by
  rw [show r = ⟨512 + r'.val, by omega⟩ from Fin.ext h]
  simp only [part, Cert.WcatRefIdeal.Pure.cat1]
  exact Finset.sum_congr rfl fun k _ => (congrArg₂ (fun p q : EReal => p * q) (blk1 m c t k r') (blk2 m c t k l)).symm

/-- A store of 512 rows, read at one of them. -/
theorem hit (o : ℕ) (inb : ∀ a, (![o, 0] : Fin 2 → ℕ) a + (![512, 1024] : Fin 2 → ℕ) a ≤ S1024x1024.size a) (w : Vec Ideal S512x1024 .f32)
    (L : List (View.Piece (Elt Ideal) S1024x1024 .f32)) (r l : Fin 1024) (r' : Fin 512) (e : r.val = o + r'.val) :
    View.canon ((⟨Rect.unit (s := S1024x1024) ![o, 0] ![512, 1024] inb, w⟩ : View.Piece (Elt Ideal) S1024x1024 .f32) :: L) (ix2 r l)
      = w (ix2 r' l) := by
  refine (congrArg _ (?_ : _ = (Rect.unit (s := S1024x1024) ![o, 0] ![512, 1024] inb).emb (ix2 r' l))).trans
    (View.canon_cons_emb (Val := Elt Ideal) (s := S1024x1024) (e := .f32) (Rect.unit (s := S1024x1024) ![o, 0] ![512, 1024] inb) w L (ix2 r' l))
  exact funext fun a => Fin.ext (by
    match a with
    | ⟨0, _⟩ => exact (show r.val = o + 1 * r'.val by omega)
    | ⟨1, _⟩ => exact (show l.val = 0 + 1 * l.val by omega))

/-- A store of 512 rows, at another row. -/
theorem miss (o : ℕ) (inb : ∀ a, (![o, 0] : Fin 2 → ℕ) a + (![512, 1024] : Fin 2 → ℕ) a ≤ S1024x1024.size a) (w : Vec Ideal S512x1024 .f32)
    (L : List (View.Piece (Elt Ideal) S1024x1024 .f32)) (r l : Fin 1024) (e : ¬(o ≤ r.val ∧ r.val < o + 512)) :
    View.canon ((⟨Rect.unit (s := S1024x1024) ![o, 0] ![512, 1024] inb, w⟩ : View.Piece (Elt Ideal) S1024x1024 .f32) :: L) (ix2 r l)
      = View.canon L (ix2 r l) :=
  View.canon_cons_of_not_mem _ L fun h =>
    e ((Rect.mem_set_unit (s := S1024x1024) (off := (![o, 0] : Fin 2 → ℕ)) (size := (![512, 1024] : Fin 2 → ℕ)) (inb := inb) (i := ix2 r l)).mp h 0)

/-- The first store of all clears every row. -/
theorem clear (r l : Fin 1024) :
    View.canon [(⟨Rect.unit (s := S1024x1024) ![0, 0] ![1024, 1024] inb_S1024x1024_S1024x1024_0_0, k0_pay1 (F := Ideal)⟩ :
      View.Piece (Elt Ideal) S1024x1024 .f32)] (ix2 r l) = 0 :=
  (congrFun (View.canon_cons_unit_zero (S := S1024x1024) (off := ![0, 0]) (by funext a; fin_cases a <;> rfl) _ _ _) _).trans (pay1 _)

/-- The place of a row of a box of rows. -/
theorem box (o n : ℕ) (inb : ∀ a, (![o, 0] : Fin 2 → ℕ) a + (![n, 1024] : Fin 2 → ℕ) a ≤ S1024x1024.size a)
    (r l : Fin 1024) (r' : Fin n) (e : r.val = o + r'.val) :
    (Rect.unit (s := S1024x1024) ![o, 0] ![n, 1024] inb).idx (ix2 r' l) = ix2 r l :=
  funext fun a => Fin.ext (by
    match a with
    | ⟨0, _⟩ => exact (Rect.idx_unit_val _ _ _ _ _).trans e.symm
    | ⟨1, _⟩ => exact (Rect.idx_unit_val _ _ _ _ _).trans (Nat.zero_add _))

/-- A load of rows of what has been stored so far. -/
theorem cov (v : View sig .tc .vmem S1024x1024 .f32) (L : List (View.Piece (Elt Ideal) S1024x1024 .f32)) (o n : ℕ)
    (inb : ∀ a, (![o, 0] : Fin 2 → ℕ) a + (![n, 1024] : Fin 2 → ℕ) a ≤ S1024x1024.size a)
    (r l : Fin 1024) (r' : Fin n) (e : r.val = o + r'.val) :
    v.readCov L (Rect.unit (s := S1024x1024) ![o, 0] ![n, 1024] inb).toLoadRect (ix2 r' l) = View.canon L (ix2 r l) :=
  (congrFun (View.readCov_eq_canon' v L _) _).trans (congrArg (View.canon L) (box o n inb r l r' e))

/-- A load of rows of what the accumulator held before. -/
theorem held {M : Memref sig .tc .vmem S1024x1024 .f32} (hM : M.IsWhole) (x : Vec Ideal S1024x1024 .f32) (o n : ℕ)
    (inb : ∀ a, (![o, 0] : Fin 2 → ℕ) a + (![n, 1024] : Fin 2 → ℕ) a ≤ S1024x1024.size a)
    (r l : Fin 1024) (r' : Fin n) (e : r.val = o + r'.val) :
    View.readAt (Elt Ideal) M.view (Rect.unit (s := S1024x1024) ![o, 0] ![n, 1024] inb).toLoadRect (hM.unread x) (ix2 r' l) = x (ix2 r l) :=
  (hM.readAt_unread x _ _).trans (congrArg x (box o n inb r l r' e))

/-- What the accumulator holds after the first grid point. -/
theorem first (c : Dev nD) (t : Fin cfg0.N) (h0 : t.val % 2 = 0) (r l : Fin 1024) :
    (outsAt0 m c t.val t.isLt).2 (ix2 r l) = part m c t r l := by
  rw [outsAt0_A m c t h0 (by omega)]
  frame_out
  by_cases hr : r.val < 512
  · refine (miss _ _ _ _ r l (by omega)).trans ((hit _ _ _ _ r l ⟨r.val, hr⟩ (Nat.zero_add _).symm).trans ((pay2 _ _ _ _ _).trans ?_))
    refine (congrArg₂ (· + ·) ((cov _ _ _ _ _ r l ⟨r.val, hr⟩ (Nat.zero_add _).symm).trans (clear r l)) (part0 m c t r l ⟨r.val, hr⟩ rfl).symm).trans (zero_add _)
  · have e : r.val = 512 + (⟨r.val - 512, by omega⟩ : Fin 512).val := by dsimp only; omega
    refine (hit _ _ _ _ r l _ e).trans ((pay3 _ _ _ _ _).trans ?_)
    refine (congrArg₂ (· + ·) ((cov _ _ _ _ _ r l _ e).trans ((miss _ _ _ _ r l (by omega)).trans (clear r l))) (part1 m c t r l _ e).symm).trans (zero_add _)

/-- The same, with the point's number given by an equation. -/
theorem first' (c : Dev nD) (n : ℕ) (hn : n < cfg0.N) (h : n = 0) (r l : Fin 1024) : (outsAt0 m c n hn).2 (ix2 r l) = part m c t0_0 r l := by
  subst h
  exact first m c t0_0 rfl r l

/-- What the last grid point stores. -/
theorem last (c : Dev nD) (t : Fin cfg0.N) (h0 : t.val % 2 = 1) (r l : Fin 1024) :
    (outsAt0 m c t.val t.isLt).1 (ix2 r l)
      = (outsAt0 m c (t.val - 1) (Nat.lt_of_le_of_lt (Nat.sub_le _ _) t.isLt)).2 (ix2 r l) + part m c t r l := by
  rw [outsAt0_B m c t (by omega) h0]
  frame_out
  rw [pay4]
  refine (cov _ _ _ _ _ r l r (Nat.zero_add _).symm).trans ?_
  by_cases hr : r.val < 512
  · refine (miss _ _ _ _ r l (by omega)).trans ((hit _ _ _ _ r l ⟨r.val, hr⟩ (Nat.zero_add _).symm).trans ((pay2 _ _ _ _ _).trans ?_))
    exact congrArg₂ (· + ·) (held (Memref.isWhole_whole _) _ _ _ _ r l ⟨r.val, hr⟩ (Nat.zero_add _).symm) (part0 m c t r l ⟨r.val, hr⟩ rfl).symm
  · have e : r.val = 512 + (⟨r.val - 512, by omega⟩ : Fin 512).val := by dsimp only; omega
    refine (hit _ _ _ _ r l _ e).trans ((pay3 _ _ _ _ _).trans ?_)
    exact congrArg₂ (· + ·) (held (Memref.isWhole_whole _) _ _ _ _ r l _ e) (part1 m c t r l _ e).symm

/-- Both grid points' parts are the sum over all the rows. -/
theorem both (c : Dev nD) (r l : Fin 1024) : part m c t0_0 r l + part m c t0_1 r l
    = ∑ k, val_main_v0 (F := Ideal) (m ((c : Thread nD τ).loc main_arg0)) (m ((c : Thread nD τ).loc main_arg1)) (ix2 k r)
      * m ((c : Thread nD τ).loc main_arg2) (ix2 k l) := by
  refine (Fin.sum_univ_two (fun t : Fin 2 => part m c ⟨t.val, lt_of_lt_of_eq t.isLt N_0.symm⟩ r l)).symm.trans ?_
  simp only [part]
  exact Fin.sum_mul_add_congr (fun p a _ => rfl) rfl

/-- The gradient after the run. -/
theorem dw (c : Dev nD) : (dats m 0 c).arrAt 3 cfg0.N
    = val_main_v3 (F := Ideal) (m ((c : Thread nD τ).loc main_arg0)) (m ((c : Thread nD τ).loc main_arg1)) (m ((c : Thread nD τ).loc main_arg2)) := by
  refine (dats m 0 c).arrAt_eq_of_after_last 3 t0_1 (by decide +kernel) _ fun j => ?_
  blk_simp
  idx_vars j
  rw [after0_3, last m c t0_1 rfl, first' m c (t0_1.val - 1) _ rfl]
  refine Eq.trans ?_ (Cert.WcatRefIdeal.Pure.res _ _ _ _ _).symm
  exact both m c _ _

end Cert.WcatIdeal.Final

namespace Cert.WcatClaim

/-- The reference runs and leaves its arguments and its counters as they were. -/
theorem frame_ref : Cert.quiescent_WcatRefIdeal := by
  intro m g _
  exact (θ_run Cert.WcatRefIdeal.defs _ _).mono
    (fun r h => ⟨fun c => (h c).2, sem_eq_zero_of_no_sems (by decide) r.2⟩)
    (Cert.WcatRefIdeal.Value.run (F := Ideal) m g)

/-- Kernel and reference end with equal gradients of the weights. -/
theorem algebraic : Cert.algebraic_WcatIdeal_WcatRefIdeal := by
  pair_intro
  · run_from Cert.WcatIdeal.Gen.run_main m g
  · run_from Cert.WcatRefIdeal.Value.run m' g'
    rw [Cert.WcatRefIdeal.Read.val_main_v3_eq]
    exact (Cert.WcatIdeal.Final.dw m c).symm

end Cert.WcatClaim

end
-- ==== Proof.WoutClaim.lean ====
/-
  The gradient of a gated layer's second weights: the product of the gated rows, transposed, and the cotangent, summed over
  two blocks of rows for each of two blocks of gates, entry by entry, in the kernel and in the reference, and the claims
  about the pair.
-/
module

public import proofs.«01_k».proof.Defs
public import proofs.«01_k».proof.Proof.Gen.WoutIdeal.Value
public import proofs.«01_k».proof.Proof.Gen.WoutRefIdeal.Run
public import proofs.«01_k».proof.Proof.Gen.WoutRefIdeal.Read
public import proofs.«01_k».proof.Proof.Gen.Wout.Frame
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WoutRefIdeal.Pure

open Cert.WoutRefIdeal Cert.WoutRefIdeal.Gen Cert.WoutRefIdeal.Read

/-- An entry of the gradient: a sum over the rows. -/
theorem res (a : FVec Ideal S4096x2816 .f32) (x : FVec Ideal S4096x1024 .f32) (s : Fin 4) (q : Fin 704) (l : Fin 1024) :
    val_main_v3 (F := Ideal) a x (ix3 s q l) = ∑ k, a (ix2 k ⟨s.val * 704 + q.val, by omega⟩) * x (ix2 k l) := by
  pointwise [val_main_v3, val_main_v2, val_main_v1, val_main_v0]

end Cert.WoutRefIdeal.Pure

namespace Cert.WoutIdeal.Final

open Cert.WoutIdeal Cert.WoutIdeal.Gen
open Cert.WoutRefIdeal.Read (val_main_v3)

/-- The accumulator starts at zero. -/
theorem pay1 (j) : k0_pay1 (F := Ideal) j = 0 := by pointwise [k0_pay1]

/-- What a block of rows adds. -/
theorem pay2 (acc : FVec Ideal S1408x1024 .f32) (a : FVec Ideal S2048x1408 .bf16) (x : FVec Ideal S2048x1024 .bf16) (r : Fin 1408) (l : Fin 1024) :
    k0_pay2 (F := Ideal) acc a x (ix2 r l) = acc (ix2 r l) + ∑ k, a (ix2 k r) * x (ix2 k l) := by
  pointwise [k0_pay2]

/-- The result is the accumulator, cut into two. -/
theorem pay3 (acc : FVec Ideal S1408x1024 .f32) (s : Fin 2) (q : Fin 704) (l : Fin 1024) :
    k0_pay3 (F := Ideal) acc (ix3 s q l) = acc (ix2 ⟨s.val * 704 + q.val, by omega⟩ l) := by
  pointwise [k0_pay3]

variable (m : (ℓ : Loc nD τ sig) → Buf (Elt Ideal) ℓ)

/-- The block each window takes at each grid point. -/
theorem idx : ∀ t : Fin cfg0.N, win0_0.index t = ![t.val % 2, t.val / 2] ∧ win0_1.index t = ![t.val % 2, 0] ∧ win0_2.index t = ![t.val / 2, 0, 0] :=
  (by decide +kernel : ∀ t : Fin grid0.N, _)

/-- The place in the arrays of a row of a block. -/
def at' (t : Fin cfg0.N) (r : Fin 2048) : Fin 4096 := ⟨t.val % 2 * 2048 + r.val, by omega⟩

/-- The place in the array of a gate of a block. -/
def gate (t : Fin cfg0.N) (k : Fin 1408) : Fin 2816 :=
  ⟨t.val / 2 * 1408 + k.val, by have hN : cfg0.N = 4 := N_0; have := t.isLt; omega⟩

/-- An entry of the gated rows' block. -/
theorem blk0 (c : Dev nD) (t : Fin cfg0.N) (r : Fin 2048) (k : Fin 1408) :
    iblk m c 0 t (ix2 r k) = m ((c : Thread nD τ).loc main_arg0) (ix2 (at' t r) (gate t k)) := by
  blk_simp [iblk]
  entry_read
  pointwise
  blk_ext [idx t, at', gate]

/-- An entry of the cotangent's block. -/
theorem blk1 (c : Dev nD) (t : Fin cfg0.N) (r : Fin 2048) (k : Fin 1024) :
    iblk m c 1 t (ix2 r k) = m ((c : Thread nD τ).loc main_arg1) (ix2 (at' t r) k) := by
  blk_simp [iblk]
  entry_read
  pointwise
  blk_ext [idx t, at']

/-- What one row adds to an entry of the gradient. -/
def term (a : FVec Ideal S4096x2816 .f32) (x : FVec Ideal S4096x1024 .f32) (r : Fin 2816) (l : Fin 1024) (k : Fin 4096) : EReal :=
  a (ix2 k r) * x (ix2 k l)

/-- What one grid point adds to an entry of the gradient. -/
def part (c : Dev nD) (t : Fin cfg0.N) (r : Fin 1408) (l : Fin 1024) : EReal :=
  ∑ k : Fin 2048, term (m ((c : Thread nD τ).loc main_arg0)) (m ((c : Thread nD τ).loc main_arg1)) (gate t r) l (at' t k)

/-- That, from the point's blocks. -/
theorem part_eq (c : Dev nD) (t : Fin cfg0.N) (r : Fin 1408) (l : Fin 1024) :
    part m c t r l = ∑ k, (show EReal from iblk m c 0 t (ix2 k r)) * (show EReal from iblk m c 1 t (ix2 k l)) :=
  Finset.sum_congr rfl fun k _ => (congrArg₂ (fun p q : EReal => p * q) (blk0 m c t k r) (blk1 m c t k l)).symm

/-- What the accumulator holds after the first of a block's two points. -/
theorem first (c : Dev nD) (t : Fin cfg0.N) (h0 : t.val % 2 = 0) (r : Fin 1408) (l : Fin 1024) :
    (outsAt0 m c t.val t.isLt).2 (ix2 r l) = part m c t r l := by
  rw [outsAt0_A m c t h0 (by omega)]
  frame_out
  refine (pay2 _ _ _ _ _).trans ?_
  rw [pay1, zero_add]
  exact (part_eq m c t r l).symm

/-- What the second point stores. -/
theorem last (c : Dev nD) (t : Fin cfg0.N) (h0 : t.val % 2 = 1) (s : Fin 2) (q : Fin 704) (l : Fin 1024) :
    (outsAt0 m c t.val t.isLt).1 (ix3 s q l)
      = (outsAt0 m c (t.val - 1) (Nat.lt_of_le_of_lt (Nat.sub_le _ _) t.isLt)).2 (ix2 ⟨s.val * 704 + q.val, by omega⟩ l)
        + part m c t ⟨s.val * 704 + q.val, by omega⟩ l := by
  rw [outsAt0_B m c t (by omega) h0]
  frame_out
  refine (pay3 _ _ _ _).trans ((pay2 _ _ _ _ _).trans ?_)
  exact congrArg₂ (· + ·) (congrFun (Memref.IsWhole.read_unread (Memref.isWhole_whole cc0_scratch0) _) _) (part_eq m c t _ l).symm

/-- Both points' parts are the sum over all the rows. -/
theorem both (c : Dev nD) (t' t : Fin cfg0.N) (h0 : t.val % 2 = 1) (h' : t'.val + 1 = t.val) (r : Fin 1408) (l : Fin 1024) :
    part m c t' r l + part m c t r l
      = ∑ k, term (m ((c : Thread nD τ).loc main_arg0)) (m ((c : Thread nD τ).loc main_arg1)) (gate t r) l k := by
  have hg : gate t' r = gate t r := Fin.ext (by simp only [gate]; omega)
  have e' : ∀ k, at' t' k = ⟨k.val, by omega⟩ := fun k => Fin.ext (by simp only [at']; omega)
  have e : ∀ k, at' t k = ⟨2048 + k.val, by omega⟩ := fun k => Fin.ext (by simp only [at']; omega)
  simp only [part, hg, e, e']
  exact (Fin.sum_univ_add (a := 2048) (b := 2048) (term (m ((c : Thread nD τ).loc main_arg0)) (m ((c : Thread nD τ).loc main_arg1)) (gate t r) l)).symm

/-- The gradient after the run. -/
theorem dw (c : Dev nD) : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  have h1 : t.val % 2 = 1 := (by decide +kernel : ∀ t : Fin cfg0.grid.N, (win0 2).flush t = true → t.val % 2 = 1) t hf
  have hN : t.val < 4 := lt_of_lt_of_eq t.isLt N_0
  blk_simp
  rw [after0_2]
  idx_vars y
  have he : ((View.whole main_v3).slice (win0_2.rect t)).emb (ix3 y0 y1 y2) = (ix3 ⟨t.val / 2 * 2 + y0.val, by omega⟩ y1 y2 : S4x704x1024.Idx) := by
    blk_ext [idx t]
  rw [he, last m c t h1, first m c ⟨t.val - 1, Nat.lt_of_le_of_lt (Nat.sub_le _ _) t.isLt⟩ (by dsimp only; omega), both m c _ t h1 (by dsimp only; omega)]
  refine Eq.trans ?_ (Cert.WoutRefIdeal.Pure.res _ _ _ _ _).symm
  have hg : gate t ⟨y0.val * 704 + y1.val, by omega⟩ = ⟨(t.val / 2 * 2 + y0.val) * 704 + y1.val, by omega⟩ := Fin.ext (by simp only [gate]; omega)
  rw [hg]
  rfl

end Cert.WoutIdeal.Final

namespace Cert.WoutClaim

/-- The reference runs and leaves its arguments and its counters as they were. -/
theorem frame_ref : Cert.quiescent_WoutRefIdeal := by
  intro m g _
  exact (θ_run Cert.WoutRefIdeal.defs _ _).mono
    (fun r h => ⟨fun c => (h c).2, sem_eq_zero_of_no_sems (by decide) r.2⟩)
    (Cert.WoutRefIdeal.Value.run (F := Ideal) m g)

/-- Kernel and reference end with equal gradients of the weights. -/
theorem algebraic : Cert.algebraic_WoutIdeal_WoutRefIdeal := by
  pair_intro
  · run_from Cert.WoutIdeal.Gen.run_main m g
  · run_from Cert.WoutRefIdeal.Value.run m' g'
    rw [Cert.WoutRefIdeal.Read.val_main_v3_eq]
    exact (Cert.WoutIdeal.Final.dw m c).symm

end Cert.WoutClaim

end
-- ==== Proof.WinClaim.lean ====
/-
  The gradient of a gated layer's first weights: the product of the normalised rows, transposed, and the cotangent, summed
  over two blocks of rows for each of four blocks of columns, entry by entry, in the kernel and in the reference, and the claims
  about the pair.
-/
module

public import proofs.«01_k».proof.Defs
public import proofs.«01_k».proof.Proof.Gen.WinIdeal.Value
public import proofs.«01_k».proof.Proof.Gen.WinRefIdeal.Run
public import proofs.«01_k».proof.Proof.Gen.WinRefIdeal.Read
public import proofs.«01_k».proof.Proof.Gen.Win.Frame
public import Idealize.ShloMosaic.Lib.Pipeline.ValueKit
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WinRefIdeal.Pure

open Cert.WinRefIdeal Cert.WinRefIdeal.Gen Cert.WinRefIdeal.Read

/-- An entry of the gradient: a sum over the rows. -/
theorem res (a : FVec Ideal S4096x1024 .f32) (x : FVec Ideal S4096x5632 .f32) (s : Fin 4) (q : Fin 1024) (l : Fin 1408) :
    val_main_v4 (F := Ideal) a x (ix3 s q l) = ∑ k, a (ix2 k q) * x (ix2 k ⟨s.val * 1408 + l.val, by omega⟩) := by
  pointwise [val_main_v4, val_main_v3, val_main_v2, val_main_v1, val_main_v0]

end Cert.WinRefIdeal.Pure

namespace Cert.WinIdeal.Final

open Cert.WinIdeal Cert.WinIdeal.Gen
open Cert.WinRefIdeal.Read (val_main_v4)

/-- The accumulator starts at zero. -/
theorem pay1 (j) : k0_pay1 (F := Ideal) j = 0 := by pointwise [k0_pay1]

/-- What a block of rows adds. -/
theorem pay2 (acc : FVec Ideal S1024x1408 .f32) (a : FVec Ideal S2048x1024 .bf16) (x : FVec Ideal S1x2048x1408 .bf16) (r : Fin 1024) (l : Fin 1408) :
    k0_pay2 (F := Ideal) acc a x (ix2 r l) = acc (ix2 r l) + ∑ k, a (ix2 k r) * x (ix3 0 k l) := by
  pointwise [k0_pay2]

/-- The result is the accumulator. -/
theorem pay3 (acc : FVec Ideal S1024x1408 .f32) (s : Fin 1) (q : Fin 1024) (l : Fin 1408) :
    k0_pay3 (F := Ideal) acc (ix3 s q l) = acc (ix2 q l) := by
  pointwise [k0_pay3]

variable (m : (ℓ : Loc nD τ sig) → Buf (Elt Ideal) ℓ)

/-- The block each window takes at each grid point. -/
theorem idx : ∀ t : Fin cfg0.N, win0_0.index t = ![t.val % 2, 0] ∧ win0_1.index t = ![t.val / 4, t.val % 2, t.val / 2 % 2]
    ∧ win0_2.index t = ![t.val / 2, 0, 0] :=
  (by decide +kernel : ∀ t : Fin grid0.N, _)

/-- The place in the arrays of a row of a block. -/
def at' (t : Fin cfg0.N) (r : Fin 2048) : Fin 4096 := ⟨t.val % 2 * 2048 + r.val, by omega⟩

/-- The place in the array of a column of a block. -/
def col (t : Fin cfg0.N) (k : Fin 1408) : Fin 5632 :=
  ⟨t.val / 2 * 1408 + k.val, by have hN : cfg0.N = 8 := N_0; have := t.isLt; omega⟩

/-- An entry of the normalised rows' block. -/
theorem blk0 (c : Dev nD) (t : Fin cfg0.N) (r : Fin 2048) (k : Fin 1024) :
    iblk m c 0 t (ix2 r k) = m ((c : Thread nD τ).loc main_arg0) (ix2 (at' t r) k) := by
  blk_simp [iblk]
  entry_read
  pointwise
  blk_ext [idx t, at']

/-- An entry of the cotangent's block. -/
theorem blk1 (c : Dev nD) (t : Fin cfg0.N) (r : Fin 2048) (k : Fin 1408) :
    iblk m c 1 t (ix3 0 r k) = m ((c : Thread nD τ).loc main_arg1) (ix2 (at' t r) (col t k)) := by
  blk_simp [iblk]
  entry_read
  pointwise
  blk_ext [idx t, at', col]

/-- What one row adds to an entry of the gradient. -/
def term (a : FVec Ideal S4096x1024 .f32) (x : FVec Ideal S4096x5632 .f32) (r : Fin 1024) (l : Fin 5632) (k : Fin 4096) : EReal :=
  a (ix2 k r) * x (ix2 k l)

/-- What one grid point adds to an entry of the gradient. -/
def part (c : Dev nD) (t : Fin cfg0.N) (r : Fin 1024) (l : Fin 1408) : EReal :=
  ∑ k : Fin 2048, term (m ((c : Thread nD τ).loc main_arg0)) (m ((c : Thread nD τ).loc main_arg1)) r (col t l) (at' t k)

/-- That, from the point's blocks. -/
theorem part_eq (c : Dev nD) (t : Fin cfg0.N) (r : Fin 1024) (l : Fin 1408) :
    part m c t r l = ∑ k, (show EReal from iblk m c 0 t (ix2 k r)) * (show EReal from iblk m c 1 t (ix3 0 k l)) :=
  Finset.sum_congr rfl fun k _ => (congrArg₂ (fun p q : EReal => p * q) (blk0 m c t k r) (blk1 m c t k l)).symm

/-- What the accumulator holds after the first of a block's two points. -/
theorem first (c : Dev nD) (t : Fin cfg0.N) (h0 : t.val % 2 = 0) (r : Fin 1024) (l : Fin 1408) :
    (outsAt0 m c t.val t.isLt).2 (ix2 r l) = part m c t r l := by
  rw [outsAt0_A m c t h0 (by omega)]
  frame_out
  refine (pay2 _ _ _ _ _).trans ?_
  rw [pay1, zero_add]
  exact (part_eq m c t r l).symm

/-- What the second point stores. -/
theorem last (c : Dev nD) (t : Fin cfg0.N) (h0 : t.val % 2 = 1) (s : Fin 1) (q : Fin 1024) (l : Fin 1408) :
    (outsAt0 m c t.val t.isLt).1 (ix3 s q l)
      = (outsAt0 m c (t.val - 1) (Nat.lt_of_le_of_lt (Nat.sub_le _ _) t.isLt)).2 (ix2 q l)
        + part m c t q l := by
  rw [outsAt0_B m c t (by omega) h0]
  frame_out
  refine (pay3 _ _ _ _).trans ((pay2 _ _ _ _ _).trans ?_)
  exact congrArg₂ (· + ·) (congrFun (Memref.IsWhole.read_unread (Memref.isWhole_whole cc0_scratch0) _) _) (part_eq m c t _ l).symm

/-- Both points' parts are the sum over all the rows. -/
theorem both (c : Dev nD) (t' t : Fin cfg0.N) (h0 : t.val % 2 = 1) (h' : t'.val + 1 = t.val) (r : Fin 1024) (l : Fin 1408) :
    part m c t' r l + part m c t r l
      = ∑ k, term (m ((c : Thread nD τ).loc main_arg0)) (m ((c : Thread nD τ).loc main_arg1)) r (col t l) k := by
  have hg : col t' l = col t l := Fin.ext (by simp only [col]; omega)
  have e' : ∀ k, at' t' k = ⟨k.val, by omega⟩ := fun k => Fin.ext (by simp only [at']; omega)
  have e : ∀ k, at' t k = ⟨2048 + k.val, by omega⟩ := fun k => Fin.ext (by simp only [at']; omega)
  simp only [part, hg, e, e']
  exact (Fin.sum_univ_add (a := 2048) (b := 2048) (term (m ((c : Thread nD τ).loc main_arg0)) (m ((c : Thread nD τ).loc main_arg1)) r (col t l))).symm

/-- The gradient after the run. -/
theorem dw (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  have h1 : t.val % 2 = 1 := (by decide +kernel : ∀ t : Fin cfg0.grid.N, (win0 2).flush t = true → t.val % 2 = 1) t hf
  have hN : t.val < 8 := lt_of_lt_of_eq t.isLt N_0
  blk_simp
  rw [after0_2]
  idx_vars y
  have he : ((View.whole main_v5).slice (win0_2.rect t)).emb (ix3 y0 y1 y2) = (ix3 ⟨t.val / 2, by omega⟩ y1 y2 : S4x1024x1408.Idx) := by
    blk_ext [idx t]
  rw [he, last m c t h1, first m c ⟨t.val - 1, Nat.lt_of_le_of_lt (Nat.sub_le _ _) t.isLt⟩ (by dsimp only; omega), both m c _ t h1 (by dsimp only; omega)]
  refine Eq.trans ?_ (Cert.WinRefIdeal.Pure.res _ _ _ _ _).symm
  rfl

end Cert.WinIdeal.Final

namespace Cert.WinClaim

/-- The reference runs and leaves its arguments and its counters as they were. -/
theorem frame_ref : Cert.quiescent_WinRefIdeal := by
  intro m g _
  exact (θ_run Cert.WinRefIdeal.defs _ _).mono
    (fun r h => ⟨fun c => (h c).2, sem_eq_zero_of_no_sems (by decide) r.2⟩)
    (Cert.WinRefIdeal.Value.run (F := Ideal) m g)

/-- Kernel and reference end with equal gradients of the weights. -/
theorem algebraic : Cert.algebraic_WinIdeal_WinRefIdeal := by
  pair_intro
  · run_from Cert.WinIdeal.Gen.run_main m g
  · run_from Cert.WinRefIdeal.Value.run m' g'
    rw [Cert.WinRefIdeal.Read.val_main_v4_eq]
    exact (Cert.WinIdeal.Final.dw m c).symm

end Cert.WinClaim

end
-- ==== Proof.WtokClaim.lean ====
/-
  The gradient of the token projection's weights: the product of the three cotangents side by side, transposed, and the
  normalised rows, summed over the row blocks, entry by entry, in the kernel and in the reference, and the claims about the pair.
-/
module

public import proofs.«01_k».proof.Defs
public import proofs.«01_k».proof.Proof.Gen.WtokIdeal.Value
public import proofs.«01_k».proof.Proof.Gen.WtokRefIdeal.Run
public import proofs.«01_k».proof.Proof.Gen.WtokRefIdeal.Read
public import proofs.«01_k».proof.Proof.Gen.Wtok.Frame
public import Idealize.ShloMosaic.Lib.Pipeline.ValueKit
public import Idealize.ShloMosaic.Lib.WholeRead
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.WtokRefIdeal.Pure

open Cert.WtokRefIdeal Cert.WtokRefIdeal.Gen Cert.WtokRefIdeal.Read

/-- The cotangents side by side: of the queries. -/
theorem cat0 (a : FVec Ideal S4096x512 .f32) (b : FVec Ideal S4096x256 .f32) (d : FVec Ideal S4096x1024 .f32) (r : Fin 4096) (k : Fin 512) :
    val_main_v0 (F := Ideal) a b d (ix2 r ⟨k.val, by omega⟩) = a (ix2 r k) := by
  pointwise [val_main_v0]

/-- Of the keys and values. -/
theorem cat1 (a : FVec Ideal S4096x512 .f32) (b : FVec Ideal S4096x256 .f32) (d : FVec Ideal S4096x1024 .f32) (r : Fin 4096) (k : Fin 256) :
    val_main_v0 (F := Ideal) a b d (ix2 r ⟨512 + k.val, by omega⟩) = b (ix2 r k) := by
  pointwise [val_main_v0]

/-- Of the convolution's input and gate. -/
theorem cat2 (a : FVec Ideal S4096x512 .f32) (b : FVec Ideal S4096x256 .f32) (d : FVec Ideal S4096x1024 .f32) (r : Fin 4096) (k : Fin 1024) :
    val_main_v0 (F := Ideal) a b d (ix2 r ⟨768 + k.val, by omega⟩) = d (ix2 r k) := by
  pointwise [val_main_v0]
  rw [dif_neg (by omega), dif_neg (by omega)]
  exact congrArg d (congrArg (ix2 r) (Fin.ext (by dsimp only; omega)))

/-- An entry of the gradient: a sum over the rows. -/
theorem res (a : FVec Ideal S4096x512 .f32) (b : FVec Ideal S4096x256 .f32) (d x : FVec Ideal S4096x1024 .f32) (r : Fin 1792) (l : Fin 1024) :
    val_main_v3 (F := Ideal) a b d x (ix2 r l) = ∑ k, val_main_v0 (F := Ideal) a b d (ix2 k r) * x (ix2 k l) := by
  pointwise [val_main_v3, val_main_v2, val_main_v1]

end Cert.WtokRefIdeal.Pure

namespace Cert.WtokIdeal.Final

open Cert.WtokIdeal Cert.WtokIdeal.Gen
open Cert.WtokRefIdeal.Read (val_main_v0 val_main_v3)

/-- The accumulator starts at zero. -/
theorem pay3 (j) : k0_pay3 (F := Ideal) j = 0 := by pointwise [k0_pay3]

/-- What the queries' rows add. -/
theorem pay4 (acc : FVec Ideal S512x1024 .f32) (a : FVec Ideal S2048x512 .bf16) (x : FVec Ideal S2048x1024 .bf16) (r : Fin 512) (l : Fin 1024) :
    k0_pay4 (F := Ideal) acc a x (ix2 r l) = acc (ix2 r l) + ∑ k, a (ix2 k r) * x (ix2 k l) := by
  pointwise [k0_pay4]

/-- What the keys' and values' rows add. -/
theorem pay5 (acc : FVec Ideal S256x1024 .f32) (a : FVec Ideal S2048x256 .bf16) (x : FVec Ideal S2048x1024 .bf16) (r : Fin 256) (l : Fin 1024) :
    k0_pay5 (F := Ideal) acc a x (ix2 r l) = acc (ix2 r l) + ∑ k, a (ix2 k r) * x (ix2 k l) := by
  pointwise [k0_pay5]

/-- What the convolution's rows add. -/
theorem pay1 (acc : FVec Ideal S1024x1024 .f32) (a x : FVec Ideal S2048x1024 .bf16) (r l : Fin 1024) :
    k0_pay1 (F := Ideal) acc (k0_pay6 a x) (ix2 r l) = acc (ix2 r l) + ∑ k, a (ix2 k r) * x (ix2 k l) := by
  pointwise [k0_pay1, k0_pay6]

/-- The result is the accumulator. -/
theorem pay2 (acc : FVec Ideal S1792x1024 .f32) (j) : k0_pay2 (F := Ideal) acc j = acc j := by pointwise [k0_pay2]

variable (m : (ℓ : Loc nD τ sig) → Buf (Elt Ideal) ℓ)

/-- The block each window takes at each grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] :=
  (by decide +kernel : ∀ t : Fin grid0.N, _)

/-- The place in the arrays of a row of a block. -/
def at' (t : Fin cfg0.N) (r : Fin 2048) : Fin 4096 :=
  ⟨t.val * 2048 + r.val, by have hN : cfg0.N = 2 := N_0; have := t.isLt; have := r.isLt; omega⟩

/-- An entry of the queries' cotangent, in its block. -/
theorem blk0 (c : Dev nD) (t : Fin cfg0.N) (r : Fin 2048) (k : Fin 512) :
    iblk m c 0 t (ix2 r k) = m ((c : Thread nD τ).loc main_arg0) (ix2 (at' t r) k) := by
  blk_simp [iblk]
  entry_read
  pointwise
  blk_ext [idx t, at']

/-- An entry of the keys' and values' cotangent, in its block. -/
theorem blk1 (c : Dev nD) (t : Fin cfg0.N) (r : Fin 2048) (k : Fin 256) :
    iblk m c 1 t (ix2 r k) = m ((c : Thread nD τ).loc main_arg1) (ix2 (at' t r) k) := by
  blk_simp [iblk]
  entry_read
  pointwise
  blk_ext [idx t, at']

/-- An entry of the cotangent of the convolution's input, in its block. -/
theorem blk2 (c : Dev nD) (t : Fin cfg0.N) (r : Fin 2048) (k : Fin 1024) :
    iblk m c 2 t (ix2 r k) = m ((c : Thread nD τ).loc main_arg2) (ix2 (at' t r) k) := by
  blk_simp [iblk]
  entry_read
  pointwise
  blk_ext [idx t, at']

/-- An entry of the normalised rows, in its block. -/
theorem blk3 (c : Dev nD) (t : Fin cfg0.N) (r : Fin 2048) (k : Fin 1024) :
    iblk m c 3 t (ix2 r k) = m ((c : Thread nD τ).loc main_arg3) (ix2 (at' t r) k) := by
  blk_simp [iblk]
  entry_read
  pointwise
  blk_ext [idx t, at']

/-- What one grid point adds to an entry of the gradient. -/
def part (c : Dev nD) (t : Fin cfg0.N) (r : Fin 1792) (l : Fin 1024) : EReal :=
  ∑ k : Fin 2048, val_main_v0 (F := Ideal) (m ((c : Thread nD τ).loc main_arg0)) (m ((c : Thread nD τ).loc main_arg1)) (m ((c : Thread nD τ).loc main_arg2)) (ix2 (at' t k) r) * m ((c : Thread nD τ).loc main_arg3) (ix2 (at' t k) l)

/-- The rows of that from the queries' cotangent. -/
theorem part0 (c : Dev nD) (t : Fin cfg0.N) (r : Fin 1792) (l : Fin 1024) (r' : Fin 512) (h : r.val = r'.val) :
    part m c t r l = ∑ k, (show EReal from iblk m c 0 t (ix2 k r')) * (show EReal from iblk m c 3 t (ix2 k l)) := by
  rw [show r = ⟨r'.val, by omega⟩ from Fin.ext h]
  simp only [part, Cert.WtokRefIdeal.Pure.cat0]
  exact Finset.sum_congr rfl fun k _ => (congrArg₂ (fun p q : EReal => p * q) (blk0 m c t k r') (blk3 m c t k l)).symm

/-- The rows of that from the keys' and values' cotangent. -/
theorem part1 (c : Dev nD) (t : Fin cfg0.N) (r : Fin 1792) (l : Fin 1024) (r' : Fin 256) (h : r.val = 512 + r'.val) :
    part m c t r l = ∑ k, (show EReal from iblk m c 1 t (ix2 k r')) * (show EReal from iblk m c 3 t (ix2 k l)) := by
  rw [show r = ⟨512 + r'.val, by omega⟩ from Fin.ext h]
  simp only [part, Cert.WtokRefIdeal.Pure.cat1]
  exact Finset.sum_congr rfl fun k _ => (congrArg₂ (fun p q : EReal => p * q) (blk1 m c t k r') (blk3 m c t k l)).symm

/-- The rows of that from the cotangent of the convolution's input. -/
theorem part2 (c : Dev nD) (t : Fin cfg0.N) (r : Fin 1792) (l : Fin 1024) (r' : Fin 1024) (h : r.val = 768 + r'.val) :
    part m c t r l = ∑ k, (show EReal from iblk m c 2 t (ix2 k r')) * (show EReal from iblk m c 3 t (ix2 k l)) := by
  rw [show r = ⟨768 + r'.val, by omega⟩ from Fin.ext h]
  simp only [part, Cert.WtokRefIdeal.Pure.cat2]
  exact Finset.sum_congr rfl fun k _ => (congrArg₂ (fun p q : EReal => p * q) (blk2 m c t k r') (blk3 m c t k l)).symm

/-- A store of some rows, read at one of them. -/
theorem hit (o n : ℕ) (inb : ∀ a, (![o, 0] : Fin 2 → ℕ) a + (![n, 1024] : Fin 2 → ℕ) a ≤ S1792x1024.size a) (w : Vec Ideal ⟨2, ![n, 1024]⟩ .f32)
    (L : List (View.Piece (Elt Ideal) S1792x1024 .f32)) (r : Fin 1792) (l : Fin 1024) (r' : Fin n) (e : r.val = o + r'.val) :
    View.canon ((⟨Rect.unit (s := S1792x1024) ![o, 0] ![n, 1024] inb, w⟩ : View.Piece (Elt Ideal) S1792x1024 .f32) :: L) (ix2 r l)
      = w (ix2 r' l) := by
  refine (congrArg _ (?_ : _ = (Rect.unit (s := S1792x1024) ![o, 0] ![n, 1024] inb).emb (ix2 r' l))).trans
    (View.canon_cons_emb (Val := Elt Ideal) (s := S1792x1024) (e := .f32) (Rect.unit (s := S1792x1024) ![o, 0] ![n, 1024] inb) w L (ix2 r' l))
  exact funext fun a => Fin.ext (by
    match a with
    | ⟨0, _⟩ => exact (show r.val = o + 1 * r'.val by omega)
    | ⟨1, _⟩ => exact (show l.val = 0 + 1 * l.val by omega))

/-- A store of some rows, at another row. -/
theorem miss (o n : ℕ) (inb : ∀ a, (![o, 0] : Fin 2 → ℕ) a + (![n, 1024] : Fin 2 → ℕ) a ≤ S1792x1024.size a) (w : Vec Ideal ⟨2, ![n, 1024]⟩ .f32)
    (L : List (View.Piece (Elt Ideal) S1792x1024 .f32)) (r : Fin 1792) (l : Fin 1024) (e : ¬(o ≤ r.val ∧ r.val < o + n)) :
    View.canon ((⟨Rect.unit (s := S1792x1024) ![o, 0] ![n, 1024] inb, w⟩ : View.Piece (Elt Ideal) S1792x1024 .f32) :: L) (ix2 r l)
      = View.canon L (ix2 r l) :=
  View.canon_cons_of_not_mem _ L fun h =>
    e ((Rect.mem_set_unit (s := S1792x1024) (off := (![o, 0] : Fin 2 → ℕ)) (size := (![n, 1024] : Fin 2 → ℕ)) (inb := inb) (i := ix2 r l)).mp h 0)

/-- The first store of all clears every row. -/
theorem clear (r : Fin 1792) (l : Fin 1024) :
    View.canon [(⟨Rect.unit (s := S1792x1024) ![0, 0] ![1792, 1024] inb_S1792x1024_S1792x1024_0_0, k0_pay3 (F := Ideal)⟩ :
      View.Piece (Elt Ideal) S1792x1024 .f32)] (ix2 r l) = 0 :=
  (congrFun (View.canon_cons_unit_zero (S := S1792x1024) (off := ![0, 0]) (by funext a; fin_cases a <;> rfl) _ _ _) _).trans (pay3 _)

/-- The place of a row of a box of rows. -/
theorem box (o n : ℕ) (inb : ∀ a, (![o, 0] : Fin 2 → ℕ) a + (![n, 1024] : Fin 2 → ℕ) a ≤ S1792x1024.size a)
    (r : Fin 1792) (l : Fin 1024) (r' : Fin n) (e : r.val = o + r'.val) :
    (Rect.unit (s := S1792x1024) ![o, 0] ![n, 1024] inb).idx (ix2 r' l) = ix2 r l :=
  funext fun a => Fin.ext (by
    match a with
    | ⟨0, _⟩ => exact (Rect.idx_unit_val _ _ _ _ _).trans e.symm
    | ⟨1, _⟩ => exact (Rect.idx_unit_val _ _ _ _ _).trans (Nat.zero_add _))

/-- A load of rows of what has been stored so far. -/
theorem cov (v : View sig .tc .vmem S1792x1024 .f32) (L : List (View.Piece (Elt Ideal) S1792x1024 .f32)) (o n : ℕ)
    (inb : ∀ a, (![o, 0] : Fin 2 → ℕ) a + (![n, 1024] : Fin 2 → ℕ) a ≤ S1792x1024.size a)
    (r : Fin 1792) (l : Fin 1024) (r' : Fin n) (e : r.val = o + r'.val) :
    v.readCov L (Rect.unit (s := S1792x1024) ![o, 0] ![n, 1024] inb).toLoadRect (ix2 r' l) = View.canon L (ix2 r l) :=
  (congrFun (View.readCov_eq_canon' v L _) _).trans (congrArg (View.canon L) (box o n inb r l r' e))

/-- A load of rows of what the accumulator held before. -/
theorem held {M : Memref sig .tc .vmem S1792x1024 .f32} (hM : M.IsWhole) (x : Vec Ideal S1792x1024 .f32) (o n : ℕ)
    (inb : ∀ a, (![o, 0] : Fin 2 → ℕ) a + (![n, 1024] : Fin 2 → ℕ) a ≤ S1792x1024.size a)
    (r : Fin 1792) (l : Fin 1024) (r' : Fin n) (e : r.val = o + r'.val) :
    View.readAt (Elt Ideal) M.view (Rect.unit (s := S1792x1024) ![o, 0] ![n, 1024] inb).toLoadRect (hM.unread x) (ix2 r' l) = x (ix2 r l) :=
  (hM.readAt_unread x _ _).trans (congrArg x (box o n inb r l r' e))

/-- What the accumulator holds after the first grid point. -/
theorem first (c : Dev nD) (t : Fin cfg0.N) (h0 : t.val % 2 = 0) (r : Fin 1792) (l : Fin 1024) :
    (outsAt0 m c t.val t.isLt).2 (ix2 r l) = part m c t r l := by
  rw [outsAt0_A m c t h0 (by omega)]
  frame_out
  by_cases hr : r.val < 512
  · refine (miss _ _ _ _ _ r l (by omega)).trans ((miss _ _ _ _ _ r l (by omega)).trans ((hit _ _ _ _ _ r l ⟨r.val, hr⟩ (Nat.zero_add _).symm).trans ((pay4 _ _ _ _ _).trans ?_)))
    refine (congrArg₂ (· + ·) ((cov _ _ _ _ _ r l ⟨r.val, hr⟩ (Nat.zero_add _).symm).trans (clear r l)) (part0 m c t r l ⟨r.val, hr⟩ rfl).symm).trans (zero_add _)
  · by_cases hr' : r.val < 768
    · have e : r.val = 512 + (⟨r.val - 512, by omega⟩ : Fin 256).val := by dsimp only; omega
      refine (miss _ _ _ _ _ r l (by omega)).trans ((hit _ _ _ _ _ r l _ e).trans ((pay5 _ _ _ _ _).trans ?_))
      refine (congrArg₂ (· + ·) ((cov _ _ _ _ _ r l _ e).trans ((miss _ _ _ _ _ r l (by omega)).trans (clear r l))) (part1 m c t r l _ e).symm).trans (zero_add _)
    · have e : r.val = 768 + (⟨r.val - 768, by omega⟩ : Fin 1024).val := by dsimp only; omega
      refine (hit _ _ _ _ _ r l _ e).trans ((pay1 _ _ _ _ _).trans ?_)
      refine (congrArg₂ (· + ·) ((cov _ _ _ _ _ r l _ e).trans ((miss _ _ _ _ _ r l (by omega)).trans ((miss _ _ _ _ _ r l (by omega)).trans (clear r l)))) (part2 m c t r l _ e).symm).trans (zero_add _)

/-- The same, with the point's number given by an equation. -/
theorem first' (c : Dev nD) (n : ℕ) (hn : n < cfg0.N) (h : n = 0) (r : Fin 1792) (l : Fin 1024) : (outsAt0 m c n hn).2 (ix2 r l) = part m c t0_0 r l := by
  subst h
  exact first m c t0_0 rfl r l

/-- What the last grid point stores. -/
theorem last (c : Dev nD) (t : Fin cfg0.N) (h0 : t.val % 2 = 1) (r : Fin 1792) (l : Fin 1024) :
    (outsAt0 m c t.val t.isLt).1 (ix2 r l)
      = (outsAt0 m c (t.val - 1) (Nat.lt_of_le_of_lt (Nat.sub_le _ _) t.isLt)).2 (ix2 r l) + part m c t r l := by
  rw [outsAt0_B m c t (by omega) h0]
  frame_out
  rw [pay2]
  refine (cov _ _ _ _ _ r l r (Nat.zero_add _).symm).trans ?_
  by_cases hr : r.val < 512
  · refine (miss _ _ _ _ _ r l (by omega)).trans ((miss _ _ _ _ _ r l (by omega)).trans ((hit _ _ _ _ _ r l ⟨r.val, hr⟩ (Nat.zero_add _).symm).trans ((pay4 _ _ _ _ _).trans ?_)))
    exact congrArg₂ (· + ·) (held (Memref.isWhole_whole _) _ _ _ _ r l ⟨r.val, hr⟩ (Nat.zero_add _).symm) (part0 m c t r l ⟨r.val, hr⟩ rfl).symm
  · by_cases hr' : r.val < 768
    · have e : r.val = 512 + (⟨r.val - 512, by omega⟩ : Fin 256).val := by dsimp only; omega
      refine (miss _ _ _ _ _ r l (by omega)).trans ((hit _ _ _ _ _ r l _ e).trans ((pay5 _ _ _ _ _).trans ?_))
      exact congrArg₂ (· + ·) (held (Memref.isWhole_whole _) _ _ _ _ r l _ e) (part1 m c t r l _ e).symm
    · have e : r.val = 768 + (⟨r.val - 768, by omega⟩ : Fin 1024).val := by dsimp only; omega
      refine (hit _ _ _ _ _ r l _ e).trans ((pay1 _ _ _ _ _).trans ?_)
      exact congrArg₂ (· + ·) (held (Memref.isWhole_whole _) _ _ _ _ r l _ e) (part2 m c t r l _ e).symm

/-- Both grid points' parts are the sum over all the rows. -/
theorem both (c : Dev nD) (r : Fin 1792) (l : Fin 1024) : part m c t0_0 r l + part m c t0_1 r l
    = ∑ k, val_main_v0 (F := Ideal) (m ((c : Thread nD τ).loc main_arg0)) (m ((c : Thread nD τ).loc main_arg1)) (m ((c : Thread nD τ).loc main_arg2)) (ix2 k r)
      * m ((c : Thread nD τ).loc main_arg3) (ix2 k l) := by
  refine (Fin.sum_univ_two (fun t : Fin 2 => part m c ⟨t.val, lt_of_lt_of_eq t.isLt N_0.symm⟩ r l)).symm.trans ?_
  simp only [part]
  exact Fin.sum_mul_add_congr (fun p a _ => rfl) rfl

/-- The gradient after the run. -/
theorem dw (c : Dev nD) : (dats m 0 c).arrAt 4 cfg0.N
    = val_main_v3 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_after_last 4 t0_1 (by decide +kernel) _ fun j => ?_
  blk_simp
  idx_vars j
  rw [after0_4, last m c t0_1 rfl, first' m c (t0_1.val - 1) _ rfl]
  refine Eq.trans ?_ (Cert.WtokRefIdeal.Pure.res _ _ _ _ _ _).symm
  exact both m c _ _

end Cert.WtokIdeal.Final

namespace Cert.WtokClaim

/-- The reference runs and leaves its arguments and its counters as they were. -/
theorem frame_ref : Cert.quiescent_WtokRefIdeal := by
  intro m g _
  exact (θ_run Cert.WtokRefIdeal.defs _ _).mono
    (fun r h => ⟨fun c => (h c).2, sem_eq_zero_of_no_sems (by decide) r.2⟩)
    (Cert.WtokRefIdeal.Value.run (F := Ideal) m g)

/-- Kernel and reference end with equal gradients of the weights. -/
theorem algebraic : Cert.algebraic_WtokIdeal_WtokRefIdeal := by
  pair_intro
  · run_from Cert.WtokIdeal.Gen.run_main m g
  · run_from Cert.WtokRefIdeal.Value.run m' g'
    rw [Cert.WtokRefIdeal.Read.val_main_v3_eq]
    exact (Cert.WtokIdeal.Final.dw m c).symm

end Cert.WtokClaim

end
-- ==== Proof.lean ====
/-
  The certificate: every claim, from the modules that prove it.
-/
module

public import proofs.«01_k».proof.Defs
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossIdeal.Value
public import proofs.«01_k».proof.Proof.Gen.LossRefIdeal.Run
public import proofs.«01_k».proof.Proof.Gen.LossRefIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Attnf
public import proofs.«01_k».proof.Proof.Gen.Attnf.Skeleton
public import proofs.«01_k».proof.Proof.Gen.Attnf.Launch
public import proofs.«01_k».proof.Proof.Gen.Attnf.Points
public import proofs.«01_k».proof.Proof.Gen.Attnf.Frame
public import proofs.«01_k».proof.Proof.Gen.AttnfIdeal
public import proofs.«01_k».proof.Proof.Gen.AttnfIdeal.Skeleton
public import proofs.«01_k».proof.Proof.Gen.AttnfIdeal.Launch
public import proofs.«01_k».proof.Proof.Gen.AttnfIdeal.Points
public import proofs.«01_k».proof.Proof.Gen.AttnfIdeal.Frame
public import proofs.«01_k».proof.Proof.Gen.AttnfIdeal.Value
public import proofs.«01_k».proof.Proof.Gen.AttnfRefIdeal
public import proofs.«01_k».proof.Proof.Gen.AttnfRefIdeal.Run
public import proofs.«01_k».proof.Proof.Gen.AttnfRefIdeal.Read
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.LossClaim
public import proofs.«01_k».proof.Proof.MixClaim
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.Conv.Loops
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Loops
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Mixo
public import proofs.«01_k».proof.Proof.Gen.Mixo.Skeleton
public import proofs.«01_k».proof.Proof.Gen.Mixo.Launch
public import proofs.«01_k».proof.Proof.Gen.Mixo.Points
public import proofs.«01_k».proof.Proof.Gen.Mixo.Frame
public import proofs.«01_k».proof.Proof.Gen.MixoIdeal
public import proofs.«01_k».proof.Proof.Gen.MixoIdeal.Skeleton
public import proofs.«01_k».proof.Proof.Gen.MixoIdeal.Launch
public import proofs.«01_k».proof.Proof.Gen.MixoIdeal.Points
public import proofs.«01_k».proof.Proof.Gen.MixoIdeal.Frame
public import proofs.«01_k».proof.Proof.Gen.MixoIdeal.Value
public import proofs.«01_k».proof.Proof.Gen.MixoRefIdeal
public import proofs.«01_k».proof.Proof.Gen.MixoRefIdeal.Run
public import proofs.«01_k».proof.Proof.Gen.MixoRefIdeal.Read
public import proofs.«01_k».proof.Proof.Gen.Mixb
public import proofs.«01_k».proof.Proof.Gen.Mixb.Skeleton
public import proofs.«01_k».proof.Proof.Gen.Mixb.Launch
public import proofs.«01_k».proof.Proof.Gen.Mixb.Points
public import proofs.«01_k».proof.Proof.Gen.Mixb.Frame
public import proofs.«01_k».proof.Proof.Gen.MixbIdeal
public import proofs.«01_k».proof.Proof.Gen.MixbIdeal.Skeleton
public import proofs.«01_k».proof.Proof.Gen.MixbIdeal.Launch
public import proofs.«01_k».proof.Proof.Gen.MixbIdeal.Points
public import proofs.«01_k».proof.Proof.Gen.MixbIdeal.Frame
public import proofs.«01_k».proof.Proof.Gen.MixbIdeal.Value
public import proofs.«01_k».proof.Proof.Gen.MixbRefIdeal
public import proofs.«01_k».proof.Proof.Gen.MixbRefIdeal.Run
public import proofs.«01_k».proof.Proof.Gen.MixbRefIdeal.Read
public import proofs.«01_k».proof.Proof.Gen.Wcat
public import proofs.«01_k».proof.Proof.Gen.Wcat.Skeleton
public import proofs.«01_k».proof.Proof.Gen.Wcat.Launch
public import proofs.«01_k».proof.Proof.Gen.Wcat.Points
public import proofs.«01_k».proof.Proof.Gen.Wcat.Frame
public import proofs.«01_k».proof.Proof.Gen.WcatIdeal
public import proofs.«01_k».proof.Proof.Gen.WcatIdeal.Skeleton
public import proofs.«01_k».proof.Proof.Gen.WcatIdeal.Launch
public import proofs.«01_k».proof.Proof.Gen.WcatIdeal.Points
public import proofs.«01_k».proof.Proof.Gen.WcatIdeal.Frame
public import proofs.«01_k».proof.Proof.Gen.WcatIdeal.Value
public import proofs.«01_k».proof.Proof.Gen.WcatRefIdeal
public import proofs.«01_k».proof.Proof.Gen.WcatRefIdeal.Run
public import proofs.«01_k».proof.Proof.Gen.WcatRefIdeal.Read
public import proofs.«01_k».proof.Proof.Gen.Wout
public import proofs.«01_k».proof.Proof.Gen.Wout.Skeleton
public import proofs.«01_k».proof.Proof.Gen.Wout.Launch
public import proofs.«01_k».proof.Proof.Gen.Wout.Points
public import proofs.«01_k».proof.Proof.Gen.Wout.Frame
public import proofs.«01_k».proof.Proof.Gen.WoutIdeal
public import proofs.«01_k».proof.Proof.Gen.WoutIdeal.Skeleton
public import proofs.«01_k».proof.Proof.Gen.WoutIdeal.Launch
public import proofs.«01_k».proof.Proof.Gen.WoutIdeal.Points
public import proofs.«01_k».proof.Proof.Gen.WoutIdeal.Frame
public import proofs.«01_k».proof.Proof.Gen.WoutIdeal.Value
public import proofs.«01_k».proof.Proof.Gen.WoutRefIdeal
public import proofs.«01_k».proof.Proof.Gen.WoutRefIdeal.Run
public import proofs.«01_k».proof.Proof.Gen.WoutRefIdeal.Read
public import proofs.«01_k».proof.Proof.Gen.Win
public import proofs.«01_k».proof.Proof.Gen.Win.Skeleton
public import proofs.«01_k».proof.Proof.Gen.Win.Launch
public import proofs.«01_k».proof.Proof.Gen.Win.Points
public import proofs.«01_k».proof.Proof.Gen.Win.Frame
public import proofs.«01_k».proof.Proof.Gen.WinIdeal
public import proofs.«01_k».proof.Proof.Gen.WinIdeal.Skeleton
public import proofs.«01_k».proof.Proof.Gen.WinIdeal.Launch
public import proofs.«01_k».proof.Proof.Gen.WinIdeal.Points
public import proofs.«01_k».proof.Proof.Gen.WinIdeal.Frame
public import proofs.«01_k».proof.Proof.Gen.WinIdeal.Value
public import proofs.«01_k».proof.Proof.Gen.WinRefIdeal
public import proofs.«01_k».proof.Proof.Gen.WinRefIdeal.Run
public import proofs.«01_k».proof.Proof.Gen.WinRefIdeal.Read
public import proofs.«01_k».proof.Proof.Gen.Wtok
public import proofs.«01_k».proof.Proof.Gen.Wtok.Skeleton
public import proofs.«01_k».proof.Proof.Gen.Wtok.Launch
public import proofs.«01_k».proof.Proof.Gen.Wtok.Points
public import proofs.«01_k».proof.Proof.Gen.Wtok.Frame
public import proofs.«01_k».proof.Proof.Gen.WtokIdeal
public import proofs.«01_k».proof.Proof.Gen.WtokIdeal.Skeleton
public import proofs.«01_k».proof.Proof.Gen.WtokIdeal.Launch
public import proofs.«01_k».proof.Proof.Gen.WtokIdeal.Points
public import proofs.«01_k».proof.Proof.Gen.WtokIdeal.Frame
public import proofs.«01_k».proof.Proof.Gen.WtokIdeal.Value
public import proofs.«01_k».proof.Proof.Gen.WtokRefIdeal
public import proofs.«01_k».proof.Proof.Gen.WtokRefIdeal.Run
public import proofs.«01_k».proof.Proof.Gen.WtokRefIdeal.Read
public import proofs.«01_k».proof.Proof.AttnClaim
public import proofs.«01_k».proof.Proof.AttnfClaim
public import proofs.«01_k».proof.Proof.FfnIdealFrame
public import proofs.«01_k».proof.Proof.FfnFrame
public import proofs.«01_k».proof.Proof.FfnClaim
public import proofs.«01_k».proof.Proof.ConvFrame
public import proofs.«01_k».proof.Proof.ConvIdealFrame
public import proofs.«01_k».proof.Proof.ConvClaim
public import proofs.«01_k».proof.Proof.ProjClaim
public import proofs.«01_k».proof.Proof.MixoClaim
public import proofs.«01_k».proof.Proof.MixbClaim
public import proofs.«01_k».proof.Proof.WcatClaim
public import proofs.«01_k».proof.Proof.WoutClaim
public import proofs.«01_k».proof.Proof.WinClaim
public import proofs.«01_k».proof.Proof.WtokClaim
public import Idealize.ShloMosaic.Adequacy
public import Idealize.ShloMosaic.Init

@[expose] public section

noncomputable section

namespace Cert.Proof

open Idealize.ShloMosaic Idealize.SL.Sem Cert.Loss

theorem claim : Cert.Claim := ⟨Cert.Loss.Gen.facts, Cert.LossIdeal.Gen.facts, Cert.LossRefIdeal.Gen.facts,
  Cert.Mix.Gen.facts, Cert.MixIdeal.Gen.facts, Cert.MixRefIdeal.Gen.facts,
  Cert.Attn.Gen.facts, Cert.AttnIdeal.Gen.facts, Cert.AttnRefIdeal.Gen.facts,
  Cert.Attnf.Gen.facts, Cert.AttnfIdeal.Gen.facts, Cert.AttnfRefIdeal.Gen.facts,
  Cert.Ffn.Gen.facts, Cert.FfnIdeal.Gen.facts, Cert.FfnRefIdeal.Gen.facts,
  Cert.Conv.Gen.facts, Cert.ConvIdeal.Gen.facts, Cert.ConvRefIdeal.Gen.facts,
  Cert.Proj.Gen.facts, Cert.ProjIdeal.Gen.facts, Cert.ProjRefIdeal.Gen.facts,
  Cert.Mixo.Gen.facts, Cert.MixoIdeal.Gen.facts, Cert.MixoRefIdeal.Gen.facts,
  Cert.Mixb.Gen.facts, Cert.MixbIdeal.Gen.facts, Cert.MixbRefIdeal.Gen.facts,
  Cert.Wcat.Gen.facts, Cert.WcatIdeal.Gen.facts, Cert.WcatRefIdeal.Gen.facts,
  Cert.Wout.Gen.facts, Cert.WoutIdeal.Gen.facts, Cert.WoutRefIdeal.Gen.facts,
  Cert.Win.Gen.facts, Cert.WinIdeal.Gen.facts, Cert.WinRefIdeal.Gen.facts,
  Cert.Wtok.Gen.facts, Cert.WtokIdeal.Gen.facts, Cert.WtokRefIdeal.Gen.facts,
  Cert.AttnClaim.facts, Cert.AttnfClaim.facts, Cert.FfnClaim.facts,
  fun m ρ _ => Cert.Loss.Gen.frame m ρ, fun m ρ _ => Cert.LossIdeal.Gen.frame m ρ, Cert.LossClaim.frame_ref,
  fun m ρ _ => Cert.Mix.Gen.frame m ρ, fun m ρ _ => Cert.MixIdeal.Gen.frame m ρ, Cert.MixClaim.frame_ref,
  fun m ρ _ => Cert.Attn.Body.frame m ρ, fun m ρ _ => Cert.AttnIdeal.Body.frame m ρ, fun m ρ _ => Cert.AttnIdeal.Body.frame m ρ,
  Cert.AttnClaim.frame_ref, fun m ρ _ => Cert.AttnClaim.frame_ref m ρ trivial,
  fun m ρ _ => Cert.Attnf.Gen.frame m ρ, fun m ρ _ => Cert.AttnfIdeal.Gen.frame m ρ, fun m ρ _ => Cert.AttnfIdeal.Gen.frame m ρ,
  Cert.AttnfClaim.frame_ref, fun m ρ _ => Cert.AttnfClaim.frame_ref m ρ trivial,
  fun m ρ _ => Cert.Ffn.Body.frame m ρ, fun m ρ _ => Cert.FfnIdeal.Body.frame m ρ, fun m ρ _ => Cert.FfnIdeal.Body.frame m ρ,
  Cert.FfnClaim.frame_ref, fun m ρ _ => Cert.FfnClaim.frame_ref m ρ trivial,
  fun m ρ _ => Cert.Conv.Body.frame m ρ, fun m ρ _ => Cert.ConvIdeal.Body.frame m ρ, Cert.ConvClaim.frame_ref,
  fun m ρ _ => Cert.Proj.Gen.frame m ρ, fun m ρ _ => Cert.ProjIdeal.Gen.frame m ρ, Cert.ProjClaim.frame_ref,
  fun m ρ _ => Cert.Mixo.Gen.frame m ρ, fun m ρ _ => Cert.MixoIdeal.Gen.frame m ρ, Cert.MixoClaim.frame_ref,
  fun m ρ _ => Cert.Mixb.Gen.frame m ρ, fun m ρ _ => Cert.MixbIdeal.Gen.frame m ρ, Cert.MixbClaim.frame_ref,
  fun m ρ _ => Cert.Wcat.Gen.frame m ρ, fun m ρ _ => Cert.WcatIdeal.Gen.frame m ρ, Cert.WcatClaim.frame_ref,
  fun m ρ _ => Cert.Wout.Gen.frame m ρ, fun m ρ _ => Cert.WoutIdeal.Gen.frame m ρ, Cert.WoutClaim.frame_ref,
  fun m ρ _ => Cert.Win.Gen.frame m ρ, fun m ρ _ => Cert.WinIdeal.Gen.frame m ρ, Cert.WinClaim.frame_ref,
  fun m ρ _ => Cert.Wtok.Gen.frame m ρ, fun m ρ _ => Cert.WtokIdeal.Gen.frame m ρ, Cert.WtokClaim.frame_ref,
  trivial, Cert.LossClaim.algebraic, trivial, Cert.MixClaim.algebraic, Cert.AttnClaim.preserves, Cert.AttnClaim.algebraic, Cert.AttnfClaim.preserves, Cert.AttnfClaim.algebraic, trivial, Cert.FfnClaim.algebraic, trivial,
  trivial, Cert.ProjClaim.algebraic, trivial, Cert.MixoClaim.algebraic, trivial, Cert.MixbClaim.algebraic,
  trivial, Cert.WcatClaim.algebraic, trivial, Cert.WoutClaim.algebraic, trivial, Cert.WinClaim.algebraic, trivial, Cert.WtokClaim.algebraic⟩

end Cert.Proof

end
